-- ==== Defs.lean ====
def Pre_MixA (m : (ℓ : Loc Cert.MixA.nD Cert.MixA.τ Cert.MixA.sig) → Buf (Elt Bits) ℓ) : Prop :=
  True

def Pre_MixAIdeal (m : (ℓ : Loc Cert.MixAIdeal.nD Cert.MixAIdeal.τ Cert.MixAIdeal.sig) → Buf (Elt Ideal) ℓ) : Prop :=
  True

def Pre_MixARefIdeal (m : (ℓ : Loc Cert.MixARefIdeal.nD Cert.MixARefIdeal.τ Cert.MixARefIdeal.sig) → Buf (Elt Ideal) ℓ) : Prop :=
  True

def Pre_MixB (m : (ℓ : Loc Cert.MixB.nD Cert.MixB.τ Cert.MixB.sig) → Buf (Elt Bits) ℓ) : Prop :=
  True

def Pre_MixBIdeal (m : (ℓ : Loc Cert.MixBIdeal.nD Cert.MixBIdeal.τ Cert.MixBIdeal.sig) → Buf (Elt Ideal) ℓ) : Prop :=
  True

def Pre_MixBIdeal_finite_b [hPre_finite_b : Cert.Pre_finite_b.Facts] (m : (ℓ : Loc Cert.MixBIdeal.nD Cert.MixBIdeal.τ Cert.MixBIdeal.sig) → Buf (Elt Ideal) ℓ) : Prop :=
  ∀ c : Dev Cert.MixBIdeal.nD,
    (Cert.Pre_finite_b.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4))).1 = (fun _ => 1#1)
    ∧ (Cert.Pre_finite_b.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4))).2.1 = (fun _ => 1#1)
    ∧ (Cert.Pre_finite_b.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4))).2.2.1 = (fun _ => 1#1)
    ∧ (Cert.Pre_finite_b.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4))).2.2.2 = (fun _ => 1#1)

def Pre_MixBRefIdeal (m : (ℓ : Loc Cert.MixBRefIdeal.nD Cert.MixBRefIdeal.τ Cert.MixBRefIdeal.sig) → Buf (Elt Ideal) ℓ) : Prop :=
  True

def Pre_MixBRefIdeal_finite_b [hPre_finite_b : Cert.Pre_finite_b.Facts] (m : (ℓ : Loc Cert.MixBRefIdeal.nD Cert.MixBRefIdeal.τ Cert.MixBRefIdeal.sig) → Buf (Elt Ideal) ℓ) : Prop :=
  ∀ c : Dev Cert.MixBRefIdeal.nD,
    (Cert.Pre_finite_b.fn (F := Ideal) (m ((c.tc : Thread Cert.MixBRefIdeal.nD Cert.MixBRefIdeal.τ).loc Cert.MixBRefIdeal.main_arg0)) (m ((c.tc : Thread Cert.MixBRefIdeal.nD Cert.MixBRefIdeal.τ).loc Cert.MixBRefIdeal.main_arg1)) (m ((c.tc : Thread Cert.MixBRefIdeal.nD Cert.MixBRefIdeal.τ).loc Cert.MixBRefIdeal.main_arg2)) (m ((c.tc : Thread Cert.MixBRefIdeal.nD Cert.MixBRefIdeal.τ).loc Cert.MixBRefIdeal.main_arg3)) (m ((c.tc : Thread Cert.MixBRefIdeal.nD Cert.MixBRefIdeal.τ).loc Cert.MixBRefIdeal.main_arg4))).1 = (fun _ => 1#1)
    ∧ (Cert.Pre_finite_b.fn (F := Ideal) (m ((c.tc : Thread Cert.MixBRefIdeal.nD Cert.MixBRefIdeal.τ).loc Cert.MixBRefIdeal.main_arg0)) (m ((c.tc : Thread Cert.MixBRefIdeal.nD Cert.MixBRefIdeal.τ).loc Cert.MixBRefIdeal.main_arg1)) (m ((c.tc : Thread Cert.MixBRefIdeal.nD Cert.MixBRefIdeal.τ).loc Cert.MixBRefIdeal.main_arg2)) (m ((c.tc : Thread Cert.MixBRefIdeal.nD Cert.MixBRefIdeal.τ).loc Cert.MixBRefIdeal.main_arg3)) (m ((c.tc : Thread Cert.MixBRefIdeal.nD Cert.MixBRefIdeal.τ).loc Cert.MixBRefIdeal.main_arg4))).2.1 = (fun _ => 1#1)
    ∧ (Cert.Pre_finite_b.fn (F := Ideal) (m ((c.tc : Thread Cert.MixBRefIdeal.nD Cert.MixBRefIdeal.τ).loc Cert.MixBRefIdeal.main_arg0)) (m ((c.tc : Thread Cert.MixBRefIdeal.nD Cert.MixBRefIdeal.τ).loc Cert.MixBRefIdeal.main_arg1)) (m ((c.tc : Thread Cert.MixBRefIdeal.nD Cert.MixBRefIdeal.τ).loc Cert.MixBRefIdeal.main_arg2)) (m ((c.tc : Thread Cert.MixBRefIdeal.nD Cert.MixBRefIdeal.τ).loc Cert.MixBRefIdeal.main_arg3)) (m ((c.tc : Thread Cert.MixBRefIdeal.nD Cert.MixBRefIdeal.τ).loc Cert.MixBRefIdeal.main_arg4))).2.2.1 = (fun _ => 1#1)
    ∧ (Cert.Pre_finite_b.fn (F := Ideal) (m ((c.tc : Thread Cert.MixBRefIdeal.nD Cert.MixBRefIdeal.τ).loc Cert.MixBRefIdeal.main_arg0)) (m ((c.tc : Thread Cert.MixBRefIdeal.nD Cert.MixBRefIdeal.τ).loc Cert.MixBRefIdeal.main_arg1)) (m ((c.tc : Thread Cert.MixBRefIdeal.nD Cert.MixBRefIdeal.τ).loc Cert.MixBRefIdeal.main_arg2)) (m ((c.tc : Thread Cert.MixBRefIdeal.nD Cert.MixBRefIdeal.τ).loc Cert.MixBRefIdeal.main_arg3)) (m ((c.tc : Thread Cert.MixBRefIdeal.nD Cert.MixBRefIdeal.τ).loc Cert.MixBRefIdeal.main_arg4))).2.2.2 = (fun _ => 1#1)

def Pre_MixC (m : (ℓ : Loc Cert.MixC.nD Cert.MixC.τ Cert.MixC.sig) → Buf (Elt Bits) ℓ) : Prop :=
  True

def Pre_MixCIdeal (m : (ℓ : Loc Cert.MixCIdeal.nD Cert.MixCIdeal.τ Cert.MixCIdeal.sig) → Buf (Elt Ideal) ℓ) : Prop :=
  True

def Pre_MixCIdeal_finite_c [hPre_finite_c : Cert.Pre_finite_c.Facts] (m : (ℓ : Loc Cert.MixCIdeal.nD Cert.MixCIdeal.τ Cert.MixCIdeal.sig) → Buf (Elt Ideal) ℓ) : Prop :=
  ∀ c : Dev Cert.MixCIdeal.nD,
    (Cert.Pre_finite_c.fn (F := Ideal) (m ((c.tc : Thread Cert.MixCIdeal.nD Cert.MixCIdeal.τ).loc Cert.MixCIdeal.main_arg0)) (m ((c.tc : Thread Cert.MixCIdeal.nD Cert.MixCIdeal.τ).loc Cert.MixCIdeal.main_arg1)) (m ((c.tc : Thread Cert.MixCIdeal.nD Cert.MixCIdeal.τ).loc Cert.MixCIdeal.main_arg2)) (m ((c.tc : Thread Cert.MixCIdeal.nD Cert.MixCIdeal.τ).loc Cert.MixCIdeal.main_arg3)) (m ((c.tc : Thread Cert.MixCIdeal.nD Cert.MixCIdeal.τ).loc Cert.MixCIdeal.main_arg4))).1 = (fun _ => 1#1)
    ∧ (Cert.Pre_finite_c.fn (F := Ideal) (m ((c.tc : Thread Cert.MixCIdeal.nD Cert.MixCIdeal.τ).loc Cert.MixCIdeal.main_arg0)) (m ((c.tc : Thread Cert.MixCIdeal.nD Cert.MixCIdeal.τ).loc Cert.MixCIdeal.main_arg1)) (m ((c.tc : Thread Cert.MixCIdeal.nD Cert.MixCIdeal.τ).loc Cert.MixCIdeal.main_arg2)) (m ((c.tc : Thread Cert.MixCIdeal.nD Cert.MixCIdeal.τ).loc Cert.MixCIdeal.main_arg3)) (m ((c.tc : Thread Cert.MixCIdeal.nD Cert.MixCIdeal.τ).loc Cert.MixCIdeal.main_arg4))).2.1 = (fun _ => 1#1)
    ∧ (Cert.Pre_finite_c.fn (F := Ideal) (m ((c.tc : Thread Cert.MixCIdeal.nD Cert.MixCIdeal.τ).loc Cert.MixCIdeal.main_arg0)) (m ((c.tc : Thread Cert.MixCIdeal.nD Cert.MixCIdeal.τ).loc Cert.MixCIdeal.main_arg1)) (m ((c.tc : Thread Cert.MixCIdeal.nD Cert.MixCIdeal.τ).loc Cert.MixCIdeal.main_arg2)) (m ((c.tc : Thread Cert.MixCIdeal.nD Cert.MixCIdeal.τ).loc Cert.MixCIdeal.main_arg3)) (m ((c.tc : Thread Cert.MixCIdeal.nD Cert.MixCIdeal.τ).loc Cert.MixCIdeal.main_arg4))).2.2.1 = (fun _ => 1#1)
    ∧ (Cert.Pre_finite_c.fn (F := Ideal) (m ((c.tc : Thread Cert.MixCIdeal.nD Cert.MixCIdeal.τ).loc Cert.MixCIdeal.main_arg0)) (m ((c.tc : Thread Cert.MixCIdeal.nD Cert.MixCIdeal.τ).loc Cert.MixCIdeal.main_arg1)) (m ((c.tc : Thread Cert.MixCIdeal.nD Cert.MixCIdeal.τ).loc Cert.MixCIdeal.main_arg2)) (m ((c.tc : Thread Cert.MixCIdeal.nD Cert.MixCIdeal.τ).loc Cert.MixCIdeal.main_arg3)) (m ((c.tc : Thread Cert.MixCIdeal.nD Cert.MixCIdeal.τ).loc Cert.MixCIdeal.main_arg4))).2.2.2 = (fun _ => 1#1)

def Pre_MixCRefIdeal (m : (ℓ : Loc Cert.MixCRefIdeal.nD Cert.MixCRefIdeal.τ Cert.MixCRefIdeal.sig) → Buf (Elt Ideal) ℓ) : Prop :=
  True

def Pre_MixCRefIdeal_finite_c [hPre_finite_c : Cert.Pre_finite_c.Facts] (m : (ℓ : Loc Cert.MixCRefIdeal.nD Cert.MixCRefIdeal.τ Cert.MixCRefIdeal.sig) → Buf (Elt Ideal) ℓ) : Prop :=
  ∀ c : Dev Cert.MixCRefIdeal.nD,
    (Cert.Pre_finite_c.fn (F := Ideal) (m ((c.tc : Thread Cert.MixCRefIdeal.nD Cert.MixCRefIdeal.τ).loc Cert.MixCRefIdeal.main_arg0)) (m ((c.tc : Thread Cert.MixCRefIdeal.nD Cert.MixCRefIdeal.τ).loc Cert.MixCRefIdeal.main_arg1)) (m ((c.tc : Thread Cert.MixCRefIdeal.nD Cert.MixCRefIdeal.τ).loc Cert.MixCRefIdeal.main_arg2)) (m ((c.tc : Thread Cert.MixCRefIdeal.nD Cert.MixCRefIdeal.τ).loc Cert.MixCRefIdeal.main_arg3)) (m ((c.tc : Thread Cert.MixCRefIdeal.nD Cert.MixCRefIdeal.τ).loc Cert.MixCRefIdeal.main_arg4))).1 = (fun _ => 1#1)
    ∧ (Cert.Pre_finite_c.fn (F := Ideal) (m ((c.tc : Thread Cert.MixCRefIdeal.nD Cert.MixCRefIdeal.τ).loc Cert.MixCRefIdeal.main_arg0)) (m ((c.tc : Thread Cert.MixCRefIdeal.nD Cert.MixCRefIdeal.τ).loc Cert.MixCRefIdeal.main_arg1)) (m ((c.tc : Thread Cert.MixCRefIdeal.nD Cert.MixCRefIdeal.τ).loc Cert.MixCRefIdeal.main_arg2)) (m ((c.tc : Thread Cert.MixCRefIdeal.nD Cert.MixCRefIdeal.τ).loc Cert.MixCRefIdeal.main_arg3)) (m ((c.tc : Thread Cert.MixCRefIdeal.nD Cert.MixCRefIdeal.τ).loc Cert.MixCRefIdeal.main_arg4))).2.1 = (fun _ => 1#1)
    ∧ (Cert.Pre_finite_c.fn (F := Ideal) (m ((c.tc : Thread Cert.MixCRefIdeal.nD Cert.MixCRefIdeal.τ).loc Cert.MixCRefIdeal.main_arg0)) (m ((c.tc : Thread Cert.MixCRefIdeal.nD Cert.MixCRefIdeal.τ).loc Cert.MixCRefIdeal.main_arg1)) (m ((c.tc : Thread Cert.MixCRefIdeal.nD Cert.MixCRefIdeal.τ).loc Cert.MixCRefIdeal.main_arg2)) (m ((c.tc : Thread Cert.MixCRefIdeal.nD Cert.MixCRefIdeal.τ).loc Cert.MixCRefIdeal.main_arg3)) (m ((c.tc : Thread Cert.MixCRefIdeal.nD Cert.MixCRefIdeal.τ).loc Cert.MixCRefIdeal.main_arg4))).2.2.1 = (fun _ => 1#1)
    ∧ (Cert.Pre_finite_c.fn (F := Ideal) (m ((c.tc : Thread Cert.MixCRefIdeal.nD Cert.MixCRefIdeal.τ).loc Cert.MixCRefIdeal.main_arg0)) (m ((c.tc : Thread Cert.MixCRefIdeal.nD Cert.MixCRefIdeal.τ).loc Cert.MixCRefIdeal.main_arg1)) (m ((c.tc : Thread Cert.MixCRefIdeal.nD Cert.MixCRefIdeal.τ).loc Cert.MixCRefIdeal.main_arg2)) (m ((c.tc : Thread Cert.MixCRefIdeal.nD Cert.MixCRefIdeal.τ).loc Cert.MixCRefIdeal.main_arg3)) (m ((c.tc : Thread Cert.MixCRefIdeal.nD Cert.MixCRefIdeal.τ).loc Cert.MixCRefIdeal.main_arg4))).2.2.2 = (fun _ => 1#1)

def Pre_MixD (m : (ℓ : Loc Cert.MixD.nD Cert.MixD.τ Cert.MixD.sig) → Buf (Elt Bits) ℓ) : Prop :=
  True

def Pre_MixDIdeal (m : (ℓ : Loc Cert.MixDIdeal.nD Cert.MixDIdeal.τ Cert.MixDIdeal.sig) → Buf (Elt Ideal) ℓ) : Prop :=
  True

def Pre_MixDIdeal_finite_d [hPre_finite_d : Cert.Pre_finite_d.Facts] (m : (ℓ : Loc Cert.MixDIdeal.nD Cert.MixDIdeal.τ Cert.MixDIdeal.sig) → Buf (Elt Ideal) ℓ) : Prop :=
  ∀ c : Dev Cert.MixDIdeal.nD,
    (Cert.Pre_finite_d.fn (F := Ideal) (m ((c.tc : Thread Cert.MixDIdeal.nD Cert.MixDIdeal.τ).loc Cert.MixDIdeal.main_arg0)) (m ((c.tc : Thread Cert.MixDIdeal.nD Cert.MixDIdeal.τ).loc Cert.MixDIdeal.main_arg1)) (m ((c.tc : Thread Cert.MixDIdeal.nD Cert.MixDIdeal.τ).loc Cert.MixDIdeal.main_arg2)) (m ((c.tc : Thread Cert.MixDIdeal.nD Cert.MixDIdeal.τ).loc Cert.MixDIdeal.main_arg3))).1 = (fun _ => 1#1)
    ∧ (Cert.Pre_finite_d.fn (F := Ideal) (m ((c.tc : Thread Cert.MixDIdeal.nD Cert.MixDIdeal.τ).loc Cert.MixDIdeal.main_arg0)) (m ((c.tc : Thread Cert.MixDIdeal.nD Cert.MixDIdeal.τ).loc Cert.MixDIdeal.main_arg1)) (m ((c.tc : Thread Cert.MixDIdeal.nD Cert.MixDIdeal.τ).loc Cert.MixDIdeal.main_arg2)) (m ((c.tc : Thread Cert.MixDIdeal.nD Cert.MixDIdeal.τ).loc Cert.MixDIdeal.main_arg3))).2.1 = (fun _ => 1#1)
    ∧ (Cert.Pre_finite_d.fn (F := Ideal) (m ((c.tc : Thread Cert.MixDIdeal.nD Cert.MixDIdeal.τ).loc Cert.MixDIdeal.main_arg0)) (m ((c.tc : Thread Cert.MixDIdeal.nD Cert.MixDIdeal.τ).loc Cert.MixDIdeal.main_arg1)) (m ((c.tc : Thread Cert.MixDIdeal.nD Cert.MixDIdeal.τ).loc Cert.MixDIdeal.main_arg2)) (m ((c.tc : Thread Cert.MixDIdeal.nD Cert.MixDIdeal.τ).loc Cert.MixDIdeal.main_arg3))).2.2.1 = (fun _ => 1#1)
    ∧ (Cert.Pre_finite_d.fn (F := Ideal) (m ((c.tc : Thread Cert.MixDIdeal.nD Cert.MixDIdeal.τ).loc Cert.MixDIdeal.main_arg0)) (m ((c.tc : Thread Cert.MixDIdeal.nD Cert.MixDIdeal.τ).loc Cert.MixDIdeal.main_arg1)) (m ((c.tc : Thread Cert.MixDIdeal.nD Cert.MixDIdeal.τ).loc Cert.MixDIdeal.main_arg2)) (m ((c.tc : Thread Cert.MixDIdeal.nD Cert.MixDIdeal.τ).loc Cert.MixDIdeal.main_arg3))).2.2.2 = (fun _ => 1#1)

def Pre_MixDRefIdeal (m : (ℓ : Loc Cert.MixDRefIdeal.nD Cert.MixDRefIdeal.τ Cert.MixDRefIdeal.sig) → Buf (Elt Ideal) ℓ) : Prop :=
  True

def Pre_MixDRefIdeal_finite_d [hPre_finite_d : Cert.Pre_finite_d.Facts] (m : (ℓ : Loc Cert.MixDRefIdeal.nD Cert.MixDRefIdeal.τ Cert.MixDRefIdeal.sig) → Buf (Elt Ideal) ℓ) : Prop :=
  ∀ c : Dev Cert.MixDRefIdeal.nD,
    (Cert.Pre_finite_d.fn (F := Ideal) (m ((c.tc : Thread Cert.MixDRefIdeal.nD Cert.MixDRefIdeal.τ).loc Cert.MixDRefIdeal.main_arg0)) (m ((c.tc : Thread Cert.MixDRefIdeal.nD Cert.MixDRefIdeal.τ).loc Cert.MixDRefIdeal.main_arg1)) (m ((c.tc : Thread Cert.MixDRefIdeal.nD Cert.MixDRefIdeal.τ).loc Cert.MixDRefIdeal.main_arg2)) (m ((c.tc : Thread Cert.MixDRefIdeal.nD Cert.MixDRefIdeal.τ).loc Cert.MixDRefIdeal.main_arg3))).1 = (fun _ => 1#1)
    ∧ (Cert.Pre_finite_d.fn (F := Ideal) (m ((c.tc : Thread Cert.MixDRefIdeal.nD Cert.MixDRefIdeal.τ).loc Cert.MixDRefIdeal.main_arg0)) (m ((c.tc : Thread Cert.MixDRefIdeal.nD Cert.MixDRefIdeal.τ).loc Cert.MixDRefIdeal.main_arg1)) (m ((c.tc : Thread Cert.MixDRefIdeal.nD Cert.MixDRefIdeal.τ).loc Cert.MixDRefIdeal.main_arg2)) (m ((c.tc : Thread Cert.MixDRefIdeal.nD Cert.MixDRefIdeal.τ).loc Cert.MixDRefIdeal.main_arg3))).2.1 = (fun _ => 1#1)
    ∧ (Cert.Pre_finite_d.fn (F := Ideal) (m ((c.tc : Thread Cert.MixDRefIdeal.nD Cert.MixDRefIdeal.τ).loc Cert.MixDRefIdeal.main_arg0)) (m ((c.tc : Thread Cert.MixDRefIdeal.nD Cert.MixDRefIdeal.τ).loc Cert.MixDRefIdeal.main_arg1)) (m ((c.tc : Thread Cert.MixDRefIdeal.nD Cert.MixDRefIdeal.τ).loc Cert.MixDRefIdeal.main_arg2)) (m ((c.tc : Thread Cert.MixDRefIdeal.nD Cert.MixDRefIdeal.τ).loc Cert.MixDRefIdeal.main_arg3))).2.2.1 = (fun _ => 1#1)
    ∧ (Cert.Pre_finite_d.fn (F := Ideal) (m ((c.tc : Thread Cert.MixDRefIdeal.nD Cert.MixDRefIdeal.τ).loc Cert.MixDRefIdeal.main_arg0)) (m ((c.tc : Thread Cert.MixDRefIdeal.nD Cert.MixDRefIdeal.τ).loc Cert.MixDRefIdeal.main_arg1)) (m ((c.tc : Thread Cert.MixDRefIdeal.nD Cert.MixDRefIdeal.τ).loc Cert.MixDRefIdeal.main_arg2)) (m ((c.tc : Thread Cert.MixDRefIdeal.nD Cert.MixDRefIdeal.τ).loc Cert.MixDRefIdeal.main_arg3))).2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_e [hPre_finite_e : Cert.Pre_finite_e.Facts] (m : (ℓ : Loc Cert.AttnIdeal.nD Cert.AttnIdeal.τ Cert.AttnIdeal.sig) → Buf (Elt Ideal) ℓ) : Prop :=
  ∀ c : Dev Cert.AttnIdeal.nD,
    (Cert.Pre_finite_e.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_e.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_finite_e.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_e [hPre_finite_e : Cert.Pre_finite_e.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_e.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_e.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_finite_e.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_FfnDz (m : (ℓ : Loc Cert.FfnDz.nD Cert.FfnDz.τ Cert.FfnDz.sig) → Buf (Elt Bits) ℓ) : Prop :=
  True

def Pre_FfnDzIdeal (m : (ℓ : Loc Cert.FfnDzIdeal.nD Cert.FfnDzIdeal.τ Cert.FfnDzIdeal.sig) → Buf (Elt Ideal) ℓ) : Prop :=
  True

def Pre_FfnDzIdeal_finite_f [hPre_finite_f : Cert.Pre_finite_f.Facts] (m : (ℓ : Loc Cert.FfnDzIdeal.nD Cert.FfnDzIdeal.τ Cert.FfnDzIdeal.sig) → Buf (Elt Ideal) ℓ) : Prop :=
  ∀ c : Dev Cert.FfnDzIdeal.nD,
    (Cert.Pre_finite_f.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3))).1 = (fun _ => 1#1)
    ∧ (Cert.Pre_finite_f.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3))).2.1 = (fun _ => 1#1)
    ∧ (Cert.Pre_finite_f.fn (F := Ideal) (m ((c.tc : Thread Cert.FfnDzIdeal.nD Cert.FfnDzIdeal.τ).loc Cert.FfnDzIdeal.main_arg0)) (m ((c.tc : Thread Cert.FfnDzIdeal.nD Cert.FfnDzIdeal.τ).loc Cert.FfnDzIdeal.main_arg1)) (m ((c.tc : Thread Cert.FfnDzIdeal.nD Cert.FfnDzIdeal.τ).loc Cert.FfnDzIdeal.main_arg2)) (m ((c.tc : Thread Cert.FfnDzIdeal.nD Cert.FfnDzIdeal.τ).loc Cert.FfnDzIdeal.main_arg3))).2.2 = (fun _ => 1#1)

def Pre_FfnDzRefIdeal (m : (ℓ : Loc Cert.FfnDzRefIdeal.nD Cert.FfnDzRefIdeal.τ Cert.FfnDzRefIdeal.sig) → Buf (Elt Ideal) ℓ) : Prop :=
  True

def Pre_FfnDzRefIdeal_finite_f [hPre_finite_f : Cert.Pre_finite_f.Facts] (m : (ℓ : Loc Cert.FfnDzRefIdeal.nD Cert.FfnDzRefIdeal.τ Cert.FfnDzRefIdeal.sig) → Buf (Elt Ideal) ℓ) : Prop :=
  ∀ c : Dev Cert.FfnDzRefIdeal.nD,
    (Cert.Pre_finite_f.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3))).1 = (fun _ => 1#1)
    ∧ (Cert.Pre_finite_f.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3))).2.1 = (fun _ => 1#1)
    ∧ (Cert.Pre_finite_f.fn (F := Ideal) (m ((c.tc : Thread Cert.FfnDzRefIdeal.nD Cert.FfnDzRefIdeal.τ).loc Cert.FfnDzRefIdeal.main_arg0)) (m ((c.tc : Thread Cert.FfnDzRefIdeal.nD Cert.FfnDzRefIdeal.τ).loc Cert.FfnDzRefIdeal.main_arg1)) (m ((c.tc : Thread Cert.FfnDzRefIdeal.nD Cert.FfnDzRefIdeal.τ).loc Cert.FfnDzRefIdeal.main_arg2)) (m ((c.tc : Thread Cert.FfnDzRefIdeal.nD Cert.FfnDzRefIdeal.τ).loc Cert.FfnDzRefIdeal.main_arg3))).2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_MixDh (m : (ℓ : Loc Cert.MixDh.nD Cert.MixDh.τ Cert.MixDh.sig) → Buf (Elt Bits) ℓ) : Prop :=
  True

def Pre_MixDhIdeal (m : (ℓ : Loc Cert.MixDhIdeal.nD Cert.MixDhIdeal.τ Cert.MixDhIdeal.sig) → Buf (Elt Ideal) ℓ) : Prop :=
  True

def Pre_MixDhRefIdeal (m : (ℓ : Loc Cert.MixDhRefIdeal.nD Cert.MixDhRefIdeal.τ Cert.MixDhRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_NormMm (m : (ℓ : Loc Cert.NormMm.nD Cert.NormMm.τ Cert.NormMm.sig) → Buf (Elt Bits) ℓ) : Prop :=
  True

def Pre_NormMmIdeal (m : (ℓ : Loc Cert.NormMmIdeal.nD Cert.NormMmIdeal.τ Cert.NormMmIdeal.sig) → Buf (Elt Ideal) ℓ) : Prop :=
  True

def Pre_NormMmRefIdeal (m : (ℓ : Loc Cert.NormMmRefIdeal.nD Cert.NormMmRefIdeal.τ Cert.NormMmRefIdeal.sig) → Buf (Elt Ideal) ℓ) : Prop :=
  True

def Pre_MixBFwd (m : (ℓ : Loc Cert.MixBFwd.nD Cert.MixBFwd.τ Cert.MixBFwd.sig) → Buf (Elt Bits) ℓ) : Prop :=
  True

def Pre_MixBFwdIdeal (m : (ℓ : Loc Cert.MixBFwdIdeal.nD Cert.MixBFwdIdeal.τ Cert.MixBFwdIdeal.sig) → Buf (Elt Ideal) ℓ) : Prop :=
  True

def Pre_MixBFwdRefIdeal (m : (ℓ : Loc Cert.MixBFwdRefIdeal.nD Cert.MixBFwdRefIdeal.τ Cert.MixBFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MixAFwd (m : (ℓ : Loc Cert.MixAFwd.nD Cert.MixAFwd.τ Cert.MixAFwd.sig) → Buf (Elt Bits) ℓ) : Prop :=
  True

def Pre_MixAFwdIdeal (m : (ℓ : Loc Cert.MixAFwdIdeal.nD Cert.MixAFwdIdeal.τ Cert.MixAFwdIdeal.sig) → Buf (Elt Ideal) ℓ) : Prop :=
  True

def Pre_MixAFwdRefIdeal (m : (ℓ : Loc Cert.MixAFwdRefIdeal.nD Cert.MixAFwdRefIdeal.τ Cert.MixAFwdRefIdeal.sig) → Buf (Elt Ideal) ℓ) : Prop :=
  True

def Pre_MixDFwd (m : (ℓ : Loc Cert.MixDFwd.nD Cert.MixDFwd.τ Cert.MixDFwd.sig) → Buf (Elt Bits) ℓ) : Prop :=
  True

def Pre_MixDFwdIdeal (m : (ℓ : Loc Cert.MixDFwdIdeal.nD Cert.MixDFwdIdeal.τ Cert.MixDFwdIdeal.sig) → Buf (Elt Ideal) ℓ) : Prop :=
  True

def Pre_MixDFwdIdeal_finite_t [hPre_finite_t : Cert.Pre_finite_t.Facts] (m : (ℓ : Loc Cert.MixDFwdIdeal.nD Cert.MixDFwdIdeal.τ Cert.MixDFwdIdeal.sig) → Buf (Elt Ideal) ℓ) : Prop :=
  ∀ c : Dev Cert.MixDFwdIdeal.nD,
    (Cert.Pre_finite_t.fn (F := Ideal) (m ((c.tc : Thread Cert.MixDFwdIdeal.nD Cert.MixDFwdIdeal.τ).loc Cert.MixDFwdIdeal.main_arg0)) (m ((c.tc : Thread Cert.MixDFwdIdeal.nD Cert.MixDFwdIdeal.τ).loc Cert.MixDFwdIdeal.main_arg1)) (m ((c.tc : Thread Cert.MixDFwdIdeal.nD Cert.MixDFwdIdeal.τ).loc Cert.MixDFwdIdeal.main_arg2))) = (fun _ => 1#1)

def Pre_MixDFwdRefIdeal (m : (ℓ : Loc Cert.MixDFwdRefIdeal.nD Cert.MixDFwdRefIdeal.τ Cert.MixDFwdRefIdeal.sig) → Buf (Elt Ideal) ℓ) : Prop :=
  True

def Pre_MixDFwdRefIdeal_finite_t [hPre_finite_t : Cert.Pre_finite_t.Facts] (m : (ℓ : Loc Cert.MixDFwdRefIdeal.nD Cert.MixDFwdRefIdeal.τ Cert.MixDFwdRefIdeal.sig) → Buf (Elt Ideal) ℓ) : Prop :=
  ∀ c : Dev Cert.MixDFwdRefIdeal.nD,
    (Cert.Pre_finite_t.fn (F := Ideal) (m ((c.tc : Thread Cert.MixDFwdRefIdeal.nD Cert.MixDFwdRefIdeal.τ).loc Cert.MixDFwdRefIdeal.main_arg0)) (m ((c.tc : Thread Cert.MixDFwdRefIdeal.nD Cert.MixDFwdRefIdeal.τ).loc Cert.MixDFwdRefIdeal.main_arg1)) (m ((c.tc : Thread Cert.MixDFwdRefIdeal.nD Cert.MixDFwdRefIdeal.τ).loc Cert.MixDFwdRefIdeal.main_arg2))) = (fun _ => 1#1)

def Pre_MixCFwd (m : (ℓ : Loc Cert.MixCFwd.nD Cert.MixCFwd.τ Cert.MixCFwd.sig) → Buf (Elt Bits) ℓ) : Prop :=
  True

def Pre_MixCFwdIdeal (m : (ℓ : Loc Cert.MixCFwdIdeal.nD Cert.MixCFwdIdeal.τ Cert.MixCFwdIdeal.sig) → Buf (Elt Ideal) ℓ) : Prop :=
  True

def Pre_MixCFwdRefIdeal (m : (ℓ : Loc Cert.MixCFwdRefIdeal.nD Cert.MixCFwdRefIdeal.τ Cert.MixCFwdRefIdeal.sig) → Buf (Elt Ideal) ℓ) : Prop :=
  True

def Pre_MatRes (m : (ℓ : Loc Cert.MatRes.nD Cert.MatRes.τ Cert.MatRes.sig) → Buf (Elt Bits) ℓ) : Prop :=
  True

def Pre_MatResIdeal (m : (ℓ : Loc Cert.MatResIdeal.nD Cert.MatResIdeal.τ Cert.MatResIdeal.sig) → Buf (Elt Ideal) ℓ) : Prop :=
  True

def Pre_MatResRefIdeal (m : (ℓ : Loc Cert.MatResRefIdeal.nD Cert.MatResRefIdeal.τ Cert.MatResRefIdeal.sig) → Buf (Elt Ideal) ℓ) : Prop :=
  True

def Pre_MatNt (m : (ℓ : Loc Cert.MatNt.nD Cert.MatNt.τ Cert.MatNt.sig) → Buf (Elt Bits) ℓ) : Prop :=
  True

def Pre_MatNtIdeal (m : (ℓ : Loc Cert.MatNtIdeal.nD Cert.MatNtIdeal.τ Cert.MatNtIdeal.sig) → Buf (Elt Ideal) ℓ) : Prop :=
  True

def Pre_MatNtRefIdeal (m : (ℓ : Loc Cert.MatNtRefIdeal.nD Cert.MatNtRefIdeal.τ Cert.MatNtRefIdeal.sig) → Buf (Elt Ideal) ℓ) : Prop :=
  True

def Pre_MatTn (m : (ℓ : Loc Cert.MatTn.nD Cert.MatTn.τ Cert.MatTn.sig) → Buf (Elt Bits) ℓ) : Prop :=
  True

def Pre_MatTnIdeal (m : (ℓ : Loc Cert.MatTnIdeal.nD Cert.MatTnIdeal.τ Cert.MatTnIdeal.sig) → Buf (Elt Ideal) ℓ) : Prop :=
  True

def Pre_MatTnRefIdeal (m : (ℓ : Loc Cert.MatTnRefIdeal.nD Cert.MatTnRefIdeal.τ Cert.MatTnRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def quiescent_MixA [hMixA : Cert.MixA.Facts] : Prop :=
  ∀ (m : (ℓ : Loc Cert.MixA.nD Cert.MixA.τ Cert.MixA.sig) → Buf (Elt Bits) ℓ) (g : Dev Cert.MixA.nD → PrngReg), Pre_MixA m →
    θ_run (Cert.MixA.defs (F := Bits)) (onTc (τ := Cert.MixA.τ) (Cert.MixA.main (F := Bits))) ⟨m, fun _ => 0, g⟩ (fun r => (∀ c : Dev Cert.MixA.nD,
      r.2.mem ((c.tc : Thread Cert.MixA.nD Cert.MixA.τ).loc Cert.MixA.main_arg0) = m ((c.tc : Thread Cert.MixA.nD Cert.MixA.τ).loc Cert.MixA.main_arg0)
      ∧ r.2.mem ((c.tc : Thread Cert.MixA.nD Cert.MixA.τ).loc Cert.MixA.main_arg1) = m ((c.tc : Thread Cert.MixA.nD Cert.MixA.τ).loc Cert.MixA.main_arg1)
      ∧ r.2.mem ((c.tc : Thread Cert.MixA.nD Cert.MixA.τ).loc Cert.MixA.main_arg2) = m ((c.tc : Thread Cert.MixA.nD Cert.MixA.τ).loc Cert.MixA.main_arg2))
      ∧ r.2.sem = fun _ => 0)

def quiescent_MixAIdeal [hMixAIdeal : Cert.MixAIdeal.Facts] : Prop :=
  ∀ (m : (ℓ : Loc Cert.MixAIdeal.nD Cert.MixAIdeal.τ Cert.MixAIdeal.sig) → Buf (Elt Ideal) ℓ) (g : Dev Cert.MixAIdeal.nD → PrngReg), Pre_MixAIdeal m →
    θ_run (Cert.MixAIdeal.defs (F := Ideal)) (onTc (τ := Cert.MixAIdeal.τ) (Cert.MixAIdeal.main (F := Ideal))) ⟨m, fun _ => 0, g⟩ (fun r => (∀ c : Dev Cert.MixAIdeal.nD,
      r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
      ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
      ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2))
      ∧ r.2.sem = fun _ => 0)

def quiescent_MixARefIdeal [hMixARefIdeal : Cert.MixARefIdeal.Facts] : Prop :=
  ∀ (m : (ℓ : Loc Cert.MixARefIdeal.nD Cert.MixARefIdeal.τ Cert.MixARefIdeal.sig) → Buf (Elt Ideal) ℓ) (g : Dev Cert.MixARefIdeal.nD → PrngReg), Pre_MixARefIdeal m →
    θ_run (Cert.MixARefIdeal.defs (F := Ideal)) (onTc (τ := Cert.MixARefIdeal.τ) (Cert.MixARefIdeal.main (F := Ideal))) ⟨m, fun _ => 0, g⟩ (fun r => (∀ c : Dev Cert.MixARefIdeal.nD,
      r.2.mem ((c.tc : Thread Cert.MixARefIdeal.nD Cert.MixARefIdeal.τ).loc Cert.MixARefIdeal.main_arg0) = m ((c.tc : Thread Cert.MixARefIdeal.nD Cert.MixARefIdeal.τ).loc Cert.MixARefIdeal.main_arg0)
      ∧ r.2.mem ((c.tc : Thread Cert.MixARefIdeal.nD Cert.MixARefIdeal.τ).loc Cert.MixARefIdeal.main_arg1) = m ((c.tc : Thread Cert.MixARefIdeal.nD Cert.MixARefIdeal.τ).loc Cert.MixARefIdeal.main_arg1)
      ∧ r.2.mem ((c.tc : Thread Cert.MixARefIdeal.nD Cert.MixARefIdeal.τ).loc Cert.MixARefIdeal.main_arg2) = m ((c.tc : Thread Cert.MixARefIdeal.nD Cert.MixARefIdeal.τ).loc Cert.MixARefIdeal.main_arg2))
      ∧ r.2.sem = fun _ => 0)

def quiescent_MixB [hMixB : Cert.MixB.Facts] : Prop :=
  ∀ (m : (ℓ : Loc Cert.MixB.nD Cert.MixB.τ Cert.MixB.sig) → Buf (Elt Bits) ℓ) (g : Dev Cert.MixB.nD → PrngReg), Pre_MixB m →
    θ_run (Cert.MixB.defs (F := Bits)) (onTc (τ := Cert.MixB.τ) (Cert.MixB.main (F := Bits))) ⟨m, fun _ => 0, g⟩ (fun r => (∀ c : Dev Cert.MixB.nD,
      r.2.mem ((c.tc : Thread Cert.MixB.nD Cert.MixB.τ).loc Cert.MixB.main_arg0) = m ((c.tc : Thread Cert.MixB.nD Cert.MixB.τ).loc Cert.MixB.main_arg0)
      ∧ r.2.mem ((c.tc : Thread Cert.MixB.nD Cert.MixB.τ).loc Cert.MixB.main_arg1) = m ((c.tc : Thread Cert.MixB.nD Cert.MixB.τ).loc Cert.MixB.main_arg1)
      ∧ r.2.mem ((c.tc : Thread Cert.MixB.nD Cert.MixB.τ).loc Cert.MixB.main_arg2) = m ((c.tc : Thread Cert.MixB.nD Cert.MixB.τ).loc Cert.MixB.main_arg2)
      ∧ r.2.mem ((c.tc : Thread Cert.MixB.nD Cert.MixB.τ).loc Cert.MixB.main_arg3) = m ((c.tc : Thread Cert.MixB.nD Cert.MixB.τ).loc Cert.MixB.main_arg3)
      ∧ r.2.mem ((c.tc : Thread Cert.MixB.nD Cert.MixB.τ).loc Cert.MixB.main_arg4) = m ((c.tc : Thread Cert.MixB.nD Cert.MixB.τ).loc Cert.MixB.main_arg4))
      ∧ r.2.sem = fun _ => 0)

def quiescent_MixBIdeal [hMixBIdeal : Cert.MixBIdeal.Facts] : Prop :=
  ∀ (m : (ℓ : Loc Cert.MixBIdeal.nD Cert.MixBIdeal.τ Cert.MixBIdeal.sig) → Buf (Elt Ideal) ℓ) (g : Dev Cert.MixBIdeal.nD → PrngReg), Pre_MixBIdeal m →
    θ_run (Cert.MixBIdeal.defs (F := Ideal)) (onTc (τ := Cert.MixBIdeal.τ) (Cert.MixBIdeal.main (F := Ideal))) ⟨m, fun _ => 0, g⟩ (fun r => (∀ c : Dev Cert.MixBIdeal.nD,
      r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
      ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
      ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2)
      ∧ r.2.mem ((c.tc : Thread Cert.MixBIdeal.nD Cert.MixBIdeal.τ).loc Cert.MixBIdeal.main_arg3) = m ((c.tc : Thread Cert.MixBIdeal.nD Cert.MixBIdeal.τ).loc Cert.MixBIdeal.main_arg3)
      ∧ r.2.mem ((c.tc : Thread Cert.MixBIdeal.nD Cert.MixBIdeal.τ).loc Cert.MixBIdeal.main_arg4) = m ((c.tc : Thread Cert.MixBIdeal.nD Cert.MixBIdeal.τ).loc Cert.MixBIdeal.main_arg4))
      ∧ r.2.sem = fun _ => 0)

def quiescent_MixBIdeal_pre_finite_b [hMixBIdeal : Cert.MixBIdeal.Facts] [hPre_finite_b : Cert.Pre_finite_b.Facts] : Prop :=
  ∀ (m : (ℓ : Loc Cert.MixBIdeal.nD Cert.MixBIdeal.τ Cert.MixBIdeal.sig) → Buf (Elt Ideal) ℓ) (g : Dev Cert.MixBIdeal.nD → PrngReg), Pre_MixBIdeal_finite_b m →
    θ_run (Cert.MixBIdeal.defs (F := Ideal)) (onTc (τ := Cert.MixBIdeal.τ) (Cert.MixBIdeal.main (F := Ideal))) ⟨m, fun _ => 0, g⟩ (fun r => (∀ c : Dev Cert.MixBIdeal.nD,
      r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
      ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
      ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2)
      ∧ r.2.mem ((c.tc : Thread Cert.MixBIdeal.nD Cert.MixBIdeal.τ).loc Cert.MixBIdeal.main_arg3) = m ((c.tc : Thread Cert.MixBIdeal.nD Cert.MixBIdeal.τ).loc Cert.MixBIdeal.main_arg3)
      ∧ r.2.mem ((c.tc : Thread Cert.MixBIdeal.nD Cert.MixBIdeal.τ).loc Cert.MixBIdeal.main_arg4) = m ((c.tc : Thread Cert.MixBIdeal.nD Cert.MixBIdeal.τ).loc Cert.MixBIdeal.main_arg4))
      ∧ r.2.sem = fun _ => 0)

def quiescent_MixBRefIdeal [hMixBRefIdeal : Cert.MixBRefIdeal.Facts] : Prop :=
  ∀ (m : (ℓ : Loc Cert.MixBRefIdeal.nD Cert.MixBRefIdeal.τ Cert.MixBRefIdeal.sig) → Buf (Elt Ideal) ℓ) (g : Dev Cert.MixBRefIdeal.nD → PrngReg), Pre_MixBRefIdeal m →
    θ_run (Cert.MixBRefIdeal.defs (F := Ideal)) (onTc (τ := Cert.MixBRefIdeal.τ) (Cert.MixBRefIdeal.main (F := Ideal))) ⟨m, fun _ => 0, g⟩ (fun r => (∀ c : Dev Cert.MixBRefIdeal.nD,
      r.2.mem ((c.tc : Thread Cert.MixBRefIdeal.nD Cert.MixBRefIdeal.τ).loc Cert.MixBRefIdeal.main_arg0) = m ((c.tc : Thread Cert.MixBRefIdeal.nD Cert.MixBRefIdeal.τ).loc Cert.MixBRefIdeal.main_arg0)
      ∧ r.2.mem ((c.tc : Thread Cert.MixBRefIdeal.nD Cert.MixBRefIdeal.τ).loc Cert.MixBRefIdeal.main_arg1) = m ((c.tc : Thread Cert.MixBRefIdeal.nD Cert.MixBRefIdeal.τ).loc Cert.MixBRefIdeal.main_arg1)
      ∧ r.2.mem ((c.tc : Thread Cert.MixBRefIdeal.nD Cert.MixBRefIdeal.τ).loc Cert.MixBRefIdeal.main_arg2) = m ((c.tc : Thread Cert.MixBRefIdeal.nD Cert.MixBRefIdeal.τ).loc Cert.MixBRefIdeal.main_arg2)
      ∧ r.2.mem ((c.tc : Thread Cert.MixBRefIdeal.nD Cert.MixBRefIdeal.τ).loc Cert.MixBRefIdeal.main_arg3) = m ((c.tc : Thread Cert.MixBRefIdeal.nD Cert.MixBRefIdeal.τ).loc Cert.MixBRefIdeal.main_arg3)
      ∧ r.2.mem ((c.tc : Thread Cert.MixBRefIdeal.nD Cert.MixBRefIdeal.τ).loc Cert.MixBRefIdeal.main_arg4) = m ((c.tc : Thread Cert.MixBRefIdeal.nD Cert.MixBRefIdeal.τ).loc Cert.MixBRefIdeal.main_arg4))
      ∧ r.2.sem = fun _ => 0)

def quiescent_MixBRefIdeal_pre_finite_b [hMixBRefIdeal : Cert.MixBRefIdeal.Facts] [hPre_finite_b : Cert.Pre_finite_b.Facts] : Prop :=
  ∀ (m : (ℓ : Loc Cert.MixBRefIdeal.nD Cert.MixBRefIdeal.τ Cert.MixBRefIdeal.sig) → Buf (Elt Ideal) ℓ) (g : Dev Cert.MixBRefIdeal.nD → PrngReg), Pre_MixBRefIdeal_finite_b m →
    θ_run (Cert.MixBRefIdeal.defs (F := Ideal)) (onTc (τ := Cert.MixBRefIdeal.τ) (Cert.MixBRefIdeal.main (F := Ideal))) ⟨m, fun _ => 0, g⟩ (fun r => (∀ c : Dev Cert.MixBRefIdeal.nD,
      r.2.mem ((c.tc : Thread Cert.MixBRefIdeal.nD Cert.MixBRefIdeal.τ).loc Cert.MixBRefIdeal.main_arg0) = m ((c.tc : Thread Cert.MixBRefIdeal.nD Cert.MixBRefIdeal.τ).loc Cert.MixBRefIdeal.main_arg0)
      ∧ r.2.mem ((c.tc : Thread Cert.MixBRefIdeal.nD Cert.MixBRefIdeal.τ).loc Cert.MixBRefIdeal.main_arg1) = m ((c.tc : Thread Cert.MixBRefIdeal.nD Cert.MixBRefIdeal.τ).loc Cert.MixBRefIdeal.main_arg1)
      ∧ r.2.mem ((c.tc : Thread Cert.MixBRefIdeal.nD Cert.MixBRefIdeal.τ).loc Cert.MixBRefIdeal.main_arg2) = m ((c.tc : Thread Cert.MixBRefIdeal.nD Cert.MixBRefIdeal.τ).loc Cert.MixBRefIdeal.main_arg2)
      ∧ r.2.mem ((c.tc : Thread Cert.MixBRefIdeal.nD Cert.MixBRefIdeal.τ).loc Cert.MixBRefIdeal.main_arg3) = m ((c.tc : Thread Cert.MixBRefIdeal.nD Cert.MixBRefIdeal.τ).loc Cert.MixBRefIdeal.main_arg3)
      ∧ r.2.mem ((c.tc : Thread Cert.MixBRefIdeal.nD Cert.MixBRefIdeal.τ).loc Cert.MixBRefIdeal.main_arg4) = m ((c.tc : Thread Cert.MixBRefIdeal.nD Cert.MixBRefIdeal.τ).loc Cert.MixBRefIdeal.main_arg4))
      ∧ r.2.sem = fun _ => 0)

def quiescent_MixC [hMixC : Cert.MixC.Facts] : Prop :=
  ∀ (m : (ℓ : Loc Cert.MixC.nD Cert.MixC.τ Cert.MixC.sig) → Buf (Elt Bits) ℓ) (g : Dev Cert.MixC.nD → PrngReg), Pre_MixC m →
    θ_run (Cert.MixC.defs (F := Bits)) (onTc (τ := Cert.MixC.τ) (Cert.MixC.main (F := Bits))) ⟨m, fun _ => 0, g⟩ (fun r => (∀ c : Dev Cert.MixC.nD,
      r.2.mem ((c.tc : Thread Cert.MixC.nD Cert.MixC.τ).loc Cert.MixC.main_arg0) = m ((c.tc : Thread Cert.MixC.nD Cert.MixC.τ).loc Cert.MixC.main_arg0)
      ∧ r.2.mem ((c.tc : Thread Cert.MixC.nD Cert.MixC.τ).loc Cert.MixC.main_arg1) = m ((c.tc : Thread Cert.MixC.nD Cert.MixC.τ).loc Cert.MixC.main_arg1)
      ∧ r.2.mem ((c.tc : Thread Cert.MixC.nD Cert.MixC.τ).loc Cert.MixC.main_arg2) = m ((c.tc : Thread Cert.MixC.nD Cert.MixC.τ).loc Cert.MixC.main_arg2)
      ∧ r.2.mem ((c.tc : Thread Cert.MixC.nD Cert.MixC.τ).loc Cert.MixC.main_arg3) = m ((c.tc : Thread Cert.MixC.nD Cert.MixC.τ).loc Cert.MixC.main_arg3)
      ∧ r.2.mem ((c.tc : Thread Cert.MixC.nD Cert.MixC.τ).loc Cert.MixC.main_arg4) = m ((c.tc : Thread Cert.MixC.nD Cert.MixC.τ).loc Cert.MixC.main_arg4))
      ∧ r.2.sem = fun _ => 0)

def quiescent_MixCIdeal [hMixCIdeal : Cert.MixCIdeal.Facts] : Prop :=
  ∀ (m : (ℓ : Loc Cert.MixCIdeal.nD Cert.MixCIdeal.τ Cert.MixCIdeal.sig) → Buf (Elt Ideal) ℓ) (g : Dev Cert.MixCIdeal.nD → PrngReg), Pre_MixCIdeal m →
    θ_run (Cert.MixCIdeal.defs (F := Ideal)) (onTc (τ := Cert.MixCIdeal.τ) (Cert.MixCIdeal.main (F := Ideal))) ⟨m, fun _ => 0, g⟩ (fun r => (∀ c : Dev Cert.MixCIdeal.nD,
      r.2.mem ((c.tc : Thread Cert.MixCIdeal.nD Cert.MixCIdeal.τ).loc Cert.MixCIdeal.main_arg0) = m ((c.tc : Thread Cert.MixCIdeal.nD Cert.MixCIdeal.τ).loc Cert.MixCIdeal.main_arg0)
      ∧ r.2.mem ((c.tc : Thread Cert.MixCIdeal.nD Cert.MixCIdeal.τ).loc Cert.MixCIdeal.main_arg1) = m ((c.tc : Thread Cert.MixCIdeal.nD Cert.MixCIdeal.τ).loc Cert.MixCIdeal.main_arg1)
      ∧ r.2.mem ((c.tc : Thread Cert.MixCIdeal.nD Cert.MixCIdeal.τ).loc Cert.MixCIdeal.main_arg2) = m ((c.tc : Thread Cert.MixCIdeal.nD Cert.MixCIdeal.τ).loc Cert.MixCIdeal.main_arg2)
      ∧ r.2.mem ((c.tc : Thread Cert.MixCIdeal.nD Cert.MixCIdeal.τ).loc Cert.MixCIdeal.main_arg3) = m ((c.tc : Thread Cert.MixCIdeal.nD Cert.MixCIdeal.τ).loc Cert.MixCIdeal.main_arg3)
      ∧ r.2.mem ((c.tc : Thread Cert.MixCIdeal.nD Cert.MixCIdeal.τ).loc Cert.MixCIdeal.main_arg4) = m ((c.tc : Thread Cert.MixCIdeal.nD Cert.MixCIdeal.τ).loc Cert.MixCIdeal.main_arg4))
      ∧ r.2.sem = fun _ => 0)

def quiescent_MixCIdeal_pre_finite_c [hMixCIdeal : Cert.MixCIdeal.Facts] [hPre_finite_c : Cert.Pre_finite_c.Facts] : Prop :=
  ∀ (m : (ℓ : Loc Cert.MixCIdeal.nD Cert.MixCIdeal.τ Cert.MixCIdeal.sig) → Buf (Elt Ideal) ℓ) (g : Dev Cert.MixCIdeal.nD → PrngReg), Pre_MixCIdeal_finite_c m →
    θ_run (Cert.MixCIdeal.defs (F := Ideal)) (onTc (τ := Cert.MixCIdeal.τ) (Cert.MixCIdeal.main (F := Ideal))) ⟨m, fun _ => 0, g⟩ (fun r => (∀ c : Dev Cert.MixCIdeal.nD,
      r.2.mem ((c.tc : Thread Cert.MixCIdeal.nD Cert.MixCIdeal.τ).loc Cert.MixCIdeal.main_arg0) = m ((c.tc : Thread Cert.MixCIdeal.nD Cert.MixCIdeal.τ).loc Cert.MixCIdeal.main_arg0)
      ∧ r.2.mem ((c.tc : Thread Cert.MixCIdeal.nD Cert.MixCIdeal.τ).loc Cert.MixCIdeal.main_arg1) = m ((c.tc : Thread Cert.MixCIdeal.nD Cert.MixCIdeal.τ).loc Cert.MixCIdeal.main_arg1)
      ∧ r.2.mem ((c.tc : Thread Cert.MixCIdeal.nD Cert.MixCIdeal.τ).loc Cert.MixCIdeal.main_arg2) = m ((c.tc : Thread Cert.MixCIdeal.nD Cert.MixCIdeal.τ).loc Cert.MixCIdeal.main_arg2)
      ∧ r.2.mem ((c.tc : Thread Cert.MixCIdeal.nD Cert.MixCIdeal.τ).loc Cert.MixCIdeal.main_arg3) = m ((c.tc : Thread Cert.MixCIdeal.nD Cert.MixCIdeal.τ).loc Cert.MixCIdeal.main_arg3)
      ∧ r.2.mem ((c.tc : Thread Cert.MixCIdeal.nD Cert.MixCIdeal.τ).loc Cert.MixCIdeal.main_arg4) = m ((c.tc : Thread Cert.MixCIdeal.nD Cert.MixCIdeal.τ).loc Cert.MixCIdeal.main_arg4))
      ∧ r.2.sem = fun _ => 0)

def quiescent_MixCRefIdeal [hMixCRefIdeal : Cert.MixCRefIdeal.Facts] : Prop :=
  ∀ (m : (ℓ : Loc Cert.MixCRefIdeal.nD Cert.MixCRefIdeal.τ Cert.MixCRefIdeal.sig) → Buf (Elt Ideal) ℓ) (g : Dev Cert.MixCRefIdeal.nD → PrngReg), Pre_MixCRefIdeal m →
    θ_run (Cert.MixCRefIdeal.defs (F := Ideal)) (onTc (τ := Cert.MixCRefIdeal.τ) (Cert.MixCRefIdeal.main (F := Ideal))) ⟨m, fun _ => 0, g⟩ (fun r => (∀ c : Dev Cert.MixCRefIdeal.nD,
      r.2.mem ((c.tc : Thread Cert.MixCRefIdeal.nD Cert.MixCRefIdeal.τ).loc Cert.MixCRefIdeal.main_arg0) = m ((c.tc : Thread Cert.MixCRefIdeal.nD Cert.MixCRefIdeal.τ).loc Cert.MixCRefIdeal.main_arg0)
      ∧ r.2.mem ((c.tc : Thread Cert.MixCRefIdeal.nD Cert.MixCRefIdeal.τ).loc Cert.MixCRefIdeal.main_arg1) = m ((c.tc : Thread Cert.MixCRefIdeal.nD Cert.MixCRefIdeal.τ).loc Cert.MixCRefIdeal.main_arg1)
      ∧ r.2.mem ((c.tc : Thread Cert.MixCRefIdeal.nD Cert.MixCRefIdeal.τ).loc Cert.MixCRefIdeal.main_arg2) = m ((c.tc : Thread Cert.MixCRefIdeal.nD Cert.MixCRefIdeal.τ).loc Cert.MixCRefIdeal.main_arg2)
      ∧ r.2.mem ((c.tc : Thread Cert.MixCRefIdeal.nD Cert.MixCRefIdeal.τ).loc Cert.MixCRefIdeal.main_arg3) = m ((c.tc : Thread Cert.MixCRefIdeal.nD Cert.MixCRefIdeal.τ).loc Cert.MixCRefIdeal.main_arg3)
      ∧ r.2.mem ((c.tc : Thread Cert.MixCRefIdeal.nD Cert.MixCRefIdeal.τ).loc Cert.MixCRefIdeal.main_arg4) = m ((c.tc : Thread Cert.MixCRefIdeal.nD Cert.MixCRefIdeal.τ).loc Cert.MixCRefIdeal.main_arg4))
      ∧ r.2.sem = fun _ => 0)

def quiescent_MixCRefIdeal_pre_finite_c [hMixCRefIdeal : Cert.MixCRefIdeal.Facts] [hPre_finite_c : Cert.Pre_finite_c.Facts] : Prop :=
  ∀ (m : (ℓ : Loc Cert.MixCRefIdeal.nD Cert.MixCRefIdeal.τ Cert.MixCRefIdeal.sig) → Buf (Elt Ideal) ℓ) (g : Dev Cert.MixCRefIdeal.nD → PrngReg), Pre_MixCRefIdeal_finite_c m →
    θ_run (Cert.MixCRefIdeal.defs (F := Ideal)) (onTc (τ := Cert.MixCRefIdeal.τ) (Cert.MixCRefIdeal.main (F := Ideal))) ⟨m, fun _ => 0, g⟩ (fun r => (∀ c : Dev Cert.MixCRefIdeal.nD,
      r.2.mem ((c.tc : Thread Cert.MixCRefIdeal.nD Cert.MixCRefIdeal.τ).loc Cert.MixCRefIdeal.main_arg0) = m ((c.tc : Thread Cert.MixCRefIdeal.nD Cert.MixCRefIdeal.τ).loc Cert.MixCRefIdeal.main_arg0)
      ∧ r.2.mem ((c.tc : Thread Cert.MixCRefIdeal.nD Cert.MixCRefIdeal.τ).loc Cert.MixCRefIdeal.main_arg1) = m ((c.tc : Thread Cert.MixCRefIdeal.nD Cert.MixCRefIdeal.τ).loc Cert.MixCRefIdeal.main_arg1)
      ∧ r.2.mem ((c.tc : Thread Cert.MixCRefIdeal.nD Cert.MixCRefIdeal.τ).loc Cert.MixCRefIdeal.main_arg2) = m ((c.tc : Thread Cert.MixCRefIdeal.nD Cert.MixCRefIdeal.τ).loc Cert.MixCRefIdeal.main_arg2)
      ∧ r.2.mem ((c.tc : Thread Cert.MixCRefIdeal.nD Cert.MixCRefIdeal.τ).loc Cert.MixCRefIdeal.main_arg3) = m ((c.tc : Thread Cert.MixCRefIdeal.nD Cert.MixCRefIdeal.τ).loc Cert.MixCRefIdeal.main_arg3)
      ∧ r.2.mem ((c.tc : Thread Cert.MixCRefIdeal.nD Cert.MixCRefIdeal.τ).loc Cert.MixCRefIdeal.main_arg4) = m ((c.tc : Thread Cert.MixCRefIdeal.nD Cert.MixCRefIdeal.τ).loc Cert.MixCRefIdeal.main_arg4))
      ∧ r.2.sem = fun _ => 0)

def quiescent_MixD [hMixD : Cert.MixD.Facts] : Prop :=
  ∀ (m : (ℓ : Loc Cert.MixD.nD Cert.MixD.τ Cert.MixD.sig) → Buf (Elt Bits) ℓ) (g : Dev Cert.MixD.nD → PrngReg), Pre_MixD m →
    θ_run (Cert.MixD.defs (F := Bits)) (onTc (τ := Cert.MixD.τ) (Cert.MixD.main (F := Bits))) ⟨m, fun _ => 0, g⟩ (fun r => (∀ c : Dev Cert.MixD.nD,
      r.2.mem ((c.tc : Thread Cert.MixD.nD Cert.MixD.τ).loc Cert.MixD.main_arg0) = m ((c.tc : Thread Cert.MixD.nD Cert.MixD.τ).loc Cert.MixD.main_arg0)
      ∧ r.2.mem ((c.tc : Thread Cert.MixD.nD Cert.MixD.τ).loc Cert.MixD.main_arg1) = m ((c.tc : Thread Cert.MixD.nD Cert.MixD.τ).loc Cert.MixD.main_arg1)
      ∧ r.2.mem ((c.tc : Thread Cert.MixD.nD Cert.MixD.τ).loc Cert.MixD.main_arg2) = m ((c.tc : Thread Cert.MixD.nD Cert.MixD.τ).loc Cert.MixD.main_arg2)
      ∧ r.2.mem ((c.tc : Thread Cert.MixD.nD Cert.MixD.τ).loc Cert.MixD.main_arg3) = m ((c.tc : Thread Cert.MixD.nD Cert.MixD.τ).loc Cert.MixD.main_arg3))
      ∧ r.2.sem = fun _ => 0)

def quiescent_MixDIdeal [hMixDIdeal : Cert.MixDIdeal.Facts] : Prop :=
  ∀ (m : (ℓ : Loc Cert.MixDIdeal.nD Cert.MixDIdeal.τ Cert.MixDIdeal.sig) → Buf (Elt Ideal) ℓ) (g : Dev Cert.MixDIdeal.nD → PrngReg), Pre_MixDIdeal m →
    θ_run (Cert.MixDIdeal.defs (F := Ideal)) (onTc (τ := Cert.MixDIdeal.τ) (Cert.MixDIdeal.main (F := Ideal))) ⟨m, fun _ => 0, g⟩ (fun r => (∀ c : Dev Cert.MixDIdeal.nD,
      r.2.mem ((c.tc : Thread Cert.MixDIdeal.nD Cert.MixDIdeal.τ).loc Cert.MixDIdeal.main_arg0) = m ((c.tc : Thread Cert.MixDIdeal.nD Cert.MixDIdeal.τ).loc Cert.MixDIdeal.main_arg0)
      ∧ r.2.mem ((c.tc : Thread Cert.MixDIdeal.nD Cert.MixDIdeal.τ).loc Cert.MixDIdeal.main_arg1) = m ((c.tc : Thread Cert.MixDIdeal.nD Cert.MixDIdeal.τ).loc Cert.MixDIdeal.main_arg1)
      ∧ r.2.mem ((c.tc : Thread Cert.MixDIdeal.nD Cert.MixDIdeal.τ).loc Cert.MixDIdeal.main_arg2) = m ((c.tc : Thread Cert.MixDIdeal.nD Cert.MixDIdeal.τ).loc Cert.MixDIdeal.main_arg2)
      ∧ r.2.mem ((c.tc : Thread Cert.MixDIdeal.nD Cert.MixDIdeal.τ).loc Cert.MixDIdeal.main_arg3) = m ((c.tc : Thread Cert.MixDIdeal.nD Cert.MixDIdeal.τ).loc Cert.MixDIdeal.main_arg3))
      ∧ r.2.sem = fun _ => 0)

def quiescent_MixDIdeal_pre_finite_d [hMixDIdeal : Cert.MixDIdeal.Facts] [hPre_finite_d : Cert.Pre_finite_d.Facts] : Prop :=
  ∀ (m : (ℓ : Loc Cert.MixDIdeal.nD Cert.MixDIdeal.τ Cert.MixDIdeal.sig) → Buf (Elt Ideal) ℓ) (g : Dev Cert.MixDIdeal.nD → PrngReg), Pre_MixDIdeal_finite_d m →
    θ_run (Cert.MixDIdeal.defs (F := Ideal)) (onTc (τ := Cert.MixDIdeal.τ) (Cert.MixDIdeal.main (F := Ideal))) ⟨m, fun _ => 0, g⟩ (fun r => (∀ c : Dev Cert.MixDIdeal.nD,
      r.2.mem ((c.tc : Thread Cert.MixDIdeal.nD Cert.MixDIdeal.τ).loc Cert.MixDIdeal.main_arg0) = m ((c.tc : Thread Cert.MixDIdeal.nD Cert.MixDIdeal.τ).loc Cert.MixDIdeal.main_arg0)
      ∧ r.2.mem ((c.tc : Thread Cert.MixDIdeal.nD Cert.MixDIdeal.τ).loc Cert.MixDIdeal.main_arg1) = m ((c.tc : Thread Cert.MixDIdeal.nD Cert.MixDIdeal.τ).loc Cert.MixDIdeal.main_arg1)
      ∧ r.2.mem ((c.tc : Thread Cert.MixDIdeal.nD Cert.MixDIdeal.τ).loc Cert.MixDIdeal.main_arg2) = m ((c.tc : Thread Cert.MixDIdeal.nD Cert.MixDIdeal.τ).loc Cert.MixDIdeal.main_arg2)
      ∧ r.2.mem ((c.tc : Thread Cert.MixDIdeal.nD Cert.MixDIdeal.τ).loc Cert.MixDIdeal.main_arg3) = m ((c.tc : Thread Cert.MixDIdeal.nD Cert.MixDIdeal.τ).loc Cert.MixDIdeal.main_arg3))
      ∧ r.2.sem = fun _ => 0)

def quiescent_MixDRefIdeal [hMixDRefIdeal : Cert.MixDRefIdeal.Facts] : Prop :=
  ∀ (m : (ℓ : Loc Cert.MixDRefIdeal.nD Cert.MixDRefIdeal.τ Cert.MixDRefIdeal.sig) → Buf (Elt Ideal) ℓ) (g : Dev Cert.MixDRefIdeal.nD → PrngReg), Pre_MixDRefIdeal m →
    θ_run (Cert.MixDRefIdeal.defs (F := Ideal)) (onTc (τ := Cert.MixDRefIdeal.τ) (Cert.MixDRefIdeal.main (F := Ideal))) ⟨m, fun _ => 0, g⟩ (fun r => (∀ c : Dev Cert.MixDRefIdeal.nD,
      r.2.mem ((c.tc : Thread Cert.MixDRefIdeal.nD Cert.MixDRefIdeal.τ).loc Cert.MixDRefIdeal.main_arg0) = m ((c.tc : Thread Cert.MixDRefIdeal.nD Cert.MixDRefIdeal.τ).loc Cert.MixDRefIdeal.main_arg0)
      ∧ r.2.mem ((c.tc : Thread Cert.MixDRefIdeal.nD Cert.MixDRefIdeal.τ).loc Cert.MixDRefIdeal.main_arg1) = m ((c.tc : Thread Cert.MixDRefIdeal.nD Cert.MixDRefIdeal.τ).loc Cert.MixDRefIdeal.main_arg1)
      ∧ r.2.mem ((c.tc : Thread Cert.MixDRefIdeal.nD Cert.MixDRefIdeal.τ).loc Cert.MixDRefIdeal.main_arg2) = m ((c.tc : Thread Cert.MixDRefIdeal.nD Cert.MixDRefIdeal.τ).loc Cert.MixDRefIdeal.main_arg2)
      ∧ r.2.mem ((c.tc : Thread Cert.MixDRefIdeal.nD Cert.MixDRefIdeal.τ).loc Cert.MixDRefIdeal.main_arg3) = m ((c.tc : Thread Cert.MixDRefIdeal.nD Cert.MixDRefIdeal.τ).loc Cert.MixDRefIdeal.main_arg3))
      ∧ r.2.sem = fun _ => 0)

def quiescent_MixDRefIdeal_pre_finite_d [hMixDRefIdeal : Cert.MixDRefIdeal.Facts] [hPre_finite_d : Cert.Pre_finite_d.Facts] : Prop :=
  ∀ (m : (ℓ : Loc Cert.MixDRefIdeal.nD Cert.MixDRefIdeal.τ Cert.MixDRefIdeal.sig) → Buf (Elt Ideal) ℓ) (g : Dev Cert.MixDRefIdeal.nD → PrngReg), Pre_MixDRefIdeal_finite_d m →
    θ_run (Cert.MixDRefIdeal.defs (F := Ideal)) (onTc (τ := Cert.MixDRefIdeal.τ) (Cert.MixDRefIdeal.main (F := Ideal))) ⟨m, fun _ => 0, g⟩ (fun r => (∀ c : Dev Cert.MixDRefIdeal.nD,
      r.2.mem ((c.tc : Thread Cert.MixDRefIdeal.nD Cert.MixDRefIdeal.τ).loc Cert.MixDRefIdeal.main_arg0) = m ((c.tc : Thread Cert.MixDRefIdeal.nD Cert.MixDRefIdeal.τ).loc Cert.MixDRefIdeal.main_arg0)
      ∧ r.2.mem ((c.tc : Thread Cert.MixDRefIdeal.nD Cert.MixDRefIdeal.τ).loc Cert.MixDRefIdeal.main_arg1) = m ((c.tc : Thread Cert.MixDRefIdeal.nD Cert.MixDRefIdeal.τ).loc Cert.MixDRefIdeal.main_arg1)
      ∧ r.2.mem ((c.tc : Thread Cert.MixDRefIdeal.nD Cert.MixDRefIdeal.τ).loc Cert.MixDRefIdeal.main_arg2) = m ((c.tc : Thread Cert.MixDRefIdeal.nD Cert.MixDRefIdeal.τ).loc Cert.MixDRefIdeal.main_arg2)
      ∧ r.2.mem ((c.tc : Thread Cert.MixDRefIdeal.nD Cert.MixDRefIdeal.τ).loc Cert.MixDRefIdeal.main_arg3) = m ((c.tc : Thread Cert.MixDRefIdeal.nD Cert.MixDRefIdeal.τ).loc Cert.MixDRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_e [hAttnIdeal : Cert.AttnIdeal.Facts] [hPre_finite_e : Cert.Pre_finite_e.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_e m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_e [hAttnRefIdeal : Cert.AttnRefIdeal.Facts] [hPre_finite_e : Cert.Pre_finite_e.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_e m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_FfnDz [hFfnDz : Cert.FfnDz.Facts] : Prop :=
  ∀ (m : (ℓ : Loc Cert.FfnDz.nD Cert.FfnDz.τ Cert.FfnDz.sig) → Buf (Elt Bits) ℓ) (g : Dev Cert.FfnDz.nD → PrngReg), Pre_FfnDz m →
    θ_run (Cert.FfnDz.defs (F := Bits)) (onTc (τ := Cert.FfnDz.τ) (Cert.FfnDz.main (F := Bits))) ⟨m, fun _ => 0, g⟩ (fun r => (∀ c : Dev Cert.FfnDz.nD,
      r.2.mem ((c.tc : Thread Cert.FfnDz.nD Cert.FfnDz.τ).loc Cert.FfnDz.main_arg0) = m ((c.tc : Thread Cert.FfnDz.nD Cert.FfnDz.τ).loc Cert.FfnDz.main_arg0)
      ∧ r.2.mem ((c.tc : Thread Cert.FfnDz.nD Cert.FfnDz.τ).loc Cert.FfnDz.main_arg1) = m ((c.tc : Thread Cert.FfnDz.nD Cert.FfnDz.τ).loc Cert.FfnDz.main_arg1)
      ∧ r.2.mem ((c.tc : Thread Cert.FfnDz.nD Cert.FfnDz.τ).loc Cert.FfnDz.main_arg2) = m ((c.tc : Thread Cert.FfnDz.nD Cert.FfnDz.τ).loc Cert.FfnDz.main_arg2)
      ∧ r.2.mem ((c.tc : Thread Cert.FfnDz.nD Cert.FfnDz.τ).loc Cert.FfnDz.main_arg3) = m ((c.tc : Thread Cert.FfnDz.nD Cert.FfnDz.τ).loc Cert.FfnDz.main_arg3))
      ∧ r.2.sem = fun _ => 0)

def quiescent_FfnDzIdeal [hFfnDzIdeal : Cert.FfnDzIdeal.Facts] : Prop :=
  ∀ (m : (ℓ : Loc Cert.FfnDzIdeal.nD Cert.FfnDzIdeal.τ Cert.FfnDzIdeal.sig) → Buf (Elt Ideal) ℓ) (g : Dev Cert.FfnDzIdeal.nD → PrngReg), Pre_FfnDzIdeal m →
    θ_run (Cert.FfnDzIdeal.defs (F := Ideal)) (onTc (τ := Cert.FfnDzIdeal.τ) (Cert.FfnDzIdeal.main (F := Ideal))) ⟨m, fun _ => 0, g⟩ (fun r => (∀ c : Dev Cert.FfnDzIdeal.nD,
      r.2.mem ((c.tc : Thread Cert.FfnDzIdeal.nD Cert.FfnDzIdeal.τ).loc Cert.FfnDzIdeal.main_arg0) = m ((c.tc : Thread Cert.FfnDzIdeal.nD Cert.FfnDzIdeal.τ).loc Cert.FfnDzIdeal.main_arg0)
      ∧ r.2.mem ((c.tc : Thread Cert.FfnDzIdeal.nD Cert.FfnDzIdeal.τ).loc Cert.FfnDzIdeal.main_arg1) = m ((c.tc : Thread Cert.FfnDzIdeal.nD Cert.FfnDzIdeal.τ).loc Cert.FfnDzIdeal.main_arg1)
      ∧ r.2.mem ((c.tc : Thread Cert.FfnDzIdeal.nD Cert.FfnDzIdeal.τ).loc Cert.FfnDzIdeal.main_arg2) = m ((c.tc : Thread Cert.FfnDzIdeal.nD Cert.FfnDzIdeal.τ).loc Cert.FfnDzIdeal.main_arg2)
      ∧ r.2.mem ((c.tc : Thread Cert.FfnDzIdeal.nD Cert.FfnDzIdeal.τ).loc Cert.FfnDzIdeal.main_arg3) = m ((c.tc : Thread Cert.FfnDzIdeal.nD Cert.FfnDzIdeal.τ).loc Cert.FfnDzIdeal.main_arg3))
      ∧ r.2.sem = fun _ => 0)

def quiescent_FfnDzIdeal_pre_finite_f [hFfnDzIdeal : Cert.FfnDzIdeal.Facts] [hPre_finite_f : Cert.Pre_finite_f.Facts] : Prop :=
  ∀ (m : (ℓ : Loc Cert.FfnDzIdeal.nD Cert.FfnDzIdeal.τ Cert.FfnDzIdeal.sig) → Buf (Elt Ideal) ℓ) (g : Dev Cert.FfnDzIdeal.nD → PrngReg), Pre_FfnDzIdeal_finite_f m →
    θ_run (Cert.FfnDzIdeal.defs (F := Ideal)) (onTc (τ := Cert.FfnDzIdeal.τ) (Cert.FfnDzIdeal.main (F := Ideal))) ⟨m, fun _ => 0, g⟩ (fun r => (∀ c : Dev Cert.FfnDzIdeal.nD,
      r.2.mem ((c.tc : Thread Cert.FfnDzIdeal.nD Cert.FfnDzIdeal.τ).loc Cert.FfnDzIdeal.main_arg0) = m ((c.tc : Thread Cert.FfnDzIdeal.nD Cert.FfnDzIdeal.τ).loc Cert.FfnDzIdeal.main_arg0)
      ∧ r.2.mem ((c.tc : Thread Cert.FfnDzIdeal.nD Cert.FfnDzIdeal.τ).loc Cert.FfnDzIdeal.main_arg1) = m ((c.tc : Thread Cert.FfnDzIdeal.nD Cert.FfnDzIdeal.τ).loc Cert.FfnDzIdeal.main_arg1)
      ∧ r.2.mem ((c.tc : Thread Cert.FfnDzIdeal.nD Cert.FfnDzIdeal.τ).loc Cert.FfnDzIdeal.main_arg2) = m ((c.tc : Thread Cert.FfnDzIdeal.nD Cert.FfnDzIdeal.τ).loc Cert.FfnDzIdeal.main_arg2)
      ∧ r.2.mem ((c.tc : Thread Cert.FfnDzIdeal.nD Cert.FfnDzIdeal.τ).loc Cert.FfnDzIdeal.main_arg3) = m ((c.tc : Thread Cert.FfnDzIdeal.nD Cert.FfnDzIdeal.τ).loc Cert.FfnDzIdeal.main_arg3))
      ∧ r.2.sem = fun _ => 0)

def quiescent_FfnDzRefIdeal [hFfnDzRefIdeal : Cert.FfnDzRefIdeal.Facts] : Prop :=
  ∀ (m : (ℓ : Loc Cert.FfnDzRefIdeal.nD Cert.FfnDzRefIdeal.τ Cert.FfnDzRefIdeal.sig) → Buf (Elt Ideal) ℓ) (g : Dev Cert.FfnDzRefIdeal.nD → PrngReg), Pre_FfnDzRefIdeal m →
    θ_run (Cert.FfnDzRefIdeal.defs (F := Ideal)) (onTc (τ := Cert.FfnDzRefIdeal.τ) (Cert.FfnDzRefIdeal.main (F := Ideal))) ⟨m, fun _ => 0, g⟩ (fun r => (∀ c : Dev Cert.FfnDzRefIdeal.nD,
      r.2.mem ((c.tc : Thread Cert.FfnDzRefIdeal.nD Cert.FfnDzRefIdeal.τ).loc Cert.FfnDzRefIdeal.main_arg0) = m ((c.tc : Thread Cert.FfnDzRefIdeal.nD Cert.FfnDzRefIdeal.τ).loc Cert.FfnDzRefIdeal.main_arg0)
      ∧ r.2.mem ((c.tc : Thread Cert.FfnDzRefIdeal.nD Cert.FfnDzRefIdeal.τ).loc Cert.FfnDzRefIdeal.main_arg1) = m ((c.tc : Thread Cert.FfnDzRefIdeal.nD Cert.FfnDzRefIdeal.τ).loc Cert.FfnDzRefIdeal.main_arg1)
      ∧ r.2.mem ((c.tc : Thread Cert.FfnDzRefIdeal.nD Cert.FfnDzRefIdeal.τ).loc Cert.FfnDzRefIdeal.main_arg2) = m ((c.tc : Thread Cert.FfnDzRefIdeal.nD Cert.FfnDzRefIdeal.τ).loc Cert.FfnDzRefIdeal.main_arg2)
      ∧ r.2.mem ((c.tc : Thread Cert.FfnDzRefIdeal.nD Cert.FfnDzRefIdeal.τ).loc Cert.FfnDzRefIdeal.main_arg3) = m ((c.tc : Thread Cert.FfnDzRefIdeal.nD Cert.FfnDzRefIdeal.τ).loc Cert.FfnDzRefIdeal.main_arg3))
      ∧ r.2.sem = fun _ => 0)

def quiescent_FfnDzRefIdeal_pre_finite_f [hFfnDzRefIdeal : Cert.FfnDzRefIdeal.Facts] [hPre_finite_f : Cert.Pre_finite_f.Facts] : Prop :=
  ∀ (m : (ℓ : Loc Cert.FfnDzRefIdeal.nD Cert.FfnDzRefIdeal.τ Cert.FfnDzRefIdeal.sig) → Buf (Elt Ideal) ℓ) (g : Dev Cert.FfnDzRefIdeal.nD → PrngReg), Pre_FfnDzRefIdeal_finite_f m →
    θ_run (Cert.FfnDzRefIdeal.defs (F := Ideal)) (onTc (τ := Cert.FfnDzRefIdeal.τ) (Cert.FfnDzRefIdeal.main (F := Ideal))) ⟨m, fun _ => 0, g⟩ (fun r => (∀ c : Dev Cert.FfnDzRefIdeal.nD,
      r.2.mem ((c.tc : Thread Cert.FfnDzRefIdeal.nD Cert.FfnDzRefIdeal.τ).loc Cert.FfnDzRefIdeal.main_arg0) = m ((c.tc : Thread Cert.FfnDzRefIdeal.nD Cert.FfnDzRefIdeal.τ).loc Cert.FfnDzRefIdeal.main_arg0)
      ∧ r.2.mem ((c.tc : Thread Cert.FfnDzRefIdeal.nD Cert.FfnDzRefIdeal.τ).loc Cert.FfnDzRefIdeal.main_arg1) = m ((c.tc : Thread Cert.FfnDzRefIdeal.nD Cert.FfnDzRefIdeal.τ).loc Cert.FfnDzRefIdeal.main_arg1)
      ∧ r.2.mem ((c.tc : Thread Cert.FfnDzRefIdeal.nD Cert.FfnDzRefIdeal.τ).loc Cert.FfnDzRefIdeal.main_arg2) = m ((c.tc : Thread Cert.FfnDzRefIdeal.nD Cert.FfnDzRefIdeal.τ).loc Cert.FfnDzRefIdeal.main_arg2)
      ∧ r.2.mem ((c.tc : Thread Cert.FfnDzRefIdeal.nD Cert.FfnDzRefIdeal.τ).loc Cert.FfnDzRefIdeal.main_arg3) = m ((c.tc : Thread Cert.FfnDzRefIdeal.nD Cert.FfnDzRefIdeal.τ).loc Cert.FfnDzRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3)
      ∧ r.2.mem ((c.tc : Thread Cert.FfnDh.nD Cert.FfnDh.τ).loc Cert.FfnDh.main_arg4) = m ((c.tc : Thread Cert.FfnDh.nD Cert.FfnDh.τ).loc Cert.FfnDh.main_arg4)
      ∧ r.2.mem ((c.tc : Thread Cert.FfnDh.nD Cert.FfnDh.τ).loc Cert.FfnDh.main_arg5) = m ((c.tc : Thread Cert.FfnDh.nD Cert.FfnDh.τ).loc Cert.FfnDh.main_arg5))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
      ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3)
      ∧ r.2.mem ((c.tc : Thread Cert.FfnDhRefIdeal.nD Cert.FfnDhRefIdeal.τ).loc Cert.FfnDhRefIdeal.main_arg4) = m ((c.tc : Thread Cert.FfnDhRefIdeal.nD Cert.FfnDhRefIdeal.τ).loc Cert.FfnDhRefIdeal.main_arg4)
      ∧ r.2.mem ((c.tc : Thread Cert.FfnDhRefIdeal.nD Cert.FfnDhRefIdeal.τ).loc Cert.FfnDhRefIdeal.main_arg5) = m ((c.tc : Thread Cert.FfnDhRefIdeal.nD Cert.FfnDhRefIdeal.τ).loc Cert.FfnDhRefIdeal.main_arg5))
      ∧ r.2.sem = fun _ => 0)

def quiescent_MixDh [hMixDh : Cert.MixDh.Facts] : Prop :=
  ∀ (m : (ℓ : Loc Cert.MixDh.nD Cert.MixDh.τ Cert.MixDh.sig) → Buf (Elt Bits) ℓ) (g : Dev Cert.MixDh.nD → PrngReg), Pre_MixDh m →
    θ_run (Cert.MixDh.defs (F := Bits)) (onTc (τ := Cert.MixDh.τ) (Cert.MixDh.main (F := Bits))) ⟨m, fun _ => 0, g⟩ (fun r => (∀ c : Dev Cert.MixDh.nD,
      r.2.mem ((c.tc : Thread Cert.MixDh.nD Cert.MixDh.τ).loc Cert.MixDh.main_arg0) = m ((c.tc : Thread Cert.MixDh.nD Cert.MixDh.τ).loc Cert.MixDh.main_arg0)
      ∧ r.2.mem ((c.tc : Thread Cert.MixDh.nD Cert.MixDh.τ).loc Cert.MixDh.main_arg1) = m ((c.tc : Thread Cert.MixDh.nD Cert.MixDh.τ).loc Cert.MixDh.main_arg1)
      ∧ r.2.mem ((c.tc : Thread Cert.MixDh.nD Cert.MixDh.τ).loc Cert.MixDh.main_arg2) = m ((c.tc : Thread Cert.MixDh.nD Cert.MixDh.τ).loc Cert.MixDh.main_arg2)
      ∧ r.2.mem ((c.tc : Thread Cert.MixDh.nD Cert.MixDh.τ).loc Cert.MixDh.main_arg3) = m ((c.tc : Thread Cert.MixDh.nD Cert.MixDh.τ).loc Cert.MixDh.main_arg3)
      ∧ r.2.mem ((c.tc : Thread Cert.MixDh.nD Cert.MixDh.τ).loc Cert.MixDh.main_arg4) = m ((c.tc : Thread Cert.MixDh.nD Cert.MixDh.τ).loc Cert.MixDh.main_arg4))
      ∧ r.2.sem = fun _ => 0)

def quiescent_MixDhIdeal [hMixDhIdeal : Cert.MixDhIdeal.Facts] : Prop :=
  ∀ (m : (ℓ : Loc Cert.MixDhIdeal.nD Cert.MixDhIdeal.τ Cert.MixDhIdeal.sig) → Buf (Elt Ideal) ℓ) (g : Dev Cert.MixDhIdeal.nD → PrngReg), Pre_MixDhIdeal m →
    θ_run (Cert.MixDhIdeal.defs (F := Ideal)) (onTc (τ := Cert.MixDhIdeal.τ) (Cert.MixDhIdeal.main (F := Ideal))) ⟨m, fun _ => 0, g⟩ (fun r => (∀ c : Dev Cert.MixDhIdeal.nD,
      r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
      ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1)
      ∧ r.2.mem ((c.tc : Thread Cert.MixDhIdeal.nD Cert.MixDhIdeal.τ).loc Cert.MixDhIdeal.main_arg2) = m ((c.tc : Thread Cert.MixDhIdeal.nD Cert.MixDhIdeal.τ).loc Cert.MixDhIdeal.main_arg2)
      ∧ r.2.mem ((c.tc : Thread Cert.MixDhIdeal.nD Cert.MixDhIdeal.τ).loc Cert.MixDhIdeal.main_arg3) = m ((c.tc : Thread Cert.MixDhIdeal.nD Cert.MixDhIdeal.τ).loc Cert.MixDhIdeal.main_arg3)
      ∧ r.2.mem ((c.tc : Thread Cert.MixDhIdeal.nD Cert.MixDhIdeal.τ).loc Cert.MixDhIdeal.main_arg4) = m ((c.tc : Thread Cert.MixDhIdeal.nD Cert.MixDhIdeal.τ).loc Cert.MixDhIdeal.main_arg4))
      ∧ r.2.sem = fun _ => 0)

def quiescent_MixDhRefIdeal [hMixDhRefIdeal : Cert.MixDhRefIdeal.Facts] : Prop :=
  ∀ (m : (ℓ : Loc Cert.MixDhRefIdeal.nD Cert.MixDhRefIdeal.τ Cert.MixDhRefIdeal.sig) → Buf (Elt Ideal) ℓ) (g : Dev Cert.MixDhRefIdeal.nD → PrngReg), Pre_MixDhRefIdeal m →
    θ_run (Cert.MixDhRefIdeal.defs (F := Ideal)) (onTc (τ := Cert.MixDhRefIdeal.τ) (Cert.MixDhRefIdeal.main (F := Ideal))) ⟨m, fun _ => 0, g⟩ (fun r => (∀ c : Dev Cert.MixDhRefIdeal.nD,
      r.2.mem ((c.tc : Thread Cert.MixDhRefIdeal.nD Cert.MixDhRefIdeal.τ).loc Cert.MixDhRefIdeal.main_arg0) = m ((c.tc : Thread Cert.MixDhRefIdeal.nD Cert.MixDhRefIdeal.τ).loc Cert.MixDhRefIdeal.main_arg0)
      ∧ r.2.mem ((c.tc : Thread Cert.MixDhRefIdeal.nD Cert.MixDhRefIdeal.τ).loc Cert.MixDhRefIdeal.main_arg1) = m ((c.tc : Thread Cert.MixDhRefIdeal.nD Cert.MixDhRefIdeal.τ).loc Cert.MixDhRefIdeal.main_arg1)
      ∧ r.2.mem ((c.tc : Thread Cert.MixDhRefIdeal.nD Cert.MixDhRefIdeal.τ).loc Cert.MixDhRefIdeal.main_arg2) = m ((c.tc : Thread Cert.MixDhRefIdeal.nD Cert.MixDhRefIdeal.τ).loc Cert.MixDhRefIdeal.main_arg2)
      ∧ r.2.mem ((c.tc : Thread Cert.MixDhRefIdeal.nD Cert.MixDhRefIdeal.τ).loc Cert.MixDhRefIdeal.main_arg3) = m ((c.tc : Thread Cert.MixDhRefIdeal.nD Cert.MixDhRefIdeal.τ).loc Cert.MixDhRefIdeal.main_arg3)
      ∧ r.2.mem ((c.tc : Thread Cert.MixDhRefIdeal.nD Cert.MixDhRefIdeal.τ).loc Cert.MixDhRefIdeal.main_arg4) = m ((c.tc : Thread Cert.MixDhRefIdeal.nD Cert.MixDhRefIdeal.τ).loc Cert.MixDhRefIdeal.main_arg4))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1)
      ∧ r.2.mem ((c.tc : Thread Cert.NormMem.nD Cert.NormMem.τ).loc Cert.NormMem.main_arg2) = m ((c.tc : Thread Cert.NormMem.nD Cert.NormMem.τ).loc Cert.NormMem.main_arg2))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
      ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1)
      ∧ r.2.mem ((c.tc : Thread Cert.NormMemRefIdeal.nD Cert.NormMemRefIdeal.τ).loc Cert.NormMemRefIdeal.main_arg2) = m ((c.tc : Thread Cert.NormMemRefIdeal.nD Cert.NormMemRefIdeal.τ).loc Cert.NormMemRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_NormMm [hNormMm : Cert.NormMm.Facts] : Prop :=
  ∀ (m : (ℓ : Loc Cert.NormMm.nD Cert.NormMm.τ Cert.NormMm.sig) → Buf (Elt Bits) ℓ) (g : Dev Cert.NormMm.nD → PrngReg), Pre_NormMm m →
    θ_run (Cert.NormMm.defs (F := Bits)) (onTc (τ := Cert.NormMm.τ) (Cert.NormMm.main (F := Bits))) ⟨m, fun _ => 0, g⟩ (fun r => (∀ c : Dev Cert.NormMm.nD,
      r.2.mem ((c.tc : Thread Cert.NormMm.nD Cert.NormMm.τ).loc Cert.NormMm.main_arg0) = m ((c.tc : Thread Cert.NormMm.nD Cert.NormMm.τ).loc Cert.NormMm.main_arg0)
      ∧ r.2.mem ((c.tc : Thread Cert.NormMm.nD Cert.NormMm.τ).loc Cert.NormMm.main_arg1) = m ((c.tc : Thread Cert.NormMm.nD Cert.NormMm.τ).loc Cert.NormMm.main_arg1)
      ∧ r.2.mem ((c.tc : Thread Cert.NormMm.nD Cert.NormMm.τ).loc Cert.NormMm.main_arg2) = m ((c.tc : Thread Cert.NormMm.nD Cert.NormMm.τ).loc Cert.NormMm.main_arg2))
      ∧ r.2.sem = fun _ => 0)

def quiescent_NormMmIdeal [hNormMmIdeal : Cert.NormMmIdeal.Facts] : Prop :=
  ∀ (m : (ℓ : Loc Cert.NormMmIdeal.nD Cert.NormMmIdeal.τ Cert.NormMmIdeal.sig) → Buf (Elt Ideal) ℓ) (g : Dev Cert.NormMmIdeal.nD → PrngReg), Pre_NormMmIdeal m →
    θ_run (Cert.NormMmIdeal.defs (F := Ideal)) (onTc (τ := Cert.NormMmIdeal.τ) (Cert.NormMmIdeal.main (F := Ideal))) ⟨m, fun _ => 0, g⟩ (fun r => (∀ c : Dev Cert.NormMmIdeal.nD,
      r.2.mem ((c.tc : Thread Cert.NormMmIdeal.nD Cert.NormMmIdeal.τ).loc Cert.NormMmIdeal.main_arg0) = m ((c.tc : Thread Cert.NormMmIdeal.nD Cert.NormMmIdeal.τ).loc Cert.NormMmIdeal.main_arg0)
      ∧ r.2.mem ((c.tc : Thread Cert.NormMmIdeal.nD Cert.NormMmIdeal.τ).loc Cert.NormMmIdeal.main_arg1) = m ((c.tc : Thread Cert.NormMmIdeal.nD Cert.NormMmIdeal.τ).loc Cert.NormMmIdeal.main_arg1)
      ∧ r.2.mem ((c.tc : Thread Cert.NormMmIdeal.nD Cert.NormMmIdeal.τ).loc Cert.NormMmIdeal.main_arg2) = m ((c.tc : Thread Cert.NormMmIdeal.nD Cert.NormMmIdeal.τ).loc Cert.NormMmIdeal.main_arg2))
      ∧ r.2.sem = fun _ => 0)

def quiescent_NormMmRefIdeal [hNormMmRefIdeal : Cert.NormMmRefIdeal.Facts] : Prop :=
  ∀ (m : (ℓ : Loc Cert.NormMmRefIdeal.nD Cert.NormMmRefIdeal.τ Cert.NormMmRefIdeal.sig) → Buf (Elt Ideal) ℓ) (g : Dev Cert.NormMmRefIdeal.nD → PrngReg), Pre_NormMmRefIdeal m →
    θ_run (Cert.NormMmRefIdeal.defs (F := Ideal)) (onTc (τ := Cert.NormMmRefIdeal.τ) (Cert.NormMmRefIdeal.main (F := Ideal))) ⟨m, fun _ => 0, g⟩ (fun r => (∀ c : Dev Cert.NormMmRefIdeal.nD,
      r.2.mem ((c.tc : Thread Cert.NormMmRefIdeal.nD Cert.NormMmRefIdeal.τ).loc Cert.NormMmRefIdeal.main_arg0) = m ((c.tc : Thread Cert.NormMmRefIdeal.nD Cert.NormMmRefIdeal.τ).loc Cert.NormMmRefIdeal.main_arg0)
      ∧ r.2.mem ((c.tc : Thread Cert.NormMmRefIdeal.nD Cert.NormMmRefIdeal.τ).loc Cert.NormMmRefIdeal.main_arg1) = m ((c.tc : Thread Cert.NormMmRefIdeal.nD Cert.NormMmRefIdeal.τ).loc Cert.NormMmRefIdeal.main_arg1)
      ∧ r.2.mem ((c.tc : Thread Cert.NormMmRefIdeal.nD Cert.NormMmRefIdeal.τ).loc Cert.NormMmRefIdeal.main_arg2) = m ((c.tc : Thread Cert.NormMmRefIdeal.nD Cert.NormMmRefIdeal.τ).loc Cert.NormMmRefIdeal.main_arg2))
      ∧ r.2.sem = fun _ => 0)

def quiescent_MixBFwd [hMixBFwd : Cert.MixBFwd.Facts] : Prop :=
  ∀ (m : (ℓ : Loc Cert.MixBFwd.nD Cert.MixBFwd.τ Cert.MixBFwd.sig) → Buf (Elt Bits) ℓ) (g : Dev Cert.MixBFwd.nD → PrngReg), Pre_MixBFwd m →
    θ_run (Cert.MixBFwd.defs (F := Bits)) (onTc (τ := Cert.MixBFwd.τ) (Cert.MixBFwd.main (F := Bits))) ⟨m, fun _ => 0, g⟩ (fun r => (∀ c : Dev Cert.MixBFwd.nD,
      r.2.mem ((c.tc : Thread Cert.MixBFwd.nD Cert.MixBFwd.τ).loc Cert.MixBFwd.main_arg0) = m ((c.tc : Thread Cert.MixBFwd.nD Cert.MixBFwd.τ).loc Cert.MixBFwd.main_arg0)
      ∧ r.2.mem ((c.tc : Thread Cert.MixBFwd.nD Cert.MixBFwd.τ).loc Cert.MixBFwd.main_arg1) = m ((c.tc : Thread Cert.MixBFwd.nD Cert.MixBFwd.τ).loc Cert.MixBFwd.main_arg1)
      ∧ r.2.mem ((c.tc : Thread Cert.MixBFwd.nD Cert.MixBFwd.τ).loc Cert.MixBFwd.main_arg2) = m ((c.tc : Thread Cert.MixBFwd.nD Cert.MixBFwd.τ).loc Cert.MixBFwd.main_arg2)
      ∧ r.2.mem ((c.tc : Thread Cert.MixBFwd.nD Cert.MixBFwd.τ).loc Cert.MixBFwd.main_arg3) = m ((c.tc : Thread Cert.MixBFwd.nD Cert.MixBFwd.τ).loc Cert.MixBFwd.main_arg3))
      ∧ r.2.sem = fun _ => 0)

def quiescent_MixBFwdIdeal [hMixBFwdIdeal : Cert.MixBFwdIdeal.Facts] : Prop :=
  ∀ (m : (ℓ : Loc Cert.MixBFwdIdeal.nD Cert.MixBFwdIdeal.τ Cert.MixBFwdIdeal.sig) → Buf (Elt Ideal) ℓ) (g : Dev Cert.MixBFwdIdeal.nD → PrngReg), Pre_MixBFwdIdeal m →
    θ_run (Cert.MixBFwdIdeal.defs (F := Ideal)) (onTc (τ := Cert.MixBFwdIdeal.τ) (Cert.MixBFwdIdeal.main (F := Ideal))) ⟨m, fun _ => 0, g⟩ (fun r => (∀ c : Dev Cert.MixBFwdIdeal.nD,
      r.2.mem ((c.tc : Thread Cert.MixBFwdIdeal.nD Cert.MixBFwdIdeal.τ).loc Cert.MixBFwdIdeal.main_arg0) = m ((c.tc : Thread Cert.MixBFwdIdeal.nD Cert.MixBFwdIdeal.τ).loc Cert.MixBFwdIdeal.main_arg0)
      ∧ r.2.mem ((c.tc : Thread Cert.MixBFwdIdeal.nD Cert.MixBFwdIdeal.τ).loc Cert.MixBFwdIdeal.main_arg1) = m ((c.tc : Thread Cert.MixBFwdIdeal.nD Cert.MixBFwdIdeal.τ).loc Cert.MixBFwdIdeal.main_arg1)
      ∧ r.2.mem ((c.tc : Thread Cert.MixBFwdIdeal.nD Cert.MixBFwdIdeal.τ).loc Cert.MixBFwdIdeal.main_arg2) = m ((c.tc : Thread Cert.MixBFwdIdeal.nD Cert.MixBFwdIdeal.τ).loc Cert.MixBFwdIdeal.main_arg2)
      ∧ r.2.mem ((c.tc : Thread Cert.MixBFwdIdeal.nD Cert.MixBFwdIdeal.τ).loc Cert.MixBFwdIdeal.main_arg3) = m ((c.tc : Thread Cert.MixBFwdIdeal.nD Cert.MixBFwdIdeal.τ).loc Cert.MixBFwdIdeal.main_arg3))
      ∧ r.2.sem = fun _ => 0)

def quiescent_MixBFwdRefIdeal [hMixBFwdRefIdeal : Cert.MixBFwdRefIdeal.Facts] : Prop :=
  ∀ (m : (ℓ : Loc Cert.MixBFwdRefIdeal.nD Cert.MixBFwdRefIdeal.τ Cert.MixBFwdRefIdeal.sig) → Buf (Elt Ideal) ℓ) (g : Dev Cert.MixBFwdRefIdeal.nD → PrngReg), Pre_MixBFwdRefIdeal m →
    θ_run (Cert.MixBFwdRefIdeal.defs (F := Ideal)) (onTc (τ := Cert.MixBFwdRefIdeal.τ) (Cert.MixBFwdRefIdeal.main (F := Ideal))) ⟨m, fun _ => 0, g⟩ (fun r => (∀ c : Dev Cert.MixBFwdRefIdeal.nD,
      r.2.mem ((c.tc : Thread Cert.MixBFwdRefIdeal.nD Cert.MixBFwdRefIdeal.τ).loc Cert.MixBFwdRefIdeal.main_arg0) = m ((c.tc : Thread Cert.MixBFwdRefIdeal.nD Cert.MixBFwdRefIdeal.τ).loc Cert.MixBFwdRefIdeal.main_arg0)
      ∧ r.2.mem ((c.tc : Thread Cert.MixBFwdRefIdeal.nD Cert.MixBFwdRefIdeal.τ).loc Cert.MixBFwdRefIdeal.main_arg1) = m ((c.tc : Thread Cert.MixBFwdRefIdeal.nD Cert.MixBFwdRefIdeal.τ).loc Cert.MixBFwdRefIdeal.main_arg1)
      ∧ r.2.mem ((c.tc : Thread Cert.MixBFwdRefIdeal.nD Cert.MixBFwdRefIdeal.τ).loc Cert.MixBFwdRefIdeal.main_arg2) = m ((c.tc : Thread Cert.MixBFwdRefIdeal.nD Cert.MixBFwdRefIdeal.τ).loc Cert.MixBFwdRefIdeal.main_arg2)
      ∧ r.2.mem ((c.tc : Thread Cert.MixBFwdRefIdeal.nD Cert.MixBFwdRefIdeal.τ).loc Cert.MixBFwdRefIdeal.main_arg3) = m ((c.tc : Thread Cert.MixBFwdRefIdeal.nD Cert.MixBFwdRefIdeal.τ).loc Cert.MixBFwdRefIdeal.main_arg3))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_MixAFwd [hMixAFwd : Cert.MixAFwd.Facts] : Prop :=
  ∀ (m : (ℓ : Loc Cert.MixAFwd.nD Cert.MixAFwd.τ Cert.MixAFwd.sig) → Buf (Elt Bits) ℓ) (g : Dev Cert.MixAFwd.nD → PrngReg), Pre_MixAFwd m →
    θ_run (Cert.MixAFwd.defs (F := Bits)) (onTc (τ := Cert.MixAFwd.τ) (Cert.MixAFwd.main (F := Bits))) ⟨m, fun _ => 0, g⟩ (fun r => (∀ c : Dev Cert.MixAFwd.nD,
      r.2.mem ((c.tc : Thread Cert.MixAFwd.nD Cert.MixAFwd.τ).loc Cert.MixAFwd.main_arg0) = m ((c.tc : Thread Cert.MixAFwd.nD Cert.MixAFwd.τ).loc Cert.MixAFwd.main_arg0)
      ∧ r.2.mem ((c.tc : Thread Cert.MixAFwd.nD Cert.MixAFwd.τ).loc Cert.MixAFwd.main_arg1) = m ((c.tc : Thread Cert.MixAFwd.nD Cert.MixAFwd.τ).loc Cert.MixAFwd.main_arg1))
      ∧ r.2.sem = fun _ => 0)

def quiescent_MixAFwdIdeal [hMixAFwdIdeal : Cert.MixAFwdIdeal.Facts] : Prop :=
  ∀ (m : (ℓ : Loc Cert.MixAFwdIdeal.nD Cert.MixAFwdIdeal.τ Cert.MixAFwdIdeal.sig) → Buf (Elt Ideal) ℓ) (g : Dev Cert.MixAFwdIdeal.nD → PrngReg), Pre_MixAFwdIdeal m →
    θ_run (Cert.MixAFwdIdeal.defs (F := Ideal)) (onTc (τ := Cert.MixAFwdIdeal.τ) (Cert.MixAFwdIdeal.main (F := Ideal))) ⟨m, fun _ => 0, g⟩ (fun r => (∀ c : Dev Cert.MixAFwdIdeal.nD,
      r.2.mem ((c.tc : Thread Cert.MixAFwdIdeal.nD Cert.MixAFwdIdeal.τ).loc Cert.MixAFwdIdeal.main_arg0) = m ((c.tc : Thread Cert.MixAFwdIdeal.nD Cert.MixAFwdIdeal.τ).loc Cert.MixAFwdIdeal.main_arg0)
      ∧ r.2.mem ((c.tc : Thread Cert.MixAFwdIdeal.nD Cert.MixAFwdIdeal.τ).loc Cert.MixAFwdIdeal.main_arg1) = m ((c.tc : Thread Cert.MixAFwdIdeal.nD Cert.MixAFwdIdeal.τ).loc Cert.MixAFwdIdeal.main_arg1))
      ∧ r.2.sem = fun _ => 0)

def quiescent_MixAFwdRefIdeal [hMixAFwdRefIdeal : Cert.MixAFwdRefIdeal.Facts] : Prop :=
  ∀ (m : (ℓ : Loc Cert.MixAFwdRefIdeal.nD Cert.MixAFwdRefIdeal.τ Cert.MixAFwdRefIdeal.sig) → Buf (Elt Ideal) ℓ) (g : Dev Cert.MixAFwdRefIdeal.nD → PrngReg), Pre_MixAFwdRefIdeal m →
    θ_run (Cert.MixAFwdRefIdeal.defs (F := Ideal)) (onTc (τ := Cert.MixAFwdRefIdeal.τ) (Cert.MixAFwdRefIdeal.main (F := Ideal))) ⟨m, fun _ => 0, g⟩ (fun r => (∀ c : Dev Cert.MixAFwdRefIdeal.nD,
      r.2.mem ((c.tc : Thread Cert.MixAFwdRefIdeal.nD Cert.MixAFwdRefIdeal.τ).loc Cert.MixAFwdRefIdeal.main_arg0) = m ((c.tc : Thread Cert.MixAFwdRefIdeal.nD Cert.MixAFwdRefIdeal.τ).loc Cert.MixAFwdRefIdeal.main_arg0)
      ∧ r.2.mem ((c.tc : Thread Cert.MixAFwdRefIdeal.nD Cert.MixAFwdRefIdeal.τ).loc Cert.MixAFwdRefIdeal.main_arg1) = m ((c.tc : Thread Cert.MixAFwdRefIdeal.nD Cert.MixAFwdRefIdeal.τ).loc Cert.MixAFwdRefIdeal.main_arg1))
      ∧ r.2.sem = fun _ => 0)

def quiescent_MixDFwd [hMixDFwd : Cert.MixDFwd.Facts] : Prop :=
  ∀ (m : (ℓ : Loc Cert.MixDFwd.nD Cert.MixDFwd.τ Cert.MixDFwd.sig) → Buf (Elt Bits) ℓ) (g : Dev Cert.MixDFwd.nD → PrngReg), Pre_MixDFwd m →
    θ_run (Cert.MixDFwd.defs (F := Bits)) (onTc (τ := Cert.MixDFwd.τ) (Cert.MixDFwd.main (F := Bits))) ⟨m, fun _ => 0, g⟩ (fun r => (∀ c : Dev Cert.MixDFwd.nD,
      r.2.mem ((c.tc : Thread Cert.MixDFwd.nD Cert.MixDFwd.τ).loc Cert.MixDFwd.main_arg0) = m ((c.tc : Thread Cert.MixDFwd.nD Cert.MixDFwd.τ).loc Cert.MixDFwd.main_arg0)
      ∧ r.2.mem ((c.tc : Thread Cert.MixDFwd.nD Cert.MixDFwd.τ).loc Cert.MixDFwd.main_arg1) = m ((c.tc : Thread Cert.MixDFwd.nD Cert.MixDFwd.τ).loc Cert.MixDFwd.main_arg1)
      ∧ r.2.mem ((c.tc : Thread Cert.MixDFwd.nD Cert.MixDFwd.τ).loc Cert.MixDFwd.main_arg2) = m ((c.tc : Thread Cert.MixDFwd.nD Cert.MixDFwd.τ).loc Cert.MixDFwd.main_arg2))
      ∧ r.2.sem = fun _ => 0)

def quiescent_MixDFwdIdeal [hMixDFwdIdeal : Cert.MixDFwdIdeal.Facts] : Prop :=
  ∀ (m : (ℓ : Loc Cert.MixDFwdIdeal.nD Cert.MixDFwdIdeal.τ Cert.MixDFwdIdeal.sig) → Buf (Elt Ideal) ℓ) (g : Dev Cert.MixDFwdIdeal.nD → PrngReg), Pre_MixDFwdIdeal m →
    θ_run (Cert.MixDFwdIdeal.defs (F := Ideal)) (onTc (τ := Cert.MixDFwdIdeal.τ) (Cert.MixDFwdIdeal.main (F := Ideal))) ⟨m, fun _ => 0, g⟩ (fun r => (∀ c : Dev Cert.MixDFwdIdeal.nD,
      r.2.mem ((c.tc : Thread Cert.MixDFwdIdeal.nD Cert.MixDFwdIdeal.τ).loc Cert.MixDFwdIdeal.main_arg0) = m ((c.tc : Thread Cert.MixDFwdIdeal.nD Cert.MixDFwdIdeal.τ).loc Cert.MixDFwdIdeal.main_arg0)
      ∧ r.2.mem ((c.tc : Thread Cert.MixDFwdIdeal.nD Cert.MixDFwdIdeal.τ).loc Cert.MixDFwdIdeal.main_arg1) = m ((c.tc : Thread Cert.MixDFwdIdeal.nD Cert.MixDFwdIdeal.τ).loc Cert.MixDFwdIdeal.main_arg1)
      ∧ r.2.mem ((c.tc : Thread Cert.MixDFwdIdeal.nD Cert.MixDFwdIdeal.τ).loc Cert.MixDFwdIdeal.main_arg2) = m ((c.tc : Thread Cert.MixDFwdIdeal.nD Cert.MixDFwdIdeal.τ).loc Cert.MixDFwdIdeal.main_arg2))
      ∧ r.2.sem = fun _ => 0)

def quiescent_MixDFwdIdeal_pre_finite_t [hMixDFwdIdeal : Cert.MixDFwdIdeal.Facts] [hPre_finite_t : Cert.Pre_finite_t.Facts] : Prop :=
  ∀ (m : (ℓ : Loc Cert.MixDFwdIdeal.nD Cert.MixDFwdIdeal.τ Cert.MixDFwdIdeal.sig) → Buf (Elt Ideal) ℓ) (g : Dev Cert.MixDFwdIdeal.nD → PrngReg), Pre_MixDFwdIdeal_finite_t m →
    θ_run (Cert.MixDFwdIdeal.defs (F := Ideal)) (onTc (τ := Cert.MixDFwdIdeal.τ) (Cert.MixDFwdIdeal.main (F := Ideal))) ⟨m, fun _ => 0, g⟩ (fun r => (∀ c : Dev Cert.MixDFwdIdeal.nD,
      r.2.mem ((c.tc : Thread Cert.MixDFwdIdeal.nD Cert.MixDFwdIdeal.τ).loc Cert.MixDFwdIdeal.main_arg0) = m ((c.tc : Thread Cert.MixDFwdIdeal.nD Cert.MixDFwdIdeal.τ).loc Cert.MixDFwdIdeal.main_arg0)
      ∧ r.2.mem ((c.tc : Thread Cert.MixDFwdIdeal.nD Cert.MixDFwdIdeal.τ).loc Cert.MixDFwdIdeal.main_arg1) = m ((c.tc : Thread Cert.MixDFwdIdeal.nD Cert.MixDFwdIdeal.τ).loc Cert.MixDFwdIdeal.main_arg1)
      ∧ r.2.mem ((c.tc : Thread Cert.MixDFwdIdeal.nD Cert.MixDFwdIdeal.τ).loc Cert.MixDFwdIdeal.main_arg2) = m ((c.tc : Thread Cert.MixDFwdIdeal.nD Cert.MixDFwdIdeal.τ).loc Cert.MixDFwdIdeal.main_arg2))
      ∧ r.2.sem = fun _ => 0)

def quiescent_MixDFwdRefIdeal [hMixDFwdRefIdeal : Cert.MixDFwdRefIdeal.Facts] : Prop :=
  ∀ (m : (ℓ : Loc Cert.MixDFwdRefIdeal.nD Cert.MixDFwdRefIdeal.τ Cert.MixDFwdRefIdeal.sig) → Buf (Elt Ideal) ℓ) (g : Dev Cert.MixDFwdRefIdeal.nD → PrngReg), Pre_MixDFwdRefIdeal m →
    θ_run (Cert.MixDFwdRefIdeal.defs (F := Ideal)) (onTc (τ := Cert.MixDFwdRefIdeal.τ) (Cert.MixDFwdRefIdeal.main (F := Ideal))) ⟨m, fun _ => 0, g⟩ (fun r => (∀ c : Dev Cert.MixDFwdRefIdeal.nD,
      r.2.mem ((c.tc : Thread Cert.MixDFwdRefIdeal.nD Cert.MixDFwdRefIdeal.τ).loc Cert.MixDFwdRefIdeal.main_arg0) = m ((c.tc : Thread Cert.MixDFwdRefIdeal.nD Cert.MixDFwdRefIdeal.τ).loc Cert.MixDFwdRefIdeal.main_arg0)
      ∧ r.2.mem ((c.tc : Thread Cert.MixDFwdRefIdeal.nD Cert.MixDFwdRefIdeal.τ).loc Cert.MixDFwdRefIdeal.main_arg1) = m ((c.tc : Thread Cert.MixDFwdRefIdeal.nD Cert.MixDFwdRefIdeal.τ).loc Cert.MixDFwdRefIdeal.main_arg1)
      ∧ r.2.mem ((c.tc : Thread Cert.MixDFwdRefIdeal.nD Cert.MixDFwdRefIdeal.τ).loc Cert.MixDFwdRefIdeal.main_arg2) = m ((c.tc : Thread Cert.MixDFwdRefIdeal.nD Cert.MixDFwdRefIdeal.τ).loc Cert.MixDFwdRefIdeal.main_arg2))
      ∧ r.2.sem = fun _ => 0)

def quiescent_MixDFwdRefIdeal_pre_finite_t [hMixDFwdRefIdeal : Cert.MixDFwdRefIdeal.Facts] [hPre_finite_t : Cert.Pre_finite_t.Facts] : Prop :=
  ∀ (m : (ℓ : Loc Cert.MixDFwdRefIdeal.nD Cert.MixDFwdRefIdeal.τ Cert.MixDFwdRefIdeal.sig) → Buf (Elt Ideal) ℓ) (g : Dev Cert.MixDFwdRefIdeal.nD → PrngReg), Pre_MixDFwdRefIdeal_finite_t m →
    θ_run (Cert.MixDFwdRefIdeal.defs (F := Ideal)) (onTc (τ := Cert.MixDFwdRefIdeal.τ) (Cert.MixDFwdRefIdeal.main (F := Ideal))) ⟨m, fun _ => 0, g⟩ (fun r => (∀ c : Dev Cert.MixDFwdRefIdeal.nD,
      r.2.mem ((c.tc : Thread Cert.MixDFwdRefIdeal.nD Cert.MixDFwdRefIdeal.τ).loc Cert.MixDFwdRefIdeal.main_arg0) = m ((c.tc : Thread Cert.MixDFwdRefIdeal.nD Cert.MixDFwdRefIdeal.τ).loc Cert.MixDFwdRefIdeal.main_arg0)
      ∧ r.2.mem ((c.tc : Thread Cert.MixDFwdRefIdeal.nD Cert.MixDFwdRefIdeal.τ).loc Cert.MixDFwdRefIdeal.main_arg1) = m ((c.tc : Thread Cert.MixDFwdRefIdeal.nD Cert.MixDFwdRefIdeal.τ).loc Cert.MixDFwdRefIdeal.main_arg1)
      ∧ r.2.mem ((c.tc : Thread Cert.MixDFwdRefIdeal.nD Cert.MixDFwdRefIdeal.τ).loc Cert.MixDFwdRefIdeal.main_arg2) = m ((c.tc : Thread Cert.MixDFwdRefIdeal.nD Cert.MixDFwdRefIdeal.τ).loc Cert.MixDFwdRefIdeal.main_arg2))
      ∧ r.2.sem = fun _ => 0)

def quiescent_MixCFwd [hMixCFwd : Cert.MixCFwd.Facts] : Prop :=
  ∀ (m : (ℓ : Loc Cert.MixCFwd.nD Cert.MixCFwd.τ Cert.MixCFwd.sig) → Buf (Elt Bits) ℓ) (g : Dev Cert.MixCFwd.nD → PrngReg), Pre_MixCFwd m →
    θ_run (Cert.MixCFwd.defs (F := Bits)) (onTc (τ := Cert.MixCFwd.τ) (Cert.MixCFwd.main (F := Bits))) ⟨m, fun _ => 0, g⟩ (fun r => (∀ c : Dev Cert.MixCFwd.nD,
      r.2.mem ((c.tc : Thread Cert.MixCFwd.nD Cert.MixCFwd.τ).loc Cert.MixCFwd.main_arg0) = m ((c.tc : Thread Cert.MixCFwd.nD Cert.MixCFwd.τ).loc Cert.MixCFwd.main_arg0)
      ∧ r.2.mem ((c.tc : Thread Cert.MixCFwd.nD Cert.MixCFwd.τ).loc Cert.MixCFwd.main_arg1) = m ((c.tc : Thread Cert.MixCFwd.nD Cert.MixCFwd.τ).loc Cert.MixCFwd.main_arg1)
      ∧ r.2.mem ((c.tc : Thread Cert.MixCFwd.nD Cert.MixCFwd.τ).loc Cert.MixCFwd.main_arg2) = m ((c.tc : Thread Cert.MixCFwd.nD Cert.MixCFwd.τ).loc Cert.MixCFwd.main_arg2)
      ∧ r.2.mem ((c.tc : Thread Cert.MixCFwd.nD Cert.MixCFwd.τ).loc Cert.MixCFwd.main_arg3) = m ((c.tc : Thread Cert.MixCFwd.nD Cert.MixCFwd.τ).loc Cert.MixCFwd.main_arg3))
      ∧ r.2.sem = fun _ => 0)

def quiescent_MixCFwdIdeal [hMixCFwdIdeal : Cert.MixCFwdIdeal.Facts] : Prop :=
  ∀ (m : (ℓ : Loc Cert.MixCFwdIdeal.nD Cert.MixCFwdIdeal.τ Cert.MixCFwdIdeal.sig) → Buf (Elt Ideal) ℓ) (g : Dev Cert.MixCFwdIdeal.nD → PrngReg), Pre_MixCFwdIdeal m →
    θ_run (Cert.MixCFwdIdeal.defs (F := Ideal)) (onTc (τ := Cert.MixCFwdIdeal.τ) (Cert.MixCFwdIdeal.main (F := Ideal))) ⟨m, fun _ => 0, g⟩ (fun r => (∀ c : Dev Cert.MixCFwdIdeal.nD,
      r.2.mem ((c.tc : Thread Cert.MixCFwdIdeal.nD Cert.MixCFwdIdeal.τ).loc Cert.MixCFwdIdeal.main_arg0) = m ((c.tc : Thread Cert.MixCFwdIdeal.nD Cert.MixCFwdIdeal.τ).loc Cert.MixCFwdIdeal.main_arg0)
      ∧ r.2.mem ((c.tc : Thread Cert.MixCFwdIdeal.nD Cert.MixCFwdIdeal.τ).loc Cert.MixCFwdIdeal.main_arg1) = m ((c.tc : Thread Cert.MixCFwdIdeal.nD Cert.MixCFwdIdeal.τ).loc Cert.MixCFwdIdeal.main_arg1)
      ∧ r.2.mem ((c.tc : Thread Cert.MixCFwdIdeal.nD Cert.MixCFwdIdeal.τ).loc Cert.MixCFwdIdeal.main_arg2) = m ((c.tc : Thread Cert.MixCFwdIdeal.nD Cert.MixCFwdIdeal.τ).loc Cert.MixCFwdIdeal.main_arg2)
      ∧ r.2.mem ((c.tc : Thread Cert.MixCFwdIdeal.nD Cert.MixCFwdIdeal.τ).loc Cert.MixCFwdIdeal.main_arg3) = m ((c.tc : Thread Cert.MixCFwdIdeal.nD Cert.MixCFwdIdeal.τ).loc Cert.MixCFwdIdeal.main_arg3))
      ∧ r.2.sem = fun _ => 0)

def quiescent_MixCFwdRefIdeal [hMixCFwdRefIdeal : Cert.MixCFwdRefIdeal.Facts] : Prop :=
  ∀ (m : (ℓ : Loc Cert.MixCFwdRefIdeal.nD Cert.MixCFwdRefIdeal.τ Cert.MixCFwdRefIdeal.sig) → Buf (Elt Ideal) ℓ) (g : Dev Cert.MixCFwdRefIdeal.nD → PrngReg), Pre_MixCFwdRefIdeal m →
    θ_run (Cert.MixCFwdRefIdeal.defs (F := Ideal)) (onTc (τ := Cert.MixCFwdRefIdeal.τ) (Cert.MixCFwdRefIdeal.main (F := Ideal))) ⟨m, fun _ => 0, g⟩ (fun r => (∀ c : Dev Cert.MixCFwdRefIdeal.nD,
      r.2.mem ((c.tc : Thread Cert.MixCFwdRefIdeal.nD Cert.MixCFwdRefIdeal.τ).loc Cert.MixCFwdRefIdeal.main_arg0) = m ((c.tc : Thread Cert.MixCFwdRefIdeal.nD Cert.MixCFwdRefIdeal.τ).loc Cert.MixCFwdRefIdeal.main_arg0)
      ∧ r.2.mem ((c.tc : Thread Cert.MixCFwdRefIdeal.nD Cert.MixCFwdRefIdeal.τ).loc Cert.MixCFwdRefIdeal.main_arg1) = m ((c.tc : Thread Cert.MixCFwdRefIdeal.nD Cert.MixCFwdRefIdeal.τ).loc Cert.MixCFwdRefIdeal.main_arg1)
      ∧ r.2.mem ((c.tc : Thread Cert.MixCFwdRefIdeal.nD Cert.MixCFwdRefIdeal.τ).loc Cert.MixCFwdRefIdeal.main_arg2) = m ((c.tc : Thread Cert.MixCFwdRefIdeal.nD Cert.MixCFwdRefIdeal.τ).loc Cert.MixCFwdRefIdeal.main_arg2)
      ∧ r.2.mem ((c.tc : Thread Cert.MixCFwdRefIdeal.nD Cert.MixCFwdRefIdeal.τ).loc Cert.MixCFwdRefIdeal.main_arg3) = m ((c.tc : Thread Cert.MixCFwdRefIdeal.nD Cert.MixCFwdRefIdeal.τ).loc Cert.MixCFwdRefIdeal.main_arg3))
      ∧ r.2.sem = fun _ => 0)

def quiescent_MatRes [hMatRes : Cert.MatRes.Facts] : Prop :=
  ∀ (m : (ℓ : Loc Cert.MatRes.nD Cert.MatRes.τ Cert.MatRes.sig) → Buf (Elt Bits) ℓ) (g : Dev Cert.MatRes.nD → PrngReg), Pre_MatRes m →
    θ_run (Cert.MatRes.defs (F := Bits)) (onTc (τ := Cert.MatRes.τ) (Cert.MatRes.main (F := Bits))) ⟨m, fun _ => 0, g⟩ (fun r => (∀ c : Dev Cert.MatRes.nD,
      r.2.mem ((c.tc : Thread Cert.MatRes.nD Cert.MatRes.τ).loc Cert.MatRes.main_arg0) = m ((c.tc : Thread Cert.MatRes.nD Cert.MatRes.τ).loc Cert.MatRes.main_arg0)
      ∧ r.2.mem ((c.tc : Thread Cert.MatRes.nD Cert.MatRes.τ).loc Cert.MatRes.main_arg1) = m ((c.tc : Thread Cert.MatRes.nD Cert.MatRes.τ).loc Cert.MatRes.main_arg1)
      ∧ r.2.mem ((c.tc : Thread Cert.MatRes.nD Cert.MatRes.τ).loc Cert.MatRes.main_arg2) = m ((c.tc : Thread Cert.MatRes.nD Cert.MatRes.τ).loc Cert.MatRes.main_arg2))
      ∧ r.2.sem = fun _ => 0)

def quiescent_MatResIdeal [hMatResIdeal : Cert.MatResIdeal.Facts] : Prop :=
  ∀ (m : (ℓ : Loc Cert.MatResIdeal.nD Cert.MatResIdeal.τ Cert.MatResIdeal.sig) → Buf (Elt Ideal) ℓ) (g : Dev Cert.MatResIdeal.nD → PrngReg), Pre_MatResIdeal m →
    θ_run (Cert.MatResIdeal.defs (F := Ideal)) (onTc (τ := Cert.MatResIdeal.τ) (Cert.MatResIdeal.main (F := Ideal))) ⟨m, fun _ => 0, g⟩ (fun r => (∀ c : Dev Cert.MatResIdeal.nD,
      r.2.mem ((c.tc : Thread Cert.MatResIdeal.nD Cert.MatResIdeal.τ).loc Cert.MatResIdeal.main_arg0) = m ((c.tc : Thread Cert.MatResIdeal.nD Cert.MatResIdeal.τ).loc Cert.MatResIdeal.main_arg0)
      ∧ r.2.mem ((c.tc : Thread Cert.MatResIdeal.nD Cert.MatResIdeal.τ).loc Cert.MatResIdeal.main_arg1) = m ((c.tc : Thread Cert.MatResIdeal.nD Cert.MatResIdeal.τ).loc Cert.MatResIdeal.main_arg1)
      ∧ r.2.mem ((c.tc : Thread Cert.MatResIdeal.nD Cert.MatResIdeal.τ).loc Cert.MatResIdeal.main_arg2) = m ((c.tc : Thread Cert.MatResIdeal.nD Cert.MatResIdeal.τ).loc Cert.MatResIdeal.main_arg2))
      ∧ r.2.sem = fun _ => 0)

def quiescent_MatResRefIdeal [hMatResRefIdeal : Cert.MatResRefIdeal.Facts] : Prop :=
  ∀ (m : (ℓ : Loc Cert.MatResRefIdeal.nD Cert.MatResRefIdeal.τ Cert.MatResRefIdeal.sig) → Buf (Elt Ideal) ℓ) (g : Dev Cert.MatResRefIdeal.nD → PrngReg), Pre_MatResRefIdeal m →
    θ_run (Cert.MatResRefIdeal.defs (F := Ideal)) (onTc (τ := Cert.MatResRefIdeal.τ) (Cert.MatResRefIdeal.main (F := Ideal))) ⟨m, fun _ => 0, g⟩ (fun r => (∀ c : Dev Cert.MatResRefIdeal.nD,
      r.2.mem ((c.tc : Thread Cert.MatResRefIdeal.nD Cert.MatResRefIdeal.τ).loc Cert.MatResRefIdeal.main_arg0) = m ((c.tc : Thread Cert.MatResRefIdeal.nD Cert.MatResRefIdeal.τ).loc Cert.MatResRefIdeal.main_arg0)
      ∧ r.2.mem ((c.tc : Thread Cert.MatResRefIdeal.nD Cert.MatResRefIdeal.τ).loc Cert.MatResRefIdeal.main_arg1) = m ((c.tc : Thread Cert.MatResRefIdeal.nD Cert.MatResRefIdeal.τ).loc Cert.MatResRefIdeal.main_arg1)
      ∧ r.2.mem ((c.tc : Thread Cert.MatResRefIdeal.nD Cert.MatResRefIdeal.τ).loc Cert.MatResRefIdeal.main_arg2) = m ((c.tc : Thread Cert.MatResRefIdeal.nD Cert.MatResRefIdeal.τ).loc Cert.MatResRefIdeal.main_arg2))
      ∧ r.2.sem = fun _ => 0)

def quiescent_MatNt [hMatNt : Cert.MatNt.Facts] : Prop :=
  ∀ (m : (ℓ : Loc Cert.MatNt.nD Cert.MatNt.τ Cert.MatNt.sig) → Buf (Elt Bits) ℓ) (g : Dev Cert.MatNt.nD → PrngReg), Pre_MatNt m →
    θ_run (Cert.MatNt.defs (F := Bits)) (onTc (τ := Cert.MatNt.τ) (Cert.MatNt.main (F := Bits))) ⟨m, fun _ => 0, g⟩ (fun r => (∀ c : Dev Cert.MatNt.nD,
      r.2.mem ((c.tc : Thread Cert.MatNt.nD Cert.MatNt.τ).loc Cert.MatNt.main_arg0) = m ((c.tc : Thread Cert.MatNt.nD Cert.MatNt.τ).loc Cert.MatNt.main_arg0)
      ∧ r.2.mem ((c.tc : Thread Cert.MatNt.nD Cert.MatNt.τ).loc Cert.MatNt.main_arg1) = m ((c.tc : Thread Cert.MatNt.nD Cert.MatNt.τ).loc Cert.MatNt.main_arg1))
      ∧ r.2.sem = fun _ => 0)

def quiescent_MatNtIdeal [hMatNtIdeal : Cert.MatNtIdeal.Facts] : Prop :=
  ∀ (m : (ℓ : Loc Cert.MatNtIdeal.nD Cert.MatNtIdeal.τ Cert.MatNtIdeal.sig) → Buf (Elt Ideal) ℓ) (g : Dev Cert.MatNtIdeal.nD → PrngReg), Pre_MatNtIdeal m →
    θ_run (Cert.MatNtIdeal.defs (F := Ideal)) (onTc (τ := Cert.MatNtIdeal.τ) (Cert.MatNtIdeal.main (F := Ideal))) ⟨m, fun _ => 0, g⟩ (fun r => (∀ c : Dev Cert.MatNtIdeal.nD,
      r.2.mem ((c.tc : Thread Cert.MatNtIdeal.nD Cert.MatNtIdeal.τ).loc Cert.MatNtIdeal.main_arg0) = m ((c.tc : Thread Cert.MatNtIdeal.nD Cert.MatNtIdeal.τ).loc Cert.MatNtIdeal.main_arg0)
      ∧ r.2.mem ((c.tc : Thread Cert.MatNtIdeal.nD Cert.MatNtIdeal.τ).loc Cert.MatNtIdeal.main_arg1) = m ((c.tc : Thread Cert.MatNtIdeal.nD Cert.MatNtIdeal.τ).loc Cert.MatNtIdeal.main_arg1))
      ∧ r.2.sem = fun _ => 0)

def quiescent_MatNtRefIdeal [hMatNtRefIdeal : Cert.MatNtRefIdeal.Facts] : Prop :=
  ∀ (m : (ℓ : Loc Cert.MatNtRefIdeal.nD Cert.MatNtRefIdeal.τ Cert.MatNtRefIdeal.sig) → Buf (Elt Ideal) ℓ) (g : Dev Cert.MatNtRefIdeal.nD → PrngReg), Pre_MatNtRefIdeal m →
    θ_run (Cert.MatNtRefIdeal.defs (F := Ideal)) (onTc (τ := Cert.MatNtRefIdeal.τ) (Cert.MatNtRefIdeal.main (F := Ideal))) ⟨m, fun _ => 0, g⟩ (fun r => (∀ c : Dev Cert.MatNtRefIdeal.nD,
      r.2.mem ((c.tc : Thread Cert.MatNtRefIdeal.nD Cert.MatNtRefIdeal.τ).loc Cert.MatNtRefIdeal.main_arg0) = m ((c.tc : Thread Cert.MatNtRefIdeal.nD Cert.MatNtRefIdeal.τ).loc Cert.MatNtRefIdeal.main_arg0)
      ∧ r.2.mem ((c.tc : Thread Cert.MatNtRefIdeal.nD Cert.MatNtRefIdeal.τ).loc Cert.MatNtRefIdeal.main_arg1) = m ((c.tc : Thread Cert.MatNtRefIdeal.nD Cert.MatNtRefIdeal.τ).loc Cert.MatNtRefIdeal.main_arg1))
      ∧ r.2.sem = fun _ => 0)

def quiescent_MatTn [hMatTn : Cert.MatTn.Facts] : Prop :=
  ∀ (m : (ℓ : Loc Cert.MatTn.nD Cert.MatTn.τ Cert.MatTn.sig) → Buf (Elt Bits) ℓ) (g : Dev Cert.MatTn.nD → PrngReg), Pre_MatTn m →
    θ_run (Cert.MatTn.defs (F := Bits)) (onTc (τ := Cert.MatTn.τ) (Cert.MatTn.main (F := Bits))) ⟨m, fun _ => 0, g⟩ (fun r => (∀ c : Dev Cert.MatTn.nD,
      r.2.mem ((c.tc : Thread Cert.MatTn.nD Cert.MatTn.τ).loc Cert.MatTn.main_arg0) = m ((c.tc : Thread Cert.MatTn.nD Cert.MatTn.τ).loc Cert.MatTn.main_arg0)
      ∧ r.2.mem ((c.tc : Thread Cert.MatTn.nD Cert.MatTn.τ).loc Cert.MatTn.main_arg1) = m ((c.tc : Thread Cert.MatTn.nD Cert.MatTn.τ).loc Cert.MatTn.main_arg1)
      ∧ r.2.mem ((c.tc : Thread Cert.MatTn.nD Cert.MatTn.τ).loc Cert.MatTn.main_arg2) = m ((c.tc : Thread Cert.MatTn.nD Cert.MatTn.τ).loc Cert.MatTn.main_arg2))
      ∧ r.2.sem = fun _ => 0)

def quiescent_MatTnIdeal [hMatTnIdeal : Cert.MatTnIdeal.Facts] : Prop :=
  ∀ (m : (ℓ : Loc Cert.MatTnIdeal.nD Cert.MatTnIdeal.τ Cert.MatTnIdeal.sig) → Buf (Elt Ideal) ℓ) (g : Dev Cert.MatTnIdeal.nD → PrngReg), Pre_MatTnIdeal m →
    θ_run (Cert.MatTnIdeal.defs (F := Ideal)) (onTc (τ := Cert.MatTnIdeal.τ) (Cert.MatTnIdeal.main (F := Ideal))) ⟨m, fun _ => 0, g⟩ (fun r => (∀ c : Dev Cert.MatTnIdeal.nD,
      r.2.mem ((c.tc : Thread Cert.MatTnIdeal.nD Cert.MatTnIdeal.τ).loc Cert.MatTnIdeal.main_arg0) = m ((c.tc : Thread Cert.MatTnIdeal.nD Cert.MatTnIdeal.τ).loc Cert.MatTnIdeal.main_arg0)
      ∧ r.2.mem ((c.tc : Thread Cert.MatTnIdeal.nD Cert.MatTnIdeal.τ).loc Cert.MatTnIdeal.main_arg1) = m ((c.tc : Thread Cert.MatTnIdeal.nD Cert.MatTnIdeal.τ).loc Cert.MatTnIdeal.main_arg1)
      ∧ r.2.mem ((c.tc : Thread Cert.MatTnIdeal.nD Cert.MatTnIdeal.τ).loc Cert.MatTnIdeal.main_arg2) = m ((c.tc : Thread Cert.MatTnIdeal.nD Cert.MatTnIdeal.τ).loc Cert.MatTnIdeal.main_arg2))
      ∧ r.2.sem = fun _ => 0)

def quiescent_MatTnRefIdeal [hMatTnRefIdeal : Cert.MatTnRefIdeal.Facts] : Prop :=
  ∀ (m : (ℓ : Loc Cert.MatTnRefIdeal.nD Cert.MatTnRefIdeal.τ Cert.MatTnRefIdeal.sig) → Buf (Elt Ideal) ℓ) (g : Dev Cert.MatTnRefIdeal.nD → PrngReg), Pre_MatTnRefIdeal m →
    θ_run (Cert.MatTnRefIdeal.defs (F := Ideal)) (onTc (τ := Cert.MatTnRefIdeal.τ) (Cert.MatTnRefIdeal.main (F := Ideal))) ⟨m, fun _ => 0, g⟩ (fun r => (∀ c : Dev Cert.MatTnRefIdeal.nD,
      r.2.mem ((c.tc : Thread Cert.MatTnRefIdeal.nD Cert.MatTnRefIdeal.τ).loc Cert.MatTnRefIdeal.main_arg0) = m ((c.tc : Thread Cert.MatTnRefIdeal.nD Cert.MatTnRefIdeal.τ).loc Cert.MatTnRefIdeal.main_arg0)
      ∧ r.2.mem ((c.tc : Thread Cert.MatTnRefIdeal.nD Cert.MatTnRefIdeal.τ).loc Cert.MatTnRefIdeal.main_arg1) = m ((c.tc : Thread Cert.MatTnRefIdeal.nD Cert.MatTnRefIdeal.τ).loc Cert.MatTnRefIdeal.main_arg1)
      ∧ r.2.mem ((c.tc : Thread Cert.MatTnRefIdeal.nD Cert.MatTnRefIdeal.τ).loc Cert.MatTnRefIdeal.main_arg2) = m ((c.tc : Thread Cert.MatTnRefIdeal.nD Cert.MatTnRefIdeal.τ).loc Cert.MatTnRefIdeal.main_arg2))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3)
      ∧ r.2.mem ((c.tc : Thread Cert.AdamW.nD Cert.AdamW.τ).loc Cert.AdamW.main_arg4) = m ((c.tc : Thread Cert.AdamW.nD Cert.AdamW.τ).loc Cert.AdamW.main_arg4))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
      ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3)
      ∧ r.2.mem ((c.tc : Thread Cert.AdamWRefIdeal.nD Cert.AdamWRefIdeal.τ).loc Cert.AdamWRefIdeal.main_arg4) = m ((c.tc : Thread Cert.AdamWRefIdeal.nD Cert.AdamWRefIdeal.τ).loc Cert.AdamWRefIdeal.main_arg4))
      ∧ r.2.sem = fun _ => 0)

def preserves_MixA_MixAIdeal : Prop :=
  True

def algebraic_MixAIdeal_MixARefIdeal [hMixAIdeal : Cert.MixAIdeal.Facts] [hMixARefIdeal : Cert.MixARefIdeal.Facts] : Prop :=
  ∀ (m : (ℓ : Loc Cert.MixAIdeal.nD Cert.MixAIdeal.τ Cert.MixAIdeal.sig) → Buf (Elt Ideal) ℓ) (g : Dev Cert.MixAIdeal.nD → PrngReg)
    (m' : (ℓ : Loc Cert.MixARefIdeal.nD Cert.MixARefIdeal.τ Cert.MixARefIdeal.sig) → Buf (Elt Ideal) ℓ) (g' : Dev Cert.MixARefIdeal.nD → PrngReg), Pre_MixAIdeal m →
    (∀ c : Dev Cert.MixAIdeal.nD,
      m' ((c.tc : Thread Cert.MixARefIdeal.nD Cert.MixARefIdeal.τ).loc Cert.MixARefIdeal.main_arg0) = m ((c.tc : Thread Cert.MixAIdeal.nD Cert.MixAIdeal.τ).loc Cert.MixAIdeal.main_arg0)
      ∧ m' ((c.tc : Thread Cert.MixARefIdeal.nD Cert.MixARefIdeal.τ).loc Cert.MixARefIdeal.main_arg1) = m ((c.tc : Thread Cert.MixAIdeal.nD Cert.MixAIdeal.τ).loc Cert.MixAIdeal.main_arg1)
      ∧ m' ((c.tc : Thread Cert.MixARefIdeal.nD Cert.MixARefIdeal.τ).loc Cert.MixARefIdeal.main_arg2) = m ((c.tc : Thread Cert.MixAIdeal.nD Cert.MixAIdeal.τ).loc Cert.MixAIdeal.main_arg2)) →
    ∃ (v0 : (c : Dev Cert.MixAIdeal.nD) → Buf (Elt Ideal) ((c.tc : Thread Cert.MixAIdeal.nD Cert.MixAIdeal.τ).loc Cert.MixAIdeal.main_v0_0)) (v1 : (c : Dev Cert.MixAIdeal.nD) → Buf (Elt Ideal) ((c.tc : Thread Cert.MixAIdeal.nD Cert.MixAIdeal.τ).loc Cert.MixAIdeal.main_v0_1)) (v2 : (c : Dev Cert.MixAIdeal.nD) → Buf (Elt Ideal) ((c.tc : Thread Cert.MixAIdeal.nD Cert.MixAIdeal.τ).loc Cert.MixAIdeal.main_v0_2)) (v3 : (c : Dev Cert.MixAIdeal.nD) → Buf (Elt Ideal) ((c.tc : Thread Cert.MixAIdeal.nD Cert.MixAIdeal.τ).loc Cert.MixAIdeal.main_v0_3)),
      θ_run (Cert.MixAIdeal.defs (F := Ideal)) (onTc (τ := Cert.MixAIdeal.τ) (Cert.MixAIdeal.main (F := Ideal))) ⟨m, fun _ => 0, g⟩ (fun r => ∀ c : Dev Cert.MixAIdeal.nD,
          r.2.mem ((c.tc : Thread Cert.MixAIdeal.nD Cert.MixAIdeal.τ).loc Cert.MixAIdeal.main_v0_0) = v0 c
          ∧ r.2.mem ((c.tc : Thread Cert.MixAIdeal.nD Cert.MixAIdeal.τ).loc Cert.MixAIdeal.main_v0_1) = v1 c
          ∧ r.2.mem ((c.tc : Thread Cert.MixAIdeal.nD Cert.MixAIdeal.τ).loc Cert.MixAIdeal.main_v0_2) = v2 c
          ∧ r.2.mem ((c.tc : Thread Cert.MixAIdeal.nD Cert.MixAIdeal.τ).loc Cert.MixAIdeal.main_v0_3) = v3 c
          ∧ r.2.mem ((c.tc : Thread Cert.MixAIdeal.nD Cert.MixAIdeal.τ).loc Cert.MixAIdeal.main_arg0) = m ((c.tc : Thread Cert.MixAIdeal.nD Cert.MixAIdeal.τ).loc Cert.MixAIdeal.main_arg0)
          ∧ r.2.mem ((c.tc : Thread Cert.MixAIdeal.nD Cert.MixAIdeal.τ).loc Cert.MixAIdeal.main_arg1) = m ((c.tc : Thread Cert.MixAIdeal.nD Cert.MixAIdeal.τ).loc Cert.MixAIdeal.main_arg1)
          ∧ r.2.mem ((c.tc : Thread Cert.MixAIdeal.nD Cert.MixAIdeal.τ).loc Cert.MixAIdeal.main_arg2) = m ((c.tc : Thread Cert.MixAIdeal.nD Cert.MixAIdeal.τ).loc Cert.MixAIdeal.main_arg2))
      ∧ θ_run (Cert.MixARefIdeal.defs (F := Ideal)) (onTc (τ := Cert.MixARefIdeal.τ) (Cert.MixARefIdeal.main (F := Ideal))) ⟨m', fun _ => 0, g'⟩ (fun r => ∀ c : Dev Cert.MixARefIdeal.nD,
          r.2.mem ((c.tc : Thread Cert.MixARefIdeal.nD Cert.MixARefIdeal.τ).loc Cert.MixARefIdeal.main_v68) = v0 c
          ∧ r.2.mem ((c.tc : Thread Cert.MixARefIdeal.nD Cert.MixARefIdeal.τ).loc Cert.MixARefIdeal.main_v69) = v1 c
          ∧ r.2.mem ((c.tc : Thread Cert.MixARefIdeal.nD Cert.MixARefIdeal.τ).loc Cert.MixARefIdeal.main_v70) = v2 c
          ∧ r.2.mem ((c.tc : Thread Cert.MixARefIdeal.nD Cert.MixARefIdeal.τ).loc Cert.MixARefIdeal.main_v63) = v3 c
          ∧ r.2.mem ((c.tc : Thread Cert.MixARefIdeal.nD Cert.MixARefIdeal.τ).loc Cert.MixARefIdeal.main_arg0) = m' ((c.tc : Thread Cert.MixARefIdeal.nD Cert.MixARefIdeal.τ).loc Cert.MixARefIdeal.main_arg0)
          ∧ r.2.mem ((c.tc : Thread Cert.MixARefIdeal.nD Cert.MixARefIdeal.τ).loc Cert.MixARefIdeal.main_arg1) = m' ((c.tc : Thread Cert.MixARefIdeal.nD Cert.MixARefIdeal.τ).loc Cert.MixARefIdeal.main_arg1)
          ∧ r.2.mem ((c.tc : Thread Cert.MixARefIdeal.nD Cert.MixARefIdeal.τ).loc Cert.MixARefIdeal.main_arg2) = m' ((c.tc : Thread Cert.MixARefIdeal.nD Cert.MixARefIdeal.τ).loc Cert.MixARefIdeal.main_arg2))

def preserves_MixB_MixBIdeal : Prop :=
  True

def algebraic_MixBIdeal_MixBRefIdeal_pre_finite_b [hMixBIdeal : Cert.MixBIdeal.Facts] [hMixBRefIdeal : Cert.MixBRefIdeal.Facts] [hPre_finite_b : Cert.Pre_finite_b.Facts] : Prop :=
  ∀ (m : (ℓ : Loc Cert.MixBIdeal.nD Cert.MixBIdeal.τ Cert.MixBIdeal.sig) → Buf (Elt Ideal) ℓ) (g : Dev Cert.MixBIdeal.nD → PrngReg)
    (m' : (ℓ : Loc Cert.MixBRefIdeal.nD Cert.MixBRefIdeal.τ Cert.MixBRefIdeal.sig) → Buf (Elt Ideal) ℓ) (g' : Dev Cert.MixBRefIdeal.nD → PrngReg), Pre_MixBIdeal_finite_b m →
    (∀ c : Dev Cert.MixBIdeal.nD,
      m' ((c.tc : Thread Cert.MixBRefIdeal.nD Cert.MixBRefIdeal.τ).loc Cert.MixBRefIdeal.main_arg0) = m ((c.tc : Thread Cert.MixBIdeal.nD Cert.MixBIdeal.τ).loc Cert.MixBIdeal.main_arg0)
      ∧ m' ((c.tc : Thread Cert.MixBRefIdeal.nD Cert.MixBRefIdeal.τ).loc Cert.MixBRefIdeal.main_arg1) = m ((c.tc : Thread Cert.MixBIdeal.nD Cert.MixBIdeal.τ).loc Cert.MixBIdeal.main_arg1)
      ∧ m' ((c.tc : Thread Cert.MixBRefIdeal.nD Cert.MixBRefIdeal.τ).loc Cert.MixBRefIdeal.main_arg2) = m ((c.tc : Thread Cert.MixBIdeal.nD Cert.MixBIdeal.τ).loc Cert.MixBIdeal.main_arg2)
      ∧ m' ((c.tc : Thread Cert.MixBRefIdeal.nD Cert.MixBRefIdeal.τ).loc Cert.MixBRefIdeal.main_arg3) = m ((c.tc : Thread Cert.MixBIdeal.nD Cert.MixBIdeal.τ).loc Cert.MixBIdeal.main_arg3)
      ∧ m' ((c.tc : Thread Cert.MixBRefIdeal.nD Cert.MixBRefIdeal.τ).loc Cert.MixBRefIdeal.main_arg4) = m ((c.tc : Thread Cert.MixBIdeal.nD Cert.MixBIdeal.τ).loc Cert.MixBIdeal.main_arg4)) →
    ∃ (v0 : (c : Dev Cert.MixBIdeal.nD) → Buf (Elt Ideal) ((c.tc : Thread Cert.MixBIdeal.nD Cert.MixBIdeal.τ).loc Cert.MixBIdeal.main_v4_0)) (v1 : (c : Dev Cert.MixBIdeal.nD) → Buf (Elt Ideal) ((c.tc : Thread Cert.MixBIdeal.nD Cert.MixBIdeal.τ).loc Cert.MixBIdeal.main_v4_1)) (v2 : (c : Dev Cert.MixBIdeal.nD) → Buf (Elt Ideal) ((c.tc : Thread Cert.MixBIdeal.nD Cert.MixBIdeal.τ).loc Cert.MixBIdeal.main_v4_2)) (v3 : (c : Dev Cert.MixBIdeal.nD) → Buf (Elt Ideal) ((c.tc : Thread Cert.MixBIdeal.nD Cert.MixBIdeal.τ).loc Cert.MixBIdeal.main_v6)) (v4 : (c : Dev Cert.MixBIdeal.nD) → Buf (Elt Ideal) ((c.tc : Thread Cert.MixBIdeal.nD Cert.MixBIdeal.τ).loc Cert.MixBIdeal.main_v7)),
      θ_run (Cert.MixBIdeal.defs (F := Ideal)) (onTc (τ := Cert.MixBIdeal.τ) (Cert.MixBIdeal.main (F := Ideal))) ⟨m, fun _ => 0, g⟩ (fun r => ∀ c : Dev Cert.MixBIdeal.nD,
          r.2.mem ((c.tc : Thread Cert.MixBIdeal.nD Cert.MixBIdeal.τ).loc Cert.MixBIdeal.main_v4_0) = v0 c
          ∧ r.2.mem ((c.tc : Thread Cert.MixBIdeal.nD Cert.MixBIdeal.τ).loc Cert.MixBIdeal.main_v4_1) = v1 c
          ∧ r.2.mem ((c.tc : Thread Cert.MixBIdeal.nD Cert.MixBIdeal.τ).loc Cert.MixBIdeal.main_v4_2) = v2 c
          ∧ r.2.mem ((c.tc : Thread Cert.MixBIdeal.nD Cert.MixBIdeal.τ).loc Cert.MixBIdeal.main_v6) = v3 c
          ∧ r.2.mem ((c.tc : Thread Cert.MixBIdeal.nD Cert.MixBIdeal.τ).loc Cert.MixBIdeal.main_v7) = v4 c
          ∧ r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
          ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
          ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2)
          ∧ r.2.mem ((c.tc : Thread Cert.MixBIdeal.nD Cert.MixBIdeal.τ).loc Cert.MixBIdeal.main_arg3) = m ((c.tc : Thread Cert.MixBIdeal.nD Cert.MixBIdeal.τ).loc Cert.MixBIdeal.main_arg3)
          ∧ r.2.mem ((c.tc : Thread Cert.MixBIdeal.nD Cert.MixBIdeal.τ).loc Cert.MixBIdeal.main_arg4) = m ((c.tc : Thread Cert.MixBIdeal.nD Cert.MixBIdeal.τ).loc Cert.MixBIdeal.main_arg4))
      ∧ θ_run (Cert.MixBRefIdeal.defs (F := Ideal)) (onTc (τ := Cert.MixBRefIdeal.τ) (Cert.MixBRefIdeal.main (F := Ideal))) ⟨m', fun _ => 0, g'⟩ (fun r => ∀ c : Dev Cert.MixBRefIdeal.nD,
          r.2.mem ((c.tc : Thread Cert.MixBRefIdeal.nD Cert.MixBRefIdeal.τ).loc Cert.MixBRefIdeal.main_v82) = v0 c
          ∧ r.2.mem ((c.tc : Thread Cert.MixBRefIdeal.nD Cert.MixBRefIdeal.τ).loc Cert.MixBRefIdeal.main_v83) = v1 c
          ∧ r.2.mem ((c.tc : Thread Cert.MixBRefIdeal.nD Cert.MixBRefIdeal.τ).loc Cert.MixBRefIdeal.main_v50) = v2 c
          ∧ r.2.mem ((c.tc : Thread Cert.MixBRefIdeal.nD Cert.MixBRefIdeal.τ).loc Cert.MixBRefIdeal.main_v45) = v3 c
          ∧ r.2.mem ((c.tc : Thread Cert.MixBRefIdeal.nD Cert.MixBRefIdeal.τ).loc Cert.MixBRefIdeal.main_v57) = v4 c
          ∧ r.2.mem ((c.tc : Thread Cert.MixBRefIdeal.nD Cert.MixBRefIdeal.τ).loc Cert.MixBRefIdeal.main_arg0) = m' ((c.tc : Thread Cert.MixBRefIdeal.nD Cert.MixBRefIdeal.τ).loc Cert.MixBRefIdeal.main_arg0)
          ∧ r.2.mem ((c.tc : Thread Cert.MixBRefIdeal.nD Cert.MixBRefIdeal.τ).loc Cert.MixBRefIdeal.main_arg1) = m' ((c.tc : Thread Cert.MixBRefIdeal.nD Cert.MixBRefIdeal.τ).loc Cert.MixBRefIdeal.main_arg1)
          ∧ r.2.mem ((c.tc : Thread Cert.MixBRefIdeal.nD Cert.MixBRefIdeal.τ).loc Cert.MixBRefIdeal.main_arg2) = m' ((c.tc : Thread Cert.MixBRefIdeal.nD Cert.MixBRefIdeal.τ).loc Cert.MixBRefIdeal.main_arg2)
          ∧ r.2.mem ((c.tc : Thread Cert.MixBRefIdeal.nD Cert.MixBRefIdeal.τ).loc Cert.MixBRefIdeal.main_arg3) = m' ((c.tc : Thread Cert.MixBRefIdeal.nD Cert.MixBRefIdeal.τ).loc Cert.MixBRefIdeal.main_arg3)
          ∧ r.2.mem ((c.tc : Thread Cert.MixBRefIdeal.nD Cert.MixBRefIdeal.τ).loc Cert.MixBRefIdeal.main_arg4) = m' ((c.tc : Thread Cert.MixBRefIdeal.nD Cert.MixBRefIdeal.τ).loc Cert.MixBRefIdeal.main_arg4))

def preserves_MixC_MixCIdeal : Prop :=
  True

def algebraic_MixCIdeal_MixCRefIdeal_pre_finite_c [hMixCIdeal : Cert.MixCIdeal.Facts] [hMixCRefIdeal : Cert.MixCRefIdeal.Facts] [hPre_finite_c : Cert.Pre_finite_c.Facts] : Prop :=
  ∀ (m : (ℓ : Loc Cert.MixCIdeal.nD Cert.MixCIdeal.τ Cert.MixCIdeal.sig) → Buf (Elt Ideal) ℓ) (g : Dev Cert.MixCIdeal.nD → PrngReg)
    (m' : (ℓ : Loc Cert.MixCRefIdeal.nD Cert.MixCRefIdeal.τ Cert.MixCRefIdeal.sig) → Buf (Elt Ideal) ℓ) (g' : Dev Cert.MixCRefIdeal.nD → PrngReg), Pre_MixCIdeal_finite_c m →
    (∀ c : Dev Cert.MixCIdeal.nD,
      m' ((c.tc : Thread Cert.MixCRefIdeal.nD Cert.MixCRefIdeal.τ).loc Cert.MixCRefIdeal.main_arg0) = m ((c.tc : Thread Cert.MixCIdeal.nD Cert.MixCIdeal.τ).loc Cert.MixCIdeal.main_arg0)
      ∧ m' ((c.tc : Thread Cert.MixCRefIdeal.nD Cert.MixCRefIdeal.τ).loc Cert.MixCRefIdeal.main_arg1) = m ((c.tc : Thread Cert.MixCIdeal.nD Cert.MixCIdeal.τ).loc Cert.MixCIdeal.main_arg1)
      ∧ m' ((c.tc : Thread Cert.MixCRefIdeal.nD Cert.MixCRefIdeal.τ).loc Cert.MixCRefIdeal.main_arg2) = m ((c.tc : Thread Cert.MixCIdeal.nD Cert.MixCIdeal.τ).loc Cert.MixCIdeal.main_arg2)
      ∧ m' ((c.tc : Thread Cert.MixCRefIdeal.nD Cert.MixCRefIdeal.τ).loc Cert.MixCRefIdeal.main_arg3) = m ((c.tc : Thread Cert.MixCIdeal.nD Cert.MixCIdeal.τ).loc Cert.MixCIdeal.main_arg3)
      ∧ m' ((c.tc : Thread Cert.MixCRefIdeal.nD Cert.MixCRefIdeal.τ).loc Cert.MixCRefIdeal.main_arg4) = m ((c.tc : Thread Cert.MixCIdeal.nD Cert.MixCIdeal.τ).loc Cert.MixCIdeal.main_arg4)) →
    ∃ (v0 : (c : Dev Cert.MixCIdeal.nD) → Buf (Elt Ideal) ((c.tc : Thread Cert.MixCIdeal.nD Cert.MixCIdeal.τ).loc Cert.MixCIdeal.main_v2_0)) (v1 : (c : Dev Cert.MixCIdeal.nD) → Buf (Elt Ideal) ((c.tc : Thread Cert.MixCIdeal.nD Cert.MixCIdeal.τ).loc Cert.MixCIdeal.main_v2_1)) (v2 : (c : Dev Cert.MixCIdeal.nD) → Buf (Elt Ideal) ((c.tc : Thread Cert.MixCIdeal.nD Cert.MixCIdeal.τ).loc Cert.MixCIdeal.main_v2_2)) (v3 : (c : Dev Cert.MixCIdeal.nD) → Buf (Elt Ideal) ((c.tc : Thread Cert.MixCIdeal.nD Cert.MixCIdeal.τ).loc Cert.MixCIdeal.main_v2_3)) (v4 : (c : Dev Cert.MixCIdeal.nD) → Buf (Elt Ideal) ((c.tc : Thread Cert.MixCIdeal.nD Cert.MixCIdeal.τ).loc Cert.MixCIdeal.main_v2_4)),
      θ_run (Cert.MixCIdeal.defs (F := Ideal)) (onTc (τ := Cert.MixCIdeal.τ) (Cert.MixCIdeal.main (F := Ideal))) ⟨m, fun _ => 0, g⟩ (fun r => ∀ c : Dev Cert.MixCIdeal.nD,
          r.2.mem ((c.tc : Thread Cert.MixCIdeal.nD Cert.MixCIdeal.τ).loc Cert.MixCIdeal.main_v2_0) = v0 c
          ∧ r.2.mem ((c.tc : Thread Cert.MixCIdeal.nD Cert.MixCIdeal.τ).loc Cert.MixCIdeal.main_v2_1) = v1 c
          ∧ r.2.mem ((c.tc : Thread Cert.MixCIdeal.nD Cert.MixCIdeal.τ).loc Cert.MixCIdeal.main_v2_2) = v2 c
          ∧ r.2.mem ((c.tc : Thread Cert.MixCIdeal.nD Cert.MixCIdeal.τ).loc Cert.MixCIdeal.main_v2_3) = v3 c
          ∧ r.2.mem ((c.tc : Thread Cert.MixCIdeal.nD Cert.MixCIdeal.τ).loc Cert.MixCIdeal.main_v2_4) = v4 c
          ∧ r.2.mem ((c.tc : Thread Cert.MixCIdeal.nD Cert.MixCIdeal.τ).loc Cert.MixCIdeal.main_arg0) = m ((c.tc : Thread Cert.MixCIdeal.nD Cert.MixCIdeal.τ).loc Cert.MixCIdeal.main_arg0)
          ∧ r.2.mem ((c.tc : Thread Cert.MixCIdeal.nD Cert.MixCIdeal.τ).loc Cert.MixCIdeal.main_arg1) = m ((c.tc : Thread Cert.MixCIdeal.nD Cert.MixCIdeal.τ).loc Cert.MixCIdeal.main_arg1)
          ∧ r.2.mem ((c.tc : Thread Cert.MixCIdeal.nD Cert.MixCIdeal.τ).loc Cert.MixCIdeal.main_arg2) = m ((c.tc : Thread Cert.MixCIdeal.nD Cert.MixCIdeal.τ).loc Cert.MixCIdeal.main_arg2)
          ∧ r.2.mem ((c.tc : Thread Cert.MixCIdeal.nD Cert.MixCIdeal.τ).loc Cert.MixCIdeal.main_arg3) = m ((c.tc : Thread Cert.MixCIdeal.nD Cert.MixCIdeal.τ).loc Cert.MixCIdeal.main_arg3)
          ∧ r.2.mem ((c.tc : Thread Cert.MixCIdeal.nD Cert.MixCIdeal.τ).loc Cert.MixCIdeal.main_arg4) = m ((c.tc : Thread Cert.MixCIdeal.nD Cert.MixCIdeal.τ).loc Cert.MixCIdeal.main_arg4))
      ∧ θ_run (Cert.MixCRefIdeal.defs (F := Ideal)) (onTc (τ := Cert.MixCRefIdeal.τ) (Cert.MixCRefIdeal.main (F := Ideal))) ⟨m', fun _ => 0, g'⟩ (fun r => ∀ c : Dev Cert.MixCRefIdeal.nD,
          r.2.mem ((c.tc : Thread Cert.MixCRefIdeal.nD Cert.MixCRefIdeal.τ).loc Cert.MixCRefIdeal.main_v642) = v0 c
          ∧ r.2.mem ((c.tc : Thread Cert.MixCRefIdeal.nD Cert.MixCRefIdeal.τ).loc Cert.MixCRefIdeal.main_v643) = v1 c
          ∧ r.2.mem ((c.tc : Thread Cert.MixCRefIdeal.nD Cert.MixCRefIdeal.τ).loc Cert.MixCRefIdeal.main_v636) = v2 c
          ∧ r.2.mem ((c.tc : Thread Cert.MixCRefIdeal.nD Cert.MixCRefIdeal.τ).loc Cert.MixCRefIdeal.main_v644) = v3 c
          ∧ r.2.mem ((c.tc : Thread Cert.MixCRefIdeal.nD Cert.MixCRefIdeal.τ).loc Cert.MixCRefIdeal.main_v645) = v4 c
          ∧ r.2.mem ((c.tc : Thread Cert.MixCRefIdeal.nD Cert.MixCRefIdeal.τ).loc Cert.MixCRefIdeal.main_arg0) = m' ((c.tc : Thread Cert.MixCRefIdeal.nD Cert.MixCRefIdeal.τ).loc Cert.MixCRefIdeal.main_arg0)
          ∧ r.2.mem ((c.tc : Thread Cert.MixCRefIdeal.nD Cert.MixCRefIdeal.τ).loc Cert.MixCRefIdeal.main_arg1) = m' ((c.tc : Thread Cert.MixCRefIdeal.nD Cert.MixCRefIdeal.τ).loc Cert.MixCRefIdeal.main_arg1)
          ∧ r.2.mem ((c.tc : Thread Cert.MixCRefIdeal.nD Cert.MixCRefIdeal.τ).loc Cert.MixCRefIdeal.main_arg2) = m' ((c.tc : Thread Cert.MixCRefIdeal.nD Cert.MixCRefIdeal.τ).loc Cert.MixCRefIdeal.main_arg2)
          ∧ r.2.mem ((c.tc : Thread Cert.MixCRefIdeal.nD Cert.MixCRefIdeal.τ).loc Cert.MixCRefIdeal.main_arg3) = m' ((c.tc : Thread Cert.MixCRefIdeal.nD Cert.MixCRefIdeal.τ).loc Cert.MixCRefIdeal.main_arg3)
          ∧ r.2.mem ((c.tc : Thread Cert.MixCRefIdeal.nD Cert.MixCRefIdeal.τ).loc Cert.MixCRefIdeal.main_arg4) = m' ((c.tc : Thread Cert.MixCRefIdeal.nD Cert.MixCRefIdeal.τ).loc Cert.MixCRefIdeal.main_arg4))

def preserves_MixD_MixDIdeal : Prop :=
  True

def algebraic_MixDIdeal_MixDRefIdeal_pre_finite_d [hMixDIdeal : Cert.MixDIdeal.Facts] [hMixDRefIdeal : Cert.MixDRefIdeal.Facts] [hPre_finite_d : Cert.Pre_finite_d.Facts] : Prop :=
  ∀ (m : (ℓ : Loc Cert.MixDIdeal.nD Cert.MixDIdeal.τ Cert.MixDIdeal.sig) → Buf (Elt Ideal) ℓ) (g : Dev Cert.MixDIdeal.nD → PrngReg)
    (m' : (ℓ : Loc Cert.MixDRefIdeal.nD Cert.MixDRefIdeal.τ Cert.MixDRefIdeal.sig) → Buf (Elt Ideal) ℓ) (g' : Dev Cert.MixDRefIdeal.nD → PrngReg), Pre_MixDIdeal_finite_d m →
    (∀ c : Dev Cert.MixDIdeal.nD,
      m' ((c.tc : Thread Cert.MixDRefIdeal.nD Cert.MixDRefIdeal.τ).loc Cert.MixDRefIdeal.main_arg0) = m ((c.tc : Thread Cert.MixDIdeal.nD Cert.MixDIdeal.τ).loc Cert.MixDIdeal.main_arg0)
      ∧ m' ((c.tc : Thread Cert.MixDRefIdeal.nD Cert.MixDRefIdeal.τ).loc Cert.MixDRefIdeal.main_arg1) = m ((c.tc : Thread Cert.MixDIdeal.nD Cert.MixDIdeal.τ).loc Cert.MixDIdeal.main_arg1)
      ∧ m' ((c.tc : Thread Cert.MixDRefIdeal.nD Cert.MixDRefIdeal.τ).loc Cert.MixDRefIdeal.main_arg2) = m ((c.tc : Thread Cert.MixDIdeal.nD Cert.MixDIdeal.τ).loc Cert.MixDIdeal.main_arg2)
      ∧ m' ((c.tc : Thread Cert.MixDRefIdeal.nD Cert.MixDRefIdeal.τ).loc Cert.MixDRefIdeal.main_arg3) = m ((c.tc : Thread Cert.MixDIdeal.nD Cert.MixDIdeal.τ).loc Cert.MixDIdeal.main_arg3)) →
    ∃ (v0 : (c : Dev Cert.MixDIdeal.nD) → Buf (Elt Ideal) ((c.tc : Thread Cert.MixDIdeal.nD Cert.MixDIdeal.τ).loc Cert.MixDIdeal.main_v27_0)) (v1 : (c : Dev Cert.MixDIdeal.nD) → Buf (Elt Ideal) ((c.tc : Thread Cert.MixDIdeal.nD Cert.MixDIdeal.τ).loc Cert.MixDIdeal.main_v36)) (v2 : (c : Dev Cert.MixDIdeal.nD) → Buf (Elt Ideal) ((c.tc : Thread Cert.MixDIdeal.nD Cert.MixDIdeal.τ).loc Cert.MixDIdeal.main_v37)),
      θ_run (Cert.MixDIdeal.defs (F := Ideal)) (onTc (τ := Cert.MixDIdeal.τ) (Cert.MixDIdeal.main (F := Ideal))) ⟨m, fun _ => 0, g⟩ (fun r => ∀ c : Dev Cert.MixDIdeal.nD,
          r.2.mem ((c.tc : Thread Cert.MixDIdeal.nD Cert.MixDIdeal.τ).loc Cert.MixDIdeal.main_v27_0) = v0 c
          ∧ r.2.mem ((c.tc : Thread Cert.MixDIdeal.nD Cert.MixDIdeal.τ).loc Cert.MixDIdeal.main_v36) = v1 c
          ∧ r.2.mem ((c.tc : Thread Cert.MixDIdeal.nD Cert.MixDIdeal.τ).loc Cert.MixDIdeal.main_v37) = v2 c
          ∧ r.2.mem ((c.tc : Thread Cert.MixDIdeal.nD Cert.MixDIdeal.τ).loc Cert.MixDIdeal.main_arg0) = m ((c.tc : Thread Cert.MixDIdeal.nD Cert.MixDIdeal.τ).loc Cert.MixDIdeal.main_arg0)
          ∧ r.2.mem ((c.tc : Thread Cert.MixDIdeal.nD Cert.MixDIdeal.τ).loc Cert.MixDIdeal.main_arg1) = m ((c.tc : Thread Cert.MixDIdeal.nD Cert.MixDIdeal.τ).loc Cert.MixDIdeal.main_arg1)
          ∧ r.2.mem ((c.tc : Thread Cert.MixDIdeal.nD Cert.MixDIdeal.τ).loc Cert.MixDIdeal.main_arg2) = m ((c.tc : Thread Cert.MixDIdeal.nD Cert.MixDIdeal.τ).loc Cert.MixDIdeal.main_arg2)
          ∧ r.2.mem ((c.tc : Thread Cert.MixDIdeal.nD Cert.MixDIdeal.τ).loc Cert.MixDIdeal.main_arg3) = m ((c.tc : Thread Cert.MixDIdeal.nD Cert.MixDIdeal.τ).loc Cert.MixDIdeal.main_arg3))
      ∧ θ_run (Cert.MixDRefIdeal.defs (F := Ideal)) (onTc (τ := Cert.MixDRefIdeal.τ) (Cert.MixDRefIdeal.main (F := Ideal))) ⟨m', fun _ => 0, g'⟩ (fun r => ∀ c : Dev Cert.MixDRefIdeal.nD,
          r.2.mem ((c.tc : Thread Cert.MixDRefIdeal.nD Cert.MixDRefIdeal.τ).loc Cert.MixDRefIdeal.main_v147) = v0 c
          ∧ r.2.mem ((c.tc : Thread Cert.MixDRefIdeal.nD Cert.MixDRefIdeal.τ).loc Cert.MixDRefIdeal.main_v90) = v1 c
          ∧ r.2.mem ((c.tc : Thread Cert.MixDRefIdeal.nD Cert.MixDRefIdeal.τ).loc Cert.MixDRefIdeal.main_v84) = v2 c
          ∧ r.2.mem ((c.tc : Thread Cert.MixDRefIdeal.nD Cert.MixDRefIdeal.τ).loc Cert.MixDRefIdeal.main_arg0) = m' ((c.tc : Thread Cert.MixDRefIdeal.nD Cert.MixDRefIdeal.τ).loc Cert.MixDRefIdeal.main_arg0)
          ∧ r.2.mem ((c.tc : Thread Cert.MixDRefIdeal.nD Cert.MixDRefIdeal.τ).loc Cert.MixDRefIdeal.main_arg1) = m' ((c.tc : Thread Cert.MixDRefIdeal.nD Cert.MixDRefIdeal.τ).loc Cert.MixDRefIdeal.main_arg1)
          ∧ r.2.mem ((c.tc : Thread Cert.MixDRefIdeal.nD Cert.MixDRefIdeal.τ).loc Cert.MixDRefIdeal.main_arg2) = m' ((c.tc : Thread Cert.MixDRefIdeal.nD Cert.MixDRefIdeal.τ).loc Cert.MixDRefIdeal.main_arg2)
          ∧ r.2.mem ((c.tc : Thread Cert.MixDRefIdeal.nD Cert.MixDRefIdeal.τ).loc Cert.MixDRefIdeal.main_arg3) = m' ((c.tc : Thread Cert.MixDRefIdeal.nD Cert.MixDRefIdeal.τ).loc Cert.MixDRefIdeal.main_arg3))

def preserves_Attn_AttnIdeal : Prop :=
  True

def algebraic_AttnIdeal_AttnRefIdeal_pre_finite_e [hAttnIdeal : Cert.AttnIdeal.Facts] [hAttnRefIdeal : Cert.AttnRefIdeal.Facts] [hPre_finite_e : Cert.Pre_finite_e.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_e m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v64) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_FfnDz_FfnDzIdeal : Prop :=
  True

def algebraic_FfnDzIdeal_FfnDzRefIdeal_pre_finite_f [hFfnDzIdeal : Cert.FfnDzIdeal.Facts] [hFfnDzRefIdeal : Cert.FfnDzRefIdeal.Facts] [hPre_finite_f : Cert.Pre_finite_f.Facts] : Prop :=
  ∀ (m : (ℓ : Loc Cert.FfnDzIdeal.nD Cert.FfnDzIdeal.τ Cert.FfnDzIdeal.sig) → Buf (Elt Ideal) ℓ) (g : Dev Cert.FfnDzIdeal.nD → PrngReg)
    (m' : (ℓ : Loc Cert.FfnDzRefIdeal.nD Cert.FfnDzRefIdeal.τ Cert.FfnDzRefIdeal.sig) → Buf (Elt Ideal) ℓ) (g' : Dev Cert.FfnDzRefIdeal.nD → PrngReg), Pre_FfnDzIdeal_finite_f m →
    (∀ c : Dev Cert.FfnDzIdeal.nD,
      m' ((c.tc : Thread Cert.FfnDzRefIdeal.nD Cert.FfnDzRefIdeal.τ).loc Cert.FfnDzRefIdeal.main_arg0) = m ((c.tc : Thread Cert.FfnDzIdeal.nD Cert.FfnDzIdeal.τ).loc Cert.FfnDzIdeal.main_arg0)
      ∧ m' ((c.tc : Thread Cert.FfnDzRefIdeal.nD Cert.FfnDzRefIdeal.τ).loc Cert.FfnDzRefIdeal.main_arg1) = m ((c.tc : Thread Cert.FfnDzIdeal.nD Cert.FfnDzIdeal.τ).loc Cert.FfnDzIdeal.main_arg1)
      ∧ m' ((c.tc : Thread Cert.FfnDzRefIdeal.nD Cert.FfnDzRefIdeal.τ).loc Cert.FfnDzRefIdeal.main_arg2) = m ((c.tc : Thread Cert.FfnDzIdeal.nD Cert.FfnDzIdeal.τ).loc Cert.FfnDzIdeal.main_arg2)
      ∧ m' ((c.tc : Thread Cert.FfnDzRefIdeal.nD Cert.FfnDzRefIdeal.τ).loc Cert.FfnDzRefIdeal.main_arg3) = m ((c.tc : Thread Cert.FfnDzIdeal.nD Cert.FfnDzIdeal.τ).loc Cert.FfnDzIdeal.main_arg3)) →
    ∃ (v0 : (c : Dev Cert.FfnDzIdeal.nD) → Buf (Elt Ideal) ((c.tc : Thread Cert.FfnDzIdeal.nD Cert.FfnDzIdeal.τ).loc Cert.FfnDzIdeal.main_v0_0)) (v1 : (c : Dev Cert.FfnDzIdeal.nD) → Buf (Elt Ideal) ((c.tc : Thread Cert.FfnDzIdeal.nD Cert.FfnDzIdeal.τ).loc Cert.FfnDzIdeal.main_v0_1)) (v2 : (c : Dev Cert.FfnDzIdeal.nD) → Buf (Elt Ideal) ((c.tc : Thread Cert.FfnDzIdeal.nD Cert.FfnDzIdeal.τ).loc Cert.FfnDzIdeal.main_v0_2)),
      θ_run (Cert.FfnDzIdeal.defs (F := Ideal)) (onTc (τ := Cert.FfnDzIdeal.τ) (Cert.FfnDzIdeal.main (F := Ideal))) ⟨m, fun _ => 0, g⟩ (fun r => ∀ c : Dev Cert.FfnDzIdeal.nD,
          r.2.mem ((c.tc : Thread Cert.FfnDzIdeal.nD Cert.FfnDzIdeal.τ).loc Cert.FfnDzIdeal.main_v0_0) = v0 c
          ∧ r.2.mem ((c.tc : Thread Cert.FfnDzIdeal.nD Cert.FfnDzIdeal.τ).loc Cert.FfnDzIdeal.main_v0_1) = v1 c
          ∧ r.2.mem ((c.tc : Thread Cert.FfnDzIdeal.nD Cert.FfnDzIdeal.τ).loc Cert.FfnDzIdeal.main_v0_2) = v2 c
          ∧ r.2.mem ((c.tc : Thread Cert.FfnDzIdeal.nD Cert.FfnDzIdeal.τ).loc Cert.FfnDzIdeal.main_arg0) = m ((c.tc : Thread Cert.FfnDzIdeal.nD Cert.FfnDzIdeal.τ).loc Cert.FfnDzIdeal.main_arg0)
          ∧ r.2.mem ((c.tc : Thread Cert.FfnDzIdeal.nD Cert.FfnDzIdeal.τ).loc Cert.FfnDzIdeal.main_arg1) = m ((c.tc : Thread Cert.FfnDzIdeal.nD Cert.FfnDzIdeal.τ).loc Cert.FfnDzIdeal.main_arg1)
          ∧ r.2.mem ((c.tc : Thread Cert.FfnDzIdeal.nD Cert.FfnDzIdeal.τ).loc Cert.FfnDzIdeal.main_arg2) = m ((c.tc : Thread Cert.FfnDzIdeal.nD Cert.FfnDzIdeal.τ).loc Cert.FfnDzIdeal.main_arg2)
          ∧ r.2.mem ((c.tc : Thread Cert.FfnDzIdeal.nD Cert.FfnDzIdeal.τ).loc Cert.FfnDzIdeal.main_arg3) = m ((c.tc : Thread Cert.FfnDzIdeal.nD Cert.FfnDzIdeal.τ).loc Cert.FfnDzIdeal.main_arg3))
      ∧ θ_run (Cert.FfnDzRefIdeal.defs (F := Ideal)) (onTc (τ := Cert.FfnDzRefIdeal.τ) (Cert.FfnDzRefIdeal.main (F := Ideal))) ⟨m', fun _ => 0, g'⟩ (fun r => ∀ c : Dev Cert.FfnDzRefIdeal.nD,
          r.2.mem ((c.tc : Thread Cert.FfnDzRefIdeal.nD Cert.FfnDzRefIdeal.τ).loc Cert.FfnDzRefIdeal.main_v16) = v0 c
          ∧ r.2.mem ((c.tc : Thread Cert.FfnDzRefIdeal.nD Cert.FfnDzRefIdeal.τ).loc Cert.FfnDzRefIdeal.main_v17) = v1 c
          ∧ r.2.mem ((c.tc : Thread Cert.FfnDzRefIdeal.nD Cert.FfnDzRefIdeal.τ).loc Cert.FfnDzRefIdeal.main_v18) = v2 c
          ∧ r.2.mem ((c.tc : Thread Cert.FfnDzRefIdeal.nD Cert.FfnDzRefIdeal.τ).loc Cert.FfnDzRefIdeal.main_arg0) = m' ((c.tc : Thread Cert.FfnDzRefIdeal.nD Cert.FfnDzRefIdeal.τ).loc Cert.FfnDzRefIdeal.main_arg0)
          ∧ r.2.mem ((c.tc : Thread Cert.FfnDzRefIdeal.nD Cert.FfnDzRefIdeal.τ).loc Cert.FfnDzRefIdeal.main_arg1) = m' ((c.tc : Thread Cert.FfnDzRefIdeal.nD Cert.FfnDzRefIdeal.τ).loc Cert.FfnDzRefIdeal.main_arg1)
          ∧ r.2.mem ((c.tc : Thread Cert.FfnDzRefIdeal.nD Cert.FfnDzRefIdeal.τ).loc Cert.FfnDzRefIdeal.main_arg2) = m' ((c.tc : Thread Cert.FfnDzRefIdeal.nD Cert.FfnDzRefIdeal.τ).loc Cert.FfnDzRefIdeal.main_arg2)
          ∧ r.2.mem ((c.tc : Thread Cert.FfnDzRefIdeal.nD Cert.FfnDzRefIdeal.τ).loc Cert.FfnDzRefIdeal.main_arg3) = m' ((c.tc : Thread Cert.FfnDzRefIdeal.nD Cert.FfnDzRefIdeal.τ).loc Cert.FfnDzRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v4) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v24) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v36) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)
      ∧ m' ((c.tc : Thread Cert.FfnDhRefIdeal.nD Cert.FfnDhRefIdeal.τ).loc Cert.FfnDhRefIdeal.main_arg4) = m ((c.tc : Thread Cert.FfnDhIdeal.nD Cert.FfnDhIdeal.τ).loc Cert.FfnDhIdeal.main_arg4)
      ∧ m' ((c.tc : Thread Cert.FfnDhRefIdeal.nD Cert.FfnDhRefIdeal.τ).loc Cert.FfnDhRefIdeal.main_arg5) = m ((c.tc : Thread Cert.FfnDhIdeal.nD Cert.FfnDhIdeal.τ).loc Cert.FfnDhIdeal.main_arg5)) →
    ∃ (v0 : (c : Dev Cert.FfnDhIdeal.nD) → Buf (Elt Ideal) ((c.tc : Thread Cert.FfnDhIdeal.nD Cert.FfnDhIdeal.τ).loc Cert.FfnDhIdeal.main_v1_0)) (v1 : (c : Dev Cert.FfnDhIdeal.nD) → Buf (Elt Ideal) ((c.tc : Thread Cert.FfnDhIdeal.nD Cert.FfnDhIdeal.τ).loc Cert.FfnDhIdeal.main_v1_1)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v1_0) = v0 c
          ∧ r.2.mem ((c.tc : Thread Cert.FfnDhIdeal.nD Cert.FfnDhIdeal.τ).loc Cert.FfnDhIdeal.main_v1_1) = v1 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
          ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
          ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v42) = v0 c
          ∧ r.2.mem ((c.tc : Thread Cert.FfnDhRefIdeal.nD Cert.FfnDhRefIdeal.τ).loc Cert.FfnDhRefIdeal.main_v43) = v1 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3)
          ∧ r.2.mem ((c.tc : Thread Cert.FfnDhRefIdeal.nD Cert.FfnDhRefIdeal.τ).loc Cert.FfnDhRefIdeal.main_arg4) = m' ((c.tc : Thread Cert.FfnDhRefIdeal.nD Cert.FfnDhRefIdeal.τ).loc Cert.FfnDhRefIdeal.main_arg4)
          ∧ r.2.mem ((c.tc : Thread Cert.FfnDhRefIdeal.nD Cert.FfnDhRefIdeal.τ).loc Cert.FfnDhRefIdeal.main_arg5) = m' ((c.tc : Thread Cert.FfnDhRefIdeal.nD Cert.FfnDhRefIdeal.τ).loc Cert.FfnDhRefIdeal.main_arg5))

def preserves_MixDh_MixDhIdeal : Prop :=
  True

def algebraic_MixDhIdeal_MixDhRefIdeal [hMixDhIdeal : Cert.MixDhIdeal.Facts] [hMixDhRefIdeal : Cert.MixDhRefIdeal.Facts] : Prop :=
  ∀ (m : (ℓ : Loc Cert.MixDhIdeal.nD Cert.MixDhIdeal.τ Cert.MixDhIdeal.sig) → Buf (Elt Ideal) ℓ) (g : Dev Cert.MixDhIdeal.nD → PrngReg)
    (m' : (ℓ : Loc Cert.MixDhRefIdeal.nD Cert.MixDhRefIdeal.τ Cert.MixDhRefIdeal.sig) → Buf (Elt Ideal) ℓ) (g' : Dev Cert.MixDhRefIdeal.nD → PrngReg), Pre_MixDhIdeal m →
    (∀ c : Dev Cert.MixDhIdeal.nD,
      m' ((c.tc : Thread Cert.MixDhRefIdeal.nD Cert.MixDhRefIdeal.τ).loc Cert.MixDhRefIdeal.main_arg0) = m ((c.tc : Thread Cert.MixDhIdeal.nD Cert.MixDhIdeal.τ).loc Cert.MixDhIdeal.main_arg0)
      ∧ m' ((c.tc : Thread Cert.MixDhRefIdeal.nD Cert.MixDhRefIdeal.τ).loc Cert.MixDhRefIdeal.main_arg1) = m ((c.tc : Thread Cert.MixDhIdeal.nD Cert.MixDhIdeal.τ).loc Cert.MixDhIdeal.main_arg1)
      ∧ m' ((c.tc : Thread Cert.MixDhRefIdeal.nD Cert.MixDhRefIdeal.τ).loc Cert.MixDhRefIdeal.main_arg2) = m ((c.tc : Thread Cert.MixDhIdeal.nD Cert.MixDhIdeal.τ).loc Cert.MixDhIdeal.main_arg2)
      ∧ m' ((c.tc : Thread Cert.MixDhRefIdeal.nD Cert.MixDhRefIdeal.τ).loc Cert.MixDhRefIdeal.main_arg3) = m ((c.tc : Thread Cert.MixDhIdeal.nD Cert.MixDhIdeal.τ).loc Cert.MixDhIdeal.main_arg3)
      ∧ m' ((c.tc : Thread Cert.MixDhRefIdeal.nD Cert.MixDhRefIdeal.τ).loc Cert.MixDhRefIdeal.main_arg4) = m ((c.tc : Thread Cert.MixDhIdeal.nD Cert.MixDhIdeal.τ).loc Cert.MixDhIdeal.main_arg4)) →
    ∃ (v0 : (c : Dev Cert.MixDhIdeal.nD) → Buf (Elt Ideal) ((c.tc : Thread Cert.MixDhIdeal.nD Cert.MixDhIdeal.τ).loc Cert.MixDhIdeal.main_v1_0)) (v1 : (c : Dev Cert.MixDhIdeal.nD) → Buf (Elt Ideal) ((c.tc : Thread Cert.MixDhIdeal.nD Cert.MixDhIdeal.τ).loc Cert.MixDhIdeal.main_v1_1)),
      θ_run (Cert.MixDhIdeal.defs (F := Ideal)) (onTc (τ := Cert.MixDhIdeal.τ) (Cert.MixDhIdeal.main (F := Ideal))) ⟨m, fun _ => 0, g⟩ (fun r => ∀ c : Dev Cert.MixDhIdeal.nD,
          r.2.mem ((c.tc : Thread Cert.MixDhIdeal.nD Cert.MixDhIdeal.τ).loc Cert.MixDhIdeal.main_v1_0) = v0 c
          ∧ r.2.mem ((c.tc : Thread Cert.MixDhIdeal.nD Cert.MixDhIdeal.τ).loc Cert.MixDhIdeal.main_v1_1) = v1 c
          ∧ r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
          ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1)
          ∧ r.2.mem ((c.tc : Thread Cert.MixDhIdeal.nD Cert.MixDhIdeal.τ).loc Cert.MixDhIdeal.main_arg2) = m ((c.tc : Thread Cert.MixDhIdeal.nD Cert.MixDhIdeal.τ).loc Cert.MixDhIdeal.main_arg2)
          ∧ r.2.mem ((c.tc : Thread Cert.MixDhIdeal.nD Cert.MixDhIdeal.τ).loc Cert.MixDhIdeal.main_arg3) = m ((c.tc : Thread Cert.MixDhIdeal.nD Cert.MixDhIdeal.τ).loc Cert.MixDhIdeal.main_arg3)
          ∧ r.2.mem ((c.tc : Thread Cert.MixDhIdeal.nD Cert.MixDhIdeal.τ).loc Cert.MixDhIdeal.main_arg4) = m ((c.tc : Thread Cert.MixDhIdeal.nD Cert.MixDhIdeal.τ).loc Cert.MixDhIdeal.main_arg4))
      ∧ θ_run (Cert.MixDhRefIdeal.defs (F := Ideal)) (onTc (τ := Cert.MixDhRefIdeal.τ) (Cert.MixDhRefIdeal.main (F := Ideal))) ⟨m', fun _ => 0, g'⟩ (fun r => ∀ c : Dev Cert.MixDhRefIdeal.nD,
          r.2.mem ((c.tc : Thread Cert.MixDhRefIdeal.nD Cert.MixDhRefIdeal.τ).loc Cert.MixDhRefIdeal.main_v40) = v0 c
          ∧ r.2.mem ((c.tc : Thread Cert.MixDhRefIdeal.nD Cert.MixDhRefIdeal.τ).loc Cert.MixDhRefIdeal.main_v41) = v1 c
          ∧ r.2.mem ((c.tc : Thread Cert.MixDhRefIdeal.nD Cert.MixDhRefIdeal.τ).loc Cert.MixDhRefIdeal.main_arg0) = m' ((c.tc : Thread Cert.MixDhRefIdeal.nD Cert.MixDhRefIdeal.τ).loc Cert.MixDhRefIdeal.main_arg0)
          ∧ r.2.mem ((c.tc : Thread Cert.MixDhRefIdeal.nD Cert.MixDhRefIdeal.τ).loc Cert.MixDhRefIdeal.main_arg1) = m' ((c.tc : Thread Cert.MixDhRefIdeal.nD Cert.MixDhRefIdeal.τ).loc Cert.MixDhRefIdeal.main_arg1)
          ∧ r.2.mem ((c.tc : Thread Cert.MixDhRefIdeal.nD Cert.MixDhRefIdeal.τ).loc Cert.MixDhRefIdeal.main_arg2) = m' ((c.tc : Thread Cert.MixDhRefIdeal.nD Cert.MixDhRefIdeal.τ).loc Cert.MixDhRefIdeal.main_arg2)
          ∧ r.2.mem ((c.tc : Thread Cert.MixDhRefIdeal.nD Cert.MixDhRefIdeal.τ).loc Cert.MixDhRefIdeal.main_arg3) = m' ((c.tc : Thread Cert.MixDhRefIdeal.nD Cert.MixDhRefIdeal.τ).loc Cert.MixDhRefIdeal.main_arg3)
          ∧ r.2.mem ((c.tc : Thread Cert.MixDhRefIdeal.nD Cert.MixDhRefIdeal.τ).loc Cert.MixDhRefIdeal.main_arg4) = m' ((c.tc : Thread Cert.MixDhRefIdeal.nD Cert.MixDhRefIdeal.τ).loc Cert.MixDhRefIdeal.main_arg4))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)
      ∧ m' ((c.tc : Thread Cert.NormMemRefIdeal.nD Cert.NormMemRefIdeal.τ).loc Cert.NormMemRefIdeal.main_arg2) = m ((c.tc : Thread Cert.NormMemIdeal.nD Cert.NormMemIdeal.τ).loc Cert.NormMemIdeal.main_arg2)) →
    ∃ (v0 : (c : Dev Cert.NormMemIdeal.nD) → Buf (Elt Ideal) ((c.tc : Thread Cert.NormMemIdeal.nD Cert.NormMemIdeal.τ).loc Cert.NormMemIdeal.main_v1_0)) (v1 : (c : Dev Cert.NormMemIdeal.nD) → Buf (Elt Ideal) ((c.tc : Thread Cert.NormMemIdeal.nD Cert.NormMemIdeal.τ).loc Cert.NormMemIdeal.main_v1_1)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v1_0) = v0 c
          ∧ r.2.mem ((c.tc : Thread Cert.NormMemIdeal.nD Cert.NormMemIdeal.τ).loc Cert.NormMemIdeal.main_v1_1) = v1 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1)
          ∧ r.2.mem ((c.tc : Thread Cert.NormMemIdeal.nD Cert.NormMemIdeal.τ).loc Cert.NormMemIdeal.main_arg2) = m ((c.tc : Thread Cert.NormMemIdeal.nD Cert.NormMemIdeal.τ).loc Cert.NormMemIdeal.main_arg2))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v35) = v0 c
          ∧ r.2.mem ((c.tc : Thread Cert.NormMemRefIdeal.nD Cert.NormMemRefIdeal.τ).loc Cert.NormMemRefIdeal.main_v36) = v1 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1)
          ∧ r.2.mem ((c.tc : Thread Cert.NormMemRefIdeal.nD Cert.NormMemRefIdeal.τ).loc Cert.NormMemRefIdeal.main_arg2) = m' ((c.tc : Thread Cert.NormMemRefIdeal.nD Cert.NormMemRefIdeal.τ).loc Cert.NormMemRefIdeal.main_arg2))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_NormMm_NormMmIdeal : Prop :=
  True

def algebraic_NormMmIdeal_NormMmRefIdeal [hNormMmIdeal : Cert.NormMmIdeal.Facts] [hNormMmRefIdeal : Cert.NormMmRefIdeal.Facts] : Prop :=
  ∀ (m : (ℓ : Loc Cert.NormMmIdeal.nD Cert.NormMmIdeal.τ Cert.NormMmIdeal.sig) → Buf (Elt Ideal) ℓ) (g : Dev Cert.NormMmIdeal.nD → PrngReg)
    (m' : (ℓ : Loc Cert.NormMmRefIdeal.nD Cert.NormMmRefIdeal.τ Cert.NormMmRefIdeal.sig) → Buf (Elt Ideal) ℓ) (g' : Dev Cert.NormMmRefIdeal.nD → PrngReg), Pre_NormMmIdeal m →
    (∀ c : Dev Cert.NormMmIdeal.nD,
      m' ((c.tc : Thread Cert.NormMmRefIdeal.nD Cert.NormMmRefIdeal.τ).loc Cert.NormMmRefIdeal.main_arg0) = m ((c.tc : Thread Cert.NormMmIdeal.nD Cert.NormMmIdeal.τ).loc Cert.NormMmIdeal.main_arg0)
      ∧ m' ((c.tc : Thread Cert.NormMmRefIdeal.nD Cert.NormMmRefIdeal.τ).loc Cert.NormMmRefIdeal.main_arg1) = m ((c.tc : Thread Cert.NormMmIdeal.nD Cert.NormMmIdeal.τ).loc Cert.NormMmIdeal.main_arg1)
      ∧ m' ((c.tc : Thread Cert.NormMmRefIdeal.nD Cert.NormMmRefIdeal.τ).loc Cert.NormMmRefIdeal.main_arg2) = m ((c.tc : Thread Cert.NormMmIdeal.nD Cert.NormMmIdeal.τ).loc Cert.NormMmIdeal.main_arg2)) →
    ∃ (v0 : (c : Dev Cert.NormMmIdeal.nD) → Buf (Elt Ideal) ((c.tc : Thread Cert.NormMmIdeal.nD Cert.NormMmIdeal.τ).loc Cert.NormMmIdeal.main_v1_0)) (v1 : (c : Dev Cert.NormMmIdeal.nD) → Buf (Elt Ideal) ((c.tc : Thread Cert.NormMmIdeal.nD Cert.NormMmIdeal.τ).loc Cert.NormMmIdeal.main_v1_1)),
      θ_run (Cert.NormMmIdeal.defs (F := Ideal)) (onTc (τ := Cert.NormMmIdeal.τ) (Cert.NormMmIdeal.main (F := Ideal))) ⟨m, fun _ => 0, g⟩ (fun r => ∀ c : Dev Cert.NormMmIdeal.nD,
          r.2.mem ((c.tc : Thread Cert.NormMmIdeal.nD Cert.NormMmIdeal.τ).loc Cert.NormMmIdeal.main_v1_0) = v0 c
          ∧ r.2.mem ((c.tc : Thread Cert.NormMmIdeal.nD Cert.NormMmIdeal.τ).loc Cert.NormMmIdeal.main_v1_1) = v1 c
          ∧ r.2.mem ((c.tc : Thread Cert.NormMmIdeal.nD Cert.NormMmIdeal.τ).loc Cert.NormMmIdeal.main_arg0) = m ((c.tc : Thread Cert.NormMmIdeal.nD Cert.NormMmIdeal.τ).loc Cert.NormMmIdeal.main_arg0)
          ∧ r.2.mem ((c.tc : Thread Cert.NormMmIdeal.nD Cert.NormMmIdeal.τ).loc Cert.NormMmIdeal.main_arg1) = m ((c.tc : Thread Cert.NormMmIdeal.nD Cert.NormMmIdeal.τ).loc Cert.NormMmIdeal.main_arg1)
          ∧ r.2.mem ((c.tc : Thread Cert.NormMmIdeal.nD Cert.NormMmIdeal.τ).loc Cert.NormMmIdeal.main_arg2) = m ((c.tc : Thread Cert.NormMmIdeal.nD Cert.NormMmIdeal.τ).loc Cert.NormMmIdeal.main_arg2))
      ∧ θ_run (Cert.NormMmRefIdeal.defs (F := Ideal)) (onTc (τ := Cert.NormMmRefIdeal.τ) (Cert.NormMmRefIdeal.main (F := Ideal))) ⟨m', fun _ => 0, g'⟩ (fun r => ∀ c : Dev Cert.NormMmRefIdeal.nD,
          r.2.mem ((c.tc : Thread Cert.NormMmRefIdeal.nD Cert.NormMmRefIdeal.τ).loc Cert.NormMmRefIdeal.main_v14) = v0 c
          ∧ r.2.mem ((c.tc : Thread Cert.NormMmRefIdeal.nD Cert.NormMmRefIdeal.τ).loc Cert.NormMmRefIdeal.main_v15) = v1 c
          ∧ r.2.mem ((c.tc : Thread Cert.NormMmRefIdeal.nD Cert.NormMmRefIdeal.τ).loc Cert.NormMmRefIdeal.main_arg0) = m' ((c.tc : Thread Cert.NormMmRefIdeal.nD Cert.NormMmRefIdeal.τ).loc Cert.NormMmRefIdeal.main_arg0)
          ∧ r.2.mem ((c.tc : Thread Cert.NormMmRefIdeal.nD Cert.NormMmRefIdeal.τ).loc Cert.NormMmRefIdeal.main_arg1) = m' ((c.tc : Thread Cert.NormMmRefIdeal.nD Cert.NormMmRefIdeal.τ).loc Cert.NormMmRefIdeal.main_arg1)
          ∧ r.2.mem ((c.tc : Thread Cert.NormMmRefIdeal.nD Cert.NormMmRefIdeal.τ).loc Cert.NormMmRefIdeal.main_arg2) = m' ((c.tc : Thread Cert.NormMmRefIdeal.nD Cert.NormMmRefIdeal.τ).loc Cert.NormMmRefIdeal.main_arg2))

def preserves_MixBFwd_MixBFwdIdeal : Prop :=
  True

def algebraic_MixBFwdIdeal_MixBFwdRefIdeal [hMixBFwdIdeal : Cert.MixBFwdIdeal.Facts] [hMixBFwdRefIdeal : Cert.MixBFwdRefIdeal.Facts] : Prop :=
  ∀ (m : (ℓ : Loc Cert.MixBFwdIdeal.nD Cert.MixBFwdIdeal.τ Cert.MixBFwdIdeal.sig) → Buf (Elt Ideal) ℓ) (g : Dev Cert.MixBFwdIdeal.nD → PrngReg)
    (m' : (ℓ : Loc Cert.MixBFwdRefIdeal.nD Cert.MixBFwdRefIdeal.τ Cert.MixBFwdRefIdeal.sig) → Buf (Elt Ideal) ℓ) (g' : Dev Cert.MixBFwdRefIdeal.nD → PrngReg), Pre_MixBFwdIdeal m →
    (∀ c : Dev Cert.MixBFwdIdeal.nD,
      m' ((c.tc : Thread Cert.MixBFwdRefIdeal.nD Cert.MixBFwdRefIdeal.τ).loc Cert.MixBFwdRefIdeal.main_arg0) = m ((c.tc : Thread Cert.MixBFwdIdeal.nD Cert.MixBFwdIdeal.τ).loc Cert.MixBFwdIdeal.main_arg0)
      ∧ m' ((c.tc : Thread Cert.MixBFwdRefIdeal.nD Cert.MixBFwdRefIdeal.τ).loc Cert.MixBFwdRefIdeal.main_arg1) = m ((c.tc : Thread Cert.MixBFwdIdeal.nD Cert.MixBFwdIdeal.τ).loc Cert.MixBFwdIdeal.main_arg1)
      ∧ m' ((c.tc : Thread Cert.MixBFwdRefIdeal.nD Cert.MixBFwdRefIdeal.τ).loc Cert.MixBFwdRefIdeal.main_arg2) = m ((c.tc : Thread Cert.MixBFwdIdeal.nD Cert.MixBFwdIdeal.τ).loc Cert.MixBFwdIdeal.main_arg2)
      ∧ m' ((c.tc : Thread Cert.MixBFwdRefIdeal.nD Cert.MixBFwdRefIdeal.τ).loc Cert.MixBFwdRefIdeal.main_arg3) = m ((c.tc : Thread Cert.MixBFwdIdeal.nD Cert.MixBFwdIdeal.τ).loc Cert.MixBFwdIdeal.main_arg3)) →
    ∃ (v0 : (c : Dev Cert.MixBFwdIdeal.nD) → Buf (Elt Ideal) ((c.tc : Thread Cert.MixBFwdIdeal.nD Cert.MixBFwdIdeal.τ).loc Cert.MixBFwdIdeal.main_v4)),
      θ_run (Cert.MixBFwdIdeal.defs (F := Ideal)) (onTc (τ := Cert.MixBFwdIdeal.τ) (Cert.MixBFwdIdeal.main (F := Ideal))) ⟨m, fun _ => 0, g⟩ (fun r => ∀ c : Dev Cert.MixBFwdIdeal.nD,
          r.2.mem ((c.tc : Thread Cert.MixBFwdIdeal.nD Cert.MixBFwdIdeal.τ).loc Cert.MixBFwdIdeal.main_v4) = v0 c
          ∧ r.2.mem ((c.tc : Thread Cert.MixBFwdIdeal.nD Cert.MixBFwdIdeal.τ).loc Cert.MixBFwdIdeal.main_arg0) = m ((c.tc : Thread Cert.MixBFwdIdeal.nD Cert.MixBFwdIdeal.τ).loc Cert.MixBFwdIdeal.main_arg0)
          ∧ r.2.mem ((c.tc : Thread Cert.MixBFwdIdeal.nD Cert.MixBFwdIdeal.τ).loc Cert.MixBFwdIdeal.main_arg1) = m ((c.tc : Thread Cert.MixBFwdIdeal.nD Cert.MixBFwdIdeal.τ).loc Cert.MixBFwdIdeal.main_arg1)
          ∧ r.2.mem ((c.tc : Thread Cert.MixBFwdIdeal.nD Cert.MixBFwdIdeal.τ).loc Cert.MixBFwdIdeal.main_arg2) = m ((c.tc : Thread Cert.MixBFwdIdeal.nD Cert.MixBFwdIdeal.τ).loc Cert.MixBFwdIdeal.main_arg2)
          ∧ r.2.mem ((c.tc : Thread Cert.MixBFwdIdeal.nD Cert.MixBFwdIdeal.τ).loc Cert.MixBFwdIdeal.main_arg3) = m ((c.tc : Thread Cert.MixBFwdIdeal.nD Cert.MixBFwdIdeal.τ).loc Cert.MixBFwdIdeal.main_arg3))
      ∧ θ_run (Cert.MixBFwdRefIdeal.defs (F := Ideal)) (onTc (τ := Cert.MixBFwdRefIdeal.τ) (Cert.MixBFwdRefIdeal.main (F := Ideal))) ⟨m', fun _ => 0, g'⟩ (fun r => ∀ c : Dev Cert.MixBFwdRefIdeal.nD,
          r.2.mem ((c.tc : Thread Cert.MixBFwdRefIdeal.nD Cert.MixBFwdRefIdeal.τ).loc Cert.MixBFwdRefIdeal.main_v33) = v0 c
          ∧ r.2.mem ((c.tc : Thread Cert.MixBFwdRefIdeal.nD Cert.MixBFwdRefIdeal.τ).loc Cert.MixBFwdRefIdeal.main_arg0) = m' ((c.tc : Thread Cert.MixBFwdRefIdeal.nD Cert.MixBFwdRefIdeal.τ).loc Cert.MixBFwdRefIdeal.main_arg0)
          ∧ r.2.mem ((c.tc : Thread Cert.MixBFwdRefIdeal.nD Cert.MixBFwdRefIdeal.τ).loc Cert.MixBFwdRefIdeal.main_arg1) = m' ((c.tc : Thread Cert.MixBFwdRefIdeal.nD Cert.MixBFwdRefIdeal.τ).loc Cert.MixBFwdRefIdeal.main_arg1)
          ∧ r.2.mem ((c.tc : Thread Cert.MixBFwdRefIdeal.nD Cert.MixBFwdRefIdeal.τ).loc Cert.MixBFwdRefIdeal.main_arg2) = m' ((c.tc : Thread Cert.MixBFwdRefIdeal.nD Cert.MixBFwdRefIdeal.τ).loc Cert.MixBFwdRefIdeal.main_arg2)
          ∧ r.2.mem ((c.tc : Thread Cert.MixBFwdRefIdeal.nD Cert.MixBFwdRefIdeal.τ).loc Cert.MixBFwdRefIdeal.main_arg3) = m' ((c.tc : Thread Cert.MixBFwdRefIdeal.nD Cert.MixBFwdRefIdeal.τ).loc Cert.MixBFwdRefIdeal.main_arg3))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v1_0)) (v1 : (c : Dev Cert.FfnFwdIdeal.nD) → Buf (Elt Ideal) ((c.tc : Thread Cert.FfnFwdIdeal.nD Cert.FfnFwdIdeal.τ).loc Cert.FfnFwdIdeal.main_v1_1)) (v2 : (c : Dev Cert.FfnFwdIdeal.nD) → Buf (Elt Ideal) ((c.tc : Thread Cert.FfnFwdIdeal.nD Cert.FfnFwdIdeal.τ).loc Cert.FfnFwdIdeal.main_v1_2)) (v3 : (c : Dev Cert.FfnFwdIdeal.nD) → Buf (Elt Ideal) ((c.tc : Thread Cert.FfnFwdIdeal.nD Cert.FfnFwdIdeal.τ).loc Cert.FfnFwdIdeal.main_v1_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v1_0) = v0 c
          ∧ r.2.mem ((c.tc : Thread Cert.FfnFwdIdeal.nD Cert.FfnFwdIdeal.τ).loc Cert.FfnFwdIdeal.main_v1_1) = v1 c
          ∧ r.2.mem ((c.tc : Thread Cert.FfnFwdIdeal.nD Cert.FfnFwdIdeal.τ).loc Cert.FfnFwdIdeal.main_v1_2) = v2 c
          ∧ r.2.mem ((c.tc : Thread Cert.FfnFwdIdeal.nD Cert.FfnFwdIdeal.τ).loc Cert.FfnFwdIdeal.main_v1_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v23) = v0 c
          ∧ r.2.mem ((c.tc : Thread Cert.FfnFwdRefIdeal.nD Cert.FfnFwdRefIdeal.τ).loc Cert.FfnFwdRefIdeal.main_v24) = v1 c
          ∧ r.2.mem ((c.tc : Thread Cert.FfnFwdRefIdeal.nD Cert.FfnFwdRefIdeal.τ).loc Cert.FfnFwdRefIdeal.main_v25) = v2 c
          ∧ r.2.mem ((c.tc : Thread Cert.FfnFwdRefIdeal.nD Cert.FfnFwdRefIdeal.τ).loc Cert.FfnFwdRefIdeal.main_v26) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_MixAFwd_MixAFwdIdeal : Prop :=
  True

def algebraic_MixAFwdIdeal_MixAFwdRefIdeal [hMixAFwdIdeal : Cert.MixAFwdIdeal.Facts] [hMixAFwdRefIdeal : Cert.MixAFwdRefIdeal.Facts] : Prop :=
  ∀ (m : (ℓ : Loc Cert.MixAFwdIdeal.nD Cert.MixAFwdIdeal.τ Cert.MixAFwdIdeal.sig) → Buf (Elt Ideal) ℓ) (g : Dev Cert.MixAFwdIdeal.nD → PrngReg)
    (m' : (ℓ : Loc Cert.MixAFwdRefIdeal.nD Cert.MixAFwdRefIdeal.τ Cert.MixAFwdRefIdeal.sig) → Buf (Elt Ideal) ℓ) (g' : Dev Cert.MixAFwdRefIdeal.nD → PrngReg), Pre_MixAFwdIdeal m →
    (∀ c : Dev Cert.MixAFwdIdeal.nD,
      m' ((c.tc : Thread Cert.MixAFwdRefIdeal.nD Cert.MixAFwdRefIdeal.τ).loc Cert.MixAFwdRefIdeal.main_arg0) = m ((c.tc : Thread Cert.MixAFwdIdeal.nD Cert.MixAFwdIdeal.τ).loc Cert.MixAFwdIdeal.main_arg0)
      ∧ m' ((c.tc : Thread Cert.MixAFwdRefIdeal.nD Cert.MixAFwdRefIdeal.τ).loc Cert.MixAFwdRefIdeal.main_arg1) = m ((c.tc : Thread Cert.MixAFwdIdeal.nD Cert.MixAFwdIdeal.τ).loc Cert.MixAFwdIdeal.main_arg1)) →
    ∃ (v0 : (c : Dev Cert.MixAFwdIdeal.nD) → Buf (Elt Ideal) ((c.tc : Thread Cert.MixAFwdIdeal.nD Cert.MixAFwdIdeal.τ).loc Cert.MixAFwdIdeal.main_v0)),
      θ_run (Cert.MixAFwdIdeal.defs (F := Ideal)) (onTc (τ := Cert.MixAFwdIdeal.τ) (Cert.MixAFwdIdeal.main (F := Ideal))) ⟨m, fun _ => 0, g⟩ (fun r => ∀ c : Dev Cert.MixAFwdIdeal.nD,
          r.2.mem ((c.tc : Thread Cert.MixAFwdIdeal.nD Cert.MixAFwdIdeal.τ).loc Cert.MixAFwdIdeal.main_v0) = v0 c
          ∧ r.2.mem ((c.tc : Thread Cert.MixAFwdIdeal.nD Cert.MixAFwdIdeal.τ).loc Cert.MixAFwdIdeal.main_arg0) = m ((c.tc : Thread Cert.MixAFwdIdeal.nD Cert.MixAFwdIdeal.τ).loc Cert.MixAFwdIdeal.main_arg0)
          ∧ r.2.mem ((c.tc : Thread Cert.MixAFwdIdeal.nD Cert.MixAFwdIdeal.τ).loc Cert.MixAFwdIdeal.main_arg1) = m ((c.tc : Thread Cert.MixAFwdIdeal.nD Cert.MixAFwdIdeal.τ).loc Cert.MixAFwdIdeal.main_arg1))
      ∧ θ_run (Cert.MixAFwdRefIdeal.defs (F := Ideal)) (onTc (τ := Cert.MixAFwdRefIdeal.τ) (Cert.MixAFwdRefIdeal.main (F := Ideal))) ⟨m', fun _ => 0, g'⟩ (fun r => ∀ c : Dev Cert.MixAFwdRefIdeal.nD,
          r.2.mem ((c.tc : Thread Cert.MixAFwdRefIdeal.nD Cert.MixAFwdRefIdeal.τ).loc Cert.MixAFwdRefIdeal.main_v29) = v0 c
          ∧ r.2.mem ((c.tc : Thread Cert.MixAFwdRefIdeal.nD Cert.MixAFwdRefIdeal.τ).loc Cert.MixAFwdRefIdeal.main_arg0) = m' ((c.tc : Thread Cert.MixAFwdRefIdeal.nD Cert.MixAFwdRefIdeal.τ).loc Cert.MixAFwdRefIdeal.main_arg0)
          ∧ r.2.mem ((c.tc : Thread Cert.MixAFwdRefIdeal.nD Cert.MixAFwdRefIdeal.τ).loc Cert.MixAFwdRefIdeal.main_arg1) = m' ((c.tc : Thread Cert.MixAFwdRefIdeal.nD Cert.MixAFwdRefIdeal.τ).loc Cert.MixAFwdRefIdeal.main_arg1))

def preserves_MixDFwd_MixDFwdIdeal : Prop :=
  True

def algebraic_MixDFwdIdeal_MixDFwdRefIdeal_pre_finite_t [hMixDFwdIdeal : Cert.MixDFwdIdeal.Facts] [hMixDFwdRefIdeal : Cert.MixDFwdRefIdeal.Facts] [hPre_finite_t : Cert.Pre_finite_t.Facts] : Prop :=
  ∀ (m : (ℓ : Loc Cert.MixDFwdIdeal.nD Cert.MixDFwdIdeal.τ Cert.MixDFwdIdeal.sig) → Buf (Elt Ideal) ℓ) (g : Dev Cert.MixDFwdIdeal.nD → PrngReg)
    (m' : (ℓ : Loc Cert.MixDFwdRefIdeal.nD Cert.MixDFwdRefIdeal.τ Cert.MixDFwdRefIdeal.sig) → Buf (Elt Ideal) ℓ) (g' : Dev Cert.MixDFwdRefIdeal.nD → PrngReg), Pre_MixDFwdIdeal_finite_t m →
    (∀ c : Dev Cert.MixDFwdIdeal.nD,
      m' ((c.tc : Thread Cert.MixDFwdRefIdeal.nD Cert.MixDFwdRefIdeal.τ).loc Cert.MixDFwdRefIdeal.main_arg0) = m ((c.tc : Thread Cert.MixDFwdIdeal.nD Cert.MixDFwdIdeal.τ).loc Cert.MixDFwdIdeal.main_arg0)
      ∧ m' ((c.tc : Thread Cert.MixDFwdRefIdeal.nD Cert.MixDFwdRefIdeal.τ).loc Cert.MixDFwdRefIdeal.main_arg1) = m ((c.tc : Thread Cert.MixDFwdIdeal.nD Cert.MixDFwdIdeal.τ).loc Cert.MixDFwdIdeal.main_arg1)
      ∧ m' ((c.tc : Thread Cert.MixDFwdRefIdeal.nD Cert.MixDFwdRefIdeal.τ).loc Cert.MixDFwdRefIdeal.main_arg2) = m ((c.tc : Thread Cert.MixDFwdIdeal.nD Cert.MixDFwdIdeal.τ).loc Cert.MixDFwdIdeal.main_arg2)) →
    ∃ (v0 : (c : Dev Cert.MixDFwdIdeal.nD) → Buf (Elt Ideal) ((c.tc : Thread Cert.MixDFwdIdeal.nD Cert.MixDFwdIdeal.τ).loc Cert.MixDFwdIdeal.main_v27)),
      θ_run (Cert.MixDFwdIdeal.defs (F := Ideal)) (onTc (τ := Cert.MixDFwdIdeal.τ) (Cert.MixDFwdIdeal.main (F := Ideal))) ⟨m, fun _ => 0, g⟩ (fun r => ∀ c : Dev Cert.MixDFwdIdeal.nD,
          r.2.mem ((c.tc : Thread Cert.MixDFwdIdeal.nD Cert.MixDFwdIdeal.τ).loc Cert.MixDFwdIdeal.main_v27) = v0 c
          ∧ r.2.mem ((c.tc : Thread Cert.MixDFwdIdeal.nD Cert.MixDFwdIdeal.τ).loc Cert.MixDFwdIdeal.main_arg0) = m ((c.tc : Thread Cert.MixDFwdIdeal.nD Cert.MixDFwdIdeal.τ).loc Cert.MixDFwdIdeal.main_arg0)
          ∧ r.2.mem ((c.tc : Thread Cert.MixDFwdIdeal.nD Cert.MixDFwdIdeal.τ).loc Cert.MixDFwdIdeal.main_arg1) = m ((c.tc : Thread Cert.MixDFwdIdeal.nD Cert.MixDFwdIdeal.τ).loc Cert.MixDFwdIdeal.main_arg1)
          ∧ r.2.mem ((c.tc : Thread Cert.MixDFwdIdeal.nD Cert.MixDFwdIdeal.τ).loc Cert.MixDFwdIdeal.main_arg2) = m ((c.tc : Thread Cert.MixDFwdIdeal.nD Cert.MixDFwdIdeal.τ).loc Cert.MixDFwdIdeal.main_arg2))
      ∧ θ_run (Cert.MixDFwdRefIdeal.defs (F := Ideal)) (onTc (τ := Cert.MixDFwdRefIdeal.τ) (Cert.MixDFwdRefIdeal.main (F := Ideal))) ⟨m', fun _ => 0, g'⟩ (fun r => ∀ c : Dev Cert.MixDFwdRefIdeal.nD,
          r.2.mem ((c.tc : Thread Cert.MixDFwdRefIdeal.nD Cert.MixDFwdRefIdeal.τ).loc Cert.MixDFwdRefIdeal.main_v74) = v0 c
          ∧ r.2.mem ((c.tc : Thread Cert.MixDFwdRefIdeal.nD Cert.MixDFwdRefIdeal.τ).loc Cert.MixDFwdRefIdeal.main_arg0) = m' ((c.tc : Thread Cert.MixDFwdRefIdeal.nD Cert.MixDFwdRefIdeal.τ).loc Cert.MixDFwdRefIdeal.main_arg0)
          ∧ r.2.mem ((c.tc : Thread Cert.MixDFwdRefIdeal.nD Cert.MixDFwdRefIdeal.τ).loc Cert.MixDFwdRefIdeal.main_arg1) = m' ((c.tc : Thread Cert.MixDFwdRefIdeal.nD Cert.MixDFwdRefIdeal.τ).loc Cert.MixDFwdRefIdeal.main_arg1)
          ∧ r.2.mem ((c.tc : Thread Cert.MixDFwdRefIdeal.nD Cert.MixDFwdRefIdeal.τ).loc Cert.MixDFwdRefIdeal.main_arg2) = m' ((c.tc : Thread Cert.MixDFwdRefIdeal.nD Cert.MixDFwdRefIdeal.τ).loc Cert.MixDFwdRefIdeal.main_arg2))

def preserves_MixCFwd_MixCFwdIdeal : Prop :=
  True

def algebraic_MixCFwdIdeal_MixCFwdRefIdeal [hMixCFwdIdeal : Cert.MixCFwdIdeal.Facts] [hMixCFwdRefIdeal : Cert.MixCFwdRefIdeal.Facts] : Prop :=
  ∀ (m : (ℓ : Loc Cert.MixCFwdIdeal.nD Cert.MixCFwdIdeal.τ Cert.MixCFwdIdeal.sig) → Buf (Elt Ideal) ℓ) (g : Dev Cert.MixCFwdIdeal.nD → PrngReg)
    (m' : (ℓ : Loc Cert.MixCFwdRefIdeal.nD Cert.MixCFwdRefIdeal.τ Cert.MixCFwdRefIdeal.sig) → Buf (Elt Ideal) ℓ) (g' : Dev Cert.MixCFwdRefIdeal.nD → PrngReg), Pre_MixCFwdIdeal m →
    (∀ c : Dev Cert.MixCFwdIdeal.nD,
      m' ((c.tc : Thread Cert.MixCFwdRefIdeal.nD Cert.MixCFwdRefIdeal.τ).loc Cert.MixCFwdRefIdeal.main_arg0) = m ((c.tc : Thread Cert.MixCFwdIdeal.nD Cert.MixCFwdIdeal.τ).loc Cert.MixCFwdIdeal.main_arg0)
      ∧ m' ((c.tc : Thread Cert.MixCFwdRefIdeal.nD Cert.MixCFwdRefIdeal.τ).loc Cert.MixCFwdRefIdeal.main_arg1) = m ((c.tc : Thread Cert.MixCFwdIdeal.nD Cert.MixCFwdIdeal.τ).loc Cert.MixCFwdIdeal.main_arg1)
      ∧ m' ((c.tc : Thread Cert.MixCFwdRefIdeal.nD Cert.MixCFwdRefIdeal.τ).loc Cert.MixCFwdRefIdeal.main_arg2) = m ((c.tc : Thread Cert.MixCFwdIdeal.nD Cert.MixCFwdIdeal.τ).loc Cert.MixCFwdIdeal.main_arg2)
      ∧ m' ((c.tc : Thread Cert.MixCFwdRefIdeal.nD Cert.MixCFwdRefIdeal.τ).loc Cert.MixCFwdRefIdeal.main_arg3) = m ((c.tc : Thread Cert.MixCFwdIdeal.nD Cert.MixCFwdIdeal.τ).loc Cert.MixCFwdIdeal.main_arg3)) →
    ∃ (v0 : (c : Dev Cert.MixCFwdIdeal.nD) → Buf (Elt Ideal) ((c.tc : Thread Cert.MixCFwdIdeal.nD Cert.MixCFwdIdeal.τ).loc Cert.MixCFwdIdeal.main_v2)),
      θ_run (Cert.MixCFwdIdeal.defs (F := Ideal)) (onTc (τ := Cert.MixCFwdIdeal.τ) (Cert.MixCFwdIdeal.main (F := Ideal))) ⟨m, fun _ => 0, g⟩ (fun r => ∀ c : Dev Cert.MixCFwdIdeal.nD,
          r.2.mem ((c.tc : Thread Cert.MixCFwdIdeal.nD Cert.MixCFwdIdeal.τ).loc Cert.MixCFwdIdeal.main_v2) = v0 c
          ∧ r.2.mem ((c.tc : Thread Cert.MixCFwdIdeal.nD Cert.MixCFwdIdeal.τ).loc Cert.MixCFwdIdeal.main_arg0) = m ((c.tc : Thread Cert.MixCFwdIdeal.nD Cert.MixCFwdIdeal.τ).loc Cert.MixCFwdIdeal.main_arg0)
          ∧ r.2.mem ((c.tc : Thread Cert.MixCFwdIdeal.nD Cert.MixCFwdIdeal.τ).loc Cert.MixCFwdIdeal.main_arg1) = m ((c.tc : Thread Cert.MixCFwdIdeal.nD Cert.MixCFwdIdeal.τ).loc Cert.MixCFwdIdeal.main_arg1)
          ∧ r.2.mem ((c.tc : Thread Cert.MixCFwdIdeal.nD Cert.MixCFwdIdeal.τ).loc Cert.MixCFwdIdeal.main_arg2) = m ((c.tc : Thread Cert.MixCFwdIdeal.nD Cert.MixCFwdIdeal.τ).loc Cert.MixCFwdIdeal.main_arg2)
          ∧ r.2.mem ((c.tc : Thread Cert.MixCFwdIdeal.nD Cert.MixCFwdIdeal.τ).loc Cert.MixCFwdIdeal.main_arg3) = m ((c.tc : Thread Cert.MixCFwdIdeal.nD Cert.MixCFwdIdeal.τ).loc Cert.MixCFwdIdeal.main_arg3))
      ∧ θ_run (Cert.MixCFwdRefIdeal.defs (F := Ideal)) (onTc (τ := Cert.MixCFwdRefIdeal.τ) (Cert.MixCFwdRefIdeal.main (F := Ideal))) ⟨m', fun _ => 0, g'⟩ (fun r => ∀ c : Dev Cert.MixCFwdRefIdeal.nD,
          r.2.mem ((c.tc : Thread Cert.MixCFwdRefIdeal.nD Cert.MixCFwdRefIdeal.τ).loc Cert.MixCFwdRefIdeal.main_v254) = v0 c
          ∧ r.2.mem ((c.tc : Thread Cert.MixCFwdRefIdeal.nD Cert.MixCFwdRefIdeal.τ).loc Cert.MixCFwdRefIdeal.main_arg0) = m' ((c.tc : Thread Cert.MixCFwdRefIdeal.nD Cert.MixCFwdRefIdeal.τ).loc Cert.MixCFwdRefIdeal.main_arg0)
          ∧ r.2.mem ((c.tc : Thread Cert.MixCFwdRefIdeal.nD Cert.MixCFwdRefIdeal.τ).loc Cert.MixCFwdRefIdeal.main_arg1) = m' ((c.tc : Thread Cert.MixCFwdRefIdeal.nD Cert.MixCFwdRefIdeal.τ).loc Cert.MixCFwdRefIdeal.main_arg1)
          ∧ r.2.mem ((c.tc : Thread Cert.MixCFwdRefIdeal.nD Cert.MixCFwdRefIdeal.τ).loc Cert.MixCFwdRefIdeal.main_arg2) = m' ((c.tc : Thread Cert.MixCFwdRefIdeal.nD Cert.MixCFwdRefIdeal.τ).loc Cert.MixCFwdRefIdeal.main_arg2)
          ∧ r.2.mem ((c.tc : Thread Cert.MixCFwdRefIdeal.nD Cert.MixCFwdRefIdeal.τ).loc Cert.MixCFwdRefIdeal.main_arg3) = m' ((c.tc : Thread Cert.MixCFwdRefIdeal.nD Cert.MixCFwdRefIdeal.τ).loc Cert.MixCFwdRefIdeal.main_arg3))

def preserves_MatRes_MatResIdeal : Prop :=
  True

def algebraic_MatResIdeal_MatResRefIdeal [hMatResIdeal : Cert.MatResIdeal.Facts] [hMatResRefIdeal : Cert.MatResRefIdeal.Facts] : Prop :=
  ∀ (m : (ℓ : Loc Cert.MatResIdeal.nD Cert.MatResIdeal.τ Cert.MatResIdeal.sig) → Buf (Elt Ideal) ℓ) (g : Dev Cert.MatResIdeal.nD → PrngReg)
    (m' : (ℓ : Loc Cert.MatResRefIdeal.nD Cert.MatResRefIdeal.τ Cert.MatResRefIdeal.sig) → Buf (Elt Ideal) ℓ) (g' : Dev Cert.MatResRefIdeal.nD → PrngReg), Pre_MatResIdeal m →
    (∀ c : Dev Cert.MatResIdeal.nD,
      m' ((c.tc : Thread Cert.MatResRefIdeal.nD Cert.MatResRefIdeal.τ).loc Cert.MatResRefIdeal.main_arg0) = m ((c.tc : Thread Cert.MatResIdeal.nD Cert.MatResIdeal.τ).loc Cert.MatResIdeal.main_arg0)
      ∧ m' ((c.tc : Thread Cert.MatResRefIdeal.nD Cert.MatResRefIdeal.τ).loc Cert.MatResRefIdeal.main_arg1) = m ((c.tc : Thread Cert.MatResIdeal.nD Cert.MatResIdeal.τ).loc Cert.MatResIdeal.main_arg1)
      ∧ m' ((c.tc : Thread Cert.MatResRefIdeal.nD Cert.MatResRefIdeal.τ).loc Cert.MatResRefIdeal.main_arg2) = m ((c.tc : Thread Cert.MatResIdeal.nD Cert.MatResIdeal.τ).loc Cert.MatResIdeal.main_arg2)) →
    ∃ (v0 : (c : Dev Cert.MatResIdeal.nD) → Buf (Elt Ideal) ((c.tc : Thread Cert.MatResIdeal.nD Cert.MatResIdeal.τ).loc Cert.MatResIdeal.main_v0)),
      θ_run (Cert.MatResIdeal.defs (F := Ideal)) (onTc (τ := Cert.MatResIdeal.τ) (Cert.MatResIdeal.main (F := Ideal))) ⟨m, fun _ => 0, g⟩ (fun r => ∀ c : Dev Cert.MatResIdeal.nD,
          r.2.mem ((c.tc : Thread Cert.MatResIdeal.nD Cert.MatResIdeal.τ).loc Cert.MatResIdeal.main_v0) = v0 c
          ∧ r.2.mem ((c.tc : Thread Cert.MatResIdeal.nD Cert.MatResIdeal.τ).loc Cert.MatResIdeal.main_arg0) = m ((c.tc : Thread Cert.MatResIdeal.nD Cert.MatResIdeal.τ).loc Cert.MatResIdeal.main_arg0)
          ∧ r.2.mem ((c.tc : Thread Cert.MatResIdeal.nD Cert.MatResIdeal.τ).loc Cert.MatResIdeal.main_arg1) = m ((c.tc : Thread Cert.MatResIdeal.nD Cert.MatResIdeal.τ).loc Cert.MatResIdeal.main_arg1)
          ∧ r.2.mem ((c.tc : Thread Cert.MatResIdeal.nD Cert.MatResIdeal.τ).loc Cert.MatResIdeal.main_arg2) = m ((c.tc : Thread Cert.MatResIdeal.nD Cert.MatResIdeal.τ).loc Cert.MatResIdeal.main_arg2))
      ∧ θ_run (Cert.MatResRefIdeal.defs (F := Ideal)) (onTc (τ := Cert.MatResRefIdeal.τ) (Cert.MatResRefIdeal.main (F := Ideal))) ⟨m', fun _ => 0, g'⟩ (fun r => ∀ c : Dev Cert.MatResRefIdeal.nD,
          r.2.mem ((c.tc : Thread Cert.MatResRefIdeal.nD Cert.MatResRefIdeal.τ).loc Cert.MatResRefIdeal.main_v3) = v0 c
          ∧ r.2.mem ((c.tc : Thread Cert.MatResRefIdeal.nD Cert.MatResRefIdeal.τ).loc Cert.MatResRefIdeal.main_arg0) = m' ((c.tc : Thread Cert.MatResRefIdeal.nD Cert.MatResRefIdeal.τ).loc Cert.MatResRefIdeal.main_arg0)
          ∧ r.2.mem ((c.tc : Thread Cert.MatResRefIdeal.nD Cert.MatResRefIdeal.τ).loc Cert.MatResRefIdeal.main_arg1) = m' ((c.tc : Thread Cert.MatResRefIdeal.nD Cert.MatResRefIdeal.τ).loc Cert.MatResRefIdeal.main_arg1)
          ∧ r.2.mem ((c.tc : Thread Cert.MatResRefIdeal.nD Cert.MatResRefIdeal.τ).loc Cert.MatResRefIdeal.main_arg2) = m' ((c.tc : Thread Cert.MatResRefIdeal.nD Cert.MatResRefIdeal.τ).loc Cert.MatResRefIdeal.main_arg2))

def preserves_MatNt_MatNtIdeal : Prop :=
  True

def algebraic_MatNtIdeal_MatNtRefIdeal [hMatNtIdeal : Cert.MatNtIdeal.Facts] [hMatNtRefIdeal : Cert.MatNtRefIdeal.Facts] : Prop :=
  ∀ (m : (ℓ : Loc Cert.MatNtIdeal.nD Cert.MatNtIdeal.τ Cert.MatNtIdeal.sig) → Buf (Elt Ideal) ℓ) (g : Dev Cert.MatNtIdeal.nD → PrngReg)
    (m' : (ℓ : Loc Cert.MatNtRefIdeal.nD Cert.MatNtRefIdeal.τ Cert.MatNtRefIdeal.sig) → Buf (Elt Ideal) ℓ) (g' : Dev Cert.MatNtRefIdeal.nD → PrngReg), Pre_MatNtIdeal m →
    (∀ c : Dev Cert.MatNtIdeal.nD,
      m' ((c.tc : Thread Cert.MatNtRefIdeal.nD Cert.MatNtRefIdeal.τ).loc Cert.MatNtRefIdeal.main_arg0) = m ((c.tc : Thread Cert.MatNtIdeal.nD Cert.MatNtIdeal.τ).loc Cert.MatNtIdeal.main_arg0)
      ∧ m' ((c.tc : Thread Cert.MatNtRefIdeal.nD Cert.MatNtRefIdeal.τ).loc Cert.MatNtRefIdeal.main_arg1) = m ((c.tc : Thread Cert.MatNtIdeal.nD Cert.MatNtIdeal.τ).loc Cert.MatNtIdeal.main_arg1)) →
    ∃ (v0 : (c : Dev Cert.MatNtIdeal.nD) → Buf (Elt Ideal) ((c.tc : Thread Cert.MatNtIdeal.nD Cert.MatNtIdeal.τ).loc Cert.MatNtIdeal.main_v0)),
      θ_run (Cert.MatNtIdeal.defs (F := Ideal)) (onTc (τ := Cert.MatNtIdeal.τ) (Cert.MatNtIdeal.main (F := Ideal))) ⟨m, fun _ => 0, g⟩ (fun r => ∀ c : Dev Cert.MatNtIdeal.nD,
          r.2.mem ((c.tc : Thread Cert.MatNtIdeal.nD Cert.MatNtIdeal.τ).loc Cert.MatNtIdeal.main_v0) = v0 c
          ∧ r.2.mem ((c.tc : Thread Cert.MatNtIdeal.nD Cert.MatNtIdeal.τ).loc Cert.MatNtIdeal.main_arg0) = m ((c.tc : Thread Cert.MatNtIdeal.nD Cert.MatNtIdeal.τ).loc Cert.MatNtIdeal.main_arg0)
          ∧ r.2.mem ((c.tc : Thread Cert.MatNtIdeal.nD Cert.MatNtIdeal.τ).loc Cert.MatNtIdeal.main_arg1) = m ((c.tc : Thread Cert.MatNtIdeal.nD Cert.MatNtIdeal.τ).loc Cert.MatNtIdeal.main_arg1))
      ∧ θ_run (Cert.MatNtRefIdeal.defs (F := Ideal)) (onTc (τ := Cert.MatNtRefIdeal.τ) (Cert.MatNtRefIdeal.main (F := Ideal))) ⟨m', fun _ => 0, g'⟩ (fun r => ∀ c : Dev Cert.MatNtRefIdeal.nD,
          r.2.mem ((c.tc : Thread Cert.MatNtRefIdeal.nD Cert.MatNtRefIdeal.τ).loc Cert.MatNtRefIdeal.main_v3) = v0 c
          ∧ r.2.mem ((c.tc : Thread Cert.MatNtRefIdeal.nD Cert.MatNtRefIdeal.τ).loc Cert.MatNtRefIdeal.main_arg0) = m' ((c.tc : Thread Cert.MatNtRefIdeal.nD Cert.MatNtRefIdeal.τ).loc Cert.MatNtRefIdeal.main_arg0)
          ∧ r.2.mem ((c.tc : Thread Cert.MatNtRefIdeal.nD Cert.MatNtRefIdeal.τ).loc Cert.MatNtRefIdeal.main_arg1) = m' ((c.tc : Thread Cert.MatNtRefIdeal.nD Cert.MatNtRefIdeal.τ).loc Cert.MatNtRefIdeal.main_arg1))

def preserves_MatTn_MatTnIdeal : Prop :=
  True

def algebraic_MatTnIdeal_MatTnRefIdeal [hMatTnIdeal : Cert.MatTnIdeal.Facts] [hMatTnRefIdeal : Cert.MatTnRefIdeal.Facts] : Prop :=
  ∀ (m : (ℓ : Loc Cert.MatTnIdeal.nD Cert.MatTnIdeal.τ Cert.MatTnIdeal.sig) → Buf (Elt Ideal) ℓ) (g : Dev Cert.MatTnIdeal.nD → PrngReg)
    (m' : (ℓ : Loc Cert.MatTnRefIdeal.nD Cert.MatTnRefIdeal.τ Cert.MatTnRefIdeal.sig) → Buf (Elt Ideal) ℓ) (g' : Dev Cert.MatTnRefIdeal.nD → PrngReg), Pre_MatTnIdeal m →
    (∀ c : Dev Cert.MatTnIdeal.nD,
      m' ((c.tc : Thread Cert.MatTnRefIdeal.nD Cert.MatTnRefIdeal.τ).loc Cert.MatTnRefIdeal.main_arg0) = m ((c.tc : Thread Cert.MatTnIdeal.nD Cert.MatTnIdeal.τ).loc Cert.MatTnIdeal.main_arg0)
      ∧ m' ((c.tc : Thread Cert.MatTnRefIdeal.nD Cert.MatTnRefIdeal.τ).loc Cert.MatTnRefIdeal.main_arg1) = m ((c.tc : Thread Cert.MatTnIdeal.nD Cert.MatTnIdeal.τ).loc Cert.MatTnIdeal.main_arg1)
      ∧ m' ((c.tc : Thread Cert.MatTnRefIdeal.nD Cert.MatTnRefIdeal.τ).loc Cert.MatTnRefIdeal.main_arg2) = m ((c.tc : Thread Cert.MatTnIdeal.nD Cert.MatTnIdeal.τ).loc Cert.MatTnIdeal.main_arg2)) →
    ∃ (v0 : (c : Dev Cert.MatTnIdeal.nD) → Buf (Elt Ideal) ((c.tc : Thread Cert.MatTnIdeal.nD Cert.MatTnIdeal.τ).loc Cert.MatTnIdeal.main_v0)),
      θ_run (Cert.MatTnIdeal.defs (F := Ideal)) (onTc (τ := Cert.MatTnIdeal.τ) (Cert.MatTnIdeal.main (F := Ideal))) ⟨m, fun _ => 0, g⟩ (fun r => ∀ c : Dev Cert.MatTnIdeal.nD,
          r.2.mem ((c.tc : Thread Cert.MatTnIdeal.nD Cert.MatTnIdeal.τ).loc Cert.MatTnIdeal.main_v0) = v0 c
          ∧ r.2.mem ((c.tc : Thread Cert.MatTnIdeal.nD Cert.MatTnIdeal.τ).loc Cert.MatTnIdeal.main_arg0) = m ((c.tc : Thread Cert.MatTnIdeal.nD Cert.MatTnIdeal.τ).loc Cert.MatTnIdeal.main_arg0)
          ∧ r.2.mem ((c.tc : Thread Cert.MatTnIdeal.nD Cert.MatTnIdeal.τ).loc Cert.MatTnIdeal.main_arg1) = m ((c.tc : Thread Cert.MatTnIdeal.nD Cert.MatTnIdeal.τ).loc Cert.MatTnIdeal.main_arg1)
          ∧ r.2.mem ((c.tc : Thread Cert.MatTnIdeal.nD Cert.MatTnIdeal.τ).loc Cert.MatTnIdeal.main_arg2) = m ((c.tc : Thread Cert.MatTnIdeal.nD Cert.MatTnIdeal.τ).loc Cert.MatTnIdeal.main_arg2))
      ∧ θ_run (Cert.MatTnRefIdeal.defs (F := Ideal)) (onTc (τ := Cert.MatTnRefIdeal.τ) (Cert.MatTnRefIdeal.main (F := Ideal))) ⟨m', fun _ => 0, g'⟩ (fun r => ∀ c : Dev Cert.MatTnRefIdeal.nD,
          r.2.mem ((c.tc : Thread Cert.MatTnRefIdeal.nD Cert.MatTnRefIdeal.τ).loc Cert.MatTnRefIdeal.main_v6) = v0 c
          ∧ r.2.mem ((c.tc : Thread Cert.MatTnRefIdeal.nD Cert.MatTnRefIdeal.τ).loc Cert.MatTnRefIdeal.main_arg0) = m' ((c.tc : Thread Cert.MatTnRefIdeal.nD Cert.MatTnRefIdeal.τ).loc Cert.MatTnRefIdeal.main_arg0)
          ∧ r.2.mem ((c.tc : Thread Cert.MatTnRefIdeal.nD Cert.MatTnRefIdeal.τ).loc Cert.MatTnRefIdeal.main_arg1) = m' ((c.tc : Thread Cert.MatTnRefIdeal.nD Cert.MatTnRefIdeal.τ).loc Cert.MatTnRefIdeal.main_arg1)
          ∧ r.2.mem ((c.tc : Thread Cert.MatTnRefIdeal.nD Cert.MatTnRefIdeal.τ).loc Cert.MatTnRefIdeal.main_arg2) = m' ((c.tc : Thread Cert.MatTnRefIdeal.nD Cert.MatTnRefIdeal.τ).loc Cert.MatTnRefIdeal.main_arg2))

def preserves_AdamW_AdamWIdeal : Prop :=
  IdealRules.named_const.Statement Cert.AdamWIdeal.κ "c1" .f32 0x3FC48605#32 ((8388608 / 5463681 : ℝ) : EReal)
  ∧ IdealRules.named_const.Statement Cert.AdamWIdeal.κ "c2" .f32 0x42C8E6D3#32 ((268435456 / 2672307 : ℝ) : EReal)

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)
      ∧ m' ((c.tc : Thread Cert.AdamWRefIdeal.nD Cert.AdamWRefIdeal.τ).loc Cert.AdamWRefIdeal.main_arg4) = m ((c.tc : Thread Cert.AdamWIdeal.nD Cert.AdamWIdeal.τ).loc Cert.AdamWIdeal.main_arg4)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
          ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v2) = v0 c
          ∧ r.2.mem ((c.tc : Thread Cert.AdamWRefIdeal.nD Cert.AdamWRefIdeal.τ).loc Cert.AdamWRefIdeal.main_v26) = v1 c
          ∧ r.2.mem ((c.tc : Thread Cert.AdamWRefIdeal.nD Cert.AdamWRefIdeal.τ).loc Cert.AdamWRefIdeal.main_v7) = v2 c
          ∧ r.2.mem ((c.tc : Thread Cert.AdamWRefIdeal.nD Cert.AdamWRefIdeal.τ).loc Cert.AdamWRefIdeal.main_v13) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3)
          ∧ r.2.mem ((c.tc : Thread Cert.AdamWRefIdeal.nD Cert.AdamWRefIdeal.τ).loc Cert.AdamWRefIdeal.main_arg4) = m' ((c.tc : Thread Cert.AdamWRefIdeal.nD Cert.AdamWRefIdeal.τ).loc Cert.AdamWRefIdeal.main_arg4))

def Claim : Prop :=
  ∃ (hMixA : Cert.MixA.Facts) (hMixAIdeal : Cert.MixAIdeal.Facts) (hMixARefIdeal : Cert.MixARefIdeal.Facts) (hMixB : Cert.MixB.Facts) (hMixBIdeal : Cert.MixBIdeal.Facts) (hMixBRefIdeal : Cert.MixBRefIdeal.Facts) (hMixC : Cert.MixC.Facts) (hMixCIdeal : Cert.MixCIdeal.Facts) (hMixCRefIdeal : Cert.MixCRefIdeal.Facts) (hMixD : Cert.MixD.Facts) (hMixDIdeal : Cert.MixDIdeal.Facts) (hMixDRefIdeal : Cert.MixDRefIdeal.Facts) (hAttn : Cert.Attn.Facts) (hAttnIdeal : Cert.AttnIdeal.Facts) (hAttnRefIdeal : Cert.AttnRefIdeal.Facts) (hFfnDz : Cert.FfnDz.Facts) (hFfnDzIdeal : Cert.FfnDzIdeal.Facts) (hFfnDzRefIdeal : Cert.FfnDzRefIdeal.Facts) (hLossHead : Cert.LossHead.Facts) (hLossHeadIdeal : Cert.LossHeadIdeal.Facts) (hLossHeadRefIdeal : Cert.LossHeadRefIdeal.Facts) (hFfnDh : Cert.FfnDh.Facts) (hFfnDhIdeal : Cert.FfnDhIdeal.Facts) (hFfnDhRefIdeal : Cert.FfnDhRefIdeal.Facts) (hMixDh : Cert.MixDh.Facts) (hMixDhIdeal : Cert.MixDhIdeal.Facts) (hMixDhRefIdeal : Cert.MixDhRefIdeal.Facts) (hNormMem : Cert.NormMem.Facts) (hNormMemIdeal : Cert.NormMemIdeal.Facts) (hNormMemRefIdeal : Cert.NormMemRefIdeal.Facts) (hAttnFwd : Cert.AttnFwd.Facts) (hAttnFwdIdeal : Cert.AttnFwdIdeal.Facts) (hAttnFwdRefIdeal : Cert.AttnFwdRefIdeal.Facts) (hNormMm : Cert.NormMm.Facts) (hNormMmIdeal : Cert.NormMmIdeal.Facts) (hNormMmRefIdeal : Cert.NormMmRefIdeal.Facts) (hMixBFwd : Cert.MixBFwd.Facts) (hMixBFwdIdeal : Cert.MixBFwdIdeal.Facts) (hMixBFwdRefIdeal : Cert.MixBFwdRefIdeal.Facts) (hFfnFwd : Cert.FfnFwd.Facts) (hFfnFwdIdeal : Cert.FfnFwdIdeal.Facts) (hFfnFwdRefIdeal : Cert.FfnFwdRefIdeal.Facts) (hMixAFwd : Cert.MixAFwd.Facts) (hMixAFwdIdeal : Cert.MixAFwdIdeal.Facts) (hMixAFwdRefIdeal : Cert.MixAFwdRefIdeal.Facts) (hMixDFwd : Cert.MixDFwd.Facts) (hMixDFwdIdeal : Cert.MixDFwdIdeal.Facts) (hMixDFwdRefIdeal : Cert.MixDFwdRefIdeal.Facts) (hMixCFwd : Cert.MixCFwd.Facts) (hMixCFwdIdeal : Cert.MixCFwdIdeal.Facts) (hMixCFwdRefIdeal : Cert.MixCFwdRefIdeal.Facts) (hMatRes : Cert.MatRes.Facts) (hMatResIdeal : Cert.MatResIdeal.Facts) (hMatResRefIdeal : Cert.MatResRefIdeal.Facts) (hMatNt : Cert.MatNt.Facts) (hMatNtIdeal : Cert.MatNtIdeal.Facts) (hMatNtRefIdeal : Cert.MatNtRefIdeal.Facts) (hMatTn : Cert.MatTn.Facts) (hMatTnIdeal : Cert.MatTnIdeal.Facts) (hMatTnRefIdeal : Cert.MatTnRefIdeal.Facts) (hAdamW : Cert.AdamW.Facts) (hAdamWIdeal : Cert.AdamWIdeal.Facts) (hAdamWRefIdeal : Cert.AdamWRefIdeal.Facts) (hPre_finite_b : Cert.Pre_finite_b.Facts) (hPre_finite_c : Cert.Pre_finite_c.Facts) (hPre_finite_d : Cert.Pre_finite_d.Facts) (hPre_finite_e : Cert.Pre_finite_e.Facts) (hPre_finite_f : Cert.Pre_finite_f.Facts) (hPre_finite_t : Cert.Pre_finite_t.Facts),
    quiescent_MixA (hMixA := hMixA)
    ∧ quiescent_MixAIdeal (hMixAIdeal := hMixAIdeal)
    ∧ quiescent_MixARefIdeal (hMixARefIdeal := hMixARefIdeal)
    ∧ quiescent_MixB (hMixB := hMixB)
    ∧ quiescent_MixBIdeal (hMixBIdeal := hMixBIdeal)
    ∧ quiescent_MixBIdeal_pre_finite_b (hMixBIdeal := hMixBIdeal) (hPre_finite_b := hPre_finite_b)
    ∧ quiescent_MixBRefIdeal (hMixBRefIdeal := hMixBRefIdeal)
    ∧ quiescent_MixBRefIdeal_pre_finite_b (hMixBRefIdeal := hMixBRefIdeal) (hPre_finite_b := hPre_finite_b)
    ∧ quiescent_MixC (hMixC := hMixC)
    ∧ quiescent_MixCIdeal (hMixCIdeal := hMixCIdeal)
    ∧ quiescent_MixCIdeal_pre_finite_c (hMixCIdeal := hMixCIdeal) (hPre_finite_c := hPre_finite_c)
    ∧ quiescent_MixCRefIdeal (hMixCRefIdeal := hMixCRefIdeal)
    ∧ quiescent_MixCRefIdeal_pre_finite_c (hMixCRefIdeal := hMixCRefIdeal) (hPre_finite_c := hPre_finite_c)
    ∧ quiescent_MixD (hMixD := hMixD)
    ∧ quiescent_MixDIdeal (hMixDIdeal := hMixDIdeal)
    ∧ quiescent_MixDIdeal_pre_finite_d (hMixDIdeal := hMixDIdeal) (hPre_finite_d := hPre_finite_d)
    ∧ quiescent_MixDRefIdeal (hMixDRefIdeal := hMixDRefIdeal)
    ∧ quiescent_MixDRefIdeal_pre_finite_d (hMixDRefIdeal := hMixDRefIdeal) (hPre_finite_d := hPre_finite_d)
    ∧ quiescent_Attn (hAttn := hAttn)
    ∧ quiescent_AttnIdeal (hAttnIdeal := hAttnIdeal)
    ∧ quiescent_AttnIdeal_pre_finite_e (hAttnIdeal := hAttnIdeal) (hPre_finite_e := hPre_finite_e)
    ∧ quiescent_AttnRefIdeal (hAttnRefIdeal := hAttnRefIdeal)
    ∧ quiescent_AttnRefIdeal_pre_finite_e (hAttnRefIdeal := hAttnRefIdeal) (hPre_finite_e := hPre_finite_e)
    ∧ quiescent_FfnDz (hFfnDz := hFfnDz)
    ∧ quiescent_FfnDzIdeal (hFfnDzIdeal := hFfnDzIdeal)
    ∧ quiescent_FfnDzIdeal_pre_finite_f (hFfnDzIdeal := hFfnDzIdeal) (hPre_finite_f := hPre_finite_f)
    ∧ quiescent_FfnDzRefIdeal (hFfnDzRefIdeal := hFfnDzRefIdeal)
    ∧ quiescent_FfnDzRefIdeal_pre_finite_f (hFfnDzRefIdeal := hFfnDzRefIdeal) (hPre_finite_f := hPre_finite_f)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_MixDh (hMixDh := hMixDh)
    ∧ quiescent_MixDhIdeal (hMixDhIdeal := hMixDhIdeal)
    ∧ quiescent_MixDhRefIdeal (hMixDhRefIdeal := hMixDhRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_NormMm (hNormMm := hNormMm)
    ∧ quiescent_NormMmIdeal (hNormMmIdeal := hNormMmIdeal)
    ∧ quiescent_NormMmRefIdeal (hNormMmRefIdeal := hNormMmRefIdeal)
    ∧ quiescent_MixBFwd (hMixBFwd := hMixBFwd)
    ∧ quiescent_MixBFwdIdeal (hMixBFwdIdeal := hMixBFwdIdeal)
    ∧ quiescent_MixBFwdRefIdeal (hMixBFwdRefIdeal := hMixBFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MixAFwd (hMixAFwd := hMixAFwd)
    ∧ quiescent_MixAFwdIdeal (hMixAFwdIdeal := hMixAFwdIdeal)
    ∧ quiescent_MixAFwdRefIdeal (hMixAFwdRefIdeal := hMixAFwdRefIdeal)
    ∧ quiescent_MixDFwd (hMixDFwd := hMixDFwd)
    ∧ quiescent_MixDFwdIdeal (hMixDFwdIdeal := hMixDFwdIdeal)
    ∧ quiescent_MixDFwdIdeal_pre_finite_t (hMixDFwdIdeal := hMixDFwdIdeal) (hPre_finite_t := hPre_finite_t)
    ∧ quiescent_MixDFwdRefIdeal (hMixDFwdRefIdeal := hMixDFwdRefIdeal)
    ∧ quiescent_MixDFwdRefIdeal_pre_finite_t (hMixDFwdRefIdeal := hMixDFwdRefIdeal) (hPre_finite_t := hPre_finite_t)
    ∧ quiescent_MixCFwd (hMixCFwd := hMixCFwd)
    ∧ quiescent_MixCFwdIdeal (hMixCFwdIdeal := hMixCFwdIdeal)
    ∧ quiescent_MixCFwdRefIdeal (hMixCFwdRefIdeal := hMixCFwdRefIdeal)
    ∧ quiescent_MatRes (hMatRes := hMatRes)
    ∧ quiescent_MatResIdeal (hMatResIdeal := hMatResIdeal)
    ∧ quiescent_MatResRefIdeal (hMatResRefIdeal := hMatResRefIdeal)
    ∧ quiescent_MatNt (hMatNt := hMatNt)
    ∧ quiescent_MatNtIdeal (hMatNtIdeal := hMatNtIdeal)
    ∧ quiescent_MatNtRefIdeal (hMatNtRefIdeal := hMatNtRefIdeal)
    ∧ quiescent_MatTn (hMatTn := hMatTn)
    ∧ quiescent_MatTnIdeal (hMatTnIdeal := hMatTnIdeal)
    ∧ quiescent_MatTnRefIdeal (hMatTnRefIdeal := hMatTnRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ preserves_MixA_MixAIdeal
    ∧ algebraic_MixAIdeal_MixARefIdeal (hMixAIdeal := hMixAIdeal) (hMixARefIdeal := hMixARefIdeal)
    ∧ preserves_MixB_MixBIdeal
    ∧ algebraic_MixBIdeal_MixBRefIdeal_pre_finite_b (hMixBIdeal := hMixBIdeal) (hMixBRefIdeal := hMixBRefIdeal) (hPre_finite_b := hPre_finite_b)
    ∧ preserves_MixC_MixCIdeal
    ∧ algebraic_MixCIdeal_MixCRefIdeal_pre_finite_c (hMixCIdeal := hMixCIdeal) (hMixCRefIdeal := hMixCRefIdeal) (hPre_finite_c := hPre_finite_c)
    ∧ preserves_MixD_MixDIdeal
    ∧ algebraic_MixDIdeal_MixDRefIdeal_pre_finite_d (hMixDIdeal := hMixDIdeal) (hMixDRefIdeal := hMixDRefIdeal) (hPre_finite_d := hPre_finite_d)
    ∧ preserves_Attn_AttnIdeal
    ∧ algebraic_AttnIdeal_AttnRefIdeal_pre_finite_e (hAttnIdeal := hAttnIdeal) (hAttnRefIdeal := hAttnRefIdeal) (hPre_finite_e := hPre_finite_e)
    ∧ preserves_FfnDz_FfnDzIdeal
    ∧ algebraic_FfnDzIdeal_FfnDzRefIdeal_pre_finite_f (hFfnDzIdeal := hFfnDzIdeal) (hFfnDzRefIdeal := hFfnDzRefIdeal) (hPre_finite_f := hPre_finite_f)
    ∧ preserves_LossHead_LossHeadIdeal
    ∧ algebraic_LossHeadIdeal_LossHeadRefIdeal (hLossHeadIdeal := hLossHeadIdeal) (hLossHeadRefIdeal := hLossHeadRefIdeal)
    ∧ preserves_FfnDh_FfnDhIdeal
    ∧ algebraic_FfnDhIdeal_FfnDhRefIdeal (hFfnDhIdeal := hFfnDhIdeal) (hFfnDhRefIdeal := hFfnDhRefIdeal)
    ∧ preserves_MixDh_MixDhIdeal
    ∧ algebraic_MixDhIdeal_MixDhRefIdeal (hMixDhIdeal := hMixDhIdeal) (hMixDhRefIdeal := hMixDhRefIdeal)
    ∧ preserves_NormMem_NormMemIdeal
    ∧ algebraic_NormMemIdeal_NormMemRefIdeal (hNormMemIdeal := hNormMemIdeal) (hNormMemRefIdeal := hNormMemRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_NormMm_NormMmIdeal
    ∧ algebraic_NormMmIdeal_NormMmRefIdeal (hNormMmIdeal := hNormMmIdeal) (hNormMmRefIdeal := hNormMmRefIdeal)
    ∧ preserves_MixBFwd_MixBFwdIdeal
    ∧ algebraic_MixBFwdIdeal_MixBFwdRefIdeal (hMixBFwdIdeal := hMixBFwdIdeal) (hMixBFwdRefIdeal := hMixBFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MixAFwd_MixAFwdIdeal
    ∧ algebraic_MixAFwdIdeal_MixAFwdRefIdeal (hMixAFwdIdeal := hMixAFwdIdeal) (hMixAFwdRefIdeal := hMixAFwdRefIdeal)
    ∧ preserves_MixDFwd_MixDFwdIdeal
    ∧ algebraic_MixDFwdIdeal_MixDFwdRefIdeal_pre_finite_t (hMixDFwdIdeal := hMixDFwdIdeal) (hMixDFwdRefIdeal := hMixDFwdRefIdeal) (hPre_finite_t := hPre_finite_t)
    ∧ preserves_MixCFwd_MixCFwdIdeal
    ∧ algebraic_MixCFwdIdeal_MixCFwdRefIdeal (hMixCFwdIdeal := hMixCFwdIdeal) (hMixCFwdRefIdeal := hMixCFwdRefIdeal)
    ∧ preserves_MatRes_MatResIdeal
    ∧ algebraic_MatResIdeal_MatResRefIdeal (hMatResIdeal := hMatResIdeal) (hMatResRefIdeal := hMatResRefIdeal)
    ∧ preserves_MatNt_MatNtIdeal
    ∧ algebraic_MatNtIdeal_MatNtRefIdeal (hMatNtIdeal := hMatNtIdeal) (hMatNtRefIdeal := hMatNtRefIdeal)
    ∧ preserves_MatTn_MatTnIdeal
    ∧ algebraic_MatTnIdeal_MatTnRefIdeal (hMatTnIdeal := hMatTnIdeal) (hMatTnRefIdeal := hMatTnRefIdeal)
    ∧ preserves_AdamW_AdamWIdeal
    ∧ algebraic_AdamWIdeal_AdamWRefIdeal (hAdamWIdeal := hAdamWIdeal) (hAdamWRefIdeal := hAdamWRefIdeal)
-- ==== Pre_finite_b.lean ====
abbrev S4096x2048 : Shape := ⟨2, ![4096, 2048]⟩
abbrev S4096x1024 : Shape := ⟨2, ![4096, 1024]⟩
abbrev S256 : Shape := ⟨1, ![256]⟩
abbrev S4x128x128 : Shape := ⟨3, ![4, 128, 128]⟩
abbrev S4x128 : Shape := ⟨2, ![4, 128]⟩
abbrev S_ : Shape := ⟨0, ![]⟩

class Facts : Prop where
  bcast_S_S4096x2048 : S_.BroadcastsInDim S4096x2048 (![] : Fin 0 → Fin S4096x2048.rank)
  bcast_S_S4096x1024 : S_.BroadcastsInDim S4096x1024 (![] : Fin 0 → Fin S4096x1024.rank)
  bcast_S_S256 : S_.BroadcastsInDim S256 (![] : Fin 0 → Fin S256.rank)
  bcast_S_S4x128x128 : S_.BroadcastsInDim S4x128x128 (![] : Fin 0 → Fin S4x128x128.rank)

variable [Facts]

def fn {F : FTy → Type} [FloatOps F] (main_arg0 : FVec F S4096x2048 .f32) (main_arg1 : FVec F S4096x1024 .f32) (main_arg2 : FVec F S256 .f32) (main_arg3 : FVec F S4x128x128 .f32) (main_arg4 : FVec F S4x128 .f32) : IVec S4096x2048 1 × IVec S4096x1024 1 × IVec S256 1 × IVec S4x128x128 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  (main_v2, main_v5, main_v8, main_v11)
-- ==== Pre_finite_c.lean ====
abbrev S4096x2048 : Shape := ⟨2, ![4096, 2048]⟩
abbrev S4096x1024 : Shape := ⟨2, ![4096, 1024]⟩
abbrev S31x256 : Shape := ⟨2, ![31, 256]⟩
abbrev S256 : Shape := ⟨1, ![256]⟩
abbrev S_ : Shape := ⟨0, ![]⟩

class Facts : Prop where
  bcast_S_S4096x2048 : S_.BroadcastsInDim S4096x2048 (![] : Fin 0 → Fin S4096x2048.rank)
  bcast_S_S4096x1024 : S_.BroadcastsInDim S4096x1024 (![] : Fin 0 → Fin S4096x1024.rank)
  bcast_S_S31x256 : S_.BroadcastsInDim S31x256 (![] : Fin 0 → Fin S31x256.rank)
  bcast_S_S256 : S_.BroadcastsInDim S256 (![] : Fin 0 → Fin S256.rank)

variable [Facts]

def fn {F : FTy → Type} [FloatOps F] (main_arg0 : FVec F S4096x2048 .f32) (main_arg1 : FVec F S4096x1024 .f32) (main_arg2 : FVec F S31x256 .f32) (main_arg3 : FVec F S256 .f32) (main_arg4 : FVec F S256 .f32) : IVec S4096x2048 1 × IVec S4096x1024 1 × IVec S31x256 1 × IVec S256 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S31x256 .f32 := Host.absf main_arg2
  let main_cst_1 : FVec F S_ .f32 := constant S_ .f32 0x7F800000#32
  let main_v7 : FVec F S31x256 .f32 := broadcastInDim S31x256 ![] bcast_S_S31x256 main_cst_1
  let main_v8 : IVec S31x256 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  (main_v2, main_v5, main_v8, main_v11)
-- ==== Pre_finite_d.lean ====
abbrev S4096x2048 : Shape := ⟨2, ![4096, 2048]⟩
abbrev S4096x1024 : Shape := ⟨2, ![4096, 1024]⟩
abbrev S4x64x64 : Shape := ⟨3, ![4, 64, 64]⟩
abbrev S256 : Shape := ⟨1, ![256]⟩
abbrev S_ : Shape := ⟨0, ![]⟩

class Facts : Prop where
  bcast_S_S4096x2048 : S_.BroadcastsInDim S4096x2048 (![] : Fin 0 → Fin S4096x2048.rank)
  bcast_S_S4096x1024 : S_.BroadcastsInDim S4096x1024 (![] : Fin 0 → Fin S4096x1024.rank)
  bcast_S_S4x64x64 : S_.BroadcastsInDim S4x64x64 (![] : Fin 0 → Fin S4x64x64.rank)
  bcast_S_S256 : S_.BroadcastsInDim S256 (![] : Fin 0 → Fin S256.rank)

variable [Facts]

def fn {F : FTy → Type} [FloatOps F] (main_arg0 : FVec F S4096x2048 .f32) (main_arg1 : FVec F S4096x1024 .f32) (main_arg2 : FVec F S4x64x64 .f32) (main_arg3 : FVec F S256 .f32) : IVec S4096x2048 1 × IVec S4096x1024 1 × IVec S4x64x64 1 × IVec S256 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4x64x64 .f32 := Host.absf main_arg2
  let main_cst_1 : FVec F S_ .f32 := constant S_ .f32 0x7F800000#32
  let main_v7 : FVec F S4x64x64 .f32 := broadcastInDim S4x64x64 ![] bcast_S_S4x64x64 main_cst_1
  let main_v8 : IVec S4x64x64 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  (main_v2, main_v5, main_v8, main_v11)
-- ==== Pre_finite_e.lean ====
abbrev S4096x1024 : Shape := ⟨2, ![4096, 1024]⟩
abbrev S256x2048 : Shape := ⟨2, ![256, 2048]⟩
abbrev S_ : Shape := ⟨0, ![]⟩

class Facts : Prop where
  bcast_S_S4096x1024 : S_.BroadcastsInDim S4096x1024 (![] : Fin 0 → Fin S4096x1024.rank)
  bcast_S_S256x2048 : S_.BroadcastsInDim S256x2048 (![] : Fin 0 → Fin S256x2048.rank)

variable [Facts]

def fn {F : FTy → Type} [FloatOps F] (main_arg0 : FVec F S4096x1024 .bf16) (main_arg1 : FVec F S256x2048 .f32) (main_arg2 : FVec F S4096x1024 .bf16) : IVec S4096x1024 1 × IVec S256x2048 1 × IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S256x2048 .f32 := Host.absf main_arg1
  let main_cst_0 : FVec F S_ .f32 := constant S_ .f32 0x7F800000#32
  let main_v4 : FVec F S256x2048 .f32 := broadcastInDim S256x2048 ![] bcast_S_S256x2048 main_cst_0
  let main_v5 : IVec S256x2048 1 := cmpf .olt main_v3 main_v4
  let main_v6 : FVec F S4096x1024 .bf16 := Host.absf main_arg2
  let main_cst_1 : FVec F S_ .bf16 := constant S_ .bf16 0x7F80#16
  let main_v7 : FVec F S4096x1024 .bf16 := broadcastInDim S4096x1024 ![] bcast_S_S4096x1024 main_cst_1
  let main_v8 : IVec S4096x1024 1 := cmpf .olt main_v6 main_v7
  (main_v2, main_v5, main_v8)
-- ==== Pre_finite_f.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x2816 .bf16) (main_arg2 : FVec F S4096x2816 .bf16) (main_arg3 : FVec F S2816x1024 .bf16) : IVec S4096x1024 1 × IVec S4096x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .bf16 := Host.absf main_arg2
  let main_cst_0 : FVec F S_ .bf16 := constant S_ .bf16 0x7F80#16
  let main_v4 : FVec F S4096x2816 .bf16 := broadcastInDim S4096x2816 ![] bcast_S_S4096x2816 main_cst_0
  let main_v5 : IVec S4096x2816 1 := cmpf .olt main_v3 main_v4
  let main_v6 : FVec F S2816x1024 .bf16 := Host.absf main_arg3
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  (main_v2, main_v5, main_v8)
-- ==== Pre_finite_t.lean ====
abbrev S4096x2048 : Shape := ⟨2, ![4096, 2048]⟩
abbrev S4x64x64 : Shape := ⟨3, ![4, 64, 64]⟩
abbrev S256 : Shape := ⟨1, ![256]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S4x64x64 .f32) (main_arg2 : FVec F S256 .f32) : IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  main_v2
-- ==== MixA.lean ====
abbrev S4096x2048 : Shape := ⟨2, ![4096, 2048]⟩
abbrev S4096x1024 : Shape := ⟨2, ![4096, 1024]⟩
abbrev S3x256 : Shape := ⟨2, ![3, 256]⟩
abbrev S4096x256 : Shape := ⟨2, ![4096, 256]⟩
abbrev S4104x256 : Shape := ⟨2, ![4104, 256]⟩
abbrev S8x256 : Shape := ⟨2, ![8, 256]⟩
abbrev S128x256 : Shape := ⟨2, ![128, 256]⟩
abbrev S136x256 : Shape := ⟨2, ![136, 256]⟩
abbrev S1x256 : Shape := ⟨2, ![1, 256]⟩
abbrev S256 : Shape := ⟨1, ![256]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S3x256, .f32⟩
  | .hbm, ⟨3, _⟩ => ⟨S4096x256, .bf16⟩
  | .hbm, ⟨4, _⟩ => ⟨S4096x256, .bf16⟩
  | .hbm, ⟨5, _⟩ => ⟨S4096x256, .bf16⟩
  | .hbm, ⟨6, _⟩ => ⟨S3x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S3x256, .f32⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S3x256, .f32⟩
  | .local _ .vmem, ⟨9, _⟩ => ⟨S4104x256, .f32⟩
  | .local _ .vmem, ⟨10, _⟩ => ⟨S4104x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c32_i32 : BitVec 32 := 32#32
  let v10 : BitVec 32 := Scalar.addi c0_i32 c32_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v12 : BitVec 32 := Scalar.muli arg12 c128_i32
  v12
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v12 : BitVec 32 := Scalar.muli arg12 c128_i32
  let v13 : BitVec 32 := v12
  let v14 : Index := Scalar.indexCast v13
  let c0_11 : Index := 0#32
  ![v14.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v12 : BitVec 32 := Scalar.muli arg12 c128_i32
  let v13 : BitVec 32 := v12
  let c8_i32 : BitVec 32 := 8#32
  let v19 : BitVec 32 := Scalar.addi v13 c8_i32
  let v20 : Index := Scalar.indexCast v19
  let c0_13 : Index := 0#32
  ![v20.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v12 : BitVec 32 := Scalar.muli arg12 c128_i32
  let v13 : BitVec 32 := v12
  let v24 : Index := Scalar.indexCast v13
  let c0_14 : Index := 0#32
  ![v24.toNat, 0]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v12 : BitVec 32 := Scalar.muli arg12 c128_i32
  let v13 : BitVec 32 := v12
  let v53 : Index := Scalar.indexCast v13
  let c0_24 : Index := 0#32
  ![v53.toNat, 0]
@[reducible] def k0_t2_loop : Scf.Loop 32 :=
  let c0_i32_7 : BitVec 32 := 0#32
  let c32_i32_8 : BitVec 32 := 32#32
  let v11 : BitVec 32 := Scalar.addi c0_i32_7 c32_i32_8
  let c1_i32_9 : BitVec 32 := 1#32
  ⟨c0_i32_7, v11, c1_i32_9⟩
def k0_mult2 (k0_t2 : Fin k0_t2_loop.trips) : BitVec 32 :=
  let c0_i32_7 : BitVec 32 := 0#32
  let c1_i32_9 : BitVec 32 := 1#32
  let arg12 : BitVec 32 := Scf.iv c0_i32_7 c1_i32_9 k0_t2
  let c128_i32 : BitVec 32 := 128#32
  let v12 : BitVec 32 := Scalar.muli arg12 c128_i32
  v12
def k0_off5 (k0_t2 : Fin k0_t2_loop.trips) : Fin 2 → Nat :=
  let c0_i32_7 : BitVec 32 := 0#32
  let c1_i32_9 : BitVec 32 := 1#32
  let arg12 : BitVec 32 := Scf.iv c0_i32_7 c1_i32_9 k0_t2
  let c128_i32 : BitVec 32 := 128#32
  let v12 : BitVec 32 := Scalar.muli arg12 c128_i32
  let v13 : BitVec 32 := v12
  let v14 : Index := Scalar.indexCast v13
  let c0_11 : Index := 0#32
  ![v14.toNat, 0]
def k0_off6 (k0_t2 : Fin k0_t2_loop.trips) : Fin 2 → Nat :=
  let c0_i32_7 : BitVec 32 := 0#32
  let c1_i32_9 : BitVec 32 := 1#32
  let arg12 : BitVec 32 := Scf.iv c0_i32_7 c1_i32_9 k0_t2
  let c128_i32 : BitVec 32 := 128#32
  let v12 : BitVec 32 := Scalar.muli arg12 c128_i32
  let v13 : BitVec 32 := v12
  let v34 : Index := Scalar.indexCast v13
  let c0_17 : Index := 0#32
  ![v34.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixARefIdeal.lean ====
abbrev S4096x2048 : Shape := ⟨2, ![4096, 2048]⟩
abbrev S4096x1024 : Shape := ⟨2, ![4096, 1024]⟩
abbrev S3x256 : Shape := ⟨2, ![3, 256]⟩
abbrev S4096x256 : Shape := ⟨2, ![4096, 256]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S256 : Shape := ⟨1, ![256]⟩

abbrev nBuf : Space → Nat
  | .hbm => 89
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S3x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S2x256, .f32⟩
  | .hbm, ⟨9, _⟩ => ⟨S4098x256, .f32⟩
  | .hbm, ⟨10, _⟩ => ⟨S_, .f32⟩
  | .hbm, ⟨11, _⟩ => ⟨S2x256, .f32⟩
  | .hbm, ⟨12, _⟩ => ⟨S1x256, .f32⟩
  | .hbm, ⟨13, _⟩ => ⟨S256, .f32⟩
  | .hbm, ⟨14, _⟩ => ⟨S4096x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S1x256, .f32⟩
  | .hbm, ⟨22, _⟩ => ⟨S256, .f32⟩
  | .hbm, ⟨23, _⟩ => ⟨S4096x256, .f32⟩
  | .hbm, ⟨24, _⟩ => ⟨S1x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S1x256, .f32⟩
  | .hbm, ⟨29, _⟩ => ⟨S256, .f32⟩
  | .hbm, ⟨30, _⟩ => ⟨S4096x256, .f32⟩
  | .hbm, ⟨31, _⟩ => ⟨S1x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S_, .f32⟩
  | .hbm, ⟨43, _⟩ => ⟨S256, .f32⟩
  | .hbm, ⟨44, _⟩ => ⟨S1x256, .f32⟩
  | .hbm, ⟨45, _⟩ => ⟨S_, .f32⟩
  | .hbm, ⟨46, _⟩ => ⟨S256, .f32⟩
  | .hbm, ⟨47, _⟩ => ⟨S_, .f32⟩
  | .hbm, ⟨48, _⟩ => ⟨S4098x256, .f32⟩
  | .hbm, ⟨49, _⟩ => ⟨S1x256, .f32⟩
  | .hbm, ⟨50, _⟩ => ⟨S_, .f32⟩
  | .hbm, ⟨51, _⟩ => ⟨S3x256, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S_, .f32⟩
  | .hbm, ⟨56, _⟩ => ⟨S256, .f32⟩
  | .hbm, ⟨57, _⟩ => ⟨S1x256, .f32⟩
  | .hbm, ⟨58, _⟩ => ⟨S_, .f32⟩
  | .hbm, ⟨59, _⟩ => ⟨S256, .f32⟩
  | .hbm, ⟨60, _⟩ => ⟨S_, .f32⟩
  | .hbm, ⟨61, _⟩ => ⟨S4098x256, .f32⟩
  | .hbm, ⟨62, _⟩ => ⟨S4098x256, .f32⟩
  | .hbm, ⟨63, _⟩ => ⟨S1x256, .f32⟩
  | .hbm, ⟨64, _⟩ => ⟨S_, .f32⟩
  | .hbm, ⟨65, _⟩ => ⟨S3x256, .f32⟩
  | .hbm, ⟨66, _⟩ => ⟨S3x256, .f32⟩
  | .hbm, ⟨67, _⟩ => ⟨S4096x256, .f32⟩
  | .hbm, ⟨68, _⟩ => ⟨S4096x256, .f32⟩
  | .hbm, ⟨69, _⟩ => ⟨S4096x256, .f32⟩
  | .hbm, ⟨70, _⟩ => ⟨S_, .f32⟩
  | .hbm, ⟨71, _⟩ => ⟨S256, .f32⟩
  | .hbm, ⟨72, _⟩ => ⟨S1x256, .f32⟩
  | .hbm, ⟨73, _⟩ => ⟨S_, .f32⟩
  | .hbm, ⟨74, _⟩ => ⟨S256, .f32⟩
  | .hbm, ⟨75, _⟩ => ⟨S_, .f32⟩
  | .hbm, ⟨76, _⟩ => ⟨S4098x256, .f32⟩
  | .hbm, ⟨77, _⟩ => ⟨S4098x256, .f32⟩
  | .hbm, ⟨78, _⟩ => ⟨S1x256, .f32⟩
  | .hbm, ⟨79, _⟩ => ⟨S_, .f32⟩
  | .hbm, ⟨80, _⟩ => ⟨S3x256, .f32⟩
  | .hbm, ⟨81, _⟩ => ⟨S3x256, .f32⟩
  | .hbm, ⟨82, _⟩ => ⟨S2x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .bf16⟩
  | .hbm, ⟨87, _⟩ => ⟨S4096x256, .bf16⟩
  | .hbm, ⟨88, _⟩ => ⟨S4096x256, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== MixB.lean ====
abbrev S4096x2048 : Shape := ⟨2, ![4096, 2048]⟩
abbrev S4096x1024 : Shape := ⟨2, ![4096, 1024]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S4096x256 : Shape := ⟨2, ![4096, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 17
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S1x256, .f32⟩
  | .hbm, ⟨9, _⟩ => ⟨S4096x256, .bf16⟩
  | .hbm, ⟨10, _⟩ => ⟨S4096x256, .bf16⟩
  | .hbm, ⟨11, _⟩ => ⟨S4x128x128, .f32⟩
  | .hbm, ⟨12, _⟩ => ⟨S128x128, .f32⟩
  | .hbm, ⟨13, _⟩ => ⟨S1x256, .f32⟩
  | .hbm, ⟨14, _⟩ => ⟨S128x4, .f32⟩
  | .hbm, ⟨15, _⟩ => ⟨S4x128, .f32⟩
  | .hbm, ⟨16, _⟩ => ⟨S256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S1x256, .f32⟩
  | .local _ .vmem, ⟨4, _⟩ => ⟨S4x128x128, .f32⟩
  | .local _ .vmem, ⟨5, _⟩ => ⟨S128x256, .f32⟩
  | .local _ .vmem, ⟨6, _⟩ => ⟨S4096x256, .bf16⟩
  | .local _ .vmem, ⟨7, _⟩ => ⟨S4096x256, .bf16⟩
  | .local _ .vmem, ⟨8, _⟩ => ⟨S4x128x128, .f32⟩
  | .local _ .vmem, ⟨9, _⟩ => ⟨S128x128, .f32⟩
  | .local _ .vmem, ⟨10, _⟩ => ⟨S1x256, .f32⟩
  | .local _ .vmem, ⟨11, _⟩ => ⟨S128x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_25 : BitVec 32 := 0#32
  let c32_i32 : BitVec 32 := 32#32
  let v65 : BitVec 32 := Scalar.addi c0_i32_25 c32_i32
  let c1_i32_26 : BitVec 32 := 1#32
  ⟨c0_i32_25, v65, c1_i32_26⟩
def k0_mult1 (k0_t1 : Fin k0_t1_loop.trips) : BitVec 32 :=
  let c0_i32_25 : BitVec 32 := 0#32
  let c1_i32_26 : BitVec 32 := 1#32
  let arg13 : BitVec 32 := Scf.iv c0_i32_25 c1_i32_26 k0_t1
  let c128_i32 : BitVec 32 := 128#32
  let v153 : BitVec 32 := Scalar.muli arg13 c128_i32
  v153
def k0_off1 (k0_t1 : Fin k0_t1_loop.trips) : Fin 2 → Nat :=
  let c0_i32_25 : BitVec 32 := 0#32
  let c1_i32_26 : BitVec 32 := 1#32
  let arg13 : BitVec 32 := Scf.iv c0_i32_25 c1_i32_26 k0_t1
  let c128_i32 : BitVec 32 := 128#32
  let v153 : BitVec 32 := Scalar.muli arg13 c128_i32
  let v154 : BitVec 32 := v153
  let v155 : Index := Scalar.indexCast v154
  let c0_79 : Index := 0#32
  ![v155.toNat, 0]
def cc0_transform_0 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixBRefIdeal.lean ====
abbrev S4096x2048 : Shape := ⟨2, ![4096, 2048]⟩
abbrev S4096x1024 : Shape := ⟨2, ![4096, 1024]⟩
abbrev S256 : Shape := ⟨1, ![256]⟩
abbrev S4x128x128 : Shape := ⟨3, ![4, 128, 128]⟩
abbrev S4x128 : Shape := ⟨2, ![4, 128]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S32x128x4x64 : Shape := ⟨4, ![32, 128, 4, 64]⟩
abbrev S128x128 : Shape := ⟨2, ![128, 128]⟩
abbrev S4x32x64x128 : Shape := ⟨4, ![4, 32, 64, 128]⟩
abbrev S128x4 : Shape := ⟨2, ![128, 4]⟩
abbrev S1x128x4x1 : Shape := ⟨4, ![1, 128, 4, 1]⟩

abbrev nBuf : Space → Nat
  | .hbm => 120
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x256, .f32⟩
  | .hbm, ⟨26, _⟩ => ⟨S4096x256, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x256, .f32⟩
  | .hbm, ⟨36, _⟩ => ⟨S4096x256, .f32⟩
  | .hbm, ⟨37, _⟩ => ⟨S1x256, .f32⟩
  | .hbm, ⟨38, _⟩ => ⟨S4096x256, .f32⟩
  | .hbm, ⟨39, _⟩ => ⟨S4096x256, .f32⟩
  | .hbm, ⟨40, _⟩ => ⟨S32x128x4x64, .f32⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S4x128x128, .i1⟩
  | .hbm, ⟨48, _⟩ => ⟨S_, .f32⟩
  | .hbm, ⟨49, _⟩ => ⟨S4x128x128, .f32⟩
  | .hbm, ⟨50, _⟩ => ⟨S4x128x128, .f32⟩
  | .hbm, ⟨51, _⟩ => ⟨S_, .f32⟩
  | .hbm, ⟨52, _⟩ => ⟨S4x128x128, .f32⟩
  | .hbm, ⟨53, _⟩ => ⟨S4x32x64x128, .f32⟩
  | .hbm, ⟨54, _⟩ => ⟨S32x128x4x64, .f32⟩
  | .hbm, ⟨55, _⟩ => ⟨S128x4, .f32⟩
  | .hbm, ⟨56, _⟩ => ⟨S1x128x4x1, .f32⟩
  | .hbm, ⟨57, _⟩ => ⟨S32x128x4x64, .f32⟩
  | .hbm, ⟨58, _⟩ => ⟨S32x128x4x64, .f32⟩
  | .hbm, ⟨59, _⟩ => ⟨S4096x256, .f32⟩
  | .hbm, ⟨60, _⟩ => ⟨S4096x256, .f32⟩
  | .hbm, ⟨61, _⟩ => ⟨S4096x256, .f32⟩
  | .hbm, ⟨62, _⟩ => ⟨S4096x256, .f32⟩
  | .hbm, ⟨63, _⟩ => ⟨S4096x256, .f32⟩
  | .hbm, ⟨64, _⟩ => ⟨S32x128x4x64, .f32⟩
  | .hbm, ⟨65, _⟩ => ⟨S_, .f32⟩
  | .hbm, ⟨66, _⟩ => ⟨S128x4, .f32⟩
  | .hbm, ⟨67, _⟩ => ⟨S1x128x4x1, .f32⟩
  | .hbm, ⟨68, _⟩ => ⟨S_, .f32⟩
  | .hbm, ⟨69, _⟩ => ⟨S128x4, .f32⟩
  | .hbm, ⟨70, _⟩ => ⟨S4x128, .f32⟩
  | .hbm, ⟨71, _⟩ => ⟨S4x32x64x128, .f32⟩
  | .hbm, ⟨72, _⟩ => ⟨S4x128x128, .f32⟩
  | .hbm, ⟨73, _⟩ => ⟨S4x32x64x128, .f32⟩
  | .hbm, ⟨74, _⟩ => ⟨S32x128x4x64, .f32⟩
  | .hbm, ⟨75, _⟩ => ⟨S_, .f32⟩
  | .hbm, ⟨76, _⟩ => ⟨S4x128x128, .f32⟩
  | .hbm, ⟨77, _⟩ => ⟨S4x128x128, .f32⟩
  | .hbm, ⟨78, _⟩ => ⟨S4096x256, .f32⟩
  | .hbm, ⟨79, _⟩ => ⟨S4096x256, .f32⟩
  | .hbm, ⟨80, _⟩ => ⟨S_, .f32⟩
  | .hbm, ⟨81, _⟩ => ⟨S256, .f32⟩
  | .hbm, ⟨82, _⟩ => ⟨S1x256, .f32⟩
  | .hbm, ⟨83, _⟩ => ⟨S4096x256, .f32⟩
  | .hbm, ⟨84, _⟩ => ⟨S4096x256, .f32⟩
  | .hbm, ⟨85, _⟩ => ⟨S_, .f32⟩
  | .hbm, ⟨86, _⟩ => ⟨S256, .f32⟩
  | .hbm, ⟨87, _⟩ => ⟨S4096x256, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x256, .f32⟩
  | .hbm, ⟨92, _⟩ => ⟨S4096x256, .f32⟩
  | .hbm, ⟨93, _⟩ => ⟨S4096x1, .f32⟩
  | .hbm, ⟨94, _⟩ => ⟨S4096x256, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096, .f32⟩
  | .hbm, ⟨103, _⟩ => ⟨S4096x256, .f32⟩
  | .hbm, ⟨104, _⟩ => ⟨S4096x256, .f32⟩
  | .hbm, ⟨105, _⟩ => ⟨S4096x256, .f32⟩
  | .hbm, ⟨106, _⟩ => ⟨S_, .f32⟩
  | .hbm, ⟨107, _⟩ => ⟨S4096, .f32⟩
  | .hbm, ⟨108, _⟩ => ⟨S4096x1, .f32⟩
  | .hbm, ⟨109, _⟩ => ⟨S4096x256, .f32⟩
  | .hbm, ⟨110, _⟩ => ⟨S4096x1, .f32⟩
  | .hbm, ⟨111, _⟩ => ⟨S_, .f32⟩
  | .hbm, ⟨112, _⟩ => ⟨S4096x1, .f32⟩
  | .hbm, ⟨113, _⟩ => ⟨S4096x1, .f32⟩
  | .hbm, ⟨114, _⟩ => ⟨S_, .f32⟩
  | .hbm, ⟨115, _⟩ => ⟨S4096, .f32⟩
  | .hbm, ⟨116, _⟩ => ⟨S4096x256, .f32⟩
  | .hbm, ⟨117, _⟩ => ⟨S4096x256, .f32⟩
  | .hbm, ⟨118, _⟩ => ⟨S4096x256, .bf16⟩
  | .hbm, ⟨119, _⟩ => ⟨S4096x256, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v29_1 : Ref sig .tc := ⟨.hbm, 47, rfl⟩
abbrev main_call0_cst : Ref sig .tc := ⟨.hbm, 48, rfl⟩
abbrev main_call0_v6 : Ref sig .tc := ⟨.hbm, 49, rfl⟩
abbrev main_v29_0 : Ref sig .tc := ⟨.hbm, 50, rfl⟩
abbrev main_call0_cst_0 : Ref sig .tc := ⟨.hbm, 51, rfl⟩
abbrev main_v29_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_14 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_15 : Ref sig .tc := ⟨.hbm, 111, rfl⟩
abbrev main_v77 : Ref sig .tc := ⟨.hbm, 112, rfl⟩
abbrev main_v78 : Ref sig .tc := ⟨.hbm, 113, rfl⟩
abbrev main_cst_16 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩

abbrev nD : Nat := 1
abbrev τ : Topo := Topo.v7x

variable {F : FTy → Type} [FloatOps F]
-- ==== MixC.lean ====
abbrev S4096x2048 : Shape := ⟨2, ![4096, 2048]⟩
abbrev S4096x1024 : Shape := ⟨2, ![4096, 1024]⟩
abbrev S31x256 : Shape := ⟨2, ![31, 256]⟩
abbrev S256 : Shape := ⟨1, ![256]⟩
abbrev S1x256 : Shape := ⟨2, ![1, 256]⟩
abbrev S4096x256 : Shape := ⟨2, ![4096, 256]⟩
abbrev S4128x256 : Shape := ⟨2, ![4128, 256]⟩
abbrev S32x256 : Shape := ⟨2, ![32, 256]⟩
abbrev S128x256 : Shape := ⟨2, ![128, 256]⟩
abbrev S160x256 : Shape := ⟨2, ![160, 256]⟩
abbrev S128 : Shape := ⟨1, ![128]⟩
abbrev S128x1 : Shape := ⟨2, ![128, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S31x256, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S4096x256, .bf16⟩
  | .hbm, ⟨8, _⟩ => ⟨S4096x256, .bf16⟩
  | .hbm, ⟨9, _⟩ => ⟨S31x256, .f32⟩
  | .hbm, ⟨10, _⟩ => ⟨S1x256, .f32⟩
  | .hbm, ⟨11, _⟩ => ⟨S1x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S31x256, .f32⟩
  | .local _ .vmem, ⟨4, _⟩ => ⟨S1x256, .f32⟩
  | .local _ .vmem, ⟨5, _⟩ => ⟨S1x256, .f32⟩
  | .local _ .vmem, ⟨6, _⟩ => ⟨S4096x256, .bf16⟩
  | .local _ .vmem, ⟨7, _⟩ => ⟨S4096x256, .bf16⟩
  | .local _ .vmem, ⟨8, _⟩ => ⟨S31x256, .f32⟩
  | .local _ .vmem, ⟨9, _⟩ => ⟨S1x256, .f32⟩
  | .local _ .vmem, ⟨10, _⟩ => ⟨S1x256, .f32⟩
  | .local _ .vmem, ⟨11, _⟩ => ⟨S4128x256, .f32⟩
  | .local _ .vmem, ⟨12, _⟩ => ⟨S4128x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c32_i32 : BitVec 32 := 32#32
  let v14 : BitVec 32 := Scalar.addi c0_i32 c32_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v16 : BitVec 32 := Scalar.muli arg14 c128_i32
  v16
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v16 : BitVec 32 := Scalar.muli arg14 c128_i32
  let v17 : BitVec 32 := v16
  let v18 : Index := Scalar.indexCast v17
  let c0_17 : Index := 0#32
  ![v18.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v16 : BitVec 32 := Scalar.muli arg14 c128_i32
  let v17 : BitVec 32 := v16
  let c32_i32_22 : BitVec 32 := 32#32
  let v30 : BitVec 32 := Scalar.addi v17 c32_i32_22
  let v31 : Index := Scalar.indexCast v30
  let c0_23 : Index := 0#32
  ![v31.toNat, 0]
def k0_off3 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v16 : BitVec 32 := Scalar.muli arg14 c128_i32
  let v17 : BitVec 32 := v16
  let v35 : Index := Scalar.indexCast v17
  let c0_24 : Index := 0#32
  ![v35.toNat, 0]
def k0_off4 (k0_t1 : Fin k0_t1_loop.trips) : Fin 2 → Nat :=
  let c0_i32 : BitVec 32 := 0#32
  let c1_i32 : BitVec 32 := 1#32
  let arg14 : BitVec 32 := Scf.iv c0_i32 c1_i32 k0_t1
  let c128_i32 : BitVec 32 := 128#32
  let v16 : BitVec 32 := Scalar.muli arg14 c128_i32
  let v17 : BitVec 32 := v16
  let v296 : Index := Scalar.indexCast v17
  let c0_90 : Index := 0#32
  ![v296.toNat, 0]
@[reducible] def k0_t2_loop : Scf.Loop 32 :=
  let c0_i32_13 : BitVec 32 := 0#32
  let c32_i32_14 : BitVec 32 := 32#32
  let v15 : BitVec 32 := Scalar.addi c0_i32_13 c32_i32_14
  let c1_i32_15 : BitVec 32 := 1#32
  ⟨c0_i32_13, v15, c1_i32_15⟩
def k0_mult2 (k0_t2 : Fin k0_t2_loop.trips) : BitVec 32 :=
  let c0_i32_13 : BitVec 32 := 0#32
  let c1_i32_15 : BitVec 32 := 1#32
  let arg14 : BitVec 32 := Scf.iv c0_i32_13 c1_i32_15 k0_t2
  let c128_i32 : BitVec 32 := 128#32
  let v16 : BitVec 32 := Scalar.muli arg14 c128_i32
  v16
def k0_off5 (k0_t2 : Fin k0_t2_loop.trips) : Fin 2 → Nat :=
  let c0_i32_13 : BitVec 32 := 0#32
  let c1_i32_15 : BitVec 32 := 1#32
  let arg14 : BitVec 32 := Scf.iv c0_i32_13 c1_i32_15 k0_t2
  let c128_i32 : BitVec 32 := 128#32
  let v16 : BitVec 32 := Scalar.muli arg14 c128_i32
  let v17 : BitVec 32 := v16
  let v18 : Index := Scalar.indexCast v17
  let c0_17 : Index := 0#32
  ![v18.toNat, 0]
def k0_off6 (k0_t2 : Fin k0_t2_loop.trips) : Fin 2 → Nat :=
  let c0_i32_13 : BitVec 32 := 0#32
  let c1_i32_15 : BitVec 32 := 1#32
  let arg14 : BitVec 32 := Scf.iv c0_i32_13 c1_i32_15 k0_t2
  let c128_i32 : BitVec 32 := 128#32
  let v16 : BitVec 32 := Scalar.muli arg14 c128_i32
  let v17 : BitVec 32 := v16
  let v206 : Index := Scalar.indexCast v17
  let c0_51 : Index := 0#32
  ![v206.toNat, 0]
def cc0_transform_0 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_1 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S31x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixCRefIdeal.lean ====
abbrev S4096x2048 : Shape := ⟨2, ![4096, 2048]⟩
abbrev S4096x1024 : Shape := ⟨2, ![4096, 1024]⟩
abbrev S31x256 : Shape := ⟨2, ![31, 256]⟩
abbrev S256 : Shape := ⟨1, ![256]⟩
abbrev S4096x256 : Shape := ⟨2, ![4096, 256]⟩
abbrev S_ : Shape := ⟨0, ![]⟩
abbrev S30x256 : Shape := ⟨2, ![30, 256]⟩
abbrev S4126x256 : Shape := ⟨2, ![4126, 256]⟩
abbrev S1x256 : Shape := ⟨2, ![1, 256]⟩
abbrev S4096 : Shape := ⟨1, ![4096]⟩
abbrev S4096x1 : Shape := ⟨2, ![4096, 1]⟩

abbrev nBuf : Space → Nat
  | .hbm => 814
  | .vmem => 0
  | .smem => 0
  | _ => 0

abbrev hbmTy0_0 (i : Nat) : BufTy := match i % 128 with
  | 0 => ⟨S4096x2048, .f32⟩
  | 1 => ⟨S4096x1024, .f32⟩
  | 2 => ⟨S31x256, .f32⟩
  | 3 => ⟨S256, .f32⟩
  | 4 => ⟨S256, .f32⟩
  | 5 => ⟨S4096x256, .f32⟩
  | 6 => ⟨S4096x256, .f32⟩
  | 7 => ⟨S4096x256, .f32⟩
  | 8 => ⟨S4096x256, .f32⟩
  | 9 => ⟨S_, .f32⟩
  | 10 => ⟨S4096x256, .f32⟩
  | 11 => ⟨S4096x256, .f32⟩
  | 12 => ⟨S_, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S4096x256, .f32⟩
  | 19 => ⟨S4096x256, .f32⟩
  | 20 => ⟨S_, .f32⟩
  | 21 => ⟨S30x256, .f32⟩
  | 22 => ⟨S4126x256, .f32⟩
  | 23 => ⟨S_, .f32⟩
  | 24 => ⟨S30x256, .f32⟩
  | 25 => ⟨S1x256, .f32⟩
  | 26 => ⟨S256, .f32⟩
  | 27 => ⟨S4096x256, .f32⟩
  | 28 => ⟨S1x256, .f32⟩
  | 29 => ⟨S4096x256, .f32⟩
  | 30 => ⟨S4096x256, .f32⟩
  | 31 => ⟨S_, .f32⟩
  | 32 => ⟨S4096x256, .f32⟩
  | 33 => ⟨S4096x256, .f32⟩
  | 34 => ⟨S1x256, .f32⟩
  | 35 => ⟨S256, .f32⟩
  | 36 => ⟨S4096x256, .f32⟩
  | 37 => ⟨S1x256, .f32⟩
  | 38 => ⟨S4096x256, .f32⟩
  | 39 => ⟨S4096x256, .f32⟩
  | 40 => ⟨S4096x256, .f32⟩
  | 41 => ⟨S1x256, .f32⟩
  | 42 => ⟨S256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S1x256, .f32⟩
  | 49 => ⟨S256, .f32⟩
  | 50 => ⟨S4096x256, .f32⟩
  | 51 => ⟨S1x256, .f32⟩
  | 52 => ⟨S4096x256, .f32⟩
  | 53 => ⟨S4096x256, .f32⟩
  | 54 => ⟨S4096x256, .f32⟩
  | 55 => ⟨S1x256, .f32⟩
  | 56 => ⟨S256, .f32⟩
  | 57 => ⟨S4096x256, .f32⟩
  | 58 => ⟨S1x256, .f32⟩
  | 59 => ⟨S4096x256, .f32⟩
  | 60 => ⟨S4096x256, .f32⟩
  | 61 => ⟨S4096x256, .f32⟩
  | 62 => ⟨S1x256, .f32⟩
  | 63 => ⟨S256, .f32⟩
  | 64 => ⟨S4096x256, .f32⟩
  | 65 => ⟨S1x256, .f32⟩
  | 66 => ⟨S4096x256, .f32⟩
  | 67 => ⟨S4096x256, .f32⟩
  | 68 => ⟨S4096x256, .f32⟩
  | 69 => ⟨S1x256, .f32⟩
  | 70 => ⟨S256, .f32⟩
  | 71 => ⟨S4096x256, .f32⟩
  | 72 => ⟨S1x256, .f32⟩
  | 73 => ⟨S4096x256, .f32⟩
  | 74 => ⟨S4096x256, .f32⟩
  | 75 => ⟨S4096x256, .f32⟩
  | 76 => ⟨S1x256, .f32⟩
  | 77 => ⟨S256, .f32⟩
  | 78 => ⟨S4096x256, .f32⟩
  | 79 => ⟨S1x256, .f32⟩
  | 80 => ⟨S4096x256, .f32⟩
  | 81 => ⟨S4096x256, .f32⟩
  | 82 => ⟨S4096x256, .f32⟩
  | 83 => ⟨S1x256, .f32⟩
  | 84 => ⟨S256, .f32⟩
  | 85 => ⟨S4096x256, .f32⟩
  | 86 => ⟨S1x256, .f32⟩
  | 87 => ⟨S4096x256, .f32⟩
  | 88 => ⟨S4096x256, .f32⟩
  | 89 => ⟨S4096x256, .f32⟩
  | 90 => ⟨S1x256, .f32⟩
  | 91 => ⟨S256, .f32⟩
  | 92 => ⟨S4096x256, .f32⟩
  | 93 => ⟨S1x256, .f32⟩
  | 94 => ⟨S4096x256, .f32⟩
  | 95 => ⟨S4096x256, .f32⟩
  | 96 => ⟨S4096x256, .f32⟩
  | 97 => ⟨S1x256, .f32⟩
  | 98 => ⟨S256, .f32⟩
  | 99 => ⟨S4096x256, .f32⟩
  | 100 => ⟨S1x256, .f32⟩
  | 101 => ⟨S4096x256, .f32⟩
  | 102 => ⟨S4096x256, .f32⟩
  | 103 => ⟨S4096x256, .f32⟩
  | 104 => ⟨S1x256, .f32⟩
  | 105 => ⟨S256, .f32⟩
  | 106 => ⟨S4096x256, .f32⟩
  | 107 => ⟨S1x256, .f32⟩
  | 108 => ⟨S4096x256, .f32⟩
  | 109 => ⟨S4096x256, .f32⟩
  | 110 => ⟨S4096x256, .f32⟩
  | 111 => ⟨S1x256, .f32⟩
  | 112 => ⟨S256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S1x256, .f32⟩
  | 119 => ⟨S256, .f32⟩
  | 120 => ⟨S4096x256, .f32⟩
  | 121 => ⟨S1x256, .f32⟩
  | 122 => ⟨S4096x256, .f32⟩
  | 123 => ⟨S4096x256, .f32⟩
  | 124 => ⟨S4096x256, .f32⟩
  | 125 => ⟨S1x256, .f32⟩
  | 126 => ⟨S256, .f32⟩
  | 127 => ⟨S4096x256, .f32⟩
  | _ => ⟨S4096x2048, .f32⟩

abbrev hbmTy0_1 (i : Nat) : BufTy := match i % 128 with
  | 0 => ⟨S1x256, .f32⟩
  | 1 => ⟨S4096x256, .f32⟩
  | 2 => ⟨S4096x256, .f32⟩
  | 3 => ⟨S4096x256, .f32⟩
  | 4 => ⟨S1x256, .f32⟩
  | 5 => ⟨S256, .f32⟩
  | 6 => ⟨S4096x256, .f32⟩
  | 7 => ⟨S1x256, .f32⟩
  | 8 => ⟨S4096x256, .f32⟩
  | 9 => ⟨S4096x256, .f32⟩
  | 10 => ⟨S4096x256, .f32⟩
  | 11 => ⟨S1x256, .f32⟩
  | 12 => ⟨S256, .f32⟩
  | 13 => ⟨S4096x256, .f32⟩
  | 14 => ⟨S1x256, .f32⟩
  | 15 => ⟨S4096x256, .f32⟩
  | 16 => ⟨S4096x256, .f32⟩
  | 17 => ⟨S4096x256, .f32⟩
  | 18 => ⟨S1x256, .f32⟩
  | 19 => ⟨S256, .f32⟩
  | 20 => ⟨S4096x256, .f32⟩
  | 21 => ⟨S1x256, .f32⟩
  | 22 => ⟨S4096x256, .f32⟩
  | 23 => ⟨S4096x256, .f32⟩
  | 24 => ⟨S4096x256, .f32⟩
  | 25 => ⟨S1x256, .f32⟩
  | 26 => ⟨S256, .f32⟩
  | 27 => ⟨S4096x256, .f32⟩
  | 28 => ⟨S1x256, .f32⟩
  | 29 => ⟨S4096x256, .f32⟩
  | 30 => ⟨S4096x256, .f32⟩
  | 31 => ⟨S4096x256, .f32⟩
  | 32 => ⟨S1x256, .f32⟩
  | 33 => ⟨S256, .f32⟩
  | 34 => ⟨S4096x256, .f32⟩
  | 35 => ⟨S1x256, .f32⟩
  | 36 => ⟨S4096x256, .f32⟩
  | 37 => ⟨S4096x256, .f32⟩
  | 38 => ⟨S4096x256, .f32⟩
  | 39 => ⟨S1x256, .f32⟩
  | 40 => ⟨S256, .f32⟩
  | 41 => ⟨S4096x256, .f32⟩
  | 42 => ⟨S1x256, .f32⟩
  | 43 => ⟨S4096x256, .f32⟩
  | 44 => ⟨S4096x256, .f32⟩
  | 45 => ⟨S4096x256, .f32⟩
  | 46 => ⟨S1x256, .f32⟩
  | 47 => ⟨S256, .f32⟩
  | 48 => ⟨S4096x256, .f32⟩
  | 49 => ⟨S1x256, .f32⟩
  | 50 => ⟨S4096x256, .f32⟩
  | 51 => ⟨S4096x256, .f32⟩
  | 52 => ⟨S4096x256, .f32⟩
  | 53 => ⟨S1x256, .f32⟩
  | 54 => ⟨S256, .f32⟩
  | 55 => ⟨S4096x256, .f32⟩
  | 56 => ⟨S1x256, .f32⟩
  | 57 => ⟨S4096x256, .f32⟩
  | 58 => ⟨S4096x256, .f32⟩
  | 59 => ⟨S4096x256, .f32⟩
  | 60 => ⟨S1x256, .f32⟩
  | 61 => ⟨S256, .f32⟩
  | 62 => ⟨S4096x256, .f32⟩
  | 63 => ⟨S1x256, .f32⟩
  | 64 => ⟨S4096x256, .f32⟩
  | 65 => ⟨S4096x256, .f32⟩
  | 66 => ⟨S4096x256, .f32⟩
  | 67 => ⟨S1x256, .f32⟩
  | 68 => ⟨S256, .f32⟩
  | 69 => ⟨S4096x256, .f32⟩
  | 70 => ⟨S1x256, .f32⟩
  | 71 => ⟨S4096x256, .f32⟩
  | 72 => ⟨S4096x256, .f32⟩
  | 73 => ⟨S4096x256, .f32⟩
  | 74 => ⟨S1x256, .f32⟩
  | 75 => ⟨S256, .f32⟩
  | 76 => ⟨S4096x256, .f32⟩
  | 77 => ⟨S1x256, .f32⟩
  | 78 => ⟨S4096x256, .f32⟩
  | 79 => ⟨S4096x256, .f32⟩
  | 80 => ⟨S4096x256, .f32⟩
  | 81 => ⟨S1x256, .f32⟩
  | 82 => ⟨S256, .f32⟩
  | 83 => ⟨S4096x256, .f32⟩
  | 84 => ⟨S1x256, .f32⟩
  | 85 => ⟨S4096x256, .f32⟩
  | 86 => ⟨S4096x256, .f32⟩
  | 87 => ⟨S4096x256, .f32⟩
  | 88 => ⟨S1x256, .f32⟩
  | 89 => ⟨S256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S1x256, .f32⟩
  | 96 => ⟨S256, .f32⟩
  | 97 => ⟨S4096x256, .f32⟩
  | 98 => ⟨S1x256, .f32⟩
  | 99 => ⟨S4096x256, .f32⟩
  | 100 => ⟨S4096x256, .f32⟩
  | 101 => ⟨S4096x256, .f32⟩
  | 102 => ⟨S1x256, .f32⟩
  | 103 => ⟨S256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S1x256, .f32⟩
  | 110 => ⟨S256, .f32⟩
  | 111 => ⟨S4096x256, .f32⟩
  | 112 => ⟨S1x256, .f32⟩
  | 113 => ⟨S4096x256, .f32⟩
  | 114 => ⟨S4096x256, .f32⟩
  | 115 => ⟨S4096x256, .f32⟩
  | 116 => ⟨S_, .f32⟩
  | 117 => ⟨S4096, .f32⟩
  | 118 => ⟨S4096x1, .f32⟩
  | 119 => ⟨S_, .f32⟩
  | 120 => ⟨S4096x1, .f32⟩
  | 121 => ⟨S4096x1, .f32⟩
  | 122 => ⟨S4096x256, .f32⟩
  | 123 => ⟨S4096x256, .f32⟩
  | 124 => ⟨S4096x256, .f32⟩
  | 125 => ⟨S_, .f32⟩
  | 126 => ⟨S4096x256, .f32⟩
  | 127 => ⟨S4096x256, .f32⟩
  | _ => ⟨S4096x2048, .f32⟩

abbrev hbmTy0_2 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S4096x256, .f32⟩
  | 7 => ⟨S4096x256, .f32⟩
  | 8 => ⟨S_, .f32⟩
  | 9 => ⟨S4096x1, .f32⟩
  | 10 => ⟨S4096x1, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x256, .f32⟩
  | 17 => ⟨S4096x256, .f32⟩
  | 18 => ⟨S1x256, .f32⟩
  | 19 => ⟨S4096x256, .f32⟩
  | 20 => ⟨S4096x256, .f32⟩
  | 21 => ⟨S1x256, .f32⟩
  | 22 => ⟨S4096x256, .f32⟩
  | 23 => ⟨S4096x256, .f32⟩
  | 24 => ⟨S4096x256, .f32⟩
  | 25 => ⟨S4096x256, .f32⟩
  | 26 => ⟨S_, .f32⟩
  | 27 => ⟨S4096x256, .f32⟩
  | 28 => ⟨S4096x256, .f32⟩
  | 29 => ⟨S_, .f32⟩
  | 30 => ⟨S4096x256, .f32⟩
  | 31 => ⟨S4096x256, .f32⟩
  | 32 => ⟨S_, .f32⟩
  | 33 => ⟨S4096x256, .f32⟩
  | 34 => ⟨S4096x256, .f32⟩
  | 35 => ⟨S4096x256, .f32⟩
  | 36 => ⟨S4096x256, .f32⟩
  | 37 => ⟨S4096x256, .f32⟩
  | 38 => ⟨S4096x256, .f32⟩
  | 39 => ⟨S4096x256, .f32⟩
  | 40 => ⟨S4096x256, .f32⟩
  | 41 => ⟨S4096x256, .f32⟩
  | 42 => ⟨S_, .f32⟩
  | 43 => ⟨S256, .f32⟩
  | 44 => ⟨S1x256, .f32⟩
  | 45 => ⟨S_, .f32⟩
  | 46 => ⟨S256, .f32⟩
  | 47 => ⟨S4096x256, .f32⟩
  | 48 => ⟨S_, .f32⟩
  | 49 => ⟨S256, .f32⟩
  | 50 => ⟨S1x256, .f32⟩
  | 51 => ⟨S4096x256, .f32⟩
  | 52 => ⟨S4096x256, .f32⟩
  | 53 => ⟨S_, .f32⟩
  | 54 => ⟨S256, .f32⟩
  | 55 => ⟨S4096x256, .f32⟩
  | 56 => ⟨S_, .f32⟩
  | 57 => ⟨S4096, .f32⟩
  | 58 => ⟨S4096x1, .f32⟩
  | 59 => ⟨S4096x256, .f32⟩
  | 60 => ⟨S4096x256, .f32⟩
  | 61 => ⟨S4096x1, .f32⟩
  | 62 => ⟨S4096x256, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096, .f32⟩
  | 71 => ⟨S4096x256, .f32⟩
  | 72 => ⟨S4096x256, .f32⟩
  | 73 => ⟨S4096x256, .f32⟩
  | 74 => ⟨S_, .f32⟩
  | 75 => ⟨S4096, .f32⟩
  | 76 => ⟨S4096x1, .f32⟩
  | 77 => ⟨S4096x256, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096, .f32⟩
  | 84 => ⟨S4096x256, .f32⟩
  | 85 => ⟨S4096x256, .f32⟩
  | 86 => ⟨S4096x256, .f32⟩
  | 87 => ⟨S4096x256, .f32⟩
  | 88 => ⟨S4096x256, .f32⟩
  | 89 => ⟨S_, .f32⟩
  | 90 => ⟨S256, .f32⟩
  | 91 => ⟨S1x256, .f32⟩
  | 92 => ⟨S_, .f32⟩
  | 93 => ⟨S256, .f32⟩
  | 94 => ⟨S_, .f32⟩
  | 95 => ⟨S4126x256, .f32⟩
  | 96 => ⟨S1x256, .f32⟩
  | 97 => ⟨S_, .f32⟩
  | 98 => ⟨S31x256, .f32⟩
  | 99 => ⟨S4096x256, .f32⟩
  | 100 => ⟨S4096x256, .f32⟩
  | 101 => ⟨S4096x256, .f32⟩
  | 102 => ⟨S_, .f32⟩
  | 103 => ⟨S256, .f32⟩
  | 104 => ⟨S1x256, .f32⟩
  | 105 => ⟨S_, .f32⟩
  | 106 => ⟨S256, .f32⟩
  | 107 => ⟨S_, .f32⟩
  | 108 => ⟨S4126x256, .f32⟩
  | 109 => ⟨S4126x256, .f32⟩
  | 110 => ⟨S1x256, .f32⟩
  | 111 => ⟨S_, .f32⟩
  | 112 => ⟨S31x256, .f32⟩
  | 113 => ⟨S31x256, .f32⟩
  | 114 => ⟨S4096x256, .f32⟩
  | 115 => ⟨S4096x256, .f32⟩
  | 116 => ⟨S4096x256, .f32⟩
  | 117 => ⟨S_, .f32⟩
  | 118 => ⟨S256, .f32⟩
  | 119 => ⟨S1x256, .f32⟩
  | 120 => ⟨S_, .f32⟩
  | 121 => ⟨S256, .f32⟩
  | 122 => ⟨S_, .f32⟩
  | 123 => ⟨S4126x256, .f32⟩
  | 124 => ⟨S4126x256, .f32⟩
  | 125 => ⟨S1x256, .f32⟩
  | 126 => ⟨S_, .f32⟩
  | 127 => ⟨S31x256, .f32⟩
  | _ => ⟨S4096x2048, .f32⟩

abbrev hbmTy0_3 (i : Nat) : BufTy := match i % 128 with
  | 0 => ⟨S31x256, .f32⟩
  | 1 => ⟨S4096x256, .f32⟩
  | 2 => ⟨S4096x256, .f32⟩
  | 3 => ⟨S4096x256, .f32⟩
  | 4 => ⟨S_, .f32⟩
  | 5 => ⟨S256, .f32⟩
  | 6 => ⟨S1x256, .f32⟩
  | 7 => ⟨S_, .f32⟩
  | 8 => ⟨S256, .f32⟩
  | 9 => ⟨S_, .f32⟩
  | 10 => ⟨S4126x256, .f32⟩
  | 11 => ⟨S4126x256, .f32⟩
  | 12 => ⟨S1x256, .f32⟩
  | 13 => ⟨S_, .f32⟩
  | 14 => ⟨S31x256, .f32⟩
  | 15 => ⟨S31x256, .f32⟩
  | 16 => ⟨S4096x256, .f32⟩
  | 17 => ⟨S4096x256, .f32⟩
  | 18 => ⟨S4096x256, .f32⟩
  | 19 => ⟨S_, .f32⟩
  | 20 => ⟨S256, .f32⟩
  | 21 => ⟨S1x256, .f32⟩
  | 22 => ⟨S_, .f32⟩
  | 23 => ⟨S256, .f32⟩
  | 24 => ⟨S_, .f32⟩
  | 25 => ⟨S4126x256, .f32⟩
  | 26 => ⟨S4126x256, .f32⟩
  | 27 => ⟨S1x256, .f32⟩
  | 28 => ⟨S_, .f32⟩
  | 29 => ⟨S31x256, .f32⟩
  | 30 => ⟨S31x256, .f32⟩
  | 31 => ⟨S4096x256, .f32⟩
  | 32 => ⟨S4096x256, .f32⟩
  | 33 => ⟨S4096x256, .f32⟩
  | 34 => ⟨S_, .f32⟩
  | 35 => ⟨S256, .f32⟩
  | 36 => ⟨S1x256, .f32⟩
  | 37 => ⟨S_, .f32⟩
  | 38 => ⟨S256, .f32⟩
  | 39 => ⟨S_, .f32⟩
  | 40 => ⟨S4126x256, .f32⟩
  | 41 => ⟨S4126x256, .f32⟩
  | 42 => ⟨S1x256, .f32⟩
  | 43 => ⟨S_, .f32⟩
  | 44 => ⟨S31x256, .f32⟩
  | 45 => ⟨S31x256, .f32⟩
  | 46 => ⟨S4096x256, .f32⟩
  | 47 => ⟨S4096x256, .f32⟩
  | 48 => ⟨S4096x256, .f32⟩
  | 49 => ⟨S_, .f32⟩
  | 50 => ⟨S256, .f32⟩
  | 51 => ⟨S1x256, .f32⟩
  | 52 => ⟨S_, .f32⟩
  | 53 => ⟨S256, .f32⟩
  | 54 => ⟨S_, .f32⟩
  | 55 => ⟨S4126x256, .f32⟩
  | 56 => ⟨S4126x256, .f32⟩
  | 57 => ⟨S1x256, .f32⟩
  | 58 => ⟨S_, .f32⟩
  | 59 => ⟨S31x256, .f32⟩
  | 60 => ⟨S31x256, .f32⟩
  | 61 => ⟨S4096x256, .f32⟩
  | 62 => ⟨S4096x256, .f32⟩
  | 63 => ⟨S4096x256, .f32⟩
  | 64 => ⟨S_, .f32⟩
  | 65 => ⟨S256, .f32⟩
  | 66 => ⟨S1x256, .f32⟩
  | 67 => ⟨S_, .f32⟩
  | 68 => ⟨S256, .f32⟩
  | 69 => ⟨S_, .f32⟩
  | 70 => ⟨S4126x256, .f32⟩
  | 71 => ⟨S4126x256, .f32⟩
  | 72 => ⟨S1x256, .f32⟩
  | 73 => ⟨S_, .f32⟩
  | 74 => ⟨S31x256, .f32⟩
  | 75 => ⟨S31x256, .f32⟩
  | 76 => ⟨S4096x256, .f32⟩
  | 77 => ⟨S4096x256, .f32⟩
  | 78 => ⟨S4096x256, .f32⟩
  | 79 => ⟨S_, .f32⟩
  | 80 => ⟨S256, .f32⟩
  | 81 => ⟨S1x256, .f32⟩
  | 82 => ⟨S_, .f32⟩
  | 83 => ⟨S256, .f32⟩
  | 84 => ⟨S_, .f32⟩
  | 85 => ⟨S4126x256, .f32⟩
  | 86 => ⟨S4126x256, .f32⟩
  | 87 => ⟨S1x256, .f32⟩
  | 88 => ⟨S_, .f32⟩
  | 89 => ⟨S31x256, .f32⟩
  | 90 => ⟨S31x256, .f32⟩
  | 91 => ⟨S4096x256, .f32⟩
  | 92 => ⟨S4096x256, .f32⟩
  | 93 => ⟨S4096x256, .f32⟩
  | 94 => ⟨S_, .f32⟩
  | 95 => ⟨S256, .f32⟩
  | 96 => ⟨S1x256, .f32⟩
  | 97 => ⟨S_, .f32⟩
  | 98 => ⟨S256, .f32⟩
  | 99 => ⟨S_, .f32⟩
  | 100 => ⟨S4126x256, .f32⟩
  | 101 => ⟨S4126x256, .f32⟩
  | 102 => ⟨S1x256, .f32⟩
  | 103 => ⟨S_, .f32⟩
  | 104 => ⟨S31x256, .f32⟩
  | 105 => ⟨S31x256, .f32⟩
  | 106 => ⟨S4096x256, .f32⟩
  | 107 => ⟨S4096x256, .f32⟩
  | 108 => ⟨S4096x256, .f32⟩
  | 109 => ⟨S_, .f32⟩
  | 110 => ⟨S256, .f32⟩
  | 111 => ⟨S1x256, .f32⟩
  | 112 => ⟨S_, .f32⟩
  | 113 => ⟨S256, .f32⟩
  | 114 => ⟨S_, .f32⟩
  | 115 => ⟨S4126x256, .f32⟩
  | 116 => ⟨S4126x256, .f32⟩
  | 117 => ⟨S1x256, .f32⟩
  | 118 => ⟨S_, .f32⟩
  | 119 => ⟨S31x256, .f32⟩
  | 120 => ⟨S31x256, .f32⟩
  | 121 => ⟨S4096x256, .f32⟩
  | 122 => ⟨S4096x256, .f32⟩
  | 123 => ⟨S4096x256, .f32⟩
  | 124 => ⟨S_, .f32⟩
  | 125 => ⟨S256, .f32⟩
  | 126 => ⟨S1x256, .f32⟩
  | 127 => ⟨S_, .f32⟩
  | _ => ⟨S4096x2048, .f32⟩

abbrev hbmTy0_4 (i : Nat) : BufTy := match i % 128 with
  | 0 => ⟨S256, .f32⟩
  | 1 => ⟨S_, .f32⟩
  | 2 => ⟨S4126x256, .f32⟩
  | 3 => ⟨S4126x256, .f32⟩
  | 4 => ⟨S1x256, .f32⟩
  | 5 => ⟨S_, .f32⟩
  | 6 => ⟨S31x256, .f32⟩
  | 7 => ⟨S31x256, .f32⟩
  | 8 => ⟨S4096x256, .f32⟩
  | 9 => ⟨S4096x256, .f32⟩
  | 10 => ⟨S4096x256, .f32⟩
  | 11 => ⟨S_, .f32⟩
  | 12 => ⟨S256, .f32⟩
  | 13 => ⟨S1x256, .f32⟩
  | 14 => ⟨S_, .f32⟩
  | 15 => ⟨S256, .f32⟩
  | 16 => ⟨S_, .f32⟩
  | 17 => ⟨S4126x256, .f32⟩
  | 18 => ⟨S4126x256, .f32⟩
  | 19 => ⟨S1x256, .f32⟩
  | 20 => ⟨S_, .f32⟩
  | 21 => ⟨S31x256, .f32⟩
  | 22 => ⟨S31x256, .f32⟩
  | 23 => ⟨S4096x256, .f32⟩
  | 24 => ⟨S4096x256, .f32⟩
  | 25 => ⟨S4096x256, .f32⟩
  | 26 => ⟨S_, .f32⟩
  | 27 => ⟨S256, .f32⟩
  | 28 => ⟨S1x256, .f32⟩
  | 29 => ⟨S_, .f32⟩
  | 30 => ⟨S256, .f32⟩
  | 31 => ⟨S_, .f32⟩
  | 32 => ⟨S4126x256, .f32⟩
  | 33 => ⟨S4126x256, .f32⟩
  | 34 => ⟨S1x256, .f32⟩
  | 35 => ⟨S_, .f32⟩
  | 36 => ⟨S31x256, .f32⟩
  | 37 => ⟨S31x256, .f32⟩
  | 38 => ⟨S4096x256, .f32⟩
  | 39 => ⟨S4096x256, .f32⟩
  | 40 => ⟨S4096x256, .f32⟩
  | 41 => ⟨S_, .f32⟩
  | 42 => ⟨S256, .f32⟩
  | 43 => ⟨S1x256, .f32⟩
  | 44 => ⟨S_, .f32⟩
  | 45 => ⟨S256, .f32⟩
  | 46 => ⟨S_, .f32⟩
  | 47 => ⟨S4126x256, .f32⟩
  | 48 => ⟨S4126x256, .f32⟩
  | 49 => ⟨S1x256, .f32⟩
  | 50 => ⟨S_, .f32⟩
  | 51 => ⟨S31x256, .f32⟩
  | 52 => ⟨S31x256, .f32⟩
  | 53 => ⟨S4096x256, .f32⟩
  | 54 => ⟨S4096x256, .f32⟩
  | 55 => ⟨S4096x256, .f32⟩
  | 56 => ⟨S_, .f32⟩
  | 57 => ⟨S256, .f32⟩
  | 58 => ⟨S1x256, .f32⟩
  | 59 => ⟨S_, .f32⟩
  | 60 => ⟨S256, .f32⟩
  | 61 => ⟨S_, .f32⟩
  | 62 => ⟨S4126x256, .f32⟩
  | 63 => ⟨S4126x256, .f32⟩
  | 64 => ⟨S1x256, .f32⟩
  | 65 => ⟨S_, .f32⟩
  | 66 => ⟨S31x256, .f32⟩
  | 67 => ⟨S31x256, .f32⟩
  | 68 => ⟨S4096x256, .f32⟩
  | 69 => ⟨S4096x256, .f32⟩
  | 70 => ⟨S4096x256, .f32⟩
  | 71 => ⟨S_, .f32⟩
  | 72 => ⟨S256, .f32⟩
  | 73 => ⟨S1x256, .f32⟩
  | 74 => ⟨S_, .f32⟩
  | 75 => ⟨S256, .f32⟩
  | 76 => ⟨S_, .f32⟩
  | 77 => ⟨S4126x256, .f32⟩
  | 78 => ⟨S4126x256, .f32⟩
  | 79 => ⟨S1x256, .f32⟩
  | 80 => ⟨S_, .f32⟩
  | 81 => ⟨S31x256, .f32⟩
  | 82 => ⟨S31x256, .f32⟩
  | 83 => ⟨S4096x256, .f32⟩
  | 84 => ⟨S4096x256, .f32⟩
  | 85 => ⟨S4096x256, .f32⟩
  | 86 => ⟨S_, .f32⟩
  | 87 => ⟨S256, .f32⟩
  | 88 => ⟨S1x256, .f32⟩
  | 89 => ⟨S_, .f32⟩
  | 90 => ⟨S256, .f32⟩
  | 91 => ⟨S_, .f32⟩
  | 92 => ⟨S4126x256, .f32⟩
  | 93 => ⟨S4126x256, .f32⟩
  | 94 => ⟨S1x256, .f32⟩
  | 95 => ⟨S_, .f32⟩
  | 96 => ⟨S31x256, .f32⟩
  | 97 => ⟨S31x256, .f32⟩
  | 98 => ⟨S4096x256, .f32⟩
  | 99 => ⟨S4096x256, .f32⟩
  | 100 => ⟨S4096x256, .f32⟩
  | 101 => ⟨S_, .f32⟩
  | 102 => ⟨S256, .f32⟩
  | 103 => ⟨S1x256, .f32⟩
  | 104 => ⟨S_, .f32⟩
  | 105 => ⟨S256, .f32⟩
  | 106 => ⟨S_, .f32⟩
  | 107 => ⟨S4126x256, .f32⟩
  | 108 => ⟨S4126x256, .f32⟩
  | 109 => ⟨S1x256, .f32⟩
  | 110 => ⟨S_, .f32⟩
  | 111 => ⟨S31x256, .f32⟩
  | 112 => ⟨S31x256, .f32⟩
  | 113 => ⟨S4096x256, .f32⟩
  | 114 => ⟨S4096x256, .f32⟩
  | 115 => ⟨S4096x256, .f32⟩
  | 116 => ⟨S_, .f32⟩
  | 117 => ⟨S256, .f32⟩
  | 118 => ⟨S1x256, .f32⟩
  | 119 => ⟨S_, .f32⟩
  | 120 => ⟨S256, .f32⟩
  | 121 => ⟨S_, .f32⟩
  | 122 => ⟨S4126x256, .f32⟩
  | 123 => ⟨S4126x256, .f32⟩
  | 124 => ⟨S1x256, .f32⟩
  | 125 => ⟨S_, .f32⟩
  | 126 => ⟨S31x256, .f32⟩
  | 127 => ⟨S31x256, .f32⟩
  | _ => ⟨S4096x2048, .f32⟩

abbrev hbmTy0_5 (i : Nat) : BufTy := match i % 128 with
  | 0 => ⟨S4096x256, .f32⟩
  | 1 => ⟨S4096x256, .f32⟩
  | 2 => ⟨S4096x256, .f32⟩
  | 3 => ⟨S_, .f32⟩
  | 4 => ⟨S256, .f32⟩
  | 5 => ⟨S1x256, .f32⟩
  | 6 => ⟨S_, .f32⟩
  | 7 => ⟨S256, .f32⟩
  | 8 => ⟨S_, .f32⟩
  | 9 => ⟨S4126x256, .f32⟩
  | 10 => ⟨S4126x256, .f32⟩
  | 11 => ⟨S1x256, .f32⟩
  | 12 => ⟨S_, .f32⟩
  | 13 => ⟨S31x256, .f32⟩
  | 14 => ⟨S31x256, .f32⟩
  | 15 => ⟨S4096x256, .f32⟩
  | 16 => ⟨S4096x256, .f32⟩
  | 17 => ⟨S4096x256, .f32⟩
  | 18 => ⟨S_, .f32⟩
  | 19 => ⟨S256, .f32⟩
  | 20 => ⟨S1x256, .f32⟩
  | 21 => ⟨S_, .f32⟩
  | 22 => ⟨S256, .f32⟩
  | 23 => ⟨S_, .f32⟩
  | 24 => ⟨S4126x256, .f32⟩
  | 25 => ⟨S4126x256, .f32⟩
  | 26 => ⟨S1x256, .f32⟩
  | 27 => ⟨S_, .f32⟩
  | 28 => ⟨S31x256, .f32⟩
  | 29 => ⟨S31x256, .f32⟩
  | 30 => ⟨S4096x256, .f32⟩
  | 31 => ⟨S4096x256, .f32⟩
  | 32 => ⟨S4096x256, .f32⟩
  | 33 => ⟨S_, .f32⟩
  | 34 => ⟨S256, .f32⟩
  | 35 => ⟨S1x256, .f32⟩
  | 36 => ⟨S_, .f32⟩
  | 37 => ⟨S256, .f32⟩
  | 38 => ⟨S_, .f32⟩
  | 39 => ⟨S4126x256, .f32⟩
  | 40 => ⟨S4126x256, .f32⟩
  | 41 => ⟨S1x256, .f32⟩
  | 42 => ⟨S_, .f32⟩
  | 43 => ⟨S31x256, .f32⟩
  | 44 => ⟨S31x256, .f32⟩
  | 45 => ⟨S4096x256, .f32⟩
  | 46 => ⟨S4096x256, .f32⟩
  | 47 => ⟨S4096x256, .f32⟩
  | 48 => ⟨S_, .f32⟩
  | 49 => ⟨S256, .f32⟩
  | 50 => ⟨S1x256, .f32⟩
  | 51 => ⟨S_, .f32⟩
  | 52 => ⟨S256, .f32⟩
  | 53 => ⟨S_, .f32⟩
  | 54 => ⟨S4126x256, .f32⟩
  | 55 => ⟨S4126x256, .f32⟩
  | 56 => ⟨S1x256, .f32⟩
  | 57 => ⟨S_, .f32⟩
  | 58 => ⟨S31x256, .f32⟩
  | 59 => ⟨S31x256, .f32⟩
  | 60 => ⟨S4096x256, .f32⟩
  | 61 => ⟨S4096x256, .f32⟩
  | 62 => ⟨S4096x256, .f32⟩
  | 63 => ⟨S_, .f32⟩
  | 64 => ⟨S256, .f32⟩
  | 65 => ⟨S1x256, .f32⟩
  | 66 => ⟨S_, .f32⟩
  | 67 => ⟨S256, .f32⟩
  | 68 => ⟨S_, .f32⟩
  | 69 => ⟨S4126x256, .f32⟩
  | 70 => ⟨S4126x256, .f32⟩
  | 71 => ⟨S1x256, .f32⟩
  | 72 => ⟨S_, .f32⟩
  | 73 => ⟨S31x256, .f32⟩
  | 74 => ⟨S31x256, .f32⟩
  | 75 => ⟨S4096x256, .f32⟩
  | 76 => ⟨S4096x256, .f32⟩
  | 77 => ⟨S4096x256, .f32⟩
  | 78 => ⟨S_, .f32⟩
  | 79 => ⟨S256, .f32⟩
  | 80 => ⟨S1x256, .f32⟩
  | 81 => ⟨S_, .f32⟩
  | 82 => ⟨S256, .f32⟩
  | 83 => ⟨S_, .f32⟩
  | 84 => ⟨S4126x256, .f32⟩
  | 85 => ⟨S4126x256, .f32⟩
  | 86 => ⟨S1x256, .f32⟩
  | 87 => ⟨S_, .f32⟩
  | 88 => ⟨S31x256, .f32⟩
  | 89 => ⟨S31x256, .f32⟩
  | 90 => ⟨S4096x256, .f32⟩
  | 91 => ⟨S4096x256, .f32⟩
  | 92 => ⟨S4096x256, .f32⟩
  | 93 => ⟨S_, .f32⟩
  | 94 => ⟨S256, .f32⟩
  | 95 => ⟨S1x256, .f32⟩
  | 96 => ⟨S_, .f32⟩
  | 97 => ⟨S256, .f32⟩
  | 98 => ⟨S_, .f32⟩
  | 99 => ⟨S4126x256, .f32⟩
  | 100 => ⟨S4126x256, .f32⟩
  | 101 => ⟨S1x256, .f32⟩
  | 102 => ⟨S_, .f32⟩
  | 103 => ⟨S31x256, .f32⟩
  | 104 => ⟨S31x256, .f32⟩
  | 105 => ⟨S4096x256, .f32⟩
  | 106 => ⟨S4096x256, .f32⟩
  | 107 => ⟨S4096x256, .f32⟩
  | 108 => ⟨S_, .f32⟩
  | 109 => ⟨S256, .f32⟩
  | 110 => ⟨S1x256, .f32⟩
  | 111 => ⟨S_, .f32⟩
  | 112 => ⟨S256, .f32⟩
  | 113 => ⟨S_, .f32⟩
  | 114 => ⟨S4126x256, .f32⟩
  | 115 => ⟨S4126x256, .f32⟩
  | 116 => ⟨S1x256, .f32⟩
  | 117 => ⟨S_, .f32⟩
  | 118 => ⟨S31x256, .f32⟩
  | 119 => ⟨S31x256, .f32⟩
  | 120 => ⟨S4096x256, .f32⟩
  | 121 => ⟨S4096x256, .f32⟩
  | 122 => ⟨S4096x256, .f32⟩
  | 123 => ⟨S_, .f32⟩
  | 124 => ⟨S256, .f32⟩
  | 125 => ⟨S1x256, .f32⟩
  | 126 => ⟨S_, .f32⟩
  | 127 => ⟨S256, .f32⟩
  | _ => ⟨S4096x2048, .f32⟩

abbrev hbmTy0_6 (i : Nat) : BufTy := match i % 128 with
  | 0 => ⟨S_, .f32⟩
  | 1 => ⟨S4126x256, .f32⟩
  | 2 => ⟨S4126x256, .f32⟩
  | 3 => ⟨S1x256, .f32⟩
  | 4 => ⟨S_, .f32⟩
  | 5 => ⟨S31x256, .f32⟩
  | 6 => ⟨S31x256, .f32⟩
  | 7 => ⟨S4096x256, .f32⟩
  | 8 => ⟨S4096x256, .f32⟩
  | 9 => ⟨S4096x256, .f32⟩
  | 10 => ⟨S_, .f32⟩
  | 11 => ⟨S256, .f32⟩
  | 12 => ⟨S1x256, .f32⟩
  | 13 => ⟨S_, .f32⟩
  | 14 => ⟨S256, .f32⟩
  | 15 => ⟨S_, .f32⟩
  | 16 => ⟨S4126x256, .f32⟩
  | 17 => ⟨S4126x256, .f32⟩
  | 18 => ⟨S1x256, .f32⟩
  | 19 => ⟨S_, .f32⟩
  | 20 => ⟨S31x256, .f32⟩
  | 21 => ⟨S31x256, .f32⟩
  | 22 => ⟨S4096x256, .f32⟩
  | 23 => ⟨S4096x256, .f32⟩
  | 24 => ⟨S4096x256, .f32⟩
  | 25 => ⟨S_, .f32⟩
  | 26 => ⟨S256, .f32⟩
  | 27 => ⟨S1x256, .f32⟩
  | 28 => ⟨S_, .f32⟩
  | 29 => ⟨S256, .f32⟩
  | 30 => ⟨S_, .f32⟩
  | 31 => ⟨S4126x256, .f32⟩
  | 32 => ⟨S4126x256, .f32⟩
  | 33 => ⟨S1x256, .f32⟩
  | 34 => ⟨S_, .f32⟩
  | 35 => ⟨S31x256, .f32⟩
  | 36 => ⟨S31x256, .f32⟩
  | 37 => ⟨S30x256, .f32⟩
  | 38 => ⟨S4096x256, .f32⟩
  | 39 => ⟨S4096x256, .f32⟩
  | 40 => ⟨S4096x256, .f32⟩
  | 41 => ⟨S4096x256, .f32⟩
  | 42 => ⟨S4096x256, .bf16⟩
  | 43 => ⟨S4096x256, .bf16⟩
  | 44 => ⟨S1x256, .f32⟩
  | 45 => ⟨S1x256, .f32⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_cst_5 : Ref sig .tc := ⟨.hbm, 244, rfl⟩
abbrev main_v233 : Ref sig .tc := ⟨.hbm, 245, rfl⟩
abbrev main_v234 : Ref sig .tc := ⟨.hbm, 246, rfl⟩
abbrev main_cst_6 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_cst_7 : Ref sig .tc := ⟨.hbm, 253, rfl⟩
abbrev main_v240 : Ref sig .tc := ⟨.hbm, 254, rfl⟩
abbrev main_v241 : Ref sig .tc := ⟨.hbm, 255, rfl⟩
abbrev main_cst_8 : Ref sig .tc := ⟨.hbm, 256, rfl⟩
abbrev main_v242 : Ref sig .tc := ⟨.hbm, 257, rfl⟩
abbrev main_v243 : Ref sig .tc := ⟨.hbm, 258, rfl⟩
abbrev main_cst_9 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_cst_10 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_cst_11 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_call0_v0 : Ref sig .tc := ⟨.hbm, 280, rfl⟩
abbrev main_call0_v1 : Ref sig .tc := ⟨.hbm, 281, rfl⟩
abbrev main_call0_cst : Ref sig .tc := ⟨.hbm, 282, rfl⟩
abbrev main_call0_v2 : Ref sig .tc := ⟨.hbm, 283, rfl⟩
abbrev main_call0_v3 : Ref sig .tc := ⟨.hbm, 284, rfl⟩
abbrev main_call0_cst_0 : Ref sig .tc := ⟨.hbm, 285, rfl⟩
abbrev main_call0_v4 : Ref sig .tc := ⟨.hbm, 286, rfl⟩
abbrev main_v262_2 : Ref sig .tc := ⟨.hbm, 287, rfl⟩
abbrev main_call0_cst_1 : Ref sig .tc := ⟨.hbm, 288, rfl⟩
abbrev main_call0_v6 : Ref sig .tc := ⟨.hbm, 289, rfl⟩
abbrev main_call0_v7 : Ref sig .tc := ⟨.hbm, 290, rfl⟩
abbrev main_v262_1 : Ref sig .tc := ⟨.hbm, 291, rfl⟩
abbrev main_v262_0 : Ref sig .tc := ⟨.hbm, 292, rfl⟩
abbrev main_v263 : Ref sig .tc := ⟨.hbm, 293, rfl⟩
abbrev main_call1_v0 : Ref sig .tc := ⟨.hbm, 294, rfl⟩
abbrev main_call1_v1 : Ref sig .tc := ⟨.hbm, 295, rfl⟩
abbrev main_call1_v2 : Ref sig .tc := ⟨.hbm, 296, rfl⟩
abbrev main_v264 : Ref sig .tc := ⟨.hbm, 297, rfl⟩
abbrev main_cst_12 : Ref sig .tc := ⟨.hbm, 298, rfl⟩
abbrev main_v265 : Ref sig .tc := ⟨.hbm, 299, rfl⟩
abbrev main_v266 : Ref sig .tc := ⟨.hbm, 300, rfl⟩
abbrev main_cst_13 : Ref sig .tc := ⟨.hbm, 301, rfl⟩
abbrev main_v267 : Ref sig .tc := ⟨.hbm, 302, rfl⟩
abbrev main_v268 : Ref sig .tc := ⟨.hbm, 303, rfl⟩
abbrev main_cst_14 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_cst_15 : Ref sig .tc := ⟨.hbm, 309, rfl⟩
abbrev main_v273 : Ref sig .tc := ⟨.hbm, 310, rfl⟩
abbrev main_v274 : Ref sig .tc := ⟨.hbm, 311, rfl⟩
abbrev main_cst_16 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_v280 : Ref sig .tc := ⟨.hbm, 318, rfl⟩
abbrev main_cst_17 : Ref sig .tc := ⟨.hbm, 319, rfl⟩
abbrev main_v281 : Ref sig .tc := ⟨.hbm, 320, rfl⟩
abbrev main_v282 : Ref sig .tc := ⟨.hbm, 321, rfl⟩
abbrev main_cst_18 : Ref sig .tc := ⟨.hbm, 322, rfl⟩
abbrev main_v283 : Ref sig .tc := ⟨.hbm, 323, rfl⟩
abbrev main_v284 : Ref sig .tc := ⟨.hbm, 324, rfl⟩
abbrev main_cst_19 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_cst_20 : Ref sig .tc := ⟨.hbm, 330, rfl⟩
abbrev main_v289 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_cst_21 : Ref sig .tc := ⟨.hbm, 335, rfl⟩
abbrev main_v293 : Ref sig .tc := ⟨.hbm, 336, rfl⟩
abbrev main_v294 : Ref sig .tc := ⟨.hbm, 337, rfl⟩
abbrev main_cst_22 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_v300 : Ref sig .tc := ⟨.hbm, 344, rfl⟩
abbrev main_cst_23 : Ref sig .tc := ⟨.hbm, 345, rfl⟩
abbrev main_v301 : Ref sig .tc := ⟨.hbm, 346, rfl⟩
abbrev main_v302 : Ref sig .tc := ⟨.hbm, 347, rfl⟩
abbrev main_cst_24 : Ref sig .tc := ⟨.hbm, 348, rfl⟩
abbrev main_v303 : Ref sig .tc := ⟨.hbm, 349, rfl⟩
abbrev main_cst_25 : Ref sig .tc := ⟨.hbm, 350, rfl⟩
abbrev main_v304 : Ref sig .tc := ⟨.hbm, 351, rfl⟩
abbrev main_v305 : Ref sig .tc := ⟨.hbm, 352, rfl⟩
abbrev main_cst_26 : Ref sig .tc := ⟨.hbm, 353, rfl⟩
abbrev main_v306 : Ref sig .tc := ⟨.hbm, 354, rfl⟩
abbrev main_v307 : Ref sig .tc := ⟨.hbm, 355, rfl⟩
abbrev main_v308 : Ref sig .tc := ⟨.hbm, 356, rfl⟩
abbrev main_v309 : Ref sig .tc := ⟨.hbm, 357, rfl⟩
abbrev main_cst_27 : Ref sig .tc := ⟨.hbm, 358, rfl⟩
abbrev main_v310 : Ref sig .tc := ⟨.hbm, 359, rfl⟩
abbrev main_v311 : Ref sig .tc := ⟨.hbm, 360, rfl⟩
abbrev main_cst_28 : Ref sig .tc := ⟨.hbm, 361, rfl⟩
abbrev main_v312 : Ref sig .tc := ⟨.hbm, 362, rfl⟩
abbrev main_cst_29 : Ref sig .tc := ⟨.hbm, 363, rfl⟩
abbrev main_v313 : Ref sig .tc := ⟨.hbm, 364, rfl⟩
abbrev main_v314 : Ref sig .tc := ⟨.hbm, 365, rfl⟩
abbrev main_v315 : Ref sig .tc := ⟨.hbm, 366, rfl⟩
abbrev main_cst_30 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_cst_31 : Ref sig .tc := ⟨.hbm, 373, rfl⟩
abbrev main_v321 : Ref sig .tc := ⟨.hbm, 374, rfl⟩
abbrev main_v322 : Ref sig .tc := ⟨.hbm, 375, rfl⟩
abbrev main_cst_32 : Ref sig .tc := ⟨.hbm, 376, rfl⟩
abbrev main_v323 : Ref sig .tc := ⟨.hbm, 377, rfl⟩
abbrev main_cst_33 : Ref sig .tc := ⟨.hbm, 378, rfl⟩
abbrev main_v324 : Ref sig .tc := ⟨.hbm, 379, rfl⟩
abbrev main_v325 : Ref sig .tc := ⟨.hbm, 380, rfl⟩
abbrev main_v326 : Ref sig .tc := ⟨.hbm, 381, rfl⟩
abbrev main_cst_34 : Ref sig .tc := ⟨.hbm, 382, rfl⟩
abbrev main_v327 : Ref sig .tc := ⟨.hbm, 383, rfl⟩
abbrev main_v328 : Ref sig .tc := ⟨.hbm, 384, rfl⟩
abbrev main_v329 : Ref sig .tc := ⟨.hbm, 385, rfl⟩
abbrev main_v330 : Ref sig .tc := ⟨.hbm, 386, rfl⟩
abbrev main_v331 : Ref sig .tc := ⟨.hbm, 387, rfl⟩
abbrev main_cst_35 : Ref sig .tc := ⟨.hbm, 388, rfl⟩
abbrev main_v332 : Ref sig .tc := ⟨.hbm, 389, rfl⟩
abbrev main_v333 : Ref sig .tc := ⟨.hbm, 390, rfl⟩
abbrev main_cst_36 : Ref sig .tc := ⟨.hbm, 391, rfl⟩
abbrev main_v334 : Ref sig .tc := ⟨.hbm, 392, rfl⟩
abbrev main_cst_37 : Ref sig .tc := ⟨.hbm, 393, rfl⟩
abbrev main_v335 : Ref sig .tc := ⟨.hbm, 394, rfl⟩
abbrev main_v336 : Ref sig .tc := ⟨.hbm, 395, rfl⟩
abbrev main_v337 : Ref sig .tc := ⟨.hbm, 396, rfl⟩
abbrev main_cst_38 : Ref sig .tc := ⟨.hbm, 397, rfl⟩
abbrev main_v338 : Ref sig .tc := ⟨.hbm, 398, rfl⟩
abbrev main_v339 : Ref sig .tc := ⟨.hbm, 399, rfl⟩
abbrev main_v340 : Ref sig .tc := ⟨.hbm, 400, rfl⟩
abbrev main_v341 : Ref sig .tc := ⟨.hbm, 401, rfl⟩
abbrev main_v342 : Ref sig .tc := ⟨.hbm, 402, rfl⟩
abbrev main_cst_39 : Ref sig .tc := ⟨.hbm, 403, rfl⟩
abbrev main_v343 : Ref sig .tc := ⟨.hbm, 404, rfl⟩
abbrev main_v344 : Ref sig .tc := ⟨.hbm, 405, rfl⟩
abbrev main_cst_40 : Ref sig .tc := ⟨.hbm, 406, rfl⟩
abbrev main_v345 : Ref sig .tc := ⟨.hbm, 407, rfl⟩
abbrev main_cst_41 : Ref sig .tc := ⟨.hbm, 408, rfl⟩
abbrev main_v346 : Ref sig .tc := ⟨.hbm, 409, rfl⟩
abbrev main_v347 : Ref sig .tc := ⟨.hbm, 410, rfl⟩
abbrev main_v348 : Ref sig .tc := ⟨.hbm, 411, rfl⟩
abbrev main_cst_42 : Ref sig .tc := ⟨.hbm, 412, rfl⟩
abbrev main_v349 : Ref sig .tc := ⟨.hbm, 413, rfl⟩
abbrev main_v350 : Ref sig .tc := ⟨.hbm, 414, rfl⟩
abbrev main_v351 : Ref sig .tc := ⟨.hbm, 415, rfl⟩
abbrev main_v352 : Ref sig .tc := ⟨.hbm, 416, rfl⟩
abbrev main_v353 : Ref sig .tc := ⟨.hbm, 417, rfl⟩
abbrev main_cst_43 : Ref sig .tc := ⟨.hbm, 418, rfl⟩
abbrev main_v354 : Ref sig .tc := ⟨.hbm, 419, rfl⟩
abbrev main_v355 : Ref sig .tc := ⟨.hbm, 420, rfl⟩
abbrev main_cst_44 : Ref sig .tc := ⟨.hbm, 421, rfl⟩
abbrev main_v356 : Ref sig .tc := ⟨.hbm, 422, rfl⟩
abbrev main_cst_45 : Ref sig .tc := ⟨.hbm, 423, rfl⟩
abbrev main_v357 : Ref sig .tc := ⟨.hbm, 424, rfl⟩
abbrev main_v358 : Ref sig .tc := ⟨.hbm, 425, rfl⟩
abbrev main_v359 : Ref sig .tc := ⟨.hbm, 426, rfl⟩
abbrev main_cst_46 : Ref sig .tc := ⟨.hbm, 427, rfl⟩
abbrev main_v360 : Ref sig .tc := ⟨.hbm, 428, rfl⟩
abbrev main_v361 : Ref sig .tc := ⟨.hbm, 429, rfl⟩
abbrev main_v362 : Ref sig .tc := ⟨.hbm, 430, rfl⟩
abbrev main_v363 : Ref sig .tc := ⟨.hbm, 431, rfl⟩
abbrev main_v364 : Ref sig .tc := ⟨.hbm, 432, rfl⟩
abbrev main_cst_47 : Ref sig .tc := ⟨.hbm, 433, rfl⟩
abbrev main_v365 : Ref sig .tc := ⟨.hbm, 434, rfl⟩
abbrev main_v366 : Ref sig .tc := ⟨.hbm, 435, rfl⟩
abbrev main_cst_48 : Ref sig .tc := ⟨.hbm, 436, rfl⟩
abbrev main_v367 : Ref sig .tc := ⟨.hbm, 437, rfl⟩
abbrev main_cst_49 : Ref sig .tc := ⟨.hbm, 438, rfl⟩
abbrev main_v368 : Ref sig .tc := ⟨.hbm, 439, rfl⟩
abbrev main_v369 : Ref sig .tc := ⟨.hbm, 440, rfl⟩
abbrev main_v370 : Ref sig .tc := ⟨.hbm, 441, rfl⟩
abbrev main_cst_50 : Ref sig .tc := ⟨.hbm, 442, rfl⟩
abbrev main_v371 : Ref sig .tc := ⟨.hbm, 443, rfl⟩
abbrev main_v372 : Ref sig .tc := ⟨.hbm, 444, rfl⟩
abbrev main_v373 : Ref sig .tc := ⟨.hbm, 445, rfl⟩
abbrev main_v374 : Ref sig .tc := ⟨.hbm, 446, rfl⟩
abbrev main_v375 : Ref sig .tc := ⟨.hbm, 447, rfl⟩
abbrev main_cst_51 : Ref sig .tc := ⟨.hbm, 448, rfl⟩
abbrev main_v376 : Ref sig .tc := ⟨.hbm, 449, rfl⟩
abbrev main_v377 : Ref sig .tc := ⟨.hbm, 450, rfl⟩
abbrev main_cst_52 : Ref sig .tc := ⟨.hbm, 451, rfl⟩
abbrev main_v378 : Ref sig .tc := ⟨.hbm, 452, rfl⟩
abbrev main_cst_53 : Ref sig .tc := ⟨.hbm, 453, rfl⟩
abbrev main_v379 : Ref sig .tc := ⟨.hbm, 454, rfl⟩
abbrev main_v380 : Ref sig .tc := ⟨.hbm, 455, rfl⟩
abbrev main_v381 : Ref sig .tc := ⟨.hbm, 456, rfl⟩
abbrev main_cst_54 : Ref sig .tc := ⟨.hbm, 457, rfl⟩
abbrev main_v382 : Ref sig .tc := ⟨.hbm, 458, rfl⟩
abbrev main_v383 : Ref sig .tc := ⟨.hbm, 459, rfl⟩
abbrev main_v384 : Ref sig .tc := ⟨.hbm, 460, rfl⟩
abbrev main_v385 : Ref sig .tc := ⟨.hbm, 461, rfl⟩
abbrev main_v386 : Ref sig .tc := ⟨.hbm, 462, rfl⟩
abbrev main_cst_55 : Ref sig .tc := ⟨.hbm, 463, rfl⟩
abbrev main_v387 : Ref sig .tc := ⟨.hbm, 464, rfl⟩
abbrev main_v388 : Ref sig .tc := ⟨.hbm, 465, rfl⟩
abbrev main_cst_56 : Ref sig .tc := ⟨.hbm, 466, rfl⟩
abbrev main_v389 : Ref sig .tc := ⟨.hbm, 467, rfl⟩
abbrev main_cst_57 : Ref sig .tc := ⟨.hbm, 468, rfl⟩
abbrev main_v390 : Ref sig .tc := ⟨.hbm, 469, rfl⟩
abbrev main_v391 : Ref sig .tc := ⟨.hbm, 470, rfl⟩
abbrev main_v392 : Ref sig .tc := ⟨.hbm, 471, rfl⟩
abbrev main_cst_58 : Ref sig .tc := ⟨.hbm, 472, rfl⟩
abbrev main_v393 : Ref sig .tc := ⟨.hbm, 473, rfl⟩
abbrev main_v394 : Ref sig .tc := ⟨.hbm, 474, rfl⟩
abbrev main_v395 : Ref sig .tc := ⟨.hbm, 475, rfl⟩
abbrev main_v396 : Ref sig .tc := ⟨.hbm, 476, rfl⟩
abbrev main_v397 : Ref sig .tc := ⟨.hbm, 477, rfl⟩
abbrev main_cst_59 : Ref sig .tc := ⟨.hbm, 478, rfl⟩
abbrev main_v398 : Ref sig .tc := ⟨.hbm, 479, rfl⟩
abbrev main_v399 : Ref sig .tc := ⟨.hbm, 480, rfl⟩
abbrev main_cst_60 : Ref sig .tc := ⟨.hbm, 481, rfl⟩
abbrev main_v400 : Ref sig .tc := ⟨.hbm, 482, rfl⟩
abbrev main_cst_61 : Ref sig .tc := ⟨.hbm, 483, rfl⟩
abbrev main_v401 : Ref sig .tc := ⟨.hbm, 484, rfl⟩
abbrev main_v402 : Ref sig .tc := ⟨.hbm, 485, rfl⟩
abbrev main_v403 : Ref sig .tc := ⟨.hbm, 486, rfl⟩
abbrev main_cst_62 : Ref sig .tc := ⟨.hbm, 487, rfl⟩
abbrev main_v404 : Ref sig .tc := ⟨.hbm, 488, rfl⟩
abbrev main_v405 : Ref sig .tc := ⟨.hbm, 489, rfl⟩
abbrev main_v406 : Ref sig .tc := ⟨.hbm, 490, rfl⟩
abbrev main_v407 : Ref sig .tc := ⟨.hbm, 491, rfl⟩
abbrev main_v408 : Ref sig .tc := ⟨.hbm, 492, rfl⟩
abbrev main_cst_63 : Ref sig .tc := ⟨.hbm, 493, rfl⟩
abbrev main_v409 : Ref sig .tc := ⟨.hbm, 494, rfl⟩
abbrev main_v410 : Ref sig .tc := ⟨.hbm, 495, rfl⟩
abbrev main_cst_64 : Ref sig .tc := ⟨.hbm, 496, rfl⟩
abbrev main_v411 : Ref sig .tc := ⟨.hbm, 497, rfl⟩
abbrev main_cst_65 : Ref sig .tc := ⟨.hbm, 498, rfl⟩
abbrev main_v412 : Ref sig .tc := ⟨.hbm, 499, rfl⟩
abbrev main_v413 : Ref sig .tc := ⟨.hbm, 500, rfl⟩
abbrev main_v414 : Ref sig .tc := ⟨.hbm, 501, rfl⟩
abbrev main_cst_66 : Ref sig .tc := ⟨.hbm, 502, rfl⟩
abbrev main_v415 : Ref sig .tc := ⟨.hbm, 503, rfl⟩
abbrev main_v416 : Ref sig .tc := ⟨.hbm, 504, rfl⟩
abbrev main_v417 : Ref sig .tc := ⟨.hbm, 505, rfl⟩
abbrev main_v418 : Ref sig .tc := ⟨.hbm, 506, rfl⟩
abbrev main_v419 : Ref sig .tc := ⟨.hbm, 507, rfl⟩
abbrev main_cst_67 : Ref sig .tc := ⟨.hbm, 508, rfl⟩
abbrev main_v420 : Ref sig .tc := ⟨.hbm, 509, rfl⟩
abbrev main_v421 : Ref sig .tc := ⟨.hbm, 510, rfl⟩
abbrev main_cst_68 : Ref sig .tc := ⟨.hbm, 511, rfl⟩
abbrev main_v422 : Ref sig .tc := ⟨.hbm, 512, rfl⟩
abbrev main_cst_69 : Ref sig .tc := ⟨.hbm, 513, rfl⟩
abbrev main_v423 : Ref sig .tc := ⟨.hbm, 514, rfl⟩
abbrev main_v424 : Ref sig .tc := ⟨.hbm, 515, rfl⟩
abbrev main_v425 : Ref sig .tc := ⟨.hbm, 516, rfl⟩
abbrev main_cst_70 : Ref sig .tc := ⟨.hbm, 517, rfl⟩
abbrev main_v426 : Ref sig .tc := ⟨.hbm, 518, rfl⟩
abbrev main_v427 : Ref sig .tc := ⟨.hbm, 519, rfl⟩
abbrev main_v428 : Ref sig .tc := ⟨.hbm, 520, rfl⟩
abbrev main_v429 : Ref sig .tc := ⟨.hbm, 521, rfl⟩
abbrev main_v430 : Ref sig .tc := ⟨.hbm, 522, rfl⟩
abbrev main_cst_71 : Ref sig .tc := ⟨.hbm, 523, rfl⟩
abbrev main_v431 : Ref sig .tc := ⟨.hbm, 524, rfl⟩
abbrev main_v432 : Ref sig .tc := ⟨.hbm, 525, rfl⟩
abbrev main_cst_72 : Ref sig .tc := ⟨.hbm, 526, rfl⟩
abbrev main_v433 : Ref sig .tc := ⟨.hbm, 527, rfl⟩
abbrev main_cst_73 : Ref sig .tc := ⟨.hbm, 528, rfl⟩
abbrev main_v434 : Ref sig .tc := ⟨.hbm, 529, rfl⟩
abbrev main_v435 : Ref sig .tc := ⟨.hbm, 530, rfl⟩
abbrev main_v436 : Ref sig .tc := ⟨.hbm, 531, rfl⟩
abbrev main_cst_74 : Ref sig .tc := ⟨.hbm, 532, rfl⟩
abbrev main_v437 : Ref sig .tc := ⟨.hbm, 533, rfl⟩
abbrev main_v438 : Ref sig .tc := ⟨.hbm, 534, rfl⟩
abbrev main_v439 : Ref sig .tc := ⟨.hbm, 535, rfl⟩
abbrev main_v440 : Ref sig .tc := ⟨.hbm, 536, rfl⟩
abbrev main_v441 : Ref sig .tc := ⟨.hbm, 537, rfl⟩
abbrev main_cst_75 : Ref sig .tc := ⟨.hbm, 538, rfl⟩
abbrev main_v442 : Ref sig .tc := ⟨.hbm, 539, rfl⟩
abbrev main_v443 : Ref sig .tc := ⟨.hbm, 540, rfl⟩
abbrev main_cst_76 : Ref sig .tc := ⟨.hbm, 541, rfl⟩
abbrev main_v444 : Ref sig .tc := ⟨.hbm, 542, rfl⟩
abbrev main_cst_77 : Ref sig .tc := ⟨.hbm, 543, rfl⟩
abbrev main_v445 : Ref sig .tc := ⟨.hbm, 544, rfl⟩
abbrev main_v446 : Ref sig .tc := ⟨.hbm, 545, rfl⟩
abbrev main_v447 : Ref sig .tc := ⟨.hbm, 546, rfl⟩
abbrev main_cst_78 : Ref sig .tc := ⟨.hbm, 547, rfl⟩
abbrev main_v448 : Ref sig .tc := ⟨.hbm, 548, rfl⟩
abbrev main_v449 : Ref sig .tc := ⟨.hbm, 549, rfl⟩
abbrev main_v450 : Ref sig .tc := ⟨.hbm, 550, rfl⟩
abbrev main_v451 : Ref sig .tc := ⟨.hbm, 551, rfl⟩
abbrev main_v452 : Ref sig .tc := ⟨.hbm, 552, rfl⟩
abbrev main_cst_79 : Ref sig .tc := ⟨.hbm, 553, rfl⟩
abbrev main_v453 : Ref sig .tc := ⟨.hbm, 554, rfl⟩
abbrev main_v454 : Ref sig .tc := ⟨.hbm, 555, rfl⟩
abbrev main_cst_80 : Ref sig .tc := ⟨.hbm, 556, rfl⟩
abbrev main_v455 : Ref sig .tc := ⟨.hbm, 557, rfl⟩
abbrev main_cst_81 : Ref sig .tc := ⟨.hbm, 558, rfl⟩
abbrev main_v456 : Ref sig .tc := ⟨.hbm, 559, rfl⟩
abbrev main_v457 : Ref sig .tc := ⟨.hbm, 560, rfl⟩
abbrev main_v458 : Ref sig .tc := ⟨.hbm, 561, rfl⟩
abbrev main_cst_82 : Ref sig .tc := ⟨.hbm, 562, rfl⟩
abbrev main_v459 : Ref sig .tc := ⟨.hbm, 563, rfl⟩
abbrev main_v460 : Ref sig .tc := ⟨.hbm, 564, rfl⟩
abbrev main_v461 : Ref sig .tc := ⟨.hbm, 565, rfl⟩
abbrev main_v462 : Ref sig .tc := ⟨.hbm, 566, rfl⟩
abbrev main_v463 : Ref sig .tc := ⟨.hbm, 567, rfl⟩
abbrev main_cst_83 : Ref sig .tc := ⟨.hbm, 568, rfl⟩
abbrev main_v464 : Ref sig .tc := ⟨.hbm, 569, rfl⟩
abbrev main_v465 : Ref sig .tc := ⟨.hbm, 570, rfl⟩
abbrev main_cst_84 : Ref sig .tc := ⟨.hbm, 571, rfl⟩
abbrev main_v466 : Ref sig .tc := ⟨.hbm, 572, rfl⟩
abbrev main_cst_85 : Ref sig .tc := ⟨.hbm, 573, rfl⟩
abbrev main_v467 : Ref sig .tc := ⟨.hbm, 574, rfl⟩
abbrev main_v468 : Ref sig .tc := ⟨.hbm, 575, rfl⟩
abbrev main_v469 : Ref sig .tc := ⟨.hbm, 576, rfl⟩
abbrev main_cst_86 : Ref sig .tc := ⟨.hbm, 577, rfl⟩
abbrev main_v470 : Ref sig .tc := ⟨.hbm, 578, rfl⟩
abbrev main_v471 : Ref sig .tc := ⟨.hbm, 579, rfl⟩
abbrev main_v472 : Ref sig .tc := ⟨.hbm, 580, rfl⟩
abbrev main_v473 : Ref sig .tc := ⟨.hbm, 581, rfl⟩
abbrev main_v474 : Ref sig .tc := ⟨.hbm, 582, rfl⟩
abbrev main_cst_87 : Ref sig .tc := ⟨.hbm, 583, rfl⟩
abbrev main_v475 : Ref sig .tc := ⟨.hbm, 584, rfl⟩
abbrev main_v476 : Ref sig .tc := ⟨.hbm, 585, rfl⟩
abbrev main_cst_88 : Ref sig .tc := ⟨.hbm, 586, rfl⟩
abbrev main_v477 : Ref sig .tc := ⟨.hbm, 587, rfl⟩
abbrev main_cst_89 : Ref sig .tc := ⟨.hbm, 588, rfl⟩
abbrev main_v478 : Ref sig .tc := ⟨.hbm, 589, rfl⟩
abbrev main_v479 : Ref sig .tc := ⟨.hbm, 590, rfl⟩
abbrev main_v480 : Ref sig .tc := ⟨.hbm, 591, rfl⟩
abbrev main_cst_90 : Ref sig .tc := ⟨.hbm, 592, rfl⟩
abbrev main_v481 : Ref sig .tc := ⟨.hbm, 593, rfl⟩
abbrev main_v482 : Ref sig .tc := ⟨.hbm, 594, rfl⟩
abbrev main_v483 : Ref sig .tc := ⟨.hbm, 595, rfl⟩
abbrev main_v484 : Ref sig .tc := ⟨.hbm, 596, rfl⟩
abbrev main_v485 : Ref sig .tc := ⟨.hbm, 597, rfl⟩
abbrev main_cst_91 : Ref sig .tc := ⟨.hbm, 598, rfl⟩
abbrev main_v486 : Ref sig .tc := ⟨.hbm, 599, rfl⟩
abbrev main_v487 : Ref sig .tc := ⟨.hbm, 600, rfl⟩
abbrev main_cst_92 : Ref sig .tc := ⟨.hbm, 601, rfl⟩
abbrev main_v488 : Ref sig .tc := ⟨.hbm, 602, rfl⟩
abbrev main_cst_93 : Ref sig .tc := ⟨.hbm, 603, rfl⟩
abbrev main_v489 : Ref sig .tc := ⟨.hbm, 604, rfl⟩
abbrev main_v490 : Ref sig .tc := ⟨.hbm, 605, rfl⟩
abbrev main_v491 : Ref sig .tc := ⟨.hbm, 606, rfl⟩
abbrev main_cst_94 : Ref sig .tc := ⟨.hbm, 607, rfl⟩
abbrev main_v492 : Ref sig .tc := ⟨.hbm, 608, rfl⟩
abbrev main_v493 : Ref sig .tc := ⟨.hbm, 609, rfl⟩
abbrev main_v494 : Ref sig .tc := ⟨.hbm, 610, rfl⟩
abbrev main_v495 : Ref sig .tc := ⟨.hbm, 611, rfl⟩
abbrev main_v496 : Ref sig .tc := ⟨.hbm, 612, rfl⟩
abbrev main_cst_95 : Ref sig .tc := ⟨.hbm, 613, rfl⟩
abbrev main_v497 : Ref sig .tc := ⟨.hbm, 614, rfl⟩
abbrev main_v498 : Ref sig .tc := ⟨.hbm, 615, rfl⟩
abbrev main_cst_96 : Ref sig .tc := ⟨.hbm, 616, rfl⟩
abbrev main_v499 : Ref sig .tc := ⟨.hbm, 617, rfl⟩
abbrev main_cst_97 : Ref sig .tc := ⟨.hbm, 618, rfl⟩
abbrev main_v500 : Ref sig .tc := ⟨.hbm, 619, rfl⟩
abbrev main_v501 : Ref sig .tc := ⟨.hbm, 620, rfl⟩
abbrev main_v502 : Ref sig .tc := ⟨.hbm, 621, rfl⟩
abbrev main_cst_98 : Ref sig .tc := ⟨.hbm, 622, rfl⟩
abbrev main_v503 : Ref sig .tc := ⟨.hbm, 623, rfl⟩
abbrev main_v504 : Ref sig .tc := ⟨.hbm, 624, rfl⟩
abbrev main_v505 : Ref sig .tc := ⟨.hbm, 625, rfl⟩
abbrev main_v506 : Ref sig .tc := ⟨.hbm, 626, rfl⟩
abbrev main_v507 : Ref sig .tc := ⟨.hbm, 627, rfl⟩
abbrev main_cst_99 : Ref sig .tc := ⟨.hbm, 628, rfl⟩
abbrev main_v508 : Ref sig .tc := ⟨.hbm, 629, rfl⟩
abbrev main_v509 : Ref sig .tc := ⟨.hbm, 630, rfl⟩
abbrev main_cst_100 : Ref sig .tc := ⟨.hbm, 631, rfl⟩
abbrev main_v510 : Ref sig .tc := ⟨.hbm, 632, rfl⟩
abbrev main_cst_101 : Ref sig .tc := ⟨.hbm, 633, rfl⟩
abbrev main_v511 : Ref sig .tc := ⟨.hbm, 634, rfl⟩
abbrev main_v512 : Ref sig .tc := ⟨.hbm, 635, rfl⟩
abbrev main_v513 : Ref sig .tc := ⟨.hbm, 636, rfl⟩
abbrev main_cst_102 : Ref sig .tc := ⟨.hbm, 637, rfl⟩
abbrev main_v514 : Ref sig .tc := ⟨.hbm, 638, rfl⟩
abbrev main_v515 : Ref sig .tc := ⟨.hbm, 639, rfl⟩
abbrev main_v516 : Ref sig .tc := ⟨.hbm, 640, rfl⟩
abbrev main_v517 : Ref sig .tc := ⟨.hbm, 641, rfl⟩
abbrev main_v518 : Ref sig .tc := ⟨.hbm, 642, rfl⟩
abbrev main_cst_103 : Ref sig .tc := ⟨.hbm, 643, rfl⟩
abbrev main_v519 : Ref sig .tc := ⟨.hbm, 644, rfl⟩
abbrev main_v520 : Ref sig .tc := ⟨.hbm, 645, rfl⟩
abbrev main_cst_104 : Ref sig .tc := ⟨.hbm, 646, rfl⟩
abbrev main_v521 : Ref sig .tc := ⟨.hbm, 647, rfl⟩
abbrev main_cst_105 : Ref sig .tc := ⟨.hbm, 648, rfl⟩
abbrev main_v522 : Ref sig .tc := ⟨.hbm, 649, rfl⟩
abbrev main_v523 : Ref sig .tc := ⟨.hbm, 650, rfl⟩
abbrev main_v524 : Ref sig .tc := ⟨.hbm, 651, rfl⟩
abbrev main_cst_106 : Ref sig .tc := ⟨.hbm, 652, rfl⟩
abbrev main_v525 : Ref sig .tc := ⟨.hbm, 653, rfl⟩
abbrev main_v526 : Ref sig .tc := ⟨.hbm, 654, rfl⟩
abbrev main_v527 : Ref sig .tc := ⟨.hbm, 655, rfl⟩
abbrev main_v528 : Ref sig .tc := ⟨.hbm, 656, rfl⟩
abbrev main_v529 : Ref sig .tc := ⟨.hbm, 657, rfl⟩
abbrev main_cst_107 : Ref sig .tc := ⟨.hbm, 658, rfl⟩
abbrev main_v530 : Ref sig .tc := ⟨.hbm, 659, rfl⟩
abbrev main_v531 : Ref sig .tc := ⟨.hbm, 660, rfl⟩
abbrev main_cst_108 : Ref sig .tc := ⟨.hbm, 661, rfl⟩
abbrev main_v532 : Ref sig .tc := ⟨.hbm, 662, rfl⟩
abbrev main_cst_109 : Ref sig .tc := ⟨.hbm, 663, rfl⟩
abbrev main_v533 : Ref sig .tc := ⟨.hbm, 664, rfl⟩
abbrev main_v534 : Ref sig .tc := ⟨.hbm, 665, rfl⟩
abbrev main_v535 : Ref sig .tc := ⟨.hbm, 666, rfl⟩
abbrev main_cst_110 : Ref sig .tc := ⟨.hbm, 667, rfl⟩
abbrev main_v536 : Ref sig .tc := ⟨.hbm, 668, rfl⟩
abbrev main_v537 : Ref sig .tc := ⟨.hbm, 669, rfl⟩
abbrev main_v538 : Ref sig .tc := ⟨.hbm, 670, rfl⟩
abbrev main_v539 : Ref sig .tc := ⟨.hbm, 671, rfl⟩
abbrev main_v540 : Ref sig .tc := ⟨.hbm, 672, rfl⟩
abbrev main_cst_111 : Ref sig .tc := ⟨.hbm, 673, rfl⟩
abbrev main_v541 : Ref sig .tc := ⟨.hbm, 674, rfl⟩
abbrev main_v542 : Ref sig .tc := ⟨.hbm, 675, rfl⟩
abbrev main_cst_112 : Ref sig .tc := ⟨.hbm, 676, rfl⟩
abbrev main_v543 : Ref sig .tc := ⟨.hbm, 677, rfl⟩
abbrev main_cst_113 : Ref sig .tc := ⟨.hbm, 678, rfl⟩
abbrev main_v544 : Ref sig .tc := ⟨.hbm, 679, rfl⟩
abbrev main_v545 : Ref sig .tc := ⟨.hbm, 680, rfl⟩
abbrev main_v546 : Ref sig .tc := ⟨.hbm, 681, rfl⟩
abbrev main_cst_114 : Ref sig .tc := ⟨.hbm, 682, rfl⟩
abbrev main_v547 : Ref sig .tc := ⟨.hbm, 683, rfl⟩
abbrev main_v548 : Ref sig .tc := ⟨.hbm, 684, rfl⟩
abbrev main_v549 : Ref sig .tc := ⟨.hbm, 685, rfl⟩
abbrev main_v550 : Ref sig .tc := ⟨.hbm, 686, rfl⟩
abbrev main_v551 : Ref sig .tc := ⟨.hbm, 687, rfl⟩
abbrev main_cst_115 : Ref sig .tc := ⟨.hbm, 688, rfl⟩
abbrev main_v552 : Ref sig .tc := ⟨.hbm, 689, rfl⟩
abbrev main_v553 : Ref sig .tc := ⟨.hbm, 690, rfl⟩
abbrev main_cst_116 : Ref sig .tc := ⟨.hbm, 691, rfl⟩
abbrev main_v554 : Ref sig .tc := ⟨.hbm, 692, rfl⟩
abbrev main_cst_117 : Ref sig .tc := ⟨.hbm, 693, rfl⟩
abbrev main_v555 : Ref sig .tc := ⟨.hbm, 694, rfl⟩
abbrev main_v556 : Ref sig .tc := ⟨.hbm, 695, rfl⟩
abbrev main_v557 : Ref sig .tc := ⟨.hbm, 696, rfl⟩
abbrev main_cst_118 : Ref sig .tc := ⟨.hbm, 697, rfl⟩
abbrev main_v558 : Ref sig .tc := ⟨.hbm, 698, rfl⟩
abbrev main_v559 : Ref sig .tc := ⟨.hbm, 699, rfl⟩
abbrev main_v560 : Ref sig .tc := ⟨.hbm, 700, rfl⟩
abbrev main_v561 : Ref sig .tc := ⟨.hbm, 701, rfl⟩
abbrev main_v562 : Ref sig .tc := ⟨.hbm, 702, rfl⟩
abbrev main_cst_119 : Ref sig .tc := ⟨.hbm, 703, rfl⟩
abbrev main_v563 : Ref sig .tc := ⟨.hbm, 704, rfl⟩
abbrev main_v564 : Ref sig .tc := ⟨.hbm, 705, rfl⟩
abbrev main_cst_120 : Ref sig .tc := ⟨.hbm, 706, rfl⟩
abbrev main_v565 : Ref sig .tc := ⟨.hbm, 707, rfl⟩
abbrev main_cst_121 : Ref sig .tc := ⟨.hbm, 708, rfl⟩
abbrev main_v566 : Ref sig .tc := ⟨.hbm, 709, rfl⟩
abbrev main_v567 : Ref sig .tc := ⟨.hbm, 710, rfl⟩
abbrev main_v568 : Ref sig .tc := ⟨.hbm, 711, rfl⟩
abbrev main_cst_122 : Ref sig .tc := ⟨.hbm, 712, rfl⟩
abbrev main_v569 : Ref sig .tc := ⟨.hbm, 713, rfl⟩
abbrev main_v570 : Ref sig .tc := ⟨.hbm, 714, rfl⟩
abbrev main_v571 : Ref sig .tc := ⟨.hbm, 715, rfl⟩
abbrev main_v572 : Ref sig .tc := ⟨.hbm, 716, rfl⟩
abbrev main_v573 : Ref sig .tc := ⟨.hbm, 717, rfl⟩
abbrev main_cst_123 : Ref sig .tc := ⟨.hbm, 718, rfl⟩
abbrev main_v574 : Ref sig .tc := ⟨.hbm, 719, rfl⟩
abbrev main_v575 : Ref sig .tc := ⟨.hbm, 720, rfl⟩
abbrev main_cst_124 : Ref sig .tc := ⟨.hbm, 721, rfl⟩
abbrev main_v576 : Ref sig .tc := ⟨.hbm, 722, rfl⟩
abbrev main_cst_125 : Ref sig .tc := ⟨.hbm, 723, rfl⟩
abbrev main_v577 : Ref sig .tc := ⟨.hbm, 724, rfl⟩
abbrev main_v578 : Ref sig .tc := ⟨.hbm, 725, rfl⟩
abbrev main_v579 : Ref sig .tc := ⟨.hbm, 726, rfl⟩
abbrev main_cst_126 : Ref sig .tc := ⟨.hbm, 727, rfl⟩
abbrev main_v580 : Ref sig .tc := ⟨.hbm, 728, rfl⟩
abbrev main_v581 : Ref sig .tc := ⟨.hbm, 729, rfl⟩
abbrev main_v582 : Ref sig .tc := ⟨.hbm, 730, rfl⟩
abbrev main_v583 : Ref sig .tc := ⟨.hbm, 731, rfl⟩
abbrev main_v584 : Ref sig .tc := ⟨.hbm, 732, rfl⟩
abbrev main_cst_127 : Ref sig .tc := ⟨.hbm, 733, rfl⟩
abbrev main_v585 : Ref sig .tc := ⟨.hbm, 734, rfl⟩
abbrev main_v586 : Ref sig .tc := ⟨.hbm, 735, rfl⟩
abbrev main_cst_128 : Ref sig .tc := ⟨.hbm, 736, rfl⟩
abbrev main_v587 : Ref sig .tc := ⟨.hbm, 737, rfl⟩
abbrev main_cst_129 : Ref sig .tc := ⟨.hbm, 738, rfl⟩
abbrev main_v588 : Ref sig .tc := ⟨.hbm, 739, rfl⟩
abbrev main_v589 : Ref sig .tc := ⟨.hbm, 740, rfl⟩
abbrev main_v590 : Ref sig .tc := ⟨.hbm, 741, rfl⟩
abbrev main_cst_130 : Ref sig .tc := ⟨.hbm, 742, rfl⟩
abbrev main_v591 : Ref sig .tc := ⟨.hbm, 743, rfl⟩
abbrev main_v592 : Ref sig .tc := ⟨.hbm, 744, rfl⟩
abbrev main_v593 : Ref sig .tc := ⟨.hbm, 745, rfl⟩
abbrev main_v594 : Ref sig .tc := ⟨.hbm, 746, rfl⟩
abbrev main_v595 : Ref sig .tc := ⟨.hbm, 747, rfl⟩
abbrev main_cst_131 : Ref sig .tc := ⟨.hbm, 748, rfl⟩
abbrev main_v596 : Ref sig .tc := ⟨.hbm, 749, rfl⟩
abbrev main_v597 : Ref sig .tc := ⟨.hbm, 750, rfl⟩
abbrev main_cst_132 : Ref sig .tc := ⟨.hbm, 751, rfl⟩
abbrev main_v598 : Ref sig .tc := ⟨.hbm, 752, rfl⟩
abbrev main_cst_133 : Ref sig .tc := ⟨.hbm, 753, rfl⟩
abbrev main_v599 : Ref sig .tc := ⟨.hbm, 754, rfl⟩
abbrev main_v600 : Ref sig .tc := ⟨.hbm, 755, rfl⟩
abbrev main_v601 : Ref sig .tc := ⟨.hbm, 756, rfl⟩
abbrev main_cst_134 : Ref sig .tc := ⟨.hbm, 757, rfl⟩
abbrev main_v602 : Ref sig .tc := ⟨.hbm, 758, rfl⟩
abbrev main_v603 : Ref sig .tc := ⟨.hbm, 759, rfl⟩
abbrev main_v604 : Ref sig .tc := ⟨.hbm, 760, rfl⟩
abbrev main_v605 : Ref sig .tc := ⟨.hbm, 761, rfl⟩
abbrev main_v606 : Ref sig .tc := ⟨.hbm, 762, rfl⟩
abbrev main_cst_135 : Ref sig .tc := ⟨.hbm, 763, rfl⟩
abbrev main_v607 : Ref sig .tc := ⟨.hbm, 764, rfl⟩
abbrev main_v608 : Ref sig .tc := ⟨.hbm, 765, rfl⟩
abbrev main_cst_136 : Ref sig .tc := ⟨.hbm, 766, rfl⟩
abbrev main_v609 : Ref sig .tc := ⟨.hbm, 767, rfl⟩
abbrev main_cst_137 : Ref sig .tc := ⟨.hbm, 768, rfl⟩
abbrev main_v610 : Ref sig .tc := ⟨.hbm, 769, rfl⟩
abbrev main_v611 : Ref sig .tc := ⟨.hbm, 770, rfl⟩
abbrev main_v612 : Ref sig .tc := ⟨.hbm, 771, rfl⟩
abbrev main_cst_138 : Ref sig .tc := ⟨.hbm, 772, rfl⟩
abbrev main_v613 : Ref sig .tc := ⟨.hbm, 773, rfl⟩
abbrev main_v614 : Ref sig .tc := ⟨.hbm, 774, rfl⟩
abbrev main_v615 : Ref sig .tc := ⟨.hbm, 775, rfl⟩
abbrev main_v616 : Ref sig .tc := ⟨.hbm, 776, rfl⟩
abbrev main_v617 : Ref sig .tc := ⟨.hbm, 777, rfl⟩
abbrev main_cst_139 : Ref sig .tc := ⟨.hbm, 778, rfl⟩
abbrev main_v618 : Ref sig .tc := ⟨.hbm, 779, rfl⟩
abbrev main_v619 : Ref sig .tc := ⟨.hbm, 780, rfl⟩
abbrev main_cst_140 : Ref sig .tc := ⟨.hbm, 781, rfl⟩
abbrev main_v620 : Ref sig .tc := ⟨.hbm, 782, rfl⟩
abbrev main_cst_141 : Ref sig .tc := ⟨.hbm, 783, rfl⟩
abbrev main_v621 : Ref sig .tc := ⟨.hbm, 784, rfl⟩
abbrev main_v622 : Ref sig .tc := ⟨.hbm, 785, rfl⟩
abbrev main_v623 : Ref sig .tc := ⟨.hbm, 786, rfl⟩
abbrev main_cst_142 : Ref sig .tc := ⟨.hbm, 787, rfl⟩
abbrev main_v624 : Ref sig .tc := ⟨.hbm, 788, rfl⟩
abbrev main_v625 : Ref sig .tc := ⟨.hbm, 789, rfl⟩
abbrev main_v626 : Ref sig .tc := ⟨.hbm, 790, rfl⟩
abbrev main_v627 : Ref sig .tc := ⟨.hbm, 791, rfl⟩
abbrev main_v628 : Ref sig .tc := ⟨.hbm, 792, rfl⟩
abbrev main_cst_143 : Ref sig .tc := ⟨.hbm, 793, rfl⟩
abbrev main_v629 : Ref sig .tc := ⟨.hbm, 794, rfl⟩
abbrev main_v630 : Ref sig .tc := ⟨.hbm, 795, rfl⟩
abbrev main_cst_144 : Ref sig .tc := ⟨.hbm, 796, rfl⟩
abbrev main_v631 : Ref sig .tc := ⟨.hbm, 797, rfl⟩
abbrev main_cst_145 : Ref sig .tc := ⟨.hbm, 798, rfl⟩
abbrev main_v632 : Ref sig .tc := ⟨.hbm, 799, rfl⟩
abbrev main_v633 : Ref sig .tc := ⟨.hbm, 800, rfl⟩
abbrev main_v634 : Ref sig .tc := ⟨.hbm, 801, rfl⟩
abbrev main_cst_146 : Ref sig .tc := ⟨.hbm, 802, rfl⟩
abbrev main_v635 : Ref sig .tc := ⟨.hbm, 803, rfl⟩
abbrev main_v636 : Ref sig .tc := ⟨.hbm, 804, rfl⟩
abbrev main_v637 : Ref sig .tc := ⟨.hbm, 805, rfl⟩
abbrev main_v638 : Ref sig .tc := ⟨.hbm, 806, rfl⟩
abbrev main_v639 : Ref sig .tc := ⟨.hbm, 807, rfl⟩
abbrev main_v640 : Ref sig .tc := ⟨.hbm, 808, rfl⟩
abbrev main_v641 : Ref sig .tc := ⟨.hbm, 809, rfl⟩
abbrev main_v642 : Ref sig .tc := ⟨.hbm, 810, rfl⟩
abbrev main_v643 : Ref sig .tc := ⟨.hbm, 811, rfl⟩
abbrev main_v644 : Ref sig .tc := ⟨.hbm, 812, rfl⟩
abbrev main_v645 : Ref sig .tc := ⟨.hbm, 813, rfl⟩

abbrev nD : Nat := 1
abbrev τ : Topo := Topo.v7x

variable {F : FTy → Type} [FloatOps F]
-- ==== MixD.lean ====
abbrev S4096x2048 : Shape := ⟨2, ![4096, 2048]⟩
abbrev S4096x1024 : Shape := ⟨2, ![4096, 1024]⟩
abbrev S4x64x64 : Shape := ⟨3, ![4, 64, 64]⟩
abbrev S256 : Shape := ⟨1, ![256]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S1x256 : Shape := ⟨2, ![1, 256]⟩
abbrev S4096x256 : Shape := ⟨2, ![4096, 256]⟩
abbrev S4112x256 : Shape := ⟨2, ![4112, 256]⟩
abbrev S16x256 : Shape := ⟨2, ![16, 256]⟩
abbrev S128x256 : Shape := ⟨2, ![128, 256]⟩
abbrev S144x256 : Shape := ⟨2, ![144, 256]⟩

abbrev nBuf : Space → Nat
  | .hbm => 56
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4x64x64, .f32⟩
  | .hbm, ⟨3, _⟩ => ⟨S256, .f32⟩
  | .hbm, ⟨4, _⟩ => ⟨S1x64x64, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S_, .f32⟩
  | .hbm, ⟨9, _⟩ => ⟨S64x64, .f32⟩
  | .hbm, ⟨10, _⟩ => ⟨S_, .f32⟩
  | .hbm, ⟨11, _⟩ => ⟨S64x64, .f32⟩
  | .hbm, ⟨12, _⟩ => ⟨S64x256, .f32⟩
  | .hbm, ⟨13, _⟩ => ⟨S_, .f32⟩
  | .hbm, ⟨14, _⟩ => ⟨S64x64, .f32⟩
  | .hbm, ⟨15, _⟩ => ⟨S1x64x64, .f32⟩
  | .hbm, ⟨16, _⟩ => ⟨S64x64, .f32⟩
  | .hbm, ⟨17, _⟩ => ⟨S_, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x256, .f32⟩
  | .hbm, ⟨22, _⟩ => ⟨S_, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S1x64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x256, .f32⟩
  | .hbm, ⟨31, _⟩ => ⟨S_, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S1x64x64, .f32⟩
  | .hbm, ⟨38, _⟩ => ⟨S64x64, .f32⟩
  | .hbm, ⟨39, _⟩ => ⟨S64x256, .f32⟩
  | .hbm, ⟨40, _⟩ => ⟨S256x256, .f32⟩
  | .hbm, ⟨41, _⟩ => ⟨S256x256, .bf16⟩
  | .hbm, ⟨42, _⟩ => ⟨S1x256, .f32⟩
  | .hbm, ⟨43, _⟩ => ⟨S4096x256, .bf16⟩
  | .hbm, ⟨44, _⟩ => ⟨S256x256, .f32⟩
  | .hbm, ⟨45, _⟩ => ⟨S1x256, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S1x64x64, .f32⟩
  | .hbm, ⟨51, _⟩ => ⟨S1x64x64, .f32⟩
  | .hbm, ⟨52, _⟩ => ⟨S1x64x64, .f32⟩
  | .hbm, ⟨53, _⟩ => ⟨S1x64x64, .f32⟩
  | .hbm, ⟨54, _⟩ => ⟨S4x64x64, .f32⟩
  | .hbm, ⟨55, _⟩ => ⟨S256, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S1x256, .f32⟩
  | .local _ .vmem, ⟨4, _⟩ => ⟨S4096x256, .bf16⟩
  | .local _ .vmem, ⟨5, _⟩ => ⟨S256x256, .f32⟩
  | .local _ .vmem, ⟨6, _⟩ => ⟨S1x256, .f32⟩
  | .local _ .vmem, ⟨7, _⟩ => ⟨S4112x256, .f32⟩
  | .local _ .vmem, ⟨8, _⟩ => ⟨S4112x256, .f32⟩
  | .local _ .vmem, ⟨9, _⟩ => ⟨S4096x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_v17 : Ref sig .tc := ⟨.hbm, 30, rfl⟩
abbrev main_cst_8 : Ref sig .tc := ⟨.hbm, 31, rfl⟩
abbrev main_v18 : Ref sig .tc := ⟨.hbm, 32, rfl⟩
abbrev main_cst_9 : Ref sig .tc := ⟨.hbm, 33, rfl⟩
abbrev main_v19 : Ref sig .tc := ⟨.hbm, 34, rfl⟩
abbrev main_cst_10 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev main_v27_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c32_i32 : BitVec 32 := 32#32
  let v12 : BitVec 32 := Scalar.addi c0_i32 c32_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v14 : BitVec 32 := Scalar.muli arg11 c128_i32
  v14
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v14 : BitVec 32 := Scalar.muli arg11 c128_i32
  let v15 : BitVec 32 := v14
  let v16 : Index := Scalar.indexCast v15
  let c0_14 : Index := 0#32
  ![v16.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v14 : BitVec 32 := Scalar.muli arg11 c128_i32
  let v15 : BitVec 32 := v14
  let c16_i32 : BitVec 32 := 16#32
  let v18 : BitVec 32 := Scalar.addi v15 c16_i32
  let v19 : Index := Scalar.indexCast v18
  let c0_15 : Index := 0#32
  ![v19.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v14 : BitVec 32 := Scalar.muli arg11 c128_i32
  let v15 : BitVec 32 := v14
  let v23 : Index := Scalar.indexCast v15
  let c0_16 : Index := 0#32
  ![v23.toNat, 0]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v14 : BitVec 32 := Scalar.muli arg11 c128_i32
  let v15 : BitVec 32 := v14
  let v195 : Index := Scalar.indexCast v15
  let c0_77 : Index := 0#32
  ![v195.toNat, 0]
@[reducible] def k0_t2_loop : Scf.Loop 32 :=
  let c0_i32_10 : BitVec 32 := 0#32
  let c32_i32_11 : BitVec 32 := 32#32
  let v13 : BitVec 32 := Scalar.addi c0_i32_10 c32_i32_11
  let c1_i32_12 : BitVec 32 := 1#32
  ⟨c0_i32_10, v13, c1_i32_12⟩
def k0_mult2 (k0_t2 : Fin k0_t2_loop.trips) : BitVec 32 :=
  let c0_i32_10 : BitVec 32 := 0#32
  let c1_i32_12 : BitVec 32 := 1#32
  let arg11 : BitVec 32 := Scf.iv c0_i32_10 c1_i32_12 k0_t2
  let c128_i32 : BitVec 32 := 128#32
  let v14 : BitVec 32 := Scalar.muli arg11 c128_i32
  v14
def k0_off5 (k0_t2 : Fin k0_t2_loop.trips) : Fin 2 → Nat :=
  let c0_i32_10 : BitVec 32 := 0#32
  let c1_i32_12 : BitVec 32 := 1#32
  let arg11 : BitVec 32 := Scf.iv c0_i32_10 c1_i32_12 k0_t2
  let c128_i32 : BitVec 32 := 128#32
  let v14 : BitVec 32 := Scalar.muli arg11 c128_i32
  let v15 : BitVec 32 := v14
  let v16 : Index := Scalar.indexCast v15
  let c0_14 : Index := 0#32
  ![v16.toNat, 0]
def k0_off6 (k0_t2 : Fin k0_t2_loop.trips) : Fin 2 → Nat :=
  let c0_i32_10 : BitVec 32 := 0#32
  let c1_i32_12 : BitVec 32 := 1#32
  let arg11 : BitVec 32 := Scf.iv c0_i32_10 c1_i32_12 k0_t2
  let c128_i32 : BitVec 32 := 128#32
  let v14 : BitVec 32 := Scalar.muli arg11 c128_i32
  let v15 : BitVec 32 := v14
  let v64 : Index := Scalar.indexCast v15
  let c0_23 : Index := 0#32
  ![v64.toNat, 0]
def cc0_transform_0 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixDRefIdeal.lean ====
abbrev S4096x2048 : Shape := ⟨2, ![4096, 2048]⟩
abbrev S4096x1024 : Shape := ⟨2, ![4096, 1024]⟩
abbrev S4x64x64 : Shape := ⟨3, ![4, 64, 64]⟩
abbrev S256 : Shape := ⟨1, ![256]⟩
abbrev S4096x256 : Shape := ⟨2, ![4096, 256]⟩
abbrev S_ : Shape := ⟨0, ![]⟩
abbrev S4096 : Shape := ⟨1, ![4096]⟩
abbrev S4096x64 : Shape := ⟨2, ![4096, 64]⟩
abbrev S2x64 : Shape := ⟨2, ![2, 64]⟩
abbrev S4098x64 : Shape := ⟨2, ![4098, 64]⟩
abbrev S4096x1 : Shape := ⟨2, ![4096, 1]⟩
abbrev S4x64 : Shape := ⟨2, ![4, 64]⟩
abbrev S4100x64 : Shape := ⟨2, ![4100, 64]⟩
abbrev S8x64 : Shape := ⟨2, ![8, 64]⟩
abbrev S4104x64 : Shape := ⟨2, ![4104, 64]⟩
abbrev S16x64 : Shape := ⟨2, ![16, 64]⟩
abbrev S4112x64 : Shape := ⟨2, ![4112, 64]⟩
abbrev S4096x1x64 : Shape := ⟨3, ![4096, 1, 64]⟩
abbrev S4096x4x64 : Shape := ⟨3, ![4096, 4, 64]⟩
abbrev S4x64x4096 : Shape := ⟨3, ![4, 64, 4096]⟩
abbrev S1x256 : Shape := ⟨2, ![1, 256]⟩
abbrev S4x4096x64 : Shape := ⟨3, ![4, 4096, 64]⟩

abbrev nBuf : Space → Nat
  | .hbm => 186
  | .vmem => 0
  | .smem => 0
  | _ => 0

abbrev hbmTy0_0 (i : Nat) : BufTy := match i % 128 with
  | 0 => ⟨S4096x2048, .f32⟩
  | 1 => ⟨S4096x1024, .f32⟩
  | 2 => ⟨S4x64x64, .f32⟩
  | 3 => ⟨S256, .f32⟩
  | 4 => ⟨S4096x256, .f32⟩
  | 5 => ⟨S_, .f32⟩
  | 6 => ⟨S_, .f32⟩
  | 7 => ⟨S4096x256, .f32⟩
  | 8 => ⟨S4096, .i32⟩
  | 9 => ⟨S4096x64, .f32⟩
  | 10 => ⟨S_, .f32⟩
  | 11 => ⟨S2x64, .f32⟩
  | 12 => ⟨S4098x64, .f32⟩
  | 13 => ⟨S_, .f32⟩
  | 14 => ⟨S2x64, .f32⟩
  | 15 => ⟨S4096x64, .f32⟩
  | 16 => ⟨S_, .i32⟩
  | 17 => ⟨S4096, .i32⟩
  | 18 => ⟨S4096, .i32⟩
  | 19 => ⟨S_, .i32⟩
  | 20 => ⟨S4096, .i32⟩
  | 21 => ⟨S4096, .i32⟩
  | 22 => ⟨S4096, .f32⟩
  | 23 => ⟨S4096x1, .f32⟩
  | 24 => ⟨S4096x64, .f32⟩
  | 25 => ⟨S4096x64, .f32⟩
  | 26 => ⟨S4096x64, .f32⟩
  | 27 => ⟨S4096x64, .f32⟩
  | 28 => ⟨S4096x64, .f32⟩
  | 29 => ⟨S4096x64, .f32⟩
  | 30 => ⟨S_, .f32⟩
  | 31 => ⟨S4x64, .f32⟩
  | 32 => ⟨S4100x64, .f32⟩
  | 33 => ⟨S_, .f32⟩
  | 34 => ⟨S4x64, .f32⟩
  | 35 => ⟨S4096x64, .f32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S4096, .f32⟩
  | 43 => ⟨S4096x1, .f32⟩
  | 44 => ⟨S4096x64, .f32⟩
  | 45 => ⟨S4096x64, .f32⟩
  | 46 => ⟨S4096x64, .f32⟩
  | 47 => ⟨S4096x64, .f32⟩
  | 48 => ⟨S4096x64, .f32⟩
  | 49 => ⟨S4096x64, .f32⟩
  | 50 => ⟨S_, .f32⟩
  | 51 => ⟨S8x64, .f32⟩
  | 52 => ⟨S4104x64, .f32⟩
  | 53 => ⟨S_, .f32⟩
  | 54 => ⟨S8x64, .f32⟩
  | 55 => ⟨S4096x64, .f32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S4096, .f32⟩
  | 63 => ⟨S4096x1, .f32⟩
  | 64 => ⟨S4096x64, .f32⟩
  | 65 => ⟨S4096x64, .f32⟩
  | 66 => ⟨S4096x64, .f32⟩
  | 67 => ⟨S4096x64, .f32⟩
  | 68 => ⟨S4096x64, .f32⟩
  | 69 => ⟨S4096x64, .f32⟩
  | 70 => ⟨S_, .f32⟩
  | 71 => ⟨S16x64, .f32⟩
  | 72 => ⟨S4112x64, .f32⟩
  | 73 => ⟨S_, .f32⟩
  | 74 => ⟨S16x64, .f32⟩
  | 75 => ⟨S4096x64, .f32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096, .f32⟩
  | 83 => ⟨S4096x1, .f32⟩
  | 84 => ⟨S4096x64, .f32⟩
  | 85 => ⟨S4096x64, .f32⟩
  | 86 => ⟨S4096x64, .f32⟩
  | 87 => ⟨S4096x64, .f32⟩
  | 88 => ⟨S4096x64, .f32⟩
  | 89 => ⟨S4096x1x64, .f32⟩
  | 90 => ⟨S4096x1x64, .f32⟩
  | 91 => ⟨S4096x1x64, .f32⟩
  | 92 => ⟨S4096x1x64, .f32⟩
  | 93 => ⟨S4096x4x64, .f32⟩
  | 94 => ⟨S4x64x4096, .f32⟩
  | 95 => ⟨S4096x4x64, .f32⟩
  | 96 => ⟨S4096x256, .f32⟩
  | 97 => ⟨S1x256, .f32⟩
  | 98 => ⟨S4096x256, .f32⟩
  | 99 => ⟨S4096x256, .f32⟩
  | 100 => ⟨S4096x256, .f32⟩
  | 101 => ⟨S4096x256, .f32⟩
  | 102 => ⟨S_, .f32⟩
  | 103 => ⟨S256, .f32⟩
  | 104 => ⟨S1x256, .f32⟩
  | 105 => ⟨S4096x256, .f32⟩
  | 106 => ⟨S4096x256, .f32⟩
  | 107 => ⟨S_, .f32⟩
  | 108 => ⟨S256, .f32⟩
  | 109 => ⟨S4096x4x64, .f32⟩
  | 110 => ⟨S4x64x4096, .f32⟩
  | 111 => ⟨S4x4096x64, .f32⟩
  | 112 => ⟨S4096x4x64, .f32⟩
  | 113 => ⟨S4x64x64, .f32⟩
  | 114 => ⟨S4x64x64, .f32⟩
  | 115 => ⟨S4096x1x64, .f32⟩
  | 116 => ⟨S4096x64, .f32⟩
  | 117 => ⟨S4096x1x64, .f32⟩
  | 118 => ⟨S4096x64, .f32⟩
  | 119 => ⟨S4096x1x64, .f32⟩
  | 120 => ⟨S4096x64, .f32⟩
  | 121 => ⟨S4096x1x64, .f32⟩
  | 122 => ⟨S4096x64, .f32⟩
  | 123 => ⟨S4096x64, .f32⟩
  | 124 => ⟨S_, .f32⟩
  | 125 => ⟨S4096x256, .f32⟩
  | 126 => ⟨S4096x64, .f32⟩
  | 127 => ⟨S4096x64, .f32⟩
  | _ => ⟨S4096x2048, .f32⟩

abbrev hbmTy0_1 (i : Nat) : BufTy := match i % 128 with
  | 0 => ⟨S4096x64, .f32⟩
  | 1 => ⟨S_, .f32⟩
  | 2 => ⟨S4112x64, .f32⟩
  | 3 => ⟨S16x64, .f32⟩
  | 4 => ⟨S4096x64, .f32⟩
  | 5 => ⟨S4096x64, .f32⟩
  | 6 => ⟨S_, .f32⟩
  | 7 => ⟨S4096x256, .f32⟩
  | 8 => ⟨S4096x64, .f32⟩
  | 9 => ⟨S_, .f32⟩
  | 10 => ⟨S4096x256, .f32⟩
  | 11 => ⟨S4096x256, .f32⟩
  | 12 => ⟨S4096x64, .f32⟩
  | 13 => ⟨S4096x64, .f32⟩
  | 14 => ⟨S4096x64, .f32⟩
  | 15 => ⟨S_, .f32⟩
  | 16 => ⟨S4104x64, .f32⟩
  | 17 => ⟨S8x64, .f32⟩
  | 18 => ⟨S4096x64, .f32⟩
  | 19 => ⟨S4096x64, .f32⟩
  | 20 => ⟨S_, .f32⟩
  | 21 => ⟨S4096x256, .f32⟩
  | 22 => ⟨S4096x256, .f32⟩
  | 23 => ⟨S4096x64, .f32⟩
  | 24 => ⟨S_, .f32⟩
  | 25 => ⟨S4096x256, .f32⟩
  | 26 => ⟨S4096x256, .f32⟩
  | 27 => ⟨S4096x64, .f32⟩
  | 28 => ⟨S4096x64, .f32⟩
  | 29 => ⟨S4096x64, .f32⟩
  | 30 => ⟨S_, .f32⟩
  | 31 => ⟨S4100x64, .f32⟩
  | 32 => ⟨S4x64, .f32⟩
  | 33 => ⟨S4096x64, .f32⟩
  | 34 => ⟨S4096x64, .f32⟩
  | 35 => ⟨S_, .f32⟩
  | 36 => ⟨S4096x256, .f32⟩
  | 37 => ⟨S4096x256, .f32⟩
  | 38 => ⟨S4096x64, .f32⟩
  | 39 => ⟨S_, .f32⟩
  | 40 => ⟨S4096x256, .f32⟩
  | 41 => ⟨S4096x256, .f32⟩
  | 42 => ⟨S4096x64, .f32⟩
  | 43 => ⟨S4096x64, .f32⟩
  | 44 => ⟨S4096x64, .f32⟩
  | 45 => ⟨S_, .f32⟩
  | 46 => ⟨S4098x64, .f32⟩
  | 47 => ⟨S2x64, .f32⟩
  | 48 => ⟨S4096x64, .f32⟩
  | 49 => ⟨S4096x64, .f32⟩
  | 50 => ⟨S_, .f32⟩
  | 51 => ⟨S4096x256, .f32⟩
  | 52 => ⟨S4096x256, .f32⟩
  | 53 => ⟨S_, .f32⟩
  | 54 => ⟨S_, .f32⟩
  | 55 => ⟨S4096x256, .f32⟩
  | 56 => ⟨S4096x256, .f32⟩
  | 57 => ⟨S4096x256, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_c_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_14 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_15 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_16 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_17 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_18 : Ref sig .tc := ⟨.hbm, 134, rfl⟩
abbrev main_v108 : Ref sig .tc := ⟨.hbm, 135, rfl⟩
abbrev main_v109 : Ref sig .tc := ⟨.hbm, 136, rfl⟩
abbrev main_cst_19 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_20 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_21 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_22 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_23 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_24 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_25 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_26 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_27 : Ref sig .tc := ⟨.hbm, 178, rfl⟩
abbrev main_v143 : Ref sig .tc := ⟨.hbm, 179, rfl⟩
abbrev main_v144 : Ref sig .tc := ⟨.hbm, 180, rfl⟩
abbrev main_call1_call0_cst : Ref sig .tc := ⟨.hbm, 181, rfl⟩
abbrev main_call1_call0_v0 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩

abbrev nD : Nat := 1
abbrev τ : Topo := Topo.v7x

variable {F : FTy → Type} [FloatOps F]
-- ==== Attn.lean ====
abbrev S4096x1024 : Shape := ⟨2, ![4096, 1024]⟩
abbrev S256x2048 : Shape := ⟨2, ![256, 2048]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S256x2048, .f32⟩
  | .hbm, ⟨2, _⟩ => ⟨S4096x1024, .bf16⟩
  | .hbm, ⟨3, _⟩ => ⟨S4096x1024, .bf16⟩
  | .hbm, ⟨4, _⟩ => ⟨S256x1024, .f32⟩
  | .hbm, ⟨5, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .f32⟩
  | .local _ .vmem, ⟨3, _⟩ => ⟨S256x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnRefIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .f32⟩
  | .hbm, ⟨2, _⟩ => ⟨S4096x1024, .bf16⟩
  | .hbm, ⟨3, _⟩ => ⟨S4096x1024, .f32⟩
  | .hbm, ⟨4, _⟩ => ⟨S256x1024, .f32⟩
  | .hbm, ⟨5, _⟩ => ⟨S256x1024, .f32⟩
  | .hbm, ⟨6, _⟩ => ⟨S4096x4x256, .f32⟩
  | .hbm, ⟨7, _⟩ => ⟨S256x4x256, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .i1⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .i1⟩
  | .hbm, ⟨27, _⟩ => ⟨S_, .f32⟩
  | .hbm, ⟨28, _⟩ => ⟨S4x4096, .f32⟩
  | .hbm, ⟨29, _⟩ => ⟨S4x4096, .i1⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S4x4096, .f32⟩
  | .hbm, ⟨38, _⟩ => ⟨S4x4096x1, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x256, .f32⟩
  | .hbm, ⟨46, _⟩ => ⟨S4x4096x256, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x256x4096, .f32⟩
  | .hbm, ⟨52, _⟩ => ⟨S4096x4x256, .f32⟩
  | .hbm, ⟨53, _⟩ => ⟨S4096x1024, .f32⟩
  | .hbm, ⟨54, _⟩ => ⟨S4096x1024, .f32⟩
  | .hbm, ⟨55, _⟩ => ⟨S4096x4x256, .f32⟩
  | .hbm, ⟨56, _⟩ => ⟨S4x256x4096, .f32⟩
  | .hbm, ⟨57, _⟩ => ⟨S4x4096x256, .f32⟩
  | .hbm, ⟨58, _⟩ => ⟨S4x256x256, .f32⟩
  | .hbm, ⟨59, _⟩ => ⟨S256x4x256, .f32⟩
  | .hbm, ⟨60, _⟩ => ⟨S4x4096x256, .f32⟩
  | .hbm, ⟨61, _⟩ => ⟨S4x4096x256, .f32⟩
  | .hbm, ⟨62, _⟩ => ⟨S4x4096x256, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S4x4096x1, .f32⟩
  | .hbm, ⟨67, _⟩ => ⟨S4x4096x256, .f32⟩
  | .hbm, ⟨68, _⟩ => ⟨S4x4096x256, .f32⟩
  | .hbm, ⟨69, _⟩ => ⟨S_, .f32⟩
  | .hbm, ⟨70, _⟩ => ⟨S4x4096, .f32⟩
  | .hbm, ⟨71, _⟩ => ⟨S4x4096x256, .f32⟩
  | .hbm, ⟨72, _⟩ => ⟨S4x4096x256, .f32⟩
  | .hbm, ⟨73, _⟩ => ⟨S4x4096x256, .f32⟩
  | .hbm, ⟨74, _⟩ => ⟨S_, .f32⟩
  | .hbm, ⟨75, _⟩ => ⟨S4x4096x256, .f32⟩
  | .hbm, ⟨76, _⟩ => ⟨S4x4096x256, .f32⟩
  | .hbm, ⟨77, _⟩ => ⟨S4x256x256, .f32⟩
  | .hbm, ⟨78, _⟩ => ⟨S256x4x256, .f32⟩
  | .hbm, ⟨79, _⟩ => ⟨S4x4096x256, .f32⟩
  | .hbm, ⟨80, _⟩ => ⟨S4096x4x256, .f32⟩
  | .hbm, ⟨81, _⟩ => ⟨S256x1024, .f32⟩
  | .hbm, ⟨82, _⟩ => ⟨S256x1024, .f32⟩
  | .hbm, ⟨83, _⟩ => ⟨S4096x1024, .f32⟩
  | .hbm, ⟨84, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== FfnDz.lean ====
abbrev S4096x1024 : Shape := ⟨2, ![4096, 1024]⟩
abbrev S4096x2816 : Shape := ⟨2, ![4096, 2816]⟩
abbrev S2816x1024 : Shape := ⟨2, ![2816, 1024]⟩
abbrev S512x1024 : Shape := ⟨2, ![512, 1024]⟩
abbrev S512x2816 : Shape := ⟨2, ![512, 2816]⟩
abbrev S512x256 : Shape := ⟨2, ![512, 256]⟩
abbrev S256x1024 : Shape := ⟨2, ![256, 1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S4096x2816, .bf16⟩
  | .hbm, ⟨3, _⟩ => ⟨S2816x1024, .bf16⟩
  | .hbm, ⟨4, _⟩ => ⟨S4096x2816, .bf16⟩
  | .hbm, ⟨5, _⟩ => ⟨S4096x2816, .bf16⟩
  | .hbm, ⟨6, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S2816x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnDzRefIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S4096x2816, .bf16⟩
  | .hbm, ⟨3, _⟩ => ⟨S2816x1024, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S2816x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .bf16⟩
  | .hbm, ⟨46, _⟩ => ⟨S4096x2816, .bf16⟩
  | .hbm, ⟨47, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_v4_2 : Ref sig .tc := ⟨.hbm, 23, rfl⟩
abbrev main_call1_cst_1 : Ref sig .tc := ⟨.hbm, 24, rfl⟩
abbrev main_call1_v6 : Ref sig .tc := ⟨.hbm, 25, rfl⟩
abbrev main_call1_v7 : Ref sig .tc := ⟨.hbm, 26, rfl⟩
abbrev main_v4_1 : Ref sig .tc := ⟨.hbm, 27, rfl⟩
abbrev main_v4_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩

abbrev nD : Nat := 1
abbrev τ : Topo := Topo.v7x

variable {F : FTy → Type} [FloatOps F]
-- ==== LossHead.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S1x1024, .f32⟩
  | .hbm, ⟨7, _⟩ => ⟨S1x1, .f32⟩
  | .hbm, ⟨8, _⟩ => ⟨S_, .f32⟩
  | .hbm, ⟨9, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== FfnDh.lean ====
abbrev S4096x1024 : Shape := ⟨2, ![4096, 1024]⟩
abbrev S1024 : Shape := ⟨1, ![1024]⟩
abbrev S4096x2816 : Shape := ⟨2, ![4096, 2816]⟩
abbrev S1024x5632 : Shape := ⟨2, ![1024, 5632]⟩
abbrev S1x1024 : Shape := ⟨2, ![1, 1024]⟩
abbrev S512x1024 : Shape := ⟨2, ![512, 1024]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x2816, .bf16⟩
  | .hbm, ⟨4, _⟩ => ⟨S4096x2816, .bf16⟩
  | .hbm, ⟨5, _⟩ => ⟨S1024x5632, .bf16⟩
  | .hbm, ⟨6, _⟩ => ⟨S1x1024, .f32⟩
  | .hbm, ⟨7, _⟩ => ⟨S4096x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S1024x2816, .bf16⟩
  | .local _ .vmem, ⟨10, _⟩ => ⟨S1024x2816, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnDhRefIdeal.lean ====
abbrev S4096x1024 : Shape := ⟨2, ![4096, 1024]⟩
abbrev S1024 : Shape := ⟨1, ![1024]⟩
abbrev S4096x2816 : Shape := ⟨2, ![4096, 2816]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x2816, .bf16⟩
  | .hbm, ⟨4, _⟩ => ⟨S4096x2816, .bf16⟩
  | .hbm, ⟨5, _⟩ => ⟨S1024x5632, .bf16⟩
  | .hbm, ⟨6, _⟩ => ⟨S4096x2816, .f32⟩
  | .hbm, ⟨7, _⟩ => ⟨S4096x2816, .f32⟩
  | .hbm, ⟨8, _⟩ => ⟨S4096x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1024x5632, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== MixDh.lean ====
abbrev S4096x1024 : Shape := ⟨2, ![4096, 1024]⟩
abbrev S1024 : Shape := ⟨1, ![1024]⟩
abbrev S4096x2048 : Shape := ⟨2, ![4096, 2048]⟩
abbrev S1024x2048 : Shape := ⟨2, ![1024, 2048]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x2048, .bf16⟩
  | .hbm, ⟨4, _⟩ => ⟨S1024x2048, .bf16⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2048, .bf16⟩
  | .local _ .vmem, ⟨6, _⟩ => ⟨S512x2048, .bf16⟩
  | .local _ .vmem, ⟨7, _⟩ => ⟨S1024x2048, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixDhRefIdeal.lean ====
abbrev S4096x1024 : Shape := ⟨2, ![4096, 1024]⟩
abbrev S1024 : Shape := ⟨1, ![1024]⟩
abbrev S4096x2048 : Shape := ⟨2, ![4096, 2048]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x2048, .bf16⟩
  | .hbm, ⟨4, _⟩ => ⟨S1024x2048, .bf16⟩
  | .hbm, ⟨5, _⟩ => ⟨S4096x2048, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x2048, .f32⟩
  | .hbm, ⟨27, _⟩ => ⟨S4096x2048, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== NormMem.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024, .f32⟩
  | .hbm, ⟨3, _⟩ => ⟨S1x1024, .f32⟩
  | .hbm, ⟨4, _⟩ => ⟨S256x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormMemRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== AttnFwd.lean ====
abbrev S4096x1024 : Shape := ⟨2, ![4096, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x2048, .f32⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .f32⟩
  | .local _ .vmem, ⟨3, _⟩ => ⟨S256x1024, .f32⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .f32⟩
  | .hbm, ⟨2, _⟩ => ⟨S4096x1024, .f32⟩
  | .hbm, ⟨3, _⟩ => ⟨S256x1024, .f32⟩
  | .hbm, ⟨4, _⟩ => ⟨S256x1024, .f32⟩
  | .hbm, ⟨5, _⟩ => ⟨S4096x4x256, .f32⟩
  | .hbm, ⟨6, _⟩ => ⟨S256x4x256, .f32⟩
  | .hbm, ⟨7, _⟩ => ⟨S256x4x256, .f32⟩
  | .hbm, ⟨8, _⟩ => ⟨S4x4096x256, .f32⟩
  | .hbm, ⟨9, _⟩ => ⟨S_, .f32⟩
  | .hbm, ⟨10, _⟩ => ⟨S4x4096x256, .f32⟩
  | .hbm, ⟨11, _⟩ => ⟨S4x4096x256, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .f32⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x256, .f32⟩
  | .hbm, ⟨25, _⟩ => ⟨S4x4096x256, .f32⟩
  | .hbm, ⟨26, _⟩ => ⟨S4x256x4096, .f32⟩
  | .hbm, ⟨27, _⟩ => ⟨S4096x4x256, .f32⟩
  | .hbm, ⟨28, _⟩ => ⟨S4096x1024, .f32⟩
  | .hbm, ⟨29, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== NormMm.lean ====
abbrev S4096x1024 : Shape := ⟨2, ![4096, 1024]⟩
abbrev S1024 : Shape := ⟨1, ![1024]⟩
abbrev S1024x2048 : Shape := ⟨2, ![1024, 2048]⟩
abbrev S1x1024 : Shape := ⟨2, ![1, 1024]⟩
abbrev S4096x2048 : Shape := ⟨2, ![4096, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .bf16⟩
  | .hbm, ⟨3, _⟩ => ⟨S1x1024, .f32⟩
  | .hbm, ⟨4, _⟩ => ⟨S4096x2048, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NormMmRefIdeal.lean ====
abbrev S4096x1024 : Shape := ⟨2, ![4096, 1024]⟩
abbrev S1024 : Shape := ⟨1, ![1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x2048, .f32⟩
  | .hbm, ⟨20, _⟩ => ⟨S4096x2048, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MixBFwd.lean ====
abbrev S4096x2048 : Shape := ⟨2, ![4096, 2048]⟩
abbrev S256 : Shape := ⟨1, ![256]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S4096x256 : Shape := ⟨2, ![4096, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 9
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S128x4, .f32⟩
  | .hbm, ⟨5, _⟩ => ⟨S128x4x64, .f32⟩
  | .hbm, ⟨6, _⟩ => ⟨S128x256, .f32⟩
  | .hbm, ⟨7, _⟩ => ⟨S1x256, .f32⟩
  | .hbm, ⟨8, _⟩ => ⟨S4096x256, .bf16⟩
  | .local _ .vmem, ⟨0, _⟩ => ⟨S4096x256, .f32⟩
  | .local _ .vmem, ⟨1, _⟩ => ⟨S4096x256, .f32⟩
  | .local _ .vmem, ⟨2, _⟩ => ⟨S1x256, .f32⟩
  | .local _ .vmem, ⟨3, _⟩ => ⟨S4x128x128, .f32⟩
  | .local _ .vmem, ⟨4, _⟩ => ⟨S128x256, .f32⟩
  | .local _ .vmem, ⟨5, _⟩ => ⟨S4096x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_15 : BitVec 32 := 0#32
  let c32_i32 : BitVec 32 := 32#32
  let v57 : BitVec 32 := Scalar.addi c0_i32_15 c32_i32
  let c1_i32_16 : BitVec 32 := 1#32
  ⟨c0_i32_15, v57, c1_i32_16⟩
def k0_mult1 (k0_t1 : Fin k0_t1_loop.trips) : BitVec 32 :=
  let c0_i32_15 : BitVec 32 := 0#32
  let c1_i32_16 : BitVec 32 := 1#32
  let arg7 : BitVec 32 := Scf.iv c0_i32_15 c1_i32_16 k0_t1
  let c128_i32 : BitVec 32 := 128#32
  let v58 : BitVec 32 := Scalar.muli arg7 c128_i32
  v58
def k0_off1 (k0_t1 : Fin k0_t1_loop.trips) : Fin 2 → Nat :=
  let c0_i32_15 : BitVec 32 := 0#32
  let c1_i32_16 : BitVec 32 := 1#32
  let arg7 : BitVec 32 := Scf.iv c0_i32_15 c1_i32_16 k0_t1
  let c128_i32 : BitVec 32 := 128#32
  let v58 : BitVec 32 := Scalar.muli arg7 c128_i32
  let v59 : BitVec 32 := v58
  let v60 : Index := Scalar.indexCast v59
  let c0_18 : Index := 0#32
  ![v60.toNat, 0]
def cc0_transform_0 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixBFwdRefIdeal.lean ====
abbrev S4096x2048 : Shape := ⟨2, ![4096, 2048]⟩
abbrev S256 : Shape := ⟨1, ![256]⟩
abbrev S4x128x128 : Shape := ⟨3, ![4, 128, 128]⟩
abbrev S4x128 : Shape := ⟨2, ![4, 128]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S32x128x4x64 : Shape := ⟨4, ![32, 128, 4, 64]⟩
abbrev S128x128 : Shape := ⟨2, ![128, 128]⟩
abbrev S4x32x64x128 : Shape := ⟨4, ![4, 32, 64, 128]⟩
abbrev S128x4 : Shape := ⟨2, ![128, 4]⟩
abbrev S1x128x4x1 : Shape := ⟨4, ![1, 128, 4, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S256, .f32⟩
  | .hbm, ⟨2, _⟩ => ⟨S4x128x128, .f32⟩
  | .hbm, ⟨3, _⟩ => ⟨S4x128, .f32⟩
  | .hbm, ⟨4, _⟩ => ⟨S4096x256, .f32⟩
  | .hbm, ⟨5, _⟩ => ⟨S4096x256, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x256, .f32⟩
  | .hbm, ⟨28, _⟩ => ⟨S4096x256, .f32⟩
  | .hbm, ⟨29, _⟩ => ⟨S1x256, .f32⟩
  | .hbm, ⟨30, _⟩ => ⟨S4096x256, .f32⟩
  | .hbm, ⟨31, _⟩ => ⟨S4096x256, .f32⟩
  | .hbm, ⟨32, _⟩ => ⟨S32x128x4x64, .f32⟩
  | .hbm, ⟨33, _⟩ => ⟨S128x128, .i32⟩
  | .hbm, ⟨34, _⟩ => ⟨S_, .i32⟩
  | .hbm, ⟨35, _⟩ => ⟨S128x128, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S4x128x128, .i1⟩
  | .hbm, ⟨40, _⟩ => ⟨S_, .f32⟩
  | .hbm, ⟨41, _⟩ => ⟨S4x128x128, .f32⟩
  | .hbm, ⟨42, _⟩ => ⟨S4x128x128, .f32⟩
  | .hbm, ⟨43, _⟩ => ⟨S4x32x64x128, .f32⟩
  | .hbm, ⟨44, _⟩ => ⟨S32x128x4x64, .f32⟩
  | .hbm, ⟨45, _⟩ => ⟨S128x4, .f32⟩
  | .hbm, ⟨46, _⟩ => ⟨S1x128x4x1, .f32⟩
  | .hbm, ⟨47, _⟩ => ⟨S32x128x4x64, .f32⟩
  | .hbm, ⟨48, _⟩ => ⟨S32x128x4x64, .f32⟩
  | .hbm, ⟨49, _⟩ => ⟨S4096x256, .f32⟩
  | .hbm, ⟨50, _⟩ => ⟨S4096x256, .f32⟩
  | .hbm, ⟨51, _⟩ => ⟨S4096x256, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_cst : Ref sig .tc := ⟨.hbm, 40, rfl⟩
abbrev main_call0_v6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== FfnFwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S4096x2816 : Shape := ⟨2, ![4096, 2816]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x2816, .bf16⟩
  | .hbm, ⟨8, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32_21 : BitVec 32 := 0#32
  let v32 : BitVec 1 := Scalar.cmpi .ne v31 c0_i32_21
  v32

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnFwdRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x5632, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S2816x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x2816, .bf16⟩
  | .hbm, ⟨42, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== MixAFwd.lean ====
abbrev S4096x2048 : Shape := ⟨2, ![4096, 2048]⟩
abbrev S3x256 : Shape := ⟨2, ![3, 256]⟩
abbrev S4096x256 : Shape := ⟨2, ![4096, 256]⟩
abbrev S4104x256 : Shape := ⟨2, ![4104, 256]⟩
abbrev S8x256 : Shape := ⟨2, ![8, 256]⟩
abbrev S128x256 : Shape := ⟨2, ![128, 256]⟩
abbrev S136x256 : Shape := ⟨2, ![136, 256]⟩
abbrev S1x256 : Shape := ⟨2, ![1, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S3x256, .f32⟩
  | .hbm, ⟨2, _⟩ => ⟨S4096x256, .bf16⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S3x256, .f32⟩
  | .local _ .vmem, ⟨4, _⟩ => ⟨S4096x256, .bf16⟩
  | .local _ .vmem, ⟨5, _⟩ => ⟨S4104x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  v5
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v7 : Index := Scalar.indexCast v6
  let c0_2 : Index := 0#32
  ![v7.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let c8_i32 : BitVec 32 := 8#32
  let v12 : BitVec 32 := Scalar.addi v6 c8_i32
  let v13 : Index := Scalar.indexCast v12
  let c0_4 : Index := 0#32
  ![v13.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v17 : Index := Scalar.indexCast v6
  let c0_5 : Index := 0#32
  ![v17.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MixAFwdRefIdeal.lean ====
abbrev S4096x2048 : Shape := ⟨2, ![4096, 2048]⟩
abbrev S3x256 : Shape := ⟨2, ![3, 256]⟩
abbrev S4096x256 : Shape := ⟨2, ![4096, 256]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S256 : Shape := ⟨1, ![256]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S3x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S_, .f32⟩
  | .hbm, ⟨7, _⟩ => ⟨S2x256, .f32⟩
  | .hbm, ⟨8, _⟩ => ⟨S4098x256, .f32⟩
  | .hbm, ⟨9, _⟩ => ⟨S1x256, .f32⟩
  | .hbm, ⟨10, _⟩ => ⟨S256, .f32⟩
  | .hbm, ⟨11, _⟩ => ⟨S4096x256, .f32⟩
  | .hbm, ⟨12, _⟩ => ⟨S1x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S1x256, .f32⟩
  | .hbm, ⟨19, _⟩ => ⟨S256, .f32⟩
  | .hbm, ⟨20, _⟩ => ⟨S4096x256, .f32⟩
  | .hbm, ⟨21, _⟩ => ⟨S1x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S1x256, .f32⟩
  | .hbm, ⟨26, _⟩ => ⟨S256, .f32⟩
  | .hbm, ⟨27, _⟩ => ⟨S4096x256, .f32⟩
  | .hbm, ⟨28, _⟩ => ⟨S1x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x256, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== MixDFwd.lean ====
abbrev S4096x2048 : Shape := ⟨2, ![4096, 2048]⟩
abbrev S4x64x64 : Shape := ⟨3, ![4, 64, 64]⟩
abbrev S256 : Shape := ⟨1, ![256]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S1x256 : Shape := ⟨2, ![1, 256]⟩
abbrev S4096x256 : Shape := ⟨2, ![4096, 256]⟩
abbrev S4112x256 : Shape := ⟨2, ![4112, 256]⟩
abbrev S16x256 : Shape := ⟨2, ![16, 256]⟩
abbrev S128x256 : Shape := ⟨2, ![128, 256]⟩
abbrev S144x256 : Shape := ⟨2, ![144, 256]⟩

abbrev nBuf : Space → Nat
  | .hbm => 43
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4x64x64, .f32⟩
  | .hbm, ⟨2, _⟩ => ⟨S256, .f32⟩
  | .hbm, ⟨3, _⟩ => ⟨S1x64x64, .f32⟩
  | .hbm, ⟨4, _⟩ => ⟨S64x64, .f32⟩
  | .hbm, ⟨5, _⟩ => ⟨S_, .f32⟩
  | .hbm, ⟨6, _⟩ => ⟨S64x64, .f32⟩
  | .hbm, ⟨7, _⟩ => ⟨S_, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x256, .f32⟩
  | .hbm, ⟨12, _⟩ => ⟨S_, .f32⟩
  | .hbm, ⟨13, _⟩ => ⟨S64x64, .f32⟩
  | .hbm, ⟨14, _⟩ => ⟨S1x64x64, .f32⟩
  | .hbm, ⟨15, _⟩ => ⟨S64x64, .f32⟩
  | .hbm, ⟨16, _⟩ => ⟨S_, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x256, .f32⟩
  | .hbm, ⟨21, _⟩ => ⟨S_, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S1x64x64, .f32⟩
  | .hbm, ⟨26, _⟩ => ⟨S64x64, .f32⟩
  | .hbm, ⟨27, _⟩ => ⟨S_, .f32⟩
  | .hbm, ⟨28, _⟩ => ⟨S64x64, .f32⟩
  | .hbm, ⟨29, _⟩ => ⟨S64x256, .f32⟩
  | .hbm, ⟨30, _⟩ => ⟨S_, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S1x64x64, .f32⟩
  | .hbm, ⟨37, _⟩ => ⟨S64x64, .f32⟩
  | .hbm, ⟨38, _⟩ => ⟨S64x256, .f32⟩
  | .hbm, ⟨39, _⟩ => ⟨S256x256, .f32⟩
  | .hbm, ⟨40, _⟩ => ⟨S256x256, .bf16⟩
  | .hbm, ⟨41, _⟩ => ⟨S1x256, .f32⟩
  | .hbm, ⟨42, _⟩ => ⟨S4096x256, .bf16⟩
  | .local _ .vmem, ⟨0, _⟩ => ⟨S4096x256, .f32⟩
  | .local _ .vmem, ⟨1, _⟩ => ⟨S256x256, .bf16⟩
  | .local _ .vmem, ⟨2, _⟩ => ⟨S1x256, .f32⟩
  | .local _ .vmem, ⟨3, _⟩ => ⟨S4096x256, .bf16⟩
  | .local _ .vmem, ⟨4, _⟩ => ⟨S4112x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_7 : Ref sig .tc := ⟨.hbm, 27, rfl⟩
abbrev main_v16 : Ref sig .tc := ⟨.hbm, 28, rfl⟩
abbrev main_v17 : Ref sig .tc := ⟨.hbm, 29, rfl⟩
abbrev main_cst_8 : Ref sig .tc := ⟨.hbm, 30, rfl⟩
abbrev main_v18 : Ref sig .tc := ⟨.hbm, 31, rfl⟩
abbrev main_cst_9 : Ref sig .tc := ⟨.hbm, 32, rfl⟩
abbrev main_v19 : Ref sig .tc := ⟨.hbm, 33, rfl⟩
abbrev main_cst_10 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v5 : BitVec 32 := Scalar.muli arg6 c128_i32
  v5
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v5 : BitVec 32 := Scalar.muli arg6 c128_i32
  let v6 : BitVec 32 := v5
  let v7 : Index := Scalar.indexCast v6
  let c0_2 : Index := 0#32
  ![v7.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v5 : BitVec 32 := Scalar.muli arg6 c128_i32
  let v6 : BitVec 32 := v5
  let c16_i32 : BitVec 32 := 16#32
  let v9 : BitVec 32 := Scalar.addi v6 c16_i32
  let v10 : Index := Scalar.indexCast v9
  let c0_3 : Index := 0#32
  ![v10.toNat, 0]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v5 : BitVec 32 := Scalar.muli arg6 c128_i32
  let v6 : BitVec 32 := v5
  let v14 : Index := Scalar.indexCast v6
  let c0_4 : Index := 0#32
  ![v14.toNat, 0]
def cc0_transform_0 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MixDFwdRefIdeal.lean ====
abbrev S4096x2048 : Shape := ⟨2, ![4096, 2048]⟩
abbrev S4x64x64 : Shape := ⟨3, ![4, 64, 64]⟩
abbrev S256 : Shape := ⟨1, ![256]⟩
abbrev S4096x256 : Shape := ⟨2, ![4096, 256]⟩
abbrev S_ : Shape := ⟨0, ![]⟩
abbrev S4096 : Shape := ⟨1, ![4096]⟩
abbrev S4096x64 : Shape := ⟨2, ![4096, 64]⟩
abbrev S2x64 : Shape := ⟨2, ![2, 64]⟩
abbrev S4098x64 : Shape := ⟨2, ![4098, 64]⟩
abbrev S4096x1 : Shape := ⟨2, ![4096, 1]⟩
abbrev S4x64 : Shape := ⟨2, ![4, 64]⟩
abbrev S4100x64 : Shape := ⟨2, ![4100, 64]⟩
abbrev S8x64 : Shape := ⟨2, ![8, 64]⟩
abbrev S4104x64 : Shape := ⟨2, ![4104, 64]⟩
abbrev S16x64 : Shape := ⟨2, ![16, 64]⟩
abbrev S4112x64 : Shape := ⟨2, ![4112, 64]⟩
abbrev S4096x1x64 : Shape := ⟨3, ![4096, 1, 64]⟩
abbrev S4096x4x64 : Shape := ⟨3, ![4096, 4, 64]⟩
abbrev S4x64x4096 : Shape := ⟨3, ![4, 64, 4096]⟩
abbrev S1x256 : Shape := ⟨2, ![1, 256]⟩

abbrev nBuf : Space → Nat
  | .hbm => 92
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x64x64, .f32⟩
  | .hbm, ⟨2, _⟩ => ⟨S256, .f32⟩
  | .hbm, ⟨3, _⟩ => ⟨S4096x256, .f32⟩
  | .hbm, ⟨4, _⟩ => ⟨S_, .f32⟩
  | .hbm, ⟨5, _⟩ => ⟨S_, .f32⟩
  | .hbm, ⟨6, _⟩ => ⟨S4096x256, .f32⟩
  | .hbm, ⟨7, _⟩ => ⟨S4096, .i32⟩
  | .hbm, ⟨8, _⟩ => ⟨S4096x64, .f32⟩
  | .hbm, ⟨9, _⟩ => ⟨S_, .f32⟩
  | .hbm, ⟨10, _⟩ => ⟨S2x64, .f32⟩
  | .hbm, ⟨11, _⟩ => ⟨S4098x64, .f32⟩
  | .hbm, ⟨12, _⟩ => ⟨S4096x64, .f32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .f32⟩
  | .hbm, ⟨20, _⟩ => ⟨S4096x1, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S_, .f32⟩
  | .hbm, ⟨28, _⟩ => ⟨S4x64, .f32⟩
  | .hbm, ⟨29, _⟩ => ⟨S4100x64, .f32⟩
  | .hbm, ⟨30, _⟩ => ⟨S4096x64, .f32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .f32⟩
  | .hbm, ⟨38, _⟩ => ⟨S4096x1, .f32⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S4096x64, .f32⟩
  | .hbm, ⟨45, _⟩ => ⟨S_, .f32⟩
  | .hbm, ⟨46, _⟩ => ⟨S8x64, .f32⟩
  | .hbm, ⟨47, _⟩ => ⟨S4104x64, .f32⟩
  | .hbm, ⟨48, _⟩ => ⟨S4096x64, .f32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .f32⟩
  | .hbm, ⟨56, _⟩ => ⟨S4096x1, .f32⟩
  | .hbm, ⟨57, _⟩ => ⟨S4096x64, .f32⟩
  | .hbm, ⟨58, _⟩ => ⟨S4096x64, .f32⟩
  | .hbm, ⟨59, _⟩ => ⟨S4096x64, .f32⟩
  | .hbm, ⟨60, _⟩ => ⟨S4096x64, .f32⟩
  | .hbm, ⟨61, _⟩ => ⟨S4096x64, .f32⟩
  | .hbm, ⟨62, _⟩ => ⟨S4096x64, .f32⟩
  | .hbm, ⟨63, _⟩ => ⟨S_, .f32⟩
  | .hbm, ⟨64, _⟩ => ⟨S16x64, .f32⟩
  | .hbm, ⟨65, _⟩ => ⟨S4112x64, .f32⟩
  | .hbm, ⟨66, _⟩ => ⟨S4096x64, .f32⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .f32⟩
  | .hbm, ⟨74, _⟩ => ⟨S4096x1, .f32⟩
  | .hbm, ⟨75, _⟩ => ⟨S4096x64, .f32⟩
  | .hbm, ⟨76, _⟩ => ⟨S4096x64, .f32⟩
  | .hbm, ⟨77, _⟩ => ⟨S4096x64, .f32⟩
  | .hbm, ⟨78, _⟩ => ⟨S4096x64, .f32⟩
  | .hbm, ⟨79, _⟩ => ⟨S4096x64, .f32⟩
  | .hbm, ⟨80, _⟩ => ⟨S4096x1x64, .f32⟩
  | .hbm, ⟨81, _⟩ => ⟨S4096x1x64, .f32⟩
  | .hbm, ⟨82, _⟩ => ⟨S4096x1x64, .f32⟩
  | .hbm, ⟨83, _⟩ => ⟨S4096x1x64, .f32⟩
  | .hbm, ⟨84, _⟩ => ⟨S4096x4x64, .f32⟩
  | .hbm, ⟨85, _⟩ => ⟨S4x64x4096, .f32⟩
  | .hbm, ⟨86, _⟩ => ⟨S4096x4x64, .f32⟩
  | .hbm, ⟨87, _⟩ => ⟨S4096x256, .f32⟩
  | .hbm, ⟨88, _⟩ => ⟨S1x256, .f32⟩
  | .hbm, ⟨89, _⟩ => ⟨S4096x256, .f32⟩
  | .hbm, ⟨90, _⟩ => ⟨S4096x256, .f32⟩
  | .hbm, ⟨91, _⟩ => ⟨S4096x256, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_8 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== MixCFwd.lean ====
abbrev S4096x2048 : Shape := ⟨2, ![4096, 2048]⟩
abbrev S31x256 : Shape := ⟨2, ![31, 256]⟩
abbrev S256 : Shape := ⟨1, ![256]⟩
abbrev S1x256 : Shape := ⟨2, ![1, 256]⟩
abbrev S4096x256 : Shape := ⟨2, ![4096, 256]⟩
abbrev S4128x256 : Shape := ⟨2, ![4128, 256]⟩
abbrev S32x256 : Shape := ⟨2, ![32, 256]⟩
abbrev S128x256 : Shape := ⟨2, ![128, 256]⟩
abbrev S160x256 : Shape := ⟨2, ![160, 256]⟩
abbrev S128 : Shape := ⟨1, ![128]⟩
abbrev S128x1 : Shape := ⟨2, ![128, 1]⟩

abbrev nBuf : Space → Nat
  | .hbm => 7
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S1x256, .f32⟩
  | .hbm, ⟨5, _⟩ => ⟨S1x256, .f32⟩
  | .hbm, ⟨6, _⟩ => ⟨S4096x256, .bf16⟩
  | .local _ .vmem, ⟨0, _⟩ => ⟨S4096x256, .f32⟩
  | .local _ .vmem, ⟨1, _⟩ => ⟨S4096x256, .f32⟩
  | .local _ .vmem, ⟨2, _⟩ => ⟨S31x256, .f32⟩
  | .local _ .vmem, ⟨3, _⟩ => ⟨S1x256, .f32⟩
  | .local _ .vmem, ⟨4, _⟩ => ⟨S1x256, .f32⟩
  | .local _ .vmem, ⟨5, _⟩ => ⟨S4096x256, .bf16⟩
  | .local _ .vmem, ⟨6, _⟩ => ⟨S4128x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v5 : BitVec 32 := Scalar.muli arg8 c128_i32
  v5
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v5 : BitVec 32 := Scalar.muli arg8 c128_i32
  let v6 : BitVec 32 := v5
  let v7 : Index := Scalar.indexCast v6
  let c0_2 : Index := 0#32
  ![v7.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v5 : BitVec 32 := Scalar.muli arg8 c128_i32
  let v6 : BitVec 32 := v5
  let c32_i32_7 : BitVec 32 := 32#32
  let v19 : BitVec 32 := Scalar.addi v6 c32_i32_7
  let v20 : Index := Scalar.indexCast v19
  let c0_8 : Index := 0#32
  ![v20.toNat, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v5 : BitVec 32 := Scalar.muli arg8 c128_i32
  let v6 : BitVec 32 := v5
  let v24 : Index := Scalar.indexCast v6
  let c0_9 : Index := 0#32
  ![v24.toNat, 0]
def cc0_transform_0 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_1 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixCFwdRefIdeal.lean ====
abbrev S4096x2048 : Shape := ⟨2, ![4096, 2048]⟩
abbrev S31x256 : Shape := ⟨2, ![31, 256]⟩
abbrev S256 : Shape := ⟨1, ![256]⟩
abbrev S4096x256 : Shape := ⟨2, ![4096, 256]⟩
abbrev S_ : Shape := ⟨0, ![]⟩
abbrev S30x256 : Shape := ⟨2, ![30, 256]⟩
abbrev S4126x256 : Shape := ⟨2, ![4126, 256]⟩
abbrev S1x256 : Shape := ⟨2, ![1, 256]⟩
abbrev S4096 : Shape := ⟨1, ![4096]⟩
abbrev S4096x1 : Shape := ⟨2, ![4096, 1]⟩

abbrev nBuf : Space → Nat
  | .hbm => 276
  | .vmem => 0
  | .smem => 0
  | _ => 0

abbrev hbmTy0_0 (i : Nat) : BufTy := match i % 128 with
  | 0 => ⟨S4096x2048, .f32⟩
  | 1 => ⟨S31x256, .f32⟩
  | 2 => ⟨S256, .f32⟩
  | 3 => ⟨S256, .f32⟩
  | 4 => ⟨S4096x256, .f32⟩
  | 5 => ⟨S4096x256, .f32⟩
  | 6 => ⟨S4096x256, .f32⟩
  | 7 => ⟨S4096x256, .f32⟩
  | 8 => ⟨S_, .f32⟩
  | 9 => ⟨S4096x256, .f32⟩
  | 10 => ⟨S4096x256, .f32⟩
  | 11 => ⟨S_, .f32⟩
  | 12 => ⟨S4096x256, .f32⟩
  | 13 => ⟨S4096x256, .f32⟩
  | 14 => ⟨S4096x256, .f32⟩
  | 15 => ⟨S_, .f32⟩
  | 16 => ⟨S30x256, .f32⟩
  | 17 => ⟨S4126x256, .f32⟩
  | 18 => ⟨S1x256, .f32⟩
  | 19 => ⟨S256, .f32⟩
  | 20 => ⟨S4096x256, .f32⟩
  | 21 => ⟨S1x256, .f32⟩
  | 22 => ⟨S4096x256, .f32⟩
  | 23 => ⟨S4096x256, .f32⟩
  | 24 => ⟨S_, .f32⟩
  | 25 => ⟨S4096x256, .f32⟩
  | 26 => ⟨S4096x256, .f32⟩
  | 27 => ⟨S1x256, .f32⟩
  | 28 => ⟨S256, .f32⟩
  | 29 => ⟨S4096x256, .f32⟩
  | 30 => ⟨S1x256, .f32⟩
  | 31 => ⟨S4096x256, .f32⟩
  | 32 => ⟨S4096x256, .f32⟩
  | 33 => ⟨S4096x256, .f32⟩
  | 34 => ⟨S1x256, .f32⟩
  | 35 => ⟨S256, .f32⟩
  | 36 => ⟨S4096x256, .f32⟩
  | 37 => ⟨S1x256, .f32⟩
  | 38 => ⟨S4096x256, .f32⟩
  | 39 => ⟨S4096x256, .f32⟩
  | 40 => ⟨S4096x256, .f32⟩
  | 41 => ⟨S1x256, .f32⟩
  | 42 => ⟨S256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S1x256, .f32⟩
  | 49 => ⟨S256, .f32⟩
  | 50 => ⟨S4096x256, .f32⟩
  | 51 => ⟨S1x256, .f32⟩
  | 52 => ⟨S4096x256, .f32⟩
  | 53 => ⟨S4096x256, .f32⟩
  | 54 => ⟨S4096x256, .f32⟩
  | 55 => ⟨S1x256, .f32⟩
  | 56 => ⟨S256, .f32⟩
  | 57 => ⟨S4096x256, .f32⟩
  | 58 => ⟨S1x256, .f32⟩
  | 59 => ⟨S4096x256, .f32⟩
  | 60 => ⟨S4096x256, .f32⟩
  | 61 => ⟨S4096x256, .f32⟩
  | 62 => ⟨S1x256, .f32⟩
  | 63 => ⟨S256, .f32⟩
  | 64 => ⟨S4096x256, .f32⟩
  | 65 => ⟨S1x256, .f32⟩
  | 66 => ⟨S4096x256, .f32⟩
  | 67 => ⟨S4096x256, .f32⟩
  | 68 => ⟨S4096x256, .f32⟩
  | 69 => ⟨S1x256, .f32⟩
  | 70 => ⟨S256, .f32⟩
  | 71 => ⟨S4096x256, .f32⟩
  | 72 => ⟨S1x256, .f32⟩
  | 73 => ⟨S4096x256, .f32⟩
  | 74 => ⟨S4096x256, .f32⟩
  | 75 => ⟨S4096x256, .f32⟩
  | 76 => ⟨S1x256, .f32⟩
  | 77 => ⟨S256, .f32⟩
  | 78 => ⟨S4096x256, .f32⟩
  | 79 => ⟨S1x256, .f32⟩
  | 80 => ⟨S4096x256, .f32⟩
  | 81 => ⟨S4096x256, .f32⟩
  | 82 => ⟨S4096x256, .f32⟩
  | 83 => ⟨S1x256, .f32⟩
  | 84 => ⟨S256, .f32⟩
  | 85 => ⟨S4096x256, .f32⟩
  | 86 => ⟨S1x256, .f32⟩
  | 87 => ⟨S4096x256, .f32⟩
  | 88 => ⟨S4096x256, .f32⟩
  | 89 => ⟨S4096x256, .f32⟩
  | 90 => ⟨S1x256, .f32⟩
  | 91 => ⟨S256, .f32⟩
  | 92 => ⟨S4096x256, .f32⟩
  | 93 => ⟨S1x256, .f32⟩
  | 94 => ⟨S4096x256, .f32⟩
  | 95 => ⟨S4096x256, .f32⟩
  | 96 => ⟨S4096x256, .f32⟩
  | 97 => ⟨S1x256, .f32⟩
  | 98 => ⟨S256, .f32⟩
  | 99 => ⟨S4096x256, .f32⟩
  | 100 => ⟨S1x256, .f32⟩
  | 101 => ⟨S4096x256, .f32⟩
  | 102 => ⟨S4096x256, .f32⟩
  | 103 => ⟨S4096x256, .f32⟩
  | 104 => ⟨S1x256, .f32⟩
  | 105 => ⟨S256, .f32⟩
  | 106 => ⟨S4096x256, .f32⟩
  | 107 => ⟨S1x256, .f32⟩
  | 108 => ⟨S4096x256, .f32⟩
  | 109 => ⟨S4096x256, .f32⟩
  | 110 => ⟨S4096x256, .f32⟩
  | 111 => ⟨S1x256, .f32⟩
  | 112 => ⟨S256, .f32⟩
  | 113 => ⟨S4096x256, .f32⟩
  | 114 => ⟨S1x256, .f32⟩
  | 115 => ⟨S4096x256, .f32⟩
  | 116 => ⟨S4096x256, .f32⟩
  | 117 => ⟨S4096x256, .f32⟩
  | 118 => ⟨S1x256, .f32⟩
  | 119 => ⟨S256, .f32⟩
  | 120 => ⟨S4096x256, .f32⟩
  | 121 => ⟨S1x256, .f32⟩
  | 122 => ⟨S4096x256, .f32⟩
  | 123 => ⟨S4096x256, .f32⟩
  | 124 => ⟨S4096x256, .f32⟩
  | 125 => ⟨S1x256, .f32⟩
  | 126 => ⟨S256, .f32⟩
  | 127 => ⟨S4096x256, .f32⟩
  | _ => ⟨S4096x2048, .f32⟩

abbrev hbmTy0_1 (i : Nat) : BufTy := match i % 128 with
  | 0 => ⟨S1x256, .f32⟩
  | 1 => ⟨S4096x256, .f32⟩
  | 2 => ⟨S4096x256, .f32⟩
  | 3 => ⟨S4096x256, .f32⟩
  | 4 => ⟨S1x256, .f32⟩
  | 5 => ⟨S256, .f32⟩
  | 6 => ⟨S4096x256, .f32⟩
  | 7 => ⟨S1x256, .f32⟩
  | 8 => ⟨S4096x256, .f32⟩
  | 9 => ⟨S4096x256, .f32⟩
  | 10 => ⟨S4096x256, .f32⟩
  | 11 => ⟨S1x256, .f32⟩
  | 12 => ⟨S256, .f32⟩
  | 13 => ⟨S4096x256, .f32⟩
  | 14 => ⟨S1x256, .f32⟩
  | 15 => ⟨S4096x256, .f32⟩
  | 16 => ⟨S4096x256, .f32⟩
  | 17 => ⟨S4096x256, .f32⟩
  | 18 => ⟨S1x256, .f32⟩
  | 19 => ⟨S256, .f32⟩
  | 20 => ⟨S4096x256, .f32⟩
  | 21 => ⟨S1x256, .f32⟩
  | 22 => ⟨S4096x256, .f32⟩
  | 23 => ⟨S4096x256, .f32⟩
  | 24 => ⟨S4096x256, .f32⟩
  | 25 => ⟨S1x256, .f32⟩
  | 26 => ⟨S256, .f32⟩
  | 27 => ⟨S4096x256, .f32⟩
  | 28 => ⟨S1x256, .f32⟩
  | 29 => ⟨S4096x256, .f32⟩
  | 30 => ⟨S4096x256, .f32⟩
  | 31 => ⟨S4096x256, .f32⟩
  | 32 => ⟨S1x256, .f32⟩
  | 33 => ⟨S256, .f32⟩
  | 34 => ⟨S4096x256, .f32⟩
  | 35 => ⟨S1x256, .f32⟩
  | 36 => ⟨S4096x256, .f32⟩
  | 37 => ⟨S4096x256, .f32⟩
  | 38 => ⟨S4096x256, .f32⟩
  | 39 => ⟨S1x256, .f32⟩
  | 40 => ⟨S256, .f32⟩
  | 41 => ⟨S4096x256, .f32⟩
  | 42 => ⟨S1x256, .f32⟩
  | 43 => ⟨S4096x256, .f32⟩
  | 44 => ⟨S4096x256, .f32⟩
  | 45 => ⟨S4096x256, .f32⟩
  | 46 => ⟨S1x256, .f32⟩
  | 47 => ⟨S256, .f32⟩
  | 48 => ⟨S4096x256, .f32⟩
  | 49 => ⟨S1x256, .f32⟩
  | 50 => ⟨S4096x256, .f32⟩
  | 51 => ⟨S4096x256, .f32⟩
  | 52 => ⟨S4096x256, .f32⟩
  | 53 => ⟨S1x256, .f32⟩
  | 54 => ⟨S256, .f32⟩
  | 55 => ⟨S4096x256, .f32⟩
  | 56 => ⟨S1x256, .f32⟩
  | 57 => ⟨S4096x256, .f32⟩
  | 58 => ⟨S4096x256, .f32⟩
  | 59 => ⟨S4096x256, .f32⟩
  | 60 => ⟨S1x256, .f32⟩
  | 61 => ⟨S256, .f32⟩
  | 62 => ⟨S4096x256, .f32⟩
  | 63 => ⟨S1x256, .f32⟩
  | 64 => ⟨S4096x256, .f32⟩
  | 65 => ⟨S4096x256, .f32⟩
  | 66 => ⟨S4096x256, .f32⟩
  | 67 => ⟨S1x256, .f32⟩
  | 68 => ⟨S256, .f32⟩
  | 69 => ⟨S4096x256, .f32⟩
  | 70 => ⟨S1x256, .f32⟩
  | 71 => ⟨S4096x256, .f32⟩
  | 72 => ⟨S4096x256, .f32⟩
  | 73 => ⟨S4096x256, .f32⟩
  | 74 => ⟨S1x256, .f32⟩
  | 75 => ⟨S256, .f32⟩
  | 76 => ⟨S4096x256, .f32⟩
  | 77 => ⟨S1x256, .f32⟩
  | 78 => ⟨S4096x256, .f32⟩
  | 79 => ⟨S4096x256, .f32⟩
  | 80 => ⟨S4096x256, .f32⟩
  | 81 => ⟨S1x256, .f32⟩
  | 82 => ⟨S256, .f32⟩
  | 83 => ⟨S4096x256, .f32⟩
  | 84 => ⟨S1x256, .f32⟩
  | 85 => ⟨S4096x256, .f32⟩
  | 86 => ⟨S4096x256, .f32⟩
  | 87 => ⟨S4096x256, .f32⟩
  | 88 => ⟨S1x256, .f32⟩
  | 89 => ⟨S256, .f32⟩
  | 90 => ⟨S4096x256, .f32⟩
  | 91 => ⟨S1x256, .f32⟩
  | 92 => ⟨S4096x256, .f32⟩
  | 93 => ⟨S4096x256, .f32⟩
  | 94 => ⟨S4096x256, .f32⟩
  | 95 => ⟨S1x256, .f32⟩
  | 96 => ⟨S256, .f32⟩
  | 97 => ⟨S4096x256, .f32⟩
  | 98 => ⟨S1x256, .f32⟩
  | 99 => ⟨S4096x256, .f32⟩
  | 100 => ⟨S4096x256, .f32⟩
  | 101 => ⟨S4096x256, .f32⟩
  | 102 => ⟨S1x256, .f32⟩
  | 103 => ⟨S256, .f32⟩
  | 104 => ⟨S4096x256, .f32⟩
  | 105 => ⟨S1x256, .f32⟩
  | 106 => ⟨S4096x256, .f32⟩
  | 107 => ⟨S4096x256, .f32⟩
  | 108 => ⟨S4096x256, .f32⟩
  | 109 => ⟨S_, .f32⟩
  | 110 => ⟨S4096, .f32⟩
  | 111 => ⟨S4096x1, .f32⟩
  | 112 => ⟨S_, .f32⟩
  | 113 => ⟨S4096x1, .f32⟩
  | 114 => ⟨S4096x1, .f32⟩
  | 115 => ⟨S4096x256, .f32⟩
  | 116 => ⟨S4096x256, .f32⟩
  | 117 => ⟨S4096x256, .f32⟩
  | 118 => ⟨S_, .f32⟩
  | 119 => ⟨S4096, .f32⟩
  | 120 => ⟨S4096x1, .f32⟩
  | 121 => ⟨S_, .f32⟩
  | 122 => ⟨S4096x1, .f32⟩
  | 123 => ⟨S4096x1, .f32⟩
  | 124 => ⟨S4096x256, .f32⟩
  | 125 => ⟨S4096x256, .f32⟩
  | 126 => ⟨S_, .f32⟩
  | 127 => ⟨S4096x1, .f32⟩
  | _ => ⟨S4096x2048, .f32⟩

abbrev hbmTy0_2 (i : Nat) : BufTy := match i % 128 with
  | 0 => ⟨S4096x1, .f32⟩
  | 1 => ⟨S4096x1, .f32⟩
  | 2 => ⟨S4096x256, .f32⟩
  | 3 => ⟨S4096x256, .f32⟩
  | 4 => ⟨S1x256, .f32⟩
  | 5 => ⟨S4096x256, .f32⟩
  | 6 => ⟨S4096x256, .f32⟩
  | 7 => ⟨S1x256, .f32⟩
  | 8 => ⟨S4096x256, .f32⟩
  | 9 => ⟨S4096x256, .f32⟩
  | 10 => ⟨S4096x256, .f32⟩
  | 11 => ⟨S4096x256, .f32⟩
  | 12 => ⟨S_, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S4096x256, .f32⟩
  | 19 => ⟨S4096x256, .bf16⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_cst_3 : Ref sig .tc := ⟨.hbm, 237, rfl⟩
abbrev main_v229 : Ref sig .tc := ⟨.hbm, 238, rfl⟩
abbrev main_v230 : Ref sig .tc := ⟨.hbm, 239, rfl⟩
abbrev main_cst_4 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_cst_5 : Ref sig .tc := ⟨.hbm, 246, rfl⟩
abbrev main_v236 : Ref sig .tc := ⟨.hbm, 247, rfl⟩
abbrev main_v237 : Ref sig .tc := ⟨.hbm, 248, rfl⟩
abbrev main_cst_6 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_cst_7 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_call0_v0 : Ref sig .tc := ⟨.hbm, 266, rfl⟩
abbrev main_call0_v1 : Ref sig .tc := ⟨.hbm, 267, rfl⟩
abbrev main_call0_cst : Ref sig .tc := ⟨.hbm, 268, rfl⟩
abbrev main_call0_v2 : Ref sig .tc := ⟨.hbm, 269, rfl⟩
abbrev main_call0_v3 : Ref sig .tc := ⟨.hbm, 270, rfl⟩
abbrev main_call0_cst_0 : Ref sig .tc := ⟨.hbm, 271, rfl⟩
abbrev main_call0_v4 : Ref sig .tc := ⟨.hbm, 272, rfl⟩
abbrev main_call0_v5 : Ref sig .tc := ⟨.hbm, 273, rfl⟩
abbrev main_v253 : Ref sig .tc := ⟨.hbm, 274, rfl⟩
abbrev main_v254 : Ref sig .tc := ⟨.hbm, 275, rfl⟩

abbrev nD : Nat := 1
abbrev τ : Topo := Topo.v7x

variable {F : FTy → Type} [FloatOps F]
-- ==== MatRes.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MatResRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MatNt.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatNtRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MatTn.lean ====
abbrev S4096x1024 : Shape := ⟨2, ![4096, 1024]⟩
abbrev S4096x2816 : Shape := ⟨2, ![4096, 2816]⟩
abbrev S1024x5632 : Shape := ⟨2, ![1024, 5632]⟩
abbrev S512x1024 : Shape := ⟨2, ![512, 1024]⟩
abbrev S512x2816 : Shape := ⟨2, ![512, 2816]⟩
abbrev S1024x2816 : Shape := ⟨2, ![1024, 2816]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S1024x5632, .f32⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S1024x2816, .f32⟩
  | .local _ .vmem, ⟨7, _⟩ => ⟨S1024x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v4 : BitVec 1 := Scalar.cmpi .slt arg1 c1_i32
  let v5 : BitVec 32 := Scalar.extui v4
  let c0_i32_2 : BitVec 32 := 0#32
  let v6 : BitVec 1 := Scalar.cmpi .ne v5 c0_i32_2
  v6

def k0_cond3 (i : grid0.Coords) : BitVec 1 :=
  let arg1 : BitVec 32 := BitVec.ofNat 32 (i 1).val
  let c1_i32_3 : BitVec 32 := 1#32
  let v7 : BitVec 1 := Scalar.cmpi .sge arg1 c1_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg1 c1_i32
  let c0_i32 : BitVec 32 := 0#32
  let v1 : BitVec 32 := Scalar.select v0 arg2 c0_i32
  let c1_i32_0 : BitVec 32 := 1#32
  let v2 : BitVec 1 := Scalar.cmpi .slt arg1 c1_i32_0
  let c0_i32_1 : BitVec 32 := 0#32
  let v3 : BitVec 32 := Scalar.select v2 arg1 c0_i32_1
  let c0_i32_2 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .sge arg1 c1_i32
  let c0_i32 : BitVec 32 := 0#32
  let v1 : BitVec 32 := Scalar.select v0 arg2 c0_i32
  let c1_i32_0 : BitVec 32 := 1#32
  let v2 : BitVec 1 := Scalar.cmpi .sge arg1 c1_i32_0
  let c1_i32_1 : BitVec 32 := 1#32
  let v3 : BitVec 32 := Scalar.subi arg1 c1_i32_1
  let c0_i32_2 : BitVec 32 := 0#32
  let v4 : BitVec 32 := Scalar.select v2 v3 c0_i32_2
  let c0_i32_3 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MatTnRefIdeal.lean ====
abbrev S4096x1024 : Shape := ⟨2, ![4096, 1024]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x5632, .bf16⟩
  | .hbm, ⟨4, _⟩ => ⟨S4096x5632, .f32⟩
  | .hbm, ⟨5, _⟩ => ⟨S_, .f32⟩
  | .hbm, ⟨6, _⟩ => ⟨S1024x5632, .f32⟩
  | .hbm, ⟨7, _⟩ => ⟨S4096x1024, .f32⟩
  | .hbm, ⟨8, _⟩ => ⟨S4096x5632, .f32⟩
  | .hbm, ⟨9, _⟩ => ⟨S5632x1024, .f32⟩
  | .hbm, ⟨10, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AdamW.lean ====
abbrev S2x1024x1408 : Shape := ⟨3, ![2, 1024, 1408]⟩
abbrev S1024x1408 : Shape := ⟨2, ![1024, 1408]⟩
abbrev S1x128x1408 : Shape := ⟨3, ![1, 128, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamWIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamWRefIdeal.lean ====
abbrev S2x1024x1408 : Shape := ⟨3, ![2, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S1x1024x1408, .f32⟩
  | .hbm, ⟨6, _⟩ => ⟨S1x1024x1408, .f32⟩
  | .hbm, ⟨7, _⟩ => ⟨S2x1024x1408, .f32⟩
  | .hbm, ⟨8, _⟩ => ⟨S_, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Held.lean ====
/- Whole buffers held at given contents, and what is read from them. -/
module

public import Idealize.ShloMosaic.Lib.Memref
public import Idealize.ShloMosaic.Lib.Exec
public import Idealize.ShloMosaic.Lib.VecWindow

@[expose] public section

noncomputable section

namespace Cert.Held

open Idealize.ShloMosaic Idealize.ShloMosaic.TcCoe Idealize.SL Idealize.SL.RA
open Idealize.SL.BI (sProp)

variable {nD : ℕ} {τ : Topo} {sig : RefSig} {Val : EltTy → Type} {U : Type} [URA U] {sp : Space} {s : Shape} {e : EltTy}

/-- A buffer of core `c`, held whole at the contents `X`. -/
abbrev held (c : Dev nD) (b : Memref sig .tc sp s e) (X : s.Idx → Val e) : sProp (MT nD τ sig Unit Val ℕ U ℕ) :=
  owns (c : Thread nD τ) b fullShare X

/-- What core `c` finds in the buffer `r`. -/
abbrev inp (m : (ℓ : Loc nD τ sig) → Buf Val ℓ) (c : Dev nD) (r : Ref sig .tc) := m ((c : Thread nD τ).loc r)

/-- A part read from a whole buffer is that part of its contents. -/
theorem ld_unread {b : Memref sig .tc sp s e} (h : b.IsWhole) (x : s.Idx → Val e) (r : Rect s) :
    b.view.readAt Val r.toLoadRect (h.unread x) = View.ld x r := by rw [View.readAt_eq_ld, h.read_unread]

/-- The whole of a whole buffer, read, is its contents. -/
theorem whole_unread {b : Memref sig .tc sp s e} (h : b.IsWhole) (x : s.Idx → Val e) {off : Fin s.rank → ℕ} (inb : ∀ a, off a + s.size a ≤ s.size a) :
    b.view.readAt Val (Rect.unit off s.size inb).toLoadRect (h.unread x) = x := (View.readAt_full _ _ inb).trans (h.read_unread _)

end Cert.Held

end
-- ==== Proof.Rows.lean ====
/- Buffers written a band of whole rows at a time: what a set of rows holds, carried across one more band, and what a
   load of a band then reads. -/
module

public import Idealize.ShloMosaic.Lib.WritesUnit
public import Idealize.ShloMosaic.Lib.Pipeline.FrameBody
public import Idealize.ShloMosaic.Lib.Pipeline.ValueKit.Tiles

@[expose] public section

noncomputable section

namespace Cert.Rows

open Idealize.ShloMosaic

variable {sig : RefSig} {κ : Kind} {sp : Space} {e : EltTy} {Val : EltTy → Type}
variable {d : Fin 2 → ℕ} (v : View sig κ sp (⟨2, d⟩ : Shape) e)

/-- The rows in `S` of the contents `f` hold the words `G`. -/
def On (f : v.ty.Contents Val) (G : (⟨2, d⟩ : Shape).Idx → Val e) (S : ℕ → Prop) : Prop :=
  ∀ y : (⟨2, d⟩ : Shape).Idx, S (y (0 : Fin 2)).val → v.read Val f y = G y

variable {v}

/-- Fewer rows. -/
theorem On.mono {f : v.ty.Contents Val} {G : (⟨2, d⟩ : Shape).Idx → Val e} {S S' : ℕ → Prop} (h : On v f G S)
    (hs : ∀ n, n < d (0 : Fin 2) → S' n → S n) : On v f G S' := fun y hy => h y (hs _ (y (0 : Fin 2)).isLt hy)

/-- One more band of whole rows `[o, o + W)`, holding the words already. -/
theorem On.store {f : v.ty.Contents Val} {G : (⟨2, d⟩ : Shape).Idx → Val e} {S S' : ℕ → Prop}
    {L : List (View.Piece Val (⟨2, d⟩ : Shape) e)} (h : On v (v.writes Val f L) G S)
    {off size : Fin 2 → ℕ} {o W : ℕ} {inb : ∀ a : Fin 2, off a + size a ≤ d a}
    {w : (Rect.unit (s := ⟨2, d⟩) off size inb).shape.Idx → Val e} (hoff : off = ![o, 0])
    (hW : size (0 : Fin 2) = W) (hD : size (1 : Fin 2) = d (1 : Fin 2))
    (hw : ∀ (x : (Rect.unit (s := ⟨2, d⟩) off size inb).shape.Idx) (y : (⟨2, d⟩ : Shape).Idx),
      (y (0 : Fin 2)).val = o + (x (0 : Fin 2)).val → (y (1 : Fin 2)).val = (x (1 : Fin 2)).val → w x = G y)
    (hs : ∀ n, S' n → (o ≤ n ∧ n < o + W) ∨ S n) :
    On v (v.writes Val f ((⟨Rect.unit (s := ⟨2, d⟩) off size inb, w⟩ : View.Piece Val (⟨2, d⟩ : Shape) e) :: L)) G S' := by
  intro y hy
  rw [View.read_writes_cons_rows v f inb w L y hoff hW hD]
  split
  · rename_i hr
    refine hw _ y ?_ ?_
    · rw [Rect.unitLocal_val]; show _ = o + ((y (0 : Fin 2)).val - o); omega
    · rw [Rect.unitLocal_val]; exact (Nat.sub_zero _).symm
  · rename_i hr
    exact h y ((hs _ hy).resolve_left hr)

/-- A load of a band of rows that hold the words reads the words. -/
theorem On.load {f : v.ty.Contents Val} {G : (⟨2, d⟩ : Shape).Idx → Val e} {S : ℕ → Prop} (h : On v f G S)
    {off size : Fin 2 → ℕ} {o W : ℕ} {inb : ∀ a : Fin 2, off a + size a ≤ d a} (hoff : off = ![o, 0])
    (hW : size (0 : Fin 2) = W) (hs : ∀ n, o ≤ n → n < o + W → S n) :
    v.readAt Val (Rect.unit (s := ⟨2, d⟩) off size inb).toLoadRect f = View.ld G (Rect.unit (s := ⟨2, d⟩) off size inb) := by
  subst hoff hW
  rw [View.readAt_eq_ld]
  funext x
  have hx : (x (0 : Fin 2)).val < size (0 : Fin 2) := (x (0 : Fin 2)).isLt
  exact h _ (hs _ (by rw [Rect.idx_unit_val]; show o ≤ o + _; omega)
    (by rw [Rect.idx_unit_val]; show o + (x (0 : Fin 2)).val < _; omega))

/-- Equal contents on all rows. -/
theorem On.of_eq {f : v.ty.Contents Val} {G : (⟨2, d⟩ : Shape).Idx → Val e} (h : v.read Val f = G) (S : ℕ → Prop) :
    On v f G S := fun y _ => congrFun h y

/-- No rows. -/
theorem On.none (f : v.ty.Contents Val) (G : (⟨2, d⟩ : Shape).Idx → Val e) {S : ℕ → Prop} (hs : ∀ n, ¬ S n) :
    On v f G S := fun y hy => absurd hy (hs _)

/-- Before the first of the bands no row is claimed. -/
theorem On.start {f : v.ty.Contents Val} {G : (⟨2, d⟩ : Shape).Idx → Val e} {k W : ℕ} (h : k = 0 ∨ On v f G (· < W * k)) :
    On v f G (· < W * k) := by
  rcases h with rfl | h
  · exact On.none f G fun n => by simp
  · exact h

/-- All rows. -/
theorem On.read_eq {f : v.ty.Contents Val} {G : (⟨2, d⟩ : Shape).Idx → Val e} {S : ℕ → Prop} (h : On v f G S)
    (hs : ∀ n, n < d (0 : Fin 2) → S n) : v.read Val f = G := funext fun y => h y (hs _ (y (0 : Fin 2)).isLt)

end Cert.Rows

end
-- ==== Proof.MixALoops.lean ====
/- The two loops of the first mixer's backward call: what each buffer holds before every trip. -/
module

public import proofs.«01_k».proof.Proof.Held
public import proofs.«01_k».proof.Proof.Gen.MixAIdeal.Skeleton
public import proofs.«01_k».proof.Proof.Gen.MixAIdeal.Launch
public import proofs.«01_k».proof.Proof.Rows
public import Idealize.ShloMosaic.Lib.Exec
public import Idealize.ShloMosaic.Lib.Tactic
public import Idealize.ShloMosaic.Lib.Pipeline.Kit
public import Idealize.ShloMosaic.Lib.Pointwise

@[expose] public section

noncomputable section

namespace Cert.MixAIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.MixAIdeal Cert.MixAIdeal.Gen Cert.Rows

variable {F : FTy → Type} [FloatOps F]

local notation "𝕄" => MT nD τ sig Unit (Elt F) ℕ (UR sig nD τ) ℕ

theorem trips1 : k0_t1_loop.trips = 32 := by decide +kernel
theorem trips2 : k0_t2_loop.trips = 32 := by decide +kernel
theorem off1 : ∀ k : Fin k0_t1_loop.trips, k0_off1 k = ![128 * k.val, 0] := by decide +kernel
theorem off2 : ∀ k : Fin k0_t1_loop.trips, k0_off2 k = ![8 + 128 * k.val, 0] := by decide +kernel
theorem off3 : ∀ k : Fin k0_t1_loop.trips, k0_off3 k = ![128 * k.val, 0] := by decide +kernel
theorem off4 : ∀ k : Fin k0_t1_loop.trips, k0_off4 k = ![128 * k.val, 0] := by decide +kernel
theorem off5 : ∀ k : Fin k0_t2_loop.trips, k0_off5 k = ![128 * k.val, 0] := by decide +kernel
theorem off6 : ∀ k : Fin k0_t2_loop.trips, k0_off6 k = ![128 * k.val, 0] := by decide +kernel

/-- The trip of the first loop that number `n` names. -/
def at1 (n : ℕ) : Fin k0_t1_loop.trips := ⟨n % k0_t1_loop.trips, Nat.mod_lt _ (by rw [trips1]; decide)⟩
/-- The trip of the second loop that number `n` names. -/
def at2 (n : ℕ) : Fin k0_t2_loop.trips := ⟨n % k0_t2_loop.trips, Nat.mod_lt _ (by rw [trips2]; decide)⟩

theorem at1_val (k : Fin k0_t1_loop.trips) : at1 k.val = k := Fin.ext (Nat.mod_eq_of_lt k.isLt)
theorem at2_val (k : Fin k0_t2_loop.trips) : at2 k.val = k := Fin.ext (Nat.mod_eq_of_lt k.isLt)

/-- The band of 128 rows at trip `k`. -/
abbrev band (k : Fin k0_t1_loop.trips) : Rect S4096x256 := Rect.unit (k0_off1 k) S128x256.size (k0_off1_inb k)
/-- The row a tap is kept in. -/
abbrev tap0 : Rect S3x256 := Rect.unit ![0, 0] S1x256.size inb_S3x256_S1x256_0_0
abbrev tap1 : Rect S3x256 := Rect.unit ![1, 0] S1x256.size inb_S3x256_S1x256_1_0
abbrev tap2 : Rect S3x256 := Rect.unit ![2, 0] S1x256.size inb_S3x256_S1x256_2_0

/-- Bands of 128 rows put one under another. -/
def stack {α : Type} (W : ℕ → S128x256.Idx → α) (y : S4096x256.Idx) : α :=
  W ((y 0).val / 128) (ix2 ⟨(y 0).val % 128, Nat.mod_lt _ (by decide)⟩ (y 1))

theorem stack_at {α : Type} (W : ℕ → S128x256.Idx → α) (k : ℕ) (x : S128x256.Idx) (y : S4096x256.Idx)
    (h0 : (y 0).val = 128 * k + (x 0).val) (h1 : (y 1).val = (x 1).val) : W k x = stack W y := by
  have hx : (x 0).val < 128 := (x 0).isLt
  unfold stack
  have e1 : (y 0).val / 128 = k := by omega
  have e2 : (ix2 ⟨(y 0).val % 128, Nat.mod_lt _ (by decide)⟩ (y 1) : S128x256.Idx) = x := by
    funext a
    match a with
    | ⟨0, _⟩ => exact Fin.ext (show (y 0).val % 128 = (x 0).val by omega)
    | ⟨1, _⟩ => exact Fin.ext h1
  rw [e1, e2]

/-- Three one-row stores that fill the buffer of three rows. -/
theorem three (v : View sig .tc .vmem S3x256 .f32) (f : v.ty.Contents (Elt F)) (p0 p1 p2 : Vec F S1x256 .f32) :
    v.read (Elt F) (v.writes (Elt F) f [⟨tap2, p2⟩, ⟨tap1, p1⟩, ⟨tap0, p0⟩])
      = fun y => if (y 0).val = 0 then p0 (ix2 0 (y 1)) else if (y 0).val = 1 then p1 (ix2 0 (y 1)) else p2 (ix2 0 (y 1)) := by
  funext y
  have hy : (y 0).val < 3 := (y 0).isLt
  by_cases h0 : (y 0).val = 0
  · rw [if_pos h0, View.read_writes_cons_rows_of_not_mem (o := 2) (W := 1) v f _ _ _ y rfl rfl (by omega),
      View.read_writes_cons_rows_of_not_mem (o := 1) (W := 1) v f _ _ _ y rfl rfl (by omega)]
    exact View.read_writes_cons_rows_of_mem (o := 0) v f _ _ _ y (ix2 0 (y 1)) rfl h0 rfl
  · by_cases h1 : (y 0).val = 1
    · rw [if_neg h0, if_pos h1, View.read_writes_cons_rows_of_not_mem (o := 2) (W := 1) v f _ _ _ y rfl rfl (by omega)]
      exact View.read_writes_cons_rows_of_mem (o := 1) v f _ _ _ y (ix2 0 (y 1)) rfl h1 rfl
    · rw [if_neg h0, if_neg h1]
      exact View.read_writes_cons_rows_of_mem (o := 2) v f _ _ _ y (ix2 0 (y 1)) rfl (show (y 0).val = 2 + 0 by omega) rfl

section Words

variable (ab ac ax dy : Vec F S4096x256 .f32) (w : Vec F S3x256 .f32)

/-- The zero-led product of the two branches, as the first scratch buffer ends. -/
def P (y : S4104x256.Idx) : Elt F .f32 :=
  if h : (y 0).val < 8 then k0_pay1 (ix2 ⟨(y 0).val, h⟩ (y 1))
  else stack (fun k => k0_pay12 (View.ld ac (band (at1 k))) (View.ld ax (band (at1 k))))
    (ix2 ⟨(y 0).val - 8, by have : (y 0).val < 4104 := (y 0).isLt; omega⟩ (y 1))

/-- The cotangent times the first branch, zeros below, as the second scratch buffer ends. -/
def Q (y : S4104x256.Idx) : Elt F .f32 :=
  if h : (y 0).val < 4096 then stack (fun k => k0_pay5 (View.ld dy (band (at1 k))) (View.ld ab (band (at1 k)))) (ix2 ⟨(y 0).val, h⟩ (y 1))
  else k0_pay2 (ix2 ⟨(y 0).val - 4096, by have : (y 0).val < 4104 := (y 0).isLt; omega⟩ (y 1))

theorem P_at (k : Fin k0_t1_loop.trips) (x : S128x256.Idx) (y : S4104x256.Idx) (h0 : (y 0).val = 8 + 128 * k.val + (x 0).val)
    (h1 : (y 1).val = (x 1).val) : k0_pay12 (View.ld ac (band k)) (View.ld ax (band k)) x = P ac ax y := by
  have hn : ¬ (y 0).val < 8 := by omega
  unfold P
  rw [dif_neg hn, ← stack_at (fun k => k0_pay12 (View.ld ac (band (at1 k))) (View.ld ax (band (at1 k)))) k.val x _
    (show (y 0).val - 8 = 128 * k.val + (x 0).val by omega) h1, at1_val]

theorem Q_at (k : Fin k0_t1_loop.trips) (x : S128x256.Idx) (y : S4104x256.Idx) (h0 : (y 0).val = 128 * k.val + (x 0).val)
    (h1 : (y 1).val = (x 1).val) : k0_pay5 (View.ld dy (band k)) (View.ld ab (band k)) x = Q ab dy y := by
  have hk : k.val < 32 := Nat.lt_of_lt_of_le k.isLt k0_t1_abs.2.1
  have hx : (x 0).val < 128 := (x 0).isLt
  have hn : (y 0).val < 4096 := by omega
  unfold Q
  rw [dif_pos hn, ← stack_at (fun k => k0_pay5 (View.ld dy (band (at1 k))) (View.ld ab (band (at1 k)))) k.val x _ h0 h1, at1_val]

theorem P_zero (x : S8x256.Idx) (y : S4104x256.Idx) (h0 : (y 0).val = 0 + (x 0).val) (h1 : (y 1).val = (x 1).val) :
    k0_pay1 (F := F) x = P ac ax y := by
  have hx : (x 0).val < 8 := (x 0).isLt
  unfold P
  rw [dif_pos (by omega)]
  refine congrArg (k0_pay1 (F := F)) (funext fun a => ?_)
  match a with
  | ⟨0, _⟩ => exact Fin.ext (show (x 0).val = (y 0).val by omega)
  | ⟨1, _⟩ => exact Fin.ext h1.symm

theorem Q_zero (x : S8x256.Idx) (y : S4104x256.Idx) (h0 : (y 0).val = 4096 + (x 0).val) (h1 : (y 1).val = (x 1).val) :
    k0_pay2 (F := F) x = Q ab dy y := by
  unfold Q
  rw [dif_neg (by omega)]
  refine congrArg (k0_pay2 (F := F)) (funext fun a => ?_)
  match a with
  | ⟨0, _⟩ => exact Fin.ext (show (x 0).val = (y 0).val - 4096 by omega)
  | ⟨1, _⟩ => exact Fin.ext h1.symm

/-- The 136 rows of the product trip `k` reads. -/
def near (k : Fin k0_t1_loop.trips) : Vec F S136x256 .f32 :=
  View.ld (Val := Elt F) (e' := .f32) (P ac ax) (Rect.unit (s := S4104x256) (k0_off3 k) S136x256.size (k0_off3_inb k))

/-- The first branch's gradient. -/
def AB : Vec F S4096x256 .bf16 :=
  stack fun k => k0_pay16 (near ac ax (at1 k)) (View.ld w tap0) (View.ld w tap1) (View.ld w tap2) (View.ld dy (band (at1 k)))

/-- The taps' gradient before trip `k`. -/
def DW : ℕ → Vec F S3x256 .f32
  | 0 => k0_pay3
  | k + 1 => fun y =>
    if (y 0).val = 0 then k0_pay6 (k0_pay13 (near ac ax (at1 k))) (View.ld dy (band (at1 k))) (View.ld ab (band (at1 k))) (View.ld (DW k) tap0) (ix2 0 (y 1))
    else if (y 0).val = 1 then k0_pay7 (k0_pay14 (near ac ax (at1 k))) (View.ld dy (band (at1 k))) (View.ld ab (band (at1 k))) (View.ld (DW k) tap1) (ix2 0 (y 1))
    else k0_pay8 (k0_pay15 (near ac ax (at1 k))) (View.ld dy (band (at1 k))) (View.ld ab (band (at1 k))) (View.ld (DW k) tap2) (ix2 0 (y 1))

/-- The 136 rows of the cotangent trip `k` of the second loop reads. -/
def far (k : Fin k0_t2_loop.trips) : Vec F S136x256 .f32 :=
  View.ld (Val := Elt F) (e' := .f32) (Q ab dy) (Rect.unit (s := S4104x256) (k0_off5 k) S136x256.size (k0_off5_inb k))

/-- The band of 128 rows at trip `k` of the second loop. -/
abbrev band2 (k : Fin k0_t2_loop.trips) : Rect S4096x256 := Rect.unit (k0_off6 k) S128x256.size (k0_off6_inb k)

/-- The second branch's gradient, -/
def AC : Vec F S4096x256 .bf16 :=
  stack fun k => k0_pay10 (far ab dy (at2 k)) (View.ld w tap0) (View.ld w tap1) (View.ld w tap2) (View.ld ax (band2 (at2 k)))
/-- and the third's. -/
def AX : Vec F S4096x256 .bf16 :=
  stack fun k => k0_pay11 (far ab dy (at2 k)) (View.ld w tap0) (View.ld w tap1) (View.ld w tap2) (View.ld ac (band2 (at2 k)))

end Words

variable (𝒱 : Variants) (c : Dev nD) (bd : Option 𝒱.V) (E : Set ℕ) (i : grid0.Coords)
  (arg1 : Memref sig .tc .vmem S4096x256 .f32) (harg1 : arg1.IsWhole)
  (arg2 : Memref sig .tc .vmem S4096x256 .f32) (harg2 : arg2.IsWhole)
  (arg3 : Memref sig .tc .vmem S4096x256 .f32) (harg3 : arg3.IsWhole)
  (arg4 : Memref sig .tc .vmem S4096x256 .f32) (harg4 : arg4.IsWhole)
  (arg5 : Memref sig .tc .vmem S3x256 .f32) (harg5 : arg5.IsWhole)
  (arg6 : Memref sig .tc .vmem S4096x256 .bf16) (harg6 : arg6.IsWhole)
  (arg7 : Memref sig .tc .vmem S4096x256 .bf16) (harg7 : arg7.IsWhole)
  (arg8 : Memref sig .tc .vmem S4096x256 .bf16) (harg8 : arg8.IsWhole)
  (arg9 : Memref sig .tc .vmem S3x256 .f32) (harg9 : arg9.IsWhole)
  (arg10 : Memref sig .tc .vmem S4104x256 .f32) (harg10 : arg10.IsWhole)
  (arg11 : Memref sig .tc .vmem S4104x256 .f32) (harg11 : arg11.IsWhole)
  (ab ac ax dy : Vec F S4096x256 .f32) (w : Vec F S3x256 .f32)

/-- Before trip `k` of the first loop. -/
def inv1 (k : ℕ) : sProp 𝕄 :=
  iprop((arg1.view.loc (c : Thread nD τ) ↦[arg1.view.set]{fullShare} harg1.unread ab) ∗ (arg2.view.loc (c : Thread nD τ) ↦[arg2.view.set]{fullShare} harg2.unread ac)
    ∗ (arg3.view.loc (c : Thread nD τ) ↦[arg3.view.set]{fullShare} harg3.unread ax) ∗ (arg4.view.loc (c : Thread nD τ) ↦[arg4.view.set]{fullShare} harg4.unread dy)
    ∗ (arg5.view.loc (c : Thread nD τ) ↦[arg5.view.set]{fullShare} harg5.unread w)
    ∗ (∃ f, (arg6.view.loc (c : Thread nD τ) ↦[arg6.view.set]{fullShare} f) ∗ ⌜k = 0 ∨ On arg6.view f (AB ac ax dy w) (· < 128 * k)⌝)
    ∗ (∃ f, (arg9.view.loc (c : Thread nD τ) ↦[arg9.view.set]{fullShare} f) ∗ ⌜On arg9.view f (DW ab ac ax dy k) (fun _ => True)⌝)
    ∗ (∃ f, (arg10.view.loc (c : Thread nD τ) ↦[arg10.view.set]{fullShare} f) ∗ ⌜On arg10.view f (P ac ax) (· < 8 + 128 * k)⌝)
    ∗ (∃ f, (arg11.view.loc (c : Thread nD τ) ↦[arg11.view.set]{fullShare} f) ∗ ⌜On arg11.view f (Q ab dy) (fun n => n < 128 * k ∨ 4096 ≤ n)⌝))

set_option warn.classDefReducibility false in
@[sl_loop] def loop1 : Idealize.ShloMosaic.LoopInv (M := 𝕄) Idealize.ShloMosaic.frame (wpE (defs₀ (F := F)) 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11) where
  inv k _ := inv1 (F := F) c arg1 harg1 arg2 harg2 arg3 harg3 arg4 harg4 arg5 harg5 arg6 arg9 arg10 arg11 ab ac ax dy w k
  step k acc := by
    have hk : k.val < 32 := Nat.lt_of_lt_of_le k.isLt k0_t1_abs.2.1
    unfold inv1 k0_t1_body
    iintro ⟨H1, H2, H3, H4, H5, ⟨%f6, H6, %h6⟩, ⟨%f9, H9, %h9⟩, ⟨%f10, H10, %h10⟩, ⟨%f11, H11, %h11⟩⟩
    sl_exec
    sl_step
    have e1 := ld_unread (Val := Elt F) harg1 ab
    have e2 := ld_unread (Val := Elt F) harg2 ac
    have e3 := ld_unread (Val := Elt F) harg3 ax
    have e4 := ld_unread (Val := Elt F) harg4 dy
    have e5 := ld_unread (Val := Elt F) harg5 w
    have h10' : On arg10.view (arg10.view.writes (Elt F) f10 [⟨Rect.unit (s := S4104x256) (k0_off2 k) S128x256.size (k0_off2_inb k), k0_pay12 (View.ld ac (band k)) (View.ld ax (band k))⟩])
        (P ac ax) (· < 8 + 128 * (k.val + 1)) :=
      On.store (W := 128) (S := (· < 8 + 128 * k.val)) (h := h10) (off2 k) rfl rfl (fun x y h0 h1 => P_at ac ax k x y h0 h1) (fun n hn => by omega)
    have hP : arg10.view.readAt (Elt F) (Rect.unit (s := S4104x256) (k0_off3 k) S136x256.size (k0_off3_inb k)).toLoadRect
        (arg10.view.writes (Elt F) f10 [⟨Rect.unit (s := S4104x256) (k0_off2 k) S128x256.size (k0_off2_inb k), k0_pay12 (View.ld ac (band k)) (View.ld ax (band k))⟩])
        = near ac ax k := h10'.load (W := 136) (off3 k) rfl (fun n _ hn => by show n < _; omega)
    iframe H1 H2 H3 H4 H5
    sl_unfold_words
    simp only [e1, e2, e3, e4, e5]
    isplitl [H6]
    · iexists _; isplitl [H6]; · iexact H6
      ipureintro
      show _ ∨ On arg6.view (arg6.view.writes (Elt F) f6 [⟨Rect.unit (s := S4096x256) (k0_off1 k) S128x256.size (k0_off1_inb k),
        k0_pay16 (arg10.view.readAt (Elt F) (Rect.unit (s := S4104x256) (k0_off3 k) S136x256.size (k0_off3_inb k)).toLoadRect (arg10.view.writes (Elt F) f10 [⟨Rect.unit (s := S4104x256) (k0_off2 k) S128x256.size (k0_off2_inb k), k0_pay12 (View.ld ac (band k)) (View.ld ax (band k))⟩]))
          (View.ld w tap0) (View.ld w tap1) (View.ld w tap2) (View.ld dy (band k))⟩]) (AB ac ax dy w) (· < 128 * (k.val + 1))
      rw [hP]
      refine .inr (On.store (W := 128) (S := (· < 128 * k.val)) (h := On.start h6) (off1 k) rfl rfl (fun x y h0 h1 => ?_) (fun n hn => by omega))
      rw [AB, ← stack_at _ k.val x y h0 h1, at1_val]
    isplitl [H9]
    · iexists _; isplitl [H9]; · iexact H9
      ipureintro
      have l : ∀ r, arg9.view.readAt (Elt F) r.toLoadRect f9 = View.ld (DW ab ac ax dy k) r := fun r => by rw [View.readAt_eq_ld, h9.read_eq fun _ _ => trivial]
      refine On.of_eq ?_ _
      show arg9.view.read (Elt F) (arg9.view.writes (Elt F) f9 [⟨tap2, k0_pay8 (k0_pay15 (arg10.view.readAt (Elt F) (Rect.unit (s := S4104x256) (k0_off3 k) S136x256.size (k0_off3_inb k)).toLoadRect (arg10.view.writes (Elt F) f10 [⟨Rect.unit (s := S4104x256) (k0_off2 k) S128x256.size (k0_off2_inb k), k0_pay12 (View.ld ac (band k)) (View.ld ax (band k))⟩]))) (View.ld dy (band k)) (View.ld ab (band k)) (arg9.view.readAt (Elt F) tap2.toLoadRect f9)⟩,
        ⟨tap1, k0_pay7 (k0_pay14 (arg10.view.readAt (Elt F) (Rect.unit (s := S4104x256) (k0_off3 k) S136x256.size (k0_off3_inb k)).toLoadRect (arg10.view.writes (Elt F) f10 [⟨Rect.unit (s := S4104x256) (k0_off2 k) S128x256.size (k0_off2_inb k), k0_pay12 (View.ld ac (band k)) (View.ld ax (band k))⟩]))) (View.ld dy (band k)) (View.ld ab (band k)) (arg9.view.readAt (Elt F) tap1.toLoadRect f9)⟩,
        ⟨tap0, k0_pay6 (k0_pay13 (arg10.view.readAt (Elt F) (Rect.unit (s := S4104x256) (k0_off3 k) S136x256.size (k0_off3_inb k)).toLoadRect (arg10.view.writes (Elt F) f10 [⟨Rect.unit (s := S4104x256) (k0_off2 k) S128x256.size (k0_off2_inb k), k0_pay12 (View.ld ac (band k)) (View.ld ax (band k))⟩]))) (View.ld dy (band k)) (View.ld ab (band k)) (arg9.view.readAt (Elt F) tap0.toLoadRect f9)⟩]) = _
      rw [hP, l, l, l, three, DW, at1_val]
    isplitl [H10]
    · iexists _; isplitl [H10]; · iexact H10
      ipureintro
      exact h10'
    · iexists _; isplitl [H11]; · iexact H11
      ipureintro
      exact On.store (W := 128) (S := fun n => n < 128 * k.val ∨ 4096 ≤ n) (h := h11) (off4 k) rfl rfl (fun x y h0 h1 => Q_at ab dy k x y h0 h1) (fun n hn => by omega)

/-- Before trip `k` of the second loop. -/
def inv2 (k : ℕ) : sProp 𝕄 :=
  iprop((arg1.view.loc (c : Thread nD τ) ↦[arg1.view.set]{fullShare} harg1.unread ab) ∗ (arg4.view.loc (c : Thread nD τ) ↦[arg4.view.set]{fullShare} harg4.unread dy)
    ∗ (arg2.view.loc (c : Thread nD τ) ↦[arg2.view.set]{fullShare} harg2.unread ac)
    ∗ (arg3.view.loc (c : Thread nD τ) ↦[arg3.view.set]{fullShare} harg3.unread ax)
    ∗ (arg5.view.loc (c : Thread nD τ) ↦[arg5.view.set]{fullShare} harg5.unread w)
    ∗ (∃ f, (arg7.view.loc (c : Thread nD τ) ↦[arg7.view.set]{fullShare} f) ∗ ⌜k = 0 ∨ On arg7.view f (AC ab ax dy w) (· < 128 * k)⌝)
    ∗ (∃ f, (arg8.view.loc (c : Thread nD τ) ↦[arg8.view.set]{fullShare} f) ∗ ⌜k = 0 ∨ On arg8.view f (AX ab ac dy w) (· < 128 * k)⌝)
    ∗ (∃ f, (arg11.view.loc (c : Thread nD τ) ↦[arg11.view.set]{fullShare} f) ∗ ⌜On arg11.view f (Q ab dy) (fun n => n < 128 * k0_t1_loop.trips ∨ 4096 ≤ n)⌝))

set_option warn.classDefReducibility false in
@[sl_loop] def loop2 : Idealize.ShloMosaic.LoopInv (M := 𝕄) Idealize.ShloMosaic.frame (wpE (defs₀ (F := F)) 𝒱 (c : Thread nD τ) bd) E
    k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11) where
  inv k _ := inv2 (F := F) c arg1 harg1 arg2 harg2 arg3 harg3 arg4 harg4 arg5 harg5 arg7 arg8 arg11 ab ac ax dy w k
  step k acc := by
    have hk : k.val < 32 := Nat.lt_of_lt_of_le k.isLt k0_t2_abs.2.1
    unfold inv2 k0_t2_body
    iintro ⟨H1, H4, H2, H3, H5, ⟨%f7, H7, %h7⟩, ⟨%f8, H8, %h8⟩, ⟨%f11, H11, %h11⟩⟩
    sl_exec
    sl_step
    have e2 := ld_unread (Val := Elt F) harg2 ac
    have e3 := ld_unread (Val := Elt F) harg3 ax
    have e5 := ld_unread (Val := Elt F) harg5 w
    have e11 : ∀ r, arg11.view.readAt (Elt F) r.toLoadRect f11 = View.ld (Val := Elt F) (e' := .f32) (Q ab dy) r := fun r => by rw [View.readAt_eq_ld, h11.read_eq (fun n _ => by rw [trips1]; omega)]
    iframe H1 H4 H2 H3 H5
    sl_unfold_words
    simp only [e2, e3, e5, e11]
    isplitl [H7]
    · iexists _; isplitl [H7]; · iexact H7
      ipureintro
      refine .inr (On.store (W := 128) (S := (· < 128 * k.val)) (h := On.start h7) (off6 k) rfl rfl (fun x y h0 h1 => ?_) (fun n hn => by omega))
      rw [AC, ← stack_at _ k.val x y h0 h1, at2_val]; rfl
    isplitl [H8]
    · iexists _; isplitl [H8]; · iexact H8
      ipureintro
      refine .inr (On.store (W := 128) (S := (· < 128 * k.val)) (h := On.start h8) (off6 k) rfl rfl (fun x y h0 h1 => ?_) (fun n hn => by omega))
      rw [AX, ← stack_at _ k.val x y h0 h1, at2_val]; rfl
    · iexists _; isplitl [H11]; · iexact H11
      ipureintro
      exact h11

end Cert.MixAIdeal.Hand

end
-- ==== Proof.MixARun.lean ====
/- The body of the first mixer's backward call run once: what it leaves in every output. -/
module

public import proofs.«01_k».proof.Proof.Held
public import proofs.«01_k».proof.Proof.MixALoops
public import Idealize.ShloMosaic.Lib.Claim
public import proofs.«01_k».proof.Proof.Gen.MixAIdeal.Frame

@[expose] public section

noncomputable section

namespace Cert.MixAIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.MixAIdeal Cert.MixAIdeal.Gen Cert.Rows

variable {F : FTy → Type} [FloatOps F]

local notation "𝕄" => MT nD τ sig Unit (Elt F) ℕ (UR sig nD τ) ℕ

/-- On whole buffers, the inputs' at their contents and the others at anything, the body ends with the inputs unchanged
    and the outputs at the words named. -/

theorem kernel (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S3x256 .f32) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S3x256 .f32) (harg9 : arg9.IsWhole) (arg10 : Memref sig .tc .vmem S4104x256 .f32) (harg10 : arg10.IsWhole) (arg11 : Memref sig .tc .vmem S4104x256 .f32) (harg11 : arg11.IsWhole)
    (x0 : Vec F S4096x256 .f32) (x1 : Vec F S4096x256 .f32) (x2 : Vec F S4096x256 .f32) (x3 : Vec F S4096x256 .f32) (x4 : Vec F S3x256 .f32) (E : Set ℕ) (K : PUnit → sProp 𝕄) :
    iprop(held c arg1 x0 ∗ held c arg2 x1 ∗ held c arg3 x2 ∗ held c arg4 x3 ∗ held c arg5 x4 ∗ (∃ d, held c arg6 d) ∗ (∃ d, held c arg7 d) ∗ (∃ d, held c arg8 d) ∗ (∃ d, held c arg9 d) ∗ (∃ d, held c arg10 d) ∗ (∃ d, held c arg11 d)
      ∗ (iprop(held c arg1 x0 ∗ held c arg2 x1 ∗ held c arg3 x2 ∗ held c arg4 x3 ∗ held c arg5 x4 ∗ held c arg6 (AB x1 x2 x3 x4) ∗ held c arg7 (AC x0 x2 x3 x4) ∗ held c arg8 (AX x0 x1 x3 x4) ∗ held c arg9 (DW x0 x1 x2 x3 32) ∗ (∃ d, held c arg10 d) ∗ (∃ d, held c arg11 d)) -∗ K ⟨⟩))
    ⊢ wp frame (wpE (defs₀ (F := F)) Variants.none c none) E (cc0_mix_a_bwd i arg1 harg1 arg2 harg2 arg3 harg3 arg4 harg4 arg5 harg5 arg6 harg6 arg7 harg7 arg8 harg8 arg9 harg9 arg10 harg10 arg11 harg11) K := by
  simp only [cc0_mix_a_bwd_eq_skeleton]; unfold cc0_mix_a_bwd_skel
  unfold held owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  have z9 : On arg9.view (arg9.view.writes (Elt F) arg9.view.junk [⟨Rect.unit (s := S3x256) ![0, 0] S3x256.size inb_S3x256_S3x256_0_0, k0_pay3 (F := F)⟩]) (DW x0 x1 x2 x3 0) (fun _ => True) :=
    On.mono (S := fun n => 0 ≤ n ∧ n < 3) (On.store (W := 3) (S := fun _ => False) (h := On.none _ _ fun _ h => h) rfl rfl rfl
      (fun x y h0 h1 => congrArg (k0_pay3 (F := F)) (funext fun a => by
        match a with
        | ⟨0, _⟩ => exact Fin.ext (by show (x 0).val = (y 0).val; omega)
        | ⟨1, _⟩ => exact Fin.ext h1.symm)) (fun n hn => .inl (by omega))) (fun n hn _ => ⟨Nat.zero_le _, hn⟩)
  have z10 : On arg10.view (arg10.view.writes (Elt F) fs0 [⟨Rect.unit (s := S4104x256) ![0, 0] S8x256.size inb_S4104x256_S8x256_0_0, k0_pay1 (F := F)⟩]) (P x1 x2) (· < 8 + 128 * 0) :=
    On.store (W := 8) (S := fun _ => False) (h := On.none _ _ fun _ h => h) rfl rfl rfl (fun x y h0 h1 => P_zero x1 x2 x y h0 h1) (fun n hn => .inl (by omega))
  have z11' : On arg11.view (arg11.view.writes (Elt F) fs1 [⟨Rect.unit (s := S4104x256) ![4096, 0] S8x256.size inb_S4104x256_S8x256_4096_0, k0_pay2 (F := F)⟩]) (Q x0 x3) (fun n => 4096 ≤ n ∧ n < 4104) :=
    On.store (W := 8) (S := fun _ => False) (h := On.none _ _ fun _ h => h) rfl rfl rfl (fun x y h0 h1 => Q_zero x0 x3 x y h0 h1) (fun n hn => .inl hn)
  have z11 : On arg11.view (arg11.view.writes (Elt F) fs1 [⟨Rect.unit (s := S4104x256) ![4096, 0] S8x256.size inb_S4104x256_S8x256_4096_0, k0_pay2 (F := F)⟩]) (Q x0 x3) (fun n => n < 128 * 0 ∨ 4096 ≤ n) :=
    z11'.mono (fun n hn h => ⟨by omega, hn⟩)
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; exact (On.start hL6).read_eq fun n hn => (by rw [trips1]; exact hn : n < 128 * k0_t1_loop.trips)
  isplitl [H6]
  · iexists _; isplitr; swap; · iexact H6
    ipureintro; exact (On.start hL19).read_eq fun n hn => (by rw [trips2]; exact hn : n < 128 * k0_t2_loop.trips)
  isplitl [H7]
  · iexists _; isplitr; swap; · iexact H7
    ipureintro; exact (On.start hL21).read_eq fun n hn => (by rw [trips2]; exact hn : n < 128 * k0_t2_loop.trips)
  isplitl [H8]
  · iexists _; isplitr; swap; · iexact H8
    ipureintro; exact (trips1 ▸ hL8.read_eq fun _ _ => trivial : arg9.view.read (Elt F) fL1 = DW x0 x1 x2 x3 32)
  isplitl [HS0]
  · iexists _, _; isplitr; swap; · iexact HS0
    ipureintro; rfl
  iexists _, _; isplitr; swap; · iexact HS1
  ipureintro; rfl

/-- The buffer that holds window `w`'s block at point `t`. -/
abbrev st (t : Fin cfg0.N) (w : Fin cfg0.W) := (cfg0.win w).stage (cfg0.slots t w)

variable (m : (ℓ : Loc nD τ sig) → Buf (Elt F) ℓ) (ρ : Dev nD → PrngReg)

abbrev sc0 : Memref sig .tc .vmem S4104x256 .f32 := Memref.whole cc0_scratch0
abbrev sc1 : Memref sig .tc .vmem S4104x256 .f32 := Memref.whole cc0_scratch1

/-- The region's invariant with the scratch buffers owned at some contents. -/
theorem Phi_eq (c : Dev nD) :
    (Pipeline.ΦA spec0 c : sProp 𝕄) = iprop(iprop((∃ d, held c sc0 d) ∗ (∃ d, held c sc1 d)) ∗ (∃ r, prngReg c r)) := by
  unfold Pipeline.ΦA; rw [scopedRest0_eq]; simp only [sc0, sc1, owns_whole]; try rfl

/-- What output 5 holds after the body. -/
def out5 (c : Dev nD) (t : Fin cfg0.N) : Vec F S4096x256 .bf16 := AB (iblk m c 1 t) (iblk m c 2 t) (iblk m c 3 t) (iblk m c 4 t)
/-- What output 6 holds after the body. -/
def out6 (c : Dev nD) (t : Fin cfg0.N) : Vec F S4096x256 .bf16 := AC (iblk m c 0 t) (iblk m c 2 t) (iblk m c 3 t) (iblk m c 4 t)
/-- What output 7 holds after the body. -/
def out7 (c : Dev nD) (t : Fin cfg0.N) : Vec F S4096x256 .bf16 := AX (iblk m c 0 t) (iblk m c 1 t) (iblk m c 3 t) (iblk m c 4 t)
/-- What output 8 holds after the body. -/
def out8 (c : Dev nD) (t : Fin cfg0.N) : Vec F S3x256 .f32 := DW (iblk m c 0 t) (iblk m c 1 t) (iblk m c 2 t) (iblk m c 3 t) 32

/-- What the region is entered and left with. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
    | ⟨8, _⟩ => out8 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_5 (c : Dev nD) (t : Fin cfg0.N) : (dats m 0 c).after 5 t = out5 m c t := by dsimp only [dats]
theorem after_6 (c : Dev nD) (t : Fin cfg0.N) : (dats m 0 c).after 6 t = out6 m c t := by dsimp only [dats]
theorem after_7 (c : Dev nD) (t : Fin cfg0.N) : (dats m 0 c).after 7 t = out7 m c t := by dsimp only [dats]
theorem after_8 (c : Dev nD) (t : Fin cfg0.N) : (dats m 0 c).after 8 t = out8 m c t := by dsimp only [dats]
/-- Before the body every input's buffer holds its block. -/
theorem before (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) :=
  ⟨before0_0_of m _ (A_eq m c 0) (fun _ => rfl) t, before0_1_of m _ (A_eq m c 1) (fun _ => rfl) t, before0_2_of m _ (A_eq m c 2) (fun _ => rfl) t, before0_3_of m _ (A_eq m c 3) (fun _ => rfl) t, before0_4_of m _ (A_eq m c 4) (fun _ => rfl) t⟩

/-- The body at any point. -/
theorem sound (c : Dev nD) (t : Fin cfg0.N) :
    iprop((dats m 0 c).Φ t.castSucc ∗ (dats m 0 c).owesAt () t.castSucc ∗ (∃ d, held c (st t 0) ((dats m 0 c).before 0 t d)) ∗ (∃ d, held c (st t 1) ((dats m 0 c).before 1 t d)) ∗ (∃ d, held c (st t 2) ((dats m 0 c).before 2 t d)) ∗ (∃ d, held c (st t 3) ((dats m 0 c).before 3 t d)) ∗ (∃ d, held c (st t 4) ((dats m 0 c).before 4 t d)) ∗ (∃ d, held c (st t 5) ((dats m 0 c).before 5 t d)) ∗ (∃ d, held c (st t 6) ((dats m 0 c).before 6 t d)) ∗ (∃ d, held c (st t 7) ((dats m 0 c).before 7 t d)) ∗ (∃ d, held c (st t 8) ((dats m 0 c).before 8 t d)))
    ⊢ wp frame (wpE (defs₀ (F := F)) Variants.none c none) Set.univ (bodyAt0 t)
      (fun _ => iprop((dats m 0 c).Φ t.succ ∗ (dats m 0 c).owesAt () t.succ ∗ held c (st t 0) (iblk m c 0 t) ∗ held c (st t 1) (iblk m c 1 t) ∗ held c (st t 2) (iblk m c 2 t) ∗ held c (st t 3) (iblk m c 3 t) ∗ held c (st t 4) (iblk m c 4 t) ∗ held c (st t 5) (out5 m c t) ∗ held c (st t 6) (out6 m c t) ∗ held c (st t 7) (out7 m c t) ∗ held c (st t 8) (out8 m c t))) := by
  simp only [before m c t]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, Phi_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernel c (grid0.coords t) _ _ _ _ _ _ _ _ _ _ _ _ _ _ _ _ _ _ _ _ _ _ (iblk m c 0 t) (iblk m c 1 t) (iblk m c 2 t) (iblk m c 3 t) (iblk m c 4 t) Set.univ _)
  iframe H0 H1 H2 H3 H4
  isplitl [H5]; · iexists _; iexact H5
  isplitl [H6]; · iexists _; iexact H6
  isplitl [H7]; · iexists _; iexact H7
  isplitl [H8]; · iexists _; iexact H8
  iframe HS0 HS1
  iintro ⟨H0, H1, H2, H3, H4, H5, H6, H7, H8, HS0, HS1⟩
  isplitl [HS0 HS1 Hg]
  · isplitl [HS0 HS1]
    · isplitl [HS0]; · iexact HS0
      iexact HS1
    iexact Hg
  iframe Ho H0 H1 H2 H3 H4 H5 H6 H7 H8

theorem defs₀_row (t : Fin cfg0.N) : defs₀ (F := F) .tc cfg0.body (cfg0.bodyArgs t (cfg0.slots t)) = bodyAt0 t := by
  unfold defs₀; rw [Defs.onTc_tc]

/-- What the region asks of the body. -/
theorem obligation (c : Dev nD) : Pipeline.BodyObligation (dats (F := F) m 0 c) (defs₀ (F := F)) Variants.none () Set.univ := fun t => by
  rw [bigSep_W0, bigSep_W0, defs₀_row]
  exact triple_restated (sound m c t) rfl .rfl fun _ => .rfl

set_option backward.isDefEq.respectTransparency.types false in
/-- The whole run, every counter at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The whole run. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.MixAIdeal.Hand

end
-- ==== Proof.Grid.lean ====
/- Matrices read by numbered rows and lanes, zero outside, and sums over bands of rows. -/
module

public import Idealize.ShloMosaic.Lib.Pointwise
public import Idealize.ShloMosaic.Lib.Pipeline.ValueKit
public import Idealize.ShloMosaic.Lib.Exec

@[expose] public section

noncomputable section

namespace Cert.Grid

open Idealize.ShloMosaic

variable {a b : ℕ}

/-- The entry at row `n` and lane `c`, zero outside the matrix. -/
def at2 (f : (⟨2, ![a, b]⟩ : Shape).Idx → EReal) (n c : ℕ) : EReal :=
  if h : n < a ∧ c < b then f (ix2 ⟨n, h.1⟩ ⟨c, h.2⟩) else 0

theorem at2_ix (f : (⟨2, ![a, b]⟩ : Shape).Idx → EReal) (i : Fin a) (j : Fin b) : f (ix2 i j) = at2 f i j := by
  unfold at2; rw [dif_pos ⟨i.isLt, j.isLt⟩]

theorem at2_out (f : (⟨2, ![a, b]⟩ : Shape).Idx → EReal) {n c : ℕ} (h : a ≤ n) : at2 f n c = 0 :=
  dif_neg fun e => by omega

/-- A load of a block reads the matrix at the block's rows and lanes. -/
theorem ld_ix {p q : ℕ} (f : (⟨2, ![a, b]⟩ : Shape).Idx → EReal) (off : Fin 2 → ℕ) (inb)
    (i : Fin p) (j : Fin q) : f ((Rect.unit (s := ⟨2, ![a, b]⟩) off ![p, q] inb).idx (ix2 i j)) = at2 f (off 0 + i) (off 1 + j) := by
  refine (congrArg f (ix2_eta _).symm).trans ((at2_ix f _ _).trans ?_)
  exact congrArg₂ (at2 f) (Rect.idx_unit_val _ _ _ _ 0) (Rect.idx_unit_val _ _ _ _ 1)

/-- The rows of `K` bands of `B` rows are the first `B * K` rows. -/
theorem sum_bands {M : Type} [AddCommMonoid M] (f : ℕ → M) (B K : ℕ) :
    ∑ k ∈ Finset.range K, ∑ r : Fin B, f (B * k + r) = ∑ n ∈ Finset.range (B * K), f n := by
  induction K with
  | zero => simp
  | succ K ih => rw [Finset.sum_range_succ, ih, Nat.mul_succ, Finset.sum_range_add, Finset.sum_range (n := B)]

/-- 256 lanes of a matrix from lane `o` on. -/
def col {b : ℕ} (o : ℕ) (ho : o + 256 ≤ b) (z : (⟨2, ![4096, b]⟩ : Shape).Idx → EReal) : (⟨2, ![4096, 256]⟩ : Shape).Idx → EReal :=
  fun y => z (ix2 (y 0) ⟨o + (y 1).val, by have : (y 1).val < 256 := (y 1).isLt; omega⟩)

theorem at2_col {b : ℕ} (o : ℕ) (ho : o + 256 ≤ b) (z : (⟨2, ![4096, b]⟩ : Shape).Idx → EReal) (n c : ℕ) (hc : c < 256) :
    at2 (col o ho z) n c = at2 z n (o + c) := by
  by_cases h : n < 4096
  · exact (at2_ix (col o ho z) ⟨n, h⟩ ⟨c, hc⟩).symm.trans (at2_ix z ⟨n, h⟩ ⟨o + c, by omega⟩)
  · rw [at2_out _ (by omega), at2_out _ (by omega)]

end Cert.Grid

end
-- ==== Proof.MixAV.lean ====
/- The values of the first mixer's backward call, entry by entry. -/
module

public import proofs.«01_k».proof.Proof.Held
public import proofs.«01_k».proof.Proof.MixARun
public import proofs.«01_k».proof.Proof.Gen.MixARefIdeal.Read
public import proofs.«01_k».proof.Proof.Grid

@[expose] public section

noncomputable section

namespace Cert.MixAIdeal.Hand

open Idealize.ShloMosaic Idealize.ShloMosaic.TcCoe Idealize.SL.Sem
open Cert.Held Cert.MixAIdeal Cert.MixAIdeal.Gen Cert.Grid

variable (ab ac ax dy : Vec Ideal S4096x256 .f32) (w : Vec Ideal S3x256 .f32)

theorem stack_ix (W : ℕ → S128x256.Idx → EReal) (g : ℕ → ℕ → EReal)
    (h : ∀ k, k < 32 → ∀ (r : Fin 128) (c : Fin 256), W k (ix2 r c) = g (128 * k + r) c) (y : S4096x256.Idx) :
    stack W y = g (y 0).val (y 1).val := by
  have hy : (y 0).val < 4096 := (y 0).isLt
  refine (h _ (by omega) _ _).trans ?_
  show g (128 * ((y 0).val / 128) + (y 0).val % 128) _ = _
  rw [Nat.div_add_mod]

theorem at1_nat {k : ℕ} (hk : k < 32) : (at1 k).val = k := Nat.mod_eq_of_lt (by rw [trips1]; exact hk)
theorem at2_nat {k : ℕ} (hk : k < 32) : (Hand.at2 k).val = k := Nat.mod_eq_of_lt (by rw [trips2]; exact hk)

theorem ld_band (f : Vec Ideal S4096x256 .f32) {k : ℕ} (hk : k < 32) (r : Fin 128) (c : Fin 256) :
    View.ld f (band (at1 k)) (ix2 r c) = Grid.at2 f (128 * k + r) c := by
  refine (ld_ix f (k0_off1 (at1 k)) (k0_off1_inb (at1 k)) r c).trans ?_
  rw [off1, at1_nat hk]; simp

theorem ld_band2 (f : Vec Ideal S4096x256 .f32) {k : ℕ} (hk : k < 32) (r : Fin 128) (c : Fin 256) :
    View.ld f (band2 (Hand.at2 k)) (ix2 r c) = Grid.at2 f (128 * k + r) c := by
  refine (ld_ix f (k0_off6 (Hand.at2 k)) (k0_off6_inb (Hand.at2 k)) r c).trans ?_
  rw [off6, at2_nat hk]; simp

theorem ld_tap0 (f : Vec Ideal S3x256 .f32) (i : Fin 1) (c : Fin 256) : View.ld f tap0 (ix2 i c) = Grid.at2 f 0 c := by
  refine (ld_ix f ![0, 0] inb_S3x256_S1x256_0_0 i c).trans ?_; simp
theorem ld_tap1 (f : Vec Ideal S3x256 .f32) (i : Fin 1) (c : Fin 256) : View.ld f tap1 (ix2 i c) = Grid.at2 f 1 c := by
  refine (ld_ix f ![1, 0] inb_S3x256_S1x256_1_0 i c).trans ?_; simp
theorem ld_tap2 (f : Vec Ideal S3x256 .f32) (i : Fin 1) (c : Fin 256) : View.ld f tap2 (ix2 i c) = Grid.at2 f 2 c := by
  refine (ld_ix f ![2, 0] inb_S3x256_S1x256_2_0 i c).trans ?_; simp

/-- The branches' product led by `p` rows of zeros. -/
def lead (p n c : ℕ) : EReal := if n < p then 0 else Grid.at2 ac (n - p) c * Grid.at2 ax (n - p) c
/-- The gradient of the convolution's output, zero past the end. -/
def dq (n c : ℕ) : EReal := Grid.at2 dy n c * Grid.at2 ab n c

theorem lead_shift (n c j : ℕ) : lead ac ax 8 (n + 6 + j) c = lead ac ax 2 (n + j) c := by
  unfold lead
  rw [show n + 6 + j - 8 = n + j - 2 by omega]
  exact if_congr (by omega) rfl rfl

theorem P_ix (n c : ℕ) (hn : n < 4104) (hc : c < 256) : Grid.at2 (P (F := Ideal) ac ax) n c = lead ac ax 8 n c := by
  unfold Grid.at2; rw [dif_pos ⟨hn, hc⟩]; unfold P lead
  by_cases h : n < 8
  · refine (dif_pos (show ((ix2 ⟨n, hn⟩ ⟨c, hc⟩ : S4104x256.Idx) 0).val < 8 from h)).trans ?_
    rw [if_pos h]; pointwise [k0_pay1]
  · refine (dif_neg (show ¬ ((ix2 ⟨n, hn⟩ ⟨c, hc⟩ : S4104x256.Idx) 0).val < 8 from h)).trans ?_
    rw [if_neg h]
    refine stack_ix _ (fun n c => Grid.at2 ac n c * Grid.at2 ax n c) (fun k hk r c => ?_) _
    have h1 := ld_band ac hk r c
    have h2 := ld_band ax hk r c
    generalize View.ld ac (band (at1 k)) = u at h1 ⊢
    generalize View.ld ax (band (at1 k)) = v at h2 ⊢
    pointwise [k0_pay12]
    rw [h1, h2]

theorem Q_ix (n c : ℕ) (hn : n < 4104) (hc : c < 256) : Grid.at2 (Q (F := Ideal) ab dy) n c = dq ab dy n c := by
  unfold Grid.at2; rw [dif_pos ⟨hn, hc⟩]; unfold Q dq
  by_cases h : n < 4096
  · refine (dif_pos (show ((ix2 ⟨n, hn⟩ ⟨c, hc⟩ : S4104x256.Idx) 0).val < 4096 from h)).trans ?_
    refine stack_ix _ (fun n c => Grid.at2 dy n c * Grid.at2 ab n c) (fun k hk r c => ?_) _
    have h1 := ld_band dy hk r c
    have h2 := ld_band ab hk r c
    generalize View.ld dy (band (at1 k)) = u at h1 ⊢
    generalize View.ld ab (band (at1 k)) = v at h2 ⊢
    pointwise [k0_pay5, k0_pay4]
    rw [h1, h2]
  · refine (dif_neg (show ¬ ((ix2 ⟨n, hn⟩ ⟨c, hc⟩ : S4104x256.Idx) 0).val < 4096 from h)).trans ?_
    rw [at2_out _ (by omega : 4096 ≤ n), zero_mul]
    pointwise [k0_pay2]

theorem near_ix {k : ℕ} (hk : k < 32) (r : Fin 136) (c : Fin 256) :
    near (F := Ideal) ac ax (at1 k) (ix2 r c) = lead ac ax 8 (128 * k + r) c := by
  unfold near
  refine (ld_ix (P (F := Ideal) ac ax) (k0_off3 (at1 k)) (k0_off3_inb (at1 k)) r c).trans ?_
  rw [off3, at1_nat hk]
  have := r.isLt
  exact (congrArg₂ (Grid.at2 _) rfl (Nat.zero_add _)).trans (P_ix ac ax _ _ (show 128 * k + r.val < 4104 by omega) c.isLt)

theorem far_ix {k : ℕ} (hk : k < 32) (r : Fin 136) (c : Fin 256) :
    far (F := Ideal) ab dy (Hand.at2 k) (ix2 r c) = dq ab dy (128 * k + r) c := by
  unfold far
  refine (ld_ix (Q (F := Ideal) ab dy) (k0_off5 (Hand.at2 k)) (k0_off5_inb (Hand.at2 k)) r c).trans ?_
  rw [off5, at2_nat hk]
  have := r.isLt
  exact (congrArg₂ (Grid.at2 _) rfl (Nat.zero_add _)).trans (Q_ix ab dy _ _ (show 128 * k + r.val < 4104 by omega) c.isLt)

theorem AB_ix (n : Fin 4096) (l : Fin 256) : AB (F := Ideal) ac ax dy w (ix2 n l) = Grid.at2 dy n l *
    (Grid.at2 w 0 l * lead ac ax 2 n l + Grid.at2 w 1 l * lead ac ax 2 (n + 1) l
      + Grid.at2 w 2 l * lead ac ax 2 (n + 2) l) := by
  have hl := lead_shift ac ax
  refine stack_ix _ (fun n c => Grid.at2 dy n c * (Grid.at2 w 0 c * lead ac ax 2 n c + Grid.at2 w 1 c * lead ac ax 2 (n + 1) c
      + Grid.at2 w 2 c * lead ac ax 2 (n + 2) c)) (fun k hk r c => ?_) _
  have := r.isLt
  have h0 := ld_band dy hk r c
  have h1 := ld_tap0 w 0 c
  have h2 := ld_tap1 w 0 c
  have h3 := ld_tap2 w 0 c
  have h4 := near_ix ac ax hk
  generalize View.ld dy (band (at1 k)) = u at h0 ⊢
  generalize View.ld w tap0 = u1 at h1 ⊢
  generalize View.ld w tap1 = u2 at h2 ⊢
  generalize View.ld w tap2 = u3 at h3 ⊢
  generalize near (F := Ideal) ac ax (at1 k) = v at h4 ⊢
  pointwise [k0_pay16, k0_pay13, k0_pay14, k0_pay15]
  rw [h0, h1, h2, h3, h4, h4, h4, ← hl _ _ 1, ← hl _ _ 2, show lead ac ax 2 (128 * k + r) c = lead ac ax 8 (128 * k + r + 6 + 0) c from (hl _ _ 0).symm]
  refine congrArg _ (congrArg₂ (· + ·) (congrArg₂ (· + ·) (congrArg _ ?_) (congrArg _ ?_)) (congrArg _ ?_)) <;>
    exact congrArg₂ _ (by dsimp only; omega) rfl

theorem dp_ix {k : ℕ} (hk : k < 32) (r : Fin 128) (c : Fin 256) :
    k0_pay9 (far (F := Ideal) ab dy (Hand.at2 k)) (View.ld w tap0) (View.ld w tap1) (View.ld w tap2) (ix2 r c)
     = Grid.at2 w 0 c * dq ab dy (128 * k + r + 2) c + Grid.at2 w 1 c * dq ab dy (128 * k + r + 1) c
      + Grid.at2 w 2 c * dq ab dy (128 * k + r) c := by
  have := r.isLt
  have h1 := ld_tap0 w 0 c
  have h2 := ld_tap1 w 0 c
  have h3 := ld_tap2 w 0 c
  have h4 := far_ix ab dy hk
  generalize View.ld w tap0 = u1 at h1 ⊢
  generalize View.ld w tap1 = u2 at h2 ⊢
  generalize View.ld w tap2 = u3 at h3 ⊢
  generalize far (F := Ideal) ab dy (Hand.at2 k) = v at h4 ⊢
  pointwise [k0_pay9]
  rw [h1, h2, h3, h4, h4, h4]
  refine congrArg₂ (· + ·) (congrArg₂ (· + ·) (congrArg _ ?_) (congrArg _ ?_)) rfl <;> exact congrArg₂ _ (by dsimp only; omega) rfl

theorem AC_ix (n : Fin 4096) (l : Fin 256) : AC (F := Ideal) ab ax dy w (ix2 n l) =
    (Grid.at2 w 0 l * dq ab dy (n + 2) l + Grid.at2 w 1 l * dq ab dy (n + 1) l
      + Grid.at2 w 2 l * dq ab dy n l) * Grid.at2 ax n l := by
  refine stack_ix _ (fun n c => (Grid.at2 w 0 c * dq ab dy (n + 2) c + Grid.at2 w 1 c * dq ab dy (n + 1) c
      + Grid.at2 w 2 c * dq ab dy n c) * Grid.at2 ax n c) (fun k hk r c => ?_) _
  have h0 := ld_band2 ax hk r c
  have h1 := dp_ix ab dy w hk r c
  generalize View.ld ax (band2 (Hand.at2 k)) = u at h0 ⊢
  rw [← h1, ← h0]
  generalize View.ld w tap0 = u1
  generalize View.ld w tap1 = u2
  generalize View.ld w tap2 = u3
  pointwise [k0_pay10]

theorem AX_ix (n : Fin 4096) (l : Fin 256) : AX (F := Ideal) ab ac dy w (ix2 n l) =
    (Grid.at2 w 0 l * dq ab dy (n + 2) l + Grid.at2 w 1 l * dq ab dy (n + 1) l
      + Grid.at2 w 2 l * dq ab dy n l) * Grid.at2 ac n l := by
  refine stack_ix _ (fun n c => (Grid.at2 w 0 c * dq ab dy (n + 2) c + Grid.at2 w 1 c * dq ab dy (n + 1) c
      + Grid.at2 w 2 c * dq ab dy n c) * Grid.at2 ac n c) (fun k hk r c => ?_) _
  have h0 := ld_band2 ac hk r c
  have h1 := dp_ix ab dy w hk r c
  generalize View.ld ac (band2 (Hand.at2 k)) = u at h0 ⊢
  rw [← h1, ← h0]
  generalize View.ld w tap0 = u1
  generalize View.ld w tap1 = u2
  generalize View.ld w tap2 = u3
  pointwise [k0_pay11]

theorem pay6_ix (v : Vec Ideal S136x256 .f32) (d a : Vec Ideal S128x256 .f32) (p : Vec Ideal S1x256 .f32) (c : Fin 256) :
    k0_pay6 (F := Ideal) (k0_pay13 v) d a p (ix2 0 c)
      = p (ix2 0 c) + ∑ r : Fin 128, d (ix2 r c) * a (ix2 r c) * v (ix2 ⟨r + 6 + 0, by omega⟩ c) := by
  pointwise [k0_pay6, k0_pay4, k0_pay13]
  refine congrArg _ (Finset.sum_congr rfl fun r _ => congrArg _ (congrArg v (congrArg₂ ix2 (Fin.ext ?_) rfl)))
  have := r.isLt
  dsimp only; omega

theorem pay7_ix (v : Vec Ideal S136x256 .f32) (d a : Vec Ideal S128x256 .f32) (p : Vec Ideal S1x256 .f32) (c : Fin 256) :
    k0_pay7 (F := Ideal) (k0_pay14 v) d a p (ix2 0 c)
      = p (ix2 0 c) + ∑ r : Fin 128, d (ix2 r c) * a (ix2 r c) * v (ix2 ⟨r + 6 + 1, by omega⟩ c) := by
  pointwise [k0_pay7, k0_pay4, k0_pay14]
  refine congrArg _ (Finset.sum_congr rfl fun r _ => congrArg _ (congrArg v (congrArg₂ ix2 (Fin.ext ?_) rfl)))
  have := r.isLt
  dsimp only; omega

theorem pay8_ix (v : Vec Ideal S136x256 .f32) (d a : Vec Ideal S128x256 .f32) (p : Vec Ideal S1x256 .f32) (c : Fin 256) :
    k0_pay8 (F := Ideal) (k0_pay15 v) d a p (ix2 0 c)
      = p (ix2 0 c) + ∑ r : Fin 128, d (ix2 r c) * a (ix2 r c) * v (ix2 ⟨r + 6 + 2, by omega⟩ c) := by
  pointwise [k0_pay8, k0_pay4, k0_pay15]
  refine congrArg _ (Finset.sum_congr rfl fun r _ => congrArg _ (congrArg v (congrArg₂ ix2 (Fin.ext ?_) rfl)))
  have := r.isLt
  dsimp only; omega

/-- The taps' gradient after `K` bands. -/
theorem DW_ix (K : ℕ) (hK : K ≤ 32) (a : Fin 3) (c : Fin 256) : DW (F := Ideal) ab ac ax dy K (ix2 a c)
    = ∑ k ∈ Finset.range K, ∑ r : Fin 128, dq ab dy (128 * k + r) c * lead ac ax 2 (128 * k + r + a) c := by
  have hl := lead_shift ac ax
  induction K with
  | zero => unfold DW; pointwise [k0_pay3]; rfl
  | succ K ih =>
    have hk : K < 32 := hK
    rw [Finset.sum_range_succ, ← ih (by omega)]
    have ha : a = 0 ∨ a = 1 ∨ a = 2 := by omega
    have e : ∀ (j : ℕ) (hj : j < 3), ∑ r : Fin 128, View.ld dy (band (at1 K)) (ix2 r c) * View.ld ab (band (at1 K)) (ix2 r c)
          * near (F := Ideal) ac ax (at1 K) (ix2 ⟨r + 6 + j, by omega⟩ c)
        = ∑ r : Fin 128, dq ab dy (128 * K + r) c * lead ac ax 2 (128 * K + r + j) c := fun j hj =>
      Finset.sum_congr rfl fun r _ => by
        rw [ld_band dy hk, ld_band ab hk, near_ix ac ax hk, ← lead_shift]
        exact congrArg _ (congrArg₂ _ (by show 128 * K + (r.val + 6 + j) = _; omega) rfl)
    rw [show DW (F := Ideal) ab ac ax dy (K + 1) = _ from DW.eq_2 ..]
    rcases ha with rfl | rfl | rfl
    · exact (if_pos rfl).trans ((pay6_ix _ _ _ _ c).trans (congrArg₂ (· + ·) ((ld_tap0 _ 0 c).trans (at2_ix _ 0 c).symm) (e 0 (by decide))))
    · exact (if_neg (by simp)).trans ((if_pos rfl).trans ((pay7_ix _ _ _ _ c).trans
        (congrArg₂ (· + ·) ((ld_tap1 _ 0 c).trans (at2_ix _ 1 c).symm) (e 1 (by decide)))))
    · exact (if_neg (by simp)).trans ((if_neg (by simp)).trans ((pay8_ix _ _ _ _ c).trans
        (congrArg₂ (· + ·) ((ld_tap2 _ 0 c).trans (at2_ix _ 2 c).symm) (e 2 (by decide)))))

variable (z : FVec Ideal S4096x2048 .f32) (d : FVec Ideal S4096x1024 .f32)

theorem ab_eq (y : S4096x256.Idx) : AB (F := Ideal) (col 256 (by decide) z) (col 512 (by decide) z) (col 0 (by decide) d) w y
    = Cert.MixARefIdeal.Read.val_main_v68 (F := Ideal) z d w y := by
  idx_vars y
  have hc : y1.val < 256 := y1.isLt
  rw [AB_ix, ← Cert.MixARefIdeal.Read.val_main_v68_eq]
  unfold lead
  simp only [at2_col _ _ _ _ _ hc]
  pointwise
  simp only [at2_ix z, at2_ix d, at2_ix w, Nat.zero_add, dite_eq_ite, ix2_0, ix2_1, Fin.val_zero, Fin.val_one, Fin.val_two]
  refine congrArg _ (congrArg₂ (· + ·) (congrArg₂ (· + ·) rfl ?_) ?_)
  · rw [Nat.add_comm 1]
  · rw [if_neg (by omega), Nat.add_sub_cancel]
theorem inside {a b b' : ℕ} (u : (⟨2, ![a, b]⟩ : Shape).Idx → EReal) (v : (⟨2, ![a, b']⟩ : Shape).Idx → EReal) (e : EReal) (n c c' : ℕ) :
    (if n < a then e * (Grid.at2 u n c * Grid.at2 v n c') else 0) = e * (Grid.at2 u n c * Grid.at2 v n c') := by
  by_cases h : n < a
  · exact if_pos h
  · rw [if_neg h, at2_out u (not_lt.mp h), zero_mul, mul_zero]

theorem ac_eq (y : S4096x256.Idx) : AC (F := Ideal) (col 0 (by decide) z) (col 512 (by decide) z) (col 0 (by decide) d) w y
    = Cert.MixARefIdeal.Read.val_main_v69 (F := Ideal) z d w y := by
  idx_vars y
  have hc : y1.val < 256 := y1.isLt
  rw [AC_ix, ← Cert.MixARefIdeal.Read.val_main_v69_eq]
  unfold dq
  simp only [at2_col _ _ _ _ _ hc]
  pointwise
  simp only [at2_ix z, at2_ix d, at2_ix w, Nat.zero_add, dite_eq_ite, ix2_0, ix2_1, Fin.val_zero, Fin.val_one, Fin.val_two]
  simp only [show 1 ≤ 2 + y0.val by omega, true_and]
  rw [show 2 + y0.val - 1 = y0.val + 1 by omega, Nat.add_comm 2]
  refine Eq.trans ?_ (congrArg (· * _) (congrArg₂ (· + ·) (congrArg₂ (· + ·) rfl (inside z d _ _ _ _).symm) (inside z d _ _ _ _).symm))
  ac_rfl
theorem ax_eq (y : S4096x256.Idx) : AX (F := Ideal) (col 0 (by decide) z) (col 256 (by decide) z) (col 0 (by decide) d) w y
    = Cert.MixARefIdeal.Read.val_main_v70 (F := Ideal) z d w y := by
  idx_vars y
  have hc : y1.val < 256 := y1.isLt
  rw [AX_ix, ← Cert.MixARefIdeal.Read.val_main_v70_eq]
  unfold dq
  simp only [at2_col _ _ _ _ _ hc]
  pointwise
  simp only [at2_ix z, at2_ix d, at2_ix w, Nat.zero_add, dite_eq_ite, ix2_0, ix2_1, Fin.val_zero, Fin.val_one, Fin.val_two]
  simp only [show 1 ≤ 2 + y0.val by omega, true_and]
  rw [show 2 + y0.val - 1 = y0.val + 1 by omega, Nat.add_comm 2]
  refine Eq.trans ?_ (congrArg (_ * ·) (congrArg₂ (· + ·) (congrArg₂ (· + ·) rfl (inside z d _ _ _ _).symm) (inside z d _ _ _ _).symm))
  ac_rfl
theorem dw_eq (y : S3x256.Idx) : DW (F := Ideal) (col 0 (by decide) z) (col 256 (by decide) z) (col 512 (by decide) z) (col 0 (by decide) d) 32 y
    = Cert.MixARefIdeal.Read.val_main_v63 (F := Ideal) z d y := by
  idx_vars y
  have hc : y1.val < 256 := y1.isLt
  rw [← Cert.MixARefIdeal.Read.val_main_v63_eq]
  refine (DW_ix _ _ _ _ 32 le_rfl y0 y1).trans ?_
  rw [sum_bands (fun n => dq (col 0 (by decide) z) (col 0 (by decide) d) n y1 * lead (col 256 (by decide) z) (col 512 (by decide) z) 2 (n + y0) y1)]
  unfold dq lead
  simp only [at2_col _ _ _ _ _ hc]
  pointwise
  simp only [at2_ix z, at2_ix d, Nat.zero_add, dite_eq_ite, Fin.sum_univ_one, ix2_0, ix2_1]
  have ha := y0.isLt
  rw [← Fin.sum_univ_eq_sum_range (n := 4096)]
  rcases (by omega : y0.val = 0 ∨ y0.val = 1 ∨ y0.val = 2) with h | h | h
  · rw [if_neg (by omega), if_neg (by omega), if_pos (by omega), zero_add, zero_add]
    simp only [h, mul_zero, Finset.sum_const_zero, zero_add, Nat.add_zero]
    rw [Fin.sum_univ_eq_sum_range (n := 4096) (fun x => Grid.at2 d x y1 * Grid.at2 z x y1 * if x < 2 then 0 else Grid.at2 z (x - 2) (256 + y1) * Grid.at2 z (x - 2) (512 + y1))]
    refine (Finset.sum_range_add _ 2 4094).trans ?_
    rw [Finset.sum_eq_zero (s := Finset.range 2) fun x hx => by rw [if_pos (Finset.mem_range.mp hx), mul_zero], zero_add, ← Fin.sum_univ_eq_sum_range (n := 4094)]
    refine Finset.sum_congr rfl fun x _ => ?_
    rw [if_neg (by omega), Nat.add_sub_cancel_left, mul_comm (Grid.at2 d _ _)]
  · rw [if_neg (by omega), if_pos (by omega), if_neg (by omega), zero_add, add_zero, h]
    refine Finset.sum_congr rfl fun x _ => ?_
    rw [Nat.add_comm 1, mul_comm (Grid.at2 d _ _)]
  · rw [if_pos (by omega), if_neg (by omega), if_neg (by omega), add_zero, add_zero, h]
    refine Finset.sum_congr rfl fun x _ => ?_
    rw [if_neg (by omega), Nat.add_sub_cancel, mul_comm (Grid.at2 d _ _)]

variable (m : (ℓ : Loc nD τ sig) → Buf (Elt Ideal) ℓ)

theorem idx : ∀ t : Fin cfg0.N, win0_0.index t = ![0, 0] ∧ win0_1.index t = ![0, 1] ∧ win0_2.index t = ![0, 2] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem blk0 (c : Dev nD) : iblk m c 0 t0_0 = col 0 (by decide) (inp m c main_arg0) := by
  blk_ext! [iblk, V, idx t0_0, col]
theorem blk1 (c : Dev nD) : iblk m c 1 t0_0 = col 256 (by decide) (inp m c main_arg0) := by
  blk_ext! [iblk, V, idx t0_0, col]
theorem blk2 (c : Dev nD) : iblk m c 2 t0_0 = col 512 (by decide) (inp m c main_arg0) := by
  blk_ext! [iblk, V, idx t0_0, col]
theorem blk3 (c : Dev nD) : iblk m c 3 t0_0 = col 0 (by decide) (inp m c main_arg1) := by
  blk_ext! [iblk, V, idx t0_0, col]
theorem blk4 (c : Dev nD) : iblk m c 4 t0_0 = inp m c main_arg2 := by
  blk_ext! [iblk, V, idx t0_0]

theorem final5 (c : Dev nD) (j) : (dats m 0 c).arrAt 5 (cfgs 0).N j = AB (F := Ideal) (col 256 (by decide) (inp m c main_arg0)) (col 512 (by decide) (inp m c main_arg0)) (col 0 (by decide) (inp m c main_arg1)) (inp m c main_arg2) j := by
  revert j
  refine fun j => congrFun ((dats m 0 c).arrAt_eq_of_after_last 5 t0_0 (by decide +kernel) _ fun j => ?_) j
  blk_simp
  rw [after_5]
  unfold out5
  rw [blk1, blk2, blk3, blk4]

theorem final6 (c : Dev nD) (j) : (dats m 0 c).arrAt 6 (cfgs 0).N j = AC (F := Ideal) (col 0 (by decide) (inp m c main_arg0)) (col 512 (by decide) (inp m c main_arg0)) (col 0 (by decide) (inp m c main_arg1)) (inp m c main_arg2) j := by
  revert j
  refine fun j => congrFun ((dats m 0 c).arrAt_eq_of_after_last 6 t0_0 (by decide +kernel) _ fun j => ?_) j
  blk_simp
  rw [after_6]
  unfold out6
  rw [blk0, blk2, blk3, blk4]

theorem final7 (c : Dev nD) (j) : (dats m 0 c).arrAt 7 (cfgs 0).N j = AX (F := Ideal) (col 0 (by decide) (inp m c main_arg0)) (col 256 (by decide) (inp m c main_arg0)) (col 0 (by decide) (inp m c main_arg1)) (inp m c main_arg2) j := by
  revert j
  refine fun j => congrFun ((dats m 0 c).arrAt_eq_of_after_last 7 t0_0 (by decide +kernel) _ fun j => ?_) j
  blk_simp
  rw [after_7]
  unfold out7
  rw [blk0, blk1, blk3, blk4]

theorem final8 (c : Dev nD) (j) : (dats m 0 c).arrAt 8 (cfgs 0).N j = DW (F := Ideal) (col 0 (by decide) (inp m c main_arg0)) (col 256 (by decide) (inp m c main_arg0)) (col 512 (by decide) (inp m c main_arg0)) (col 0 (by decide) (inp m c main_arg1)) 32 j := by
  revert j
  refine fun j => congrFun ((dats m 0 c).arrAt_eq_of_after_last 8 t0_0 (by decide +kernel) _ fun j => ?_) j
  blk_simp
  rw [after_8]
  unfold out8
  rw [blk0, blk1, blk2, blk3]

end Cert.MixAIdeal.Hand
end
-- ==== Proof.MixAPair.lean ====
/- What the two programs of MixA leave. -/
module

public import proofs.«01_k».proof.Defs
public import proofs.«01_k».proof.Proof.Gen.MixA
public import proofs.«01_k».proof.Proof.MixAV
public import proofs.«01_k».proof.Proof.Gen.MixARefIdeal.Run
public import proofs.«01_k».proof.Proof.Gen.MixARefIdeal.Read

@[expose] public section

noncomputable section

namespace Cert.MixAPair

open Idealize.ShloMosaic Idealize.ShloMosaic.TcCoe Idealize.SL.Sem

theorem defs_eq : (Cert.MixA.defs (F := Bits)) = Cert.MixAIdeal.defs := by sl_kernel_rfl
theorem main_eq : (Cert.MixA.main (F := Bits)) = Cert.MixAIdeal.main := by sl_kernel_rfl

theorem frame : @Cert.quiescent_MixA Cert.MixA.Gen.facts := fun m ρ _ => by
  have h := Cert.MixAIdeal.Hand.frame_run (F := Bits) m ρ
  rw [← defs_eq, ← main_eq] at h
  exact h

theorem frame_ideal : @Cert.quiescent_MixAIdeal Cert.MixAIdeal.Gen.facts := fun m ρ _ => Cert.MixAIdeal.Hand.frame_run m ρ

theorem frame_ref : @Cert.quiescent_MixARefIdeal Cert.MixARefIdeal.Gen.facts := fun m ρ _ =>
  (θ_run _ _ _).mono (fun r h => ⟨fun c => (h c).2.2.2.2, sem_eq_zero_of_no_sems rfl r.2⟩) (Cert.MixARefIdeal.Value.run m ρ)

/-- The gradient of the gated three-tap convolution. -/
theorem algebraic : @Cert.algebraic_MixAIdeal_MixARefIdeal Cert.MixAIdeal.Gen.facts Cert.MixARefIdeal.Gen.facts := by
  pair_intro
  · run_from Cert.MixAIdeal.Hand.run_main m g
  · run_from Cert.MixARefIdeal.Value.run m' g'
    · rw [Cert.MixARefIdeal.Read.val_main_v68_eq]
      funext j
      rw [Cert.MixAIdeal.Hand.final5, Cert.MixAIdeal.Hand.ab_eq]
    · rw [Cert.MixARefIdeal.Read.val_main_v69_eq]
      funext j
      rw [Cert.MixAIdeal.Hand.final6, Cert.MixAIdeal.Hand.ac_eq]
    · rw [Cert.MixARefIdeal.Read.val_main_v70_eq]
      funext j
      rw [Cert.MixAIdeal.Hand.final7, Cert.MixAIdeal.Hand.ax_eq]
    · rw [Cert.MixARefIdeal.Read.val_main_v63_eq]
      funext j
      rw [Cert.MixAIdeal.Hand.final8, Cert.MixAIdeal.Hand.dw_eq]

end Cert.MixAPair

end
-- ==== Proof.MixBLoops.lean ====
/- The loop of the second mixer's backward call: what each buffer holds before every trip. -/
module

public import proofs.«01_k».proof.Proof.Held
public import proofs.«01_k».proof.Proof.Gen.MixBIdeal.Skeleton
public import proofs.«01_k».proof.Proof.Gen.MixBIdeal.Launch
public import proofs.«01_k».proof.Proof.Rows
public import Idealize.ShloMosaic.Lib.Exec
public import Idealize.ShloMosaic.Lib.Tactic
public import Idealize.ShloMosaic.Lib.Pipeline.Kit
public import Idealize.ShloMosaic.Lib.Pointwise

@[expose] public section

noncomputable section

namespace Cert.MixBIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.MixBIdeal Cert.MixBIdeal.Gen Cert.Rows

variable {F : FTy → Type} [FloatOps F]

local notation "𝕄" => MT nD τ sig Unit (Elt F) ℕ (UR sig nD τ) ℕ

theorem trips : k0_t1_loop.trips = 32 := by decide +kernel
theorem off1 : ∀ k : Fin k0_t1_loop.trips, k0_off1 k = ![128 * k.val, 0] := by decide +kernel

/-- The trip that number `n` names. -/
def at1 (n : ℕ) : Fin k0_t1_loop.trips := ⟨n % k0_t1_loop.trips, Nat.mod_lt _ (by rw [trips]; decide)⟩

theorem at1_val (k : Fin k0_t1_loop.trips) : at1 k.val = k := Fin.ext (Nat.mod_eq_of_lt k.isLt)

/-- The band of 128 rows at trip `k`, and the rectangles of the small buffers. -/
abbrev band (k : Fin k0_t1_loop.trips) : Rect S4096x256 := Rect.unit (k0_off1 k) S128x256.size (k0_off1_inb k)
abbrev row : Rect S1x256 := Rect.unit ![0, 0] S1x256.size inb_S1x256_S1x256_0_0
abbrev square : Rect S128x256 := Rect.unit ![0, 0] S128x256.size inb_S128x256_S128x256_0_0
abbrev head0 : Rect S4x128x128 := Rect.unit ![0, 0, 0] S1x128x128.size inb_S4x128x128_S1x128x128_0_0_0
abbrev head1 : Rect S4x128x128 := Rect.unit ![1, 0, 0] S1x128x128.size inb_S4x128x128_S1x128x128_1_0_0
abbrev head2 : Rect S4x128x128 := Rect.unit ![2, 0, 0] S1x128x128.size inb_S4x128x128_S1x128x128_2_0_0
abbrev head3 : Rect S4x128x128 := Rect.unit ![3, 0, 0] S1x128x128.size inb_S4x128x128_S1x128x128_3_0_0

/-- Bands of 128 rows put one under another. -/
def stack {α : Type} (W : ℕ → S128x256.Idx → α) (y : S4096x256.Idx) : α :=
  W ((y 0).val / 128) (ix2 ⟨(y 0).val % 128, Nat.mod_lt _ (by decide)⟩ (y 1))

theorem stack_at {α : Type} (W : ℕ → S128x256.Idx → α) (k : ℕ) (x : S128x256.Idx) (y : S4096x256.Idx)
    (h0 : (y 0).val = 128 * k + (x 0).val) (h1 : (y 1).val = (x 1).val) : W k x = stack W y := by
  have hx : (x 0).val < 128 := (x 0).isLt
  unfold stack
  have e1 : (y 0).val / 128 = k := by omega
  have e2 : (ix2 ⟨(y 0).val % 128, Nat.mod_lt _ (by decide)⟩ (y 1) : S128x256.Idx) = x := by
    funext a
    match a with
    | ⟨0, _⟩ => exact Fin.ext (show (y 0).val % 128 = (x 0).val by omega)
    | ⟨1, _⟩ => exact Fin.ext h1
  rw [e1, e2]

/-- The buffer holds the words. -/
def Holds {s : Shape} {e : EltTy} (v : View sig .tc .vmem s e) (f : v.ty.Contents (Elt F)) (G : Vec F s e) : Prop := v.read (Elt F) f = G

section Words

variable (v7 v15 v23 v31 : FVec F S128x128 .bf16) (v56 : IVec S128x256 32)
variable (u v dy : Vec F S4096x256 .f32) (g : Vec F S1x256 .f32) (bias : Vec F S128x256 .f32)

/-- What a trip computes: the normed rows scaled, the cotangent of the mixed rows, and the three heads' part of the
    cotangent of the scaled rows. -/
def vn (k : ℕ) : Vec F S128x256 .bf16 := k0_pay5 (View.ld v (band (at1 k))) (View.ld g row)
def dm (k : ℕ) : Vec F S128x256 .f32 := k0_pay9 (View.ld dy (band (at1 k))) (View.ld u (band (at1 k)))
def part3 (k : ℕ) : Vec F S128x256 .f32 := k0_pay19 v7 v15 v23 v56 (dm u dy k) k0_pay11 (k0_pay12 v56 (View.ld dy (band (at1 k))) (View.ld u (band (at1 k))))

def DU : Vec F S4096x256 .bf16 :=
  stack fun k => k0_pay8 v23 v31 v56 (vn v g k) (k0_pay6 v7 v15 v56 (View.ld v (band (at1 k))) (View.ld g row) (View.ld bias square)) (k0_pay7 v56) (View.ld dy (band (at1 k)))

def DV : Vec F S4096x256 .bf16 :=
  stack fun k => k0_pay26 v31 (k0_pay3 (View.ld v (band (at1 k)))) (k0_pay4 (View.ld v (band (at1 k)))) (dm u dy k) (part3 v7 v15 v23 v56 u dy k) (k0_pay20 v56) k0_pay21 (View.ld g row)

/-- The bias' gradient before trip `k`, -/
def DBF : ℕ → Vec F S128x256 .f32
  | 0 => k0_pay37
  | k + 1 => k0_pay10 (View.ld dy (band (at1 k))) (View.ld u (band (at1 k))) (View.ld (DBF k) square)

/-- the scale's gradient, -/
def DG : ℕ → Vec F S1x256 .f32
  | 0 => k0_pay36
  | k + 1 => k0_pay25 v31 (k0_pay4 (View.ld v (band (at1 k)))) (dm u dy k) (part3 v7 v15 v23 v56 u dy k) (k0_pay20 v56) k0_pay21 (View.ld (DG k) row)

/-- Four heads put side by side. -/
def heads (p0 p1 p2 p3 : Vec F S1x128x128 .f32) : Vec F S4x128x128 .f32 := fun y =>
  if (y 0).val = 0 then p0 (ix3 0 (y 1) (y 2)) else if (y 0).val = 1 then p1 (ix3 0 (y 1) (y 2))
    else if (y 0).val = 2 then p2 (ix3 0 (y 1) (y 2)) else p3 (ix3 0 (y 1) (y 2))

/-- and the weights' gradient, unmasked. -/
def DW : ℕ → Vec F S4x128x128 .f32
  | 0 => k0_pay35
  | k + 1 => heads (k0_pay14 (k0_pay13 v56 (vn v g k) (View.ld dy (band (at1 k))) (View.ld u (band (at1 k))) (View.ld (DW k) head0)))
      (k0_pay16 v56 (vn v g k) (dm u dy k) (View.ld (DW k) head1)) (k0_pay18 v56 (vn v g k) (dm u dy k) (View.ld (DW k) head2))
      (k0_pay23 (vn v g k) (dm u dy k) (k0_pay20 v56) k0_pay21 (View.ld (DW k) head3))

end Words

theorem head_mem (v : View sig .tc .vmem S4x128x128 .f32) (f : v.ty.Contents (Elt F)) (L : List (View.Piece (Elt F) S4x128x128 .f32)) (n : ℕ)
    (inb : ∀ a, (![n, 0, 0] : Fin 3 → ℕ) a + S1x128x128.size a ≤ S4x128x128.size a)
    (p : Vec F S1x128x128 .f32) (y : S4x128x128.Idx) (hy : (y 0).val = n) :
    v.read (Elt F) (v.writes (Elt F) f ((⟨Rect.unit ![n, 0, 0] S1x128x128.size inb, p⟩ : View.Piece (Elt F) S4x128x128 .f32) :: L)) y = p (ix3 0 (y 1) (y 2)) := by
  refine View.read_writes_cons_unit_of_mem v f inb p L y (ix3 0 (y 1) (y 2)) rfl fun a => ?_
  match a with
  | ⟨0, _⟩ => exact hy
  | ⟨1, _⟩ => exact (Nat.zero_add _).symm
  | ⟨2, _⟩ => exact (Nat.zero_add _).symm

theorem head_not_mem (v : View sig .tc .vmem S4x128x128 .f32) (f : v.ty.Contents (Elt F)) (L : List (View.Piece (Elt F) S4x128x128 .f32)) (n : ℕ)
    (inb : ∀ a, (![n, 0, 0] : Fin 3 → ℕ) a + S1x128x128.size a ≤ S4x128x128.size a)
    (p : Vec F S1x128x128 .f32) (y : S4x128x128.Idx) (hy : (y 0).val ≠ n) :
    v.read (Elt F) (v.writes (Elt F) f ((⟨Rect.unit ![n, 0, 0] S1x128x128.size inb, p⟩ : View.Piece (Elt F) S4x128x128 .f32) :: L)) y = v.read (Elt F) (v.writes (Elt F) f L) y := by
  refine View.read_writes_cons_unit_of_not_mem v f inb p L y rfl (0 : Fin 3) ?_
  show (y 0).val < n ∨ n + 1 ≤ (y 0).val
  omega

/-- Four stores of one head each. -/
theorem four (v : View sig .tc .vmem S4x128x128 .f32) (f : v.ty.Contents (Elt F)) (p0 p1 p2 p3 : Vec F S1x128x128 .f32) (L : List (View.Piece (Elt F) S4x128x128 .f32)) :
    v.read (Elt F) (v.writes (Elt F) f (⟨head3, p3⟩ :: ⟨head2, p2⟩ :: ⟨head1, p1⟩ :: ⟨head0, p0⟩ :: L)) = heads p0 p1 p2 p3 := by
  funext y
  have hy : (y 0).val < 4 := (y 0).isLt
  unfold heads
  by_cases h3 : (y 0).val = 3
  · rw [head_mem v f _ 3 _ _ y h3, if_neg (by omega), if_neg (by omega), if_neg (by omega)]
  rw [head_not_mem v f _ 3 _ _ y h3]
  by_cases h2 : (y 0).val = 2
  · rw [head_mem v f _ 2 _ _ y h2, if_neg (by omega), if_neg (by omega), if_pos h2]
  rw [head_not_mem v f _ 2 _ _ y h2]
  by_cases h1 : (y 0).val = 1
  · rw [head_mem v f _ 1 _ _ y h1, if_neg (by omega), if_pos h1]
  rw [head_not_mem v f _ 1 _ _ y h1, head_mem v f _ 0 _ _ y (by omega), if_pos (by omega)]

/-- One store of the whole buffer. -/
theorem whole {a b : ℕ} (v : View sig .tc .vmem (⟨2, ![a, b]⟩ : Shape) .f32) (f : v.ty.Contents (Elt F)) (L : List (View.Piece (Elt F) (⟨2, ![a, b]⟩ : Shape) .f32))
    (inb : ∀ x, (![0, 0] : Fin 2 → ℕ) x + (![a, b] : Fin 2 → ℕ) x ≤ (⟨2, ![a, b]⟩ : Shape).size x) (p : Vec F (⟨2, ![a, b]⟩ : Shape) .f32) :
    v.read (Elt F) (v.writes (Elt F) f ((⟨Rect.unit (s := ⟨2, ![a, b]⟩) ![0, 0] ![a, b] inb, p⟩ : View.Piece (Elt F) (⟨2, ![a, b]⟩ : Shape) .f32) :: L)) = p := by
  funext y
  refine View.read_writes_cons_unit_of_mem v f inb p L y y rfl fun a => ?_
  match a with
  | ⟨0, _⟩ => exact (Nat.zero_add _).symm
  | ⟨1, _⟩ => exact (Nat.zero_add _).symm

variable (𝒱 : Variants) (c : Dev nD) (bd : Option 𝒱.V) (E : Set ℕ) (i : grid0.Coords)
  (arg1 : Memref sig .tc .vmem S4096x256 .f32) (harg1 : arg1.IsWhole)
  (arg2 : Memref sig .tc .vmem S4096x256 .f32) (harg2 : arg2.IsWhole)
  (arg3 : Memref sig .tc .vmem S4096x256 .f32) (harg3 : arg3.IsWhole)
  (arg4 : Memref sig .tc .vmem S1x256 .f32) (harg4 : arg4.IsWhole)
  (arg5 : Memref sig .tc .vmem S4x128x128 .f32) (harg5 : arg5.IsWhole)
  (arg6 : Memref sig .tc .vmem S128x256 .f32) (harg6 : arg6.IsWhole)
  (arg7 : Memref sig .tc .vmem S4096x256 .bf16) (harg7 : arg7.IsWhole)
  (arg8 : Memref sig .tc .vmem S4096x256 .bf16) (harg8 : arg8.IsWhole)
  (arg9 : Memref sig .tc .vmem S4x128x128 .f32) (harg9 : arg9.IsWhole)
  (arg10 : Memref sig .tc .vmem S128x128 .f32) (harg10 : arg10.IsWhole)
  (arg11 : Memref sig .tc .vmem S1x256 .f32) (harg11 : arg11.IsWhole)
  (arg12 : Memref sig .tc .vmem S128x256 .f32) (harg12 : arg12.IsWhole)
  (v7 v15 v23 v31 : FVec F S128x128 .bf16) (v32 : IVec S128x256 32) (c64_i32 : BitVec 32) (v34 v37 : IVec S128x256 32) (v39 : IVec S128x256 1) (v56 : IVec S128x256 32)
  (u v dy : Vec F S4096x256 .f32) (g : Vec F S1x256 .f32) (bias : Vec F S128x256 .f32)

/-- Before trip `k`. -/
def inv1 (k : ℕ) : sProp 𝕄 :=
  iprop((arg1.view.loc (c : Thread nD τ) ↦[arg1.view.set]{fullShare} harg1.unread u) ∗ (arg2.view.loc (c : Thread nD τ) ↦[arg2.view.set]{fullShare} harg2.unread v) ∗ (arg3.view.loc (c : Thread nD τ) ↦[arg3.view.set]{fullShare} harg3.unread dy) ∗ (arg4.view.loc (c : Thread nD τ) ↦[arg4.view.set]{fullShare} harg4.unread g) ∗ (arg6.view.loc (c : Thread nD τ) ↦[arg6.view.set]{fullShare} harg6.unread bias)
    ∗ (∃ f, (arg7.view.loc (c : Thread nD τ) ↦[arg7.view.set]{fullShare} f) ∗ ⌜k = 0 ∨ On arg7.view f (DU v7 v15 v23 v31 v56 v dy g bias) (· < 128 * k)⌝)
    ∗ (∃ f, (arg8.view.loc (c : Thread nD τ) ↦[arg8.view.set]{fullShare} f) ∗ ⌜k = 0 ∨ On arg8.view f (DV v7 v15 v23 v31 v56 u v dy g) (· < 128 * k)⌝)
    ∗ (∃ f, (arg9.view.loc (c : Thread nD τ) ↦[arg9.view.set]{fullShare} f) ∗ ⌜Holds arg9.view f (DW v56 u v dy g k)⌝)
    ∗ (∃ f, (arg11.view.loc (c : Thread nD τ) ↦[arg11.view.set]{fullShare} f) ∗ ⌜Holds arg11.view f (DG v7 v15 v23 v31 v56 u v dy k)⌝)
    ∗ (∃ f, (arg12.view.loc (c : Thread nD τ) ↦[arg12.view.set]{fullShare} f) ∗ ⌜Holds arg12.view f (DBF u dy k)⌝))

set_option warn.classDefReducibility false in
@[sl_loop] def loop1 : Idealize.ShloMosaic.LoopInv (M := 𝕄) Idealize.ShloMosaic.frame (wpE (defs₀ (F := F)) 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 v7 v15 v23 v31 v32 c64_i32 v34 v37 v39) where
  inv k _ := inv1 (F := F) c arg1 harg1 arg2 harg2 arg3 harg3 arg4 harg4 arg6 harg6 arg7 arg8 arg9 arg11 arg12 v7 v15 v23 v31 (k0_pay34 v32 c64_i32 v34 v37 v39) u v dy g bias k
  step k acc := by
    have hk : k.val < 32 := Nat.lt_of_lt_of_le k.isLt k0_t1_abs.2.1
    unfold inv1 k0_t1_body
    iintro ⟨H1, H2, H3, H4, H6, ⟨%f7, H7, %h7⟩, ⟨%f8, H8, %h8⟩, ⟨%f9, H9, %h9⟩, ⟨%f11, H11, %h11⟩, ⟨%f12, H12, %h12⟩⟩
    sl_exec
    sl_step
    have e1 := ld_unread (Val := Elt F) harg1 u
    have e2 := ld_unread (Val := Elt F) harg2 v
    have e3 := ld_unread (Val := Elt F) harg3 dy
    have e4 := ld_unread (Val := Elt F) harg4 g
    have e6 := ld_unread (Val := Elt F) harg6 bias
    have e9 : ∀ r, arg9.view.readAt (Elt F) r.toLoadRect f9 = View.ld (DW (k0_pay34 v32 c64_i32 v34 v37 v39) u v dy g k) r := fun r => by rw [View.readAt_eq_ld]; exact congrArg (View.ld · r) h9
    have e11 : ∀ r, arg11.view.readAt (Elt F) r.toLoadRect f11 = View.ld (DG v7 v15 v23 v31 (k0_pay34 v32 c64_i32 v34 v37 v39) u v dy k) r := fun r => by rw [View.readAt_eq_ld]; exact congrArg (View.ld · r) h11
    have e12 : ∀ r, arg12.view.readAt (Elt F) r.toLoadRect f12 = View.ld (DBF u dy k) r := fun r => by rw [View.readAt_eq_ld]; exact congrArg (View.ld · r) h12
    iframe H1 H2 H3 H4 H6
    sl_unfold_words
    simp only [e1, e2, e3, e4, e6, e9, e11, e12]
    isplitl [H7]
    · iexists _; isplitl [H7]; · iexact H7
      ipureintro
      refine .inr (On.store (W := 128) (S := (· < 128 * k.val)) (h := On.start h7) (off1 k) rfl rfl (fun x y h0 h1 => ?_) (fun n hn => by omega))
      rw [DU, ← stack_at _ k.val x y h0 h1, vn, at1_val]; rfl
    isplitl [H8]
    · iexists _; isplitl [H8]; · iexact H8
      ipureintro
      refine .inr (On.store (W := 128) (S := (· < 128 * k.val)) (h := On.start h8) (off1 k) rfl rfl (fun x y h0 h1 => ?_) (fun n hn => by omega))
      rw [DV, ← stack_at _ k.val x y h0 h1, part3, dm, at1_val]; rfl
    isplitl [H9]
    · iexists _; isplitl [H9]; · iexact H9
      ipureintro
      refine (four _ _ _ _ _ _ _).trans ?_
      rw [DW, vn, dm, at1_val]; rfl
    isplitl [H11]
    · iexists _; isplitl [H11]; · iexact H11
      ipureintro
      refine (whole _ _ _ _ _).trans ?_
      rw [DG, part3, dm, at1_val]; rfl
    · iexists _; isplitl [H12]; · iexact H12
      ipureintro
      refine (whole _ _ _ _ _).trans ?_
      rw [DBF, at1_val]; rfl

end Cert.MixBIdeal.Hand

end
-- ==== Proof.MixBRun.lean ====
/- The body of the second mixer's backward call run once: what it leaves in every output. -/
module

public import proofs.«01_k».proof.Proof.Held
public import proofs.«01_k».proof.Proof.MixBLoops
public import Idealize.ShloMosaic.Lib.Claim

@[expose] public section

noncomputable section

namespace Cert.MixBIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.MixBIdeal Cert.MixBIdeal.Gen Cert.Rows

variable {F : FTy → Type} [FloatOps F]

local notation "𝕄" => MT nD τ sig Unit (Elt F) ℕ (UR sig nD τ) ℕ

/-- Each column's head, and each lane. -/
def hd : IVec S128x256 32 := k0_pay34 (iota .tc S128x256 32 [1] iota_S128x256_d1_w32) 64#32 k0_pay31 k0_pay32 k0_pay33
def lane : IVec S128x128 32 := iota .tc S128x128 32 [1] iota_S128x128_d1_w32

section Outs
variable (x0 x1 x2 : Vec F S4096x256 .f32) (x3 : Vec F S1x256 .f32) (x4 : Vec F S4x128x128 .f32) (x5 : Vec F S128x256 .f32)

/-- The outputs' words. -/
def OU : Vec F S4096x256 .bf16 := DU (k0_pay27 (View.ld x4 head0)) (k0_pay28 (View.ld x4 head1)) (k0_pay29 (View.ld x4 head2)) (k0_pay30 (View.ld x4 head3)) hd x1 x2 x3 x5
def OV : Vec F S4096x256 .bf16 := DV (k0_pay27 (View.ld x4 head0)) (k0_pay28 (View.ld x4 head1)) (k0_pay29 (View.ld x4 head2)) (k0_pay30 (View.ld x4 head3)) hd x0 x1 x2 x3
def OW : Vec F S4x128x128 .f32 :=
  heads (k0_pay40 k0_pay38 (View.ld (DW hd x0 x1 x2 x3 32) head0)) (k0_pay42 k0_pay38 (View.ld (DW hd x0 x1 x2 x3 32) head1))
    (k0_pay45 k0_pay38 (View.ld (DW hd x0 x1 x2 x3 32) head2)) (k0_pay47 k0_pay38 (View.ld (DW hd x0 x1 x2 x3 32) head3))
def OB : Vec F S128x128 .f32 :=
  k0_pay1 (k0_pay46 hd lane (View.ld (DBF x0 x2 32) square) (k0_pay41 hd lane k0_pay39 (View.ld (DBF x0 x2 32) square)) (k0_pay43 lane)
    (Scalar.ofBits .f32 0x00000000#32) (k0_pay44 hd (View.ld (DBF x0 x2 32) square))) (k0_pay48 lane) (k0_pay49 hd (View.ld (DBF x0 x2 32) square))
def OG : Vec F S1x256 .f32 := DG (k0_pay27 (View.ld x4 head0)) (k0_pay28 (View.ld x4 head1)) (k0_pay29 (View.ld x4 head2)) (k0_pay30 (View.ld x4 head3)) hd x0 x1 x2 32
end Outs

/-- One store of all the heads. -/
theorem all9 (v : View sig .tc .vmem S4x128x128 .f32) (f : v.ty.Contents (Elt F)) (p : Vec F S4x128x128 .f32) :
    v.read (Elt F) (v.writes (Elt F) f [⟨Rect.unit (s := S4x128x128) ![0, 0, 0] S4x128x128.size inb_S4x128x128_S4x128x128_0_0_0, p⟩]) = p := by
  funext y
  refine View.read_writes_cons_unit_of_mem v f _ p [] y y rfl fun a => ?_
  match a with
  | ⟨0, _⟩ => exact (Nat.zero_add _).symm
  | ⟨1, _⟩ => exact (Nat.zero_add _).symm
  | ⟨2, _⟩ => exact (Nat.zero_add _).symm

/-- On whole buffers, the inputs' at their contents and the others at anything, the body ends with the inputs unchanged
    and the outputs at the words named. -/
theorem kernel (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S4x128x128 .f32) (harg5 : arg5.IsWhole) (arg6 : Memref sig .tc .vmem S128x256 .f32) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S4x128x128 .f32) (harg9 : arg9.IsWhole) (arg10 : Memref sig .tc .vmem S128x128 .f32) (harg10 : arg10.IsWhole) (arg11 : Memref sig .tc .vmem S1x256 .f32) (harg11 : arg11.IsWhole) (arg12 : Memref sig .tc .vmem S128x256 .f32) (harg12 : arg12.IsWhole)
    (x0 : Vec F S4096x256 .f32) (x1 : Vec F S4096x256 .f32) (x2 : Vec F S4096x256 .f32) (x3 : Vec F S1x256 .f32) (x4 : Vec F S4x128x128 .f32) (x5 : Vec F S128x256 .f32) (E : Set ℕ) (K : PUnit → sProp 𝕄) :
    iprop(held c arg1 x0 ∗ held c arg2 x1 ∗ held c arg3 x2 ∗ held c arg4 x3 ∗ held c arg5 x4 ∗ held c arg6 x5 ∗ (∃ d, held c arg7 d) ∗ (∃ d, held c arg8 d) ∗ (∃ d, held c arg9 d) ∗ (∃ d, held c arg10 d) ∗ (∃ d, held c arg11 d) ∗ (∃ d, held c arg12 d)
      ∗ (iprop(held c arg1 x0 ∗ held c arg2 x1 ∗ held c arg3 x2 ∗ held c arg4 x3 ∗ held c arg5 x4 ∗ held c arg6 x5 ∗ held c arg7 (OU x1 x2 x3 x4 x5) ∗ held c arg8 (OV x0 x1 x2 x3 x4) ∗ held c arg9 (OW x0 x1 x2 x3) ∗ held c arg10 (OB x0 x2) ∗ held c arg11 (OG x0 x1 x2 x4) ∗ (∃ d, held c arg12 d)) -∗ K ⟨⟩))
    ⊢ wp frame (wpE (defs₀ (F := F)) Variants.none c none) E (cc0_mix_b_bwd i arg1 harg1 arg2 harg2 arg3 harg3 arg4 harg4 arg5 harg5 arg6 harg6 arg7 harg7 arg8 harg8 arg9 harg9 arg10 harg10 arg11 harg11 arg12 harg12) K := by
  simp only [cc0_mix_b_bwd_eq_skeleton]; unfold cc0_mix_b_bwd_skel
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  have e5 := ld_unread (Val := Elt F) harg5 x4
  have z9 : Holds arg9.view (arg9.view.writes (Elt F) arg9.view.junk [⟨Rect.unit (s := S4x128x128) ![0, 0, 0] S4x128x128.size inb_S4x128x128_S4x128x128_0_0_0, k0_pay35 (F := F)⟩])
      (DW (k0_pay34 (iota .tc S128x256 32 [1] iota_S128x256_d1_w32) 64#32 k0_pay31 k0_pay32 k0_pay33) x0 x1 x2 x3 0) := all9 _ _ _
  have z11 : Holds arg11.view (arg11.view.writes (Elt F) arg11.view.junk [⟨Rect.unit (s := S1x256) ![0, 0] S1x256.size inb_S1x256_S1x256_0_0, k0_pay36 (F := F)⟩])
      (DG (k0_pay27 (View.ld x4 head0)) (k0_pay28 (View.ld x4 head1)) (k0_pay29 (View.ld x4 head2)) (k0_pay30 (View.ld x4 head3)) (k0_pay34 (iota .tc S128x256 32 [1] iota_S128x256_d1_w32) 64#32 k0_pay31 k0_pay32 k0_pay33) x0 x1 x2 0) := whole _ _ _ _ _
  have z12 : Holds arg12.view (arg12.view.writes (Elt F) arg12.view.junk [⟨Rect.unit (s := S128x256) ![0, 0] S128x256.size inb_S128x256_S128x256_0_0, k0_pay37 (F := F)⟩])
      (DBF x0 x2 0) := whole _ _ _ _ _
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; exact (On.start hL6).read_eq fun n hn => (by rw [trips]; exact hn : n < 128 * k0_t1_loop.trips)
  isplitl [H7]
  · iexists _; isplitr; swap; · iexact H7
    ipureintro; exact (On.start hL8).read_eq fun n hn => (by rw [trips]; exact hn : n < 128 * k0_t1_loop.trips)
  isplitl [H8]
  · iexists _; isplitr; swap; · iexact H8
    ipureintro
    have h9 : arg9.view.read (Elt F) fL2 = DW hd x0 x1 x2 x3 32 := (show arg9.view.read (Elt F) fL2 = DW hd x0 x1 x2 x3 k0_t1_loop.trips from hL10).trans (by rw [trips])
    have l0 : ∀ r, arg9.view.readAt (Elt F) r.toLoadRect fL2 = View.ld (DW hd x0 x1 x2 x3 32) r := fun r => by rw [View.readAt_eq_ld, h9]
    refine (four _ _ _ _ _ _ []).trans ?_
    unfold OW
    rw [← l0 head0, ← l0 head1, ← l0 head2, ← l0 head3]
    rfl
  isplitl [H9]
  · iexists _; isplitr; swap; · iexact H9
    ipureintro
    have h12 : arg12.view.read (Elt F) fL4 = DBF x0 x2 32 := (show arg12.view.read (Elt F) fL4 = DBF x0 x2 k0_t1_loop.trips from hL14).trans (by rw [trips])
    have l0 : ∀ r, arg12.view.readAt (Elt F) r.toLoadRect fL4 = View.ld (DBF x0 x2 32) r := fun r => by rw [View.readAt_eq_ld, h12]
    refine (whole _ _ _ _ _).trans ?_
    unfold OB
    rw [← l0]
    rfl
  isplitl [H10]
  · iexists _; isplitr; swap; · iexact H10
    ipureintro
    exact (show arg11.view.read (Elt F) fL3 = DG (k0_pay27 (View.ld x4 head0)) (k0_pay28 (View.ld x4 head1)) (k0_pay29 (View.ld x4 head2)) (k0_pay30 (View.ld x4 head3)) hd x0 x1 x2 k0_t1_loop.trips from hL12).trans (by rw [trips]; rfl)
  iexists _, _; isplitr; swap; · iexact HS0
  ipureintro; rfl

end Cert.MixBIdeal.Hand

end
-- ==== Proof.MixBLaunch.lean ====
/- The launch of the second mixer's backward call around its body. -/
module

public import proofs.«01_k».proof.Proof.Held
public import proofs.«01_k».proof.Proof.MixBRun
public import proofs.«01_k».proof.Proof.Gen.MixBIdeal.Frame.Runs

@[expose] public section

noncomputable section

namespace Cert.MixBIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.MixBIdeal Cert.MixBIdeal.Gen Cert.Rows

variable {F : FTy → Type} [FloatOps F]

local notation "𝕄" => MT nD τ sig Unit (Elt F) ℕ (UR sig nD τ) ℕ

/-- The buffer that holds window `w`'s block at point `t`. -/
abbrev st (t : Fin cfg0.N) (w : Fin cfg0.W) := (cfg0.win w).stage (cfg0.slots t w)

variable (m : (ℓ : Loc nD τ sig) → Buf (Elt F) ℓ) (ρ : Dev nD → PrngReg)

abbrev sc0 : Memref sig .tc .vmem S128x256 .f32 := Memref.whole cc0_scratch0

/-- The region's invariant with the scratch buffers owned at some contents. -/
theorem Phi_eq (c : Dev nD) :
    (Pipeline.ΦA spec0 c : sProp 𝕄) = iprop(iprop((∃ d, held c sc0 d)) ∗ (∃ r, prngReg c r)) := by
  unfold Pipeline.ΦA; rw [scopedRest0_eq]; simp only [sc0, owns_whole]; try rfl

/-- What output 6 holds after the body. -/
def out6 (c : Dev nD) (t : Fin cfg0.N) : Vec F S4096x256 .bf16 := OU (iblk m c 1 t) (iblk m c 2 t) (iblk m c 3 t) (iblk m c 4 t) (iblk m c 5 t)
/-- What output 7 holds after the body. -/
def out7 (c : Dev nD) (t : Fin cfg0.N) : Vec F S4096x256 .bf16 := OV (iblk m c 0 t) (iblk m c 1 t) (iblk m c 2 t) (iblk m c 3 t) (iblk m c 4 t)
/-- What output 8 holds after the body. -/
def out8 (c : Dev nD) (t : Fin cfg0.N) : Vec F S4x128x128 .f32 := OW (iblk m c 0 t) (iblk m c 1 t) (iblk m c 2 t) (iblk m c 3 t)
/-- What output 9 holds after the body. -/
def out9 (c : Dev nD) (t : Fin cfg0.N) : Vec F S128x128 .f32 := OB (iblk m c 0 t) (iblk m c 2 t)
/-- What output 10 holds after the body. -/
def out10 (c : Dev nD) (t : Fin cfg0.N) : Vec F S1x256 .f32 := OG (iblk m c 0 t) (iblk m c 1 t) (iblk m c 2 t) (iblk m c 4 t)

/-- What the region is entered and left with. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8 m c t
    | ⟨9, _⟩ => out9 m c t
    | ⟨10, _⟩ => out10 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_6 (c : Dev nD) (t : Fin cfg0.N) : (dats m 0 c).after 6 t = out6 m c t := by dsimp only [dats]
theorem after_7 (c : Dev nD) (t : Fin cfg0.N) : (dats m 0 c).after 7 t = out7 m c t := by dsimp only [dats]
theorem after_8 (c : Dev nD) (t : Fin cfg0.N) : (dats m 0 c).after 8 t = out8 m c t := by dsimp only [dats]
theorem after_9 (c : Dev nD) (t : Fin cfg0.N) : (dats m 0 c).after 9 t = out9 m c t := by dsimp only [dats]
theorem after_10 (c : Dev nD) (t : Fin cfg0.N) : (dats m 0 c).after 10 t = out10 m c t := by dsimp only [dats]
/-- Before the body every input's buffer holds its block. -/
theorem before (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) :=
  ⟨before0_0_of m _ (A_eq m c 0) (fun _ => rfl) t, before0_1_of m _ (A_eq m c 1) (fun _ => rfl) t, before0_2_of m _ (A_eq m c 2) (fun _ => rfl) t, before0_3_of m _ (A_eq m c 3) (fun _ => rfl) t, before0_4_of m _ (A_eq m c 4) (fun _ => rfl) t, before0_5_of m _ (A_eq m c 5) (fun _ => rfl) t⟩

/-- The body at any point. -/
theorem sound (c : Dev nD) (t : Fin cfg0.N) :
    iprop((dats m 0 c).Φ t.castSucc ∗ (dats m 0 c).owesAt () t.castSucc ∗ (∃ d, held c (st t 0) ((dats m 0 c).before 0 t d)) ∗ (∃ d, held c (st t 1) ((dats m 0 c).before 1 t d)) ∗ (∃ d, held c (st t 2) ((dats m 0 c).before 2 t d)) ∗ (∃ d, held c (st t 3) ((dats m 0 c).before 3 t d)) ∗ (∃ d, held c (st t 4) ((dats m 0 c).before 4 t d)) ∗ (∃ d, held c (st t 5) ((dats m 0 c).before 5 t d)) ∗ (∃ d, held c (st t 6) ((dats m 0 c).before 6 t d)) ∗ (∃ d, held c (st t 7) ((dats m 0 c).before 7 t d)) ∗ (∃ d, held c (st t 8) ((dats m 0 c).before 8 t d)) ∗ (∃ d, held c (st t 9) ((dats m 0 c).before 9 t d)) ∗ (∃ d, held c (st t 10) ((dats m 0 c).before 10 t d)))
    ⊢ wp frame (wpE (defs₀ (F := F)) Variants.none c none) Set.univ (bodyAt0 t)
      (fun _ => iprop((dats m 0 c).Φ t.succ ∗ (dats m 0 c).owesAt () t.succ ∗ held c (st t 0) (iblk m c 0 t) ∗ held c (st t 1) (iblk m c 1 t) ∗ held c (st t 2) (iblk m c 2 t) ∗ held c (st t 3) (iblk m c 3 t) ∗ held c (st t 4) (iblk m c 4 t) ∗ held c (st t 5) (iblk m c 5 t) ∗ held c (st t 6) (out6 m c t) ∗ held c (st t 7) (out7 m c t) ∗ held c (st t 8) (out8 m c t) ∗ held c (st t 9) (out9 m c t) ∗ held c (st t 10) (out10 m c t))) := by
  simp only [before m c t]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, Phi_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernel c (grid0.coords t) _ _ _ _ _ _ _ _ _ _ _ _ _ _ _ _ _ _ _ _ _ _ _ _ (iblk m c 0 t) (iblk m c 1 t) (iblk m c 2 t) (iblk m c 3 t) (iblk m c 4 t) (iblk m c 5 t) Set.univ _)
  iframe H0 H1 H2 H3 H4 H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  iintro ⟨H0, H1, H2, H3, H4, H5, H6, H7, H8, H9, H10, HS0⟩
  isplitl [HS0 Hg]
  · isplitl [HS0]; · iexact HS0
    iexact Hg
  iframe Ho H0 H1 H2 H3 H4 H5 H6 H7 H8 H9 H10

theorem defs₀_row (t : Fin cfg0.N) : defs₀ (F := F) .tc cfg0.body (cfg0.bodyArgs t (cfg0.slots t)) = bodyAt0 t := by
  unfold defs₀; rw [Defs.onTc_tc]

/-- What the region asks of the body. -/
theorem obligation (c : Dev nD) : Pipeline.BodyObligation (dats (F := F) m 0 c) (defs₀ (F := F)) Variants.none () Set.univ := fun t => by
  rw [bigSep_W0, bigSep_W0, defs₀_row]
  exact triple_restated (sound m c t) rfl .rfl fun _ => .rfl

set_option backward.isDefEq.respectTransparency.types false in
/-- The whole run, every counter at zero at its end. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The whole run. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.MixBIdeal.Hand

end
-- ==== Proof.Norm.lean ====
module

public import Idealize.ShloMosaic.PureOps.Ideal
public import Idealize.ShloMosaic.Lib.IdealHost

@[expose] public section

/-! The gradient of an RMS norm on the extended reals, in the kernel's closed form and as the
    chain rule through the mean square writes it. -/

namespace Cert.Norm

open Idealize Idealize.ShloMosaic

/-- A real factor distributes over a sum of two terms when it is nonnegative. -/
theorem pos_mul_add {ρ : ℝ} (h : 0 ≤ ρ) (x y : EReal) : (ρ : EReal) * (x + y) = ρ * x + ρ * y :=
  EReal.left_distrib_of_nonneg_of_ne_top (by exact_mod_cast h) (EReal.coe_ne_top ρ) x y

/-- … and over a finite sum. -/
theorem sum_mul_pos {ι : Type*} (s : Finset ι) (f : ι → EReal) {ρ : ℝ} (h : 0 ≤ ρ) :
    ∑ i ∈ s, f i * (ρ : EReal) = (∑ i ∈ s, f i) * ρ := by
  classical
  induction s using Finset.induction_on with
  | empty => simp
  | insert a s ha ih => rw [Finset.sum_insert ha, Finset.sum_insert ha, ih, mul_comm _ (ρ : EReal), mul_comm _ (ρ : EReal), mul_comm _ (ρ : EReal), pos_mul_add h]

/-- A finite sum of reals, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Twice a multiple by a real is the multiple by its double, at every extended real. -/
theorem mul_coe_add_self (y : EReal) (b : ℝ) : y * (b : EReal) + y * b = y * ((2 * b : ℝ) : EReal) := by
  have pos : ∀ {a : ℝ}, 0 ≤ a → ∀ z : EReal, z * (a : EReal) + z * a = z * ((2 * a : ℝ) : EReal) := fun {a} ha z => by
    have h' : (0 : EReal) ≤ a := by exact_mod_cast ha
    rw [← EReal.left_distrib_of_nonneg h' h', ← EReal.coe_add, ← two_mul]
  rcases le_total 0 b with hb | hb
  · exact pos hb y
  · have h := pos (a := -b) (by linarith) (-y)
    simpa [EReal.coe_neg, neg_mul_neg, mul_neg] using h

/-- A row with an infinite entry has an infinite mean square. -/
theorem sq_sum_top {ι : Type*} [Fintype ι] (X : ι → EReal) (i : ι) (h : X i = ⊤ ∨ X i = ⊥) : ∑ k, X k * X k = ⊤ := by
  classical
  have hi : X i * X i = ⊤ := by rcases h with h | h <;> rw [h] <;> rfl
  have h0 : ∀ k, 0 ≤ X k * X k := fun k => by
    induction X k using EReal.rec with
    | bot => exact le_top
    | top => exact le_top
    | coe r => exact_mod_cast mul_self_nonneg r
  exact top_le_iff.1 (hi ▸ Finset.single_le_sum (f := fun k => X k * X k) (fun k _ => h0 k) (Finset.mem_univ i))

/-- The reciprocal root of a positive real. -/
theorem rsqrt_pos {v : ℝ} (h : 0 < v) : Ideal.rsqrt (v : EReal) = (((Real.sqrt v)⁻¹ : ℝ) : EReal) := by
  rw [Ideal.rsqrt_coe, if_neg (not_lt.2 h.le), if_neg h.ne']

theorem div_real (x : EReal) {n : ℝ} (h : n ≠ 0) : Ideal.div x (n : EReal) = x * ((1 / n : ℝ) : EReal) := Ideal.div_coe h x

/-- A finite row's mean square plus a positive constant. -/
theorem mean_sq {ι : Type*} [Fintype ι] {X : ι → EReal} {x : ι → ℝ} (hx : ∀ k, X k = x k) {n e : ℝ} (hn : 0 < n) (he : 0 < e) :
    ∃ v : ℝ, 0 < v ∧ Ideal.div (∑ k, X k * X k) (n : EReal) + (e : EReal) = (v : EReal) := by
  refine ⟨(∑ k, x k * x k) * (1 / n) + e, ?_, ?_⟩
  · have : 0 ≤ ∑ k, x k * x k := Finset.sum_nonneg fun k _ => mul_self_nonneg _
    positivity
  · rw [div_real _ hn.ne']
    have : ∑ k, X k * X k = ((∑ k, x k * x k : ℝ) : EReal) := by
      rw [coe_sum]; exact Finset.sum_congr rfl fun k _ => by rw [hx, EReal.coe_mul]
    rw [this, ← EReal.coe_mul, ← EReal.coe_add]

/-- The closed form `r (u_j - x_j r mean(u (x r)))` is the chain rule's `u_j r + x_j s + s x_j`,
    `s` the gradient at the square's sum, for every row and every cotangent `u`. -/
theorem rms_grad {ι : Type*} [Fintype ι] (X u : ι → EReal) (j : ι) {n e : ℝ} (hn : 0 < n) (he : 0 < e) (hm : ℝ) (hhm : hm = -1 / 2) {r v s : EReal}
    (hv : v = Ideal.div (∑ k, X k * X k) (n : EReal) + (e : EReal)) (hr : r = Ideal.rsqrt v)
    (hs : s = Ideal.div ((∑ k, X k * u k) * ((hm : EReal) * Ideal.div r v)) (n : EReal)) :
    r * (u j - X j * r * Ideal.div (∑ k, u k * (X k * r)) (n : EReal)) = u j * r + X j * s + s * X j := by
  by_cases hfin : ∀ k, X k ≠ ⊤ ∧ X k ≠ ⊥
  · have hx : ∀ k, X k = ((X k).toReal : EReal) := fun k => (EReal.coe_toReal (hfin k).1 (hfin k).2).symm
    generalize hxr : (fun k => (X k).toReal) = x at *
    have hx' : ∀ k, X k = (x k : EReal) := fun k => by rw [← hxr]; exact hx k
    obtain ⟨w, hw, hvw⟩ := mean_sq hx' hn he
    rw [hvw] at hv
    subst hv
    rw [rsqrt_pos hw] at hr
    set ρ : ℝ := (Real.sqrt w)⁻¹ with hρ
    have hρ0 : 0 ≤ ρ := by positivity
    have hρw : ρ * (1 / w) = ρ * (ρ * ρ) := by
      congr 1; rw [hρ, ← mul_inv, Real.mul_self_sqrt hw.le, one_div]
    have hS : ∑ k, u k * (X k * r) = (∑ k, X k * u k) * (ρ : EReal) := by
      rw [← sum_mul_pos _ _ hρ0]; exact Finset.sum_congr rfl fun k _ => by rw [hr, mul_comm (X k) (u k), mul_assoc]
    generalize hSg : ∑ k, X k * u k = S at *
    have hs' : s = S * ((hm * (ρ * (ρ * ρ)) * (1 / n) : ℝ) : EReal) := by
      rw [hs, hr, div_real _ hw.ne', div_real _ hn.ne', ← EReal.coe_mul, hρw, ← EReal.coe_mul, mul_assoc, ← EReal.coe_mul]
    have e1 : X j * s = S * ((x j * (hm * (ρ * (ρ * ρ)) * (1 / n)) : ℝ) : EReal) := by
      rw [hs', hx', mul_left_comm, ← EReal.coe_mul]
    rw [mul_comm s, e1, add_assoc, mul_coe_add_self, hS, div_real _ hn.ne', hr, sub_eq_add_neg, pos_mul_add hρ0, mul_comm (ρ : EReal) (u j)]
    congr 1
    rw [hx', mul_neg, mul_assoc S, ← EReal.coe_mul, ← EReal.coe_mul, mul_left_comm _ S, ← EReal.coe_mul, mul_left_comm _ S, ← EReal.coe_mul, ← mul_neg, ← EReal.coe_neg]
    congr 2
    rw [hhm]; ring
  · push Not at hfin
    obtain ⟨k, hk⟩ := hfin
    have hk' : X k = ⊤ ∨ X k = ⊥ := by by_cases h : X k = ⊤; exacts [.inl h, .inr (hk h)]
    have hvt : v = ⊤ := by
      rw [hv, sq_sum_top X k hk', div_real _ hn.ne', EReal.top_mul_coe_of_pos (by positivity), EReal.top_add_coe]
    have hr0 : r = 0 := by rw [hr, hvt]; rfl
    have hd : Ideal.div r v = 0 := by rw [hr0, hvt]; simp [Ideal.div]
    have hs0 : s = 0 := by rw [hs, hd, mul_zero, mul_zero, div_real _ hn.ne', zero_mul]
    rw [hr0, hs0]; simp

end Cert.Norm
-- ==== Proof.Reals.lean ====
/- Extended reals that are real numbers. -/
module

public import Idealize.ShloMosaic.PureOps.Ideal
public import Idealize.ShloMosaic.Lib.IdealHost
public import proofs.«01_k».proof.Proof.Norm

@[expose] public section

noncomputable section

namespace Cert.Reals

open Idealize.ShloMosaic

/-- A real number. -/
def Real' (x : EReal) : Prop := ∃ r : ℝ, x = (r : EReal)

theorem coe (r : ℝ) : Real' (r : EReal) := ⟨r, rfl⟩
theorem zero : Real' 0 := ⟨0, rfl⟩

variable {x y : EReal}

theorem Real'.add : Real' x → Real' y → Real' (x + y) := by
  rintro ⟨a, rfl⟩ ⟨b, rfl⟩; exact ⟨a + b, (EReal.coe_add a b).symm⟩
theorem Real'.mul : Real' x → Real' y → Real' (x * y) := by
  rintro ⟨a, rfl⟩ ⟨b, rfl⟩; exact ⟨a * b, (EReal.coe_mul a b).symm⟩
theorem Real'.sub : Real' x → Real' y → Real' (x - y) := by
  rintro ⟨a, rfl⟩ ⟨b, rfl⟩; exact ⟨a - b, (EReal.coe_sub a b).symm⟩
theorem Real'.neg : Real' x → Real' (-x) := by
  rintro ⟨a, rfl⟩; exact ⟨-a, (EReal.coe_neg a).symm⟩
theorem Real'.sum {ι : Type*} (s : Finset ι) (f : ι → EReal) (h : ∀ i ∈ s, Real' (f i)) : Real' (∑ i ∈ s, f i) := by
  classical
  induction s using Finset.induction_on with
  | empty => exact zero
  | insert a s ha ih =>
    rw [Finset.sum_insert ha]
    exact (h a (Finset.mem_insert_self a s)).add (ih fun i hi => h i (Finset.mem_insert_of_mem hi))

/-- Below infinity in size. -/
theorem of_abs_lt (h : (max x (-x) : EReal) < ⊤) : Real' x := by
  induction x using EReal.rec with
  | bot => simp at h
  | top => simp at h
  | coe r => exact ⟨r, rfl⟩

/-- A family of reals is the family of its real values. -/
theorem choose {ι : Type*} {f : ι → EReal} (h : ∀ i, Real' (f i)) : ∃ g : ι → ℝ, ∀ i, f i = (g i : EReal) :=
  ⟨fun i => (h i).choose, fun i => (h i).choose_spec⟩

end Cert.Reals

end
-- ==== Proof.Words.lean ====
module

public import Idealize.ShloMosaic.PureOps.Ideal

@[expose] public section

/-! The float words of the programs' literals, as real numbers. -/

namespace Cert.Words

open Idealize Idealize.ShloMosaic

/-- The norms' `eps`, the rational of its float word. -/
noncomputable def eps : ℝ := 8796093 / 8796093022208

theorem eps_pos : 0 < eps := by unfold eps; norm_num

theorem w_1024 : Ideal.ofBits .f32 (1149239296#32) = ((1024 : ℝ) : EReal) := by
  simp [Ideal.ofBits, Ideal.ieee, -EReal.coe_mul]; norm_num
theorem w_256 : Ideal.ofBits .f32 (1132462080#32) = ((256 : ℝ) : EReal) := by
  simp [Ideal.ofBits, Ideal.ieee, -EReal.coe_mul]; norm_num
theorem w_eps : Ideal.ofBits .f32 (897988541#32) = ((eps : ℝ) : EReal) := by
  unfold eps; simp [Ideal.ofBits, Ideal.ieee, -EReal.coe_mul]; norm_num
theorem w_neg_half : Ideal.ofBits .f32 (3204448256#32) = ((-1 / 2 : ℝ) : EReal) := by
  simp [Ideal.ofBits, Ideal.ieee, -EReal.coe_mul]; norm_num
theorem w_half : Ideal.ofBits .f32 (1056964608#32) = ((1 / 2 : ℝ) : EReal) := by
  simp [Ideal.ofBits, Ideal.ieee, -EReal.coe_mul]; norm_num
theorem w_two : Ideal.ofBits .f32 (1073741824#32) = ((2 : ℝ) : EReal) := by
  simp [Ideal.ofBits, Ideal.ieee, -EReal.coe_mul]; norm_num
theorem w_inv1024 : Ideal.ofBits .f32 (981467136#32) = ((1 / 1024 : ℝ) : EReal) := by
  simp [Ideal.ofBits, Ideal.ieee, -EReal.coe_mul]; norm_num
theorem w_16 : Ideal.ofBits .f32 (1098907648#32) = ((16 : ℝ) : EReal) := by
  simp [Ideal.ofBits, Ideal.ieee, -EReal.coe_mul]; norm_num
theorem w_inv16 : Ideal.ofBits .f32 (1031798784#32) = ((1 / 16 : ℝ) : EReal) := by
  simp [Ideal.ofBits, Ideal.ieee, -EReal.coe_mul]; norm_num
theorem w_neg_one : Ideal.ofBits .f32 (3212836864#32) = ((-1 : ℝ) : EReal) := by
  simp [Ideal.ofBits, Ideal.ieee, -EReal.coe_mul]; norm_num

end Cert.Words
-- ==== Proof.LayerNorm.lean ====
/- The layer norm of a row and its gradient, as the kernels write it and as the chain rule does. -/
module

public import proofs.«01_k».proof.Proof.Reals
public import proofs.«01_k».proof.Proof.Words

@[expose] public section

noncomputable section

namespace Cert.LayerNorm

open Idealize.ShloMosaic Cert.Reals Cert.Norm Cert.Words

variable (X D : Fin 256 → EReal)

/-- The row's mean, the row less its mean, the reciprocal root of its variance, and the normed row. -/
def mean : EReal := Ideal.div (∑ k, X k) (Ideal.ofBits .f32 1132462080#32)
def cen (i : Fin 256) : EReal := X i - mean X
def rs : EReal := Ideal.rsqrt (Ideal.div (∑ k, cen X k * cen X k) (Ideal.ofBits .f32 1132462080#32) + Ideal.ofBits .f32 897988541#32)
def hat (i : Fin 256) : EReal := cen X i * rs X

/-- The row's gradient at the cotangent `D` of the normed row, in closed form. -/
def back (i : Fin 256) : EReal := rs X * (D i - mean D - hat X i * mean fun k => D k * hat X k)

/-- The reciprocal root's gradient, spread over the squares. -/
def spread : EReal :=
  Ideal.div ((∑ k, cen X k * D k) * (Ideal.ofBits .f32 3204448256#32
    * Ideal.div (rs X) (Ideal.div (∑ k, cen X k * cen X k) (Ideal.ofBits .f32 1132462080#32) + Ideal.ofBits .f32 897988541#32)))
    (Ideal.ofBits .f32 1132462080#32)

/-- The same gradient by the chain rule through both means. -/
def chain (i : Fin 256) : EReal :=
  D i * rs X + spread X D * (Ideal.ofBits .f32 1073741824#32 * cen X i)
    + Ideal.div ((∑ k, -(D k * rs X)) + ∑ k, -(spread X D * (Ideal.ofBits .f32 1073741824#32 * cen X k))) (Ideal.ofBits .f32 1132462080#32)

variable {X D}

theorem mean_real (h : ∀ k, Real' (X k)) : Real' (mean X) := by
  unfold mean; rw [w_256, div_real _ (by norm_num)]
  exact (Real'.sum _ _ fun k _ => h k).mul (coe _)

theorem cen_real (h : ∀ k, Real' (X k)) (i : Fin 256) : Real' (cen X i) := (h i).sub (mean_real h)

theorem rs_real (h : ∀ k, Real' (X k)) : ∃ v : ℝ, 0 < v ∧ rs X = (((Real.sqrt v)⁻¹ : ℝ) : EReal)
    ∧ Ideal.div (∑ k, cen X k * cen X k) (Ideal.ofBits .f32 1132462080#32) + Ideal.ofBits .f32 897988541#32 = (v : EReal) := by
  obtain ⟨c, hc⟩ := choose (cen_real h)
  obtain ⟨v, hv, e⟩ := mean_sq hc (n := 256) (by norm_num) eps_pos
  unfold rs
  rw [w_256, w_eps, e]
  exact ⟨v, hv, rsqrt_pos hv, rfl⟩

theorem hat_real (h : ∀ k, Real' (X k)) (i : Fin 256) : Real' (hat X i) := by
  obtain ⟨v, _, e, _⟩ := rs_real h
  unfold hat; rw [e]; exact (cen_real h i).mul (coe _)

/-- The row less its mean sums to zero. -/
theorem cen_sum (h : ∀ k, Real' (X k)) {c : Fin 256 → ℝ} (hc : ∀ k, cen X k = c k) : ∑ k, c k = 0 := by
  obtain ⟨x, hx⟩ := choose h
  have e : ∀ k, c k = x k - (∑ k, x k) * (1 / 256) := fun k => by
    have := hc k
    unfold cen mean at this
    rw [w_256, div_real _ (by norm_num), Finset.sum_congr rfl fun k _ => hx k, ← coe_sum, ← EReal.coe_mul, hx, ← EReal.coe_sub] at this
    exact_mod_cast this.symm
  simp only [e, Finset.sum_sub_distrib, Finset.sum_const, Finset.card_univ, Fintype.card_fin]
  simp only [nsmul_eq_mul]; push_cast; ring

theorem back_eq_chain (hX : ∀ k, Real' (X k)) (hD : ∀ k, Real' (D k)) (i : Fin 256) : back X D i = chain X D i := by
  obtain ⟨c, hc⟩ := choose (cen_real hX)
  obtain ⟨δ, hδ⟩ := choose hD
  obtain ⟨v, hv, er, ev⟩ := rs_real hX
  have h0 := cen_sum hX hc
  set ρ : ℝ := (Real.sqrt v)⁻¹ with hρ
  have hρv : ρ * (1 / v) = ρ * (ρ * ρ) := by congr 1; rw [hρ, ← mul_inv, Real.mul_self_sqrt hv.le, one_div]
  have n256 : (256 : ℝ) ≠ 0 := by norm_num
  have es : spread X D = (((∑ k, c k * δ k) * (-1 / 2 * (ρ * (ρ * ρ))) * (1 / 256) : ℝ) : EReal) := by
    unfold spread
    rw [ev, er, w_neg_half, w_256, div_real _ hv.ne', div_real _ n256, ← EReal.coe_mul, hρv, ← EReal.coe_mul,
      Finset.sum_congr rfl fun k _ => by rw [hc, hδ, ← EReal.coe_mul], ← coe_sum, ← EReal.coe_mul, ← EReal.coe_mul]
  unfold chain back hat mean
  rw [es, w_two, w_256]
  generalize hτ : (∑ k, c k * δ k) * (-1 / 2 * (ρ * (ρ * ρ))) * (1 / 256) = τ
  simp only [div_real _ n256, er, hc, hδ, ← EReal.coe_mul, ← EReal.coe_neg, ← coe_sum, ← EReal.coe_add, ← EReal.coe_sub]
  congr 1
  have e1 : ∑ k, δ k * (c k * ρ) = (∑ k, c k * δ k) * ρ := by
    rw [Finset.sum_mul]; exact Finset.sum_congr rfl fun k _ => by ring
  have e2 : ∑ k, -(δ k * ρ) = -((∑ k, δ k) * ρ) := by rw [Finset.sum_mul, Finset.sum_neg_distrib]
  have e3 : ∑ k, -(τ * (2 * c k)) = 0 := by
    rw [Finset.sum_neg_distrib, ← Finset.mul_sum, ← Finset.mul_sum, h0]; simp
  rw [e1, e2, e3, ← hτ]
  ring

end Cert.LayerNorm

end
-- ==== Proof.MixBV.lean ====
/- The words of the second mixer's backward call, entry by entry. -/
module

public import proofs.«01_k».proof.Proof.MixBRun
public import proofs.«01_k».proof.Proof.LayerNorm
public import proofs.«01_k».proof.Proof.Grid

@[expose] public section

noncomputable section

namespace Cert.MixBIdeal.Hand

open Idealize.ShloMosaic Idealize.ShloMosaic.TcCoe Idealize.SL.Sem
open Cert.MixBIdeal Cert.MixBIdeal.Gen Cert.Grid Cert.LayerNorm

section Words

variable (w0 w1 w2 w3 : FVec Ideal S128x128 .bf16) (x y u : Vec Ideal S128x256 .f32) (g : Vec Ideal S1x256 .f32) (p : Vec Ideal S1x128x128 .f32)

theorem hd_ix (r : Fin 128) (c : Fin 256) : hd (ix2 r c) = BitVec.ofNat 32 (c.val / 64) := by
  unfold hd k0_pay34 k0_pay31 k0_pay32 k0_pay33
  pointwise
  revert c
  decide +kernel

/-- A term of its own for each head, masked to the head's lanes. -/
theorem masks (c : Fin 256) (A : ℕ → EReal) :
    (Scalar.select (IntOp.cmpi .eq (BitVec.ofNat 32 (c.val / 64)) 0#32) (A 0) 0 : EReal)
      + Scalar.select (IntOp.cmpi .eq (BitVec.ofNat 32 (c.val / 64)) 1#32) (A 1) 0
      + Scalar.select (IntOp.cmpi .eq (BitVec.ofNat 32 (c.val / 64)) 2#32) (A 2) 0
      + Scalar.select (IntOp.cmpi .eq (BitVec.ofNat 32 (c.val / 64)) 3#32) (A 3) 0 = A (c.val / 64) := by
  have hc := c.isLt
  rcases (by omega : c.val / 64 = 0 ∨ c.val / 64 = 1 ∨ c.val / 64 = 2 ∨ c.val / 64 = 3) with h | h | h | h <;> rw [h] <;>
    simp [IntOp.cmpi, Scalar.select]

/-- A head's lanes. -/
def hcol (h : Fin 4) (e : Fin 64) : Fin 256 := ⟨64 * h.val + e.val, by omega⟩

/-- One head's lanes of a row. -/
theorem lanes (h : Fin 4) (f : Fin 256 → EReal) :
    (∑ c : Fin 256, Scalar.select (IntOp.cmpi .eq (BitVec.ofNat 32 (c.val / 64)) (BitVec.ofNat 32 h.val)) (f c) (0 : EReal))
      = ∑ e : Fin 64, f (hcol h e) := by
  let F : ℕ → EReal := fun n => if hn : n < 256 then f ⟨n, hn⟩ else 0
  have hF : ∀ c : Fin 256, f c = F c.val := fun c => by simp [F]
  have e1 : ∀ c : Fin 256, Scalar.select (IntOp.cmpi .eq (BitVec.ofNat 32 (c.val / 64)) (BitVec.ofNat 32 h.val)) (f c) (0 : EReal)
      = (fun n => if n / 64 = h.val then F n else 0) c.val := fun c => by
    rw [hF]
    have hc := c.isLt
    have h4 := h.isLt
    by_cases e : c.val / 64 = h.val
    · simp [e, IntOp.cmpi, Scalar.select]
    · have : BitVec.ofNat 32 (c.val / 64) ≠ BitVec.ofNat 32 h.val := fun e' => e (by
        have := congrArg BitVec.toNat e'
        rw [BitVec.toNat_ofNat, BitVec.toNat_ofNat] at this
        omega)
      simp [e, beq_eq_false_iff_ne.mpr this, IntOp.cmpi, Scalar.select]
  rw [Finset.sum_congr rfl fun c _ => e1 c, Fin.sum_univ_eq_sum_range (n := 256) (fun n => if n / 64 = h.val then F n else 0),
    ← sum_bands (fun n => if n / 64 = h.val then F n else 0) 64 4]
  rw [Finset.sum_eq_single_of_mem h.val (Finset.mem_range.mpr h.isLt)]
  · refine Finset.sum_congr rfl fun e _ => ?_
    have h4 := h.isLt
    have he := e.isLt
    rw [if_pos (by omega), hF]; rfl
  · intro k _ hk
    refine Finset.sum_eq_zero fun e _ => if_neg ?_
    have he := e.isLt
    omega

theorem pay3_ix (r : Fin 128) : k0_pay3 x (ix2 r 0) = rs fun c => x (ix2 r c) := by
  unfold rs cen mean; pointwise [k0_pay3, k0_pay2]

theorem pay2_ix (r : Fin 128) (c : Fin 256) : k0_pay2 x (ix2 r c) = cen (fun c => x (ix2 r c)) c := by
  unfold cen mean; pointwise [k0_pay2]

theorem pay4_ix (r : Fin 128) (c : Fin 256) : k0_pay4 x (ix2 r c) = hat (fun c => x (ix2 r c)) c := by
  unfold hat; rw [← pay3_ix, ← pay2_ix]; pointwise [k0_pay4]

theorem pay5_ix (r : Fin 128) (c : Fin 256) : k0_pay5 x g (ix2 r c) = hat (fun c => x (ix2 r c)) c * g (ix2 0 c) := by
  rw [← pay4_ix]; pointwise [k0_pay5]

/-- A head's weights below the diagonal. -/
def tri (w : Vec Ideal S4x128x128 .f32) (h r s : ℕ) : EReal :=
  if e : h < 4 ∧ r < 128 ∧ s < 128 then (if s ≤ r then w (ix3 ⟨h, e.1⟩ ⟨r, e.2.1⟩ ⟨s, e.2.2⟩) else 0) else 0

theorem keep (r s : Fin 128) (a : EReal) : Scalar.select (IntOp.cmpi .sge (BitVec.ofNat 32 r.val) (BitVec.ofNat 32 s.val)) a 0 = if s.val ≤ r.val then a else 0 := by
  have hr := r.isLt
  have hs := s.isLt
  have e : ∀ n : ℕ, n < 128 → (BitVec.ofNat 32 n).toInt = n := fun n hn => by
    rw [BitVec.toInt_eq_toNat_of_lt (by rw [BitVec.toNat_ofNat]; omega), BitVec.toNat_ofNat, Nat.mod_eq_of_lt (by omega)]
  by_cases h : s.val ≤ r.val
  · simp [h, IntOp.cmpi, Scalar.select, BitVec.sle, e _ hr, e _ hs]
  · simp [h, IntOp.cmpi, Scalar.select, BitVec.sle, e _ hr, e _ hs]

variable (w : Vec Ideal S4x128x128 .f32)

theorem ld_head {n : ℕ} (hn : n < 4) (inb) (r s : Fin 128) :
    View.ld w (Rect.unit (s := S4x128x128) ![n, 0, 0] S1x128x128.size inb) (ix3 0 r s) = w (ix3 ⟨n, hn⟩ r s) := by
  refine congrArg w ?_
  funext a
  match a with
  | ⟨0, _⟩ => exact Fin.ext (Rect.idx_unit_val _ _ _ _ 0)
  | ⟨1, _⟩ => exact Fin.ext ((Rect.idx_unit_val _ _ _ _ 1).trans (Nat.zero_add _))
  | ⟨2, _⟩ => exact Fin.ext ((Rect.idx_unit_val _ _ _ _ 2).trans (Nat.zero_add _))

theorem tri_of {h : ℕ} (hh : h < 4) (r s : Fin 128) : tri w h r s = if s.val ≤ r.val then w (ix3 ⟨h, hh⟩ r s) else 0 := dif_pos ⟨hh, r.isLt, s.isLt⟩

theorem tri0 (r s : Fin 128) : k0_pay27 (View.ld w head0) (ix2 r s) = tri w 0 r s := by
  rw [tri_of w (by decide), ← ld_head w (by decide) inb_S4x128x128_S1x128x128_0_0_0, ← keep]
  generalize View.ld w head0 = p; pointwise [k0_pay27]
theorem tri1 (r s : Fin 128) : k0_pay28 (View.ld w head1) (ix2 r s) = tri w 1 r s := by
  rw [tri_of w (by decide), ← ld_head w (by decide) inb_S4x128x128_S1x128x128_1_0_0, ← keep]
  generalize View.ld w head1 = p; pointwise [k0_pay28]
theorem tri2 (r s : Fin 128) : k0_pay29 (View.ld w head2) (ix2 r s) = tri w 2 r s := by
  rw [tri_of w (by decide), ← ld_head w (by decide) inb_S4x128x128_S1x128x128_2_0_0, ← keep]
  generalize View.ld w head2 = p; pointwise [k0_pay29]
theorem tri3 (r s : Fin 128) : k0_pay30 (View.ld w head3) (ix2 r s) = tri w 3 r s := by
  rw [tri_of w (by decide), ← ld_head w (by decide) inb_S4x128x128_S1x128x128_3_0_0, ← keep]
  generalize View.ld w head3 = p; pointwise [k0_pay30]

/-- A row's mixing weights applied along the rows of its band. -/
theorem mixed_ix (bias : Vec Ideal S128x256 .f32) (r : Fin 128) (c : Fin 256) :
    k0_pay8 (k0_pay29 (View.ld w head2)) (k0_pay30 (View.ld w head3)) hd (k0_pay5 x g)
      (k0_pay6 (k0_pay27 (View.ld w head0)) (k0_pay28 (View.ld w head1)) hd x g bias) (k0_pay7 hd) y (ix2 r c)
      = y (ix2 r c) * (bias (ix2 r c) + ∑ s : Fin 128, tri w (c.val / 64) r s * (hat (fun c => x (ix2 s c)) c * g (ix2 0 c))) := by
  have h0 := tri0 w r
  have h1 := tri1 w r
  have h2 := tri2 w r
  have h3 := tri3 w r
  rw [← masks c fun h => ∑ s : Fin 128, tri w h r s * (hat (fun c => x (ix2 s c)) c * g (ix2 0 c))]
  simp only [← h0, ← h1, ← h2, ← h3, ← pay4_ix, ← hd_ix r c]
  generalize k0_pay27 (View.ld w head0) = w0
  generalize k0_pay28 (View.ld w head1) = w1
  generalize k0_pay29 (View.ld w head2) = w2
  generalize k0_pay30 (View.ld w head3) = w3
  pointwise [k0_pay8, k0_pay7, k0_pay6, k0_pay5]
  simp only [add_assoc]

/-- The transposed weights applied to the cotangent. -/
theorem back_ix (u' y' : Vec Ideal S128x256 .f32) (s : Fin 128) (c : Fin 256) :
    k0_pay24 (k0_pay30 (View.ld w head3)) (k0_pay9 y' u') (k0_pay19 (k0_pay27 (View.ld w head0)) (k0_pay28 (View.ld w head1)) (k0_pay29 (View.ld w head2)) hd (k0_pay9 y' u') k0_pay11 (k0_pay12 hd y' u'))
      (k0_pay20 hd) k0_pay21 (ix2 s c) = ∑ r : Fin 128, tri w (c.val / 64) r s * (y' (ix2 r c) * u' (ix2 r c)) := by
  have h0 := fun r => tri0 w r s
  have h1 := fun r => tri1 w r s
  have h2 := fun r => tri2 w r s
  have h3 := fun r => tri3 w r s
  rw [← masks c fun h => ∑ r : Fin 128, tri w h r s * (y' (ix2 r c) * u' (ix2 r c))]
  simp only [← h0, ← h1, ← h2, ← h3]
  generalize k0_pay27 (View.ld w head0) = w0
  generalize k0_pay28 (View.ld w head1) = w1
  generalize k0_pay29 (View.ld w head2) = w2
  generalize k0_pay30 (View.ld w head3) = w3
  pointwise [k0_pay24, k0_pay22, k0_pay21, k0_pay20, k0_pay19, k0_pay11, k0_pay12, k0_pay9, k0_pay15, k0_pay17]
  have hc := c.isLt
  simp only [hd_ix]
  rcases (by omega : c.val / 64 = 0 ∨ c.val / 64 = 1 ∨ c.val / 64 = 2 ∨ c.val / 64 = 3) with h | h | h | h <;> rw [h] <;>
    simp [IntOp.cmpi, Scalar.select]

theorem pay26_ix (w' : FVec Ideal S128x128 .bf16) (s : Fin 128) (c : Fin 256) :
    k0_pay26 w' (k0_pay3 x) (k0_pay4 x) u y (k0_pay20 hd) k0_pay21 g (ix2 s c)
      = back (fun c => x (ix2 s c)) (fun c => k0_pay24 w' u y (k0_pay20 hd) k0_pay21 (ix2 s c) * g (ix2 0 c)) c := by
  unfold back
  simp only [← pay4_ix, ← pay3_ix]
  unfold mean
  pointwise [k0_pay26]

theorem pay25_ix (w' : FVec Ideal S128x128 .bf16) (c : Fin 256) :
    k0_pay25 w' x u y (k0_pay20 hd) k0_pay21 g (ix2 0 c)
      = g (ix2 0 c) + ∑ s : Fin 128, k0_pay24 w' u y (k0_pay20 hd) k0_pay21 (ix2 s c) * x (ix2 s c) := by
  pointwise [k0_pay25]

variable (vn : FVec Ideal S128x256 .bf16)

theorem pay14_ix (r s : Fin 128) : k0_pay14 (k0_pay13 hd vn x u p) (ix3 0 r s)
    = p (ix3 0 r s) + ∑ e : Fin 64, x (ix2 r (hcol 0 e)) * u (ix2 r (hcol 0 e)) * vn (ix2 s (hcol 0 e)) := by
  rw [← lanes 0 fun c => x (ix2 r c) * u (ix2 r c) * vn (ix2 s c)]
  pointwise [k0_pay14, k0_pay13, k0_pay12, k0_pay11, k0_pay9]
  simp only [hd_ix]; try rfl
theorem pay16_ix (r s : Fin 128) : k0_pay16 hd vn x p (ix3 0 r s)
    = p (ix3 0 r s) + ∑ e : Fin 64, x (ix2 r (hcol 1 e)) * vn (ix2 s (hcol 1 e)) := by
  rw [← lanes 1 fun c => x (ix2 r c) * vn (ix2 s c)]
  pointwise [k0_pay16, k0_pay15]
  simp only [hd_ix]; try rfl
theorem pay18_ix (r s : Fin 128) : k0_pay18 hd vn x p (ix3 0 r s)
    = p (ix3 0 r s) + ∑ e : Fin 64, x (ix2 r (hcol 2 e)) * vn (ix2 s (hcol 2 e)) := by
  rw [← lanes 2 fun c => x (ix2 r c) * vn (ix2 s c)]
  pointwise [k0_pay18, k0_pay17]
  simp only [hd_ix]; try rfl
theorem pay23_ix (r s : Fin 128) : k0_pay23 vn x (k0_pay20 hd) k0_pay21 p (ix3 0 r s)
    = p (ix3 0 r s) + ∑ e : Fin 64, x (ix2 r (hcol 3 e)) * vn (ix2 s (hcol 3 e)) := by
  rw [← lanes 3 fun c => x (ix2 r c) * vn (ix2 s c)]
  pointwise [k0_pay23, k0_pay22, k0_pay21, k0_pay20]
  simp only [hd_ix]; try rfl

theorem lane_sel (h : Fin 4) (A : Fin 4 → EReal) :
    (Scalar.select (IntOp.cmpi .eq (BitVec.ofNat 32 h.val) 0#32) (A 0) 0 : EReal)
      + Scalar.select (IntOp.cmpi .eq (BitVec.ofNat 32 h.val) 1#32) (A 1) 0
      + Scalar.select (IntOp.cmpi .eq (BitVec.ofNat 32 h.val) 2#32) (A 2) 0
      + Scalar.select (IntOp.cmpi .eq (BitVec.ofNat 32 h.val) 3#32) (A 3) 0 = A h := by
  fin_cases h <;> simp [IntOp.cmpi, Scalar.select]

theorem db_ix (r : Fin 128) (h : Fin 4) : k0_pay1 (k0_pay46 hd lane x (k0_pay41 hd lane k0_pay39 x) (k0_pay43 lane)
      (Scalar.ofBits .f32 0x00000000#32) (k0_pay44 hd x)) (k0_pay48 lane) (k0_pay49 hd x) (ix2 r ⟨h.val, by omega⟩)
    = ∑ e : Fin 64, x (ix2 r (hcol h e)) := by
  have e := fun h => lanes h fun c => x (ix2 r c)
  rw [← lane_sel h fun h => ∑ e : Fin 64, x (ix2 r (hcol h e))]
  simp only [← e]
  pointwise [k0_pay1, k0_pay46, k0_pay41,k0_pay39, k0_pay43, k0_pay44, k0_pay48, k0_pay49, lane]
  simp only [hd_ix]; try rfl

end Words

end Cert.MixBIdeal.Hand

end
-- ==== Proof.MixBVal.lean ====
/- What the second mixer's backward call leaves, entry by entry. -/
module

public import proofs.«01_k».proof.Proof.MixBV

@[expose] public section

noncomputable section

namespace Cert.MixBIdeal.Hand

open Idealize.ShloMosaic Idealize.ShloMosaic.TcCoe Idealize.SL.Sem
open Cert.MixBIdeal Cert.MixBIdeal.Gen Cert.Grid Cert.LayerNorm

theorem stack_ix (W : ℕ → S128x256.Idx → EReal) (g : ℕ → Fin 256 → EReal)
    (h : ∀ k, k < 32 → ∀ (r : Fin 128) (c : Fin 256), W k (ix2 r c) = g (128 * k + r) c) (n : Fin 4096) (c : Fin 256) :
    stack W (ix2 n c) = g n c := by
  have hy := n.isLt
  refine (h (n.val / 128) (by omega) _ _).trans ?_
  show g (128 * (n.val / 128) + n.val % 128) _ = _
  rw [Nat.div_add_mod]; rfl

theorem at1_nat {k : ℕ} (hk : k < 32) : (at1 k).val = k := Nat.mod_eq_of_lt (by rw [trips]; exact hk)

theorem ld_band (f : Vec Ideal S4096x256 .f32) {k : ℕ} (hk : k < 32) (r : Fin 128) (c : Fin 256) :
    View.ld f (band (at1 k)) (ix2 r c) = at2 f (128 * k + r) c := by
  refine (ld_ix f (k0_off1 (at1 k)) (k0_off1_inb (at1 k)) r c).trans ?_
  rw [off1, at1_nat hk]; simp

theorem ld_row (f : Vec Ideal S1x256 .f32) : View.ld f row = f := by
  funext y; exact congrArg f (by idx_vars y; funext a; match a with
    | ⟨0, _⟩ => exact Fin.ext ((Rect.idx_unit_val _ _ _ _ 0).trans (Nat.zero_add _))
    | ⟨1, _⟩ => exact Fin.ext ((Rect.idx_unit_val _ _ _ _ 1).trans (Nat.zero_add _)))

theorem ld_square (f : Vec Ideal S128x256 .f32) : View.ld f square = f := by
  funext y; exact congrArg f (by idx_vars y; funext a; match a with
    | ⟨0, _⟩ => exact Fin.ext ((Rect.idx_unit_val _ _ _ _ 0).trans (Nat.zero_add _))
    | ⟨1, _⟩ => exact Fin.ext ((Rect.idx_unit_val _ _ _ _ 1).trans (Nat.zero_add _)))

variable (u v dy : Vec Ideal S4096x256 .f32) (g : Vec Ideal S1x256 .f32) (w : Vec Ideal S4x128x128 .f32) (bias : Vec Ideal S128x256 .f32)

/-- Row `n`. -/
def rowOf (n : ℕ) (c : Fin 256) : EReal := at2 v n c
/-- The cotangent of the mixed rows, -/
def dmv (n : ℕ) (c : Fin 256) : EReal := at2 dy n c * at2 u n c
/-- and of the scaled rows. -/
def dvn (n : ℕ) (c : Fin 256) : EReal := ∑ r : Fin 128, tri w (c.val / 64) r (n % 128) * dmv u dy (128 * (n / 128) + r) c

theorem ld_rowOf {k : ℕ} (hk : k < 32) (r : Fin 128) : (fun c => View.ld v (band (at1 k)) (ix2 r c)) = rowOf v (128 * k + r) :=
  funext fun c => ld_band v hk r c

theorem OU_ix (n : Fin 4096) (c : Fin 256) : OU (F := Ideal) v dy g w bias (ix2 n c)
    = at2 dy n c * (bias (ix2 ⟨n.val % 128, Nat.mod_lt _ (by decide)⟩ c)
      + ∑ s : Fin 128, tri w (c.val / 64) (n.val % 128) s * (hat (rowOf v (128 * (n.val / 128) + s)) c * g (ix2 0 c))) := by
  unfold OU DU
  refine stack_ix _ (fun n c => at2 dy n c * (bias (ix2 ⟨n % 128, Nat.mod_lt _ (by decide)⟩ c)
      + ∑ s : Fin 128, tri w (c.val / 64) (n % 128) s * (hat (rowOf v (128 * (n / 128) + s)) c * g (ix2 0 c)))) (fun k hk r c => ?_) n c
  have hr := r.isLt
  unfold vn
  refine (mixed_ix _ _ _ w _ r c).trans ?_
  have e1 : (128 * k + r.val) / 128 = k := by omega
  have e2 : (128 * k + r.val) % 128 = r.val := by omega
  have e3 : (⟨(128 * k + r.val) % 128, Nat.mod_lt _ (by decide)⟩ : Fin 128) = r := Fin.ext e2
  have eg : ∀ c, View.ld g row (ix2 0 c) = g (ix2 0 c) := fun c => congrFun (ld_row g) _
  have eb : View.ld bias square (ix2 r c) = bias (ix2 r c) := congrFun (ld_square bias) _
  simp only [e1, e2, ld_rowOf v hk, eg, eb, ld_band dy hk]

/-- The transposed weights applied to one band's cotangent. -/
theorem dvn_ix {k : ℕ} (hk : k < 32) (s : Fin 128) (c : Fin 256) :
    k0_pay24 (k0_pay30 (View.ld w head3)) (dm u dy k) (part3 (k0_pay27 (View.ld w head0)) (k0_pay28 (View.ld w head1)) (k0_pay29 (View.ld w head2)) hd u dy k)
      (k0_pay20 hd) k0_pay21 (ix2 s c) = dvn u dy w (128 * k + s) c := by
  have hs := s.isLt
  unfold dvn part3 dm
  refine (back_ix w _ _ s c).trans ?_
  have e1 : (128 * k + s.val) / 128 = k := by omega
  have e2 : (128 * k + s.val) % 128 = s.val := by omega
  simp only [e1, e2, ld_band dy hk, ld_band u hk, dmv]

theorem OV_ix (n : Fin 4096) (c : Fin 256) : OV (F := Ideal) u v dy g w (ix2 n c)
    = back (rowOf v n) (fun c => dvn u dy w n c * g (ix2 0 c)) c := by
  unfold OV DV
  refine stack_ix _ (fun n c => back (rowOf v n) (fun c => dvn u dy w n c * g (ix2 0 c)) c) (fun k hk r c => ?_) n c
  refine (pay26_ix _ _ _ _ _ r c).trans ?_
  have eg : ∀ c, View.ld g row (ix2 0 c) = g (ix2 0 c) := fun c => congrFun (ld_row g) _
  simp only [ld_rowOf v hk, dvn_ix u dy w hk, eg]

theorem DG_ix (c : Fin 256) (K : ℕ) (hK : K ≤ 32) : DG (F := Ideal) (k0_pay27 (View.ld w head0)) (k0_pay28 (View.ld w head1)) (k0_pay29 (View.ld w head2)) (k0_pay30 (View.ld w head3)) hd u v dy K (ix2 0 c)
    = ∑ k ∈ Finset.range K, ∑ r : Fin 128, dvn u dy w (128 * k + r) c * hat (rowOf v (128 * k + r)) c := by
  induction K with
  | zero => unfold DG; pointwise [k0_pay36]; rfl
  | succ K ih =>
    have hk : K < 32 := hK
    rw [Finset.sum_range_succ, ← ih (by omega)]
    rw [show DG (F := Ideal) (k0_pay27 (View.ld w head0)) (k0_pay28 (View.ld w head1)) (k0_pay29 (View.ld w head2)) (k0_pay30 (View.ld w head3)) hd u v dy (K + 1) = _ from DG.eq_2 ..]
    refine (pay25_ix _ _ _ _ _ c).trans ?_
    simp only [dvn_ix u dy w hk, pay4_ix, ld_rowOf v hk]
    exact congrArg (· + _) (congrFun (ld_row _) _)

theorem OG_ix (c : Fin 256) : OG (F := Ideal) u v dy w (ix2 0 c) = ∑ n : Fin 4096, dvn u dy w n c * hat (rowOf v n) c := by
  refine (DG_ix u v dy w c 32 le_rfl).trans ?_
  rw [sum_bands (fun n => dvn u dy w n c * hat (rowOf v n) c), ← Fin.sum_univ_eq_sum_range (n := 4096)]

theorem DBF_ix (r : Fin 128) (c : Fin 256) (K : ℕ) (hK : K ≤ 32) : DBF (F := Ideal) u dy K (ix2 r c) = ∑ k ∈ Finset.range K, dmv u dy (128 * k + r) c := by
  induction K with
  | zero => unfold DBF; pointwise [k0_pay37]; rfl
  | succ K ih =>
    have hk : K < 32 := hK
    rw [Finset.sum_range_succ, ← ih (by omega)]
    rw [show DBF (F := Ideal) u dy (K + 1) = _ from DBF.eq_2 .., ld_square]
    unfold dmv
    rw [← ld_band u hk, ← ld_band dy hk]
    generalize View.ld u (band (at1 K)) = a
    generalize View.ld dy (band (at1 K)) = b
    generalize DBF (F := Ideal) u dy K = d
    pointwise [k0_pay10, k0_pay9]

theorem OB_ix (r : Fin 128) (h : Fin 4) : OB (F := Ideal) u dy (ix2 r ⟨h.val, by omega⟩)
    = ∑ k ∈ Finset.range 32, ∑ e : Fin 64, dmv u dy (128 * k + r) (hcol h e) := by
  unfold OB
  refine (db_ix _ r h).trans ?_
  exact (Finset.sum_congr rfl fun e _ => (congrFun (ld_square _) _).trans (DBF_ix u dy _ _ 32 le_rfl)).trans Finset.sum_comm

theorem DW_ix (h : Fin 4) (r s : Fin 128) (K : ℕ) (hK : K ≤ 32) : DW (F := Ideal) hd u v dy g K (ix3 h r s)
    = ∑ k ∈ Finset.range K, ∑ e : Fin 64, dmv u dy (128 * k + r) (hcol h e) * (hat (rowOf v (128 * k + s)) (hcol h e) * g (ix2 0 (hcol h e))) := by
  induction K with
  | zero => unfold DW; pointwise [k0_pay35]; rfl
  | succ K ih =>
    have hk : K < 32 := hK
    rw [Finset.sum_range_succ, ← ih (by omega)]
    rw [show DW (F := Ideal) hd u v dy g (K + 1) = _ from DW.eq_2 ..]
    have e1 : ∀ c, vn (F := Ideal) v g K (ix2 s c) = hat (rowOf v (128 * K + s)) c * g (ix2 0 c) := fun c => by
      unfold vn; rw [pay5_ix, ld_rowOf v hk, ld_row]
    have e2 : ∀ c, dm (F := Ideal) u dy K (ix2 r c) = dmv u dy (128 * K + r) c := fun c => by
      unfold dm dmv; rw [← ld_band u hk, ← ld_band dy hk]
      generalize View.ld u (band (at1 K)) = a
      generalize View.ld dy (band (at1 K)) = b
      pointwise [k0_pay9]
    unfold heads
    rcases (by fin_cases h <;> simp : h = 0 ∨ h = 1 ∨ h = 2 ∨ h = 3) with rfl | rfl | rfl | rfl
    · refine (if_pos rfl).trans ((pay14_ix _ _ _ _ r s).trans ?_)
      rw [ld_head _ (by decide) inb_S4x128x128_S1x128x128_0_0_0]
      simp only [e1, dmv, ld_band dy hk, ld_band u hk]; rfl
    · refine (if_neg (by simp)).trans ((if_pos rfl).trans ((pay16_ix _ _ _ r s).trans ?_))
      rw [ld_head _ (by decide) inb_S4x128x128_S1x128x128_1_0_0]
      simp only [e1, e2]; rfl
    · refine (if_neg (by simp)).trans ((if_neg (by simp)).trans ((if_pos rfl).trans ((pay18_ix _ _ _ r s).trans ?_)))
      rw [ld_head _ (by decide) inb_S4x128x128_S1x128x128_2_0_0]
      simp only [e1, e2]; rfl
    · refine (if_neg (by simp)).trans ((if_neg (by simp)).trans ((if_neg (by simp)).trans ((pay23_ix _ _ _ r s).trans ?_)))
      rw [ld_head _ (by decide) inb_S4x128x128_S1x128x128_3_0_0]
      simp only [e1, e2]; rfl

theorem mask_ix (p : Vec Ideal S1x128x128 .f32) (r s : Fin 128) : k0_pay40 k0_pay38 p (ix3 0 r s) = if s.val ≤ r.val then p (ix3 0 r s) else 0 := by
  rw [← keep]; pointwise [k0_pay40, k0_pay38]
theorem mask_ix1 (p : Vec Ideal S1x128x128 .f32) (r s : Fin 128) : k0_pay42 k0_pay38 p (ix3 0 r s) = if s.val ≤ r.val then p (ix3 0 r s) else 0 := by
  rw [← keep]; pointwise [k0_pay42, k0_pay38]
theorem mask_ix2 (p : Vec Ideal S1x128x128 .f32) (r s : Fin 128) : k0_pay45 k0_pay38 p (ix3 0 r s) = if s.val ≤ r.val then p (ix3 0 r s) else 0 := by
  rw [← keep]; pointwise [k0_pay45, k0_pay38]
theorem mask_ix3 (p : Vec Ideal S1x128x128 .f32) (r s : Fin 128) : k0_pay47 k0_pay38 p (ix3 0 r s) = if s.val ≤ r.val then p (ix3 0 r s) else 0 := by
  rw [← keep]; pointwise [k0_pay47, k0_pay38]

theorem OW_ix (h : Fin 4) (r s : Fin 128) : OW (F := Ideal) u v dy g (ix3 h r s) = if s.val ≤ r.val then
    ∑ k ∈ Finset.range 32, ∑ e : Fin 64, dmv u dy (128 * k + r) (hcol h e) * (hat (rowOf v (128 * k + s)) (hcol h e) * g (ix2 0 (hcol h e))) else 0 := by
  rw [← DW_ix u v dy g h r s 32 le_rfl]
  unfold OW heads
  rcases (by fin_cases h <;> simp : h = 0 ∨ h = 1 ∨ h = 2 ∨ h = 3) with rfl | rfl | rfl | rfl
  · refine (if_pos rfl).trans ((mask_ix _ r s).trans ?_)
    rw [ld_head _ (by decide) inb_S4x128x128_S1x128x128_0_0_0]; rfl
  · refine (if_neg (by simp)).trans ((if_pos rfl).trans ((mask_ix1 _ r s).trans ?_))
    rw [ld_head _ (by decide) inb_S4x128x128_S1x128x128_1_0_0]; rfl
  · refine (if_neg (by simp)).trans ((if_neg (by simp)).trans ((if_pos rfl).trans ((mask_ix2 _ r s).trans ?_)))
    rw [ld_head _ (by decide) inb_S4x128x128_S1x128x128_2_0_0]; rfl
  · refine (if_neg (by simp)).trans ((if_neg (by simp)).trans ((if_neg (by simp)).trans ((mask_ix3 _ r s).trans ?_)))
    rw [ld_head _ (by decide) inb_S4x128x128_S1x128x128_3_0_0]; rfl

end Cert.MixBIdeal.Hand

end
-- ==== Proof.Axes.lean ====
/- A host sum over the first and the last of four axes. -/
module

public import Idealize.ShloMosaic.Lib.Pointwise

@[expose] public section

noncomputable section

namespace Cert.Axes

open Idealize.ShloMosaic

variable {n0 n1 n2 n3 : ℕ}

theorem sum_outer (h : (⟨4, ![n0, n1, n2, n3]⟩ : Shape).ReducesTo [0, 3] (⟨2, ![n1, n2]⟩ : Shape)) (v : (⟨4, ![n0, n1, n2, n3]⟩ : Shape).Idx → EReal)
    (init : EReal) (p : Fin n1) (q : Fin n2) :
    Ideal.hostReduceAdd h v init (ix2 p q) = init + ∑ a : Fin n0, ∑ e : Fin n3, v (ix4 a p q e) := by
  refine congrArg (init + ·) ((Finset.sum_filter_eq_sum_of_fiber _ (fun k : Fin n0 × Fin n3 => ix4 k.1 p q k.2)
    (fun _ _ e => Prod.ext (congrFun e 0) (congrFun e 3)) (fun i => ⟨fun e => ⟨(i 0, i 3), ?_⟩, ?_⟩) v).trans ?_)
  · funext a; apply Fin.ext
    match a with
    | ⟨0, _⟩ => rfl
    | ⟨1, _⟩ => exact (congrArg Fin.val (congrFun e (0 : Fin 2))).symm
    | ⟨2, _⟩ => exact (congrArg Fin.val (congrFun e (1 : Fin 2))).symm
    | ⟨3, _⟩ => rfl
  · rintro ⟨k, rfl⟩
    funext b; apply Fin.ext
    match b with
    | ⟨0, _⟩ => rfl
    | ⟨1, _⟩ => rfl
  · rw [Fintype.sum_prod_type]

end Cert.Axes

end
-- ==== Proof.MixBRefV.lean ====
/- The second mixer's gradients as jax.vjp leaves them, entry by entry. -/
module

public import proofs.«01_k».proof.Proof.MixBVal
public import proofs.«01_k».proof.Proof.Axes
public import proofs.«01_k».proof.Proof.Gen.MixBRefIdeal.Read

@[expose] public section

noncomputable section

namespace Cert.MixBRefIdeal.Read

open Idealize.ShloMosaic Idealize.ShloMosaic.TcCoe Idealize.SL.Sem
open Cert.MixBRefIdeal Cert.MixBRefIdeal.Gen Cert.Grid Cert.LayerNorm
open Cert.MixBIdeal.Hand (hcol tri tri_of rowOf dmv dvn keep)

variable (z : Vec Ideal S4096x2048 .f32) (d : Vec Ideal S4096x1024 .f32) (g : Vec Ideal S256 .f32) (w : Vec Ideal S4x128x128 .f32) (b : Vec Ideal S4x128 .f32)

/-- The mixed rows, the rows they are mixed from, and the cotangent. -/
abbrev U := col 768 (by decide) z
abbrev V := col 1024 (by decide) z
abbrev DY := col 256 (by decide) d
/-- The scale laid out as a row. -/
abbrev G : Vec Ideal S1x256 .f32 := fun y => g (ix1 (y 1))

theorem row_eq (n : Fin 4096) : rowOf (V z) n = fun c => z (ix2 n ⟨1024 + c.val, by omega⟩) :=
  funext fun c => (at2_ix (V z) n c).symm

theorem hat_ix (n : Fin 4096) (c : Fin 256) : val_main_v24 (F := Ideal) z (ix2 n c) = hat (rowOf (V z) n) c := by
  rw [row_eq]
  unfold val_main_v24 val_main_v16 val_main_v23 val_main_v19 val_main_v18 val_main_v14 val_main_v12 val_main_v11 val_main_v8 val_main_v7 val_main_v15 val_main_v6 val_main_v5 val_main_v17 val_main_v13 val_main_v4 val_main_v3 val_main_v2 val_main_v1 val_main_cst_4 val_main_cst_3 val_main_cst_2 val_main_cst_0 val_main_cst
  unfold hat rs cen mean
  pointwise

theorem dm_ix (n : Fin 4096) (c : Fin 256) : val_main_v39 (F := Ideal) z d (ix2 n c) = dmv (U z) (DY d) n c := by
  unfold dmv
  rw [← at2_ix, ← at2_ix]
  unfold val_main_v39 val_main_v38 val_main_v0
  pointwise
  exact mul_comm _ _

theorem at128 {k r h e : ℕ} (hh : h < 4) (he : e < 64) : (((k * 128 + r) * 4 + h) * 64 + e) / 256 = 128 * k + r := by omega
theorem in256 {k r h e : ℕ} (hh : h < 4) (he : e < 64) : (((k * 128 + r) * 4 + h) * 64 + e) % 256 = 64 * h + e := by omega

theorem split_ix (k : Fin 32) (r : Fin 128) (h : Fin 4) (e : Fin 64) :
    idx_main_v28 (ix4 k r h e) = ix2 ⟨128 * k.val + r.val, by omega⟩ (hcol h e) := by
  funext a; match a with
  | ⟨0, _⟩ => exact Fin.ext (at128 h.isLt e.isLt)
  | ⟨1, _⟩ => exact Fin.ext (in256 h.isLt e.isLt)

theorem vn_ix (k : Fin 32) (r : Fin 128) (h : Fin 4) (e : Fin 64) : val_main_v28 (F := Ideal) z g (ix4 k r h e)
    = hat (rowOf (V z) (128 * k + r)) (hcol h e) * G g (ix2 0 (hcol h e)) := by
  rw [val_main_v28_apply, split_ix, val_main_v27_apply, hat_ix]
  refine congrArg (fun y : EReal => hat (rowOf (V z) (128 * k + r)) (hcol h e) * y) ?_
  unfold val_main_v26 val_main_v25
  pointwise
  rfl

theorem dmo_ix (k : Fin 32) (r : Fin 128) (h : Fin 4) (e : Fin 64) : val_main_v41 (F := Ideal) z d (ix4 k r h e)
    = dmv (U z) (DY d) (128 * k + r) (hcol h e) := by
  rw [val_main_v41_apply]; exact (congrArg _ (split_ix k r h e)).trans (dm_ix z d _ _)

theorem low_ix (h : Fin 4) (r s : Fin 128) : val_main_v29_1 (F := Ideal) (ix3 h r s) = IntOp.cmpi .sge (BitVec.ofNat 32 r.val) (BitVec.ofNat 32 s.val) := by
  unfold val_main_v29_1 val_main_call0_v4 val_main_call0_v2 val_main_call0_v3 val_main_call0_v0 val_main_call0_v1 val_main_call0_c
  pointwise
  exact congrArg (IntOp.cmpi .sge · _) (BitVec.add_zero _)

theorem tril_ix (h : Fin 4) (r s : Fin 128) : val_main_v29_0 (F := Ideal) w (ix3 h r s) = tri w h r s := by
  rw [tri_of w h.isLt, val_main_v29_0_apply, low_ix, ← keep r s]
  refine congrArg (Scalar.select _ _) ?_
  unfold val_main_call0_v6 val_main_call0_cst
  pointwise

theorem parts_ix (n : Fin 4096) (c : Fin 256) : idx_main_v36 (ix2 n c)
    = ix4 ⟨n.val / 128, by omega⟩ ⟨n.val % 128, by omega⟩ ⟨c.val / 64, by omega⟩ ⟨c.val % 64, by omega⟩ := by
  funext a; match a with
  | ⟨0, _⟩ => exact Fin.ext (show (n.val * 256 + c.val) / 32768 = n.val / 128 by omega)
  | ⟨1, _⟩ => exact Fin.ext (show (n.val * 256 + c.val) / 256 % 128 = n.val % 128 by omega)
  | ⟨2, _⟩ => exact Fin.ext (show (n.val * 256 + c.val) / 64 % 4 = c.val / 64 by omega)
  | ⟨3, _⟩ => exact Fin.ext (show (n.val * 256 + c.val) % 64 = c.val % 64 by omega)

theorem hcol_of (c : Fin 256) : hcol ⟨c.val / 64, by omega⟩ ⟨c.val % 64, by omega⟩ = c := Fin.ext (Nat.div_add_mod _ _)

theorem dv_ix (n : Fin 4096) (c : Fin 256) : val_main_v51 (F := Ideal) z d w (ix2 n c) = dvn (U z) (DY d) w n c := by
  rw [val_main_v51_apply, show idx_main_v51 (ix2 n c) = _ from parts_ix n c, val_main_v49_apply, val_main_v48_apply]
  unfold dvn
  refine Finset.sum_congr rfl fun r _ => ?_
  rw [mul_comm]
  refine congrArg₂ (· * ·) ?_ ?_
  · exact (congrArg (val_main_v29_0 w) (eq_ix3 _)).trans (tril_ix w ⟨c.val / 64, by omega⟩ r ⟨n.val % 128, by omega⟩)
  · rw [val_main_v46_apply]
    exact (congrArg (val_main_v41 z d) (eq_ix4 _)).trans <| (dmo_ix z d ⟨n.val / 128, by omega⟩ r ⟨c.val / 64, by omega⟩ ⟨c.val % 64, by omega⟩).trans (by rw [hcol_of])

theorem mixed_ix (n : Fin 4096) (c : Fin 256) : val_main_v31 (F := Ideal) z g w (idx_main_v36 (ix2 n c))
    = ∑ s : Fin 128, tri w (c.val / 64) (n.val % 128) s * (hat (rowOf (V z) (128 * (n.val / 128) + s)) c * G g (ix2 0 c)) := by
  rw [parts_ix, val_main_v31_apply, val_main_v30_apply]
  refine Finset.sum_congr rfl fun s _ => ?_
  rw [mul_comm]
  refine congrArg₂ (· * ·) ?_ ?_
  · exact (congrArg (val_main_v29_0 w) (eq_ix3 _)).trans (tril_ix w ⟨c.val / 64, by omega⟩ ⟨n.val % 128, by omega⟩ s)
  · exact (congrArg (val_main_v28 z g) (eq_ix4 _)).trans <| (vn_ix z g ⟨n.val / 128, by omega⟩ s ⟨c.val / 64, by omega⟩ ⟨c.val % 64, by omega⟩).trans (by rw [hcol_of])

theorem du_ix (n : Fin 4096) (c : Fin 256) : val_main_v82 (F := Ideal) z d g w b (ix2 n c)
    = at2 (DY d) n c * (b (ix2 ⟨c.val / 64, by omega⟩ ⟨n.val % 128, by omega⟩)
      + ∑ s : Fin 128, tri w (c.val / 64) (n.val % 128) s * (hat (rowOf (V z) (128 * (n.val / 128) + s)) c * G g (ix2 0 c))) := by
  rw [← at2_ix, ← mixed_ix]
  show val_main_v40 (F := Ideal) z d g w b (ix2 n c) = _
  rw [val_main_v40_apply, val_main_v36_apply, val_main_v35_apply]
  generalize val_main_v31 (F := Ideal) z g w (idx_main_v36 (ix2 n c)) = M
  have hc : (⟨(n.val * 256 + c.val) / 64 % 4, by omega⟩ : Fin 4) = ⟨c.val / 64, by omega⟩ := Fin.ext (show (n.val * 256 + c.val) / 64 % 4 = c.val / 64 by omega)
  have hn : (⟨(n.val * 256 + c.val) / 256 % 128, by omega⟩ : Fin 128) = ⟨n.val % 128, by omega⟩ := Fin.ext (show (n.val * 256 + c.val) / 256 % 128 = n.val % 128 by omega)
  unfold val_main_v38 val_main_v34 val_main_v33 val_main_v32
  pointwise
  refine congrArg (fun y : EReal => DY d (ix2 n c) * y) ((congrArg (fun y : EReal => M + y) (congrArg b ?_)).trans (add_comm _ _))
  exact congrArg₂ ix2 hc hn

theorem dvhat_ix (n : Fin 4096) (c : Fin 256) : val_main_v83 (F := Ideal) z d g w (ix2 n c)
    = chain (rowOf (V z) n) (fun c => dvn (U z) (DY d) w n c * G g (ix2 0 c)) c := by
  have e : (fun c => dvn (U z) (DY d) w n c * G g (ix2 0 c)) = fun c => val_main_v51 (F := Ideal) z d w (ix2 n c) * g (ix1 c) :=
    funext fun c => congrArg (· * _) (dv_ix z d w n c).symm
  rw [e, row_eq]
  show val_main_v81 (F := Ideal) z d g w (ix2 n c) = _
  unfold val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v56 val_main_v55
  generalize val_main_v51 (F := Ideal) z d w = D
  unfold val_main_v25 val_main_v16 val_main_v22 val_main_v21 val_main_v20 val_main_v19 val_main_v18 val_main_v17 val_main_v15 val_main_v14 val_main_v13 val_main_v12 val_main_v11 val_main_v10 val_main_v9 val_main_v8 val_main_v7 val_main_v6 val_main_v5 val_main_v4 val_main_v3 val_main_v2 val_main_v1 val_main_cst_16 val_main_cst_15 val_main_cst_14 val_main_cst_13 val_main_cst_12 val_main_cst_11 val_main_cst_10 val_main_cst_5 val_main_cst_4 val_main_cst_3 val_main_cst_2 val_main_cst_1 val_main_cst_0 val_main_cst
  unfold chain spread rs cen mean
  pointwise
  simp only [Finset.univ_unique, Finset.sum_singleton, zero_add]

theorem dg_ix (c : Fin 256) : val_main_v57 (F := Ideal) z d w (ix1 c)
    = ∑ n : Fin 4096, dvn (U z) (DY d) w n c * hat (rowOf (V z) n) c := by
  have e : ∀ n : Fin 4096, dvn (U z) (DY d) w n c * hat (rowOf (V z) n) c = val_main_v24 (F := Ideal) z (ix2 n c) * val_main_v51 (F := Ideal) z d w (ix2 n c) :=
    fun n => by rw [dv_ix, hat_ix, mul_comm]
  simp only [e]
  unfold val_main_v57 val_main_v54 val_main_v53 val_main_v52 val_main_cst_9 val_main_cst_8
  generalize val_main_v24 (F := Ideal) z = X
  generalize val_main_v51 (F := Ideal) z d w = D
  pointwise
  simp

theorem dw_ix (h : Fin 4) (r s : Fin 128) : val_main_v50 (F := Ideal) z d g (ix3 h r s)
    = if s.val ≤ r.val then ∑ k ∈ Finset.range 32, ∑ e : Fin 64, dmv (U z) (DY d) (128 * k + r) (hcol h e)
        * (hat (rowOf (V z) (128 * k + s)) (hcol h e) * G g (ix2 0 (hcol h e))) else 0 := by
  have t (k : Fin 32) (e : Fin 64) : dmv (U z) (DY d) (128 * k + r) (hcol h e) * (hat (rowOf (V z) (128 * k + s)) (hcol h e) * G g (ix2 0 (hcol h e)))
      = val_main_v46 (F := Ideal) z d (ix4 h k e r) * val_main_v28 (F := Ideal) z g (ix4 k s h e) := by
    rw [vn_ix, val_main_v46_apply]
    exact congrArg (· * _) ((dmo_ix z d k r h e).symm.trans (congrArg (val_main_v41 z d) (eq_ix4 (idx_main_v46 (ix4 h k e r))).symm))
  simp only [Finset.sum_range, t]
  rw [val_main_v50_apply, low_ix, ← keep r s]
  unfold val_main_v47
  generalize val_main_v46 (F := Ideal) z d = Y
  generalize val_main_v28 (F := Ideal) z g = X
  unfold val_main_call1_v0 val_main_call1_cst
  pointwise

theorem db_ix (h : Fin 4) (r : Fin 128) : val_main_v45 (F := Ideal) z d (ix2 h r)
    = ∑ k ∈ Finset.range 32, ∑ e : Fin 64, dmv (U z) (DY d) (128 * k + r) (hcol h e) := by
  have t (k : Fin 32) (e : Fin 64) : dmv (U z) (DY d) (128 * k + r) (hcol h e) = val_main_v41 (F := Ideal) z d (ix4 k r h e) := (dmo_ix z d k r h e).symm
  simp only [Finset.sum_range, t]
  unfold val_main_v45 val_main_v44 val_main_v43 val_main_v42 val_main_cst_7 val_main_cst_6
  generalize val_main_v41 (F := Ideal) z d = Y
  pointwise
  rw [Axes.sum_outer]
  pointwise
  rw [Axes.sum_outer]
  pointwise
  simp

end Cert.MixBRefIdeal.Read
-- ==== Proof.Finite.lean ====
/- A precondition that an array's sizes are below infinity, read as: its entries are real numbers. -/
module

public import proofs.«01_k».proof.Proof.Reals
public import proofs.«01_k».proof.Proof.Words
public import Idealize.ShloMosaic.Lib.Pointwise

@[expose] public section

noncomputable section

namespace Cert.Reals

open Idealize.ShloMosaic

/-- Every entry is a real number. -/
abbrev Finite {S : Shape} (v : S.Idx → EReal) : Prop := ∀ i, Real' (v i)

theorem w_top : Ideal.ofBits .f32 0x7F800000#32 = ⊤ := by
  simp [Ideal.ofBits, Ideal.ieee]

theorem finite_of {S : Shape} (v : FVec Ideal S .f32) (hb : (⟨0, ![]⟩ : Shape).BroadcastsInDim S (![] : Fin 0 → Fin S.rank))
    (h : cmpf .olt (Host.absf v) (broadcastInDim S ![] hb (constant ⟨0, ![]⟩ .f32 0x7F800000#32)) = fun _ => 1#1) : Finite v := fun i => by
  have e := congrFun h i
  pointwise at e
  rw [w_top] at e
  refine of_abs_lt ?_
  by_contra hn
  rw [show (FloatOps.absf (v i) : EReal) = max (v i) (-(v i)) from rfl, decide_eq_false hn] at e
  exact absurd e (by decide)

theorem w_top16 : Ideal.ofBits .bf16 0x7F80#16 = ⊤ := by
  simp [Ideal.ofBits, Ideal.ieee]

theorem finite_of16 {S : Shape} (v : FVec Ideal S .bf16) (hb : (⟨0, ![]⟩ : Shape).BroadcastsInDim S (![] : Fin 0 → Fin S.rank))
    (h : cmpf .olt (Host.absf v) (broadcastInDim S ![] hb (constant ⟨0, ![]⟩ .bf16 0x7F80#16)) = fun _ => 1#1) : Finite v := fun i => by
  have e := congrFun h i
  pointwise at e
  rw [w_top16] at e
  refine of_abs_lt ?_
  by_contra hn
  rw [show (FloatOps.absf (v i) : EReal) = max (v i) (-(v i)) from rfl, decide_eq_false hn] at e
  exact absurd e (by decide)

end Cert.Reals

end
-- ==== Proof.MixBFinal.lean ====
/- The second mixer's blocks, and its gradients against the reference's. -/
module

public import proofs.«01_k».proof.Proof.Held
public import proofs.«01_k».proof.Proof.MixBLaunch
public import proofs.«01_k».proof.Proof.MixBRefV
public import proofs.«01_k».proof.Proof.Finite

@[expose] public section

noncomputable section

namespace Cert.MixBIdeal.Hand

open Idealize.ShloMosaic Idealize.ShloMosaic.TcCoe Idealize.SL.Sem
open Cert.Held Cert.MixBIdeal Cert.MixBIdeal.Gen Cert.Grid Cert.LayerNorm Cert.Reals
open Cert.MixBRefIdeal.Read (U V DY G)

variable (m : (ℓ : Loc nD τ sig) → Buf (Elt Ideal) ℓ)

theorem idx : ∀ t : Fin cfg0.N, win0_0.index t = ![0, 3] ∧ win0_1.index t = ![0, 4] ∧ win0_2.index t = ![0, 1] ∧ win0_3.index t = ![0, 0]
    ∧ win0_4.index t = ![0, 0, 0] ∧ win0_5.index t = ![0, 0] ∧ win0_6.index t = ![0, 0] ∧ win0_7.index t = ![0, 0] ∧ win0_8.index t = ![0, 0, 0]
    ∧ win0_9.index t = ![0, 0] ∧ win0_10.index t = ![0, 0] :=
  (by decide +kernel : ∀ t : Fin grid0.N, _)

/-- The bias laid out on the tile. -/
def spreadBias (b : Vec Ideal S4x128 .f32) : Vec Ideal S128x256 .f32 := fun y => b (ix2 ⟨(y 1).val / 64, by have h : (y 1).val < 256 := (y 1).isLt; omega⟩ (y 0))

/-- The scale and the bias as the host lays them out. -/
theorem V_v3 (c : Dev nD) : Cert.MixBIdeal.Gen.V m c main_v3 = G (inp m c main_arg2) := by
  show StableHlo.after hostOps0 _ (Proc.devRef .tc main_v3) = _
  after_results
  funext y; idx_vars y
  pointwise
  rfl
theorem V_v2 (c : Dev nD) : Cert.MixBIdeal.Gen.V m c main_v2 = spreadBias (inp m c main_arg4) := by
  show StableHlo.after hostOps0 _ (Proc.devRef .tc main_v2) = _
  after_results
  funext y; idx_vars y
  unfold spreadBias
  pointwise

theorem blk0 (c : Dev nD) : iblk m c 0 t0_0 = U (inp m c main_arg0) := by
  show View.read (Elt Ideal) ((View.whole main_arg0).slice ((win0 0).rect t0_0)) (Cert.MixBIdeal.Gen.V m c main_arg0) = _
  rw [V_main_arg0]
  blk_ext! [idx t0_0, col]
theorem blk1 (c : Dev nD) : iblk m c 1 t0_0 = V (inp m c main_arg0) := by
  show View.read (Elt Ideal) ((View.whole main_arg0).slice ((win0 1).rect t0_0)) (Cert.MixBIdeal.Gen.V m c main_arg0) = _
  rw [V_main_arg0]
  blk_ext! [idx t0_0, col]
theorem blk2 (c : Dev nD) : iblk m c 2 t0_0 = DY (inp m c main_arg1) := by
  show View.read (Elt Ideal) ((View.whole main_arg1).slice ((win0 2).rect t0_0)) (Cert.MixBIdeal.Gen.V m c main_arg1) = _
  rw [V_main_arg1]
  blk_ext! [idx t0_0, col]
theorem blk3 (c : Dev nD) : iblk m c 3 t0_0 = G (inp m c main_arg2) := by
  show View.read (Elt Ideal) ((View.whole main_v3).slice ((win0 3).rect t0_0)) (Cert.MixBIdeal.Gen.V m c main_v3) = _
  rw [V_v3]
  blk_ext! [idx t0_0]
theorem blk4 (c : Dev nD) : iblk m c 4 t0_0 = inp m c main_arg3 := by
  show View.read (Elt Ideal) ((View.whole main_arg3).slice ((win0 4).rect t0_0)) (Cert.MixBIdeal.Gen.V m c main_arg3) = _
  rw [V_main_arg3]
  blk_ext! [idx t0_0, col]
theorem blk5 (c : Dev nD) : iblk m c 5 t0_0 = spreadBias (inp m c main_arg4) := by
  show View.read (Elt Ideal) ((View.whole main_v2).slice ((win0 5).rect t0_0)) (Cert.MixBIdeal.Gen.V m c main_v2) = _
  rw [V_v2]
  blk_ext! [idx t0_0]

theorem final6 (c : Dev nD) : (dats m 0 c).arrAt 6 (cfgs 0).N = OU (F := Ideal) (V (inp m c main_arg0)) (DY (inp m c main_arg1)) (G (inp m c main_arg2)) (inp m c main_arg3) (spreadBias (inp m c main_arg4)) := by
  refine (dats m 0 c).arrAt_eq_of_after_last 6 t0_0 (by decide +kernel) _ fun j => ?_
  blk_simp
  rw [after_6]
  unfold out6
  rw [blk1, blk2, blk3, blk4, blk5]

theorem final7 (c : Dev nD) : (dats m 0 c).arrAt 7 (cfgs 0).N = OV (F := Ideal) (U (inp m c main_arg0)) (V (inp m c main_arg0)) (DY (inp m c main_arg1)) (G (inp m c main_arg2)) (inp m c main_arg3) := by
  refine (dats m 0 c).arrAt_eq_of_after_last 7 t0_0 (by decide +kernel) _ fun j => ?_
  blk_simp
  rw [after_7]
  unfold out7
  rw [blk0, blk1, blk2, blk3, blk4]

theorem final8 (c : Dev nD) : (dats m 0 c).arrAt 8 (cfgs 0).N = OW (F := Ideal) (U (inp m c main_arg0)) (V (inp m c main_arg0)) (DY (inp m c main_arg1)) (G (inp m c main_arg2)) := by
  refine (dats m 0 c).arrAt_eq_of_after_last 8 t0_0 (by decide +kernel) _ fun j => ?_
  blk_simp
  rw [after_8]
  unfold out8
  rw [blk0, blk1, blk2, blk3]

theorem final9 (c : Dev nD) : (dats m 0 c).arrAt 9 (cfgs 0).N = OB (F := Ideal) (U (inp m c main_arg0)) (DY (inp m c main_arg1)) := by
  refine (dats m 0 c).arrAt_eq_of_after_last 9 t0_0 (by decide +kernel) _ fun j => ?_
  blk_simp
  rw [after_9]
  unfold out9
  rw [blk0, blk2]

theorem final10 (c : Dev nD) : (dats m 0 c).arrAt 10 (cfgs 0).N = OG (F := Ideal) (U (inp m c main_arg0)) (V (inp m c main_arg0)) (DY (inp m c main_arg1)) (inp m c main_arg3) := by
  refine (dats m 0 c).arrAt_eq_of_after_last 10 t0_0 (by decide +kernel) _ fun j => ?_
  blk_simp
  rw [after_10]
  unfold out10
  rw [blk0, blk1, blk2, blk4]

/-- An output array as the host operations after the region find it. -/
theorem arr_after (c : Dev nD) (w : Fin 11) :
    Pipeline.withArrays (cfgs 0).spec c (V0 m c) (fun w => (dats m 0 c).arrAt w (cfgs 0).N) (Proc.devRef .tc (Pipeline.arrRef spec0 w)) = (dats m 0 c).arrAt w (cfgs 0).N :=
  Pipeline.withArrays_arr_shared _ c _ _ (fun w w' hne e => (dats m 0 c).arrAt_sharedIn sharedIn0 _ (A_eq m c) _ w w' hne e) w

theorem tail6 (c : Dev nD) (h : Fin 4) (r : Fin 128) : Pipeline.afterTail₀ cfgs (dats m) 0 (V0 m) [hostOps1] c main_v6 (ix2 h r)
    = OB (F := Ideal) (U (inp m c main_arg0)) (DY (inp m c main_arg1)) (ix2 r ⟨h.val, by omega⟩) := by
  rw [← final9, ← arr_after]
  show StableHlo.after hostOps1 _ (Proc.devRef .tc main_v6) (ix2 h r) = _
  after_results
  generalize Pipeline.withArrays (cfgs 0).spec c (V0 m c) (fun w => (dats m 0 c).arrAt w (cfgs 0).N) = W
  pointwise

theorem tail7 (c : Dev nD) (k : Fin 256) : Pipeline.afterTail₀ cfgs (dats m) 0 (V0 m) [hostOps1] c main_v7 (ix1 k)
    = OG (F := Ideal) (U (inp m c main_arg0)) (V (inp m c main_arg0)) (DY (inp m c main_arg1)) (inp m c main_arg3) (ix2 0 k) := by
  rw [← final10, ← arr_after]
  show StableHlo.after hostOps1 _ (Proc.devRef .tc main_v7) (ix1 k) = _
  after_results
  generalize Pipeline.withArrays (cfgs 0).spec c (V0 m c) (fun w => (dats m 0 c).arrAt w (cfgs 0).N) = W
  pointwise

theorem real_at2 {a b : ℕ} (f : (⟨2, ![a, b]⟩ : Shape).Idx → EReal) (h : ∀ i, Real' (f i)) (n c : ℕ) : Real' (at2 f n c) := by
  unfold at2; split
  · exact h _
  · exact zero

theorem real_tri (w : Vec Ideal S4x128x128 .f32) (h : Finite w) (k r s : ℕ) : Real' (tri w k r s) := by
  unfold tri; split
  · split
    · exact h _
    · exact zero
  · exact zero

theorem real_cot (u dy : Vec Ideal S4096x256 .f32) (w : Vec Ideal S4x128x128 .f32) (g : Vec Ideal S1x256 .f32) (hu : Finite u) (hd : Finite dy) (hw : Finite w) (hg : Finite g)
    (n : ℕ) (c : Fin 256) : Real' (dvn u dy w n c * g (ix2 0 c)) :=
  (Real'.sum _ _ fun r _ => (real_tri w hw _ _ _).mul ((real_at2 dy hd _ _).mul (real_at2 u hu _ _))).mul (hg _)

theorem dv_eq (z : Vec Ideal S4096x2048 .f32) (d : Vec Ideal S4096x1024 .f32) (g : Vec Ideal S256 .f32) (w : Vec Ideal S4x128x128 .f32)
    (hz : Finite z) (hd : Finite d) (hg : Finite g) (hw : Finite w) (n : Fin 4096) (c : Fin 256) :
    Cert.MixBRefIdeal.Read.val_main_v83 (F := Ideal) z d g w (ix2 n c) = OV (F := Ideal) (U z) (V z) (DY d) (G g) w (ix2 n c) := by
  rw [Cert.MixBRefIdeal.Read.dvhat_ix, OV_ix]
  exact (back_eq_chain (fun k => real_at2 _ (fun i => hz _) _ _)
    (fun k => real_cot _ _ _ _ (fun i => hz _) (fun i => hd _) hw (fun i => hg _) _ k) _).symm

theorem du_eq (z : Vec Ideal S4096x2048 .f32) (d : Vec Ideal S4096x1024 .f32) (g : Vec Ideal S256 .f32) (w : Vec Ideal S4x128x128 .f32) (b : Vec Ideal S4x128 .f32)
    (n : Fin 4096) (c : Fin 256) :
    Cert.MixBRefIdeal.Read.val_main_v82 (F := Ideal) z d g w b (ix2 n c) = OU (F := Ideal) (V z) (DY d) (G g) w (spreadBias b) (ix2 n c) := by
  rw [Cert.MixBRefIdeal.Read.du_ix, OU_ix]
  rfl

theorem dw_eq (z : Vec Ideal S4096x2048 .f32) (d : Vec Ideal S4096x1024 .f32) (g : Vec Ideal S256 .f32) (h : Fin 4) (r s : Fin 128) :
    Cert.MixBRefIdeal.Read.val_main_v50 (F := Ideal) z d g (ix3 h r s) = OW (F := Ideal) (U z) (V z) (DY d) (G g) (ix3 h r s) := by
  rw [Cert.MixBRefIdeal.Read.dw_ix, OW_ix]

theorem db_eq (z : Vec Ideal S4096x2048 .f32) (d : Vec Ideal S4096x1024 .f32) (h : Fin 4) (r : Fin 128) :
    Cert.MixBRefIdeal.Read.val_main_v45 (F := Ideal) z d (ix2 h r) = OB (F := Ideal) (U z) (DY d) (ix2 r ⟨h.val, by omega⟩) := by
  rw [Cert.MixBRefIdeal.Read.db_ix, OB_ix]

theorem dg_eq (z : Vec Ideal S4096x2048 .f32) (d : Vec Ideal S4096x1024 .f32) (w : Vec Ideal S4x128x128 .f32) (c : Fin 256) :
    Cert.MixBRefIdeal.Read.val_main_v57 (F := Ideal) z d w (ix1 c) = OG (F := Ideal) (U z) (V z) (DY d) w (ix2 0 c) := by
  rw [Cert.MixBRefIdeal.Read.dg_ix, OG_ix]

end Cert.MixBIdeal.Hand

end
-- ==== Proof.MixBPair.lean ====
/- What the two programs of MixB leave. -/
module

public import proofs.«01_k».proof.Defs
public import proofs.«01_k».proof.Proof.Gen.MixB
public import proofs.«01_k».proof.Proof.MixBFinal
public import proofs.«01_k».proof.Proof.Gen.MixBRefIdeal.Run
public import proofs.«01_k».proof.Proof.Gen.MixBRefIdeal.Read

@[expose] public section

noncomputable section

namespace Cert.MixBPair

open Idealize.ShloMosaic Idealize.ShloMosaic.TcCoe Idealize.SL.Sem Cert.Reals

theorem defs_eq : (Cert.MixB.defs (F := Bits)) = Cert.MixBIdeal.defs := by sl_kernel_rfl
theorem main_eq : (Cert.MixB.main (F := Bits)) = Cert.MixBIdeal.main := by sl_kernel_rfl

theorem frame : @Cert.quiescent_MixB Cert.MixB.Gen.facts := fun m ρ _ => by
  have h := Cert.MixBIdeal.Hand.frame_run (F := Bits) m ρ
  rw [← defs_eq, ← main_eq] at h
  exact h

theorem frame_ideal : @Cert.quiescent_MixBIdeal Cert.MixBIdeal.Gen.facts := fun m ρ _ => Cert.MixBIdeal.Hand.frame_run m ρ

theorem frame_ref : @Cert.quiescent_MixBRefIdeal Cert.MixBRefIdeal.Gen.facts := fun m ρ _ =>
  (θ_run _ _ _).mono (fun r h => ⟨fun c => (h c).2.2.2.2.2, sem_eq_zero_of_no_sems rfl r.2⟩) (Cert.MixBRefIdeal.Value.run m ρ)

/-- The side conditions of the precondition's operations. -/
theorem pre_facts : Cert.Pre_finite_b.Facts := ⟨by decide, by decide, by decide, by decide⟩

/-- What the precondition says: the arrays' entries are real numbers. -/
theorem reals [Cert.Pre_finite_b.Facts] (m) (h : Cert.Pre_MixBIdeal_finite_b m) (c : Dev Cert.MixBIdeal.nD) :
    Finite (m ((c.tc : Thread Cert.MixBIdeal.nD Cert.MixBIdeal.τ).loc Cert.MixBIdeal.main_arg0))
    ∧ Finite (m ((c.tc : Thread Cert.MixBIdeal.nD Cert.MixBIdeal.τ).loc Cert.MixBIdeal.main_arg1))
    ∧ Finite (m ((c.tc : Thread Cert.MixBIdeal.nD Cert.MixBIdeal.τ).loc Cert.MixBIdeal.main_arg2))
    ∧ Finite (m ((c.tc : Thread Cert.MixBIdeal.nD Cert.MixBIdeal.τ).loc Cert.MixBIdeal.main_arg3)) :=
  have ⟨h0, h1, h2, h3⟩ := h c
  ⟨finite_of _ _ h0, finite_of _ _ h1, finite_of _ _ h2, finite_of _ _ h3⟩

theorem algebraic : @Cert.algebraic_MixBIdeal_MixBRefIdeal_pre_finite_b Cert.MixBIdeal.Gen.facts Cert.MixBRefIdeal.Gen.facts pre_facts := by
  pair_intro
  · run_from Cert.MixBIdeal.Hand.run_main m g
    · exact Cert.MixBIdeal.Gen.W_main_arg2 m _ c
    · exact Cert.MixBIdeal.Gen.W_main_arg4 m _ c
  · run_from Cert.MixBRefIdeal.Value.run m' g'
    · rw [Cert.MixBRefIdeal.Read.val_main_v82_eq]
      funext j
      idx_vars j
      rw [Cert.MixBIdeal.Hand.final6]
      exact Cert.MixBIdeal.Hand.du_eq _ _ _ _ _ _ _
    · have := pre_facts
      obtain ⟨hz, hd, hg, hw⟩ := reals m hpre c
      rw [Cert.MixBRefIdeal.Read.val_main_v83_eq]
      obtain ⟨e0, e1, e2, e3, -⟩ := hagree c
      rw [e0, e1, e2, e3]
      funext j
      idx_vars j
      rw [Cert.MixBIdeal.Hand.final7]
      refine Cert.MixBIdeal.Hand.dv_eq _ _ _ _ ?_ ?_ ?_ ?_ _ _
      · exact hz
      · exact hd
      · exact hg
      · exact hw
    · rw [Cert.MixBRefIdeal.Read.val_main_v50_eq]
      funext j
      idx_vars j
      rw [Cert.MixBIdeal.Hand.final8]
      exact Cert.MixBIdeal.Hand.dw_eq _ _ _ _ _ _
    · rw [Cert.MixBRefIdeal.Read.val_main_v45_eq]
      funext j
      idx_vars j
      rw [Cert.MixBIdeal.Hand.tail6]
      exact Cert.MixBIdeal.Hand.db_eq _ _ _ _
    · rw [Cert.MixBRefIdeal.Read.val_main_v57_eq]
      funext j
      idx_vars j
      rw [Cert.MixBIdeal.Hand.tail7]
      exact Cert.MixBIdeal.Hand.dg_eq _ _ _ _

end Cert.MixBPair

end
-- ==== Proof.Bands.lean ====
/- Buffers of 4096 rows written in 32 bands of 128 rows, and buffers written whole. -/
module

public import proofs.«01_k».proof.Proof.Rows
public import Idealize.ShloMosaic.Lib.Pointwise

@[expose] public section

noncomputable section

namespace Cert.Rows

open Idealize.ShloMosaic

abbrev Band : Shape := ⟨2, ![128, 256]⟩
abbrev All : Shape := ⟨2, ![4096, 256]⟩

/-- Bands of 128 rows put one under another. -/
def stack {α : Type} (W : ℕ → Band.Idx → α) (y : All.Idx) : α :=
  W ((y 0).val / 128) (ix2 ⟨(y 0).val % 128, Nat.mod_lt _ (by decide)⟩ (y 1))

theorem stack_at {α : Type} (W : ℕ → Band.Idx → α) (k : ℕ) (x : Band.Idx) (y : All.Idx)
    (h0 : (y 0).val = 128 * k + (x 0).val) (h1 : (y 1).val = (x 1).val) : W k x = stack W y := by
  have hx : (x 0).val < 128 := (x 0).isLt
  unfold stack
  have e1 : (y 0).val / 128 = k := by omega
  have e2 : (ix2 ⟨(y 0).val % 128, Nat.mod_lt _ (by decide)⟩ (y 1) : Band.Idx) = x := by
    funext a
    match a with
    | ⟨0, _⟩ => exact Fin.ext (show (y 0).val % 128 = (x 0).val by omega)
    | ⟨1, _⟩ => exact Fin.ext h1
  rw [e1, e2]

section

variable {sig : RefSig} {e : EltTy} {Val : EltTy → Type}

/-- The buffer holds the words. -/
def Holds {s : Shape} (v : View sig .tc .vmem s e) (f : v.ty.Contents Val) (G : s.Idx → Val e) : Prop := v.read Val f = G

/-- One store of the whole buffer. -/
theorem whole {a b : ℕ} (v : View sig .tc .vmem (⟨2, ![a, b]⟩ : Shape) e) (f : v.ty.Contents Val) (L : List (View.Piece Val (⟨2, ![a, b]⟩ : Shape) e))
    (inb : ∀ x, (![0, 0] : Fin 2 → ℕ) x + (![a, b] : Fin 2 → ℕ) x ≤ (⟨2, ![a, b]⟩ : Shape).size x) (p : (⟨2, ![a, b]⟩ : Shape).Idx → Val e) :
    v.read Val (v.writes Val f ((⟨Rect.unit (s := ⟨2, ![a, b]⟩) ![0, 0] ![a, b] inb, p⟩ : View.Piece Val (⟨2, ![a, b]⟩ : Shape) e) :: L)) = p := by
  funext y
  refine View.read_writes_cons_unit_of_mem v f inb p L y y rfl fun a => ?_
  match a with
  | ⟨0, _⟩ => exact (Nat.zero_add _).symm
  | ⟨1, _⟩ => exact (Nat.zero_add _).symm

end

/-- `p` rows `z` above the bands. -/
def under {α : Type} {p : ℕ} (z : (⟨2, ![p, 256]⟩ : Shape).Idx → α) (W : ℕ → Band.Idx → α) (y : (⟨2, ![4096 + p, 256]⟩ : Shape).Idx) : α :=
  if h : (y 0).val < p then z (ix2 ⟨(y 0).val, h⟩ (y 1))
  else stack W (ix2 ⟨(y 0).val - p, by have : (y 0).val < 4096 + p := (y 0).isLt; omega⟩ (y 1))

/-- `p` rows `z` below the bands. -/
def above {α : Type} {p : ℕ} (z : (⟨2, ![p, 256]⟩ : Shape).Idx → α) (W : ℕ → Band.Idx → α) (y : (⟨2, ![4096 + p, 256]⟩ : Shape).Idx) : α :=
  if h : (y 0).val < 4096 then stack W (ix2 ⟨(y 0).val, h⟩ (y 1))
  else z (ix2 ⟨(y 0).val - 4096, by have : (y 0).val < 4096 + p := (y 0).isLt; omega⟩ (y 1))

variable {α : Type} {p : ℕ} {z : (⟨2, ![p, 256]⟩ : Shape).Idx → α} {W : ℕ → Band.Idx → α}

theorem under_at (k : ℕ) (x : Band.Idx) (y : (⟨2, ![4096 + p, 256]⟩ : Shape).Idx) (h0 : (y 0).val = p + 128 * k + (x 0).val)
    (h1 : (y 1).val = (x 1).val) : W k x = under z W y := by
  have hn : ¬ (y 0).val < p := by omega
  unfold under
  rw [dif_neg hn, ← stack_at W k x _ (show (y 0).val - p = 128 * k + (x 0).val by omega) h1]

theorem above_at (k : ℕ) (hk : k < 32) (x : Band.Idx) (y : (⟨2, ![4096 + p, 256]⟩ : Shape).Idx) (h0 : (y 0).val = 128 * k + (x 0).val)
    (h1 : (y 1).val = (x 1).val) : W k x = above z W y := by
  have hx : (x 0).val < 128 := (x 0).isLt
  have hn : (y 0).val < 4096 := by omega
  unfold above
  rw [dif_pos hn, ← stack_at W k x _ h0 h1]

theorem under_pad (x : (⟨2, ![p, 256]⟩ : Shape).Idx) (y : (⟨2, ![4096 + p, 256]⟩ : Shape).Idx) (h0 : (y 0).val = 0 + (x 0).val)
    (h1 : (y 1).val = (x 1).val) : z x = under z W y := by
  have hx : (x 0).val < p := (x 0).isLt
  unfold under
  rw [dif_pos (by omega)]
  refine congrArg z (funext fun a => ?_)
  match a with
  | ⟨0, _⟩ => exact Fin.ext (show (x 0).val = (y 0).val by omega)
  | ⟨1, _⟩ => exact Fin.ext h1.symm

theorem above_pad (x : (⟨2, ![p, 256]⟩ : Shape).Idx) (y : (⟨2, ![4096 + p, 256]⟩ : Shape).Idx) (h0 : (y 0).val = 4096 + (x 0).val)
    (h1 : (y 1).val = (x 1).val) : z x = above z W y := by
  unfold above
  rw [dif_neg (by omega)]
  refine congrArg z (funext fun a => ?_)
  match a with
  | ⟨0, _⟩ => exact Fin.ext (show (x 0).val = (y 0).val - 4096 by omega)
  | ⟨1, _⟩ => exact Fin.ext h1.symm

end Cert.Rows

end
-- ==== Proof.MixCLoops.lean ====
/- The two loops of the third mixer's backward call: what each buffer holds before every trip. -/
module

public import proofs.«01_k».proof.Proof.Held
public import proofs.«01_k».proof.Proof.Gen.MixCIdeal.Skeleton
public import proofs.«01_k».proof.Proof.Gen.MixCIdeal.Launch
public import proofs.«01_k».proof.Proof.Bands
public import Idealize.ShloMosaic.Lib.Exec
public import Idealize.ShloMosaic.Lib.Tactic
public import Idealize.ShloMosaic.Lib.Pipeline.Kit

@[expose] public section

noncomputable section

namespace Cert.MixCIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.MixCIdeal Cert.MixCIdeal.Gen Cert.Rows

variable {F : FTy → Type} [FloatOps F]

local notation "𝕄" => MT nD τ sig Unit (Elt F) ℕ (UR sig nD τ) ℕ

theorem trips1 : k0_t1_loop.trips = 32 := by decide +kernel
theorem trips2 : k0_t2_loop.trips = 32 := by decide +kernel
theorem off1 : ∀ k : Fin k0_t1_loop.trips, k0_off1 k = ![128 * k.val, 0] := by decide +kernel
theorem off2 : ∀ k : Fin k0_t1_loop.trips, k0_off2 k = ![32 + 128 * k.val, 0] := by decide +kernel
theorem off3 : ∀ k : Fin k0_t1_loop.trips, k0_off3 k = ![128 * k.val, 0] := by decide +kernel
theorem off4 : ∀ k : Fin k0_t1_loop.trips, k0_off4 k = ![128 * k.val, 0] := by decide +kernel
theorem off5 : ∀ k : Fin k0_t2_loop.trips, k0_off5 k = ![128 * k.val, 0] := by decide +kernel
theorem off6 : ∀ k : Fin k0_t2_loop.trips, k0_off6 k = ![128 * k.val, 0] := by decide +kernel

/-- The trip of the first loop that number `n` names. -/
def at1 (n : ℕ) : Fin k0_t1_loop.trips := ⟨n % k0_t1_loop.trips, Nat.mod_lt _ (by rw [trips1]; decide)⟩
/-- The trip of the second loop that number `n` names. -/
def atB (n : ℕ) : Fin k0_t2_loop.trips := ⟨n % k0_t2_loop.trips, Nat.mod_lt _ (by rw [trips2]; decide)⟩

theorem at1_val (k : Fin k0_t1_loop.trips) : at1 k.val = k := Fin.ext (Nat.mod_eq_of_lt k.isLt)
theorem atB_val (k : Fin k0_t2_loop.trips) : atB k.val = k := Fin.ext (Nat.mod_eq_of_lt k.isLt)

/-- The band of 128 rows at a trip, the rows around it, the small buffers' whole, and one row of the taps' weights. -/
abbrev band (k : Fin k0_t1_loop.trips) : Rect S4096x256 := Rect.unit (k0_off1 k) S128x256.size (k0_off1_inb k)
abbrev band2 (k : Fin k0_t2_loop.trips) : Rect S4096x256 := Rect.unit (k0_off6 k) S128x256.size (k0_off6_inb k)
abbrev row : Rect S1x256 := Rect.unit ![0, 0] S1x256.size inb_S1x256_S1x256_0_0
abbrev lower (k : Fin k0_t1_loop.trips) : Rect S4128x256 := Rect.unit (k0_off2 k) S128x256.size (k0_off2_inb k)
abbrev wide (k : Fin k0_t1_loop.trips) : Rect S4128x256 := Rect.unit (k0_off3 k) S160x256.size (k0_off3_inb k)
abbrev wide2 (k : Fin k0_t2_loop.trips) : Rect S4128x256 := Rect.unit (k0_off5 k) S160x256.size (k0_off5_inb k)
abbrev tapRow (j : Fin 31) : Rect S31x256 := Rect.unit ![j.val, 0] S1x256.size fun x => by
  match x with
  | ⟨0, _⟩ => exact j.isLt
  | ⟨1, _⟩ => exact Nat.le_refl _

/-- The rows that tap `j` meets, the rows' number being the band's. -/
def tap (n : Vec F S160x256 .f32) (j : Fin 31) : FVec F S128x256 .f32 :=
  if j.val = 30 then k0_pay43 n
  else extractStridedSlice S128x256 ![32, 0] (dynamicRotate 0 (BitVec.ofNat 32 (30 - j.val)) none n rotates_S160x256_d0) slices_S160x256_o32_0_S128x256

section Trip

variable (n : Vec F S160x256 .f32) (w : Fin 31 → Vec F S1x256 .f32) (g b : Vec F S1x256 .f32) (dy : Vec F S128x256 .f32)

/-- The convolution of a band but for its last two taps, the inverse deviations, the normed rows, the affine image of
    these, and its sigmoid. -/
def most : FVec F S128x256 .f32 :=
  k0_pay46 (k0_pay32 n) (k0_pay33 n) (k0_pay34 n) (k0_pay35 n) (k0_pay36 n) (k0_pay37 n) (k0_pay38 n) (k0_pay39 n) (k0_pay40 n) (k0_pay41 n)
    (k0_pay45 (k0_pay22 n 21#32) (k0_pay23 n) (k0_pay24 n) (k0_pay25 n) (k0_pay26 n) (k0_pay27 n) (k0_pay28 n) (k0_pay29 n) (k0_pay30 n) (k0_pay31 n) (k0_pay44 (k0_pay13 n) (k0_pay14 n) (k0_pay15 n) (k0_pay16 n) (k0_pay17 n) (k0_pay18 n) (k0_pay19 n) (k0_pay20 n) (k0_pay21 n) (w 0) (w 1) (w 2) (w 3) (w 4) (w 5) (w 6) (w 7) (w 8)) (w 9) (w 10) (w 11) (w 12) (w 13) (w 14) (w 15) (w 16) (w 17) (w 18)) (w 19) (w 20) (w 21) (w 22) (w 23) (w 24) (w 25) (w 26) (w 27) (w 28)
def inv : FVec F S128x1 .f32 := k0_pay48 (k0_pay42 n 1#32) (k0_pay43 n) (most n w) (w 29) (w 30)
def hat : FVec F S128x256 .f32 := k0_pay49 (k0_pay42 n 1#32) (k0_pay43 n) (most n w) (w 29) (w 30)
def aff : FVec F S128x256 .f32 := k0_pay50 (k0_pay42 n 1#32) (k0_pay43 n) (most n w) (w 29) (w 30) g b
def sig' : FVec F S128x256 .f32 := k0_pay51 (k0_pay42 n 1#32) (k0_pay43 n) (most n w) (w 29) (w 30) g b
def one : FVec F S128x256 .f32 := k0_pay52 (k0_pay42 n 1#32) (k0_pay43 n) (most n w) (w 29) (w 30) g b
/-- The convolution's cotangent. -/
def cot : FVec F S128x256 .f32 := k0_pay56 (inv n w) (hat n w) (aff n w g b) (sig' n w g b) dy (one n w g b) g

end Trip

section Words

variable (a gt dy : Vec F S4096x256 .f32) (w : Vec F S31x256 .f32) (g b : Vec F S1x256 .f32)

/-- The taps' weights, one by one. -/
def rowsOf (j : Fin 31) : Vec F S1x256 .f32 := View.ld w (tapRow j)

/-- The gated rows under zeros, as the first scratch buffer ends. -/
def P : S4128x256.Idx → Elt F .f32 := under (k0_pay1 (F := F)) fun k => k0_pay12 (View.ld a (band (at1 k))) (View.ld gt (band (at1 k)))

def near (k : Fin k0_t1_loop.trips) : Vec F S160x256 .f32 := View.ld (Val := Elt F) (e' := .f32) (P a gt) (wide k)

def cotAt (k : Fin k0_t1_loop.trips) : FVec F S128x256 .f32 := cot (near a gt k) (rowsOf w) (View.ld g row) (View.ld b row) (View.ld dy (band k))

/-- The shift's gradient before trip `k`, -/
def DB : ℕ → Vec F S1x256 .f32
  | 0 => k0_pay5
  | k + 1 => k0_pay54 (aff (near a gt (at1 k)) (rowsOf w) (View.ld g row) (View.ld b row)) (sig' (near a gt (at1 k)) (rowsOf w) (View.ld g row) (View.ld b row)) (View.ld dy (band (at1 k))) (one (near a gt (at1 k)) (rowsOf w) (View.ld g row) (View.ld b row)) (View.ld (DB k) row)
/-- the scale's, -/
def DG : ℕ → Vec F S1x256 .f32
  | 0 => k0_pay4
  | k + 1 => k0_pay55 (hat (near a gt (at1 k)) (rowsOf w)) (aff (near a gt (at1 k)) (rowsOf w) (View.ld g row) (View.ld b row)) (sig' (near a gt (at1 k)) (rowsOf w) (View.ld g row) (View.ld b row)) (View.ld dy (band (at1 k))) (one (near a gt (at1 k)) (rowsOf w) (View.ld g row) (View.ld b row)) (View.ld (DG k) row)
/-- and the weights'. -/
def DW : ℕ → Vec F S31x256 .f32
  | 0 => k0_pay3
  | k + 1 => fun y => k0_pay58 (tap (near a gt (at1 k)) (y 0)) (cotAt a gt dy w g b (at1 k)) (View.ld (DW k) (tapRow (y 0))) (ix2 0 (y 1))

/-- The convolution's cotangent above zeros, as the second scratch buffer ends. -/
def Q : S4128x256.Idx → Elt F .f32 := above (k0_pay2 (F := F)) fun k => k0_pay57 (cotAt a gt dy w g b (at1 k))

def far (k : Fin k0_t2_loop.trips) : Vec F S160x256 .f32 := View.ld (Val := Elt F) (e' := .f32) (Q a gt dy w g b) (wide2 k)

end Words

section Back

variable (n : Vec F S160x256 .f32) (w : Fin 31 → Vec F S1x256 .f32) (a gt : Vec F S128x256 .f32)

/-- The transposed convolution but for its last eight taps, whole, and the two gradients of a band. -/
def backMost : FVec F S128x256 .f32 :=
  k0_pay125 (k0_pay104 n) (k0_pay105 n) (k0_pay106 n) (k0_pay107 n) (k0_pay109 (k0_pay108 n)) (k0_pay110 n) (k0_pay111 n) (k0_pay112 n) (k0_pay113 n) (k0_pay114 n)
    (k0_pay124 (k0_pay94 n) (k0_pay95 n) (k0_pay96 n) (k0_pay97 n) (k0_pay98 n) (k0_pay99 n) (k0_pay100 n) (k0_pay101 n) (k0_pay102 n) (k0_pay103 n) (k0_pay123 (k0_pay91 n) (k0_pay92 n) (k0_pay93 n) (w 0) (w 1) (w 2)) (w 3) (w 4) (w 5) (w 6) (w 7) (w 8) (w 9) (w 10) (w 11) (w 12)) (w 13) (w 14) (w 15) (w 16) (w 17) (w 18) (w 19) (w 20) (w 21) (w 22)
def back : FVec F S128x256 .f32 := k0_pay126 (k0_pay115 n) (k0_pay116 n) (k0_pay117 n) (k0_pay118 n) (k0_pay119 n) (k0_pay120 n) (k0_pay121 n) (k0_pay122 n) (backMost n w) (w 23) (w 24) (w 25) (w 26) (w 27) (w 28) (w 29) (w 30)
def dIn : FVec F S128x256 .bf16 := k0_pay10 (k0_pay128 (k0_pay115 n) (k0_pay116 n) (k0_pay117 n) (k0_pay118 n) (k0_pay119 n) (k0_pay120 n) (k0_pay121 n) (k0_pay122 n) (backMost n w) (w 23) (w 24) (w 25) (w 26) (w 27) (w 28) (w 29) (w 30) gt)
def dGate : FVec F S128x256 .bf16 := k0_pay11 (back n w) (k0_pay127 gt) a

end Back

section Outs

variable (a gt dy : Vec F S4096x256 .f32) (w : Vec F S31x256 .f32) (g b : Vec F S1x256 .f32)

/-- The gradients of the rows and of their gate. -/
def DA : Vec F S4096x256 .bf16 := stack fun k => dIn (far a gt dy w g b (atB k)) (rowsOf w) (View.ld gt (band2 (atB k)))
def DT : Vec F S4096x256 .bf16 := stack fun k => dGate (far a gt dy w g b (atB k)) (rowsOf w) (View.ld a (band2 (atB k))) (View.ld gt (band2 (atB k)))

end Outs

section Rows31

variable (v : View sig .tc .vmem S31x256 .f32) (f : v.ty.Contents (Elt F)) (p : Fin 31 → Vec F S1x256 .f32)

/-- Stores of the first `n` rows, one by one. -/
def rowsL : (n : ℕ) → n ≤ 31 → List (View.Piece (Elt F) S31x256 .f32)
  | 0, _ => []
  | n + 1, h => ⟨tapRow ⟨n, h⟩, p ⟨n, h⟩⟩ :: rowsL n (Nat.le_of_succ_le h)

theorem on_rowsL : ∀ (n : ℕ) (h : n ≤ 31), On v (v.writes (Elt F) f (rowsL p n h)) (fun y => p (y 0) (ix2 0 (y 1))) (· < n)
  | 0, _ => On.none _ _ fun _ h => Nat.not_lt_zero _ h
  | n + 1, h => On.store (W := 1) (S := (· < n)) (h := on_rowsL n (Nat.le_of_succ_le h)) rfl rfl rfl
      (fun x y h0 h1 => by
        have hx : (x 0).val < 1 := (x 0).isLt
        have e0 : (⟨n, h⟩ : Fin 31) = y 0 := Fin.ext (show n = (y 0).val by have h0' : (y 0).val = n + (x 0).val := h0; omega)
        have e1 : x = ix2 0 (y 1) := funext fun a => by
          match a with
          | ⟨0, _⟩ => exact Fin.ext (show (x 0).val = 0 by omega)
          | ⟨1, _⟩ => exact Fin.ext h1.symm
        exact (congrArg (p ⟨n, h⟩) e1).trans (congrArg (fun j => p j (ix2 0 (y 1))) e0)) (fun m (hm : m < n + 1) => by show (n ≤ m ∧ m < n + 1) ∨ m < n; omega)

theorem rows_read : v.read (Elt F) (v.writes (Elt F) f (rowsL p 31 (Nat.le_refl _))) = fun y => p (y 0) (ix2 0 (y 1)) :=
  (on_rowsL v f p 31 (Nat.le_refl _)).read_eq fun _ h => h

end Rows31

variable (𝒱 : Variants) (c : Dev nD) (bd : Option 𝒱.V) (E : Set ℕ) (i : grid0.Coords)
  (arg1 : Memref sig .tc .vmem S4096x256 .f32) (harg1 : arg1.IsWhole)
  (arg2 : Memref sig .tc .vmem S4096x256 .f32) (harg2 : arg2.IsWhole)
  (arg3 : Memref sig .tc .vmem S4096x256 .f32) (harg3 : arg3.IsWhole)
  (arg4 : Memref sig .tc .vmem S31x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S4096x256 .bf16) (harg7 : arg7.IsWhole)
  (arg8 : Memref sig .tc .vmem S4096x256 .bf16) (harg8 : arg8.IsWhole)
  (arg9 : Memref sig .tc .vmem S31x256 .f32) (harg9 : arg9.IsWhole)
  (arg10 : Memref sig .tc .vmem S1x256 .f32) (harg10 : arg10.IsWhole)
  (arg11 : Memref sig .tc .vmem S1x256 .f32) (harg11 : arg11.IsWhole)
  (arg12 : Memref sig .tc .vmem S4128x256 .f32) (harg12 : arg12.IsWhole)
  (arg13 : Memref sig .tc .vmem S4128x256 .f32) (harg13 : arg13.IsWhole)
  (a gt dy : Vec F S4096x256 .f32) (w : Vec F S31x256 .f32) (g b : Vec F S1x256 .f32)

/-- Before trip `k` of the first loop. -/
def inv1 (k : ℕ) : sProp 𝕄 :=
  iprop((arg1.view.loc (c : Thread nD τ) ↦[arg1.view.set]{fullShare} harg1.unread a) ∗ (arg2.view.loc (c : Thread nD τ) ↦[arg2.view.set]{fullShare} harg2.unread gt) ∗ (arg3.view.loc (c : Thread nD τ) ↦[arg3.view.set]{fullShare} harg3.unread dy) ∗ (arg4.view.loc (c : Thread nD τ) ↦[arg4.view.set]{fullShare} harg4.unread w) ∗ (arg5.view.loc (c : Thread nD τ) ↦[arg5.view.set]{fullShare} harg5.unread g) ∗ (arg6.view.loc (c : Thread nD τ) ↦[arg6.view.set]{fullShare} harg6.unread b)
    ∗ (∃ f, (arg9.view.loc (c : Thread nD τ) ↦[arg9.view.set]{fullShare} f) ∗ ⌜Holds arg9.view f (DW a gt dy w g b k)⌝)
    ∗ (∃ f, (arg10.view.loc (c : Thread nD τ) ↦[arg10.view.set]{fullShare} f) ∗ ⌜Holds arg10.view f (DG a gt dy w g b k)⌝)
    ∗ (∃ f, (arg11.view.loc (c : Thread nD τ) ↦[arg11.view.set]{fullShare} f) ∗ ⌜Holds arg11.view f (DB a gt dy w g b k)⌝)
    ∗ (∃ f, (arg12.view.loc (c : Thread nD τ) ↦[arg12.view.set]{fullShare} f) ∗ ⌜On arg12.view f (P a gt) (· < 32 + 128 * k)⌝)
    ∗ (∃ f, (arg13.view.loc (c : Thread nD τ) ↦[arg13.view.set]{fullShare} f) ∗ ⌜On arg13.view f (Q a gt dy w g b) (fun n => n < 128 * k ∨ 4096 ≤ n)⌝))

set_option warn.classDefReducibility false in
@[sl_loop] def loop1 : Idealize.ShloMosaic.LoopInv (M := 𝕄) Idealize.ShloMosaic.frame (wpE (defs₀ (F := F)) 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13) where
  inv k _ := inv1 (F := F) c arg1 harg1 arg2 harg2 arg3 harg3 arg4 harg4 arg5 harg5 arg6 harg6 arg9 arg10 arg11 arg12 arg13 a gt dy w g b k
  step k acc := by
    have hk : k.val < 32 := Nat.lt_of_lt_of_le k.isLt k0_t1_abs.2.1
    unfold inv1 k0_t1_body
    iintro ⟨H1, H2, H3, H4, H5, H6, ⟨%f9, H9, %h9⟩, ⟨%f10, H10, %h10⟩, ⟨%f11, H11, %h11⟩, ⟨%f12, H12, %h12⟩, ⟨%f13, H13, %h13⟩⟩
    sl_exec
    sl_step
    have e1 := ld_unread (Val := Elt F) harg1 a
    have e2 := ld_unread (Val := Elt F) harg2 gt
    have e3 := ld_unread (Val := Elt F) harg3 dy
    have e4 := ld_unread (Val := Elt F) harg4 w
    have e5 := ld_unread (Val := Elt F) harg5 g
    have e6 := ld_unread (Val := Elt F) harg6 b
    have e9 : ∀ r, arg9.view.readAt (Elt F) r.toLoadRect f9 = View.ld (DW a gt dy w g b k) r := fun r => by rw [View.readAt_eq_ld]; exact congrArg (View.ld · r) h9
    have e10 : ∀ r, arg10.view.readAt (Elt F) r.toLoadRect f10 = View.ld (DG a gt dy w g b k) r := fun r => by rw [View.readAt_eq_ld]; exact congrArg (View.ld · r) h10
    have e11 : ∀ r, arg11.view.readAt (Elt F) r.toLoadRect f11 = View.ld (DB a gt dy w g b k) r := fun r => by rw [View.readAt_eq_ld]; exact congrArg (View.ld · r) h11
    have h12' : On arg12.view (arg12.view.writes (Elt F) f12 [⟨lower k, k0_pay12 (arg1.view.readAt (Elt F) (band k).toLoadRect (harg1.unread a)) (arg2.view.readAt (Elt F) (band k).toLoadRect (harg2.unread gt))⟩]) (P a gt) (· < 32 + 128 * (k.val + 1)) :=
      On.store (W := 128) (S := (· < 32 + 128 * k.val)) (h := h12) (off2 k) rfl rfl
        (fun u y h0 h1 => by
          have e := under_at (z := k0_pay1 (F := F)) (W := fun k => k0_pay12 (View.ld a (band (at1 k))) (View.ld gt (band (at1 k)))) k.val u y h0 h1
          rw [at1_val] at e; rw [e1, e2]; exact e) (fun n hn => by omega)
    have hP : (arg12.view.readAt (Elt F) (wide k).toLoadRect (arg12.view.writes (Elt F) f12 [⟨lower k, k0_pay12 (arg1.view.readAt (Elt F) (band k).toLoadRect (harg1.unread a)) (arg2.view.readAt (Elt F) (band k).toLoadRect (harg2.unread gt))⟩])) = near a gt k :=
      h12'.load (W := 160) (off3 k) rfl (fun n _ hn => by show n < _; omega)
    have hW : (fun j : Fin 31 => arg4.view.readAt (Elt F) (tapRow j).toLoadRect (harg4.unread w)) = rowsOf w := funext fun j => e4 _
    have hC : (cot (arg12.view.readAt (Elt F) (wide k).toLoadRect (arg12.view.writes (Elt F) f12 [⟨lower k, k0_pay12 (arg1.view.readAt (Elt F) (band k).toLoadRect (harg1.unread a)) (arg2.view.readAt (Elt F) (band k).toLoadRect (harg2.unread gt))⟩])) (fun j : Fin 31 => arg4.view.readAt (Elt F) (tapRow j).toLoadRect (harg4.unread w)) (arg5.view.readAt (Elt F) row.toLoadRect (harg5.unread g)) (arg6.view.readAt (Elt F) row.toLoadRect (harg6.unread b)) (arg3.view.readAt (Elt F) (band k).toLoadRect (harg3.unread dy))) = cotAt a gt dy w g b k := by rw [hP, hW, e5, e6, e3]; rfl
    iframe H1 H2 H3 H4 H5 H6
    isplitl [H9]
    · iexists _; isplitl [H9]; · iexact H9
      ipureintro
      refine (rows_read arg9.view f9 (fun j => k0_pay58 (tap (arg12.view.readAt (Elt F) (wide k).toLoadRect (arg12.view.writes (Elt F) f12 [⟨lower k, k0_pay12 (arg1.view.readAt (Elt F) (band k).toLoadRect (harg1.unread a)) (arg2.view.readAt (Elt F) (band k).toLoadRect (harg2.unread gt))⟩])) j) (cot (arg12.view.readAt (Elt F) (wide k).toLoadRect (arg12.view.writes (Elt F) f12 [⟨lower k, k0_pay12 (arg1.view.readAt (Elt F) (band k).toLoadRect (harg1.unread a)) (arg2.view.readAt (Elt F) (band k).toLoadRect (harg2.unread gt))⟩])) (fun j : Fin 31 => arg4.view.readAt (Elt F) (tapRow j).toLoadRect (harg4.unread w)) (arg5.view.readAt (Elt F) row.toLoadRect (harg5.unread g)) (arg6.view.readAt (Elt F) row.toLoadRect (harg6.unread b)) (arg3.view.readAt (Elt F) (band k).toLoadRect (harg3.unread dy))) (arg9.view.readAt (Elt F) (tapRow j).toLoadRect f9))).trans ?_
      rw [hC, hP]
      funext y
      rw [DW, at1_val, e9]
    isplitl [H10]
    · iexists _; isplitl [H10]; · iexact H10
      ipureintro
      refine (whole _ _ _ _ _).trans ?_
      show k0_pay55 (hat (arg12.view.readAt (Elt F) (wide k).toLoadRect (arg12.view.writes (Elt F) f12 [⟨lower k, k0_pay12 (arg1.view.readAt (Elt F) (band k).toLoadRect (harg1.unread a)) (arg2.view.readAt (Elt F) (band k).toLoadRect (harg2.unread gt))⟩])) (fun j : Fin 31 => arg4.view.readAt (Elt F) (tapRow j).toLoadRect (harg4.unread w))) (aff (arg12.view.readAt (Elt F) (wide k).toLoadRect (arg12.view.writes (Elt F) f12 [⟨lower k, k0_pay12 (arg1.view.readAt (Elt F) (band k).toLoadRect (harg1.unread a)) (arg2.view.readAt (Elt F) (band k).toLoadRect (harg2.unread gt))⟩])) (fun j : Fin 31 => arg4.view.readAt (Elt F) (tapRow j).toLoadRect (harg4.unread w)) (arg5.view.readAt (Elt F) row.toLoadRect (harg5.unread g)) (arg6.view.readAt (Elt F) row.toLoadRect (harg6.unread b))) (sig' (arg12.view.readAt (Elt F) (wide k).toLoadRect (arg12.view.writes (Elt F) f12 [⟨lower k, k0_pay12 (arg1.view.readAt (Elt F) (band k).toLoadRect (harg1.unread a)) (arg2.view.readAt (Elt F) (band k).toLoadRect (harg2.unread gt))⟩])) (fun j : Fin 31 => arg4.view.readAt (Elt F) (tapRow j).toLoadRect (harg4.unread w)) (arg5.view.readAt (Elt F) row.toLoadRect (harg5.unread g)) (arg6.view.readAt (Elt F) row.toLoadRect (harg6.unread b))) (arg3.view.readAt (Elt F) (band k).toLoadRect (harg3.unread dy)) (one (arg12.view.readAt (Elt F) (wide k).toLoadRect (arg12.view.writes (Elt F) f12 [⟨lower k, k0_pay12 (arg1.view.readAt (Elt F) (band k).toLoadRect (harg1.unread a)) (arg2.view.readAt (Elt F) (band k).toLoadRect (harg2.unread gt))⟩])) (fun j : Fin 31 => arg4.view.readAt (Elt F) (tapRow j).toLoadRect (harg4.unread w)) (arg5.view.readAt (Elt F) row.toLoadRect (harg5.unread g)) (arg6.view.readAt (Elt F) row.toLoadRect (harg6.unread b))) (arg10.view.readAt (Elt F) row.toLoadRect f10) = _
      rw [hP, hW, e3, e5, e6, e10, DG, at1_val]
    isplitl [H11]
    · iexists _; isplitl [H11]; · iexact H11
      ipureintro
      refine (whole _ _ _ _ _).trans ?_
      show k0_pay54 (aff (arg12.view.readAt (Elt F) (wide k).toLoadRect (arg12.view.writes (Elt F) f12 [⟨lower k, k0_pay12 (arg1.view.readAt (Elt F) (band k).toLoadRect (harg1.unread a)) (arg2.view.readAt (Elt F) (band k).toLoadRect (harg2.unread gt))⟩])) (fun j : Fin 31 => arg4.view.readAt (Elt F) (tapRow j).toLoadRect (harg4.unread w)) (arg5.view.readAt (Elt F) row.toLoadRect (harg5.unread g)) (arg6.view.readAt (Elt F) row.toLoadRect (harg6.unread b))) (sig' (arg12.view.readAt (Elt F) (wide k).toLoadRect (arg12.view.writes (Elt F) f12 [⟨lower k, k0_pay12 (arg1.view.readAt (Elt F) (band k).toLoadRect (harg1.unread a)) (arg2.view.readAt (Elt F) (band k).toLoadRect (harg2.unread gt))⟩])) (fun j : Fin 31 => arg4.view.readAt (Elt F) (tapRow j).toLoadRect (harg4.unread w)) (arg5.view.readAt (Elt F) row.toLoadRect (harg5.unread g)) (arg6.view.readAt (Elt F) row.toLoadRect (harg6.unread b))) (arg3.view.readAt (Elt F) (band k).toLoadRect (harg3.unread dy)) (one (arg12.view.readAt (Elt F) (wide k).toLoadRect (arg12.view.writes (Elt F) f12 [⟨lower k, k0_pay12 (arg1.view.readAt (Elt F) (band k).toLoadRect (harg1.unread a)) (arg2.view.readAt (Elt F) (band k).toLoadRect (harg2.unread gt))⟩])) (fun j : Fin 31 => arg4.view.readAt (Elt F) (tapRow j).toLoadRect (harg4.unread w)) (arg5.view.readAt (Elt F) row.toLoadRect (harg5.unread g)) (arg6.view.readAt (Elt F) row.toLoadRect (harg6.unread b))) (arg11.view.readAt (Elt F) row.toLoadRect f11) = _
      rw [hP, hW, e3, e5, e6, e11, DB, at1_val]
    isplitl [H12]
    · iexists _; isplitl [H12]; · iexact H12
      ipureintro
      exact h12'
    · iexists _; isplitl [H13]; · iexact H13
      ipureintro
      refine On.store (W := 128) (S := fun n => n < 128 * k.val ∨ 4096 ≤ n) (h := h13) (off4 k) rfl rfl (fun u y h0 h1 => ?_) (fun n hn => by omega)
      have e := above_at (z := k0_pay2 (F := F)) (W := fun k => k0_pay57 (cotAt a gt dy w g b (at1 k))) k.val hk u y h0 h1
      rw [at1_val] at e
      refine Eq.trans (congrFun (congrArg k0_pay57 ?_) u) e
      exact hC

/-- Before trip `k` of the second loop. -/
def inv2 (k : ℕ) : sProp 𝕄 :=
  iprop((arg1.view.loc (c : Thread nD τ) ↦[arg1.view.set]{fullShare} harg1.unread a) ∗ (arg2.view.loc (c : Thread nD τ) ↦[arg2.view.set]{fullShare} harg2.unread gt) ∗ (arg3.view.loc (c : Thread nD τ) ↦[arg3.view.set]{fullShare} harg3.unread dy) ∗ (arg4.view.loc (c : Thread nD τ) ↦[arg4.view.set]{fullShare} harg4.unread w) ∗ (arg5.view.loc (c : Thread nD τ) ↦[arg5.view.set]{fullShare} harg5.unread g) ∗ (arg6.view.loc (c : Thread nD τ) ↦[arg6.view.set]{fullShare} harg6.unread b)
    ∗ (∃ f, (arg7.view.loc (c : Thread nD τ) ↦[arg7.view.set]{fullShare} f) ∗ ⌜k = 0 ∨ On arg7.view f (DA a gt dy w g b) (· < 128 * k)⌝)
    ∗ (∃ f, (arg8.view.loc (c : Thread nD τ) ↦[arg8.view.set]{fullShare} f) ∗ ⌜k = 0 ∨ On arg8.view f (DT a gt dy w g b) (· < 128 * k)⌝)
    ∗ (∃ f, (arg13.view.loc (c : Thread nD τ) ↦[arg13.view.set]{fullShare} f) ∗ ⌜On arg13.view f (Q a gt dy w g b) (fun n => n < 128 * k0_t1_loop.trips ∨ 4096 ≤ n)⌝))

set_option warn.classDefReducibility false in
@[sl_loop] def loop2 : Idealize.ShloMosaic.LoopInv (M := 𝕄) Idealize.ShloMosaic.frame (wpE (defs₀ (F := F)) 𝒱 (c : Thread nD τ) bd) E
    k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13) where
  inv k _ := inv2 (F := F) c arg1 harg1 arg2 harg2 arg3 harg3 arg4 harg4 arg5 harg5 arg6 harg6 arg7 arg8 arg13 a gt dy w g b k
  step k acc := by
    have hk : k.val < 32 := Nat.lt_of_lt_of_le k.isLt k0_t2_abs.2.1
    unfold inv2 k0_t2_body
    iintro ⟨H1, H2, H3, H4, H5, H6, ⟨%f7, H7, %h7⟩, ⟨%f8, H8, %h8⟩, ⟨%f13, H13, %h13⟩⟩
    sl_exec
    sl_step
    have e1 := ld_unread (Val := Elt F) harg1 a
    have e2 := ld_unread (Val := Elt F) harg2 gt
    have e4 := ld_unread (Val := Elt F) harg4 w
    have e13 : ∀ r, arg13.view.readAt (Elt F) r.toLoadRect f13 = View.ld (Val := Elt F) (e' := .f32) (Q a gt dy w g b) r := fun r => by rw [View.readAt_eq_ld, h13.read_eq (fun n _ => by rw [trips1]; omega)]
    have hW : (fun j : Fin 31 => arg4.view.readAt (Elt F) (tapRow j).toLoadRect (harg4.unread w)) = rowsOf w := funext fun j => e4 _
    iframe H1 H2 H3 H4 H5 H6
    isplitl [H7]
    · iexists _; isplitl [H7]; · iexact H7
      ipureintro
      refine .inr (On.store (W := 128) (S := (· < 128 * k.val)) (h := On.start h7) (off6 k) rfl rfl (fun u y h0 h1 => ?_) (fun n hn => by omega))
      show dIn (arg13.view.readAt (Elt F) (wide2 k).toLoadRect f13) (fun j : Fin 31 => arg4.view.readAt (Elt F) (tapRow j).toLoadRect (harg4.unread w)) (arg2.view.readAt (Elt F) (band2 k).toLoadRect (harg2.unread gt)) u = _
      rw [DA, ← stack_at _ k.val u y h0 h1, atB_val, hW, e2, e13]; rfl
    isplitl [H8]
    · iexists _; isplitl [H8]; · iexact H8
      ipureintro
      refine .inr (On.store (W := 128) (S := (· < 128 * k.val)) (h := On.start h8) (off6 k) rfl rfl (fun u y h0 h1 => ?_) (fun n hn => by omega))
      show dGate (arg13.view.readAt (Elt F) (wide2 k).toLoadRect f13) (fun j : Fin 31 => arg4.view.readAt (Elt F) (tapRow j).toLoadRect (harg4.unread w)) (arg1.view.readAt (Elt F) (band2 k).toLoadRect (harg1.unread a)) (arg2.view.readAt (Elt F) (band2 k).toLoadRect (harg2.unread gt)) u = _
      rw [DT, ← stack_at _ k.val u y h0 h1, atB_val, hW, e1, e2, e13]; rfl
    · iexists _; isplitl [H13]; · iexact H13
      ipureintro
      exact h13

end Cert.MixCIdeal.Hand

end
-- ==== Proof.MixCRun.lean ====
/- The body of the third mixer's backward call run once, and its launch: what it leaves in every output. -/
module

public import proofs.«01_k».proof.Proof.Held
public import proofs.«01_k».proof.Proof.MixCLoops
public import Idealize.ShloMosaic.Lib.Claim
public import proofs.«01_k».proof.Proof.Gen.MixCIdeal.Frame

@[expose] public section

noncomputable section

namespace Cert.MixCIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.MixCIdeal Cert.MixCIdeal.Gen Cert.Rows

variable {F : FTy → Type} [FloatOps F]

local notation "𝕄" => MT nD τ sig Unit (Elt F) ℕ (UR sig nD τ) ℕ

/-- On whole buffers, the inputs' at their contents and the others at anything, the body ends with the inputs unchanged
    and the outputs at the words named. -/
theorem kernel (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S4096x256 .f32) (harg3 : arg3.IsWhole) (arg4 : Memref sig .tc .vmem S31x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S4096x256 .bf16) (harg7 : arg7.IsWhole) (arg8 : Memref sig .tc .vmem S4096x256 .bf16) (harg8 : arg8.IsWhole) (arg9 : Memref sig .tc .vmem S31x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S4128x256 .f32) (harg12 : arg12.IsWhole) (arg13 : Memref sig .tc .vmem S4128x256 .f32) (harg13 : arg13.IsWhole)
    (x0 : Vec F S4096x256 .f32) (x1 : Vec F S4096x256 .f32) (x2 : Vec F S4096x256 .f32) (x3 : Vec F S31x256 .f32) (x4 : Vec F S1x256 .f32) (x5 : Vec F S1x256 .f32) (E : Set ℕ) (K : PUnit → sProp 𝕄) :
    iprop(held c arg1 x0 ∗ held c arg2 x1 ∗ held c arg3 x2 ∗ held c arg4 x3 ∗ held c arg5 x4 ∗ held c arg6 x5 ∗ (∃ d, held c arg7 d) ∗ (∃ d, held c arg8 d) ∗ (∃ d, held c arg9 d) ∗ (∃ d, held c arg10 d) ∗ (∃ d, held c arg11 d) ∗ (∃ d, held c arg12 d) ∗ (∃ d, held c arg13 d)
      ∗ (iprop(held c arg1 x0 ∗ held c arg2 x1 ∗ held c arg3 x2 ∗ held c arg4 x3 ∗ held c arg5 x4 ∗ held c arg6 x5 ∗ held c arg7 (DA x0 x1 x2 x3 x4 x5) ∗ held c arg8 (DT x0 x1 x2 x3 x4 x5) ∗ held c arg9 (DW x0 x1 x2 x3 x4 x5 32) ∗ held c arg10 (DG x0 x1 x2 x3 x4 x5 32) ∗ held c arg11 (DB x0 x1 x2 x3 x4 x5 32) ∗ (∃ d, held c arg12 d) ∗ (∃ d, held c arg13 d)) -∗ K ⟨⟩))
    ⊢ wp frame (wpE (defs₀ (F := F)) Variants.none c none) E (cc0_mix_c_bwd i arg1 harg1 arg2 harg2 arg3 harg3 arg4 harg4 arg5 harg5 arg6 harg6 arg7 harg7 arg8 harg8 arg9 harg9 arg10 harg10 arg11 harg11 arg12 harg12 arg13 harg13) K := by
  simp only [cc0_mix_c_bwd_eq_skeleton]; unfold cc0_mix_c_bwd_skel
  unfold held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  have z9 : Holds arg9.view (arg9.view.writes (Elt F) arg9.view.junk [⟨Rect.unit (s := S31x256) ![0, 0] S31x256.size inb_S31x256_S31x256_0_0, k0_pay3 (F := F)⟩]) (DW x0 x1 x2 x3 x4 x5 0) := whole _ _ _ _ _
  have z10 : Holds arg10.view (arg10.view.writes (Elt F) arg10.view.junk [⟨row, k0_pay4 (F := F)⟩]) (DG x0 x1 x2 x3 x4 x5 0) := whole _ _ _ _ _
  have z11 : Holds arg11.view (arg11.view.writes (Elt F) arg11.view.junk [⟨row, k0_pay5 (F := F)⟩]) (DB x0 x1 x2 x3 x4 x5 0) := whole _ _ _ _ _
  have z12 : On arg12.view (arg12.view.writes (Elt F) fs0 [⟨Rect.unit (s := S4128x256) ![0, 0] S32x256.size inb_S4128x256_S32x256_0_0, k0_pay1 (F := F)⟩]) (P x0 x1) (· < 32 + 128 * 0) :=
    On.store (W := 32) (S := fun _ => False) (h := On.none _ _ fun _ h => h) rfl rfl rfl (fun x y h0 h1 => under_pad (p := 32) x y h0 h1) (fun n hn => .inl (by omega))
  have z13' : On arg13.view (arg13.view.writes (Elt F) fs1 [⟨Rect.unit (s := S4128x256) ![4096, 0] S32x256.size inb_S4128x256_S32x256_4096_0, k0_pay2 (F := F)⟩]) (Q x0 x1 x2 x3 x4 x5) (fun n => 4096 ≤ n ∧ n < 4128) :=
    On.store (W := 32) (S := fun _ => False) (h := On.none _ _ fun _ h => h) rfl rfl rfl (fun x y h0 h1 => above_pad (p := 32) x y h0 h1) (fun n hn => .inl hn)
  have z13 : On arg13.view (arg13.view.writes (Elt F) fs1 [⟨Rect.unit (s := S4128x256) ![4096, 0] S32x256.size inb_S4128x256_S32x256_4096_0, k0_pay2 (F := F)⟩]) (Q x0 x1 x2 x3 x4 x5) (fun n => n < 128 * 0 ∨ 4096 ≤ n) :=
    z13'.mono (fun n hn h => ⟨by omega, hn⟩)
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; exact (On.start hL23).read_eq fun n hn => (by rw [trips2]; exact hn : n < 128 * k0_t2_loop.trips)
  isplitl [H7]
  · iexists _; isplitr; swap; · iexact H7
    ipureintro; exact (On.start hL25).read_eq fun n hn => (by rw [trips2]; exact hn : n < 128 * k0_t2_loop.trips)
  isplitl [H8]
  · iexists _; isplitr; swap; · iexact H8
    ipureintro; exact (show arg9.view.read (Elt F) fL0 = DW x0 x1 x2 x3 x4 x5 k0_t1_loop.trips from hL7).trans (by rw [trips1])
  isplitl [H9]
  · iexists _; isplitr; swap; · iexact H9
    ipureintro; exact (show arg10.view.read (Elt F) fL1 = DG x0 x1 x2 x3 x4 x5 k0_t1_loop.trips from hL9).trans (by rw [trips1])
  isplitl [H10]
  · iexists _; isplitr; swap; · iexact H10
    ipureintro; exact (show arg11.view.read (Elt F) fL2 = DB x0 x1 x2 x3 x4 x5 k0_t1_loop.trips from hL11).trans (by rw [trips1])
  isplitl [HS0]
  · iexists _, _; isplitr; swap; · iexact HS0
    ipureintro; rfl
  iexists _, _; isplitr; swap; · iexact HS1
  ipureintro; rfl

/-- The buffer that holds window `w`'s block at point `t`. -/
abbrev st (t : Fin cfg0.N) (w : Fin cfg0.W) := (cfg0.win w).stage (cfg0.slots t w)

variable (m : (ℓ : Loc nD τ sig) → Buf (Elt F) ℓ) (ρ : Dev nD → PrngReg)

abbrev sc0 : Memref sig .tc .vmem S4128x256 .f32 := Memref.whole cc0_scratch0
abbrev sc1 : Memref sig .tc .vmem S4128x256 .f32 := Memref.whole cc0_scratch1

/-- The region's invariant with the scratch buffers owned at some contents. -/
theorem Phi_eq (c : Dev nD) :
    (Pipeline.ΦA spec0 c : sProp 𝕄) = iprop(iprop((∃ d, held c sc0 d) ∗ (∃ d, held c sc1 d)) ∗ (∃ r, prngReg c r)) := by
  unfold Pipeline.ΦA; rw [scopedRest0_eq]; simp only [sc0, sc1, owns_whole]; try rfl

/-- What output 6 holds after the body. -/
def out6 (c : Dev nD) (t : Fin cfg0.N) : Vec F S4096x256 .bf16 := DA (iblk m c 0 t) (iblk m c 1 t) (iblk m c 2 t) (iblk m c 3 t) (iblk m c 4 t) (iblk m c 5 t)
/-- What output 7 holds after the body. -/
def out7 (c : Dev nD) (t : Fin cfg0.N) : Vec F S4096x256 .bf16 := DT (iblk m c 0 t) (iblk m c 1 t) (iblk m c 2 t) (iblk m c 3 t) (iblk m c 4 t) (iblk m c 5 t)
/-- What output 8 holds after the body. -/
def out8 (c : Dev nD) (t : Fin cfg0.N) : Vec F S31x256 .f32 := DW (iblk m c 0 t) (iblk m c 1 t) (iblk m c 2 t) (iblk m c 3 t) (iblk m c 4 t) (iblk m c 5 t) 32
/-- What output 9 holds after the body. -/
def out9 (c : Dev nD) (t : Fin cfg0.N) : Vec F S1x256 .f32 := DG (iblk m c 0 t) (iblk m c 1 t) (iblk m c 2 t) (iblk m c 3 t) (iblk m c 4 t) (iblk m c 5 t) 32
/-- What output 10 holds after the body. -/
def out10 (c : Dev nD) (t : Fin cfg0.N) : Vec F S1x256 .f32 := DB (iblk m c 0 t) (iblk m c 1 t) (iblk m c 2 t) (iblk m c 3 t) (iblk m c 4 t) (iblk m c 5 t) 32

/-- What the region is entered and left with. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8 m c t
    | ⟨9, _⟩ => out9 m c t
    | ⟨10, _⟩ => out10 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_6 (c : Dev nD) (t : Fin cfg0.N) : (dats m 0 c).after 6 t = out6 m c t := by dsimp only [dats]
theorem after_7 (c : Dev nD) (t : Fin cfg0.N) : (dats m 0 c).after 7 t = out7 m c t := by dsimp only [dats]
theorem after_8 (c : Dev nD) (t : Fin cfg0.N) : (dats m 0 c).after 8 t = out8 m c t := by dsimp only [dats]
theorem after_9 (c : Dev nD) (t : Fin cfg0.N) : (dats m 0 c).after 9 t = out9 m c t := by dsimp only [dats]
theorem after_10 (c : Dev nD) (t : Fin cfg0.N) : (dats m 0 c).after 10 t = out10 m c t := by dsimp only [dats]
/-- Before the body every input's buffer holds its block. -/
theorem before (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) :=
  ⟨before0_0_of m _ (A_eq m c 0) (fun _ => rfl) t, before0_1_of m _ (A_eq m c 1) (fun _ => rfl) t, before0_2_of m _ (A_eq m c 2) (fun _ => rfl) t, before0_3_of m _ (A_eq m c 3) (fun _ => rfl) t, before0_4_of m _ (A_eq m c 4) (fun _ => rfl) t, before0_5_of m _ (A_eq m c 5) (fun _ => rfl) t⟩

/-- The body at any point. -/
theorem sound (c : Dev nD) (t : Fin cfg0.N) :
    iprop((dats m 0 c).Φ t.castSucc ∗ (dats m 0 c).owesAt () t.castSucc ∗ (∃ d, held c (st t 0) ((dats m 0 c).before 0 t d)) ∗ (∃ d, held c (st t 1) ((dats m 0 c).before 1 t d)) ∗ (∃ d, held c (st t 2) ((dats m 0 c).before 2 t d)) ∗ (∃ d, held c (st t 3) ((dats m 0 c).before 3 t d)) ∗ (∃ d, held c (st t 4) ((dats m 0 c).before 4 t d)) ∗ (∃ d, held c (st t 5) ((dats m 0 c).before 5 t d)) ∗ (∃ d, held c (st t 6) ((dats m 0 c).before 6 t d)) ∗ (∃ d, held c (st t 7) ((dats m 0 c).before 7 t d)) ∗ (∃ d, held c (st t 8) ((dats m 0 c).before 8 t d)) ∗ (∃ d, held c (st t 9) ((dats m 0 c).before 9 t d)) ∗ (∃ d, held c (st t 10) ((dats m 0 c).before 10 t d)))
    ⊢ wp frame (wpE (defs₀ (F := F)) Variants.none c none) Set.univ (bodyAt0 t)
      (fun _ => iprop((dats m 0 c).Φ t.succ ∗ (dats m 0 c).owesAt () t.succ ∗ held c (st t 0) (iblk m c 0 t) ∗ held c (st t 1) (iblk m c 1 t) ∗ held c (st t 2) (iblk m c 2 t) ∗ held c (st t 3) (iblk m c 3 t) ∗ held c (st t 4) (iblk m c 4 t) ∗ held c (st t 5) (iblk m c 5 t) ∗ held c (st t 6) (out6 m c t) ∗ held c (st t 7) (out7 m c t) ∗ held c (st t 8) (out8 m c t) ∗ held c (st t 9) (out9 m c t) ∗ held c (st t 10) (out10 m c t))) := by
  simp only [before m c t]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, Phi_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernel c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  iframe H0 H1 H2 H3 H4 H5
  isplitl [H6]; · iexists _; iexact H6
  isplitl [H7]; · iexists _; iexact H7
  isplitl [H8]; · iexists _; iexact H8
  isplitl [H9]; · iexists _; iexact H9
  isplitl [H10]; · iexists _; iexact H10
  iframe HS0 HS1
  iintro ⟨H0, H1, H2, H3, H4, H5, H6, H7, H8, H9, H10, HS0, HS1⟩
  isplitl [HS0 HS1 Hg]
  · isplitl [HS0 HS1]
    · isplitl [HS0]; · iexact HS0
      iexact HS1
    iexact Hg
  iframe Ho H0 H1 H2 H3 H4 H5 H6 H7 H8 H9 H10

theorem defs₀_row (t : Fin cfg0.N) : defs₀ (F := F) .tc cfg0.body (cfg0.bodyArgs t (cfg0.slots t)) = bodyAt0 t := by
  unfold defs₀; rw [Defs.onTc_tc]

/-- What the region asks of the body. -/
theorem obligation (c : Dev nD) : Pipeline.BodyObligation (dats (F := F) m 0 c) (defs₀ (F := F)) Variants.none () Set.univ := fun t => by
  rw [bigSep_W0, bigSep_W0, defs₀_row]
  exact triple_restated (sound m c t) rfl .rfl fun _ => .rfl

set_option backward.isDefEq.respectTransparency.types false in
/-- The whole run, every counter at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The whole run. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.MixCIdeal.Hand

end
-- ==== Proof.Sigmoid.lean ====
/- The logistic function, written with the hyperbolic tangent and with the exponential. -/
module

public import proofs.«01_k».proof.Proof.Words
public import proofs.«01_k».proof.Proof.Reals
public import Idealize.ShloMosaic.Lib.Pointwise
public import Mathlib.Analysis.SpecialFunctions.Trigonometric.DerivHyp

@[expose] public section

noncomputable section

namespace Cert.Sigmoid

open Idealize.ShloMosaic Cert.Reals

/-- Half of one plus the tangent of half is the logistic function, at every extended real. -/
theorem of_tanh (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have h1 : Real.exp (1 / 2 * r) * Real.exp (-(1 / 2 * r)) = 1 := by rw [← Real.exp_add]; simp
    have p := Real.exp_pos (-(1 / 2 * r))
    have q := Real.exp_pos (1 / 2 * r)
    rw [e]
    generalize Real.exp (1 / 2 * r) = a at *
    generalize Real.exp (-(1 / 2 * r)) = b at *
    have hs : a + b ≠ 0 := by positivity
    field_simp
    linear_combination (2 * b) * h1

/-- Its values are real numbers. -/
theorem real (x : EReal) : Real' (Ideal.logistic x) := by
  induction x with
  | bot => exact ⟨0, by simp⟩
  | top => exact ⟨1, by simp⟩
  | coe r => exact ⟨_, Ideal.logistic_coe _⟩

/-- The derivative of `x · logistic x`, in the two ways it is put together: both factors of the product rule against the
    cotangent, or the cotangent against their sum. -/
theorem silu_grad {d : EReal} (hd : Real' d) (x : EReal) :
    d * Ideal.logistic x + x * d * (Ideal.logistic x * (1 - Ideal.logistic x)) = d * (Ideal.logistic x + x * Ideal.logistic x * (1 - Ideal.logistic x)) := by
  obtain ⟨d, rfl⟩ := hd
  induction x with
  | bot => simp
  | top =>
    have : (1 : EReal) - 1 = 0 := by rw [← EReal.coe_one, ← EReal.coe_sub]; simp
    simp [this]
  | coe r =>
    rw [Ideal.logistic_coe]
    generalize (1 + Real.exp (-r))⁻¹ = s
    rw [← EReal.coe_one]
    simp only [← EReal.coe_mul, ← EReal.coe_add, ← EReal.coe_sub]
    congr 1
    ring

end Cert.Sigmoid

end
-- ==== Proof.MixCV.lean ====
/- The third mixer's backward pass band by band, entry by entry. -/
module

public import proofs.«01_k».proof.Proof.MixCRun
public import proofs.«01_k».proof.Proof.LayerNorm
public import proofs.«01_k».proof.Proof.Grid
public import proofs.«01_k».proof.Proof.Sigmoid

@[expose] public section

noncomputable section

namespace Cert.MixCIdeal.Hand

open Idealize.ShloMosaic Idealize.ShloMosaic.TcCoe Idealize.SL.Sem
open Cert.MixCIdeal Cert.MixCIdeal.Gen Cert.Grid Cert.LayerNorm Cert.Rows Cert.Words

section Fold

variable {F : FTy → Type} [FloatOps F] (w : Fin 31 → Vec F S1x256 .f32) (t : Fin 31 → FVec F S128x256 .f32)

/-- The first `n` taps, each at its weight, summed from zero. -/
def acc : (n : ℕ) → n ≤ 31 → FVec F S128x256 .f32
  | 0, _ => broadcast S128x256 (Scalar.ofBits .f32 0x00000000#32)
  | n + 1, h => addf (acc n (Nat.le_of_succ_le h)) (mulf (broadcastTo S128x256 (w ⟨n, h⟩) broadcasts_S1x256_S128x256) (t ⟨n, h⟩))

/-- The taps of the transposed convolution. -/
def tapB (n : Vec F S160x256 .f32) (j : Fin 31) : FVec F S128x256 .f32 :=
  if j.val = 30 then k0_pay122 n
  else extractStridedSlice S128x256 ![0, 0] (dynamicRotate 0 (BitVec.ofNat 32 (130 + j.val)) none n rotates_S160x256_d0) slices_S160x256_o0_0_S128x256

theorem most_eq (n : Vec F S160x256 .f32) : most n w = acc w (tap n) 29 (by decide) := rfl

theorem back_eq (n : Vec F S160x256 .f32) : Hand.back n w = acc w (tapB n) 31 (by decide) := rfl

end Fold

theorem acc_succ (w : Fin 31 → Vec Ideal S1x256 .f32) (t : Fin 31 → FVec Ideal S128x256 .f32) (r : Fin 128) (c : Fin 256) (n : ℕ) (h : n + 1 ≤ 31) :
    acc w t (n + 1) h (ix2 r c) = acc w t n (Nat.le_of_succ_le h) (ix2 r c) + w ⟨n, h⟩ (ix2 0 c) * t ⟨n, h⟩ (ix2 r c) := by
  rw [acc]
  generalize acc w t n _ = A
  pointwise

theorem acc_ix (w : Fin 31 → Vec Ideal S1x256 .f32) (t : Fin 31 → FVec Ideal S128x256 .f32) (r : Fin 128) (c : Fin 256) :
    ∀ (n : ℕ) (h : n ≤ 31), acc w t n h (ix2 r c) = ∑ j : Fin n, w (Fin.castLE h j) (ix2 0 c) * t (Fin.castLE h j) (ix2 r c)
  | 0, _ => by unfold acc; pointwise; rfl
  | n + 1, h => by
    rw [Fin.sum_univ_castSucc, acc_succ, acc_ix w t r c n]; rfl

theorem acc_all (w : Fin 31 → Vec Ideal S1x256 .f32) (t : Fin 31 → FVec Ideal S128x256 .f32) (r : Fin 128) (c : Fin 256) (h) :
    acc w t 31 h (ix2 r c) = ∑ j : Fin 31, w j (ix2 0 c) * t j (ix2 r c) := acc_ix w t r c 31 h

theorem roll (n : BitVec 32) (X : Vec Ideal S160x256 .f32) (r : Fin 160) (c : Fin 256) (hn : n.toNat < 160) :
    dynamicRotate (0 : Fin 2) n none X rotates_S160x256_d0 (ix2 r c) = at2 X ((r.val + 160 - n.toNat) % 160) c := by
  have e : (r.val + 160 - (n.toNat + 0) % 160) % 160 = (r.val + 160 - n.toNat) % 160 := by omega
  rw [← e]
  pointwise
  exact at2_ix X _ c

theorem tap_ix (X : Vec Ideal S160x256 .f32) (j : Fin 31) (r : Fin 128) (c : Fin 256) : tap X j (ix2 r c) = at2 X (2 + (r + j)) c := by
  have hj := j.isLt
  have hr := r.isLt
  unfold tap
  split
  · rename_i h
    unfold k0_pay43
    have e : 2 + (r.val + j.val) = 32 + r.val := by omega
    rw [e, ← at2_ix X ⟨32 + r.val, by omega⟩ c]
    pointwise
  · have hb : (BitVec.ofNat 32 (30 - j.val)).toNat = 30 - j.val := by rw [BitVec.toNat_ofNat]; omega
    have e : 2 + (r.val + j.val) = (32 + r.val + 160 - (BitVec.ofNat 32 (30 - j.val)).toNat) % 160 := by rw [hb]; omega
    rw [e, ← roll _ X ⟨32 + r.val, by omega⟩ c (by rw [hb]; omega)]
    generalize dynamicRotate (0 : Fin 2) _ none X rotates_S160x256_d0 = Y
    pointwise

theorem tapB_ix (X : Vec Ideal S160x256 .f32) (j : Fin 31) (r : Fin 128) (c : Fin 256) : tapB X j (ix2 r c) = at2 X (r + (30 - j)) c := by
  have hj := j.isLt
  have hr := r.isLt
  unfold tapB
  split
  · rename_i h
    unfold k0_pay122
    have e : r.val + (30 - j.val) = r.val := by omega
    rw [e, ← at2_ix X ⟨r.val, by omega⟩ c]
    pointwise
  · have hb : (BitVec.ofNat 32 (130 + j.val)).toNat = 130 + j.val := by rw [BitVec.toNat_ofNat]; omega
    have e : r.val + (30 - j.val) = (r.val + 160 - (BitVec.ofNat 32 (130 + j.val)).toNat) % 160 := by rw [hb]; omega
    rw [e, ← roll _ X ⟨r.val, by omega⟩ c (by rw [hb]; omega)]
    generalize dynamicRotate (0 : Fin 2) _ none X rotates_S160x256_d0 = Y
    pointwise

/-- The derivative of `x · logistic x`. -/
def dsilu (x : EReal) : EReal := Ideal.logistic x * (1 + x * (1 - Ideal.logistic x))

section Trip

variable (n : Vec Ideal S160x256 .f32) (w : Fin 31 → Vec Ideal S1x256 .f32) (g b : Vec Ideal S1x256 .f32) (dy : Vec Ideal S128x256 .f32)

/-- A row of the convolution. -/
def qRow (r : Fin 128) (c : Fin 256) : EReal := ∑ j : Fin 31, w j (ix2 0 c) * at2 n (2 + (r + j)) c
def affAt (r : Fin 128) (c : Fin 256) : EReal := LayerNorm.hat (qRow n w r) c * g (ix2 0 c) + b (ix2 0 c)
def drAt (r : Fin 128) (c : Fin 256) : EReal := dy (ix2 r c) * dsilu (affAt n w g b r c)

theorem q_eq (r : Fin 128) : (fun c => most n w (ix2 r c) + w 29 (ix2 0 c) * tap n 29 (ix2 r c) + w 30 (ix2 0 c) * tap n 30 (ix2 r c)) = qRow n w r := by
  funext c
  unfold qRow
  refine Eq.trans ?_ ((acc_all w (tap n) r c (Nat.le_refl _)).trans (Finset.sum_congr rfl fun j _ => congrArg _ (tap_ix n j r c)))
  rw [acc_succ, acc_succ, most_eq]; rfl

theorem cen_ix (r : Fin 128) (c : Fin 256) : k0_pay47 (tap n 29) (tap n 30) (most n w) (w 29) (w 30) (ix2 r c) = cen (qRow n w r) c := by
  rw [← q_eq]
  generalize most n w = M
  generalize tap n 29 = A
  generalize tap n 30 = B
  unfold cen mean
  pointwise [k0_pay47]

theorem inv_ix (r : Fin 128) : inv n w (ix2 r 0) = rs (qRow n w r) := by
  show k0_pay48 (tap n 29) (tap n 30) (most n w) (w 29) (w 30) (ix2 r 0) = _
  unfold rs k0_pay48
  simp only [← cen_ix]
  generalize k0_pay47 (tap n 29) (tap n 30) (most n w) (w 29) (w 30) = C
  pointwise

theorem hat_ix (r : Fin 128) (c : Fin 256) : Hand.hat n w (ix2 r c) = LayerNorm.hat (qRow n w r) c := by
  unfold LayerNorm.hat
  rw [← cen_ix, ← inv_ix]
  show k0_pay49 (tap n 29) (tap n 30) (most n w) (w 29) (w 30) (ix2 r c) = _ * k0_pay48 (tap n 29) (tap n 30) (most n w) (w 29) (w 30) (ix2 r 0)
  unfold k0_pay49
  generalize k0_pay47 (tap n 29) (tap n 30) (most n w) (w 29) (w 30) = C
  generalize k0_pay48 (tap n 29) (tap n 30) (most n w) (w 29) (w 30) = D
  pointwise

theorem aff_ix (r : Fin 128) (c : Fin 256) : aff n w g b (ix2 r c) = affAt n w g b r c := by
  unfold affAt
  rw [← hat_ix]
  show k0_pay50 (tap n 29) (tap n 30) (most n w) (w 29) (w 30) g b (ix2 r c) = k0_pay49 (tap n 29) (tap n 30) (most n w) (w 29) (w 30) (ix2 r c) * _ + _
  unfold k0_pay50
  generalize k0_pay49 (tap n 29) (tap n 30) (most n w) (w 29) (w 30) = C
  pointwise

theorem sig_ix (r : Fin 128) (c : Fin 256) : sig' n w g b (ix2 r c) = Ideal.logistic (affAt n w g b r c) := by
  rw [← Sigmoid.of_tanh, ← aff_ix, ← w_half]
  show k0_pay51 (tap n 29) (tap n 30) (most n w) (w 29) (w 30) g b (ix2 r c) = _ * Ideal.tanh (_ * k0_pay50 (tap n 29) (tap n 30) (most n w) (w 29) (w 30) g b (ix2 r c)) + _
  unfold k0_pay51
  generalize k0_pay50 (tap n 29) (tap n 30) (most n w) (w 29) (w 30) g b = C
  pointwise

theorem one_ix (r : Fin 128) (c : Fin 256) : one n w g b (ix2 r c) = 1 - Ideal.logistic (affAt n w g b r c) := by
  rw [← sig_ix]
  show k0_pay52 (tap n 29) (tap n 30) (most n w) (w 29) (w 30) g b (ix2 r c) = _ - k0_pay51 (tap n 29) (tap n 30) (most n w) (w 29) (w 30) g b (ix2 r c)
  unfold k0_pay52
  generalize k0_pay51 (tap n 29) (tap n 30) (most n w) (w 29) (w 30) g b = C
  pointwise

theorem dr_ix (r : Fin 128) (c : Fin 256) : k0_pay53 (aff n w g b) (sig' n w g b) dy (one n w g b) (ix2 r c) = drAt n w g b dy r c := by
  unfold drAt dsilu
  rw [← one_ix, ← sig_ix, ← aff_ix]
  generalize aff n w g b = A
  generalize sig' n w g b = S
  generalize one n w g b = O
  pointwise [k0_pay53]

theorem db_step (o : Vec Ideal S1x256 .f32) (c : Fin 256) :
    k0_pay54 (aff n w g b) (sig' n w g b) dy (one n w g b) o (ix2 0 c) = o (ix2 0 c) + ∑ r : Fin 128, drAt n w g b dy r c := by
  simp only [← dr_ix]
  unfold k0_pay54
  generalize k0_pay53 (aff n w g b) (sig' n w g b) dy (one n w g b) = C
  pointwise

theorem dg_step (o : Vec Ideal S1x256 .f32) (c : Fin 256) :
    k0_pay55 (Hand.hat n w) (aff n w g b) (sig' n w g b) dy (one n w g b) o (ix2 0 c)
      = o (ix2 0 c) + ∑ r : Fin 128, drAt n w g b dy r c * LayerNorm.hat (qRow n w r) c := by
  simp only [← dr_ix, ← hat_ix]
  unfold k0_pay55
  generalize k0_pay53 (aff n w g b) (sig' n w g b) dy (one n w g b) = C
  generalize Hand.hat n w = H
  pointwise

theorem cot_ix (r : Fin 128) (c : Fin 256) :
    cot n w g b dy (ix2 r c) = LayerNorm.back (qRow n w r) (fun c => drAt n w g b dy r c * g (ix2 0 c)) c := by
  unfold LayerNorm.back mean cot
  simp only [← dr_ix, ← hat_ix, ← inv_ix]
  unfold k0_pay56
  generalize k0_pay53 (aff n w g b) (sig' n w g b) dy (one n w g b) = C
  generalize Hand.hat n w = H
  generalize inv n w = I
  pointwise

end Trip

theorem dw_step (t q : FVec Ideal S128x256 .f32) (o : Vec Ideal S1x256 .f32) (c : Fin 256) :
    k0_pay58 t q o (ix2 0 c) = o (ix2 0 c) + ∑ r : Fin 128, q (ix2 r c) * t (ix2 r c) := by
  pointwise [k0_pay58]

theorem gated_ix (a gt : Vec Ideal S128x256 .f32) (r : Fin 128) (c : Fin 256) : k0_pay12 a gt (ix2 r c) = a (ix2 r c) * Ideal.logistic (gt (ix2 r c)) := by
  rw [← Sigmoid.of_tanh, ← w_half]
  pointwise [k0_pay12]

theorem gate_ix (gt : Vec Ideal S128x256 .f32) (r : Fin 128) (c : Fin 256) : k0_pay127 gt (ix2 r c) = Ideal.logistic (gt (ix2 r c)) := by
  rw [← Sigmoid.of_tanh, ← w_half]
  pointwise [k0_pay127]

section Back

variable (n : Vec Ideal S160x256 .f32) (w : Fin 31 → Vec Ideal S1x256 .f32) (a gt : Vec Ideal S128x256 .f32)

def duAt (r : Fin 128) (c : Fin 256) : EReal := ∑ j : Fin 31, w j (ix2 0 c) * at2 n (r + (30 - j)) c

theorem back_ix (r : Fin 128) (c : Fin 256) : Hand.back n w (ix2 r c) = duAt n w r c := by
  rw [back_eq, acc_all]; simp only [tapB_ix]; rfl

theorem dIn_ix (r : Fin 128) (c : Fin 256) : dIn n w gt (ix2 r c) = duAt n w r c * Ideal.logistic (gt (ix2 r c)) := by
  rw [← back_ix, ← gate_ix]
  show mulf (Hand.back n w) (k0_pay127 gt) (ix2 r c) = _
  rfl

theorem dGate_ix (r : Fin 128) (c : Fin 256) :
    dGate n w a gt (ix2 r c) = duAt n w r c * a (ix2 r c) * Ideal.logistic (gt (ix2 r c)) * (1 - Ideal.logistic (gt (ix2 r c))) := by
  rw [← back_ix, ← gate_ix]
  unfold dGate
  generalize Hand.back n w = B
  generalize k0_pay127 gt = S
  pointwise [k0_pay11]

end Back

end Cert.MixCIdeal.Hand

end
-- ==== Proof.MixCVal.lean ====
/- What the third mixer's backward call leaves, entry by entry. -/
module

public import proofs.«01_k».proof.Proof.MixCV

@[expose] public section

noncomputable section

namespace Cert.MixCIdeal.Hand

open Idealize.ShloMosaic Idealize.ShloMosaic.TcCoe Idealize.SL.Sem
open Cert.MixCIdeal Cert.MixCIdeal.Gen Cert.Grid Cert.LayerNorm Cert.Rows Cert.Words

theorem stack_ix (W : ℕ → S128x256.Idx → EReal) (g : ℕ → Fin 256 → EReal)
    (h : ∀ k, k < 32 → ∀ (r : Fin 128) (c : Fin 256), W k (ix2 r c) = g (128 * k + r) c) (n : Fin 4096) (c : Fin 256) :
    stack W (ix2 n c) = g n c := by
  have hy := n.isLt
  refine (h (n.val / 128) (by omega) _ _).trans ?_
  show g (128 * (n.val / 128) + n.val % 128) _ = _
  rw [Nat.div_add_mod]; rfl

theorem at1_nat {k : ℕ} (hk : k < 32) : (at1 k).val = k := Nat.mod_eq_of_lt (by rw [trips1]; exact hk)
theorem atB_nat {k : ℕ} (hk : k < 32) : (atB k).val = k := Nat.mod_eq_of_lt (by rw [trips2]; exact hk)

theorem ld_band (f : Vec Ideal S4096x256 .f32) {k : ℕ} (hk : k < 32) (r : Fin 128) (c : Fin 256) :
    View.ld f (band (at1 k)) (ix2 r c) = at2 f (128 * k + r) c := by
  refine (ld_ix f (k0_off1 (at1 k)) (k0_off1_inb (at1 k)) r c).trans ?_
  rw [off1, at1_nat hk]; simp
theorem ld_band2 (f : Vec Ideal S4096x256 .f32) {k : ℕ} (hk : k < 32) (r : Fin 128) (c : Fin 256) :
    View.ld f (band2 (atB k)) (ix2 r c) = at2 f (128 * k + r) c := by
  refine (ld_ix f (k0_off6 (atB k)) (k0_off6_inb (atB k)) r c).trans ?_
  rw [off6, atB_nat hk]; simp
theorem ld_wide (f : Vec Ideal S4128x256 .f32) {k : ℕ} (hk : k < 32) (r : ℕ) (hr : r < 160) (c : Fin 256) :
    at2 (View.ld f (wide (at1 k)) : Vec Ideal S160x256 .f32) r c = at2 f (128 * k + r) c := by
  refine (at2_ix _ ⟨r, hr⟩ c).symm.trans ?_
  refine (ld_ix f (k0_off3 (at1 k)) (k0_off3_inb (at1 k)) ⟨r, hr⟩ c).trans ?_
  rw [off3, at1_nat hk]; simp
theorem ld_wide2 (f : Vec Ideal S4128x256 .f32) {k : ℕ} (hk : k < 32) (r : ℕ) (hr : r < 160) (c : Fin 256) :
    at2 (View.ld f (wide2 (atB k)) : Vec Ideal S160x256 .f32) r c = at2 f (128 * k + r) c := by
  refine (at2_ix _ ⟨r, hr⟩ c).symm.trans ?_
  refine (ld_ix f (k0_off5 (atB k)) (k0_off5_inb (atB k)) ⟨r, hr⟩ c).trans ?_
  rw [off5, atB_nat hk]; simp
theorem ld_row (f : Vec Ideal S1x256 .f32) : View.ld f row = f := by
  funext y; exact congrArg f (by idx_vars y; funext a; match a with
    | ⟨0, _⟩ => exact Fin.ext ((Rect.idx_unit_val _ _ _ _ 0).trans (Nat.zero_add _))
    | ⟨1, _⟩ => exact Fin.ext ((Rect.idx_unit_val _ _ _ _ 1).trans (Nat.zero_add _)))
theorem ld_tap (f : Vec Ideal S31x256 .f32) (j : Fin 31) (c : Fin 256) : View.ld f (tapRow j) (ix2 0 c) = f (ix2 j c) :=
  congrArg f (funext fun a => match a with
    | ⟨0, _⟩ => Fin.ext ((Rect.idx_unit_val _ _ _ _ 0).trans (Nat.add_zero _))
    | ⟨1, _⟩ => Fin.ext ((Rect.idx_unit_val _ _ _ _ 1).trans (Nat.zero_add _)))

variable (a gt dy : Vec Ideal S4096x256 .f32) (w : Vec Ideal S31x256 .f32) (g b : Vec Ideal S1x256 .f32)

/-- The gated rows under thirty rows of zeros, -/
def up (n c : ℕ) : EReal := if n < 30 then 0 else at2 a (n - 30) c * Ideal.logistic (at2 gt (n - 30) c)
/-- a row of their convolution, -/
def qOf (n : ℕ) (c : Fin 256) : EReal := ∑ j : Fin 31, w (ix2 j c) * up a gt (n + j) c
/-- its affine image, -/
def rOf (n : ℕ) (c : Fin 256) : EReal := LayerNorm.hat (qOf a gt w n) c * g (ix2 0 c) + b (ix2 0 c)
/-- the cotangent of that, -/
def drOf (n : ℕ) (c : Fin 256) : EReal := at2 dy n c * dsilu (rOf a gt w g b n c)
/-- and of the convolution. -/
def dqOf (n : ℕ) (c : Fin 256) : EReal := LayerNorm.back (qOf a gt w n) (fun c => drOf a gt dy w g b n c * g (ix2 0 c)) c
/-- The gated rows' cotangent. -/
def duOf (n : ℕ) (c : Fin 256) : EReal :=
  ∑ j : Fin 31, w (ix2 j c) * (if n + (30 - j) < 4096 then dqOf a gt dy w g b (n + (30 - j)) c else 0)

theorem P_at (n : ℕ) (hn : n < 4128) (h2 : 2 ≤ n) (c : Fin 256) : at2 (P (F := Ideal) a gt) n c = up a gt (n - 2) c := by
  refine (at2_ix (P (F := Ideal) a gt) ⟨n, hn⟩ c).symm.trans ?_
  unfold P under up
  by_cases h : n < 32
  · rw [if_pos (by omega)]
    refine (dif_pos h).trans ?_
    unfold k0_pay1; pointwise
  · rw [if_neg (by omega)]
    refine (dif_neg h).trans ?_
    rw [show n - 2 - 30 = n - 32 by omega]
    refine stack_ix _ (fun n c => at2 a n c * Ideal.logistic (at2 gt n c)) (fun k hk r c => ?_) ⟨n - 32, by omega⟩ c
    rw [gated_ix, ld_band a hk, ld_band gt hk]

theorem near_at {k : ℕ} (hk : k < 32) (r : ℕ) (hr : r < 158) (c : Fin 256) :
    at2 (near (F := Ideal) a gt (at1 k)) (2 + r) c = up a gt (128 * k + r) c := by
  unfold near
  refine (ld_wide _ hk (2 + r) (by omega) c).trans ((P_at a gt _ (by omega) (by omega) c).trans ?_)
  rw [show 128 * k + (2 + r) - 2 = 128 * k + r by omega]

theorem q_at {k : ℕ} (hk : k < 32) (r : Fin 128) : qRow (near (F := Ideal) a gt (at1 k)) (rowsOf w) r = qOf a gt w (128 * k + r) := by
  funext c
  unfold qRow qOf rowsOf
  refine Finset.sum_congr rfl fun j _ => ?_
  have hj := j.isLt
  have hr := r.isLt
  rw [ld_tap, near_at a gt hk _ (by omega), show 128 * k + (r.val + j.val) = 128 * k + r.val + j.val by omega]

theorem aff_at {k : ℕ} (hk : k < 32) (r : Fin 128) (c : Fin 256) :
    affAt (near (F := Ideal) a gt (at1 k)) (rowsOf w) (View.ld g row) (View.ld b row) r c = rOf a gt w g b (128 * k + r) c := by
  unfold affAt rOf
  rw [q_at a gt w hk, ld_row, ld_row]

theorem dr_at {k : ℕ} (hk : k < 32) (r : Fin 128) (c : Fin 256) :
    drAt (near (F := Ideal) a gt (at1 k)) (rowsOf w) (View.ld g row) (View.ld b row) (View.ld dy (band (at1 k))) r c = drOf a gt dy w g b (128 * k + r) c := by
  unfold drAt drOf
  rw [aff_at a gt w g b hk, ld_band dy hk]

theorem dq_at {k : ℕ} (hk : k < 32) (r : Fin 128) (c : Fin 256) : cotAt (F := Ideal) a gt dy w g b (at1 k) (ix2 r c) = dqOf a gt dy w g b (128 * k + r) c := by
  unfold cotAt dqOf
  rw [cot_ix, q_at a gt w hk]
  refine congrArg (fun D => LayerNorm.back _ D c) (funext fun c => ?_)
  rw [dr_at a gt dy w g b hk, congrFun (ld_row _) _]

theorem DB_at (c : Fin 256) (K : ℕ) (hK : K ≤ 32) : DB (F := Ideal) a gt dy w g b K (ix2 0 c)
    = ∑ k ∈ Finset.range K, ∑ r : Fin 128, drOf a gt dy w g b (128 * k + r) c := by
  induction K with
  | zero => unfold DB k0_pay5; pointwise; rfl
  | succ K ih =>
    have hk : K < 32 := hK
    rw [Finset.sum_range_succ, ← ih (by omega)]
    rw [show DB (F := Ideal) a gt dy w g b (K + 1) = _ from DB.eq_2 .., db_step, congrFun (ld_row _) _]
    simp only [dr_at a gt dy w g b hk]

theorem DG_at (c : Fin 256) (K : ℕ) (hK : K ≤ 32) : DG (F := Ideal) a gt dy w g b K (ix2 0 c)
    = ∑ k ∈ Finset.range K, ∑ r : Fin 128, drOf a gt dy w g b (128 * k + r) c * LayerNorm.hat (qOf a gt w (128 * k + r)) c := by
  induction K with
  | zero => unfold DG k0_pay4; pointwise; rfl
  | succ K ih =>
    have hk : K < 32 := hK
    rw [Finset.sum_range_succ, ← ih (by omega)]
    rw [show DG (F := Ideal) a gt dy w g b (K + 1) = _ from DG.eq_2 .., dg_step, congrFun (ld_row _) _]
    simp only [dr_at a gt dy w g b hk, q_at a gt w hk]

theorem DW_at (j : Fin 31) (c : Fin 256) (K : ℕ) (hK : K ≤ 32) : DW (F := Ideal) a gt dy w g b K (ix2 j c)
    = ∑ k ∈ Finset.range K, ∑ r : Fin 128, dqOf a gt dy w g b (128 * k + r) c * up a gt (128 * k + r + j) c := by
  induction K with
  | zero => unfold DW k0_pay3; pointwise; rfl
  | succ K ih =>
    have hk : K < 32 := hK
    have hj := j.isLt
    rw [Finset.sum_range_succ, ← ih (by omega)]
    rw [show DW (F := Ideal) a gt dy w g b (K + 1) = _ from DW.eq_2 ..]
    refine (dw_step _ _ _ c).trans ?_
    refine congrArg₂ (· + ·) (ld_tap _ j c) (Finset.sum_congr rfl fun r _ => ?_)
    have hr := r.isLt
    rw [dq_at a gt dy w g b hk]
    refine congrArg (_ * ·) ((tap_ix _ j r c).trans ((near_at a gt hk _ (by omega) c).trans ?_))
    rw [show 128 * K + (r.val + j.val) = 128 * K + r.val + j.val by omega]

theorem DB_ix (c : Fin 256) : DB (F := Ideal) a gt dy w g b 32 (ix2 0 c) = ∑ n : Fin 4096, drOf a gt dy w g b n c := by
  refine (DB_at a gt dy w g b c 32 le_rfl).trans ?_
  rw [sum_bands (fun n => drOf a gt dy w g b n c), ← Fin.sum_univ_eq_sum_range (n := 4096)]

theorem DG_ix (c : Fin 256) : DG (F := Ideal) a gt dy w g b 32 (ix2 0 c) = ∑ n : Fin 4096, drOf a gt dy w g b n c * LayerNorm.hat (qOf a gt w n) c := by
  refine (DG_at a gt dy w g b c 32 le_rfl).trans ?_
  rw [sum_bands (fun n => drOf a gt dy w g b n c * LayerNorm.hat (qOf a gt w n) c), ← Fin.sum_univ_eq_sum_range (n := 4096)]

theorem DW_ix (j : Fin 31) (c : Fin 256) : DW (F := Ideal) a gt dy w g b 32 (ix2 j c) = ∑ n : Fin 4096, dqOf a gt dy w g b n c * up a gt (n + j) c := by
  refine (DW_at a gt dy w g b j c 32 le_rfl).trans ?_
  rw [sum_bands (fun n => dqOf a gt dy w g b n c * up a gt (n + j) c), ← Fin.sum_univ_eq_sum_range (n := 4096)]

theorem Q_at (n : ℕ) (hn : n < 4128) (c : Fin 256) : at2 (Q (F := Ideal) a gt dy w g b) n c = if n < 4096 then dqOf a gt dy w g b n c else 0 := by
  refine (at2_ix (Q (F := Ideal) a gt dy w g b) ⟨n, hn⟩ c).symm.trans ?_
  unfold Q above
  by_cases h : n < 4096
  · rw [if_pos h]
    refine (dif_pos h).trans ?_
    refine stack_ix _ (fun n c => dqOf a gt dy w g b n c) (fun k hk r c => ?_) ⟨n, h⟩ c
    rw [← dq_at a gt dy w g b hk]
    generalize cotAt (F := Ideal) a gt dy w g b (at1 k) = C
    pointwise [k0_pay57]
  · rw [if_neg h]
    refine (dif_neg h).trans ?_
    unfold k0_pay2; pointwise

theorem du_at {k : ℕ} (hk : k < 32) (r : Fin 128) (c : Fin 256) :
    duAt (far (F := Ideal) a gt dy w g b (atB k)) (rowsOf w) r c = duOf a gt dy w g b (128 * k + r) c := by
  unfold duAt duOf rowsOf far
  refine Finset.sum_congr rfl fun j _ => ?_
  have hj := j.isLt
  have hr := r.isLt
  rw [ld_tap]
  refine congrArg (_ * ·) ((ld_wide2 _ hk _ (by omega) c).trans ((Q_at a gt dy w g b _ (by omega) c).trans ?_))
  rw [show 128 * k + (r.val + (30 - j.val)) = 128 * k + r.val + (30 - j.val) by omega]

theorem DA_ix (n : Fin 4096) (c : Fin 256) : DA (F := Ideal) a gt dy w g b (ix2 n c) = duOf a gt dy w g b n c * Ideal.logistic (at2 gt n c) := by
  unfold DA
  refine stack_ix _ (fun n c => duOf a gt dy w g b n c * Ideal.logistic (at2 gt n c)) (fun k hk r c => ?_) n c
  rw [dIn_ix, du_at a gt dy w g b hk, ld_band2 gt hk]

theorem DT_ix (n : Fin 4096) (c : Fin 256) : DT (F := Ideal) a gt dy w g b (ix2 n c)
    = duOf a gt dy w g b n c * at2 a n c * Ideal.logistic (at2 gt n c) * (1 - Ideal.logistic (at2 gt n c)) := by
  unfold DT
  refine stack_ix _ (fun n c => duOf a gt dy w g b n c * at2 a n c * Ideal.logistic (at2 gt n c) * (1 - Ideal.logistic (at2 gt n c))) (fun k hk r c => ?_) n c
  rw [dGate_ix, du_at a gt dy w g b hk, ld_band2 gt hk, ld_band2 a hk]

end Cert.MixCIdeal.Hand

end
-- ==== Proof.MixCTaps.lean ====
/- The thirty-one taps of the reference's convolution and of its gradients, one recursion for each, and their entries. -/
module

public import proofs.«01_k».proof.Proof.Gen.MixCRefIdeal
public import proofs.«01_k».proof.Proof.Grid
public import Idealize.ShloMosaic.Lib.Pointwise
public import Idealize.ShloMosaic.Lib.KernelVsHost

@[expose] public section

noncomputable section

namespace Cert.MixCRefIdeal.Taps

open Idealize.ShloMosaic Idealize.ShloMosaic.TcCoe Idealize.SL.Sem
open Cert.MixCRefIdeal Cert.MixCRefIdeal.Gen Cert.Grid

variable (w : FVec Ideal S31x256 .f32) (u : FVec Ideal S4126x256 .f32) (q : FVec Ideal S4096x256 .f32)

theorem slices_w (k : Fin 31) : S31x256.Slices ![k.val, 0] S1x256 := by revert k; decide
theorem slices_u (k : Fin 31) : S4126x256.Slices ![k.val, 0] S4096x256 := by revert k; decide
theorem pads_u (k : Fin 31) : S4096x256.Pads (![k.val, 0] : Fin 2 → Nat) ![30 - k.val, 0] ![0, 0] S4126x256 := by revert k; decide
theorem pads_w (k : Fin 31) : S1x256.Pads (![k.val, 0] : Fin 2 → Nat) ![30 - k.val, 0] ![0, 0] S31x256 := by revert k; decide

/-- The tap of a number. -/
def tap (k : ℕ) : Fin 31 := ⟨k % 31, Nat.mod_lt _ (by decide)⟩

def zero : FVec Ideal S_ .f32 := constant S_ .f32 0x00000000#32
/-- A tap's weights as a row, spread over the rows. -/
def weights (k : Fin 31) : FVec Ideal S4096x256 .f32 := broadcastInDim S4096x256 ![0, 1] bcast_S1x256_S4096x256_0_1
  (broadcastInDim S1x256 ![1] bcast_S256_S1x256_1 (shapeCast S256 (extractStridedSlice S1x256 ![k.val, 0] w (slices_w k)) shapeCasts_S1x256_S256))
/-- The rows a tap reads. -/
def rows (k : Fin 31) : FVec Ideal S4096x256 .f32 := extractStridedSlice S4096x256 ![k.val, 0] u (slices_u k)

/-- The convolution's first taps. -/
def conv : ℕ → FVec Ideal S4096x256 .f32
  | 0 => broadcastInDim S4096x256 ![] bcast_S_S4096x256 zero
  | K + 1 => addf (conv K) (mulf (weights w (tap K)) (rows u (tap K)))

/-- What a tap hands back to the rows it read. -/
def given (k : Fin 31) : FVec Ideal S4126x256 .f32 := pad (s := S4096x256) S4126x256 ![k.val, 0] ![30 - k.val, 0] ![0, 0] (mulf (weights w k) q : FVec Ideal S4096x256 .f32) zero (pads_u k) h_S_
/-- What the last taps hand back to the rows. -/
def rowsBack : ℕ → FVec Ideal S4126x256 .f32
  | 0 => given w q (tap 30)
  | K + 1 => addf (rowsBack K) (given w q (tap (29 - K)))

/-- The sum over the rows of a product. -/
def total (x : FVec Ideal S4096x256 .f32) : FVec Ideal S256 .f32 := Host.reduceAdd x zero reducesTo_S4096x256_S256_d0 h_S_
/-- A row put back to a vector. -/
def flat (x : FVec Ideal S1x256 .f32) : FVec Ideal S256 .f32 := Host.reduceAdd x zero reducesTo_S1x256_S256_d0 h_S_
/-- What a tap's weights get. -/
def owed (k : Fin 31) : FVec Ideal S31x256 .f32 := pad (s := S1x256) S31x256 ![k.val, 0] ![30 - k.val, 0] ![0, 0]
  (broadcastInDim S1x256 ![1] bcast_S256_S1x256_1 (flat (shapeCast S1x256 (total (mulf q (rows u k))) shapeCasts_S256_S1x256)) : FVec Ideal S1x256 .f32) zero (pads_w k) h_S_
/-- What the last taps' weights get. -/
def tapsBack : ℕ → FVec Ideal S31x256 .f32
  | 0 => owed u q (tap 30)
  | K + 1 => addf (tapsBack K) (owed u q (tap (29 - K)))

theorem weights_ix (k : Fin 31) (n : Fin 4096) (c : Fin 256) : weights w k (ix2 n c) = at2 w k c := by
  rw [← at2_ix]
  unfold weights
  pointwise

theorem rows_ix (k : Fin 31) (n : Fin 4096) (c : Fin 256) : rows u k (ix2 n c) = at2 u (n + k) c := by
  refine .trans ?_ (at2_ix u ⟨n + k, by omega⟩ c)
  unfold rows
  pointwise
  exact congrArg (fun i => u (ix2 i c)) (Fin.ext (Nat.add_comm _ _))

theorem conv_ix (K : ℕ) (hK : K ≤ 31) (n : Fin 4096) (c : Fin 256) :
    conv w u K (ix2 n c) = ∑ k ∈ Finset.range K, at2 w k c * at2 u (n + k) c := by
  induction K with
  | zero => unfold conv zero; pointwise; simp
  | succ K ih =>
    rw [Finset.sum_range_succ, ← ih (by omega)]
    have e : (tap K).val = K := Nat.mod_eq_of_lt (by omega)
    show conv w u K (ix2 n c) + weights w (tap K) (ix2 n c) * rows u (tap K) (ix2 n c) = _
    rw [weights_ix, rows_ix, e]

theorem given_ix (k : Fin 31) (r : Fin 4126) (c : Fin 256) : given w q k (ix2 r c)
    = if k.val ≤ r.val ∧ r.val - k.val < 4096 then at2 w k c * at2 q (r - k) c else 0 := by
  split
  case isTrue h =>
    refine (pad_apply_of_inside _ _ _ _ _ _ _ (ix2 r c) (ix2 ⟨r - k, h.2⟩ c) fun a => ?_).trans ?_
    · match a with
      | ⟨0, _⟩ => show r.val = k.val + (r.val - k.val) * 1; omega
      | ⟨1, _⟩ => show c.val = 0 + c.val * 1; omega
    · show weights w k (ix2 ⟨r - k, h.2⟩ c) * q (ix2 ⟨r - k, h.2⟩ c) = _
      rw [weights_ix, at2_ix q]
  case isFalse h =>
    refine (pad_apply_of_not_inside _ _ _ _ _ _ _ (ix2 r c) 0 fun e => h ?_).trans ?_
    · have h1 : k.val ≤ r.val := e.1
      have h2 : (r.val - k.val) / 1 < 4096 := e.2.2
      rw [Nat.div_one] at h2
      exact ⟨h1, h2⟩
    · unfold zero; pointwise

theorem owed_ix (k i : Fin 31) (c : Fin 256) : owed u q k (ix2 i c) = if k = i then ∑ n : Fin 4096, at2 q n c * at2 u (n + k) c else 0 := by
  split
  case isTrue h =>
    subst h
    refine (pad_apply_of_inside _ _ _ _ _ _ _ (ix2 k c) (ix2 (0 : Fin 1) c) fun a => ?_).trans ?_
    · match a with
      | ⟨0, _⟩ => show k.val = k.val + 0 * 1; omega
      | ⟨1, _⟩ => show c.val = 0 + c.val * 1; omega
    · simp only [← rows_ix, ← at2_ix q]
      generalize rows u k = U
      unfold flat total zero
      pointwise
      simp
  case isFalse h =>
    refine (pad_apply_of_not_inside _ _ _ _ _ _ _ (ix2 i c) 0 fun e => h ?_).trans ?_
    · have h1 : k.val ≤ i.val := e.1
      have h2 : (i.val - k.val) / 1 < 1 := e.2.2
      rw [Nat.div_one] at h2
      exact Fin.ext (by omega)
    · unfold zero; pointwise

theorem rowsBack_ix (K : ℕ) (hK : K ≤ 30) (r : Fin 4126) (c : Fin 256) : rowsBack w q K (ix2 r c) = ∑ j ∈ Finset.range (K + 1), given w q (tap (30 - j)) (ix2 r c) := by
  induction K with
  | zero => rw [Finset.sum_range_one]; rfl
  | succ K ih =>
    rw [Finset.sum_range_succ, ← ih (by omega)]
    exact congrArg (fun e => rowsBack w q K (ix2 r c) + given w q (tap e) (ix2 r c)) (by omega)

theorem tapsBack_ix (K : ℕ) (hK : K ≤ 30) (i : Fin 31) (c : Fin 256) : tapsBack u q K (ix2 i c) = ∑ j ∈ Finset.range (K + 1), owed u q (tap (30 - j)) (ix2 i c) := by
  induction K with
  | zero => rw [Finset.sum_range_one]; rfl
  | succ K ih =>
    rw [Finset.sum_range_succ, ← ih (by omega)]
    exact congrArg (fun e => tapsBack u q K (ix2 i c) + owed u q (tap e) (ix2 i c)) (by omega)

/-- From the last tap to the first, or from the first to the last. -/
theorem reflect (f : Fin 31 → EReal) : ∑ j ∈ Finset.range 31, f (tap (30 - j)) = ∑ k, f k := by
  refine (Finset.sum_range_reflect (fun k => f (tap k)) 31).trans ((Finset.sum_range _).trans (Finset.sum_congr rfl fun k _ => congrArg f ?_))
  exact Fin.ext (Nat.mod_eq_of_lt k.isLt)

/-- The convolution. -/
theorem conv_all (n : Fin 4096) (c : Fin 256) : conv w u 31 (ix2 n c) = ∑ k : Fin 31, w (ix2 k c) * at2 u (n + k) c := by
  rw [conv_ix w u 31 le_rfl, Finset.sum_range]
  simp only [at2_ix w]

/-- Its rows' gradient, from row 30 on. -/
theorem rowsBack_all (n : Fin 4096) (c : Fin 256) : rowsBack w q 30 (ix2 ⟨n + 30, by omega⟩ c)
    = ∑ k : Fin 31, w (ix2 k c) * (if n.val + (30 - k.val) < 4096 then at2 q (n + (30 - k)) c else 0) := by
  rw [rowsBack_ix w q 30 le_rfl, reflect fun k => given w q k _]
  refine Finset.sum_congr rfl fun k _ => ?_
  rw [given_ix, at2_ix w]
  have e : n.val + 30 - k.val = n.val + (30 - k.val) := by omega
  show (if k.val ≤ n.val + 30 ∧ n.val + 30 - k.val < 4096 then at2 w k c * at2 q (n.val + 30 - k.val) c else 0) = _
  rw [e]
  by_cases h : n.val + (30 - k.val) < 4096
  · rw [if_pos ⟨by omega, h⟩, if_pos h]
  · rw [if_neg fun e => h e.2, if_neg h, mul_zero]

/-- Its weights' gradient. -/
theorem tapsBack_all (i : Fin 31) (c : Fin 256) : tapsBack u q 30 (ix2 i c) = ∑ n : Fin 4096, at2 q n c * at2 u (n + i) c := by
  rw [tapsBack_ix u q 30 le_rfl, reflect fun k => owed u q k _]
  simp only [owed_ix, Finset.sum_ite_eq', Finset.mem_univ, if_true]

end Cert.MixCRefIdeal.Taps

end
-- ==== Proof.MixCRefV.lean ====
/- The third mixer's gradients as jax.vjp leaves them, entry by entry. -/
module

public import proofs.«01_k».proof.Proof.MixCVal
public import proofs.«01_k».proof.Proof.MixCTaps
public import proofs.«01_k».proof.Proof.Sigmoid
public import proofs.«01_k».proof.Proof.Gen.MixCRefIdeal.Read

@[expose] public section

noncomputable section

namespace Cert.MixCRefIdeal.Read

open Idealize.ShloMosaic Idealize.ShloMosaic.TcCoe Idealize.SL.Sem
open Cert.MixCRefIdeal Cert.MixCRefIdeal.Gen Cert.Grid Cert.LayerNorm Cert.MixCRefIdeal.Taps
open Cert.MixCIdeal.Hand (up qOf rOf drOf dqOf duOf dsilu)

variable (z : Vec Ideal S4096x2048 .f32) (d : Vec Ideal S4096x1024 .f32) (w : Vec Ideal S31x256 .f32) (g b : Vec Ideal S256 .f32)

/-- The gated rows, their gate, the cotangent. -/
abbrev A := col 1280 (by decide) z
abbrev GT := col 1536 (by decide) z
abbrev DY := col 512 (by decide) d
/-- A vector laid out as a row. -/
abbrev R (g : Vec Ideal S256 .f32) : Vec Ideal S1x256 .f32 := fun y => g (ix1 (y 1))

theorem conv_fold : val_main_v232 (F := Ideal) z w = conv w (val_main_v13 (F := Ideal) z) 31 := rfl
theorem rowsBack_fold : val_main_v633 (F := Ideal) z d w g b = rowsBack w (val_main_v297 (F := Ideal) z d w g b) 30 := rfl
theorem tapsBack_fold : val_main_v636 (F := Ideal) z d w g b = tapsBack (val_main_v13 (F := Ideal) z) (val_main_v297 (F := Ideal) z d w g b) 30 := rfl

theorem gate_ix (n : Fin 4096) (c : Fin 256) : val_main_v7 (F := Ideal) z (ix2 n c) = Ideal.logistic (at2 (GT z) n c) := by
  rw [← at2_ix]
  unfold val_main_v7 val_main_v6 val_main_v5 val_main_v4 val_main_v3 val_main_v2 val_main_v1 val_main_cst_0 val_main_cst
  unfold Ideal.logistic
  pointwise
  rfl

theorem in_ix (n : Fin 4096) (c : Fin 256) : val_main_v0 (F := Ideal) z (ix2 n c) = at2 (A z) n c := by
  rw [← at2_ix]
  unfold val_main_v0
  pointwise
  rfl

theorem up_ix (n : ℕ) (hn : n < 4126) (c : Fin 256) : at2 (val_main_v13 (F := Ideal) z) n c = up (A z) (GT z) n c := by
  refine (at2_ix (val_main_v13 (F := Ideal) z) ⟨n, hn⟩ c).symm.trans ?_
  have e (m : ℕ) (h : m < 4096) : at2 (A z) m c * Ideal.logistic (at2 (GT z) m c) = val_main_v11 (F := Ideal) z (ix2 ⟨m, h⟩ c) :=
    congrArg₂ (· * ·) (in_ix z ⟨m, h⟩ c).symm (gate_ix z ⟨m, h⟩ c).symm
  unfold up val_main_v13
  by_cases h : n < 30
  · rw [if_pos h]
    unfold val_main_v12 val_main_cst_2
    pointwise
    simp [h]
  · rw [if_neg h, e _ (by omega)]
    generalize val_main_v11 (F := Ideal) z = y
    pointwise
    simp [h]

theorem q_ix (n : Fin 4096) (c : Fin 256) : val_main_v232 (F := Ideal) z w (ix2 n c) = qOf (A z) (GT z) w n c := by
  rw [conv_fold, conv_all]
  unfold qOf
  exact Finset.sum_congr rfl fun k _ => congrArg _ (up_ix z _ (by omega) c)

theorem q_row (n : Fin 4096) : qOf (A z) (GT z) w n = fun c => val_main_v232 (F := Ideal) z w (ix2 n c) := funext fun c => (q_ix z w n c).symm

theorem hat_ix (n : Fin 4096) (c : Fin 256) : val_main_v255 (F := Ideal) z w (ix2 n c) = hat (qOf (A z) (GT z) w n) c := by
  rw [q_row]
  unfold val_main_v255 val_main_v254 val_main_v250 val_main_v249 val_main_v248 val_main_v247 val_main_v246 val_main_v245 val_main_v244 val_main_v243 val_main_v242 val_main_v239 val_main_v238 val_main_v237 val_main_v236 val_main_v235 val_main_v234 val_main_v233 val_main_cst_10 val_main_cst_9 val_main_cst_8 val_main_cst_6 val_main_cst_5
  generalize val_main_v232 (F := Ideal) z w = Q
  unfold hat rs cen mean
  pointwise

theorem r_ix (n : Fin 4096) (c : Fin 256) : val_main_v261 (F := Ideal) z w g b (ix2 n c) = rOf (A z) (GT z) w (R g) (R b) n c := by
  unfold rOf
  rw [← hat_ix]
  unfold val_main_v261 val_main_v260 val_main_v259 val_main_v258 val_main_v257 val_main_v256
  generalize val_main_v255 (F := Ideal) z w = X
  pointwise
  rfl

/-- The two ways the activation's derivative is put together. -/
theorem dsilu_eq (x : EReal) : dsilu x = Ideal.logistic x + x * Ideal.logistic x * (1 - Ideal.logistic x) := by
  unfold dsilu
  induction x with
  | bot => simp
  | top =>
    have : (1 : EReal) - 1 = 0 := by rw [← EReal.coe_one, ← EReal.coe_sub]; simp
    simp [this]
  | coe r =>
    rw [Ideal.logistic_coe]
    generalize (1 + Real.exp (-r))⁻¹ = s
    rw [← EReal.coe_one]
    simp only [← EReal.coe_mul, ← EReal.coe_add, ← EReal.coe_sub]
    congr 1
    ring

theorem dr_ix (hd : ∀ i, Cert.Reals.Real' (d i)) (n : Fin 4096) (c : Fin 256) :
    val_main_v264 (F := Ideal) z d w g b (ix2 n c) = drOf (A z) (GT z) (DY d) w (R g) (R b) n c := by
  have s : Cert.Reals.Real' (DY d (ix2 n c)) := hd _
  unfold drOf
  rw [dsilu_eq, ← r_ix, ← at2_ix, ← Cert.Sigmoid.silu_grad s]
  unfold val_main_v264 val_main_call1_v2 val_main_call1_v1 val_main_call1_v0 val_main_v263 val_main_v262_1 val_main_call0_v7 val_main_call0_v6 val_main_v262_2 val_main_call0_v4 val_main_call0_v3 val_main_call0_v2 val_main_call0_v1 val_main_call0_v0 val_main_call0_cst val_main_call0_cst_0 val_main_call0_cst_1
  generalize val_main_v261 (F := Ideal) z w g b = X
  unfold Ideal.logistic
  pointwise
  rfl

theorem dq_ix (hd : ∀ i, Cert.Reals.Real' (d i)) (n : Fin 4096) (c : Fin 256) : val_main_v297 (F := Ideal) z d w g b (ix2 n c)
    = chain (qOf (A z) (GT z) w n) (fun c => drOf (A z) (GT z) (DY d) w (R g) (R b) n c * R g (ix2 0 c)) c := by
  have e : (fun c => drOf (A z) (GT z) (DY d) w (R g) (R b) n c * R g (ix2 0 c)) = fun c => val_main_v264 (F := Ideal) z d w g b (ix2 n c) * g (ix1 c) :=
    funext fun c => congrArg (· * _) (dr_ix z d w g b hd n c).symm
  rw [e, q_row]
  unfold val_main_v297 val_main_v296 val_main_v295 val_main_v294 val_main_v293 val_main_v292 val_main_v291 val_main_v290 val_main_v289 val_main_v288 val_main_v287 val_main_v286 val_main_v285 val_main_v284 val_main_v283 val_main_v282 val_main_v281 val_main_v280 val_main_v279 val_main_v278 val_main_v277 val_main_v276 val_main_v275 val_main_v274 val_main_v272 val_main_v271
  generalize val_main_v264 (F := Ideal) z d w g b = D
  unfold val_main_v256 val_main_v253 val_main_v252 val_main_v251 val_main_v250 val_main_v249 val_main_v248 val_main_v247 val_main_v246 val_main_v245 val_main_v244 val_main_v243 val_main_v242 val_main_v241 val_main_v240 val_main_v239 val_main_v238 val_main_v237 val_main_v236 val_main_v235 val_main_v234 val_main_v233 val_main_cst_22 val_main_cst_21 val_main_cst_20 val_main_cst_19 val_main_cst_18 val_main_cst_17 val_main_cst_16 val_main_cst_11 val_main_cst_10 val_main_cst_9 val_main_cst_8 val_main_cst_7 val_main_cst_6 val_main_cst_5
  generalize val_main_v232 (F := Ideal) z w = Q
  unfold chain spread rs cen mean
  pointwise
  simp only [Finset.univ_unique, Finset.sum_singleton, zero_add]

theorem dg_ix (hd : ∀ i, Cert.Reals.Real' (d i)) (c : Fin 256) : val_main_v644 (F := Ideal) z d w g b (ix2 0 c)
    = ∑ n : Fin 4096, drOf (A z) (GT z) (DY d) w (R g) (R b) n c * hat (qOf (A z) (GT z) w n) c := by
  have e : ∀ n : Fin 4096, drOf (A z) (GT z) (DY d) w (R g) (R b) n c * hat (qOf (A z) (GT z) w n) c
      = val_main_v255 (F := Ideal) z w (ix2 n c) * val_main_v264 (F := Ideal) z d w g b (ix2 n c) :=
    fun n => by rw [dr_ix z d w g b hd, hat_ix, mul_comm]
  simp only [e]
  unfold val_main_v644 val_main_v273 val_main_v270 val_main_v269 val_main_v268 val_main_cst_15 val_main_cst_14
  generalize val_main_v255 (F := Ideal) z w = X
  generalize val_main_v264 (F := Ideal) z d w g b = D
  pointwise
  simp

theorem db_ix (hd : ∀ i, Cert.Reals.Real' (d i)) (c : Fin 256) : val_main_v645 (F := Ideal) z d w g b (ix2 0 c)
    = ∑ n : Fin 4096, drOf (A z) (GT z) (DY d) w (R g) (R b) n c := by
  simp only [← dr_ix z d w g b hd]
  unfold val_main_v645 val_main_v267 val_main_v266 val_main_v265 val_main_cst_13 val_main_cst_12
  generalize val_main_v264 (F := Ideal) z d w g b = D
  pointwise
  simp

theorem dsilu_real (x : EReal) : Cert.Reals.Real' (dsilu x) := by
  unfold dsilu
  induction x with
  | bot => exact ⟨0, by simp⟩
  | top =>
    have : (1 : EReal) - 1 = 0 := by rw [← EReal.coe_one, ← EReal.coe_sub]; simp
    exact ⟨1, by simp [this]⟩
  | coe r =>
    rw [Ideal.logistic_coe, ← EReal.coe_one]
    simp only [← EReal.coe_mul, ← EReal.coe_add, ← EReal.coe_sub]
    exact ⟨_, rfl⟩

theorem real_at2 {p q : ℕ} (f : (⟨2, ![p, q]⟩ : Shape).Idx → EReal) (h : ∀ i, Cert.Reals.Real' (f i)) (n c : ℕ) : Cert.Reals.Real' (at2 f n c) := by
  unfold at2; split
  · exact h _
  · exact Cert.Reals.zero

theorem up_real (hz : ∀ i, Cert.Reals.Real' (z i)) (n c : ℕ) : Cert.Reals.Real' (up (A z) (GT z) n c) := by
  unfold up; split
  · exact Cert.Reals.zero
  · exact (real_at2 _ (fun i => hz _) _ _).mul (Cert.Sigmoid.real _)

/-- Where the arguments are finite the row's closed gradient is the reference's. -/
theorem dq_closed (hz : ∀ i, Cert.Reals.Real' (z i)) (hd : ∀ i, Cert.Reals.Real' (d i)) (hw : ∀ i, Cert.Reals.Real' (w i)) (hg : ∀ i, Cert.Reals.Real' (g i))
    (n : Fin 4096) (c : Fin 256) : val_main_v297 (F := Ideal) z d w g b (ix2 n c) = dqOf (A z) (GT z) (DY d) w (R g) (R b) n c :=
  (dq_ix z d w g b hd n c).trans (back_eq_chain (fun k => Cert.Reals.Real'.sum _ _ fun j _ => (hw _).mul (up_real z hz _ _))
    (fun k => ((real_at2 _ (fun i => hd _) _ _).mul (dsilu_real _)).mul (hg _)) c).symm

theorem du_ix (hz : ∀ i, Cert.Reals.Real' (z i)) (hd : ∀ i, Cert.Reals.Real' (d i)) (hw : ∀ i, Cert.Reals.Real' (w i)) (hg : ∀ i, Cert.Reals.Real' (g i))
    (n : Fin 4096) (c : Fin 256) : val_main_v638 (F := Ideal) z d w g b (ix2 n c) = duOf (A z) (GT z) (DY d) w (R g) (R b) n c := by
  have e : idx_main_v638 (ix2 n c) = ix2 ⟨n + 30, by omega⟩ c := by
    funext a; match a with
    | ⟨0, _⟩ => exact Fin.ext (Nat.add_comm _ _)
    | ⟨1, _⟩ => rfl
  refine (val_main_v638_apply z d w g b (ix2 n c)).trans ((congrArg (val_main_v633 z d w g b) e).trans ?_)
  · rw [rowsBack_fold, rowsBack_all]
    unfold duOf
    refine Finset.sum_congr rfl fun k _ => congrArg (w (ix2 k c) * ·) ?_
    by_cases h : n.val + (30 - k.val) < 4096
    · rw [if_pos h, if_pos h]
      exact (at2_ix (val_main_v297 z d w g b) ⟨_, h⟩ c).symm.trans (dq_closed z d w g b hz hd hw hg _ _)
    · rw [if_neg h, if_neg h]

theorem dw_ix (hz : ∀ i, Cert.Reals.Real' (z i)) (hd : ∀ i, Cert.Reals.Real' (d i)) (hw : ∀ i, Cert.Reals.Real' (w i)) (hg : ∀ i, Cert.Reals.Real' (g i))
    (j : Fin 31) (c : Fin 256) : val_main_v636 (F := Ideal) z d w g b (ix2 j c)
      = ∑ n : Fin 4096, dqOf (A z) (GT z) (DY d) w (R g) (R b) n c * up (A z) (GT z) (n + j) c := by
  rw [tapsBack_fold, tapsBack_all]
  refine Finset.sum_congr rfl fun n _ => ?_
  rw [← at2_ix, dq_closed z d w g b hz hd hw hg, up_ix z _ (by omega)]

theorem da_ix (n : Fin 4096) (c : Fin 256) : val_main_v642 (F := Ideal) z d w g b (ix2 n c)
    = val_main_v638 (F := Ideal) z d w g b (ix2 n c) * Ideal.logistic (at2 (GT z) n c) :=
  congrArg (val_main_v638 z d w g b (ix2 n c) * ·) (gate_ix z n c)

theorem dgt_ix (n : Fin 4096) (c : Fin 256) : val_main_v643 (F := Ideal) z d w g b (ix2 n c)
    = val_main_v638 (F := Ideal) z d w g b (ix2 n c) * at2 (A z) n c * Ideal.logistic (at2 (GT z) n c) * (1 - Ideal.logistic (at2 (GT z) n c)) := by
  rw [← gate_ix, ← in_ix, mul_assoc, mul_comm (val_main_v638 z d w g b (ix2 n c))]
  refine congrArg (val_main_v0 z (ix2 n c) * val_main_v638 z d w g b (ix2 n c) * ·) ?_
  unfold val_main_v10 val_main_v9 val_main_v8 val_main_cst_1
  generalize val_main_v7 (F := Ideal) z = X
  pointwise

end Cert.MixCRefIdeal.Read

end
-- ==== Proof.MixCFinal.lean ====
/- The third mixer's blocks, and its gradients against the reference's. -/
module

public import proofs.«01_k».proof.Proof.Held
public import proofs.«01_k».proof.Proof.MixCRun
public import proofs.«01_k».proof.Proof.MixCRefV
public import proofs.«01_k».proof.Proof.Finite

@[expose] public section

noncomputable section

namespace Cert.MixCIdeal.Hand

open Idealize.ShloMosaic Idealize.ShloMosaic.TcCoe Idealize.SL.Sem
open Cert.Held Cert.MixCIdeal Cert.MixCIdeal.Gen Cert.Grid Cert.Reals
open Cert.MixCRefIdeal.Read (A GT DY R)

variable (m : (ℓ : Loc nD τ sig) → Buf (Elt Ideal) ℓ)

theorem idx : ∀ t : Fin cfg0.N, win0_0.index t = ![0, 5] ∧ win0_1.index t = ![0, 6] ∧ win0_2.index t = ![0, 2] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

/-- The scale and the shift as the host lays them out. -/
theorem V_v0 (c : Dev nD) : Cert.MixCIdeal.Gen.V m c main_v0 = R (inp m c main_arg3) := by
  show StableHlo.after hostOps0 _ (Proc.devRef .tc main_v0) = _
  after_results
  funext y; idx_vars y
  pointwise
  rfl
theorem V_v1 (c : Dev nD) : Cert.MixCIdeal.Gen.V m c main_v1 = R (inp m c main_arg4) := by
  show StableHlo.after hostOps0 _ (Proc.devRef .tc main_v1) = _
  after_results
  funext y; idx_vars y
  pointwise
  rfl

theorem blk0 (c : Dev nD) : iblk m c 0 t0_0 = A (inp m c main_arg0) := by
  show View.read (Elt Ideal) ((View.whole main_arg0).slice ((win0 0).rect t0_0)) (Cert.MixCIdeal.Gen.V m c main_arg0) = _
  rw [V_main_arg0]
  blk_ext! [idx t0_0, col]
theorem blk1 (c : Dev nD) : iblk m c 1 t0_0 = GT (inp m c main_arg0) := by
  show View.read (Elt Ideal) ((View.whole main_arg0).slice ((win0 1).rect t0_0)) (Cert.MixCIdeal.Gen.V m c main_arg0) = _
  rw [V_main_arg0]
  blk_ext! [idx t0_0, col]
theorem blk2 (c : Dev nD) : iblk m c 2 t0_0 = DY (inp m c main_arg1) := by
  show View.read (Elt Ideal) ((View.whole main_arg1).slice ((win0 2).rect t0_0)) (Cert.MixCIdeal.Gen.V m c main_arg1) = _
  rw [V_main_arg1]
  blk_ext! [idx t0_0, col]
theorem blk3 (c : Dev nD) : iblk m c 3 t0_0 = inp m c main_arg2 := by
  show View.read (Elt Ideal) ((View.whole main_arg2).slice ((win0 3).rect t0_0)) (Cert.MixCIdeal.Gen.V m c main_arg2) = _
  rw [V_main_arg2]
  blk_ext! [idx t0_0, col]
theorem blk4 (c : Dev nD) : iblk m c 4 t0_0 = R (inp m c main_arg3) := by
  show View.read (Elt Ideal) ((View.whole main_v0).slice ((win0 4).rect t0_0)) (Cert.MixCIdeal.Gen.V m c main_v0) = _
  rw [V_v0]
  blk_ext! [idx t0_0, col]
theorem blk5 (c : Dev nD) : iblk m c 5 t0_0 = R (inp m c main_arg4) := by
  show View.read (Elt Ideal) ((View.whole main_v1).slice ((win0 5).rect t0_0)) (Cert.MixCIdeal.Gen.V m c main_v1) = _
  rw [V_v1]
  blk_ext! [idx t0_0, col]

theorem final6 (c : Dev nD) : (dats m 0 c).arrAt 6 (cfgs 0).N = DA (F := Ideal) (A (inp m c main_arg0)) (GT (inp m c main_arg0)) (DY (inp m c main_arg1)) (inp m c main_arg2) (R (inp m c main_arg3)) (R (inp m c main_arg4)) := by
  refine (dats m 0 c).arrAt_eq_of_after_last 6 t0_0 (by decide +kernel) _ fun j => ?_
  blk_simp
  rw [after_6]
  unfold out6
  rw [blk0, blk1, blk2, blk3, blk4, blk5]

theorem final7 (c : Dev nD) : (dats m 0 c).arrAt 7 (cfgs 0).N = DT (F := Ideal) (A (inp m c main_arg0)) (GT (inp m c main_arg0)) (DY (inp m c main_arg1)) (inp m c main_arg2) (R (inp m c main_arg3)) (R (inp m c main_arg4)) := by
  refine (dats m 0 c).arrAt_eq_of_after_last 7 t0_0 (by decide +kernel) _ fun j => ?_
  blk_simp
  rw [after_7]
  unfold out7
  rw [blk0, blk1, blk2, blk3, blk4, blk5]

theorem final8 (c : Dev nD) : (dats m 0 c).arrAt 8 (cfgs 0).N = DW (F := Ideal) (A (inp m c main_arg0)) (GT (inp m c main_arg0)) (DY (inp m c main_arg1)) (inp m c main_arg2) (R (inp m c main_arg3)) (R (inp m c main_arg4)) 32 := by
  refine (dats m 0 c).arrAt_eq_of_after_last 8 t0_0 (by decide +kernel) _ fun j => ?_
  blk_simp
  rw [after_8]
  unfold out8
  rw [blk0, blk1, blk2, blk3, blk4, blk5]

theorem final9 (c : Dev nD) : (dats m 0 c).arrAt 9 (cfgs 0).N = DG (F := Ideal) (A (inp m c main_arg0)) (GT (inp m c main_arg0)) (DY (inp m c main_arg1)) (inp m c main_arg2) (R (inp m c main_arg3)) (R (inp m c main_arg4)) 32 := by
  refine (dats m 0 c).arrAt_eq_of_after_last 9 t0_0 (by decide +kernel) _ fun j => ?_
  blk_simp
  rw [after_9]
  unfold out9
  rw [blk0, blk1, blk2, blk3, blk4, blk5]

theorem final10 (c : Dev nD) : (dats m 0 c).arrAt 10 (cfgs 0).N = DB (F := Ideal) (A (inp m c main_arg0)) (GT (inp m c main_arg0)) (DY (inp m c main_arg1)) (inp m c main_arg2) (R (inp m c main_arg3)) (R (inp m c main_arg4)) 32 := by
  refine (dats m 0 c).arrAt_eq_of_after_last 10 t0_0 (by decide +kernel) _ fun j => ?_
  blk_simp
  rw [after_10]
  unfold out10
  rw [blk0, blk1, blk2, blk3, blk4, blk5]

section Equal
variable (z : Vec Ideal S4096x2048 .f32) (d : Vec Ideal S4096x1024 .f32) (w : Vec Ideal S31x256 .f32) (g b : Vec Ideal S256 .f32)
open Cert.MixCRefIdeal.Read

theorem da_eq (hz : Finite z) (hd : Finite d) (hw : Finite w) (hg : Finite g) (n : Fin 4096) (c : Fin 256) :
    val_main_v642 (F := Ideal) z d w g b (ix2 n c) = DA (F := Ideal) (A z) (GT z) (DY d) w (R g) (R b) (ix2 n c) := by
  rw [da_ix, du_ix z d w g b hz hd hw hg, DA_ix]
theorem dgt_eq (hz : Finite z) (hd : Finite d) (hw : Finite w) (hg : Finite g) (n : Fin 4096) (c : Fin 256) :
    val_main_v643 (F := Ideal) z d w g b (ix2 n c) = DT (F := Ideal) (A z) (GT z) (DY d) w (R g) (R b) (ix2 n c) := by
  rw [dgt_ix, du_ix z d w g b hz hd hw hg, DT_ix]
theorem dw_eq (hz : Finite z) (hd : Finite d) (hw : Finite w) (hg : Finite g) (j : Fin 31) (c : Fin 256) :
    val_main_v636 (F := Ideal) z d w g b (ix2 j c) = DW (F := Ideal) (A z) (GT z) (DY d) w (R g) (R b) 32 (ix2 j c) := by
  rw [dw_ix z d w g b hz hd hw hg, DW_ix]
theorem dg_eq (hd : Finite d) (i : Fin 1) (c : Fin 256) :
    val_main_v644 (F := Ideal) z d w g b (ix2 i c) = DG (F := Ideal) (A z) (GT z) (DY d) w (R g) (R b) 32 (ix2 i c) := by
  obtain rfl : i = 0 := Subsingleton.elim _ _
  rw [dg_ix z d w g b hd, DG_ix]
theorem db_eq (hd : Finite d) (i : Fin 1) (c : Fin 256) :
    val_main_v645 (F := Ideal) z d w g b (ix2 i c) = DB (F := Ideal) (A z) (GT z) (DY d) w (R g) (R b) 32 (ix2 i c) := by
  obtain rfl : i = 0 := Subsingleton.elim _ _
  rw [db_ix z d w g b hd, DB_ix]
end Equal

end Cert.MixCIdeal.Hand

end
-- ==== Proof.MixCPair.lean ====
/- What the two programs of MixC leave. -/
module

public import proofs.«01_k».proof.Defs
public import proofs.«01_k».proof.Proof.Gen.MixC
public import proofs.«01_k».proof.Proof.MixCRun
public import proofs.«01_k».proof.Proof.Gen.MixCRefIdeal.Run
public import proofs.«01_k».proof.Proof.MixCFinal

@[expose] public section

noncomputable section

namespace Cert.MixCPair

open Idealize.ShloMosaic Idealize.ShloMosaic.TcCoe Idealize.SL.Sem
open Cert.Reals (Finite finite_of)

theorem defs_eq : (Cert.MixC.defs (F := Bits)) = Cert.MixCIdeal.defs := by sl_kernel_rfl
theorem main_eq : (Cert.MixC.main (F := Bits)) = Cert.MixCIdeal.main := by sl_kernel_rfl

theorem frame : @Cert.quiescent_MixC Cert.MixC.Gen.facts := fun m ρ _ => by
  have h := Cert.MixCIdeal.Hand.frame_run (F := Bits) m ρ
  rw [← defs_eq, ← main_eq] at h
  exact h

theorem frame_ideal : @Cert.quiescent_MixCIdeal Cert.MixCIdeal.Gen.facts := fun m ρ _ => Cert.MixCIdeal.Hand.frame_run m ρ

theorem frame_ref : @Cert.quiescent_MixCRefIdeal Cert.MixCRefIdeal.Gen.facts := fun m ρ _ =>
  (θ_run _ _ _).mono (fun r h => ⟨fun c => (h c).2.2.2.2.2, sem_eq_zero_of_no_sems rfl r.2⟩) (Cert.MixCRefIdeal.Value.run m ρ)

theorem pre_facts : Cert.Pre_finite_c.Facts := ⟨by decide, by decide, by decide, by decide⟩

/-- What the precondition says: the arrays' entries are real numbers. -/
theorem reals [Cert.Pre_finite_c.Facts] (m) (h : Cert.Pre_MixCIdeal_finite_c m) (c : Dev Cert.MixCIdeal.nD) :
    Finite (m ((c.tc : Thread Cert.MixCIdeal.nD Cert.MixCIdeal.τ).loc Cert.MixCIdeal.main_arg0))
    ∧ Finite (m ((c.tc : Thread Cert.MixCIdeal.nD Cert.MixCIdeal.τ).loc Cert.MixCIdeal.main_arg1))
    ∧ Finite (m ((c.tc : Thread Cert.MixCIdeal.nD Cert.MixCIdeal.τ).loc Cert.MixCIdeal.main_arg2))
    ∧ Finite (m ((c.tc : Thread Cert.MixCIdeal.nD Cert.MixCIdeal.τ).loc Cert.MixCIdeal.main_arg3)) :=
  have ⟨h0, h1, h2, h3⟩ := h c
  ⟨finite_of _ _ h0, finite_of _ _ h1, finite_of _ _ h2, finite_of _ _ h3⟩

/-- What the two launches agree on. -/
theorem args {m : (ℓ : Loc Cert.MixCIdeal.nD Cert.MixCIdeal.τ Cert.MixCIdeal.sig) → Buf (Elt Ideal) ℓ}
    {m' : (ℓ : Loc Cert.MixCRefIdeal.nD Cert.MixCRefIdeal.τ Cert.MixCRefIdeal.sig) → Buf (Elt Ideal) ℓ}
    (h : ∀ c : Dev Cert.MixCIdeal.nD, m' ((c.tc : Thread Cert.MixCRefIdeal.nD Cert.MixCRefIdeal.τ).loc Cert.MixCRefIdeal.main_arg0) = m ((c.tc : Thread Cert.MixCIdeal.nD Cert.MixCIdeal.τ).loc Cert.MixCIdeal.main_arg0)
      ∧ m' ((c.tc : Thread Cert.MixCRefIdeal.nD Cert.MixCRefIdeal.τ).loc Cert.MixCRefIdeal.main_arg1) = m ((c.tc : Thread Cert.MixCIdeal.nD Cert.MixCIdeal.τ).loc Cert.MixCIdeal.main_arg1)
      ∧ m' ((c.tc : Thread Cert.MixCRefIdeal.nD Cert.MixCRefIdeal.τ).loc Cert.MixCRefIdeal.main_arg2) = m ((c.tc : Thread Cert.MixCIdeal.nD Cert.MixCIdeal.τ).loc Cert.MixCIdeal.main_arg2)
      ∧ m' ((c.tc : Thread Cert.MixCRefIdeal.nD Cert.MixCRefIdeal.τ).loc Cert.MixCRefIdeal.main_arg3) = m ((c.tc : Thread Cert.MixCIdeal.nD Cert.MixCIdeal.τ).loc Cert.MixCIdeal.main_arg3)
      ∧ m' ((c.tc : Thread Cert.MixCRefIdeal.nD Cert.MixCRefIdeal.τ).loc Cert.MixCRefIdeal.main_arg4) = m ((c.tc : Thread Cert.MixCIdeal.nD Cert.MixCIdeal.τ).loc Cert.MixCIdeal.main_arg4)) (c : Dev Cert.MixCIdeal.nD) :
    StableHlo.launchContents m' c (Proc.devRef .tc Cert.MixCRefIdeal.main_arg0) = m ((c.tc : Thread Cert.MixCIdeal.nD Cert.MixCIdeal.τ).loc Cert.MixCIdeal.main_arg0)
    ∧ StableHlo.launchContents m' c (Proc.devRef .tc Cert.MixCRefIdeal.main_arg1) = m ((c.tc : Thread Cert.MixCIdeal.nD Cert.MixCIdeal.τ).loc Cert.MixCIdeal.main_arg1)
    ∧ StableHlo.launchContents m' c (Proc.devRef .tc Cert.MixCRefIdeal.main_arg2) = m ((c.tc : Thread Cert.MixCIdeal.nD Cert.MixCIdeal.τ).loc Cert.MixCIdeal.main_arg2)
    ∧ StableHlo.launchContents m' c (Proc.devRef .tc Cert.MixCRefIdeal.main_arg3) = m ((c.tc : Thread Cert.MixCIdeal.nD Cert.MixCIdeal.τ).loc Cert.MixCIdeal.main_arg3)
    ∧ StableHlo.launchContents m' c (Proc.devRef .tc Cert.MixCRefIdeal.main_arg4) = m ((c.tc : Thread Cert.MixCIdeal.nD Cert.MixCIdeal.τ).loc Cert.MixCIdeal.main_arg4) := h c

/-- The gradient of the gated convolution under its norm and its activation. -/
theorem algebraic : @Cert.algebraic_MixCIdeal_MixCRefIdeal_pre_finite_c Cert.MixCIdeal.Gen.facts Cert.MixCRefIdeal.Gen.facts pre_facts := by
  pair_intro
  · run_from Cert.MixCIdeal.Hand.run_main m g
  · run_from Cert.MixCRefIdeal.Value.run m' g'
    · have := pre_facts
      obtain ⟨hz, hd, hw, hg⟩ := reals m hpre c
      rw [Cert.MixCRefIdeal.Read.val_main_v642_eq]
      obtain ⟨e0, e1, e2, e3, e4⟩ := args hagree c
      rw [e0, e1, e2, e3, e4]
      funext j
      idx_vars j
      rw [Cert.MixCIdeal.Hand.final6]
      exact Cert.MixCIdeal.Hand.da_eq _ _ _ _ _ hz hd hw hg _ _
    · have := pre_facts
      obtain ⟨hz, hd, hw, hg⟩ := reals m hpre c
      rw [Cert.MixCRefIdeal.Read.val_main_v643_eq]
      obtain ⟨e0, e1, e2, e3, e4⟩ := args hagree c
      rw [e0, e1, e2, e3, e4]
      funext j
      idx_vars j
      rw [Cert.MixCIdeal.Hand.final7]
      exact Cert.MixCIdeal.Hand.dgt_eq _ _ _ _ _ hz hd hw hg _ _
    · have := pre_facts
      obtain ⟨hz, hd, hw, hg⟩ := reals m hpre c
      rw [Cert.MixCRefIdeal.Read.val_main_v636_eq]
      obtain ⟨e0, e1, e2, e3, e4⟩ := args hagree c
      rw [e0, e1, e2, e3, e4]
      funext j
      idx_vars j
      rw [Cert.MixCIdeal.Hand.final8]
      exact Cert.MixCIdeal.Hand.dw_eq _ _ _ _ _ hz hd hw hg _ _
    · have := pre_facts
      obtain ⟨hz, hd, hw, hg⟩ := reals m hpre c
      rw [Cert.MixCRefIdeal.Read.val_main_v644_eq]
      obtain ⟨e0, e1, e2, e3, e4⟩ := args hagree c
      rw [e0, e1, e2, e3, e4]
      funext j
      idx_vars j
      rw [Cert.MixCIdeal.Hand.final9]
      exact Cert.MixCIdeal.Hand.dg_eq _ _ _ _ _ hd _ _
    · have := pre_facts
      obtain ⟨hz, hd, hw, hg⟩ := reals m hpre c
      rw [Cert.MixCRefIdeal.Read.val_main_v645_eq]
      obtain ⟨e0, e1, e2, e3, e4⟩ := args hagree c
      rw [e0, e1, e2, e3, e4]
      funext j
      idx_vars j
      rw [Cert.MixCIdeal.Hand.final10]
      exact Cert.MixCIdeal.Hand.db_eq _ _ _ _ _ hd _ _

end Cert.MixCPair

end
-- ==== Proof.MixDLoops.lean ====
/- The two loops of the fourth mixer's backward call: what each buffer holds before every trip. -/
module

public import proofs.«01_k».proof.Proof.Held
public import proofs.«01_k».proof.Proof.Gen.MixDIdeal.Skeleton
public import proofs.«01_k».proof.Proof.Gen.MixDIdeal.Launch
public import proofs.«01_k».proof.Proof.Bands
public import Idealize.ShloMosaic.Lib.Exec
public import Idealize.ShloMosaic.Lib.Tactic
public import Idealize.ShloMosaic.Lib.Pipeline.Kit

@[expose] public section

noncomputable section

namespace Cert.MixDIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.MixDIdeal Cert.MixDIdeal.Gen Cert.Rows

variable {F : FTy → Type} [FloatOps F]

local notation "𝕄" => MT nD τ sig Unit (Elt F) ℕ (UR sig nD τ) ℕ

theorem trips1 : k0_t1_loop.trips = 32 := by decide +kernel
theorem trips2 : k0_t2_loop.trips = 32 := by decide +kernel
theorem off1 : ∀ k : Fin k0_t1_loop.trips, k0_off1 k = ![128 * k.val, 0] := by decide +kernel
theorem off2 : ∀ k : Fin k0_t1_loop.trips, k0_off2 k = ![16 + 128 * k.val, 0] := by decide +kernel
theorem off3 : ∀ k : Fin k0_t1_loop.trips, k0_off3 k = ![128 * k.val, 0] := by decide +kernel
theorem off4 : ∀ k : Fin k0_t1_loop.trips, k0_off4 k = ![128 * k.val, 0] := by decide +kernel
theorem off5 : ∀ k : Fin k0_t2_loop.trips, k0_off5 k = ![128 * k.val, 0] := by decide +kernel
theorem off6 : ∀ k : Fin k0_t2_loop.trips, k0_off6 k = ![128 * k.val, 0] := by decide +kernel

/-- The trip of the first loop that number `n` names. -/
def at1 (n : ℕ) : Fin k0_t1_loop.trips := ⟨n % k0_t1_loop.trips, Nat.mod_lt _ (by rw [trips1]; decide)⟩
/-- The trip of the second loop that number `n` names. -/
def atB (n : ℕ) : Fin k0_t2_loop.trips := ⟨n % k0_t2_loop.trips, Nat.mod_lt _ (by rw [trips2]; decide)⟩

theorem at1_val (k : Fin k0_t1_loop.trips) : at1 k.val = k := Fin.ext (Nat.mod_eq_of_lt k.isLt)
theorem atB_val (k : Fin k0_t2_loop.trips) : atB k.val = k := Fin.ext (Nat.mod_eq_of_lt k.isLt)

/-- The band of 128 rows at a trip, the rows around it, and the small buffers' whole. -/
abbrev band (k : Fin k0_t1_loop.trips) : Rect S4096x256 := Rect.unit (k0_off1 k) S128x256.size (k0_off1_inb k)
abbrev band2 (k : Fin k0_t2_loop.trips) : Rect S4096x256 := Rect.unit (k0_off6 k) S128x256.size (k0_off6_inb k)
abbrev row : Rect S1x256 := Rect.unit ![0, 0] S1x256.size inb_S1x256_S1x256_0_0
abbrev square : Rect S256x256 := Rect.unit ![0, 0] S256x256.size inb_S256x256_S256x256_0_0
abbrev lower (k : Fin k0_t1_loop.trips) : Rect S4112x256 := Rect.unit (k0_off2 k) S128x256.size (k0_off2_inb k)
abbrev wide (k : Fin k0_t1_loop.trips) : Rect S4112x256 := Rect.unit (k0_off3 k) S144x256.size (k0_off3_inb k)
abbrev wide2 (k : Fin k0_t2_loop.trips) : Rect S4112x256 := Rect.unit (k0_off5 k) S144x256.size (k0_off5_inb k)

/-- The first row's number at trip `k`, as the body computes it. -/
def base (k : Fin k0_t1_loop.trips) : BitVec 32 := Scalar.muli (Scf.iv 0#32 1#32 k) 128#32

/-- The window's sum every column takes, of the rows around a band; the rows' means less the rows; what a trip adds to
    the gradients of the scale and of the matrix. -/
def total (n : Vec F S144x256 .f32) : FVec F S128x256 .f32 :=
  k0_pay19 (k0_pay9 n) (k0_pay11 n) (k0_pay13 n) (k0_pay14 n) k0_pay15 k0_pay16 k0_pay17 k0_pay18
def scaleStep (b : BitVec 32) (n : Vec F S144x256 .f32) : Vec F S256x256 .bf16 → Vec F S128x256 .f32 → Vec F S1x256 .f32 → FVec F S1x256 .f32 :=
  k0_pay26 n (total n) (k0_pay20 b) k0_pay21 k0_pay22 k0_pay23 k0_pay24
def matStep (b : BitVec 32) (n : Vec F S144x256 .f32) : Vec F S128x256 .f32 → Vec F S1x256 .f32 → Vec F S256x256 .f32 → FVec F S256x256 .f32 :=
  k0_pay28 n (total n) (k0_pay20 b) k0_pay21 k0_pay22 k0_pay23 k0_pay24
/-- A band of the means' cotangent, and divided by the window's count. -/
def share (b : BitVec 32) (d : FVec F S128x256 .f32) : FVec F S128x256 .f32 := k0_pay5 d (k0_pay31 b) k0_pay32 k0_pay33 k0_pay34

section Words

variable (x dy : Vec F S4096x256 .f32) (p : Vec F S256x256 .bf16) (s : Vec F S1x256 .f32)

/-- The rows under zeros, as the first scratch buffer ends. -/
def P : S4112x256.Idx → Elt F .f32 := under (k0_pay1 (F := F)) fun k => k0_pay7 (View.ld x (band (at1 k)))

def near (k : Fin k0_t1_loop.trips) : Vec F S144x256 .f32 := View.ld (Val := Elt F) (e' := .f32) (P x) (wide k)

/-- The scale's gradient before trip `k`, -/
def DS : ℕ → Vec F S1x256 .f32
  | 0 => k0_pay4
  | k + 1 => scaleStep (base (at1 k)) (near x (at1 k)) (View.ld p square) (View.ld dy (band (at1 k))) (View.ld (DS k) row)
/-- and the matrix's. -/
def DP : ℕ → Vec F S256x256 .f32
  | 0 => k0_pay3
  | k + 1 => matStep (base (at1 k)) (near x (at1 k)) (View.ld dy (band (at1 k))) (View.ld s row) (View.ld (DP k) square)

def mean (k : Fin k0_t1_loop.trips) : FVec F S128x256 .bf16 := k0_pay27 (View.ld dy (band k)) (View.ld s row)

/-- The means' cotangent, as the third scratch buffer ends, -/
def M : Vec F S4096x256 .f32 := stack fun k => k0_pay30 (mean dy s (at1 k)) (View.ld p square)
/-- and divided, above zeros, as the second ends. -/
def Q : S4112x256.Idx → Elt F .f32 := above (k0_pay2 (F := F)) fun k => share (base (at1 k)) (k0_pay29 (mean dy s (at1 k)) (View.ld p square))

def far (k : Fin k0_t2_loop.trips) : Vec F S144x256 .f32 := View.ld (Val := Elt F) (e' := .f32) (Q dy p s) (wide2 k)

/-- The rows' gradient. -/
def DX : Vec F S4096x256 .bf16 :=
  stack fun k => k0_pay6 (k0_pay36 (far dy p s (atB k))) (k0_pay38 (far dy p s (atB k))) k0_pay39 (k0_pay40 (far dy p s (atB k))) 1#32 (View.ld (M dy p s) (band2 (atB k)))

end Words

variable (𝒱 : Variants) (c : Dev nD) (bd : Option 𝒱.V) (E : Set ℕ) (i : grid0.Coords)
  (arg1 : Memref sig .tc .vmem S4096x256 .f32) (harg1 : arg1.IsWhole)
  (arg2 : Memref sig .tc .vmem S4096x256 .f32) (harg2 : arg2.IsWhole)
  (arg3 : Memref sig .tc .vmem S256x256 .bf16) (harg3 : arg3.IsWhole)
  (arg4 : Memref sig .tc .vmem S1x256 .f32) (harg4 : arg4.IsWhole)
  (arg5 : Memref sig .tc .vmem S4096x256 .bf16) (harg5 : arg5.IsWhole)
  (arg6 : Memref sig .tc .vmem S256x256 .f32) (harg6 : arg6.IsWhole)
  (arg7 : Memref sig .tc .vmem S1x256 .f32) (harg7 : arg7.IsWhole)
  (arg8 : Memref sig .tc .vmem S4112x256 .f32) (harg8 : arg8.IsWhole)
  (arg9 : Memref sig .tc .vmem S4112x256 .f32) (harg9 : arg9.IsWhole)
  (arg10 : Memref sig .tc .vmem S4096x256 .f32) (harg10 : arg10.IsWhole)
  (x dy : Vec F S4096x256 .f32) (p : Vec F S256x256 .bf16) (s : Vec F S1x256 .f32)

/-- Before trip `k` of the first loop. -/
def inv1 (k : ℕ) : sProp 𝕄 :=
  iprop((arg1.view.loc (c : Thread nD τ) ↦[arg1.view.set]{fullShare} harg1.unread x) ∗ (arg2.view.loc (c : Thread nD τ) ↦[arg2.view.set]{fullShare} harg2.unread dy) ∗ (arg3.view.loc (c : Thread nD τ) ↦[arg3.view.set]{fullShare} harg3.unread p) ∗ (arg4.view.loc (c : Thread nD τ) ↦[arg4.view.set]{fullShare} harg4.unread s)
    ∗ (∃ f, (arg6.view.loc (c : Thread nD τ) ↦[arg6.view.set]{fullShare} f) ∗ ⌜Holds arg6.view f (DP x dy s k)⌝)
    ∗ (∃ f, (arg7.view.loc (c : Thread nD τ) ↦[arg7.view.set]{fullShare} f) ∗ ⌜Holds arg7.view f (DS x dy p k)⌝)
    ∗ (∃ f, (arg8.view.loc (c : Thread nD τ) ↦[arg8.view.set]{fullShare} f) ∗ ⌜On arg8.view f (P x) (· < 16 + 128 * k)⌝)
    ∗ (∃ f, (arg9.view.loc (c : Thread nD τ) ↦[arg9.view.set]{fullShare} f) ∗ ⌜On arg9.view f (Q dy p s) (fun n => n < 128 * k ∨ 4096 ≤ n)⌝)
    ∗ (∃ f, (arg10.view.loc (c : Thread nD τ) ↦[arg10.view.set]{fullShare} f) ∗ ⌜k = 0 ∨ On arg10.view f (M dy p s) (· < 128 * k)⌝))

set_option warn.classDefReducibility false in
@[sl_loop] def loop1 : Idealize.ShloMosaic.LoopInv (M := 𝕄) Idealize.ShloMosaic.frame (wpE (defs₀ (F := F)) 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10) where
  inv k _ := inv1 (F := F) c arg1 harg1 arg2 harg2 arg3 harg3 arg4 harg4 arg6 arg7 arg8 arg9 arg10 x dy p s k
  step k acc := by
    have hk : k.val < 32 := Nat.lt_of_lt_of_le k.isLt k0_t1_abs.2.1
    unfold inv1 k0_t1_body
    iintro ⟨H1, H2, H3, H4, ⟨%f6, H6, %h6⟩, ⟨%f7, H7, %h7⟩, ⟨%f8, H8, %h8⟩, ⟨%f9, H9, %h9⟩, ⟨%f10, H10, %h10⟩⟩
    sl_exec
    sl_step
    have e1 := ld_unread (Val := Elt F) harg1 x
    have e2 := ld_unread (Val := Elt F) harg2 dy
    have e3 := ld_unread (Val := Elt F) harg3 p
    have e4 := ld_unread (Val := Elt F) harg4 s
    have e6 : ∀ r, arg6.view.readAt (Elt F) r.toLoadRect f6 = View.ld (DP x dy s k) r := fun r => by rw [View.readAt_eq_ld]; exact congrArg (View.ld · r) h6
    have e7 : ∀ r, arg7.view.readAt (Elt F) r.toLoadRect f7 = View.ld (DS x dy p k) r := fun r => by rw [View.readAt_eq_ld]; exact congrArg (View.ld · r) h7
    have h8' : On arg8.view (arg8.view.writes (Elt F) f8 [⟨lower k, k0_pay7 (View.ld x (band k))⟩]) (P x) (· < 16 + 128 * (k.val + 1)) :=
      On.store (W := 128) (S := (· < 16 + 128 * k.val)) (h := h8) (off2 k) rfl rfl
        (fun u y h0 h1 => by
          have e := under_at (z := k0_pay1 (F := F)) (W := fun k => k0_pay7 (View.ld x (band (at1 k)))) k.val u y h0 h1
          rw [at1_val] at e; exact e) (fun n hn => by omega)
    have hP : arg8.view.readAt (Elt F) (wide k).toLoadRect (arg8.view.writes (Elt F) f8 [⟨lower k, k0_pay7 (View.ld x (band k))⟩]) = near x k :=
      h8'.load (W := 144) (off3 k) rfl (fun n _ hn => by show n < _; omega)
    iframe H1 H2 H3 H4
    sl_unfold_words
    simp only [e1, e2, e3, e4, e6, e7]
    isplitl [H6]
    · iexists _; isplitl [H6]; · iexact H6
      ipureintro
      refine (whole _ _ _ _ _).trans ?_
      show matStep (base k) (arg8.view.readAt (Elt F) (wide k).toLoadRect (arg8.view.writes (Elt F) f8 [⟨lower k, k0_pay7 (View.ld x (band k))⟩]))
        (View.ld dy (band k)) (View.ld s row) (View.ld (DP x dy s k) square) = _
      rw [hP, DP, at1_val]
    isplitl [H7]
    · iexists _; isplitl [H7]; · iexact H7
      ipureintro
      refine (whole _ _ _ _ _).trans ?_
      show scaleStep (base k) (arg8.view.readAt (Elt F) (wide k).toLoadRect (arg8.view.writes (Elt F) f8 [⟨lower k, k0_pay7 (View.ld x (band k))⟩]))
        (View.ld p square) (View.ld dy (band k)) (View.ld (DS x dy p k) row) = _
      rw [hP, DS, at1_val]
    isplitl [H8]
    · iexists _; isplitl [H8]; · iexact H8
      ipureintro
      exact h8'
    isplitl [H9]
    · iexists _; isplitl [H9]; · iexact H9
      ipureintro
      refine On.store (W := 128) (S := fun n => n < 128 * k.val ∨ 4096 ≤ n) (h := h9) (off4 k) rfl rfl (fun u y h0 h1 => ?_) (fun n hn => by omega)
      have e := above_at (z := k0_pay2 (F := F)) (W := fun k => share (base (at1 k)) (k0_pay29 (mean dy s (at1 k)) (View.ld p square))) k.val hk u y h0 h1
      rw [at1_val] at e; exact e
    · iexists _; isplitl [H10]; · iexact H10
      ipureintro
      refine .inr (On.store (W := 128) (S := (· < 128 * k.val)) (h := On.start h10) (off1 k) rfl rfl (fun u y h0 h1 => ?_) (fun n hn => by omega))
      rw [M, ← stack_at _ k.val u y h0 h1, at1_val]; rfl

/-- Before trip `k` of the second loop. -/
def inv2 (k : ℕ) : sProp 𝕄 :=
  iprop((arg2.view.loc (c : Thread nD τ) ↦[arg2.view.set]{fullShare} harg2.unread dy) ∗ (arg3.view.loc (c : Thread nD τ) ↦[arg3.view.set]{fullShare} harg3.unread p) ∗ (arg4.view.loc (c : Thread nD τ) ↦[arg4.view.set]{fullShare} harg4.unread s)
    ∗ (∃ f, (arg5.view.loc (c : Thread nD τ) ↦[arg5.view.set]{fullShare} f) ∗ ⌜k = 0 ∨ On arg5.view f (DX dy p s) (· < 128 * k)⌝)
    ∗ (∃ f, (arg9.view.loc (c : Thread nD τ) ↦[arg9.view.set]{fullShare} f) ∗ ⌜On arg9.view f (Q dy p s) (fun n => n < 128 * k0_t1_loop.trips ∨ 4096 ≤ n)⌝)
    ∗ (∃ f, (arg10.view.loc (c : Thread nD τ) ↦[arg10.view.set]{fullShare} f) ∗ ⌜k0_t1_loop.trips = 0 ∨ On arg10.view f (M dy p s) (· < 128 * k0_t1_loop.trips)⌝))

set_option warn.classDefReducibility false in
@[sl_loop] def loop2 : Idealize.ShloMosaic.LoopInv (M := 𝕄) Idealize.ShloMosaic.frame (wpE (defs₀ (F := F)) 𝒱 (c : Thread nD τ) bd) E
    k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10) where
  inv k _ := inv2 (F := F) c arg2 harg2 arg3 harg3 arg4 harg4 arg5 arg9 arg10 dy p s k
  step k acc := by
    have hk : k.val < 32 := Nat.lt_of_lt_of_le k.isLt k0_t2_abs.2.1
    unfold inv2 k0_t2_body
    iintro ⟨H2, H3, H4, ⟨%f5, H5, %h5⟩, ⟨%f9, H9, %h9⟩, ⟨%f10, H10, %h10⟩⟩
    sl_exec
    sl_step
    have e9 : ∀ r, arg9.view.readAt (Elt F) r.toLoadRect f9 = View.ld (Val := Elt F) (e' := .f32) (Q dy p s) r := fun r => by rw [View.readAt_eq_ld, h9.read_eq (fun n _ => by rw [trips1]; omega)]
    have e10 : ∀ r, arg10.view.readAt (Elt F) r.toLoadRect f10 = View.ld (M dy p s) r := fun r => by rw [View.readAt_eq_ld, (On.start h10).read_eq (fun n hn => (by rw [trips1]; exact hn : n < 128 * k0_t1_loop.trips))]
    iframe H2 H3 H4
    sl_unfold_words
    simp only [e9, e10]
    isplitl [H5]
    · iexists _; isplitl [H5]; · iexact H5
      ipureintro
      refine .inr (On.store (W := 128) (S := (· < 128 * k.val)) (h := On.start h5) (off6 k) rfl rfl (fun u y h0 h1 => ?_) (fun n hn => by omega))
      rw [DX, ← stack_at _ k.val u y h0 h1, atB_val]; rfl
    isplitl [H9]
    · iexists _; isplitl [H9]; · iexact H9
      ipureintro
      exact h9
    · iexists _; isplitl [H10]; · iexact H10
      ipureintro
      exact h10

end Cert.MixDIdeal.Hand

end
-- ==== Proof.MixDRun.lean ====
/- The body of the fourth mixer's backward call run once, and its launch: what it leaves in every output. -/
module

public import proofs.«01_k».proof.Proof.Held
public import proofs.«01_k».proof.Proof.MixDLoops
public import Idealize.ShloMosaic.Lib.Claim
public import proofs.«01_k».proof.Proof.Gen.MixDIdeal.Frame

@[expose] public section

noncomputable section

namespace Cert.MixDIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.MixDIdeal Cert.MixDIdeal.Gen Cert.Rows

variable {F : FTy → Type} [FloatOps F]

local notation "𝕄" => MT nD τ sig Unit (Elt F) ℕ (UR sig nD τ) ℕ

/-- On whole buffers, the inputs' at their contents and the others at anything, the body ends with the inputs unchanged
    and the outputs at the words named. -/
theorem kernel (c : Dev nD) (i : grid0.Coords) (arg1 : Memref sig .tc .vmem S4096x256 .f32) (harg1 : arg1.IsWhole) (arg2 : Memref sig .tc .vmem S4096x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S4096x256 .bf16) (harg5 : arg5.IsWhole) (arg6 : Memref sig .tc .vmem S256x256 .f32) (harg6 : arg6.IsWhole) (arg7 : Memref sig .tc .vmem S1x256 .f32) (harg7 : arg7.IsWhole) (arg8 : Memref sig .tc .vmem S4112x256 .f32) (harg8 : arg8.IsWhole) (arg9 : Memref sig .tc .vmem S4112x256 .f32) (harg9 : arg9.IsWhole) (arg10 : Memref sig .tc .vmem S4096x256 .f32) (harg10 : arg10.IsWhole)
    (x0 : Vec F S4096x256 .f32) (x1 : Vec F S4096x256 .f32) (x2 : Vec F S256x256 .bf16) (x3 : Vec F S1x256 .f32) (E : Set ℕ) (K : PUnit → sProp 𝕄) :
    iprop(held c arg1 x0 ∗ held c arg2 x1 ∗ held c arg3 x2 ∗ held c arg4 x3 ∗ (∃ d, held c arg5 d) ∗ (∃ d, held c arg6 d) ∗ (∃ d, held c arg7 d) ∗ (∃ d, held c arg8 d) ∗ (∃ d, held c arg9 d) ∗ (∃ d, held c arg10 d)
      ∗ (iprop(held c arg1 x0 ∗ held c arg2 x1 ∗ held c arg3 x2 ∗ held c arg4 x3 ∗ held c arg5 (DX x1 x2 x3) ∗ held c arg6 (DP x0 x1 x3 32) ∗ held c arg7 (DS x0 x1 x2 32) ∗ (∃ d, held c arg8 d) ∗ (∃ d, held c arg9 d) ∗ (∃ d, held c arg10 d)) -∗ K ⟨⟩))
    ⊢ wp frame (wpE (defs₀ (F := F)) Variants.none c none) E (cc0_mix_d_bwd i arg1 harg1 arg2 harg2 arg3 harg3 arg4 harg4 arg5 harg5 arg6 harg6 arg7 harg7 arg8 harg8 arg9 harg9 arg10 harg10) K := by
  simp only [cc0_mix_d_bwd_eq_skeleton]; unfold cc0_mix_d_bwd_skel
  unfold held owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3
  have z6 : Holds arg6.view (arg6.view.writes (Elt F) arg6.view.junk [⟨square, k0_pay3 (F := F)⟩]) (DP x0 x1 x3 0) := whole _ _ _ _ _
  have z7 : Holds arg7.view (arg7.view.writes (Elt F) arg7.view.junk [⟨row, k0_pay4 (F := F)⟩]) (DS x0 x1 x2 0) := whole _ _ _ _ _
  have z8 : On arg8.view (arg8.view.writes (Elt F) fs0 [⟨Rect.unit (s := S4112x256) ![0, 0] S16x256.size inb_S4112x256_S16x256_0_0, k0_pay1 (F := F)⟩]) (P x0) (· < 16 + 128 * 0) :=
    On.store (W := 16) (S := fun _ => False) (h := On.none _ _ fun _ h => h) rfl rfl rfl (fun x y h0 h1 => under_pad (p := 16) x y h0 h1) (fun n hn => .inl (by omega))
  have z9' : On arg9.view (arg9.view.writes (Elt F) fs1 [⟨Rect.unit (s := S4112x256) ![4096, 0] S16x256.size inb_S4112x256_S16x256_4096_0, k0_pay2 (F := F)⟩]) (Q x1 x2 x3) (fun n => 4096 ≤ n ∧ n < 4112) :=
    On.store (W := 16) (S := fun _ => False) (h := On.none _ _ fun _ h => h) rfl rfl rfl (fun x y h0 h1 => above_pad (p := 16) x y h0 h1) (fun n hn => .inl hn)
  have z9 : On arg9.view (arg9.view.writes (Elt F) fs1 [⟨Rect.unit (s := S4112x256) ![4096, 0] S16x256.size inb_S4112x256_S16x256_4096_0, k0_pay2 (F := F)⟩]) (Q x1 x2 x3) (fun n => n < 128 * 0 ∨ 4096 ≤ n) :=
    z9'.mono (fun n hn h => ⟨by omega, hn⟩)
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro; exact (On.start hL18).read_eq fun n hn => (by rw [trips2]; exact hn : n < 128 * k0_t2_loop.trips)
  isplitl [H5]
  · iexists _; isplitr; swap; · iexact H5
    ipureintro; exact (show arg6.view.read (Elt F) fL0 = DP x0 x1 x3 k0_t1_loop.trips from hL5).trans (by rw [trips1])
  isplitl [H6]
  · iexists _; isplitr; swap; · iexact H6
    ipureintro; exact (show arg7.view.read (Elt F) fL1 = DS x0 x1 x2 k0_t1_loop.trips from hL7).trans (by rw [trips1])
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-- The buffer that holds window `w`'s block at point `t`. -/
abbrev st (t : Fin cfg0.N) (w : Fin cfg0.W) := (cfg0.win w).stage (cfg0.slots t w)

variable (m : (ℓ : Loc nD τ sig) → Buf (Elt F) ℓ) (ρ : Dev nD → PrngReg)

abbrev sc0 : Memref sig .tc .vmem S4112x256 .f32 := Memref.whole cc0_scratch0
abbrev sc1 : Memref sig .tc .vmem S4112x256 .f32 := Memref.whole cc0_scratch1
abbrev sc2 : Memref sig .tc .vmem S4096x256 .f32 := Memref.whole cc0_scratch2

/-- The region's invariant with the scratch buffers owned at some contents. -/
theorem Phi_eq (c : Dev nD) :
    (Pipeline.ΦA spec0 c : sProp 𝕄) = iprop(iprop((∃ d, held c sc0 d) ∗ (∃ d, held c sc1 d) ∗ (∃ d, held c sc2 d)) ∗ (∃ r, prngReg c r)) := by
  unfold Pipeline.ΦA; rw [scopedRest0_eq]; simp only [sc0, sc1, sc2, owns_whole]; try rfl

/-- What output 4 holds after the body. -/
def out4 (c : Dev nD) (t : Fin cfg0.N) : Vec F S4096x256 .bf16 := DX (iblk m c 1 t) (iblk m c 2 t) (iblk m c 3 t)
/-- What output 5 holds after the body. -/
def out5 (c : Dev nD) (t : Fin cfg0.N) : Vec F S256x256 .f32 := DP (iblk m c 0 t) (iblk m c 1 t) (iblk m c 3 t) 32
/-- What output 6 holds after the body. -/
def out6 (c : Dev nD) (t : Fin cfg0.N) : Vec F S1x256 .f32 := DS (iblk m c 0 t) (iblk m c 1 t) (iblk m c 2 t) 32

/-- What the region is entered and left with. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
    | ⟨6, _⟩ => out6 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_4 (c : Dev nD) (t : Fin cfg0.N) : (dats m 0 c).after 4 t = out4 m c t := by dsimp only [dats]
theorem after_5 (c : Dev nD) (t : Fin cfg0.N) : (dats m 0 c).after 5 t = out5 m c t := by dsimp only [dats]
theorem after_6 (c : Dev nD) (t : Fin cfg0.N) : (dats m 0 c).after 6 t = out6 m c t := by dsimp only [dats]
/-- Before the body every input's buffer holds its block. -/
theorem before (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) :=
  ⟨before0_0_of m _ (A_eq m c 0) (fun _ => rfl) t, before0_1_of m _ (A_eq m c 1) (fun _ => rfl) t, before0_2_of m _ (A_eq m c 2) (fun _ => rfl) t, before0_3_of m _ (A_eq m c 3) (fun _ => rfl) t⟩

/-- The body at any point. -/
theorem sound (c : Dev nD) (t : Fin cfg0.N) :
    iprop((dats m 0 c).Φ t.castSucc ∗ (dats m 0 c).owesAt () t.castSucc ∗ (∃ d, held c (st t 0) ((dats m 0 c).before 0 t d)) ∗ (∃ d, held c (st t 1) ((dats m 0 c).before 1 t d)) ∗ (∃ d, held c (st t 2) ((dats m 0 c).before 2 t d)) ∗ (∃ d, held c (st t 3) ((dats m 0 c).before 3 t d)) ∗ (∃ d, held c (st t 4) ((dats m 0 c).before 4 t d)) ∗ (∃ d, held c (st t 5) ((dats m 0 c).before 5 t d)) ∗ (∃ d, held c (st t 6) ((dats m 0 c).before 6 t d)))
    ⊢ wp frame (wpE (defs₀ (F := F)) Variants.none c none) Set.univ (bodyAt0 t)
      (fun _ => iprop((dats m 0 c).Φ t.succ ∗ (dats m 0 c).owesAt () t.succ ∗ held c (st t 0) (iblk m c 0 t) ∗ held c (st t 1) (iblk m c 1 t) ∗ held c (st t 2) (iblk m c 2 t) ∗ held c (st t 3) (iblk m c 3 t) ∗ held c (st t 4) (out4 m c t) ∗ held c (st t 5) (out5 m c t) ∗ held c (st t 6) (out6 m c t))) := by
  simp only [before m c t]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, Phi_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (kernel c (grid0.coords t) _ _ _ _ _ _ _ _ _ _ _ _ _ _ _ _ _ _ _ _ (iblk m c 0 t) (iblk m c 1 t) (iblk m c 2 t) (iblk m c 3 t) Set.univ _)
  iframe H0 H1 H2 H3
  isplitl [H4]; · iexists _; iexact H4
  isplitl [H5]; · iexists _; iexact H5
  isplitl [H6]; · iexists _; iexact H6
  iframe HS0 HS1 HS2
  iintro ⟨H0, H1, H2, H3, H4, H5, H6, HS0, HS1, HS2⟩
  isplitl [HS0 HS1 HS2 Hg]
  · isplitl [HS0 HS1 HS2]
    · isplitl [HS0]; · iexact HS0
      iframe HS1 HS2
    iexact Hg
  iframe Ho H0 H1 H2 H3 H4 H5 H6

theorem defs₀_row (t : Fin cfg0.N) : defs₀ (F := F) .tc cfg0.body (cfg0.bodyArgs t (cfg0.slots t)) = bodyAt0 t := by
  unfold defs₀; rw [Defs.onTc_tc]

/-- What the region asks of the body. -/
theorem obligation (c : Dev nD) : Pipeline.BodyObligation (dats (F := F) m 0 c) (defs₀ (F := F)) Variants.none () Set.univ := fun t => by
  rw [bigSep_W0, bigSep_W0, defs₀_row]
  exact triple_restated (sound m c t) rfl .rfl fun _ => .rfl

set_option backward.isDefEq.respectTransparency.types false in
/-- The whole run, every counter at zero at its end. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The whole run. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.MixDIdeal.Hand

end
-- ==== Proof.Pool.lean ====
/- Sums over the last rows of a column and over the next: the windows of the pooling mixer. -/
module

public import proofs.«01_k».proof.Proof.Grid
public import proofs.«01_k».proof.Proof.Reals

@[expose] public section

noncomputable section

namespace Cert.Pool

open Idealize.ShloMosaic Cert.Grid Cert.Reals

/-- How many rows a lane's window has: twice as many for every next 64 lanes. -/
def wn (c : ℕ) : ℕ := 2 ^ (c / 64 + 1)
/-- How many of them a row has behind it. -/
def cnt (n c : ℕ) : EReal := ((min (n + 1) (wn c) : ℕ) : ℝ)

theorem cases {c : ℕ} (hc : c < 256) : (c / 64 = 0 ∧ wn c = 2) ∨ (c / 64 = 1 ∧ wn c = 4) ∨ (c / 64 = 2 ∧ wn c = 8) ∨ (c / 64 = 3 ∧ wn c = 16) := by
  rcases (by omega : c / 64 = 0 ∨ c / 64 = 1 ∨ c / 64 = 2 ∨ c / 64 = 3) with h | h | h | h <;> simp [wn, h]

theorem toInt_small {n : ℕ} (h : n < 2 ^ 30) : (BitVec.ofNat 32 n).toInt = n := by
  rw [BitVec.toInt_eq_toNat_of_lt (by rw [BitVec.toNat_ofNat]; omega), BitVec.toNat_ofNat]; omega

theorem word_cnt {n w : ℕ} (hn : n < 2 ^ 29) (hw : w < 2 ^ 29) :
    (((IntOp.minsi (BitVec.ofNat 32 (n + 1)) (BitVec.ofNat 32 w)).toInt : ℝ) : EReal) = ((min (n + 1) w : ℕ) : ℝ) := by
  unfold IntOp.minsi
  have e1 := toInt_small (n := n + 1) (by omega)
  have e2 := toInt_small (n := w) (by omega)
  rw [BitVec.slt, e1, e2]
  by_cases h : n + 1 < w
  · have : ((n + 1 : ℕ) : ℤ) < (w : ℤ) := by exact_mod_cast h
    rw [if_pos (decide_eq_true this), e1, min_eq_left h.le]; rfl
  · have : ¬ ((n + 1 : ℕ) : ℤ) < (w : ℤ) := by exact_mod_cast h
    rw [if_neg (by simpa using this), e2, min_eq_right (by omega)]; rfl

/-- The columns a lane's group picks out. -/
theorem pick {c : ℕ} (hc : c < 256) {α : Type} (A : ℕ → α) :
    Scalar.select (IntOp.cmpi .eq (BitVec.ofNat 32 (c / 64)) 0#32) (A 2)
      (Scalar.select (IntOp.cmpi .eq (BitVec.ofNat 32 (c / 64)) 1#32) (A 4)
        (Scalar.select (IntOp.cmpi .eq (BitVec.ofNat 32 (c / 64)) 2#32) (A 8) (A 16))) = A (wn c) := by
  rcases cases hc with ⟨h, e⟩ | ⟨h, e⟩ | ⟨h, e⟩ | ⟨h, e⟩ <;> rw [h, e] <;> simp [IntOp.cmpi, Scalar.select]

variable {M : Type} [AddCommMonoid M]

/-- Doubling a window. -/
theorem double_back (g : ℕ → M) (w n : ℕ) :
    (∑ j ∈ Finset.range w, g (n - j)) + ∑ j ∈ Finset.range w, g (n - w - j) = ∑ j ∈ Finset.range (w + w), g (n - j) := by
  rw [Finset.sum_range_add]
  exact congrArg _ (Finset.sum_congr rfl fun j _ => congrArg g (Nat.sub_sub _ _ _))
theorem double_next (g : ℕ → M) (w n : ℕ) :
    (∑ j ∈ Finset.range w, g (n + j)) + ∑ j ∈ Finset.range w, g (n + w + j) = ∑ j ∈ Finset.range (w + w), g (n + j) := by
  rw [Finset.sum_range_add]
  exact congrArg _ (Finset.sum_congr rfl fun j _ => congrArg g (Nat.add_assoc _ _ _))

end Cert.Pool

end
-- ==== Proof.MixDV.lean ====
/- The words of the pooling mixer's backward call, entry by entry. -/
module

public import proofs.«01_k».proof.Proof.MixDLoops
public import proofs.«01_k».proof.Proof.Pool

@[expose] public section

noncomputable section

namespace Cert.MixDIdeal.Hand

open Idealize.ShloMosaic Idealize.ShloMosaic.TcCoe Idealize.SL.Sem
open Cert.MixDIdeal Cert.MixDIdeal.Gen Cert.Grid Cert.Pool

section Words

theorem grp_ix (r : Fin 128) (c : Fin 256) : k0_pay21 (ix2 r c) = BitVec.ofNat 32 (c.val / 64) := by
  unfold k0_pay21
  pointwise
  revert c
  decide +kernel

/-- A roll by `a`, read at a row. -/
theorem roll (n : BitVec 32) (X : Vec Ideal S144x256 .f32) (r : Fin 144) (c : Fin 256) (hn : n.toNat < 144) :
    dynamicRotate (0 : Fin 2) n none X rotates_S144x256_d0 (ix2 r c) = at2 X ((r.val + 144 - n.toNat) % 144) c := by
  have e : (r.val + 144 - (n.toNat + 0) % 144) % 144 = (r.val + 144 - n.toNat) % 144 := by
    omega
  rw [← e]
  pointwise
  exact at2_ix X _ c

/-- A window twice as long. -/
def twice (n : BitVec 32) (X : Vec Ideal S144x256 .f32) : FVec Ideal S144x256 .f32 := addf X (dynamicRotate (0 : Fin 2) n none X rotates_S144x256_d0)

theorem twice_back {g : ℕ → EReal} {w : ℕ} (n : BitVec 32) (hn : n.toNat = w) (X : Vec Ideal S144x256 .f32) (c : Fin 256) {o : ℕ} (hw : w < 144)
    (hX : ∀ r, o ≤ r → r < 144 → at2 X r c = ∑ j ∈ Finset.range w, g (r - j)) (r : ℕ) (h : o + w ≤ r) (hr : r < 144) :
    at2 (twice n X) r c = ∑ j ∈ Finset.range (w + w), g (r - j) := by
  subst hn
  rw [← double_back, ← hX r (by omega) hr, ← hX (r - n.toNat) (by omega) (by omega)]
  refine (at2_ix (twice n X) ⟨r, hr⟩ c).symm.trans ?_
  show X (ix2 ⟨r, hr⟩ c) + _ = _
  rw [roll n X _ c hw, at2_ix X]
  congr 2
  dsimp only; omega

theorem twice_next {g : ℕ → EReal} {w : ℕ} (n : BitVec 32) (hn : n.toNat = 144 - w) (X : Vec Ideal S144x256 .f32) (c : Fin 256) {o : ℕ} (hw : 0 < w) (hw' : w < 144)
    (hX : ∀ r, r + o < 144 → at2 X r c = ∑ j ∈ Finset.range w, g (r + j)) (r : ℕ) (h : r + (o + w) < 144) :
    at2 (twice n X) r c = ∑ j ∈ Finset.range (w + w), g (r + j) := by
  have hr : r < 144 := by omega
  rw [← double_next, ← hX r (by omega), ← hX (r + w) (by omega)]
  refine (at2_ix (twice n X) ⟨r, hr⟩ c).symm.trans ?_
  show X (ix2 ⟨r, hr⟩ c) + _ = _
  rw [roll n X _ c (by omega), at2_ix X, hn]
  congr 2
  dsimp only; omega

variable (v : Vec Ideal S144x256 .f32) (c : Fin 256)

theorem pay8_at (r : ℕ) (h : 1 ≤ r) (hr : r < 144) : at2 (k0_pay8 v) r c = ∑ j ∈ Finset.range 2, at2 v (r - j) c :=
  twice_back (g := fun n => at2 v n c) 1#32 rfl v c (o := 0) (by decide) (fun r _ _ => by simp) r h hr
theorem pay10_at (r : ℕ) (h : 3 ≤ r) (hr : r < 144) : at2 (k0_pay10 v) r c = ∑ j ∈ Finset.range 4, at2 v (r - j) c :=
  twice_back (g := fun n => at2 v n c) 2#32 rfl (k0_pay8 v) c (o := 1) (by decide) (pay8_at v c) r h hr
theorem pay12_at (r : ℕ) (h : 7 ≤ r) (hr : r < 144) : at2 (k0_pay12 v) r c = ∑ j ∈ Finset.range 8, at2 v (r - j) c :=
  twice_back (g := fun n => at2 v n c) 4#32 rfl (k0_pay10 v) c (o := 3) (by decide) (pay10_at v c) r h hr
theorem far_at (r : ℕ) (h : 15 ≤ r) (hr : r < 144) : at2 (twice 8#32 (k0_pay12 v)) r c = ∑ j ∈ Finset.range 16, at2 v (r - j) c :=
  twice_back (g := fun n => at2 v n c) 8#32 rfl (k0_pay12 v) c (o := 7) (by decide) (pay12_at v c) r h hr

theorem pay35_at (r : ℕ) (h : r + 1 < 144) : at2 (k0_pay35 v) r c = ∑ j ∈ Finset.range 2, at2 v (r + j) c :=
  twice_next (g := fun n => at2 v n c) 143#32 rfl v c (o := 0) (w := 1) (by decide) (by decide) (fun r _ => by simp) r h
theorem pay37_at (r : ℕ) (h : r + 3 < 144) : at2 (k0_pay37 v) r c = ∑ j ∈ Finset.range 4, at2 v (r + j) c :=
  twice_next (g := fun n => at2 v n c) 142#32 rfl (k0_pay35 v) c (o := 1) (w := 2) (by decide) (by decide) (pay35_at v c) r h
theorem next8_at (r : ℕ) (h : r + 7 < 144) : at2 (twice 140#32 (k0_pay37 v)) r c = ∑ j ∈ Finset.range 8, at2 v (r + j) c :=
  twice_next (g := fun n => at2 v n c) 140#32 rfl (k0_pay37 v) c (o := 3) (w := 4) (by decide) (by decide) (pay37_at v c) r h
theorem next16_at (r : ℕ) (h : r + 15 < 144) : at2 (twice 136#32 (twice 140#32 (k0_pay37 v))) r c = ∑ j ∈ Finset.range 16, at2 v (r + j) c :=
  twice_next (g := fun n => at2 v n c) 136#32 rfl (twice 140#32 (k0_pay37 v)) c (o := 7) (w := 8) (by decide) (by decide) (next8_at v c) r h

/-- A band of the rows around it. -/
theorem cut_ix (X : Vec Ideal S144x256 .f32) (r : Fin 128) :
    extractStridedSlice S128x256 ![16, 0] X slices_S144x256_o16_0_S128x256 (ix2 r c) = at2 X (16 + r) c := by
  pointwise
  exact (at2_ix X _ c).trans (congrArg (at2 X · _) (by dsimp only))
theorem cut0_ix (X : Vec Ideal S144x256 .f32) (r : Fin 128) :
    extractStridedSlice S128x256 ![0, 0] X slices_S144x256_o0_0_S128x256 (ix2 r c) = at2 X r c := by
  pointwise
  exact (at2_ix X _ c).trans (congrArg (at2 X · _) (by dsimp only))

theorem total_ix (r : Fin 128) : total v (ix2 r c) = ∑ j ∈ Finset.range (wn c), at2 v (16 + r - j) c := by
  have hr := r.isLt
  have e : total v (ix2 r c) = Scalar.select (IntOp.cmpi .eq (k0_pay21 (ix2 r c)) 0#32) (k0_pay9 v (ix2 r c))
      (Scalar.select (IntOp.cmpi .eq (k0_pay21 (ix2 r c)) 1#32) (k0_pay11 v (ix2 r c))
        (Scalar.select (IntOp.cmpi .eq (k0_pay21 (ix2 r c)) 2#32) (k0_pay13 v (ix2 r c)) (k0_pay14 v (ix2 r c)))) := rfl
  have e9 : k0_pay9 v (ix2 r c) = ∑ j ∈ Finset.range 2, at2 v (16 + r - j) c := (cut_ix c _ r).trans (pay8_at v c _ (by omega) (by omega))
  have e11 : k0_pay11 v (ix2 r c) = ∑ j ∈ Finset.range 4, at2 v (16 + r - j) c := (cut_ix c _ r).trans (pay10_at v c _ (by omega) (by omega))
  have e13 : k0_pay13 v (ix2 r c) = ∑ j ∈ Finset.range 8, at2 v (16 + r - j) c := (cut_ix c _ r).trans (pay12_at v c _ (by omega) (by omega))
  have e14 : k0_pay14 v (ix2 r c) = ∑ j ∈ Finset.range 16, at2 v (16 + r - j) c := (cut_ix c _ r).trans (far_at v c _ (by omega) (by omega))
  rw [e, grp_ix, e9, e11, e13, e14]
  exact pick c.isLt fun w => ∑ j ∈ Finset.range w, at2 v (16 + r - j) c

/-- The window's count at a row, as it is divided by. -/
theorem count {b : BitVec 32} {k : ℕ} (hb : b = BitVec.ofNat 32 (128 * k)) (hk : k < 32) (r : Fin 128) :
    (((IntOp.minsi (b + BitVec.ofNat 32 r.val + 1#32)
        (Scalar.select (IntOp.cmpi .eq (BitVec.ofNat 32 (c.val / 64)) 0#32) 2#32
          (Scalar.select (IntOp.cmpi .eq (BitVec.ofNat 32 (c.val / 64)) 1#32) 4#32
            (Scalar.select (IntOp.cmpi .eq (BitVec.ofNat 32 (c.val / 64)) 2#32) 8#32 16#32)))).toInt : ℝ) : EReal) = cnt (128 * k + r) c := by
  have hr := r.isLt
  rw [pick c.isLt (BitVec.ofNat 32), hb, ← BitVec.ofNat_add, ← BitVec.ofNat_add]
  refine word_cnt (by omega) ?_
  rcases cases c.isLt with ⟨_, e⟩ | ⟨_, e⟩ | ⟨_, e⟩ | ⟨_, e⟩ <;> rw [e] <;> decide

/-- The means less the rows. -/
def pooled (b : BitVec 32) : FVec Ideal S128x256 .bf16 := k0_pay25 v (total v) (k0_pay20 b) k0_pay21 k0_pay22 k0_pay23 k0_pay24

theorem pooled_ix {b : BitVec 32} {k : ℕ} (hb : b = BitVec.ofNat 32 (128 * k)) (hk : k < 32) (r : Fin 128) :
    pooled v b (ix2 r c) = Ideal.div (∑ j ∈ Finset.range (wn c), at2 v (16 + r - j) c) (cnt (128 * k + r) c) - at2 v (16 + r) c := by
  have e : pooled v b (ix2 r c) = Ideal.div (total v (ix2 r c)) (((IntOp.minsi (b + BitVec.ofNat 32 r.val + 1#32)
        (Scalar.select (IntOp.cmpi .eq (k0_pay21 (ix2 r c)) 0#32) 2#32
          (Scalar.select (IntOp.cmpi .eq (k0_pay21 (ix2 r c)) 1#32) 4#32
            (Scalar.select (IntOp.cmpi .eq (k0_pay21 (ix2 r c)) 2#32) 8#32 16#32)))).toInt : ℝ) : EReal)
      - extractStridedSlice S128x256 ![16, 0] v slices_S144x256_o16_0_S128x256 (ix2 r c) := by
    unfold pooled k0_pay25 k0_pay20 k0_pay22 k0_pay23 k0_pay24
    generalize total v = t
    generalize k0_pay21 = g
    pointwise
    rfl
  rw [e, grp_ix, total_ix, cut_ix, count c hb hk]

theorem share_ix {b : BitVec 32} {k : ℕ} (hb : b = BitVec.ofNat 32 (128 * k)) (hk : k < 32) (d : FVec Ideal S128x256 .f32) (r : Fin 128) :
    share b d (ix2 r c) = Ideal.div (d (ix2 r c)) (cnt (128 * k + r) c) := by
  have e : share b d (ix2 r c) = Ideal.div (d (ix2 r c)) (((IntOp.minsi (b + BitVec.ofNat 32 r.val + 1#32)
        (Scalar.select (IntOp.cmpi .eq (k0_pay21 (ix2 r c)) 0#32) 2#32
          (Scalar.select (IntOp.cmpi .eq (k0_pay21 (ix2 r c)) 1#32) 4#32
            (Scalar.select (IntOp.cmpi .eq (k0_pay21 (ix2 r c)) 2#32) 8#32 16#32)))).toInt : ℝ) : EReal) := by
    unfold share k0_pay5 k0_pay31 k0_pay33 k0_pay34
    rw [show (k0_pay32 : IVec S128x256 32) = k0_pay21 from rfl]
    generalize k0_pay21 = g
    pointwise
    rfl
  rw [e, grp_ix, count c hb hk]

theorem dx_ix (m : Vec Ideal S128x256 .f32) (r : Fin 128) :
    k0_pay6 (k0_pay36 v) (k0_pay38 v) k0_pay39 (k0_pay40 v) 1#32 m (ix2 r c) = (∑ j ∈ Finset.range (wn c), at2 v (r + j) c) - m (ix2 r c) := by
  have hr := r.isLt
  have e : k0_pay6 (k0_pay36 v) (k0_pay38 v) k0_pay39 (k0_pay40 v) 1#32 m (ix2 r c) = Scalar.select (IntOp.cmpi .eq (k0_pay21 (ix2 r c)) 0#32) (k0_pay36 v (ix2 r c))
      (Scalar.select (IntOp.cmpi .eq (k0_pay21 (ix2 r c)) 1#32) (k0_pay38 v (ix2 r c))
        (Scalar.select (IntOp.cmpi .eq (k0_pay21 (ix2 r c)) 2#32) (extractStridedSlice S128x256 ![0, 0] (twice 140#32 (k0_pay37 v)) slices_S144x256_o0_0_S128x256 (ix2 r c))
          (extractStridedSlice S128x256 ![0, 0] (twice 136#32 (twice 140#32 (k0_pay37 v))) slices_S144x256_o0_0_S128x256 (ix2 r c)))) - m (ix2 r c) := rfl
  have e2 : k0_pay36 v (ix2 r c) = ∑ j ∈ Finset.range 2, at2 v (r + j) c := (cut0_ix c _ r).trans (pay35_at v c _ (by omega))
  have e4 : k0_pay38 v (ix2 r c) = ∑ j ∈ Finset.range 4, at2 v (r + j) c := (cut0_ix c _ r).trans (pay37_at v c _ (by omega))
  rw [e, grp_ix, e2, e4, cut0_ix, cut0_ix, next8_at v c _ (by omega), next16_at v c _ (by omega)]
  exact congrArg (· - _) (pick c.isLt fun w => ∑ j ∈ Finset.range w, at2 v (r + j) c)

variable (p : Vec Ideal S256x256 .bf16) (dy : Vec Ideal S128x256 .f32) (s ds : Vec Ideal S1x256 .f32) (dp : Vec Ideal S256x256 .f32) (b : BitVec 32)

theorem scaleStep_ix : scaleStep b v p dy ds (ix2 0 c)
    = ds (ix2 0 c) + ∑ r : Fin 128, dy (ix2 r c) * ∑ e : Fin 256, pooled v b (ix2 r e) * p (ix2 e c) := by
  unfold scaleStep k0_pay26
  rw [show k0_pay25 v (total v) (k0_pay20 b) k0_pay21 k0_pay22 k0_pay23 k0_pay24 = pooled v b from rfl]
  generalize pooled v b = q
  pointwise

theorem matStep_ix (e f : Fin 256) : matStep b v dy s dp (ix2 e f)
    = dp (ix2 e f) + ∑ r : Fin 128, pooled v b (ix2 r e) * (dy (ix2 r f) * s (ix2 0 f)) := by
  unfold matStep k0_pay28 k0_pay27
  rw [show k0_pay25 v (total v) (k0_pay20 b) k0_pay21 k0_pay22 k0_pay23 k0_pay24 = pooled v b from rfl]
  generalize pooled v b = q
  pointwise

theorem pay29_ix (q : FVec Ideal S128x256 .bf16) (r : Fin 128) : k0_pay29 q p (ix2 r c) = ∑ f : Fin 256, q (ix2 r f) * p (ix2 c f) := by
  unfold k0_pay29
  pointwise

theorem pay30_ix (q : FVec Ideal S128x256 .bf16) (r : Fin 128) : k0_pay30 q p (ix2 r c) = ∑ f : Fin 256, q (ix2 r f) * p (ix2 c f) := by
  refine Eq.trans ?_ (pay29_ix c p q r)
  unfold k0_pay30
  pointwise

theorem pay27_ix (r : Fin 128) : k0_pay27 dy s (ix2 r c) = dy (ix2 r c) * s (ix2 0 c) := by
  unfold k0_pay27
  pointwise

end Words

end Cert.MixDIdeal.Hand

end
-- ==== Proof.MixDVal.lean ====
/- What the pooling mixer's backward call leaves, entry by entry. -/
module

public import proofs.«01_k».proof.Proof.MixDV

@[expose] public section

noncomputable section

namespace Cert.MixDIdeal.Hand

open Idealize.ShloMosaic Idealize.ShloMosaic.TcCoe Idealize.SL.Sem
open Cert.MixDIdeal Cert.MixDIdeal.Gen Cert.Grid Cert.Pool Cert.Rows

theorem stack_ix (W : ℕ → S128x256.Idx → EReal) (g : ℕ → Fin 256 → EReal)
    (h : ∀ k, k < 32 → ∀ (r : Fin 128) (c : Fin 256), W k (ix2 r c) = g (128 * k + r) c) (n : Fin 4096) (c : Fin 256) :
    stack W (ix2 n c) = g n c := by
  have hy := n.isLt
  refine (h (n.val / 128) (by omega) _ _).trans ?_
  show g (128 * (n.val / 128) + n.val % 128) _ = _
  rw [Nat.div_add_mod]; rfl

theorem at1_nat {k : ℕ} (hk : k < 32) : (at1 k).val = k := Nat.mod_eq_of_lt (by rw [trips1]; exact hk)
theorem atB_nat {k : ℕ} (hk : k < 32) : (atB k).val = k := Nat.mod_eq_of_lt (by rw [trips2]; exact hk)

theorem base_eq {k : ℕ} (hk : k < 32) : base (at1 k) = BitVec.ofNat 32 (128 * k) := by
  have h : ∀ k : Fin k0_t1_loop.trips, base k = BitVec.ofNat 32 (128 * k.val) := by decide +kernel
  rw [h, at1_nat hk]

theorem ld_band (f : Vec Ideal S4096x256 .f32) {k : ℕ} (hk : k < 32) (r : Fin 128) (c : Fin 256) :
    View.ld f (band (at1 k)) (ix2 r c) = at2 f (128 * k + r) c := by
  refine (ld_ix f (k0_off1 (at1 k)) (k0_off1_inb (at1 k)) r c).trans ?_
  rw [off1, at1_nat hk]; simp
theorem ld_band2 (f : Vec Ideal S4096x256 .f32) {k : ℕ} (hk : k < 32) (r : Fin 128) (c : Fin 256) :
    View.ld f (band2 (atB k)) (ix2 r c) = at2 f (128 * k + r) c := by
  refine (ld_ix f (k0_off6 (atB k)) (k0_off6_inb (atB k)) r c).trans ?_
  rw [off6, atB_nat hk]; simp
theorem ld_wide (f : Vec Ideal S4112x256 .f32) {k : ℕ} (hk : k < 32) (r : ℕ) (hr : r < 144) (c : Fin 256) :
    at2 (View.ld f (wide (at1 k)) : Vec Ideal S144x256 .f32) r c = at2 f (128 * k + r) c := by
  refine (at2_ix _ ⟨r, hr⟩ c).symm.trans ?_
  refine (ld_ix f (k0_off3 (at1 k)) (k0_off3_inb (at1 k)) ⟨r, hr⟩ c).trans ?_
  rw [off3, at1_nat hk]; simp
theorem ld_wide2 (f : Vec Ideal S4112x256 .f32) {k : ℕ} (hk : k < 32) (r : ℕ) (hr : r < 144) (c : Fin 256) :
    at2 (View.ld f (wide2 (atB k)) : Vec Ideal S144x256 .f32) r c = at2 f (128 * k + r) c := by
  refine (at2_ix _ ⟨r, hr⟩ c).symm.trans ?_
  refine (ld_ix f (k0_off5 (atB k)) (k0_off5_inb (atB k)) ⟨r, hr⟩ c).trans ?_
  rw [off5, atB_nat hk]; simp

theorem ld_row (f : Vec Ideal S1x256 .f32) : View.ld f row = f := by
  funext y; exact congrArg f (by idx_vars y; funext a; match a with
    | ⟨0, _⟩ => exact Fin.ext ((Rect.idx_unit_val _ _ _ _ 0).trans (Nat.zero_add _))
    | ⟨1, _⟩ => exact Fin.ext ((Rect.idx_unit_val _ _ _ _ 1).trans (Nat.zero_add _)))

theorem ld_square {e : EltTy} (f : Vec Ideal S256x256 e) : View.ld f square = f := by
  funext y; exact congrArg f (by idx_vars y; funext a; match a with
    | ⟨0, _⟩ => exact Fin.ext ((Rect.idx_unit_val _ _ _ _ 0).trans (Nat.zero_add _))
    | ⟨1, _⟩ => exact Fin.ext ((Rect.idx_unit_val _ _ _ _ 1).trans (Nat.zero_add _)))

variable (x dy : Vec Ideal S4096x256 .f32) (p : Vec Ideal S256x256 .bf16) (s : Vec Ideal S1x256 .f32)

/-- The rows under sixteen rows of zeros. -/
def padded (n c : ℕ) : EReal := if n < 16 then 0 else at2 x (n - 16) c
/-- A window's mean less the row. -/
def mu (n c : ℕ) : EReal := Ideal.div (∑ j ∈ Finset.range (wn c), padded x (16 + n - j) c) (cnt n c) - at2 x n c
/-- The means' cotangent, -/
def cot (n : ℕ) (c : Fin 256) : EReal := ∑ f : Fin 256, at2 dy n f * s (ix2 0 f) * p (ix2 c f)
/-- and its share of each row of the window. -/
def each (n : ℕ) (c : Fin 256) : EReal := if n < 4096 then Ideal.div (cot dy p s n c) (cnt n c) else 0

theorem wn_le {c : ℕ} (hc : c < 256) : wn c ≤ 16 := by
  rcases cases hc with ⟨_, e⟩ | ⟨_, e⟩ | ⟨_, e⟩ | ⟨_, e⟩ <;> omega

theorem P_at (n : ℕ) (hn : n < 4112) (c : Fin 256) : at2 (P (F := Ideal) x) n c = padded x n c := by
  refine (at2_ix (P (F := Ideal) x) ⟨n, hn⟩ c).symm.trans ?_
  unfold P under padded
  by_cases h : n < 16
  · rw [if_pos h]
    refine (dif_pos h).trans ?_
    unfold k0_pay1; pointwise
  · rw [if_neg h]
    refine (dif_neg h).trans ?_
    refine stack_ix _ (fun n c => at2 x n c) (fun k hk r c => ?_) _ _
    refine Eq.trans ?_ (ld_band x hk r c)
    unfold k0_pay7
    generalize View.ld x (band (at1 k)) = b
    pointwise

theorem pooled_mu {k : ℕ} (hk : k < 32) (r : Fin 128) (c : Fin 256) :
    pooled (near x (at1 k)) (base (at1 k)) (ix2 r c) = mu x (128 * k + r) c := by
  have hr := r.isLt
  have hw := wn_le c.isLt
  have e : ∀ u, u < 144 → at2 (near (F := Ideal) x (at1 k)) u c = padded x (128 * k + u) c := fun u hu => by
    unfold near
    exact (ld_wide _ hk u hu c).trans (P_at x _ (by omega) c)
  rw [pooled_ix _ _ (base_eq hk) hk, mu]
  congr 1
  · congr 1
    refine Finset.sum_congr rfl fun j hj => ?_
    rw [Finset.mem_range] at hj
    rw [e _ (by omega)]
    congr 1; omega
  · rw [e _ (by omega), padded, if_neg (by omega)]
    congr 1; omega

theorem mean_ix {k : ℕ} (hk : k < 32) (r : Fin 128) (c : Fin 256) :
    mean dy s (at1 k) (ix2 r c) = at2 dy (128 * k + r) c * s (ix2 0 c) := by
  unfold mean
  rw [pay27_ix, ld_band dy hk, ld_row]

theorem cot_ix {k : ℕ} (hk : k < 32) (r : Fin 128) (c : Fin 256) :
    k0_pay29 (mean dy s (at1 k)) (View.ld p square) (ix2 r c) = cot dy p s (128 * k + r) c := by
  rw [pay29_ix, ld_square]
  exact Finset.sum_congr rfl fun f _ => congrArg (· * _) (mean_ix dy s hk r f)

theorem M_ix (n : Fin 4096) (c : Fin 256) : M (F := Ideal) dy p s (ix2 n c) = cot dy p s n c := by
  unfold M
  refine stack_ix _ (cot dy p s) (fun k hk r c => ?_) n c
  exact ((pay30_ix c _ _ r).trans (pay29_ix c _ _ r).symm).trans (cot_ix dy p s hk r c)

theorem Q_at (n : ℕ) (hn : n < 4112) (c : Fin 256) : at2 (Q (F := Ideal) dy p s) n c = each dy p s n c := by
  refine (at2_ix (Q (F := Ideal) dy p s) ⟨n, hn⟩ c).symm.trans ?_
  unfold Q above each
  by_cases h : n < 4096
  · rw [if_pos h]
    refine (dif_pos h).trans ?_
    refine stack_ix _ (fun n c => Ideal.div (cot dy p s n c) (cnt n c)) (fun k hk r c => ?_) ⟨n, h⟩ c
    exact (share_ix c (base_eq hk) hk _ r).trans (congrArg (Ideal.div · _) (cot_ix dy p s hk r c))
  · rw [if_neg h]
    refine (dif_neg h).trans ?_
    unfold k0_pay2; pointwise

theorem DX_ix (n : Fin 4096) (c : Fin 256) : DX (F := Ideal) dy p s (ix2 n c) = (∑ j ∈ Finset.range (wn c), each dy p s (n + j) c) - cot dy p s n c := by
  unfold DX
  refine stack_ix _ (fun n c => (∑ j ∈ Finset.range (wn c), each dy p s (n + j) c) - cot dy p s n c) (fun k hk r c => ?_) n c
  have hr := r.isLt
  have hw := wn_le c.isLt
  rw [dx_ix, ld_band2 _ hk]
  congr 1
  · refine Finset.sum_congr rfl fun j hj => ?_
    rw [Finset.mem_range] at hj
    unfold far
    rw [ld_wide2 _ hk _ (by omega), Q_at _ _ _ _ (by omega)]
    congr 1; omega
  · exact (at2_ix (M (F := Ideal) dy p s) ⟨128 * k + r, by omega⟩ c).symm.trans (M_ix dy p s _ c)

theorem DP_at (K : ℕ) (hK : K ≤ 32) (e f : Fin 256) : DP (F := Ideal) x dy s K (ix2 e f)
    = ∑ k ∈ Finset.range K, ∑ r : Fin 128, mu x (128 * k + r) e * (at2 dy (128 * k + r) f * s (ix2 0 f)) := by
  induction K with
  | zero => unfold DP k0_pay3; pointwise; rfl
  | succ K ih =>
    have hk : K < 32 := hK
    rw [Finset.sum_range_succ, ← ih (by omega)]
    rw [show DP (F := Ideal) x dy s (K + 1) = _ from DP.eq_2 .., ld_square, ld_row, matStep_ix]
    simp only [pooled_mu x hk, ld_band dy hk]

theorem DP_ix (e f : Fin 256) : DP (F := Ideal) x dy s 32 (ix2 e f) = ∑ n : Fin 4096, mu x n e * (at2 dy n f * s (ix2 0 f)) := by
  refine (DP_at x dy s 32 le_rfl e f).trans ?_
  rw [sum_bands (fun n => mu x n e * (at2 dy n f * s (ix2 0 f))), ← Fin.sum_univ_eq_sum_range (n := 4096)]

theorem DS_at (K : ℕ) (hK : K ≤ 32) (c : Fin 256) : DS (F := Ideal) x dy p K (ix2 0 c)
    = ∑ k ∈ Finset.range K, ∑ r : Fin 128, at2 dy (128 * k + r) c * ∑ e : Fin 256, mu x (128 * k + r) e * p (ix2 e c) := by
  induction K with
  | zero => unfold DS k0_pay4; pointwise; rfl
  | succ K ih =>
    have hk : K < 32 := hK
    rw [Finset.sum_range_succ, ← ih (by omega)]
    rw [show DS (F := Ideal) x dy p (K + 1) = _ from DS.eq_2 .., ld_square, ld_row, scaleStep_ix]
    simp only [pooled_mu x hk, ld_band dy hk]

theorem DS_ix (c : Fin 256) : DS (F := Ideal) x dy p 32 (ix2 0 c) = ∑ n : Fin 4096, at2 dy n c * ∑ e : Fin 256, mu x n e * p (ix2 e c) := by
  refine (DS_at x dy p 32 le_rfl c).trans ?_
  rw [sum_bands (fun n => at2 dy n c * ∑ e : Fin 256, mu x n e * p (ix2 e c)), ← Fin.sum_univ_eq_sum_range (n := 4096)]

end Cert.MixDIdeal.Hand

end
-- ==== Proof.RunSum.lean ====
/- The sum of a column's rows so far, and of those still to come, as a window of the whole height leaves it. -/
module

public import proofs.«01_k».proof.Proof.Grid
public import proofs.«01_k».proof.Proof.Pool
public import Idealize.ShloMosaic.Lib.Routing.OpsOne

@[expose] public section

noncomputable section

namespace Cert.Pool

open Idealize.ShloMosaic Cert.Grid

theorem foldl_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

variable {R C lo hi : ℕ}

theorem window_sum (x : (⟨2, ![R, C]⟩ : Shape).Idx → EReal)
    (h : (⟨2, ![R, C]⟩ : Shape).ReduceWindows (![R, 1] : Fin 2 → ℕ) ![1, 1] ![lo, 0] ![hi, 0] ⟨2, ![R, C]⟩) (j : Fin R) (c : Fin C) :
    Ideal.hostReduceWindowAdd ![R, 1] ![1, 1] ![lo, 0] ![hi, 0] h x 0 (ix2 j c)
      = ∑ n ∈ Finset.range R, if lo ≤ j.val + n then at2 x (j.val + n - lo) c else 0 := by
  unfold Ideal.hostReduceWindowAdd Host.reduceWindow
  dsimp only
  refine (foldl_sum _ _ 0).trans ?_
  rw [zero_add, ← Fin.sum_univ_def]
  have hN : (⟨2, ![R, 1]⟩ : Shape).numel = R := Routing.numel_col R
  have e : ∀ (N : ℕ) (hN : N = R) (f : Fin N → EReal) (g : ℕ → EReal), (∀ n, f n = g n.val) → ∑ n, f n = ∑ n ∈ Finset.range R, g n := by
    rintro N rfl f g hf
    rw [← Fin.sum_univ_eq_sum_range]
    exact Finset.sum_congr rfl fun n _ => hf n
  refine e _ hN _ (fun n => if lo ≤ j.val + n then at2 x (j.val + n - lo) c else 0) fun n => ?_
  have hw0 : ((⟨2, ![R, 1]⟩ : Shape).rowMajor.symm n 0).val = n.val := by rw [Routing.symm_col]; rfl
  have hw1 : ((⟨2, ![R, 1]⟩ : Shape).rowMajor.symm n 1).val = 0 := by rw [Routing.symm_col]; rfl
  have hc := c.isLt
  have hj := j.isLt
  by_cases hin : lo ≤ j.val + n.val ∧ j.val + n.val - lo < R
  · rw [dif_pos (fun a => by
      match a with
      | ⟨0, _⟩ =>
        show lo ≤ j.val * 1 + ((⟨2, ![R, 1]⟩ : Shape).rowMajor.symm n 0).val ∧ j.val * 1 + ((⟨2, ![R, 1]⟩ : Shape).rowMajor.symm n 0).val - lo < R
        rw [hw0]; omega
      | ⟨1, _⟩ =>
        show 0 ≤ c.val * 1 + ((⟨2, ![R, 1]⟩ : Shape).rowMajor.symm n 1).val ∧ c.val * 1 + ((⟨2, ![R, 1]⟩ : Shape).rowMajor.symm n 1).val - 0 < C
        rw [hw1]; omega), if_pos hin.1]
    refine Eq.trans (congrArg x (funext fun a => Fin.ext ?_)) (at2_ix x ⟨j.val + n.val - lo, hin.2⟩ c)
    match a with
    | ⟨0, _⟩ =>
      show j.val * 1 + ((⟨2, ![R, 1]⟩ : Shape).rowMajor.symm n 0).val - lo = j.val + n.val - lo
      rw [hw0, Nat.mul_one]
    | ⟨1, _⟩ =>
      show c.val * 1 + ((⟨2, ![R, 1]⟩ : Shape).rowMajor.symm n 1).val - 0 = c.val
      rw [hw1]; omega
  · rw [dif_neg (fun q => hin (by
      have q0 := q 0
      change lo ≤ j.val * 1 + ((⟨2, ![R, 1]⟩ : Shape).rowMajor.symm n 0).val ∧ j.val * 1 + ((⟨2, ![R, 1]⟩ : Shape).rowMajor.symm n 0).val - lo < R at q0
      rw [hw0] at q0; omega))]
    split
    · next h1 => rw [at2_out x (by omega)]
    · rfl

/-- Padded in front by all but one: the rows so far. -/
theorem so_far (hR : lo + 1 = R) (x : (⟨2, ![R, C]⟩ : Shape).Idx → EReal)
    (h : (⟨2, ![R, C]⟩ : Shape).ReduceWindows (![R, 1] : Fin 2 → ℕ) ![1, 1] ![lo, 0] ![hi, 0] ⟨2, ![R, C]⟩) (j : Fin R) (c : Fin C) :
    Ideal.hostReduceWindowAdd ![R, 1] ![1, 1] ![lo, 0] ![hi, 0] h x 0 (ix2 j c) = ∑ n ∈ Finset.range (j + 1), at2 x n c := by
  rw [window_sum]
  obtain ⟨j, hj⟩ := j
  dsimp only
  have eR : Finset.range R = Finset.range ((lo - j) + (j + 1)) := congrArg _ (by omega)
  rw [eR, Finset.sum_range_add, Finset.sum_eq_zero, zero_add]
  · exact Finset.sum_congr rfl fun n _ => by rw [if_pos (by omega)]; congr 1; omega
  · intro n hn; rw [Finset.mem_range] at hn; rw [if_neg (by omega)]

/-- Padded behind: the rows to come. -/
theorem to_come (x : (⟨2, ![R, C]⟩ : Shape).Idx → EReal)
    (h : (⟨2, ![R, C]⟩ : Shape).ReduceWindows (![R, 1] : Fin 2 → ℕ) ![1, 1] ![0, 0] ![hi, 0] ⟨2, ![R, C]⟩) (j : Fin R) (c : Fin C) :
    Ideal.hostReduceWindowAdd ![R, 1] ![1, 1] ![0, 0] ![hi, 0] h x 0 (ix2 j c) = ∑ n ∈ Finset.range R, at2 x (j + n) c := by
  rw [window_sum]
  exact Finset.sum_congr rfl fun n _ => by rw [if_pos (Nat.zero_le _)]; rfl

open Cert.Reals

/-- The rows so far less those before the window are the window's. -/
theorem split_window {M : Type} [AddCommMonoid M] (g : ℕ → M) (n w : ℕ) :
    ∑ i ∈ Finset.range (n + 1), g i = (∑ i ∈ Finset.range (n + 1 - w), g i) + ∑ j ∈ Finset.range w, if n < j then 0 else g (n - j) := by
  induction w with
  | zero => simp
  | succ w ih =>
    rw [ih, Finset.sum_range_succ (n := w), add_comm (∑ j ∈ Finset.range w, _), ← add_assoc]
    congr 1
    by_cases h : n < w
    · rw [if_pos h, add_zero]; congr 2; omega
    · rw [if_neg h, show n + 1 - w = n + 1 - (w + 1) + 1 by omega, Finset.sum_range_succ]
      congr 2; omega

theorem window_of_sums (g : ℕ → EReal) (hg : ∀ i, Real' (g i)) (n w : ℕ) :
    (∑ i ∈ Finset.range (n + 1), g i) - (∑ i ∈ Finset.range (n + 1 - w), g i) = ∑ j ∈ Finset.range w, if n < j then 0 else g (n - j) := by
  rw [split_window g n w]
  obtain ⟨a, ha⟩ := Real'.sum (Finset.range (n + 1 - w)) g fun i _ => hg i
  obtain ⟨b, hb⟩ := Real'.sum (Finset.range w) (fun j => if n < j then 0 else g (n - j)) fun j _ => by
    show Real' (if n < j then 0 else g (n - j))
    split
    · exact zero
    · exact hg _
  rw [ha, hb, ← EReal.coe_add, ← EReal.coe_sub, add_sub_cancel_left]

/-- Every row's share less the share a window further on, summed over the rows to come, is the window's shares. -/
theorem telescope (e : ℕ → EReal) (he : ∀ i, Real' (e i)) (n w N : ℕ) (h0 : ∀ i, N ≤ i → e i = 0) :
    ∑ i ∈ Finset.range N, (e (n + i) + -e (n + i + w)) = ∑ j ∈ Finset.range w, e (n + j) := by
  obtain ⟨r, hr⟩ := choose he
  have h1 : ∀ i, N ≤ i → r i = 0 := fun i hi => by
    have := h0 i hi; rw [hr] at this; exact_mod_cast this
  have key : ∀ K, ∑ i ∈ Finset.range K, (r (n + i) - r (n + i + w)) = (∑ j ∈ Finset.range w, r (n + j)) - ∑ j ∈ Finset.range w, r (n + K + j) := by
    intro K
    induction K with
    | zero => simp
    | succ K ih =>
      rw [Finset.sum_range_succ, ih]
      have e1 : (∑ j ∈ Finset.range w, r (n + K + j)) + r (n + K + w) = (∑ j ∈ Finset.range w, r (n + (K + 1) + j)) + r (n + K) := by
        rw [← Finset.sum_range_succ (fun j => r (n + K + j)), Finset.sum_range_succ']
        congr 1
        exact Finset.sum_congr rfl fun j _ => by congr 1; omega
      linarith
  have e2 : ∀ (s : Finset ℕ) (f : ℕ → ℝ), ∑ i ∈ s, (f i : EReal) = ((∑ i ∈ s, f i : ℝ) : EReal) := fun s f => by
    induction s using Finset.induction_on with
    | empty => simp
    | insert a s ha ih => rw [Finset.sum_insert ha, Finset.sum_insert ha, ih, EReal.coe_add]
  have e3 : ∑ j ∈ Finset.range w, r (n + N + j) = 0 := Finset.sum_eq_zero fun j _ => h1 _ (by omega)
  simp only [hr]
  rw [e2, ← sub_zero (∑ j ∈ Finset.range w, r (n + j)), ← e3, ← key, ← e2]
  exact Finset.sum_congr rfl fun i _ => by rw [← EReal.coe_neg, ← EReal.coe_add, sub_eq_add_neg]

/-- Sixty-four lanes of a row of 256. -/
theorem one_group (F : ℕ → EReal) {g : ℕ} (hg : g < 4) : (∑ f : Fin 256, if f.val / 64 = g then F f else 0) = ∑ d : Fin 64, F (64 * g + d) := by
  rw [Fin.sum_univ_eq_sum_range (fun f => if f / 64 = g then F f else 0) 256, ← sum_bands _ 64 4,
    Finset.sum_eq_single g]
  · exact Finset.sum_congr rfl fun d _ => if_pos (by omega)
  · intro k _ hk
    exact Finset.sum_eq_zero fun d _ => if_neg (by omega)
  · intro h; exact absurd (Finset.mem_range.mpr hg) h

theorem real_div {x : EReal} (hx : Real' x) (n c : ℕ) : Real' (Ideal.div x (cnt n c)) := by
  obtain ⟨r, rfl⟩ := hx
  have hw : 0 < wn c := Nat.pos_of_ne_zero (by unfold wn; exact pow_ne_zero _ (by decide))
  have h : (((min (n + 1) (wn c) : ℕ) : ℝ)) ≠ 0 := by
    have : min (n + 1) (wn c) ≠ 0 := by omega
    exact_mod_cast this
  rw [cnt, Ideal.div_coe h]
  exact (coe _).mul (coe _)

end Cert.Pool

end
-- ==== Proof.MixDRefV.lean ====
/- The pooling mixer's gradients as jax.vjp leaves them, entry by entry. -/
module

public import proofs.«01_k».proof.Proof.MixDVal
public import proofs.«01_k».proof.Proof.RunSum
public import proofs.«01_k».proof.Proof.Gen.MixDRefIdeal.Read

@[expose] public section

noncomputable section

namespace Cert.MixDRefIdeal.Read

open Idealize.ShloMosaic Idealize.ShloMosaic.TcCoe Idealize.SL.Sem
open Cert.MixDRefIdeal Cert.MixDRefIdeal.Gen Cert.Grid Cert.Pool

variable (z : Vec Ideal S4096x2048 .f32) (d : Vec Ideal S4096x1024 .f32) (p : Vec Ideal S4x64x64 .f32) (s : Vec Ideal S256 .f32)

/-- The pooled rows and the cotangent. -/
abbrev X := col 1792 (by decide) z
abbrev DY := col 768 (by decide) d
/-- The scale laid out as a row. -/
abbrev G : Vec Ideal S1x256 .f32 := fun y => s (ix1 (y 1))

/-- A group's lane. -/
def lane (g : Fin 4) (e : Fin 64) : Fin 256 := ⟨g.val * 64 + e.val, by omega⟩

theorem X_ix (n : Fin 4096) (c : Fin 256) : val_main_v0 (F := Ideal) z (ix2 n c) = at2 (X z) n c := by
  rw [← at2_ix]
  unfold val_main_v0
  pointwise
  rfl
theorem DY_ix (n : Fin 4096) (c : Fin 256) : val_main_v78 (F := Ideal) d (ix2 n c) = at2 (DY d) n c := by
  rw [← at2_ix]
  unfold val_main_v78
  pointwise
  rfl

theorem at2_X (n : ℕ) (c : Fin 256) : at2 (val_main_v0 (F := Ideal) z) n c = at2 (X z) n c := by
  by_cases h : n < 4096
  · exact (at2_ix _ ⟨n, h⟩ c).symm.trans (X_ix z ⟨n, h⟩ c)
  · rw [at2_out _ (by omega), at2_out _ (by omega)]

theorem cs_ix (n : Fin 4096) (c : Fin 256) : val_main_v1 (F := Ideal) z (ix2 n c) = ∑ i ∈ Finset.range (n + 1), at2 (X z) i c := by
  have e0 : ∀ i, val_main_call0_call0_v0 (F := Ideal) i = 0 := fun i => by
    unfold val_main_call0_call0_v0 val_main_call0_call0_cst; pointwise
  unfold val_main_v1 Host.reduceWindowAdd
  rw [Ideal.hostReduceWindowAdd_def, e0]
  refine (so_far (lo := 4095) (hi := 0) rfl (val_main_v0 (F := Ideal) z) reduceWindows_S4096x256_S4096x256_w4096s1p4095_0_w1s1p0_0 n c).trans ?_
  exact Finset.sum_congr rfl fun i _ => at2_X z i c

/-- A window's mean as the difference of two sums, less the row. -/
def mu (n c : ℕ) : EReal :=
  Ideal.div ((∑ i ∈ Finset.range (n + 1), at2 (X z) i c) - ∑ i ∈ Finset.range (n + 1 - wn c), at2 (X z) i c) (cnt n c) - at2 (X z) n c

theorem wn_lane (g : Fin 4) (e : Fin 64) : wn (lane g e) = 2 ^ (g.val + 1) := by
  have h : (lane g e).val / 64 = g.val := by show (g.val * 64 + e.val) / 64 = _; omega
  unfold wn
  rw [h]

theorem cnt_0 (n : Fin 4096) : val_main_v13 (F := Ideal) (ix2 n 0) = ((min (n.val + 1) 2 : ℕ) : ℝ) := by
  have hn := n.isLt
  rw [← word_cnt (n := n.val) (w := 2) (by omega) (by decide), BitVec.ofNat_add]
  unfold val_main_v13 val_main_v12 val_main_v11 val_main_v9 val_main_v2 val_main_v8 val_main_c val_main_v10 val_main_c_1
  pointwise
  rfl

theorem cnt_1 (n : Fin 4096) : val_main_v29 (F := Ideal) (ix2 n 0) = ((min (n.val + 1) 4 : ℕ) : ℝ) := by
  have hn := n.isLt
  rw [← word_cnt (n := n.val) (w := 4) (by omega) (by decide), BitVec.ofNat_add]
  unfold val_main_v29 val_main_v28 val_main_v27 val_main_v25 val_main_v2 val_main_v24 val_main_c_4 val_main_v26 val_main_c_5
  pointwise
  rfl

theorem cnt_2 (n : Fin 4096) : val_main_v45 (F := Ideal) (ix2 n 0) = ((min (n.val + 1) 8 : ℕ) : ℝ) := by
  have hn := n.isLt
  rw [← word_cnt (n := n.val) (w := 8) (by omega) (by decide), BitVec.ofNat_add]
  unfold val_main_v45 val_main_v44 val_main_v43 val_main_v41 val_main_v2 val_main_v40 val_main_c_8 val_main_v42 val_main_c_9
  pointwise
  rfl

theorem cnt_3 (n : Fin 4096) : val_main_v61 (F := Ideal) (ix2 n 0) = ((min (n.val + 1) 16 : ℕ) : ℝ) := by
  have hn := n.isLt
  rw [← word_cnt (n := n.val) (w := 16) (by omega) (by decide), BitVec.ofNat_add]
  unfold val_main_v61 val_main_v60 val_main_v59 val_main_v57 val_main_v2 val_main_v56 val_main_c_12 val_main_v58 val_main_c_13
  pointwise
  rfl

theorem mean_of (A B : Vec Ideal S4096x256 .f32) (hA : ∀ (n : Fin 4096) (c : Fin 256), A (ix2 n c) = ∑ i ∈ Finset.range (n + 1), at2 (X z) i c)
    (hB : ∀ (n : Fin 4096) (c : Fin 256), B (ix2 n c) = at2 (X z) n c) {C : EReal} (n : Fin 4096) (g : Fin 4) (e : Fin 64) (c : Fin 256) (hc : c = lane g e)
    (w : ℕ) (hw : w = 2 ^ (g.val + 1)) (hC : C = ((min (n.val + 1) w : ℕ) : ℝ)) (hs : ∀ h : ¬ n.val < w, n.val - w < 4096) :
    Ideal.div (A (ix2 n c) - if h : n.val < w then 0 else A (ix2 ⟨n.val - w, hs h⟩ c)) C - B (ix2 n c) = mu z n (lane g e) := by
  rw [← wn_lane g e, ← hc] at hw
  subst hw
  rw [hC, hA, hB, ← hc, mu, cnt]
  congr 3
  by_cases h : n.val < wn c
  · rw [dif_pos h, show n.val + 1 - wn c = 0 by omega]; simp
  · rw [dif_neg h, hA]
    congr 2
    show n.val - wn c + 1 = _
    omega

theorem mean_0 (n : Fin 4096) (e : Fin 64) : val_main_v18 (F := Ideal) z (ix2 n e) = mu z n (lane 0 e) := by
  refine Eq.trans ?_ (mean_of z _ _ (cs_ix z) (X_ix z) n 0 e (lane 0 e) rfl 2 rfl (cnt_0 n) fun h => by omega)
  unfold val_main_v18 val_main_v16 val_main_v17 val_main_v14 val_main_v7 val_main_v5 val_main_v4 val_main_v3 val_main_cst val_main_v15
  generalize val_main_v1 (F := Ideal) z = A
  generalize val_main_v0 (F := Ideal) z = B
  generalize val_main_v13 (F := Ideal) = C
  pointwise
  rw [show lane 0 e = ⟨e.val, by omega⟩ from Fin.ext (by show 0 * 64 + e.val = e.val; omega)]

theorem mean_1 (n : Fin 4096) (e : Fin 64) : val_main_v34 (F := Ideal) z (ix2 n e) = mu z n (lane 1 e) := by
  refine Eq.trans ?_ (mean_of z _ _ (cs_ix z) (X_ix z) n 1 e (lane 1 e) rfl 4 rfl (cnt_1 n) fun h => by omega)
  unfold val_main_v34 val_main_v32 val_main_v33 val_main_v30 val_main_v23 val_main_v21 val_main_v20 val_main_v19 val_main_cst_2 val_main_v31
  generalize val_main_v1 (F := Ideal) z = A
  generalize val_main_v0 (F := Ideal) z = B
  generalize val_main_v29 (F := Ideal) = C
  pointwise
  rfl

theorem mean_2 (n : Fin 4096) (e : Fin 64) : val_main_v50 (F := Ideal) z (ix2 n e) = mu z n (lane 2 e) := by
  refine Eq.trans ?_ (mean_of z _ _ (cs_ix z) (X_ix z) n 2 e (lane 2 e) rfl 8 rfl (cnt_2 n) fun h => by omega)
  unfold val_main_v50 val_main_v48 val_main_v49 val_main_v46 val_main_v39 val_main_v37 val_main_v36 val_main_v35 val_main_cst_6 val_main_v47
  generalize val_main_v1 (F := Ideal) z = A
  generalize val_main_v0 (F := Ideal) z = B
  generalize val_main_v45 (F := Ideal) = C
  pointwise
  rfl

theorem mean_3 (n : Fin 4096) (e : Fin 64) : val_main_v66 (F := Ideal) z (ix2 n e) = mu z n (lane 3 e) := by
  refine Eq.trans ?_ (mean_of z _ _ (cs_ix z) (X_ix z) n 3 e (lane 3 e) rfl 16 rfl (cnt_3 n) fun h => by omega)
  unfold val_main_v66 val_main_v64 val_main_v65 val_main_v62 val_main_v55 val_main_v53 val_main_v52 val_main_v51 val_main_cst_10 val_main_v63
  generalize val_main_v1 (F := Ideal) z = A
  generalize val_main_v0 (F := Ideal) z = B
  generalize val_main_v61 (F := Ideal) = C
  pointwise
  rfl

theorem means_ix (n : Fin 4096) (g : Fin 4) (e : Fin 64) : val_main_v71 (F := Ideal) z (ix3 n g e) = mu z n (lane g e) := by
  have h0 := mean_0 z n e
  have h1 := mean_1 z n e
  have h2 := mean_2 z n e
  have h3 := mean_3 z n e
  unfold val_main_v71 val_main_v67 val_main_v68 val_main_v69 val_main_v70
  generalize val_main_v18 (F := Ideal) z = A at h0 ⊢
  generalize val_main_v34 (F := Ideal) z = B at h1 ⊢
  generalize val_main_v50 (F := Ideal) z = C at h2 ⊢
  generalize val_main_v66 (F := Ideal) z = D at h3 ⊢
  pointwise
  match g with
  | 0 => exact (dif_pos (by decide)).trans h0
  | 1 => exact (dif_neg (by decide)).trans ((dif_pos (by decide)).trans h1)
  | 2 => exact (dif_neg (by decide)).trans ((dif_neg (by decide)).trans ((dif_pos (by decide)).trans h2))
  | 3 => exact (dif_neg (by decide)).trans ((dif_neg (by decide)).trans ((dif_neg (by decide)).trans h3))

theorem yl_ix (n : Fin 4096) (c : Fin 256) : val_main_v74 (F := Ideal) z p (ix2 n c)
    = ∑ e : Fin 64, p (ix3 ⟨c.val / 64, by omega⟩ e ⟨c.val % 64, by omega⟩) * mu z n (lane ⟨c.val / 64, by omega⟩ e) := by
  have h := means_ix z n
  unfold val_main_v74 val_main_v73 val_main_v72
  generalize val_main_v71 (F := Ideal) z = A at h ⊢
  pointwise
  exact Finset.sum_congr rfl fun e _ => congrArg (_ * ·) (h _ e)

theorem ds_ix (c : Fin 256) : val_main_v84 (F := Ideal) z d p (ix1 c)
    = ∑ n : Fin 4096, (∑ e : Fin 64, p (ix3 ⟨c.val / 64, by omega⟩ e ⟨c.val % 64, by omega⟩) * mu z n (lane ⟨c.val / 64, by omega⟩ e)) * at2 (DY d) n c := by
  have hA := fun n => yl_ix z p n c
  have hB := fun n => DY_ix d n c
  unfold val_main_v84 val_main_v81 val_main_v80 val_main_v79 val_main_cst_14 val_main_cst_15
  generalize val_main_v74 (F := Ideal) z p = A at hA ⊢
  generalize val_main_v78 (F := Ideal) d = B at hB ⊢
  pointwise
  rw [Finset.univ_unique, Finset.sum_singleton]
  exact Finset.sum_congr rfl fun n _ => congrArg₂ (· * ·) (hA n) (hB n)

theorem dp_ix (g : Fin 4) (e f : Fin 64) : val_main_v90 (F := Ideal) z d s (ix3 g e f)
    = ∑ n : Fin 4096, at2 (DY d) n (lane g f) * s (ix1 (lane g f)) * mu z n (lane g e) := by
  have hA := means_ix z
  have hB := DY_ix d
  unfold val_main_v90 val_main_v89 val_main_v86 val_main_v85 val_main_v83 val_main_v82 val_main_v75
  generalize val_main_v71 (F := Ideal) z = A at hA ⊢
  generalize val_main_v78 (F := Ideal) d = B at hB ⊢
  pointwise
  exact Finset.sum_congr rfl fun n _ => congrArg₂ (· * ·) (congrArg (· * _) (hB n _)) (hA n g e)

/-- The blocks on the diagonal of a matrix of zeros. -/
def bd : Vec Ideal Cert.MixDIdeal.S256x256 .bf16 := fun y =>
  if (y 0).val / 64 = (y 1).val / 64 then p (ix3 ⟨(y 0).val / 64, by have : (y 0).val < 256 := (y 0).isLt; omega⟩
    ⟨(y 0).val % 64, Nat.mod_lt _ (by decide)⟩ ⟨(y 1).val % 64, Nat.mod_lt _ (by decide)⟩) else 0

theorem bd_row (g : Fin 4) (e : Fin 64) (f : Fin 256) :
    bd p (ix2 (lane g e) f) = if f.val / 64 = g.val then p (ix3 g e ⟨f.val % 64, Nat.mod_lt _ (by decide)⟩) else 0 := by
  have h : (lane g e).val / 64 = g.val := by show (g.val * 64 + e.val) / 64 = _; omega
  have h' : (lane g e).val % 64 = e.val := by show (g.val * 64 + e.val) % 64 = _; omega
  unfold bd
  show (if (lane g e).val / 64 = f.val / 64 then p (ix3 ⟨(lane g e).val / 64, _⟩ ⟨(lane g e).val % 64, _⟩ _) else 0) = _
  simp only [h, h', eq_comm]
  rfl
theorem bd_col (g : Fin 4) (d : Fin 64) (e : Fin 256) :
    bd p (ix2 e (lane g d)) = if e.val / 64 = g.val then p (ix3 g ⟨e.val % 64, Nat.mod_lt _ (by decide)⟩ d) else 0 := by
  have h : (lane g d).val / 64 = g.val := by show (g.val * 64 + d.val) / 64 = _; omega
  have h' : (lane g d).val % 64 = d.val := by show (g.val * 64 + d.val) % 64 = _; omega
  unfold bd
  show (if e.val / 64 = (lane g d).val / 64 then p (ix3 ⟨e.val / 64, _⟩ _ ⟨(lane g d).val % 64, _⟩) else 0) = _
  by_cases hg : e.val / 64 = g.val
  · simp only [h, h', hg]; rfl
  · simp only [h, hg]; rfl

/-- A row of 256 lanes against zeros outside one group. -/
theorem group_sum (A : Fin 256 → EReal) (g : Fin 4) (B : Fin 64 → EReal) :
    (∑ f : Fin 256, A f * if f.val / 64 = g.val then B ⟨f.val % 64, Nat.mod_lt _ (by decide)⟩ else 0) = ∑ e : Fin 64, A (lane g e) * B e := by
  let F : ℕ → EReal := fun n => if h : n < 256 then A ⟨n, h⟩ * B ⟨n % 64, Nat.mod_lt _ (by decide)⟩ else 0
  refine Eq.trans (Finset.sum_congr rfl fun f _ => ?_) ((one_group F g.isLt).trans (Finset.sum_congr rfl fun e _ => ?_))
  · show _ = if f.val / 64 = g.val then (if h : f.val < 256 then A ⟨f.val, h⟩ * B ⟨f.val % 64, _⟩ else 0) else 0
    rw [dif_pos f.isLt]
    split
    · rfl
    · exact mul_zero _
  · have h : 64 * g.val + e.val < 256 := by omega
    show (if h : 64 * g.val + e.val < 256 then A ⟨64 * g.val + e.val, h⟩ * B ⟨(64 * g.val + e.val) % 64, _⟩ else 0) = _
    rw [dif_pos h]
    congr 2
    · exact Fin.ext (by show 64 * g.val + e.val = g.val * 64 + e.val; omega)
    · exact Fin.ext (by show (64 * g.val + e.val) % 64 = e.val; omega)

open Cert.MixDIdeal.Hand (cot each)

theorem cot_ix (n : Fin 4096) (g : Fin 4) (e : Fin 64) : val_main_v88 (F := Ideal) d p s (ix3 n g e) = cot (DY d) (bd p) (G s) n (lane g e) := by
  unfold cot
  simp only [bd_row]
  rw [group_sum (fun f => at2 (DY d) n f * G s (ix2 0 f)) g fun f => p (ix3 g e f)]
  have hB := DY_ix d n
  unfold val_main_v88 val_main_v87 val_main_v86 val_main_v85 val_main_v83 val_main_v82 val_main_v75
  generalize val_main_v78 (F := Ideal) d = B at hB ⊢
  pointwise
  exact Finset.sum_congr rfl fun f _ => congrArg (fun y => y * s (ix1 (lane g f)) * p (ix3 g e f)) (hB _)

theorem each_of (B : Vec Ideal S4096x4x64 .f32) (C : Vec Ideal S4096x1 .f32) (w : ℕ) (n : Fin 4096) (g : Fin 4) (e : Fin 64)
    (hB : ∀ n, B (ix3 n g e) = cot (DY d) (bd p) (G s) n (lane g e)) (hw : w = 2 ^ (g.val + 1)) (hC : ∀ n : Fin 4096, C (ix2 n 0) = ((min (n.val + 1) w : ℕ) : ℝ)) :
    (Ideal.div (B (ix3 n g e)) (C (ix2 n 0)) + if h : w + n.val < 4096 then -Ideal.div (B (ix3 ⟨w + n.val, h⟩ g e)) (C (ix2 ⟨w + n.val, h⟩ 0)) else 0)
      = each (DY d) (bd p) (G s) n (lane g e) + -each (DY d) (bd p) (G s) (n + wn (lane g e)) (lane g e) := by
  rw [← wn_lane g e] at hw
  subst hw
  have key : ∀ n : Fin 4096, Ideal.div (B (ix3 n g e)) (C (ix2 n 0)) = each (DY d) (bd p) (G s) n (lane g e) := fun n => by
    rw [hB, hC, each, if_pos n.isLt, cnt]
  rw [key]
  congr 1
  split
  · next h => rw [key]; congr 2; exact Nat.add_comm _ _
  · next h => rw [each, if_neg (by omega), neg_zero]

theorem e_0 (n : Fin 4096) (e : Fin 64) : val_main_v142 (F := Ideal) d p s (ix2 n e)
    = each (DY d) (bd p) (G s) n (lane 0 e) + -each (DY d) (bd p) (G s) (n + wn (lane 0 e)) (lane 0 e) := by
  refine Eq.trans ?_ (each_of d p s _ _ 2 n 0 e (fun n => cot_ix d p s n 0 e) rfl cnt_0)
  unfold val_main_v142 val_main_v141 val_main_v139 val_main_v138 val_main_v137 val_main_v92 val_main_v91 val_main_v136 val_main_cst_26
  generalize val_main_v88 (F := Ideal) d p s = B
  generalize val_main_v13 (F := Ideal) = C
  pointwise

theorem n_0 (n : Fin 4096) (e : Fin 64) : val_main_v133 (F := Ideal) d p s (ix2 n e) = -cot (DY d) (bd p) (G s) n (lane 0 e) := by
  rw [← cot_ix d p s n 0 e]
  unfold val_main_v133 val_main_v92 val_main_v91
  generalize val_main_v88 (F := Ideal) d p s = B
  pointwise

theorem e_1 (n : Fin 4096) (e : Fin 64) : val_main_v130 (F := Ideal) d p s (ix2 n e)
    = each (DY d) (bd p) (G s) n (lane 1 e) + -each (DY d) (bd p) (G s) (n + wn (lane 1 e)) (lane 1 e) := by
  refine Eq.trans ?_ (each_of d p s _ _ 4 n 1 e (fun n => cot_ix d p s n 1 e) rfl cnt_1)
  unfold val_main_v130 val_main_v129 val_main_v127 val_main_v126 val_main_v125 val_main_v94 val_main_v93 val_main_v124 val_main_cst_23
  generalize val_main_v88 (F := Ideal) d p s = B
  generalize val_main_v29 (F := Ideal) = C
  pointwise

theorem n_1 (n : Fin 4096) (e : Fin 64) : val_main_v121 (F := Ideal) d p s (ix2 n e) = -cot (DY d) (bd p) (G s) n (lane 1 e) := by
  rw [← cot_ix d p s n 1 e]
  unfold val_main_v121 val_main_v94 val_main_v93
  generalize val_main_v88 (F := Ideal) d p s = B
  pointwise

theorem e_2 (n : Fin 4096) (e : Fin 64) : val_main_v118 (F := Ideal) d p s (ix2 n e)
    = each (DY d) (bd p) (G s) n (lane 2 e) + -each (DY d) (bd p) (G s) (n + wn (lane 2 e)) (lane 2 e) := by
  refine Eq.trans ?_ (each_of d p s _ _ 8 n 2 e (fun n => cot_ix d p s n 2 e) rfl cnt_2)
  unfold val_main_v118 val_main_v117 val_main_v115 val_main_v114 val_main_v113 val_main_v96 val_main_v95 val_main_v112 val_main_cst_20
  generalize val_main_v88 (F := Ideal) d p s = B
  generalize val_main_v45 (F := Ideal) = C
  pointwise

theorem n_2 (n : Fin 4096) (e : Fin 64) : val_main_v109 (F := Ideal) d p s (ix2 n e) = -cot (DY d) (bd p) (G s) n (lane 2 e) := by
  rw [← cot_ix d p s n 2 e]
  unfold val_main_v109 val_main_v96 val_main_v95
  generalize val_main_v88 (F := Ideal) d p s = B
  pointwise

theorem e_3 (n : Fin 4096) (e : Fin 64) : val_main_v107 (F := Ideal) d p s (ix2 n e)
    = each (DY d) (bd p) (G s) n (lane 3 e) + -each (DY d) (bd p) (G s) (n + wn (lane 3 e)) (lane 3 e) := by
  refine Eq.trans ?_ (each_of d p s _ _ 16 n 3 e (fun n => cot_ix d p s n 3 e) rfl cnt_3)
  unfold val_main_v107 val_main_v106 val_main_v104 val_main_v103 val_main_v102 val_main_v98 val_main_v97 val_main_v101 val_main_cst_17
  generalize val_main_v88 (F := Ideal) d p s = B
  generalize val_main_v61 (F := Ideal) = C
  pointwise

theorem n_3 (n : Fin 4096) (e : Fin 64) : val_main_v99 (F := Ideal) d p s (ix2 n e) = -cot (DY d) (bd p) (G s) n (lane 3 e) := by
  rw [← cot_ix d p s n 3 e]
  unfold val_main_v99 val_main_v98 val_main_v97
  generalize val_main_v88 (F := Ideal) d p s = B
  pointwise

theorem join_ix (A B C D : Fin 64 → EReal) (H : Fin 256 → EReal) (hA : ∀ e, A e = H (lane 3 e)) (hB : ∀ e, B e = H (lane 2 e))
    (hC : ∀ e, C e = H (lane 1 e)) (hD : ∀ e, D e = H (lane 0 e)) (c : Fin 256)
    (i3 : ∀ h : 192 ≤ c.val ∧ c.val - 192 < 64, c.val - 192 < 64) (i2 : ∀ h : 128 ≤ c.val ∧ c.val - 128 < 64, c.val - 128 < 64)
    (i1 : ∀ h : 64 ≤ c.val ∧ c.val - 64 < 64, c.val - 64 < 64) (i0 : ∀ h : c.val < 64, c.val < 64) :
    ((((if h : 192 ≤ c.val ∧ c.val - 192 < 64 then A ⟨c.val - 192, i3 h⟩ else 0)
      + if h : 128 ≤ c.val ∧ c.val - 128 < 64 then B ⟨c.val - 128, i2 h⟩ else 0)
      + if h : 64 ≤ c.val ∧ c.val - 64 < 64 then C ⟨c.val - 64, i1 h⟩ else 0)
      + if h : c.val < 64 then D ⟨c.val, i0 h⟩ else 0) = H c := by
  have hc := c.isLt
  by_cases h0 : c.val < 64
  · rw [dif_neg (by omega), dif_neg (by omega), dif_neg (by omega), dif_pos h0, add_zero, add_zero, zero_add, hD]
    congr 1; exact Fin.ext (by show 0 * 64 + c.val = c.val; omega)
  · by_cases h1 : c.val < 128
    · rw [dif_neg (by omega), dif_neg (by omega), dif_pos (by omega), dif_neg h0, add_zero, add_zero, zero_add, hC]
      congr 1; exact Fin.ext (by show 1 * 64 + (c.val - 64) = c.val; omega)
    · by_cases h2 : c.val < 192
      · rw [dif_neg (by omega), dif_pos (by omega), dif_neg (by omega), dif_neg h0, add_zero, add_zero, zero_add, hB]
        congr 1; exact Fin.ext (by show 2 * 64 + (c.val - 128) = c.val; omega)
      · rw [dif_pos (by omega), dif_neg (by omega), dif_neg (by omega), dif_neg h0, add_zero, add_zero, add_zero, hA]
        congr 1; exact Fin.ext (by show 3 * 64 + (c.val - 192) = c.val; omega)

theorem steps_ix (n : Fin 4096) (c : Fin 256) : val_main_v144 (F := Ideal) d p s (ix2 n c)
    = each (DY d) (bd p) (G s) n c + -each (DY d) (bd p) (G s) (n + wn c) c := by
  refine Eq.trans ?_ (join_ix _ _ _ _ (fun c => each (DY d) (bd p) (G s) n c + -each (DY d) (bd p) (G s) (n + wn c) c)
    (e_3 d p s n) (e_2 d p s n) (e_1 d p s n) (e_0 d p s n) c (fun h => h.2) (fun h => h.2) (fun h => h.2) fun h => h)
  unfold val_main_v144 val_main_v132 val_main_v120 val_main_v108 val_main_v119 val_main_v131 val_main_v143 val_main_cst_18 val_main_cst_21 val_main_cst_24 val_main_cst_27
  generalize val_main_v107 (F := Ideal) d p s = A
  generalize val_main_v118 (F := Ideal) d p s = B
  generalize val_main_v130 (F := Ideal) d p s = C
  generalize val_main_v142 (F := Ideal) d p s = D
  pointwise

theorem rest_ix (n : Fin 4096) (c : Fin 256) : val_main_v135 (F := Ideal) d p s (ix2 n c) = -cot (DY d) (bd p) (G s) n c := by
  refine Eq.trans ?_ (join_ix _ _ _ _ (fun c => -cot (DY d) (bd p) (G s) n c)
    (n_3 d p s n) (n_2 d p s n) (n_1 d p s n) (n_0 d p s n) c (fun h => h.2) (fun h => h.2) (fun h => h.2) fun h => h)
  unfold val_main_v135 val_main_v123 val_main_v111 val_main_v100 val_main_v110 val_main_v122 val_main_v134 val_main_cst_16 val_main_cst_19 val_main_cst_22 val_main_cst_25
  generalize val_main_v99 (F := Ideal) d p s = A
  generalize val_main_v109 (F := Ideal) d p s = B
  generalize val_main_v121 (F := Ideal) d p s = C
  generalize val_main_v133 (F := Ideal) d p s = D
  pointwise

theorem dx_ix (n : Fin 4096) (c : Fin 256) : val_main_v147 (F := Ideal) d p s (ix2 n c)
    = -cot (DY d) (bd p) (G s) n c + ∑ i ∈ Finset.range 4096, (each (DY d) (bd p) (G s) (n + i) c + -each (DY d) (bd p) (G s) (n + i + wn c) c) := by
  have e0 : ∀ i, val_main_call1_call0_v0 (F := Ideal) i = 0 := fun i => by
    unfold val_main_call1_call0_v0 val_main_call1_call0_cst; pointwise
  have e1 : ∀ m, at2 (val_main_v144 (F := Ideal) d p s) m c = each (DY d) (bd p) (G s) m c + -each (DY d) (bd p) (G s) (m + wn c) c := fun m => by
    by_cases h : m < 4096
    · exact (at2_ix _ ⟨m, h⟩ c).symm.trans (steps_ix d p s ⟨m, h⟩ c)
    · rw [at2_out _ (by omega), each, each, if_neg h, if_neg (by omega), neg_zero, add_zero]
  have e2 : val_main_v145 (F := Ideal) d p s (ix2 n c)
      = ∑ i ∈ Finset.range 4096, (each (DY d) (bd p) (G s) (n + i) c + -each (DY d) (bd p) (G s) (n + i + wn c) c) := by
    unfold val_main_v145 Host.reduceWindowAdd
    rw [Ideal.hostReduceWindowAdd_def, e0]
    exact (to_come (hi := 4095) (val_main_v144 (F := Ideal) d p s) reduceWindows_S4096x256_S4096x256_w4096s1p0_4095_w1s1p0_0 n c).trans
      (Finset.sum_congr rfl fun i _ => e1 _)
  have e3 := rest_ix d p s n c
  generalize (∑ i ∈ Finset.range 4096, (each (DY d) (bd p) (G s) (n + i) c + -each (DY d) (bd p) (G s) (n + i + wn c) c)) = R at e2 ⊢
  unfold val_main_v147 val_main_v146
  generalize val_main_v135 (F := Ideal) d p s = A at e3 ⊢
  generalize val_main_v145 (F := Ideal) d p s = B at e2 ⊢
  pointwise
  rw [e2, e3]

end Cert.MixDRefIdeal.Read

end
-- ==== Proof.MixDFinal.lean ====
/- The pooling mixer's blocks, and its gradients against the reference's. -/
module

public import proofs.«01_k».proof.Proof.Held
public import proofs.«01_k».proof.Proof.MixDRun
public import proofs.«01_k».proof.Proof.MixDRefV
public import proofs.«01_k».proof.Proof.Finite

@[expose] public section

noncomputable section

namespace Cert.MixDIdeal.Hand

open Idealize.ShloMosaic Idealize.ShloMosaic.TcCoe Idealize.SL.Sem
open Cert.Held Cert.MixDIdeal Cert.MixDIdeal.Gen Cert.Grid Cert.Reals Cert.Pool
open Cert.MixDRefIdeal.Read (X DY G bd lane)

variable (m : (ℓ : Loc nD τ sig) → Buf (Elt Ideal) ℓ)

theorem idx : ∀ t : Fin cfg0.N, win0_0.index t = ![0, 7] ∧ win0_1.index t = ![0, 3] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem V_v26 (c : Dev nD) : Cert.MixDIdeal.Gen.V m c main_v26 = G (inp m c main_arg3) := by
  show StableHlo.after hostOps0 _ (Proc.devRef .tc main_v26) = _
  after_results
  funext y; idx_vars y
  pointwise
  rfl

theorem bd_at (p : Vec Ideal S4x64x64 .f32) (a b : Fin 256) : bd p (ix2 a b)
    = if a.val / 64 = b.val / 64 then p (ix3 ⟨a.val / 64, by omega⟩ ⟨a.val % 64, by omega⟩ ⟨b.val % 64, by omega⟩) else 0 := rfl

/-- Four pieces of 64 side by side. -/
theorem ladder (n : ℕ) {R : EReal} {A : n < 64 → EReal} {B : ¬ n < 64 → n - 64 < 64 → EReal} {C : ¬ n < 64 → ¬ n - 64 < 64 → n - 64 - 64 < 64 → EReal}
    {D : ¬ n < 64 → ¬ n - 64 < 64 → ¬ n - 64 - 64 < 64 → EReal} (hA : ∀ h, A h = R) (hB : ∀ h h', B h h' = R) (hC : ∀ h h' h'', C h h' h'' = R)
    (hD : ∀ h h' h'', D h h' h'' = R) :
    (if h : n < 64 then A h else if h' : n - 64 < 64 then B h h' else if h'' : n - 64 - 64 < 64 then C h h' h'' else D h h' h'') = R := by
  by_cases h : n < 64
  · rw [dif_pos h, hA]
  · by_cases h' : n - 64 < 64
    · rw [dif_neg h, dif_pos h', hB]
    · by_cases h'' : n - 64 - 64 < 64
      · rw [dif_neg h, dif_neg h', dif_pos h'', hC]
      · rw [dif_neg h, dif_neg h', dif_neg h'', hD]

theorem V_v25 (c : Dev nD) : Cert.MixDIdeal.Gen.V m c main_v25 = bd (inp m c main_arg2) := by
  show StableHlo.after hostOps0 _ (Proc.devRef .tc main_v25) = _
  after_results
  funext y; idx_vars y
  pointwise
  refine Eq.trans ?_ (bd_at (inp m c main_arg2) y0 y1).symm
  have h0 := y0.isLt
  have h1 := y1.isLt
  refine ladder _ ?_ ?_ ?_ ?_
  all_goals
    intros
    after_results_simp
    pointwise
    refine ladder _ ?_ ?_ ?_ ?_
  all_goals
    intros
    after_results_simp
    pointwise
    first
    | exact (if_neg (by omega)).symm
    | refine Eq.trans ?_ (if_pos (by omega)).symm
      congr 2
      all_goals
        apply Fin.ext
        dsimp only
        first
        | omega
        | change 0 = _; omega
        | change 1 = _; omega

theorem blk0 (c : Dev nD) : iblk m c 0 t0_0 = X (inp m c main_arg0) := by
  show View.read (Elt Ideal) ((View.whole main_arg0).slice ((win0 0).rect t0_0)) (Cert.MixDIdeal.Gen.V m c main_arg0) = _
  rw [V_main_arg0]
  blk_ext! [idx t0_0, col]
theorem blk1 (c : Dev nD) : iblk m c 1 t0_0 = DY (inp m c main_arg1) := by
  show View.read (Elt Ideal) ((View.whole main_arg1).slice ((win0 1).rect t0_0)) (Cert.MixDIdeal.Gen.V m c main_arg1) = _
  rw [V_main_arg1]
  blk_ext! [idx t0_0, col]
theorem blk2 (c : Dev nD) : iblk m c 2 t0_0 = bd (inp m c main_arg2) := by
  show View.read (Elt Ideal) ((View.whole main_v25).slice ((win0 2).rect t0_0)) (Cert.MixDIdeal.Gen.V m c main_v25) = _
  rw [V_v25]
  generalize bd (inp m c main_arg2) = p
  blk_ext! [idx t0_0]
theorem blk3 (c : Dev nD) : iblk m c 3 t0_0 = G (inp m c main_arg3) := by
  show View.read (Elt Ideal) ((View.whole main_v26).slice ((win0 3).rect t0_0)) (Cert.MixDIdeal.Gen.V m c main_v26) = _
  rw [V_v26]
  blk_ext! [idx t0_0]

theorem final4 (c : Dev nD) : (dats m 0 c).arrAt 4 (cfgs 0).N = DX (F := Ideal) (DY (inp m c main_arg1)) (bd (inp m c main_arg2)) (G (inp m c main_arg3)) := by
  refine (dats m 0 c).arrAt_eq_of_after_last 4 t0_0 (by decide +kernel) _ fun j => ?_
  blk_simp
  rw [after_4]
  unfold out4
  rw [blk1, blk2, blk3]
theorem final5 (c : Dev nD) : (dats m 0 c).arrAt 5 (cfgs 0).N = DP (F := Ideal) (X (inp m c main_arg0)) (DY (inp m c main_arg1)) (G (inp m c main_arg3)) 32 := by
  refine (dats m 0 c).arrAt_eq_of_after_last 5 t0_0 (by decide +kernel) _ fun j => ?_
  blk_simp
  rw [after_5]
  unfold out5
  rw [blk0, blk1, blk3]
theorem final6 (c : Dev nD) : (dats m 0 c).arrAt 6 (cfgs 0).N = DS (F := Ideal) (X (inp m c main_arg0)) (DY (inp m c main_arg1)) (bd (inp m c main_arg2)) 32 := by
  refine (dats m 0 c).arrAt_eq_of_after_last 6 t0_0 (by decide +kernel) _ fun j => ?_
  blk_simp
  rw [after_6]
  unfold out6
  rw [blk0, blk1, blk2]

/-- An output array as the host operations after the region find it. -/
theorem arr_after (c : Dev nD) (w : Fin 7) :
    Pipeline.withArrays (cfgs 0).spec c (V0 m c) (fun w => (dats m 0 c).arrAt w (cfgs 0).N) (Proc.devRef .tc (Pipeline.arrRef spec0 w)) = (dats m 0 c).arrAt w (cfgs 0).N :=
  Pipeline.withArrays_arr _ launch0.win.arr_inj c _ _ w

theorem tail5 (c : Dev nD) (g : Fin 4) (e f : Fin 64) : Pipeline.afterTail₀ cfgs (dats m) 0 (V0 m) [hostOps1] c main_v36 (ix3 g e f)
    = DP (F := Ideal) (X (inp m c main_arg0)) (DY (inp m c main_arg1)) (G (inp m c main_arg3)) 32 (ix2 (lane g e) (lane g f)) := by
  rw [← final5, ← arr_after]
  show StableHlo.after hostOps1 _ (Proc.devRef .tc main_v36) (ix3 g e f) = _
  after_results
  generalize Pipeline.withArrays (cfgs 0).spec c (V0 m c) (fun w => (dats m 0 c).arrAt w (cfgs 0).N) = W
  pointwise
  match g with
  | 0 =>
    refine (dif_pos (by decide)).trans ?_
    after_results_simp; pointwise
    exact congrArg₂ (fun a b => W (Proc.devRef .tc main_v27_1) (ix2 a b)) (Fin.ext (by show e.val = 0 * 64 + e.val; omega)) (Fin.ext (by show f.val = 0 * 64 + f.val; omega))
  | 1 =>
    refine (dif_neg (by decide)).trans ((dif_pos (by decide)).trans ?_)
    after_results_simp; pointwise
    rfl
  | 2 =>
    refine (dif_neg (by decide)).trans ((dif_neg (by decide)).trans ((dif_pos (by decide)).trans ?_))
    after_results_simp; pointwise
    rfl
  | 3 =>
    refine (dif_neg (by decide)).trans ((dif_neg (by decide)).trans ((dif_neg (by decide)).trans ?_))
    after_results_simp; pointwise
    rfl

theorem tail6 (c : Dev nD) (k : Fin 256) : Pipeline.afterTail₀ cfgs (dats m) 0 (V0 m) [hostOps1] c main_v37 (ix1 k)
    = DS (F := Ideal) (X (inp m c main_arg0)) (DY (inp m c main_arg1)) (bd (inp m c main_arg2)) 32 (ix2 0 k) := by
  rw [← final6, ← arr_after]
  show StableHlo.after hostOps1 _ (Proc.devRef .tc main_v37) (ix1 k) = _
  after_results
  generalize Pipeline.withArrays (cfgs 0).spec c (V0 m c) (fun w => (dats m 0 c).arrAt w (cfgs 0).N) = W
  pointwise

theorem real_at2 {a b : ℕ} (f : (⟨2, ![a, b]⟩ : Shape).Idx → EReal) (h : ∀ i, Real' (f i)) (n c : ℕ) : Real' (at2 f n c) := by
  unfold at2; split
  · exact h _
  · exact zero

theorem mu_eq (z : Vec Ideal S4096x2048 .f32) (hz : Finite z) (n : Fin 4096) (c : Fin 256) : Cert.MixDRefIdeal.Read.mu z n c = mu (X z) n c := by
  unfold Cert.MixDRefIdeal.Read.mu mu
  rw [window_of_sums (fun i => at2 (X z) i c) (fun i => real_at2 _ (fun i => hz _) _ _)]
  congr 2
  refine Finset.sum_congr rfl fun j hj => ?_
  have hw := wn_le c.isLt
  have hj := Finset.mem_range.mp hj
  unfold padded
  by_cases h : n.val < j
  · rw [if_pos h, if_pos (by omega)]
  · rw [if_neg h, if_neg (by omega)]
    congr 1
    omega

theorem real_each (d : Vec Ideal S4096x1024 .f32) (p : Vec Ideal S4x64x64 .f32) (s : Vec Ideal S256 .f32) (hd : Finite d) (hp : Finite p) (hs : Finite s)
    (n : ℕ) (c : Fin 256) : Real' (each (DY d) (bd p) (G s) n c) := by
  unfold each
  split
  · refine real_div (Real'.sum _ _ fun f _ => ((real_at2 _ (fun i => hd _) _ _).mul (hs _)).mul ?_) n c
    unfold bd
    split
    · exact hp _
    · exact zero
  · exact zero

theorem dx_eq (d : Vec Ideal S4096x1024 .f32) (p : Vec Ideal S4x64x64 .f32) (s : Vec Ideal S256 .f32) (hd : Finite d) (hp : Finite p) (hs : Finite s)
    (n : Fin 4096) (c : Fin 256) :
    Cert.MixDRefIdeal.Read.val_main_v147 (F := Ideal) d p s (ix2 n c) = DX (F := Ideal) (DY d) (bd p) (G s) (ix2 n c) := by
  rw [Cert.MixDRefIdeal.Read.dx_ix, DX_ix, telescope (fun i => each (DY d) (bd p) (G s) i c) (fun i => real_each d p s hd hp hs i c) n (wn c) 4096
    (fun i hi => if_neg (by omega)), sub_eq_add_neg, add_comm]

theorem dp_eq (z : Vec Ideal S4096x2048 .f32) (d : Vec Ideal S4096x1024 .f32) (s : Vec Ideal S256 .f32) (hz : Finite z) (g : Fin 4) (e f : Fin 64) :
    Cert.MixDRefIdeal.Read.val_main_v90 (F := Ideal) z d s (ix3 g e f) = DP (F := Ideal) (X z) (DY d) (G s) 32 (ix2 (lane g e) (lane g f)) := by
  rw [Cert.MixDRefIdeal.Read.dp_ix, DP_ix]
  refine Finset.sum_congr rfl fun n _ => ?_
  rw [mu_eq z hz, mul_comm]
  rfl

theorem ds_eq (z : Vec Ideal S4096x2048 .f32) (d : Vec Ideal S4096x1024 .f32) (p : Vec Ideal S4x64x64 .f32) (hz : Finite z) (c : Fin 256) :
    Cert.MixDRefIdeal.Read.val_main_v84 (F := Ideal) z d p (ix1 c) = DS (F := Ideal) (X z) (DY d) (bd p) 32 (ix2 0 c) := by
  obtain ⟨g, f, rfl⟩ : ∃ (g : Fin 4) (f : Fin 64), c = lane g f :=
    ⟨⟨c.val / 64, by omega⟩, ⟨c.val % 64, by omega⟩, Fin.ext (by show c.val = c.val / 64 * 64 + c.val % 64; omega)⟩
  have h : (lane g f).val / 64 = g.val := by show (g.val * 64 + f.val) / 64 = _; omega
  have h' : (lane g f).val % 64 = f.val := by show (g.val * 64 + f.val) % 64 = _; omega
  rw [Cert.MixDRefIdeal.Read.ds_ix, DS_ix]
  refine Finset.sum_congr rfl fun n _ => ?_
  simp only [h, h', Cert.MixDRefIdeal.Read.bd_col]
  rw [Cert.MixDRefIdeal.Read.group_sum (fun e => mu (X z) n e) g fun e => p (ix3 g e f), mul_comm]
  congr 1
  refine Finset.sum_congr rfl fun e _ => ?_
  rw [← mu_eq z hz, mul_comm]

end Cert.MixDIdeal.Hand

end
-- ==== Proof.MixDPair.lean ====
/- What the two programs of MixD leave. -/
module

public import proofs.«01_k».proof.Defs
public import proofs.«01_k».proof.Proof.Gen.MixD
public import proofs.«01_k».proof.Proof.MixDFinal
public import proofs.«01_k».proof.Proof.Gen.MixDRefIdeal.Run
public import proofs.«01_k».proof.Proof.Gen.MixDRefIdeal.Read

@[expose] public section

noncomputable section

namespace Cert.MixDPair

open Idealize.ShloMosaic Idealize.ShloMosaic.TcCoe Idealize.SL.Sem Cert.Reals

theorem defs_eq : (Cert.MixD.defs (F := Bits)) = Cert.MixDIdeal.defs := by sl_kernel_rfl

theorem main_eq : (Cert.MixD.main (F := Bits)) = Cert.MixDIdeal.main := by sl_kernel_rfl

theorem frame : @Cert.quiescent_MixD Cert.MixD.Gen.facts := fun m ρ _ => by
  have h := Cert.MixDIdeal.Hand.frame_run (F := Bits) m ρ
  rw [← defs_eq, ← main_eq] at h
  exact h

theorem frame_ideal : @Cert.quiescent_MixDIdeal Cert.MixDIdeal.Gen.facts :=
  fun m ρ _ => Cert.MixDIdeal.Hand.frame_run m ρ

theorem frame_ref : @Cert.quiescent_MixDRefIdeal Cert.MixDRefIdeal.Gen.facts :=
  fun m ρ _ => (θ_run _ _ _).mono (fun r h => ⟨fun c => (h c).2.2.2, sem_eq_zero_of_no_sems rfl r.2⟩) (Cert.MixDRefIdeal.Value.run m ρ)

/-- The side conditions of the precondition's operations. -/
theorem pre_facts : Cert.Pre_finite_d.Facts := ⟨by decide, by decide, by decide, by decide⟩

/-- What the precondition says: the arrays' entries are real numbers. -/
theorem reals [Cert.Pre_finite_d.Facts] (m) (h : Cert.Pre_MixDIdeal_finite_d m) (c : Dev Cert.MixDIdeal.nD) :
    Finite (m ((c.tc : Thread Cert.MixDIdeal.nD Cert.MixDIdeal.τ).loc Cert.MixDIdeal.main_arg0))
    ∧ Finite (m ((c.tc : Thread Cert.MixDIdeal.nD Cert.MixDIdeal.τ).loc Cert.MixDIdeal.main_arg1))
    ∧ Finite (m ((c.tc : Thread Cert.MixDIdeal.nD Cert.MixDIdeal.τ).loc Cert.MixDIdeal.main_arg2))
    ∧ Finite (m ((c.tc : Thread Cert.MixDIdeal.nD Cert.MixDIdeal.τ).loc Cert.MixDIdeal.main_arg3)) :=
  have ⟨h0, h1, h2, h3⟩ := h c
  ⟨finite_of _ _ h0, finite_of _ _ h1, finite_of _ _ h2, finite_of _ _ h3⟩

/-- What the two launches agree on. -/
theorem args {m : (ℓ : Loc Cert.MixDIdeal.nD Cert.MixDIdeal.τ Cert.MixDIdeal.sig) → Buf (Elt Ideal) ℓ}
    {m' : (ℓ : Loc Cert.MixDRefIdeal.nD Cert.MixDRefIdeal.τ Cert.MixDRefIdeal.sig) → Buf (Elt Ideal) ℓ}
    (h : ∀ c : Dev Cert.MixDIdeal.nD, m' ((c.tc : Thread Cert.MixDRefIdeal.nD Cert.MixDRefIdeal.τ).loc Cert.MixDRefIdeal.main_arg0) = m ((c.tc : Thread Cert.MixDIdeal.nD Cert.MixDIdeal.τ).loc Cert.MixDIdeal.main_arg0)
      ∧ m' ((c.tc : Thread Cert.MixDRefIdeal.nD Cert.MixDRefIdeal.τ).loc Cert.MixDRefIdeal.main_arg1) = m ((c.tc : Thread Cert.MixDIdeal.nD Cert.MixDIdeal.τ).loc Cert.MixDIdeal.main_arg1)
      ∧ m' ((c.tc : Thread Cert.MixDRefIdeal.nD Cert.MixDRefIdeal.τ).loc Cert.MixDRefIdeal.main_arg2) = m ((c.tc : Thread Cert.MixDIdeal.nD Cert.MixDIdeal.τ).loc Cert.MixDIdeal.main_arg2)
      ∧ m' ((c.tc : Thread Cert.MixDRefIdeal.nD Cert.MixDRefIdeal.τ).loc Cert.MixDRefIdeal.main_arg3) = m ((c.tc : Thread Cert.MixDIdeal.nD Cert.MixDIdeal.τ).loc Cert.MixDIdeal.main_arg3)) (c : Dev Cert.MixDIdeal.nD) :
    StableHlo.launchContents m' c (Proc.devRef .tc Cert.MixDRefIdeal.main_arg0) = m ((c.tc : Thread Cert.MixDIdeal.nD Cert.MixDIdeal.τ).loc Cert.MixDIdeal.main_arg0)
    ∧ StableHlo.launchContents m' c (Proc.devRef .tc Cert.MixDRefIdeal.main_arg1) = m ((c.tc : Thread Cert.MixDIdeal.nD Cert.MixDIdeal.τ).loc Cert.MixDIdeal.main_arg1)
    ∧ StableHlo.launchContents m' c (Proc.devRef .tc Cert.MixDRefIdeal.main_arg2) = m ((c.tc : Thread Cert.MixDIdeal.nD Cert.MixDIdeal.τ).loc Cert.MixDIdeal.main_arg2)
    ∧ StableHlo.launchContents m' c (Proc.devRef .tc Cert.MixDRefIdeal.main_arg3) = m ((c.tc : Thread Cert.MixDIdeal.nD Cert.MixDIdeal.τ).loc Cert.MixDIdeal.main_arg3) := h c

theorem algebraic : @Cert.algebraic_MixDIdeal_MixDRefIdeal_pre_finite_d Cert.MixDIdeal.Gen.facts Cert.MixDRefIdeal.Gen.facts pre_facts := by
  pair_intro
  · run_from Cert.MixDIdeal.Hand.run_main m g
    · exact Cert.MixDIdeal.Gen.W_main_arg2 m _ c
    · exact Cert.MixDIdeal.Gen.W_main_arg3 m _ c
  · have := pre_facts
    run_from Cert.MixDRefIdeal.Value.run m' g'
    · obtain ⟨hz, hd, hp, hs⟩ := reals m hpre c
      rw [Cert.MixDRefIdeal.Read.val_main_v147_eq]
      obtain ⟨e0, e1, e2, e3⟩ := args hagree c
      rw [e1, e2, e3]
      funext j
      idx_vars j
      rw [Cert.MixDIdeal.Hand.final4]
      exact Cert.MixDIdeal.Hand.dx_eq _ _ _ hd hp hs _ _
    · obtain ⟨hz, hd, hp, hs⟩ := reals m hpre c
      rw [Cert.MixDRefIdeal.Read.val_main_v90_eq]
      obtain ⟨e0, e1, e2, e3⟩ := args hagree c
      rw [e0, e1, e3]
      funext j
      idx_vars j
      rw [Cert.MixDIdeal.Hand.tail5]
      exact Cert.MixDIdeal.Hand.dp_eq _ _ _ hz _ _ _
    · obtain ⟨hz, hd, hp, hs⟩ := reals m hpre c
      rw [Cert.MixDRefIdeal.Read.val_main_v84_eq]
      obtain ⟨e0, e1, e2, e3⟩ := args hagree c
      rw [e0, e1, e2]
      funext j
      idx_vars j
      rw [Cert.MixDIdeal.Hand.tail6]
      exact Cert.MixDIdeal.Hand.ds_eq _ _ _ hz _

end Cert.MixDPair
-- ==== Proof.AttnMath.lean ====
/- Softmax attention of one row of a head, and its gradient. -/
module

public import proofs.«01_k».proof.Proof.Reals
public import proofs.«01_k».proof.Proof.Words

@[expose] public section

noncomputable section

namespace Cert.Attn

open Idealize.ShloMosaic Cert.Reals Cert.Words

variable (q d : Fin 256 → EReal) (k v : Fin 256 → Fin 256 → EReal)

/-- A row's scores. -/
def score (m : Fin 256) : EReal := (∑ x, q x * k m x) * Ideal.ofBits .f32 1031798784#32
/-- Its largest score. -/
def top : EReal := Finset.fold max (Ideal.ofBits .f32 4286578688#32) (score q k) Finset.univ
def weight (m : Fin 256) : EReal := Ideal.exp (score q k m - top q k)
def prob (m : Fin 256) : EReal := Ideal.div (weight q k m) (∑ x, weight q k x)
/-- The probabilities' cotangent. -/
def dprob (m : Fin 256) : EReal := ∑ x, d x * v m x
/-- The scores' cotangent, before the scale. -/
def dscore (m : Fin 256) : EReal := prob q k m * (dprob d v m - ∑ x, dprob d v x * prob q k x)

theorem w_bot : Ideal.ofBits .f32 4286578688#32 = ⊥ := by
  simp [Ideal.ofBits, Ideal.ieee]

theorem real_fold {ι : Type*} [DecidableEq ι] (s : Finset ι) (f : ι → EReal) (h : ∀ i, Real' (f i)) : s.fold max ⊥ f = ⊥ ∧ s = ∅ ∨ Real' (s.fold max ⊥ f) := by
  induction s using Finset.induction_on with
  | empty => exact .inl ⟨Finset.fold_empty, rfl⟩
  | insert a s ha ih =>
    rw [Finset.fold_insert ha]
    obtain ⟨r, hr⟩ := h a
    refine .inr ?_
    rcases ih with ⟨e, -⟩ | ⟨t, ht⟩
    · rw [e, hr]; exact ⟨r, max_bot_right _⟩
    · rw [ht, hr]
      rcases le_total r t with c | c
      · exact ⟨t, max_eq_right (by exact_mod_cast c)⟩
      · exact ⟨r, max_eq_left (by exact_mod_cast c)⟩

variable {q d k v}

theorem real_score (hq : ∀ x, Real' (q x)) (hk : ∀ m x, Real' (k m x)) (m : Fin 256) : Real' (score q k m) := by
  unfold score; rw [w_inv16]
  exact (Real'.sum _ _ fun x _ => (hq x).mul (hk m x)).mul (coe _)

theorem real_top (hq : ∀ x, Real' (q x)) (hk : ∀ m x, Real' (k m x)) : Real' (top q k) := by
  unfold top; rw [w_bot]
  rcases real_fold Finset.univ (score q k) (real_score hq hk) with ⟨-, e⟩ | e
  · exact absurd e (Finset.univ_nonempty.ne_empty)
  · exact e

/-- A row's weights are positive numbers. -/
theorem weight_pos (hq : ∀ x, Real' (q x)) (hk : ∀ m x, Real' (k m x)) : ∃ w : Fin 256 → ℝ, (∀ m, 0 < w m) ∧ ∀ m, weight q k m = (w m : EReal) := by
  obtain ⟨s, hs⟩ := choose (real_score hq hk)
  obtain ⟨t, ht⟩ := real_top hq hk
  refine ⟨fun m => Real.exp (s m - t), fun m => Real.exp_pos _, fun m => ?_⟩
  unfold weight
  rw [hs, ht, ← EReal.coe_sub, Ideal.exp_coe]

theorem real_dprob (hd : ∀ x, Real' (d x)) (hv : ∀ m x, Real' (v m x)) (m : Fin 256) : Real' (dprob d v m) :=
  Real'.sum _ _ fun x _ => (hd x).mul (hv m x)

/-- The quotient's gradient taken through its two parts is the probabilities' gradient. -/
theorem chain (hq : ∀ x, Real' (q x)) (hk : ∀ m x, Real' (k m x)) (hd : ∀ x, Real' (d x)) (hv : ∀ m x, Real' (v m x)) (m : Fin 256) :
    Ideal.div ((Ideal.div (dprob d v m) (∑ x, weight q k x)
      + -∑ x, dprob d v x * Ideal.div 1 ((∑ x, weight q k x) * ∑ x, weight q k x) * weight q k x) * weight q k m) (Ideal.ofBits .f32 1098907648#32)
    = dscore q d k v m * Ideal.ofBits .f32 1031798784#32 := by
  obtain ⟨w, wpos, hw⟩ := weight_pos hq hk
  obtain ⟨p, hp⟩ := choose (real_dprob hd hv)
  have hS : (∑ x, weight q k x) = ((∑ x, w x : ℝ) : EReal) := by
    rw [Norm.coe_sum]; exact Finset.sum_congr rfl fun x _ => hw x
  have pS : (0 : ℝ) < ∑ x, w x := Finset.sum_pos (fun x _ => wpos x) Finset.univ_nonempty
  obtain ⟨S, eS⟩ : ∃ S : ℝ, S = ∑ x, w x := ⟨_, rfl⟩
  rw [← eS] at hS pS
  unfold dscore prob
  simp only [hS]
  simp only [hw, hp, w_16, w_inv16]
  have n0 : S ≠ 0 := pS.ne'
  simp only [← EReal.coe_mul, Norm.div_real _ n0, Norm.div_real _ (mul_ne_zero n0 n0), Norm.div_real _ (show (16 : ℝ) ≠ 0 by norm_num), one_mul, ← EReal.coe_one,
    ← Norm.coe_sum, ← EReal.coe_neg, ← EReal.coe_add, ← EReal.coe_sub]
  refine congrArg _ ?_
  have e1 : (∑ x, p x * (1 / (S * S)) * w x) = (∑ x, p x * w x) / (S * S) := by
    rw [Finset.sum_div]; exact Finset.sum_congr rfl fun x _ => by ring
  have e2 : (∑ x, p x * (w x * (1 / S))) = (∑ x, p x * w x) / S := by
    rw [Finset.sum_div]; exact Finset.sum_congr rfl fun x _ => by ring
  rw [e1, e2]
  field_simp
  ring

end Cert.Attn

end
-- ==== Proof.AttnV.lean ====
/- One tile of the attention gradient, read off the kernel's stores. -/
module

public import proofs.«01_k».proof.Proof.AttnMath
public import proofs.«01_k».proof.Proof.Gen.AttnIdeal.Frame
public import Idealize.ShloMosaic.Lib.Pointwise
public import Idealize.ShloMosaic.Lib.Pipeline.ReadBack
public import Idealize.ShloMosaic.Lib.Pipeline.ValueKit

@[expose] public section

noncomputable section

namespace Cert.Attn

open Idealize.ShloMosaic

/-- Lane `x` of head `h`. -/
def lane (h : Fin 4) (x : Fin 256) : Fin 1024 := ⟨h.val * 256 + x.val, by omega⟩
/-- The head of a lane. -/
def head (c : Fin 1024) : Fin 4 := ⟨c.val / 256, by omega⟩

theorem head_lane (h : Fin 4) (x : Fin 256) : head (lane h x) = h := Fin.ext (by show (h.val * 256 + x.val) / 256 = h.val; omega)

variable {N M : ℕ}

/-- One row of one head. -/
def row (Q : (⟨2, ![N, 1024]⟩ : Shape).Idx → EReal) (h : Fin 4) (n : Fin N) (x : Fin 256) : EReal := Q (ix2 n (lane h x))

variable (Q D : (⟨2, ![N, 1024]⟩ : Shape).Idx → EReal) (K V : (⟨2, ![256, 1024]⟩ : Shape).Idx → EReal)

/-- The gradients. -/
def DQ (n : Fin N) (c : Fin 1024) : EReal :=
  ∑ m, dscore (row Q (head c) n) (row D (head c) n) (row K (head c)) (row V (head c)) m * Ideal.ofBits .f32 1031798784#32 * K (ix2 m c)
def DK (m : Fin 256) (c : Fin 1024) : EReal :=
  ∑ n, dscore (row Q (head c) n) (row D (head c) n) (row K (head c)) (row V (head c)) m * Ideal.ofBits .f32 1031798784#32 * Q (ix2 n c)
def DV (m : Fin 256) (c : Fin 1024) : EReal :=
  ∑ n, prob (row Q (head c) n) (row K (head c)) m * D (ix2 n c)

theorem ld_tile (f : (⟨2, ![N, 1024]⟩ : Shape).Idx → EReal) (h : Fin 4) (o : ℕ) (ho : o = h.val * 256) (inb) (i : Fin N) (j : Fin 256) :
    f ((Rect.unit (s := ⟨2, ![N, 1024]⟩) ![0, o] ![N, 256] inb).idx (ix2 i j)) = f (ix2 i (lane h j)) := by
  refine congrArg f ?_
  funext a
  refine Fin.ext ((Rect.idx_unit_val _ _ _ _ a).trans ?_)
  match a with
  | 0 => exact Nat.zero_add _
  | 1 => show o + j.val = h.val * 256 + j.val; rw [ho]

end Cert.Attn

namespace Cert.AttnIdeal.Hand

open Idealize.ShloMosaic Idealize.ShloMosaic.TcCoe Idealize.SL.Sem
open Cert.AttnIdeal Cert.AttnIdeal.Gen Cert.Attn

section Head

variable (q d : Vec Ideal S512x256 .bf16) (k v : Vec Ideal S256x256 .f32)

theorem prob_ix (n : Fin 512) (m : Fin 256) :
    k0_pay4 (F := Ideal) q k (ix2 n m) = prob (fun x => q (ix2 n x)) (fun m x => k (ix2 m x)) m := by
  pointwise [k0_pay4, k0_pay3]
  rfl

theorem dscore_ix (n : Fin 512) (m : Fin 256) :
    k0_pay6 (F := Ideal) q k v d (ix2 n m) = dscore (fun x => q (ix2 n x)) (fun x => d (ix2 n x)) (fun m x => k (ix2 m x)) (fun m x => v (ix2 m x)) m := by
  unfold dscore dprob
  simp only [← prob_ix q k]
  unfold k0_pay6
  generalize k0_pay4 (F := Ideal) q k = p
  pointwise

theorem dq_ix (s t : Vec Ideal S512x256 .f32) (n : Fin 512) (x : Fin 256) :
    k0_pay9 (F := Ideal) (k0_pay3 k) s t (ix2 n x) = ∑ m, s (ix2 n m) * t (ix2 n m) * k (ix2 m x) := by
  pointwise [k0_pay9, k0_pay8, k0_pay3]

theorem dk_ix (s t : Vec Ideal S512x256 .f32) (a : Vec Ideal S256x256 .f32) (m : Fin 256) (x : Fin 256) :
    k0_pay10 (F := Ideal) q s t a (ix2 m x) = a (ix2 m x) + ∑ n, s (ix2 n m) * t (ix2 n m) * q (ix2 n x) := by
  pointwise [k0_pay10, k0_pay8]

theorem dv_ix (a : Vec Ideal S256x256 .f32) (m : Fin 256) (x : Fin 256) :
    k0_pay5 (F := Ideal) q k d a (ix2 m x) = a (ix2 m x) + ∑ n, k0_pay4 (F := Ideal) q k (ix2 n m) * d (ix2 n x) := by
  unfold k0_pay5
  generalize k0_pay4 (F := Ideal) q k = p
  pointwise

theorem scale_ix (n : Fin 512) (m : Fin 256) : k0_pay7 (F := Ideal) (ix2 n m) = Ideal.ofBits .f32 1031798784#32 := by
  pointwise [k0_pay7]

variable {q d k v}
variable {h : Fin 4} {Q D : Vec Ideal S512x1024 .bf16} {K V : Vec Ideal S256x1024 .f32}
  (hq : ∀ n x, q (ix2 n x) = Q (ix2 n (lane h x))) (hd : ∀ n x, d (ix2 n x) = D (ix2 n (lane h x)))
  (hk : ∀ n x, k (ix2 n x) = K (ix2 n (lane h x))) (hv : ∀ n x, v (ix2 n x) = V (ix2 n (lane h x)))

include hq hk in
theorem head_prob (n : Fin 512) (m : Fin 256) : k0_pay4 (F := Ideal) q k (ix2 n m) = prob (row Q h n) (row K h) m := by
  rw [prob_ix, show (fun x => q (ix2 n x)) = row Q h n from funext fun x => hq n x, show (fun m x => k (ix2 m x)) = row K h from funext fun m => funext fun x => hk m x]

include hq hd hk hv

theorem head_dscore (n : Fin 512) (m : Fin 256) : k0_pay6 (F := Ideal) q k v d (ix2 n m) = dscore (row Q h n) (row D h n) (row K h) (row V h) m := by
  rw [dscore_ix, show (fun x => q (ix2 n x)) = row Q h n from funext fun x => hq n x, show (fun x => d (ix2 n x)) = row D h n from funext fun x => hd n x,
    show (fun m x => k (ix2 m x)) = row K h from funext fun m => funext fun x => hk m x, show (fun m x => v (ix2 m x)) = row V h from funext fun m => funext fun x => hv m x]

theorem head_dq (n : Fin 512) (x : Fin 256) :
    k0_pay9 (F := Ideal) (k0_pay3 k) (k0_pay6 q k v d) k0_pay7 (ix2 n x) = DQ Q D K V n (lane h x) := by
  rw [dq_ix]; unfold DQ; rw [head_lane]
  exact Finset.sum_congr rfl fun m _ => by rw [head_dscore hq hd hk hv, scale_ix, hk]

theorem head_dk (a : Vec Ideal S256x256 .f32) (m x : Fin 256) :
    k0_pay10 (F := Ideal) q (k0_pay6 q k v d) k0_pay7 a (ix2 m x) = a (ix2 m x) + DK Q D K V m (lane h x) := by
  rw [dk_ix]; unfold DK; rw [head_lane]
  exact congrArg _ (Finset.sum_congr rfl fun n _ => by rw [head_dscore hq hd hk hv, scale_ix, hq])

omit hv in
theorem head_dv (a : Vec Ideal S256x256 .f32) (m x : Fin 256) :
    k0_pay5 (F := Ideal) q k d a (ix2 m x) = a (ix2 m x) + DV Q D K m (lane h x) := by
  rw [dv_ix]; unfold DV; rw [head_lane]
  exact congrArg _ (Finset.sum_congr rfl fun n _ => by rw [head_prob hq hk, hd])

end Head

section Piece

variable (Q D : Vec Ideal S512x1024 .bf16) (K V : Vec Ideal S256x1024 .f32)

/-- One head's lanes of a tile. -/
abbrev part {N : ℕ} (f : (⟨2, ![N, 1024]⟩ : Shape).Idx → EReal) (h : Fin 4) (inb : ∀ a, (![0, h.val * 256] : Fin 2 → ℕ) a + (![N, 256] : Fin 2 → ℕ) a ≤ (⟨2, ![N, 1024]⟩ : Shape).size a) :
    (⟨2, ![N, 256]⟩ : Shape).Idx → EReal := fun y => f ((Rect.unit (s := ⟨2, ![N, 1024]⟩) ![0, h.val * 256] ![N, 256] inb).idx y)

theorem part_ix {N : ℕ} (f : (⟨2, ![N, 1024]⟩ : Shape).Idx → EReal) (h : Fin 4) (inb) (n : Fin N) (x : Fin 256) : part f h inb (ix2 n x) = f (ix2 n (lane h x)) :=
  ld_tile f h _ rfl inb n x

variable {Q D K V} (h : Fin 4) {k : Fin 1024} {x : Fin 256} (e : k.val = h.val * 256 + x.val)
include e

theorem piece_dq (n : Fin 512) (i1 i2 i3 i4) :
    k0_pay9 (F := Ideal) (k0_pay3 (part K h i1)) (k0_pay6 (part Q h i2) (part K h i1) (part V h i3) (part D h i4)) k0_pay7 (ix2 n x) = DQ Q D K V n k := by
  obtain rfl : k = lane h x := Fin.ext e
  exact head_dq (part_ix Q h i2) (part_ix D h i4) (part_ix K h i1) (part_ix V h i3) n x

theorem piece_dk (a : Vec Ideal S256x256 .f32) (n : Fin 256) (i1 i2 i3 i4) :
    k0_pay10 (F := Ideal) (part Q h i2) (k0_pay6 (part Q h i2) (part K h i1) (part V h i3) (part D h i4)) k0_pay7 a (ix2 n x) = a (ix2 n x) + DK Q D K V n k := by
  obtain rfl : k = lane h x := Fin.ext e
  exact head_dk (part_ix Q h i2) (part_ix D h i4) (part_ix K h i1) (part_ix V h i3) a n x

theorem piece_dv (a : Vec Ideal S256x256 .f32) (n : Fin 256) (i1 i2 i4) :
    k0_pay5 (F := Ideal) (part Q h i2) (part K h i1) (part D h i4) a (ix2 n x) = a (ix2 n x) + DV Q D K n k := by
  obtain rfl : k = lane h x := Fin.ext e
  exact head_dv (part_ix Q h i2) (part_ix D h i4) (part_ix K h i1) a n x

theorem piece_acc (f : Vec Ideal S256x1024 .f32) (n : Fin 256) (inb) : part f h inb (ix2 n x) = f (ix2 n k) := by
  obtain rfl : k = lane h x := Fin.ext e
  exact part_ix f h inb n x

end Piece

theorem emb_row (h : Fin 4) (i1) (x0 x1 : Fin 256) : x0 = (Rect.unit (s := S256x1024) ![0, h.val * 256] ![256, 256] i1).emb (ix2 x0 x1) 0 := by
  refine Fin.ext ?_
  have e := Rect.idx_unit_val (s := S256x1024) ![0, h.val * 256] ![256, 256] i1 (show (Rect.unit (s := S256x1024) ![0, h.val * 256] ![256, 256] i1).shape.Idx from ix2 x0 x1) 0
  exact (e.trans (Nat.zero_add _)).symm
theorem emb_lane (h : Fin 4) (i1) (x0 x1 : Fin 256) : lane h x1 = (Rect.unit (s := S256x1024) ![0, h.val * 256] ![256, 256] i1).emb (ix2 x0 x1) 1 := by
  refine Fin.ext ?_
  have e := Rect.idx_unit_val (s := S256x1024) ![0, h.val * 256] ![256, 256] i1 (show (Rect.unit (s := S256x1024) ![0, h.val * 256] ![256, 256] i1).shape.Idx from ix2 x0 x1) 1
  exact e.symm

/-- The same pieces over a zero accumulator, at their place in the block. -/
theorem fill_dk (Q D : Vec Ideal S512x1024 .bf16) (K V : Vec Ideal S256x1024 .f32) (h : Fin 4) {a : Vec Ideal S256x256 .f32} (x : S256x256.Idx) (i1 i2 i3 i4) (ha : a x = 0) :
    k0_pay10 (F := Ideal) (part Q h i2) (k0_pay6 (part Q h i2) (part K h i1) (part V h i3) (part D h i4)) k0_pay7 a x
      = (fun y : S256x1024.Idx => 0 + DK Q D K V (y 0) (y 1)) ((Rect.unit (s := S256x1024) ![0, h.val * 256] ![256, 256] i1).emb x) := by
  idx_vars x
  refine (piece_dk h (k := lane h x1) rfl a x0 i1 i2 i3 i4).trans ?_
  rw [ha]
  exact congrArg (0 + ·) (congrArg₂ (DK Q D K V) (emb_row h i1 x0 x1) (emb_lane h i1 x0 x1))

theorem fill_dv (Q D : Vec Ideal S512x1024 .bf16) (K : Vec Ideal S256x1024 .f32) (h : Fin 4) {a : Vec Ideal S256x256 .f32} (x : S256x256.Idx) (i1 i2 i4) (ha : a x = 0) :
    k0_pay5 (F := Ideal) (part Q h i2) (part K h i1) (part D h i4) a x
      = (fun y : S256x1024.Idx => 0 + DV Q D K (y 0) (y 1)) ((Rect.unit (s := S256x1024) ![0, h.val * 256] ![256, 256] i1).emb x) := by
  idx_vars x
  refine (piece_dv h (k := lane h x1) rfl a x0 i1 i2 i4).trans ?_
  rw [ha]
  exact congrArg (0 + ·) (congrArg₂ (DV Q D K) (emb_row h i1 x0 x1) (emb_lane h i1 x0 x1))

theorem zero1 (j : S256x1024.Idx) : k0_pay1 (F := Ideal) j = 0 := by pointwise [k0_pay1]
theorem zero2 (j : S256x1024.Idx) : k0_pay2 (F := Ideal) j = 0 := by pointwise [k0_pay2]

variable (m : (ℓ : Loc nD τ sig) → Buf (Elt Ideal) ℓ)

theorem dq_A (c : Dev nD) (t : Fin cfg0.N) (h0 : t.val % 8 = 0) (n : Fin 512) (k : Fin 1024) :
    (outsAt0 m c t.val t.isLt).1 (ix2 n k) = DQ (iblk m c 0 t) (iblk m c 3 t) (iblk m c 1 t) (iblk m c 2 t) n k := by
  rw [outsAt0_A m c t h0]; frame_out
  clear h0
  canon_tiles x h <;> idx_vars x <;> obtain rfl : n = x0 := Fin.ext h0
  · exact piece_dq 3 h1 n _ _ _ _
  · exact piece_dq 2 h1 n _ _ _ _
  · exact piece_dq 1 h1 n _ _ _ _
  · exact piece_dq 0 (h1.trans (Nat.zero_add _).symm) n _ _ _ _

theorem dq_B (c : Dev nD) (t : Fin cfg0.N) (h0 : ¬t.val % 8 = 0) (n : Fin 512) (k : Fin 1024) :
    (outsAt0 m c t.val t.isLt).1 (ix2 n k) = DQ (iblk m c 0 t) (iblk m c 3 t) (iblk m c 1 t) (iblk m c 2 t) n k := by
  rw [outsAt0_B m c t h0]; frame_out
  clear h0
  canon_tiles x h <;> idx_vars x <;> obtain rfl : n = x0 := Fin.ext h0
  · exact piece_dq 3 h1 n _ _ _ _
  · exact piece_dq 2 h1 n _ _ _ _
  · exact piece_dq 1 h1 n _ _ _ _
  · exact piece_dq 0 (h1.trans (Nat.zero_add _).symm) n _ _ _ _

theorem dk_A (c : Dev nD) (t : Fin cfg0.N) (h0 : t.val % 8 = 0) (n : Fin 256) (k : Fin 1024) :
    (outsAt0 m c t.val t.isLt).2.1 (ix2 n k) = 0 + DK (iblk m c 0 t) (iblk m c 3 t) (iblk m c 1 t) (iblk m c 2 t) n k := by
  rw [outsAt0_A m c t h0]; frame_out
  clear h0
  refine View.canon_append_of_piecesOf (Val := Elt Ideal) (s := S256x1024) (e := .f32) (fun y => 0 + DK (iblk m c 0 t) (iblk m c 3 t) (iblk m c 1 t) (iblk m c 2 t) (y 0) (y 1)) [_] [_, _, _, _] ⟨fun x => ?_, fun x => ?_, fun x => ?_, fun x => ?_, trivial⟩ (ix2 n k)
    (View.cover_of_tiledBy _ ![256, 256] (by sl_kernel_rfl) _)
  · exact fill_dk _ _ _ _ 3 x _ _ _ _ (by
      rw [View.readCov_skip _ _ _ _ _ (by decide), View.readCov_skip _ _ _ _ _ (by decide), View.readCov_skip _ _ _ _ _ (by decide), View.readCov_fill _ _ _ _ _ (by decide)]
      exact zero1 _)
  · exact fill_dk _ _ _ _ 2 x _ _ _ _ (by
      rw [View.readCov_skip _ _ _ _ _ (by decide), View.readCov_skip _ _ _ _ _ (by decide), View.readCov_fill _ _ _ _ _ (by decide)]
      exact zero1 _)
  · exact fill_dk _ _ _ _ 1 x _ _ _ _ (by
      rw [View.readCov_skip _ _ _ _ _ (by decide), View.readCov_fill _ _ _ _ _ (by decide)]
      exact zero1 _)
  · exact fill_dk _ _ _ _ 0 x _ _ _ _ (by
      rw [View.readCov_fill _ _ _ _ _ (by decide)]
      exact zero1 _)

theorem dk_B (c : Dev nD) (t : Fin cfg0.N) (h0 : ¬t.val % 8 = 0) (n : Fin 256) (k : Fin 1024) :
    (outsAt0 m c t.val t.isLt).2.1 (ix2 n k) = (outsAt0 m c (t.val - 1) (by omega)).2.1 (ix2 n k) + DK (iblk m c 0 t) (iblk m c 3 t) (iblk m c 1 t) (iblk m c 2 t) n k := by
  rw [outsAt0_B m c t h0]; frame_out
  clear h0
  canon_tiles x h <;> idx_vars x <;> obtain rfl : n = x0 := Fin.ext h0
  · exact (piece_dk 3 h1 _ n _ _ _ _).trans (congrArg (· + _) (piece_acc 3 h1 _ _ _))
  · exact (piece_dk 2 h1 _ n _ _ _ _).trans (congrArg (· + _) (piece_acc 2 h1 _ _ _))
  · exact (piece_dk 1 h1 _ n _ _ _ _).trans (congrArg (· + _) (piece_acc 1 h1 _ _ _))
  · exact (piece_dk 0 (h1.trans (Nat.zero_add _).symm) _ n _ _ _ _).trans (congrArg (· + _) (piece_acc 0 (h1.trans (Nat.zero_add _).symm) _ _ _))

theorem dv_A (c : Dev nD) (t : Fin cfg0.N) (h0 : t.val % 8 = 0) (n : Fin 256) (k : Fin 1024) :
    (outsAt0 m c t.val t.isLt).2.2 (ix2 n k) = 0 + DV (iblk m c 0 t) (iblk m c 3 t) (iblk m c 1 t) n k := by
  rw [outsAt0_A m c t h0]; frame_out
  clear h0
  refine View.canon_append_of_piecesOf (Val := Elt Ideal) (s := S256x1024) (e := .f32) (fun y => 0 + DV (iblk m c 0 t) (iblk m c 3 t) (iblk m c 1 t) (y 0) (y 1)) [_] [_, _, _, _] ⟨fun x => ?_, fun x => ?_, fun x => ?_, fun x => ?_, trivial⟩ (ix2 n k)
    (View.cover_of_tiledBy _ ![256, 256] (by sl_kernel_rfl) _)
  · exact fill_dv _ _ _ 3 x _ _ _ (by
      rw [View.readCov_skip _ _ _ _ _ (by decide), View.readCov_skip _ _ _ _ _ (by decide), View.readCov_skip _ _ _ _ _ (by decide), View.readCov_fill _ _ _ _ _ (by decide)]
      exact zero2 _)
  · exact fill_dv _ _ _ 2 x _ _ _ (by
      rw [View.readCov_skip _ _ _ _ _ (by decide), View.readCov_skip _ _ _ _ _ (by decide), View.readCov_fill _ _ _ _ _ (by decide)]
      exact zero2 _)
  · exact fill_dv _ _ _ 1 x _ _ _ (by
      rw [View.readCov_skip _ _ _ _ _ (by decide), View.readCov_fill _ _ _ _ _ (by decide)]
      exact zero2 _)
  · exact fill_dv _ _ _ 0 x _ _ _ (by
      rw [View.readCov_fill _ _ _ _ _ (by decide)]
      exact zero2 _)

theorem dv_B (c : Dev nD) (t : Fin cfg0.N) (h0 : ¬t.val % 8 = 0) (n : Fin 256) (k : Fin 1024) :
    (outsAt0 m c t.val t.isLt).2.2 (ix2 n k) = (outsAt0 m c (t.val - 1) (by omega)).2.2 (ix2 n k) + DV (iblk m c 0 t) (iblk m c 3 t) (iblk m c 1 t) n k := by
  rw [outsAt0_B m c t h0]; frame_out
  clear h0
  canon_tiles x h <;> idx_vars x <;> obtain rfl : n = x0 := Fin.ext h0
  · exact (piece_dv 3 h1 _ n _ _ _).trans (congrArg (· + _) (piece_acc 3 h1 _ _ _))
  · exact (piece_dv 2 h1 _ n _ _ _).trans (congrArg (· + _) (piece_acc 2 h1 _ _ _))
  · exact (piece_dv 1 h1 _ n _ _ _).trans (congrArg (· + _) (piece_acc 1 h1 _ _ _))
  · exact (piece_dv 0 (h1.trans (Nat.zero_add _).symm) _ n _ _ _).trans (congrArg (· + _) (piece_acc 0 (h1.trans (Nat.zero_add _).symm) _ _ _))

end Cert.AttnIdeal.Hand

end
-- ==== Proof.AttnRefV.lean ====
/- The reference attention gradient, entry by entry. -/
module

public import proofs.«01_k».proof.Proof.AttnV
public import proofs.«01_k».proof.Proof.Finite
public import proofs.«01_k».proof.Proof.Gen.AttnRefIdeal.Read
public import Idealize.ShloMosaic.Lib.Pointwise
public import Idealize.ShloMosaic.Lib.Pipeline.ValueKit

@[expose] public section

noncomputable section

namespace Cert.AttnRefIdeal.Read

open Idealize.ShloMosaic Idealize.ShloMosaic.TcCoe Idealize.SL.Sem
open Cert.AttnRefIdeal Cert.Attn Cert.Reals

/-- The keys and the values. -/
def Keys (kv : Vec Ideal S256x2048 .f32) : Vec Ideal S256x1024 .f32 := fun y => kv (ix2 (y 0) ⟨(y 1).val, by have h : (y 1).val < 1024 := (y 1).isLt; omega⟩)
def Vals (kv : Vec Ideal S256x2048 .f32) : Vec Ideal S256x1024 .f32 := fun y => kv (ix2 (y 0) ⟨1024 + (y 1).val, by have h : (y 1).val < 1024 := (y 1).isLt; omega⟩)

variable (q d : Vec Ideal S4096x1024 .bf16) (kv : Vec Ideal S256x2048 .f32)

theorem score_ix (h : Fin 4) (n : Fin 4096) (m : Fin 256) : val_main_v8 (F := Ideal) q kv (ix3 h n m) = score (row q h n) (row (Keys kv) h) m := by
  unfold val_main_v8 val_main_v7 val_main_v6 val_main_v4 val_main_v3 val_main_v1 val_main_v0 val_main_cst
  pointwise
  rw [Words.w_16, Norm.div_real _ (show (16 : ℝ) ≠ 0 by norm_num)]
  unfold score
  rw [Words.w_inv16]
  rfl

theorem max_ix (h : Fin 4) (n : Fin 4096) : val_main_v9 (F := Ideal) q kv (ix2 h n)
    = Finset.fold max (Ideal.ofBits .f32 4286578688#32) (fun x => val_main_v8 (F := Ideal) q kv (ix3 h n x)) Finset.univ := by
  unfold val_main_v9 val_main_cst_0
  generalize val_main_v8 (F := Ideal) q kv = s
  pointwise

theorem floor_ix (h : Fin 4) (n : Fin 4096) : val_main_v15 (F := Ideal) (ix2 h n) = ⊥ := w_bot

theorem floor_max (a b : FVec Ideal S4x4096 .f32) (i : S4x4096.Idx) (h : a i = (⊥ : EReal)) : maximumf a b i = b i := by
  show max (show EReal from a i) (b i) = b i
  rw [h]; exact max_eq_right bot_le

theorem top_ix (h : Fin 4) (n : Fin 4096) : val_main_v16 (F := Ideal) q kv (ix2 h n) = top (row q h n) (row (Keys kv) h) := by
  unfold val_main_v16
  rw [floor_max _ _ _ (floor_ix h n), max_ix]
  simp only [score_ix]
  unfold top
  with_reducible rfl

theorem weight_ix (h : Fin 4) (n : Fin 4096) (m : Fin 256) : val_main_v29 (F := Ideal) q kv (ix3 h n m) = weight (row q h n) (row (Keys kv) h) m := by
  unfold weight
  rw [← top_ix, ← score_ix]
  unfold val_main_v29 val_main_v28 val_main_v27 val_main_v26
  generalize val_main_v16 (F := Ideal) q kv = M
  generalize val_main_v8 (F := Ideal) q kv = s
  pointwise

theorem dprob_ix (h : Fin 4) (n : Fin 4096) (m : Fin 256) : val_main_v43 (F := Ideal) kv d (ix3 h n m) = dprob (row d h n) (row (Vals kv) h) m := by
  unfold val_main_v43 val_main_v42 val_main_v41 val_main_v40 val_main_v5 val_main_v2
  pointwise
  rfl

theorem dscore_ix (hq : Finite q) (hd : Finite d) (hk : Finite kv) (h : Fin 4) (n : Fin 4096) (m : Fin 256) :
    val_main_v59 (F := Ideal) q kv d (ix3 h n m)
      = dscore (row q h n) (row d h n) (row (Keys kv) h) (row (Vals kv) h) m * Ideal.ofBits .f32 1031798784#32 := by
  rw [← chain (q := row q h n) (k := row (Keys kv) h) (d := row d h n) (v := row (Vals kv) h) (fun x => hq _) (fun m x => hk _) (fun x => hd _) (fun m x => hk _)]
  simp only [← weight_ix, ← dprob_ix]
  unfold val_main_v59 val_main_v58 val_main_v57 val_main_v56 val_main_v55 val_main_v54 val_main_v53 val_main_v52 val_main_v51 val_main_v50 val_main_v49 val_main_v48 val_main_v47 val_main_v46 val_main_v36 val_main_v35 val_main_v34 val_main_v31 val_main_v30 val_main_cst_8 val_main_cst_9 val_main_cst_10 val_main_cst_11 val_main_cst_12
  generalize val_main_v29 (F := Ideal) q kv = s
  generalize val_main_v43 (F := Ideal) kv d = p
  pointwise
  simp only [Finset.univ_unique, Finset.sum_singleton, zero_add]

theorem dq_eq (hq : Finite q) (hd : Finite d) (hk : Finite kv) (n : Fin 4096) (c : Fin 1024) :
    val_main_v67 (F := Ideal) q kv d (ix2 n c) = DQ q d (Keys kv) (Vals kv) n c := by
  unfold DQ
  refine Eq.trans ?_ (Finset.sum_congr rfl fun m _ => congrArg (· * _) (dscore_ix q d kv hq hd hk (head c) n m))
  unfold val_main_v67 val_main_v66 val_main_v63 val_main_v62 val_main_v4 val_main_v1
  generalize val_main_v59 (F := Ideal) q kv d = s
  pointwise
  rfl

theorem dk_eq (hq : Finite q) (hd : Finite d) (hk : Finite kv) (m : Fin 256) (c : Fin 1024) :
    val_main_v65 (F := Ideal) q kv d (ix2 m c) = DK q d (Keys kv) (Vals kv) m c := by
  unfold DK
  refine Eq.trans ?_ (Finset.sum_congr rfl fun n _ => congrArg (· * _) (dscore_ix q d kv hq hd hk (head c) n m))
  unfold val_main_v65 val_main_v61 val_main_v60 val_main_v3 val_main_v0
  generalize val_main_v59 (F := Ideal) q kv d = s
  pointwise
  rfl

theorem dv_eq (m : Fin 256) (c : Fin 1024) :
    val_main_v64 (F := Ideal) q kv d (ix2 m c) = DV q d (Keys kv) m c := by
  unfold DV prob
  simp only [← weight_ix]
  unfold val_main_v64 val_main_v45 val_main_v44 val_main_v42 val_main_v41 val_main_v40 val_main_v33 val_main_v32 val_main_v31 val_main_v30 val_main_cst_8
  generalize val_main_v29 (F := Ideal) q kv = s
  pointwise
  exact Finset.sum_congr rfl fun n _ => mul_comm _ _

end Cert.AttnRefIdeal.Read

end
-- ==== Proof.AttnFinal.lean ====
/- The attention gradient's tiles put together. -/
module

public import proofs.«01_k».proof.Proof.Held
public import proofs.«01_k».proof.Proof.AttnRefV
public import proofs.«01_k».proof.Proof.Gen.AttnIdeal.Value

@[expose] public section

noncomputable section

namespace Cert.Attn

open Idealize.ShloMosaic

variable {N N' : ℕ} {Q D : (⟨2, ![N, 1024]⟩ : Shape).Idx → EReal} {Q' D' : (⟨2, ![N', 1024]⟩ : Shape).Idx → EReal} {K V : (⟨2, ![256, 1024]⟩ : Shape).Idx → EReal}

/-- A row's share of the gradients is read off that row alone. -/
theorem DQ_row {n : Fin N} {n' : Fin N'} (hQ : ∀ c, Q (ix2 n c) = Q' (ix2 n' c)) (hD : ∀ c, D (ix2 n c) = D' (ix2 n' c)) (c : Fin 1024) :
    DQ Q D K V n c = DQ Q' D' K V n' c := by
  have eQ : ∀ h, row Q h n = row Q' h n' := fun h => funext fun x => hQ _
  have eD : ∀ h, row D h n = row D' h n' := fun h => funext fun x => hD _
  unfold DQ
  simp only [eQ, eD]

/-- The rows of the bands are the rows of the whole. -/
theorem DK_bands {B : Fin 8 → (⟨2, ![512, 1024]⟩ : Shape).Idx → EReal} {E : Fin 8 → (⟨2, ![512, 1024]⟩ : Shape).Idx → EReal} {Q D : (⟨2, ![4096, 1024]⟩ : Shape).Idx → EReal}
    (hQ : ∀ t (n : Fin 512) c, B t (ix2 n c) = Q (ix2 ⟨t.val * 512 + n.val, by omega⟩ c)) (hD : ∀ t (n : Fin 512) c, E t (ix2 n c) = D (ix2 ⟨t.val * 512 + n.val, by omega⟩ c))
    (m : Fin 256) (c : Fin 1024) : (∑ t, DK (B t) (E t) K V m c) = DK Q D K V m c := by
  unfold DK
  refine Fin.sum_mul_add_congr fun t n hl => ?_
  rw [hQ, show row (B t) (head c) n = row Q (head c) ⟨t.val * 512 + n.val, hl⟩ from funext fun x => hQ t n _,
    show row (E t) (head c) n = row D (head c) ⟨t.val * 512 + n.val, hl⟩ from funext fun x => hD t n _]

theorem DV_bands {B : Fin 8 → (⟨2, ![512, 1024]⟩ : Shape).Idx → EReal} {E : Fin 8 → (⟨2, ![512, 1024]⟩ : Shape).Idx → EReal} {Q D : (⟨2, ![4096, 1024]⟩ : Shape).Idx → EReal}
    (hQ : ∀ t (n : Fin 512) c, B t (ix2 n c) = Q (ix2 ⟨t.val * 512 + n.val, by omega⟩ c)) (hD : ∀ t (n : Fin 512) c, E t (ix2 n c) = D (ix2 ⟨t.val * 512 + n.val, by omega⟩ c))
    (m : Fin 256) (c : Fin 1024) : (∑ t, DV (B t) (E t) K m c) = DV Q D K m c := by
  unfold DV
  refine Fin.sum_mul_add_congr fun t n hl => ?_
  rw [hD, show row (B t) (head c) n = row Q (head c) ⟨t.val * 512 + n.val, hl⟩ from funext fun x => hQ t n _]

end Cert.Attn

namespace Cert.AttnIdeal.Hand

open Idealize.ShloMosaic Idealize.ShloMosaic.TcCoe Idealize.SL.Sem
open Cert.Held Cert.AttnIdeal Cert.AttnIdeal.Gen Cert.Attn Cert.Reals
open Cert.AttnRefIdeal.Read (Keys Vals)

variable (m : (ℓ : Loc nD τ sig) → Buf (Elt Ideal) ℓ)

theorem idx : ∀ t : Fin cfg0.N, win0_0.index t = ![t.val, 0] ∧ win0_1.index t = ![0, 0] ∧ win0_2.index t = ![0, 1] ∧ win0_3.index t = ![t.val, 0]
    ∧ win0_4.index t = ![t.val, 0] ∧ win0_5.index t = ![0, 0] ∧ win0_6.index t = ![0, 0] :=
  (by decide +kernel : ∀ t : Fin grid0.N, _)

theorem lt8 (t : Fin cfg0.N) : t.val < 8 := lt_of_lt_of_eq t.isLt N_0

theorem blkQ (c : Dev nD) (t : Fin cfg0.N) (n : Fin 512) (k : Fin 1024) :
    iblk m c 0 t (ix2 n k) = inp m c main_arg0 (ix2 ⟨t.val * 512 + n.val, by have := lt8 t; omega⟩ k) := by
  blk_ext! [iblk, V, idx t]
theorem blkD (c : Dev nD) (t : Fin cfg0.N) (n : Fin 512) (k : Fin 1024) :
    iblk m c 3 t (ix2 n k) = inp m c main_arg2 (ix2 ⟨t.val * 512 + n.val, by have := lt8 t; omega⟩ k) := by
  blk_ext! [iblk, V, idx t]
theorem blkK (c : Dev nD) (t : Fin cfg0.N) : iblk m c 1 t = Keys (inp m c main_arg1) := by
  blk_ext! [iblk, V, idx t, Keys]
theorem blkV (c : Dev nD) (t : Fin cfg0.N) : iblk m c 2 t = Vals (inp m c main_arg1) := by
  blk_ext! [iblk, V, idx t, Vals]

theorem dq_tile (c : Dev nD) (t : Fin cfg0.N) (n : Fin 512) (k : Fin 1024) :
    (outsAt0 m c t.val t.isLt).1 (ix2 n k) = DQ (inp m c main_arg0) (inp m c main_arg2) (Keys (inp m c main_arg1)) (Vals (inp m c main_arg1))
      ⟨t.val * 512 + n.val, by have := lt8 t; omega⟩ k := by
  have e : (outsAt0 m c t.val t.isLt).1 (ix2 n k) = DQ (iblk m c 0 t) (iblk m c 3 t) (iblk m c 1 t) (iblk m c 2 t) n k := by
    by_cases h : t.val % 8 = 0
    · exact dq_A m c t h n k
    · exact dq_B m c t h n k
  rw [e, blkK, blkV]
  exact DQ_row (blkQ m c t n) (blkD m c t n) k

theorem final4 (c : Dev nD) : (dats m 0 c).arrAt 4 (cfgs 0).N = fun i : S4096x1024.Idx => DQ (inp m c main_arg0) (inp m c main_arg2) (Keys (inp m c main_arg1)) (Vals (inp m c main_arg1)) (i 0) (i 1) := by
  refine (dats m 0 c).arrAt_eq_of_covers 4 _ (by decide +kernel) fun t hf y => ?_
  blk_simp
  rw [after0_4]
  idx_vars y
  refine (dq_tile m c t y0 y1).trans ?_
  generalize hF : (fun i : S4096x1024.Idx => DQ (inp m c main_arg0) (inp m c main_arg2) (Keys (inp m c main_arg1)) (Vals (inp m c main_arg1)) (i 0) (i 1)) = F
  refine (congrFun hF (ix2 _ _)).trans (Eq.trans ?_ (congrFun hF _).symm)
  clear hF
  blk_ext! [idx t]

theorem final5 (c : Dev nD) : (dats m 0 c).arrAt 5 (cfgs 0).N = fun j : S256x1024.Idx => DK (inp m c main_arg0) (inp m c main_arg2) (Keys (inp m c main_arg1)) (Vals (inp m c main_arg1)) (j 0) (j 1) := by
  refine (dats m 0 c).arrAt_eq_of_after_last 5 t0_7 (by decide +kernel) _ fun j => ?_
  blk_simp
  rw [after0_5, Pipeline.eq_sum_fin_of_reset_step_apply_last (fun n h => (outsAt0 m c n h).2.1) 8 (fun _ => 0)
    (fun p j => DK (iblk m c 0 p) (iblk m c 3 p) (Keys (inp m c main_arg1)) (Vals (inp m c main_arg1)) (j 0) (j 1))
    (fun t h j => by idx_vars j; exact (dk_A m c t h _ _).trans (by rw [blkK, blkV]))
    (fun t h j => by idx_vars j; exact (dk_B m c t h _ _).trans (by rw [blkK, blkV]))
    (le_of_eq N_0) t0_7 rfl j, zero_add]
  exact DK_bands (B := fun p => iblk m c 0 p) (E := fun p => iblk m c 3 p) (fun t n k => blkQ m c t n k) (fun t n k => blkD m c t n k) _ _

theorem final6 (c : Dev nD) : (dats m 0 c).arrAt 6 (cfgs 0).N = fun j : S256x1024.Idx => DV (inp m c main_arg0) (inp m c main_arg2) (Keys (inp m c main_arg1)) (j 0) (j 1) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0)
    (fun p j => DV (iblk m c 0 p) (iblk m c 3 p) (Keys (inp m c main_arg1)) (j 0) (j 1))
    (fun t h j => by idx_vars j; exact (dv_A m c t h _ _).trans (by rw [blkK]))
    (fun t h j => by idx_vars j; exact (dv_B m c t h _ _).trans (by rw [blkK]))
    (le_of_eq N_0) t0_7 rfl j, zero_add]
  exact DV_bands (B := fun p => iblk m c 0 p) (E := fun p => iblk m c 3 p) (fun t n k => blkQ m c t n k) (fun t n k => blkD m c t n k) _ _

end Cert.AttnIdeal.Hand

end
-- ==== Proof.AttnPair.lean ====
/- What the two programs of Attn leave. -/
module

public import proofs.«01_k».proof.Defs
public import proofs.«01_k».proof.Proof.Gen.Attn.Frame
public import proofs.«01_k».proof.Proof.Gen.AttnIdeal.Frame
public import proofs.«01_k».proof.Proof.AttnFinal
public import proofs.«01_k».proof.Proof.AttnRefV
public import proofs.«01_k».proof.Proof.Finite
public import proofs.«01_k».proof.Proof.Gen.AttnRefIdeal.Run
public import proofs.«01_k».proof.Proof.Gen.AttnRefIdeal.Read

@[expose] public section

noncomputable section

namespace Cert.AttnPair

open Idealize.ShloMosaic Idealize.ShloMosaic.TcCoe Idealize.SL.Sem Cert.Reals

theorem frame : @Cert.quiescent_Attn Cert.Attn.Gen.facts := fun m ρ _ => Cert.Attn.Gen.frame m ρ

theorem frame_ideal : @Cert.quiescent_AttnIdeal Cert.AttnIdeal.Gen.facts := fun m ρ _ => Cert.AttnIdeal.Gen.frame m ρ

theorem frame_ref : @Cert.quiescent_AttnRefIdeal Cert.AttnRefIdeal.Gen.facts := fun m ρ _ =>
  (θ_run _ _ _).mono (fun r h => ⟨fun c => (h c).2.2.2, sem_eq_zero_of_no_sems rfl r.2⟩) (Cert.AttnRefIdeal.Value.run m ρ)

/-- The side conditions of the precondition's operations. -/
theorem pre_facts : Cert.Pre_finite_e.Facts := ⟨by decide, by decide⟩

/-- What the precondition says: the arrays' entries are real numbers. -/
theorem reals [Cert.Pre_finite_e.Facts] (m) (h : Cert.Pre_AttnIdeal_finite_e m) (c : Dev Cert.AttnIdeal.nD) :
    Finite (m ((c.tc : Thread Cert.AttnIdeal.nD Cert.AttnIdeal.τ).loc Cert.AttnIdeal.main_arg0))
    ∧ Finite (m ((c.tc : Thread Cert.AttnIdeal.nD Cert.AttnIdeal.τ).loc Cert.AttnIdeal.main_arg1))
    ∧ Finite (m ((c.tc : Thread Cert.AttnIdeal.nD Cert.AttnIdeal.τ).loc Cert.AttnIdeal.main_arg2)) :=
  have ⟨h0, h1, h2⟩ := h c
  ⟨finite_of16 _ _ h0, finite_of _ _ h1, finite_of16 _ _ h2⟩

theorem algebraic : @Cert.algebraic_AttnIdeal_AttnRefIdeal_pre_finite_e Cert.AttnIdeal.Gen.facts Cert.AttnRefIdeal.Gen.facts pre_facts := by
  pair_intro
  · run_from Cert.AttnIdeal.Gen.run_main m g
  · run_from Cert.AttnRefIdeal.Value.run m' g'
    · have := pre_facts
      obtain ⟨hq, hk, hd⟩ := reals m hpre c
      rw [Cert.AttnRefIdeal.Read.val_main_v67_eq]
      obtain ⟨e0, e1, e2⟩ := hagree c
      rw [e0, e1, e2]
      funext j
      idx_vars j
      rw [Cert.AttnIdeal.Hand.final4]
      exact Cert.AttnRefIdeal.Read.dq_eq _ _ _ hq hd hk _ _
    · have := pre_facts
      obtain ⟨hq, hk, hd⟩ := reals m hpre c
      rw [Cert.AttnRefIdeal.Read.val_main_v65_eq]
      obtain ⟨e0, e1, e2⟩ := hagree c
      rw [e0, e1, e2]
      funext j
      idx_vars j
      rw [Cert.AttnIdeal.Hand.final5]
      exact Cert.AttnRefIdeal.Read.dk_eq _ _ _ hq hd hk _ _
    · rw [Cert.AttnRefIdeal.Read.val_main_v64_eq]
      funext j
      idx_vars j
      rw [Cert.AttnIdeal.Hand.final6]
      exact Cert.AttnRefIdeal.Read.dv_eq _ _ _ _ _

end Cert.AttnPair

end
-- ==== Proof.FfnDzV.lean ====
/- The gradient of the feed-forward gate, tile by tile. -/
module

public import proofs.«01_k».proof.Proof.Held
public import proofs.«01_k».proof.Proof.Gen.FfnDzIdeal.Value
public import proofs.«01_k».proof.Proof.Gen.FfnDzRefIdeal.Read
public import proofs.«01_k».proof.Proof.Sigmoid
public import proofs.«01_k».proof.Proof.Finite
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDzIdeal.Hand

open Cert.Held Cert.FfnDzIdeal Cert.FfnDzIdeal.Gen Cert.Reals

/-- A row of the hidden layer's cotangent, -/
def da {N : ℕ} (d : (⟨2, ![N, 1024]⟩ : Shape).Idx → EReal) {R : ℕ} (w : (⟨2, ![R, 1024]⟩ : Shape).Idx → EReal) (n : Fin N) (c : Fin R) : EReal :=
  ∑ k : Fin 1024, ((1 / 2 : ℝ) : EReal) * d (ix2 n k) * w (ix2 c k)
/-- the gated layer, -/
def act (g u : EReal) : EReal := g * Ideal.logistic g * u
/-- and the gradients of the gate's two inputs. -/
def dup (e g : EReal) : EReal := e * (g * Ideal.logistic g)
def dgate (e g u : EReal) : EReal := e * u * (Ideal.logistic g + g * Ideal.logistic g * (1 - Ideal.logistic g))

theorem act_ix (g u : Vec Ideal S512x256 .bf16) (n : Fin 512) (x : Fin 256) : k0_pay6 (F := Ideal) g u (ix2 n x) = act (g (ix2 n x)) (u (ix2 n x)) := by
  unfold act
  rw [← Sigmoid.of_tanh, ← Words.w_half]
  pointwise [k0_pay6, k0_pay5, k0_pay4, k0_pay3, k0_pay2]

theorem da_ix (d : Vec Ideal S512x1024 .f32) (w : Vec Ideal S256x1024 .bf16) (n : Fin 512) (x : Fin 256) : k0_pay7 (F := Ideal) d w (ix2 n x) = da d w n x := by
  unfold da
  rw [← Words.w_half]
  pointwise [k0_pay7, k0_pay1]

theorem dup_ix (d : Vec Ideal S512x1024 .f32) (g : Vec Ideal S512x256 .bf16) (w : Vec Ideal S256x1024 .bf16) (n : Fin 512) (x : Fin 256) :
    k0_pay8 (F := Ideal) d g w (ix2 n x) = dup (da d w n x) (g (ix2 n x)) := by
  unfold dup
  rw [← da_ix, ← Sigmoid.of_tanh, ← Words.w_half]
  unfold k0_pay8
  generalize k0_pay7 (F := Ideal) d w = e
  pointwise [k0_pay5, k0_pay4, k0_pay2]

theorem dgate_ix (d : Vec Ideal S512x1024 .f32) (g u : Vec Ideal S512x256 .bf16) (w : Vec Ideal S256x1024 .bf16) (n : Fin 512) (x : Fin 256) :
    k0_pay9 (F := Ideal) d g u w (ix2 n x) = dgate (da d w n x) (g (ix2 n x)) (u (ix2 n x)) := by
  unfold dgate
  rw [← da_ix, ← Sigmoid.of_tanh, ← Words.w_half]
  unfold k0_pay9
  generalize k0_pay7 (F := Ideal) d w = e
  pointwise [k0_pay5, k0_pay4, k0_pay3, k0_pay2]

/-- The lanes of one tile of a band, and the rows of the weights that meet them. -/
def lane (j : Fin 11) (x : Fin 256) : Fin 2816 := ⟨j.val * 256 + x.val, by omega⟩
abbrev part (f : S512x2816.Idx → EReal) (j : Fin 11) (inb : ∀ a, (![0, j.val * 256] : Fin 2 → ℕ) a + (![512, 256] : Fin 2 → ℕ) a ≤ S512x2816.size a) : S512x256.Idx → EReal :=
  fun y => f ((Rect.unit (s := S512x2816) ![0, j.val * 256] ![512, 256] inb).idx y)
abbrev rows (f : S2816x1024.Idx → EReal) (j : Fin 11) (inb : ∀ a, (![j.val * 256, 0] : Fin 2 → ℕ) a + (![256, 1024] : Fin 2 → ℕ) a ≤ S2816x1024.size a) : S256x1024.Idx → EReal :=
  fun y => f ((Rect.unit (s := S2816x1024) ![j.val * 256, 0] ![256, 1024] inb).idx y)

theorem part_ix (f : S512x2816.Idx → EReal) (j : Fin 11) (inb) (n : Fin 512) (x : Fin 256) : part f j inb (ix2 n x) = f (ix2 n (lane j x)) := by
  refine congrArg f ?_
  funext a
  refine Fin.ext ((Rect.idx_unit_val _ _ _ _ a).trans ?_)
  match a with
  | 0 => exact Nat.zero_add _
  | 1 => rfl
theorem rows_ix (f : S2816x1024.Idx → EReal) (j : Fin 11) (inb) (x : Fin 256) (k : Fin 1024) : rows f j inb (ix2 x k) = f (ix2 (lane j x) k) := by
  refine congrArg f ?_
  funext a
  refine Fin.ext ((Rect.idx_unit_val _ _ _ _ a).trans ?_)
  match a with
  | 0 => rfl
  | 1 => exact Nat.zero_add _

section Piece

variable {d : Vec Ideal S512x1024 .f32} {g u : Vec Ideal S512x2816 .bf16} {w : Vec Ideal S2816x1024 .bf16} (j : Fin 11) {c : Fin 2816} {x : Fin 256} (e : c.val = j.val * 256 + x.val)
include e

theorem piece_act (n : Fin 512) (i) : k0_pay6 (F := Ideal) (part g j i) (part u j i) (ix2 n x) = act (g (ix2 n c)) (u (ix2 n c)) := by
  obtain rfl : c = lane j x := Fin.ext e
  rw [act_ix, part_ix, part_ix]

theorem da_rows (n : Fin 512) (i) : da d (rows w j i) n x = da d w n c := by
  obtain rfl : c = lane j x := Fin.ext e
  exact Finset.sum_congr rfl fun k _ => congrArg (_ * ·) (rows_ix w j i x k)

theorem piece_dup (n : Fin 512) (i i') : k0_pay8 (F := Ideal) d (part g j i) (rows w j i') (ix2 n x) = dup (da d w n c) (g (ix2 n c)) := by
  rw [dup_ix, da_rows j e]
  obtain rfl : c = lane j x := Fin.ext e
  rw [part_ix]

theorem piece_dgate (n : Fin 512) (i i') : k0_pay9 (F := Ideal) d (part g j i) (part u j i) (rows w j i') (ix2 n x) = dgate (da d w n c) (g (ix2 n c)) (u (ix2 n c)) := by
  rw [dgate_ix, da_rows j e]
  obtain rfl : c = lane j x := Fin.ext e
  rw [part_ix, part_ix]

end Piece

section Tile

variable (x0 : Vec Ideal S512x1024 .f32) (x1 x2 : Vec Ideal S512x2816 .bf16) (x3 : Vec Ideal S2816x1024 .bf16)

theorem act_tile (n : Fin 512) (c : Fin 2816) : out0_4 (F := Ideal) x0 x1 x2 x3 (ix2 n c) = act (x1 (ix2 n c)) (x2 (ix2 n c)) := by
  unfold_out out0_4
  canon_tiles x h <;> idx_vars x <;> obtain rfl : n = x0 := Fin.ext h0
  · exact piece_act 10 h1 n _
  · exact piece_act 9 h1 n _
  · exact piece_act 8 h1 n _
  · exact piece_act 7 h1 n _
  · exact piece_act 6 h1 n _
  · exact piece_act 5 h1 n _
  · exact piece_act 4 h1 n _
  · exact piece_act 3 h1 n _
  · exact piece_act 2 h1 n _
  · exact piece_act 1 h1 n _
  · exact piece_act 0 (h1.trans (Nat.zero_add _).symm) n _

theorem whole0 : View.ld x0 r0_0 = x0 := View.ld_unit_zero (funext fun a => by fin_cases a <;> rfl) _ x0

theorem dgate_tile (n : Fin 512) (c : Fin 2816) : out0_5 (F := Ideal) x0 x1 x2 x3 (ix2 n c) = dgate (da x0 x3 n c) (x1 (ix2 n c)) (x2 (ix2 n c)) := by
  refine Eq.trans ?_ (congrArg (fun d => dgate (da d x3 n c) (x1 (ix2 n c)) (x2 (ix2 n c))) (whole0 x0))
  unfold_out out0_5
  canon_tiles x h <;> idx_vars x <;> obtain rfl : n = x0 := Fin.ext h0
  · exact piece_dgate 10 h1 n _ _
  · exact piece_dgate 9 h1 n _ _
  · exact piece_dgate 8 h1 n _ _
  · exact piece_dgate 7 h1 n _ _
  · exact piece_dgate 6 h1 n _ _
  · exact piece_dgate 5 h1 n _ _
  · exact piece_dgate 4 h1 n _ _
  · exact piece_dgate 3 h1 n _ _
  · exact piece_dgate 2 h1 n _ _
  · exact piece_dgate 1 h1 n _ _
  · exact piece_dgate 0 (h1.trans (Nat.zero_add _).symm) n _ _

theorem dup_tile (n : Fin 512) (c : Fin 2816) : out0_6 (F := Ideal) x0 x1 x2 x3 (ix2 n c) = dup (da x0 x3 n c) (x1 (ix2 n c)) := by
  refine Eq.trans ?_ (congrArg (fun d => dup (da d x3 n c) (x1 (ix2 n c))) (whole0 x0))
  unfold_out out0_6
  canon_tiles x h <;> idx_vars x <;> obtain rfl : n = x0 := Fin.ext h0
  · exact piece_dup 10 h1 n _ _
  · exact piece_dup 9 h1 n _ _
  · exact piece_dup 8 h1 n _ _
  · exact piece_dup 7 h1 n _ _
  · exact piece_dup 6 h1 n _ _
  · exact piece_dup 5 h1 n _ _
  · exact piece_dup 4 h1 n _ _
  · exact piece_dup 3 h1 n _ _
  · exact piece_dup 2 h1 n _ _
  · exact piece_dup 1 h1 n _ _
  · exact piece_dup 0 (h1.trans (Nat.zero_add _).symm) n _ _

end Tile

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![t.val, 0] :=
  (by decide +kernel : ∀ t : Fin grid0.N, _)

theorem lt8 (t : Fin cfg0.N) : t.val < 8 := lt_of_lt_of_eq t.isLt N_0

theorem blk0 (c : Dev nD) (t : Fin cfg0.N) (n : Fin 512) (k : Fin 1024) :
    iblk m c 0 t (ix2 n k) = inp m c main_arg0 (ix2 ⟨t.val * 512 + n.val, by have := lt8 t; omega⟩ k) := by
  blk_ext! [iblk, V, idx t]
theorem blk1 (c : Dev nD) (t : Fin cfg0.N) (n : Fin 512) (k : Fin 2816) :
    iblk m c 1 t (ix2 n k) = inp m c main_arg1 (ix2 ⟨t.val * 512 + n.val, by have := lt8 t; omega⟩ k) := by
  blk_ext! [iblk, V, idx t]
theorem blk2 (c : Dev nD) (t : Fin cfg0.N) (n : Fin 512) (k : Fin 2816) :
    iblk m c 2 t (ix2 n k) = inp m c main_arg2 (ix2 ⟨t.val * 512 + n.val, by have := lt8 t; omega⟩ k) := by
  blk_ext! [iblk, V, idx t]
theorem blk3 (c : Dev nD) (t : Fin cfg0.N) : iblk m c 3 t = inp m c main_arg3 := by
  blk_ext! [iblk, V, idx t]

theorem da_row (c : Dev nD) (t : Fin cfg0.N) (n : Fin 512) (k : Fin 2816) :
    da (iblk m c 0 t) (iblk m c 3 t) n k = da (inp m c main_arg0) (inp m c main_arg3) ⟨t.val * 512 + n.val, by have := lt8 t; omega⟩ k := by
  rw [blk3]
  exact Finset.sum_congr rfl fun x _ => congrArg (fun y => _ * y * _) (blk0 m c t n x)

theorem final4 (c : Dev nD) : (dats m 0 c).arrAt 4 (cfgs 0).N
    = fun i : S4096x2816.Idx => act (inp m c main_arg1 (ix2 (i 0) (i 1))) (inp m c main_arg2 (ix2 (i 0) (i 1))) := by
  refine (dats m 0 c).arrAt_eq_of_covers 4 _ (by decide +kernel) fun t hf y => ?_
  blk_simp
  rw [after0_4]
  idx_vars y
  refine (act_tile _ _ _ _ y0 y1).trans ?_
  rw [blk1, blk2]
  generalize hF : (fun i : S4096x2816.Idx => act (inp m c main_arg1 (ix2 (i 0) (i 1))) (inp m c main_arg2 (ix2 (i 0) (i 1)))) = G
  refine (congrFun hF (ix2 _ _)).trans (Eq.trans ?_ (congrFun hF _).symm)
  clear hF
  blk_ext! [idx t]
theorem final5 (c : Dev nD) : (dats m 0 c).arrAt 5 (cfgs 0).N
    = fun i : S4096x2816.Idx => dgate (da (inp m c main_arg0) (inp m c main_arg3) (i 0) (i 1)) (inp m c main_arg1 (ix2 (i 0) (i 1))) (inp m c main_arg2 (ix2 (i 0) (i 1))) := by
  refine (dats m 0 c).arrAt_eq_of_covers 5 _ (by decide +kernel) fun t hf y => ?_
  blk_simp
  rw [after0_5]
  idx_vars y
  refine (dgate_tile _ _ _ _ y0 y1).trans ?_
  rw [blk1, blk2, da_row]
  generalize hF : (fun i : S4096x2816.Idx => dgate (da (inp m c main_arg0) (inp m c main_arg3) (i 0) (i 1)) (inp m c main_arg1 (ix2 (i 0) (i 1))) (inp m c main_arg2 (ix2 (i 0) (i 1)))) = G
  refine (congrFun hF (ix2 _ _)).trans (Eq.trans ?_ (congrFun hF _).symm)
  clear hF
  blk_ext! [idx t]
theorem final6 (c : Dev nD) : (dats m 0 c).arrAt 6 (cfgs 0).N
    = fun i : S4096x2816.Idx => dup (da (inp m c main_arg0) (inp m c main_arg3) (i 0) (i 1)) (inp m c main_arg1 (ix2 (i 0) (i 1))) := by
  refine (dats m 0 c).arrAt_eq_of_covers 6 _ (by decide +kernel) fun t hf y => ?_
  blk_simp
  rw [after0_6]
  idx_vars y
  refine (dup_tile _ _ _ _ y0 y1).trans ?_
  rw [blk1, da_row]
  generalize hF : (fun i : S4096x2816.Idx => dup (da (inp m c main_arg0) (inp m c main_arg3) (i 0) (i 1)) (inp m c main_arg1 (ix2 (i 0) (i 1)))) = G
  refine (congrFun hF (ix2 _ _)).trans (Eq.trans ?_ (congrFun hF _).symm)
  clear hF
  blk_ext! [idx t]

open Cert.FfnDzRefIdeal.Read

theorem act_eq (g u : Vec Ideal S4096x2816 .bf16) (n : Fin 4096) (c : Fin 2816) : val_main_v16 (F := Ideal) g u (ix2 n c) = act (g (ix2 n c)) (u (ix2 n c)) := by
  unfold act Ideal.logistic
  unfold val_main_v16 val_main_v3 val_main_v2 val_main_v1 val_main_call0_v5 val_main_call0_v4 val_main_call0_v3 val_main_call0_v2 val_main_call0_v1 val_main_call0_v0 val_main_call0_cst val_main_call0_cst_0 val_main_v0
  pointwise

theorem logi_ix (g : Vec Ideal S4096x2816 .bf16) (n : Fin 4096) (c : Fin 2816) : val_main_v4_2 (F := Ideal) g (ix2 n c) = Ideal.logistic (g (ix2 n c)) := by
  unfold Ideal.logistic
  unfold val_main_v4_2 val_main_call1_v4 val_main_call1_v3 val_main_call1_v2 val_main_call1_v1 val_main_call1_v0 val_main_call1_cst val_main_call1_cst_0 val_main_v0
  pointwise

theorem cot_ix (d : Vec Ideal S4096x1024 .f32) (w : Vec Ideal S2816x1024 .bf16) (n : Fin 4096) (c : Fin 2816) : val_main_v12 (F := Ideal) d w (ix2 n c) = da d w n c := by
  unfold da
  rw [← Words.w_half]
  unfold val_main_v12 val_main_v11 val_main_v10 val_main_v6 val_main_cst_0
  pointwise

theorem dup_eq (d : Vec Ideal S4096x1024 .f32) (g : Vec Ideal S4096x2816 .bf16) (w : Vec Ideal S2816x1024 .bf16) (n : Fin 4096) (c : Fin 2816) :
    val_main_v18 (F := Ideal) d g w (ix2 n c) = dup (da d w n c) (g (ix2 n c)) := by
  unfold dup
  rw [← cot_ix, ← logi_ix, mul_comm]
  unfold val_main_v18 val_main_v13 val_main_v4_0 val_main_v0
  generalize val_main_v12 (F := Ideal) d w = E
  generalize val_main_v4_2 (F := Ideal) g = L
  pointwise

theorem real_da (d : Vec Ideal S4096x1024 .f32) (w : Vec Ideal S2816x1024 .bf16) (hd : Finite d) (hw : Finite w) (n : Fin 4096) (c : Fin 2816) : Real' (da d w n c) :=
  Real'.sum _ _ fun k _ => ((Reals.coe _).mul (hd _)).mul (hw _)

theorem dgate_eq (d : Vec Ideal S4096x1024 .f32) (g u : Vec Ideal S4096x2816 .bf16) (w : Vec Ideal S2816x1024 .bf16) (hd : Finite d) (hu : Finite u) (hw : Finite w)
    (n : Fin 4096) (c : Fin 2816) :
    val_main_v17 (F := Ideal) d g u w (ix2 n c) = dgate (da d w n c) (g (ix2 n c)) (u (ix2 n c)) := by
  unfold dgate
  rw [← Sigmoid.silu_grad ((real_da d w hd hw n c).mul (hu _)), ← cot_ix, ← logi_ix]
  unfold val_main_v17 val_main_v15 val_main_call2_v1 val_main_call2_v2 val_main_call2_v0 val_main_v14 val_main_v4_1 val_main_call1_v7 val_main_call1_v6 val_main_call1_cst_1 val_main_v1 val_main_v0
  generalize val_main_v12 (F := Ideal) d w = E
  generalize val_main_v4_2 (F := Ideal) g = L
  pointwise

end Cert.FfnDzIdeal.Hand

end
-- ==== Proof.FfnDzPair.lean ====
/- What the two programs of FfnDz leave. -/
module

public import proofs.«01_k».proof.Defs
public import proofs.«01_k».proof.Proof.Gen.FfnDz.Frame
public import proofs.«01_k».proof.Proof.Gen.FfnDzIdeal.Frame
public import proofs.«01_k».proof.Proof.FfnDzV
public import proofs.«01_k».proof.Proof.Gen.FfnDzRefIdeal.Run
public import proofs.«01_k».proof.Proof.Gen.FfnDzRefIdeal.Read

@[expose] public section

noncomputable section

namespace Cert.FfnDzPair

open Idealize.ShloMosaic Idealize.ShloMosaic.TcCoe Idealize.SL.Sem Cert.Reals

theorem frame : @Cert.quiescent_FfnDz Cert.FfnDz.Gen.facts := fun m ρ _ => Cert.FfnDz.Gen.frame m ρ

theorem frame_ideal : @Cert.quiescent_FfnDzIdeal Cert.FfnDzIdeal.Gen.facts := fun m ρ _ => Cert.FfnDzIdeal.Gen.frame m ρ

theorem frame_ref : @Cert.quiescent_FfnDzRefIdeal Cert.FfnDzRefIdeal.Gen.facts := fun m ρ _ =>
  (θ_run _ _ _).mono (fun r h => ⟨fun c => (h c).2.2.2, sem_eq_zero_of_no_sems rfl r.2⟩) (Cert.FfnDzRefIdeal.Value.run m ρ)

/-- The side conditions of the precondition's operations. -/
theorem pre_facts : Cert.Pre_finite_f.Facts := ⟨by decide, by decide, by decide⟩

/-- What the precondition says: the arrays' entries are real numbers. -/
theorem reals [Cert.Pre_finite_f.Facts] (m) (h : Cert.Pre_FfnDzIdeal_finite_f m) (c : Dev Cert.FfnDzIdeal.nD) :
    Finite (m ((c.tc : Thread Cert.FfnDzIdeal.nD Cert.FfnDzIdeal.τ).loc Cert.FfnDzIdeal.main_arg0))
    ∧ Finite (m ((c.tc : Thread Cert.FfnDzIdeal.nD Cert.FfnDzIdeal.τ).loc Cert.FfnDzIdeal.main_arg2))
    ∧ Finite (m ((c.tc : Thread Cert.FfnDzIdeal.nD Cert.FfnDzIdeal.τ).loc Cert.FfnDzIdeal.main_arg3)) :=
  have ⟨h0, h1, h2⟩ := h c
  ⟨finite_of _ _ h0, finite_of16 _ _ h1, finite_of16 _ _ h2⟩

theorem algebraic : @Cert.algebraic_FfnDzIdeal_FfnDzRefIdeal_pre_finite_f Cert.FfnDzIdeal.Gen.facts Cert.FfnDzRefIdeal.Gen.facts pre_facts := by
  pair_intro
  · run_from Cert.FfnDzIdeal.Gen.run_main m g
  · run_from Cert.FfnDzRefIdeal.Value.run m' g'
    · have := pre_facts
      obtain ⟨hd, hu, hw⟩ := reals m hpre c
      rw [Cert.FfnDzRefIdeal.Read.val_main_v16_eq]
      funext j
      idx_vars j
      rw [Cert.FfnDzIdeal.Hand.final4]
      exact Cert.FfnDzIdeal.Hand.act_eq _ _ _ _
    · have := pre_facts
      obtain ⟨hd, hu, hw⟩ := reals m hpre c
      rw [Cert.FfnDzRefIdeal.Read.val_main_v17_eq]
      funext j
      idx_vars j
      rw [Cert.FfnDzIdeal.Hand.final5]
      exact Cert.FfnDzIdeal.Hand.dgate_eq _ _ _ _ hd hu hw _ _
    · have := pre_facts
      obtain ⟨hd, hu, hw⟩ := reals m hpre c
      rw [Cert.FfnDzRefIdeal.Read.val_main_v18_eq]
      funext j
      idx_vars j
      rw [Cert.FfnDzIdeal.Hand.final6]
      exact Cert.FfnDzIdeal.Hand.dup_eq _ _ _ _ _

end Cert.FfnDzPair

end
-- ==== Proof.RmsRow.lean ====
/- The gradient of a root-mean-square norm along a row of 1024. -/
module

public import proofs.«01_k».proof.Proof.Norm
public import proofs.«01_k».proof.Proof.Words
public import Idealize.ShloMosaic.Lib.Pointwise

@[expose] public section

noncomputable section

namespace Cert.RmsRow

open Idealize.ShloMosaic

variable (x u : Fin 1024 → EReal)

/-- The mean square with its offset, the reciprocal root of that, the normed row, -/
def ms : EReal := Ideal.div (∑ k, x k * x k) (Ideal.ofBits .f32 1149239296#32) + Ideal.ofBits .f32 897988541#32
def rs : EReal := Ideal.rsqrt (ms x)
def hat (c : Fin 1024) : EReal := x c * rs x
/-- the row's gradient at the cotangent `u` of the normed row, in closed form, -/
def back (c : Fin 1024) : EReal := rs x * (u c - hat x c * Ideal.div (∑ k, u k * hat x k) (Ideal.ofBits .f32 1149239296#32))
/-- and the square's gradient, by the chain rule. -/
def square : EReal := Ideal.div ((∑ k, x k * u k) * (Ideal.ofBits .f32 3204448256#32 * Ideal.div (rs x) (ms x))) (Ideal.ofBits .f32 1149239296#32)

theorem back_eq (c : Fin 1024) : back x u c = u c * rs x + x c * square x u + square x u * x c := by
  unfold back square hat rs ms
  simp only [Words.w_1024, Words.w_eps, Words.w_neg_half]
  exact Norm.rms_grad x u c (by norm_num) Words.eps_pos (-1 / 2) rfl rfl rfl rfl

end Cert.RmsRow

end
-- ==== Proof.LossHeadV.lean ====
/- The loss and its gradient through the last norm, row band by row band. -/
module

public import proofs.«01_k».proof.Proof.Held
public import proofs.«01_k».proof.Proof.Gen.LossHeadIdeal.Frame
public import proofs.«01_k».proof.Proof.Gen.LossHeadRefIdeal.Read
public import proofs.«01_k».proof.Proof.RmsRow
public import Idealize.ShloMosaic.Lib.Pointwise
public import Idealize.ShloMosaic.Lib.Pipeline.ReadBack
public import Idealize.ShloMosaic.Lib.Pipeline.ValueKit

@[expose] public section

set_option maxRecDepth 16384

noncomputable section

namespace Cert.LossHeadIdeal.Hand

open Idealize.ShloMosaic Idealize.ShloMosaic.TcCoe Idealize.SL.Sem
open Cert.Held Cert.LossHeadIdeal Cert.LossHeadIdeal.Gen
open Cert.LossHeadRefIdeal.Read

section Row

variable {N : ℕ} (X T : (⟨2, ![N, 1024]⟩ : Shape).Idx → EReal) (g : Fin 1024 → EReal)

/-- The error of an entry, its cotangent, and half the sum of the rows' mean squares. -/
def err (n : Fin N) (c : Fin 1024) : EReal := RmsRow.hat (fun k => X (ix2 n k)) c * g c - T (ix2 n c)
def dy (n : Fin N) (c : Fin 1024) : EReal := err X T g n c * Ideal.ofBits .f32 981467136#32
def total : EReal := ∑ n, Ideal.div (∑ c, err X T g n c * err X T g n c) (Ideal.ofBits .f32 1149239296#32)
/-- The gradients for the rows and for the norm's scale. -/
def dx (n : Fin N) (c : Fin 1024) : EReal := RmsRow.back (fun k => X (ix2 n k)) (fun k => dy X T g n k * g k) c
def dg (c : Fin 1024) : EReal := ∑ n, dy X T g n c * RmsRow.hat (fun k => X (ix2 n k)) c

end Row

section Tile

variable (X T : Vec Ideal S512x1024 .f32) (G : Vec Ideal S1x1024 .f32)

theorem hat_tile (n : Fin 512) (c : Fin 1024) : k0_pay6 (F := Ideal) X (ix2 n c) = RmsRow.hat (fun k => X (ix2 n k)) c := by
  unfold RmsRow.hat RmsRow.rs RmsRow.ms
  pointwise [k0_pay6, k0_pay5]

theorem err_tile (n : Fin 512) (c : Fin 1024) : k0_pay7 (F := Ideal) X G T (ix2 n c) = err X T (fun k => G (ix2 0 k)) n c := by
  unfold err
  rw [← hat_tile]
  pointwise [k0_pay7]

theorem dy_tile (n : Fin 512) (c : Fin 1024) : k0_pay9 (F := Ideal) X G T (ix2 n c) = dy X T (fun k => G (ix2 0 k)) n c := by
  unfold dy
  rw [← err_tile]
  pointwise [k0_pay9]

theorem loss_tile (acc : Vec Ideal S1x128 .f32) (u : Fin 1) (l : Fin 128) :
    k0_pay8 (F := Ideal) X G T acc (ix2 u l) = acc (ix2 u l) + Ideal.ofBits .f32 1056964608#32 * total X T (fun k => G (ix2 0 k)) := by
  unfold total
  simp only [← err_tile]
  pointwise [k0_pay8]

theorem dx_tile (n : Fin 512) (c : Fin 1024) :
    k0_pay2 (F := Ideal) (k0_pay5 X) (k0_pay6 X) (k0_pay9 X G T) G (ix2 n c) = dx X T (fun k => G (ix2 0 k)) n c := by
  unfold dx RmsRow.back
  simp only [← hat_tile, ← dy_tile]
  unfold RmsRow.rs RmsRow.ms
  pointwise [k0_pay2, k0_pay5]

theorem dg_tile (acc : Vec Ideal S1x1024 .f32) (u : Fin 1) (c : Fin 1024) :
    k0_pay1 (F := Ideal) (k0_pay6 X) (k0_pay9 X G T) acc (ix2 u c) = acc (ix2 u c) + dg X T (fun k => G (ix2 0 k)) c := by
  unfold dg
  simp only [← hat_tile, ← dy_tile]
  pointwise [k0_pay1]

end Tile

theorem zero_loss (j : S1x128.Idx) : k0_pay3 (F := Ideal) j = 0 := by pointwise [k0_pay3]
theorem zero_dg (j : S1x1024.Idx) : k0_pay4 (F := Ideal) j = 0 := by pointwise [k0_pay4]

variable (m : (ℓ : Loc nD τ sig) → Buf (Elt Ideal) ℓ)

/-- The three arrays a device holds. -/
abbrev rows (c : Dev nD) : S4096x1024.Idx → EReal := inp m c main_arg0
abbrev target (c : Dev nD) : S4096x1024.Idx → EReal := inp m c main_arg2
abbrev scale (c : Dev nD) (k : Fin 1024) : EReal := inp m c main_arg1 (ix1 k)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] :=
  (by decide +kernel : ∀ t : Fin grid0.N, _)

theorem lt8 (t : Fin cfg0.N) : t.val < 8 := lt_of_lt_of_eq t.isLt N_0

theorem blkX (c : Dev nD) (t : Fin cfg0.N) (n : Fin 512) (k : Fin 1024) :
    iblk m c 0 t (ix2 n k) = rows m c (ix2 ⟨t.val * 512 + n.val, by have := lt8 t; omega⟩ k) := by
  blk_ext! [iblk, V, idx t]
theorem blkT (c : Dev nD) (t : Fin cfg0.N) (n : Fin 512) (k : Fin 1024) :
    iblk m c 2 t (ix2 n k) = target m c (ix2 ⟨t.val * 512 + n.val, by have := lt8 t; omega⟩ k) := by
  blk_ext! [iblk, V, idx t]
theorem blkG (c : Dev nD) (t : Fin cfg0.N) (k : Fin 1024) : iblk m c 1 t (ix2 0 k) = scale m c k := by
  have e : iblk m c 1 t = shapeCast S1x1024 (inp m c main_arg1) shapeCasts_S1024_S1x1024 := by
    blk_ext! [iblk, V, idx t]
  rw [e]
  pointwise

/-- What a band leaves: the rows' gradients, and its shares of the loss and of the scale's gradient on top of the bands before. -/
theorem dx_band (c : Dev nD) (t : Fin cfg0.N) (n : Fin 512) (k : Fin 1024) :
    (outsAt0 m c t.val t.isLt).2.1 (ix2 n k) = dx (rows m c) (target m c) (scale m c) ⟨t.val * 512 + n.val, by have := lt8 t; omega⟩ k := by
  have e : (outsAt0 m c t.val t.isLt).2.1 (ix2 n k) = dx (iblk m c 0 t) (iblk m c 2 t) (fun k => iblk m c 1 t (ix2 0 k)) n k := by
    by_cases h : t.val % 8 = 0
    · rw [outsAt0_A m c t h]; frame_out
      exact dx_tile _ _ _ n k
    · rw [outsAt0_B m c t h]; frame_out
      exact dx_tile _ _ _ n k
  rw [e]
  unfold dx dy err
  simp only [blkX, blkT, blkG]

theorem dg_A (c : Dev nD) (t : Fin cfg0.N) (h0 : t.val % 8 = 0) (u : Fin 1) (k : Fin 1024) :
    (outsAt0 m c t.val t.isLt).2.2 (ix2 u k) = 0 + dg (iblk m c 0 t) (iblk m c 2 t) (scale m c) k := by
  rw [outsAt0_A m c t h0]; frame_out
  refine (dg_tile _ _ _ _ u k).trans ?_
  simp only [blkG]
  rw [zero_dg]

theorem dg_B (c : Dev nD) (t : Fin cfg0.N) (h0 : ¬t.val % 8 = 0) (u : Fin 1) (k : Fin 1024) :
    (outsAt0 m c t.val t.isLt).2.2 (ix2 u k) = (outsAt0 m c (t.val - 1) (by omega)).2.2 (ix2 u k) + dg (iblk m c 0 t) (iblk m c 2 t) (scale m c) k := by
  rw [outsAt0_B m c t h0]; frame_out
  refine (dg_tile _ _ _ _ u k).trans ?_
  simp only [blkG]

theorem loss_A (c : Dev nD) (t : Fin cfg0.N) (h0 : t.val % 8 = 0) (u : Fin 1) (l : Fin 128) :
    (outsAt0 m c t.val t.isLt).1 (ix2 u l) = 0 + Ideal.ofBits .f32 1056964608#32 * total (iblk m c 0 t) (iblk m c 2 t) (scale m c) := by
  rw [outsAt0_A m c t h0]; frame_out
  refine (loss_tile _ _ _ _ u l).trans ?_
  simp only [blkG]
  rw [zero_loss]

theorem loss_B (c : Dev nD) (t : Fin cfg0.N) (h0 : ¬t.val % 8 = 0) (u : Fin 1) (l : Fin 128) :
    (outsAt0 m c t.val t.isLt).1 (ix2 u l) = (outsAt0 m c (t.val - 1) (by omega)).1 (ix2 u l) + Ideal.ofBits .f32 1056964608#32 * total (iblk m c 0 t) (iblk m c 2 t) (scale m c) := by
  rw [outsAt0_B m c t h0]; frame_out
  refine (loss_tile _ _ _ _ u l).trans ?_
  simp only [blkG]

theorem final4 (c : Dev nD) : (dats m 0 c).arrAt 4 (cfgs 0).N = fun i : S4096x1024.Idx => dx (rows m c) (target m c) (scale m c) (i 0) (i 1) := by
  refine (dats m 0 c).arrAt_eq_of_covers 4 _ (by decide +kernel) fun t hf y => ?_
  blk_simp
  rw [after0_4]
  idx_vars y
  refine (dx_band m c t y0 y1).trans ?_
  generalize hF : (fun i : S4096x1024.Idx => dx (rows m c) (target m c) (scale m c) (i 0) (i 1)) = G
  refine (congrFun hF (ix2 _ _)).trans (Eq.trans ?_ (congrFun hF _).symm)
  clear hF
  blk_ext! [idx t]

theorem final5 (c : Dev nD) : (dats m 0 c).arrAt 5 (cfgs 0).N = fun j : S1x1024.Idx => dg (rows m c) (target m c) (scale m c) (j 1) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0)
    (fun p j => dg (iblk m c 0 p) (iblk m c 2 p) (scale m c) (j 1))
    (fun t h j => by idx_vars j; exact dg_A m c t h _ _)
    (fun t h j => by idx_vars j; exact dg_B m c t h _ _)
    (le_of_eq N_0) t0_7 rfl j, zero_add]
  idx_vars j
  unfold dg dy err
  refine Fin.sum_mul_add_congr fun t n hl => ?_
  simp only [blkX, blkT]

/-- A sum of halves is half the sum. -/
theorem halves {ι : Type*} (s : Finset ι) (f : ι → EReal) : (∑ i ∈ s, Ideal.ofBits .f32 1056964608#32 * f i) = Ideal.ofBits .f32 1056964608#32 * ∑ i ∈ s, f i := by
  rw [Words.w_half]
  simp only [mul_comm ((1 / 2 : ℝ) : EReal)]
  exact Norm.sum_mul_pos s f (by norm_num)

theorem final3 (c : Dev nD) : (dats m 0 c).arrAt 3 (cfgs 0).N = fun j : S1x128.Idx => Ideal.ofBits .f32 1056964608#32 * total (rows m c) (target m c) (scale m c) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0)
    (fun p j => Ideal.ofBits .f32 1056964608#32 * total (iblk m c 0 p) (iblk m c 2 p) (scale m c))
    (fun t h j => by idx_vars j; exact loss_A m c t h _ _)
    (fun t h j => by idx_vars j; exact loss_B m c t h _ _)
    (le_of_eq N_0) t0_7 rfl j, zero_add, halves]
  refine congrArg _ ?_
  unfold total err
  refine Fin.sum_mul_add_congr fun t n hl => ?_
  simp only [blkX, blkT]

/-- The cotangent of an entry as the differentiated loss has it. -/
theorem dy_ref (e : EReal) : Ideal.div (Ideal.ofBits .f32 1056964608#32 * Ideal.ofBits .f32 1065353216#32) (Ideal.ofBits .f32 1149239296#32) * (Ideal.ofBits .f32 1073741824#32 * e)
    = e * Ideal.ofBits .f32 981467136#32 := by
  have one : Ideal.ofBits .f32 1065353216#32 = ((1 : ℝ) : EReal) := by
    simp [Ideal.ofBits, Ideal.ieee, -EReal.coe_mul]; norm_num
  rw [one, Words.w_half, Words.w_1024, Words.w_two, Words.w_inv1024, Ideal.div_coe (by norm_num), ← mul_assoc, mul_comm e]
  norm_cast
  norm_num

/-- An output array as the host operations after the region find it. -/
theorem arr_after (c : Dev nD) (w : Fin 6) :
    Pipeline.withArrays (cfgs 0).spec c (V0 m c) (fun w => (dats m 0 c).arrAt w (cfgs 0).N) (Proc.devRef .tc (Pipeline.arrRef spec0 w)) = (dats m 0 c).arrAt w (cfgs 0).N :=
  Pipeline.withArrays_arr _ launch0.win.arr_inj c _ _ w

theorem tail3 (c : Dev nD) (u : S_.Idx) : Pipeline.afterTail₀ cfgs (dats m) 0 (V0 m) [hostOps1] c main_v3 u = Ideal.ofBits .f32 1056964608#32 * total (rows m c) (target m c) (scale m c) := by
  have h := congrFun (final3 m c) (ix2 0 0)
  rw [← arr_after] at h
  show StableHlo.after hostOps1 _ (Proc.devRef .tc main_v3) u = _
  after_results
  refine Eq.trans ?_ h
  generalize Pipeline.withArrays (cfgs 0).spec c (V0 m c) (fun w => (dats m 0 c).arrAt w (cfgs 0).N) = W
  pointwise

theorem tail4 (c : Dev nD) (k : Fin 1024) : Pipeline.afterTail₀ cfgs (dats m) 0 (V0 m) [hostOps1] c main_v4 (ix1 k) = dg (rows m c) (target m c) (scale m c) k := by
  have h := congrFun (final5 m c) (ix2 0 k)
  rw [← arr_after] at h
  show StableHlo.after hostOps1 _ (Proc.devRef .tc main_v4) (ix1 k) = _
  after_results
  refine Eq.trans ?_ h
  generalize Pipeline.withArrays (cfgs 0).spec c (V0 m c) (fun w => (dats m 0 c).arrAt w (cfgs 0).N) = W
  pointwise

section Ref

variable (X T : FVec Ideal S4096x1024 .f32) (G : FVec Ideal S1024 .f32)

theorem loss_eq (u : S_.Idx) : Cert.LossHeadRefIdeal.Read.val_main_v24 (F := Ideal) X G T u = Ideal.ofBits .f32 1056964608#32 * total X T (fun k => G (ix1 k)) := by
  unfold total err RmsRow.hat RmsRow.rs RmsRow.ms
  unfold val_main_v24 val_main_cst_7 val_main_v23 val_main_cst_6 val_main_v22 val_main_v21 val_main_cst_5 val_main_v20 val_main_cst_4 val_main_v17 val_main_v16 val_main_v15 val_main_v14 val_main_v13 val_main_v12 val_main_v11 val_main_v7 val_main_v6 val_main_v5 val_main_cst_1 val_main_v4 val_main_v3 val_main_cst_0 val_main_v2 val_main_v1 val_main_cst val_main_v0
  pointwise

theorem dx_eq (n : Fin 4096) (c : Fin 1024) : Cert.LossHeadRefIdeal.Read.val_main_v50 (F := Ideal) X G T (ix2 n c) = dx X T (fun k => G (ix1 k)) n c := by
  unfold dx
  rw [RmsRow.back_eq]
  unfold RmsRow.square RmsRow.rs RmsRow.ms dy
  simp only [← dy_ref]
  unfold err RmsRow.hat RmsRow.rs RmsRow.ms
  unfold val_main_v50 val_main_v49 val_main_v48 val_main_v47 val_main_v46 val_main_v45 val_main_cst_15 val_main_v44 val_main_v43 val_main_cst_14 val_main_v42 val_main_v41 val_main_v40 val_main_v39 val_main_v38 val_main_cst_13 val_main_v37 val_main_v35 val_main_v34 val_main_v30 val_main_v29 val_main_v28 val_main_v27 val_main_cst_10 val_main_v26 val_main_v25 val_main_cst_9 val_main_cst_8 val_main_v19 val_main_v18 val_main_cst_3 val_main_v16 val_main_v15 val_main_v14 val_main_v13 val_main_v12 val_main_v11 val_main_v10 val_main_v9 val_main_cst_2 val_main_v8 val_main_v7 val_main_v6 val_main_v5 val_main_cst_1 val_main_v4 val_main_v3 val_main_cst_0 val_main_v2 val_main_v1 val_main_cst val_main_v0
  pointwise
  simp only [Fin.sum_univ_one]

theorem dg_eq (c : Fin 1024) : Cert.LossHeadRefIdeal.Read.val_main_v36 (F := Ideal) X G T (ix1 c) = dg X T (fun k => G (ix1 k)) c := by
  unfold dg dy
  simp only [← dy_ref]
  unfold err RmsRow.hat RmsRow.rs RmsRow.ms
  unfold val_main_v36 val_main_cst_12 val_main_v33 val_main_v32 val_main_cst_11 val_main_v31 val_main_v30 val_main_v29 val_main_v28 val_main_v27 val_main_cst_10 val_main_v26 val_main_v25 val_main_cst_9 val_main_cst_8 val_main_v19 val_main_v18 val_main_cst_3 val_main_v16 val_main_v15 val_main_v14 val_main_v13 val_main_v12 val_main_v11 val_main_v7 val_main_v6 val_main_v5 val_main_cst_1 val_main_v4 val_main_v3 val_main_cst_0 val_main_v2 val_main_v1 val_main_cst val_main_v0
  pointwise
  simp only [Fin.sum_univ_one]
  exact Finset.sum_congr rfl fun n _ => mul_comm (_ : EReal) _

end Ref

end Cert.LossHeadIdeal.Hand

end
-- ==== Proof.LossHeadPair.lean ====
/- What the two programs of LossHead leave. -/
module

public import proofs.«01_k».proof.Defs
public import proofs.«01_k».proof.Proof.Gen.LossHead.Frame
public import proofs.«01_k».proof.Proof.Gen.LossHeadIdeal.Frame
public import proofs.«01_k».proof.Proof.LossHeadV
public import proofs.«01_k».proof.Proof.Gen.LossHeadRefIdeal.Read
public import proofs.«01_k».proof.Proof.Gen.LossHeadRefIdeal.Run
public import proofs.«01_k».proof.Proof.Gen.LossHeadRefIdeal.Read

@[expose] public section

noncomputable section

namespace Cert.LossHeadPair

open Idealize.ShloMosaic Idealize.ShloMosaic.TcCoe Idealize.SL.Sem

theorem frame : @Cert.quiescent_LossHead Cert.LossHead.Gen.facts := fun m ρ _ => Cert.LossHead.Gen.frame m ρ

theorem frame_ideal : @Cert.quiescent_LossHeadIdeal Cert.LossHeadIdeal.Gen.facts := fun m ρ _ => Cert.LossHeadIdeal.Gen.frame m ρ

theorem frame_ref : @Cert.quiescent_LossHeadRefIdeal Cert.LossHeadRefIdeal.Gen.facts := fun m ρ _ =>
  (θ_run _ _ _).mono (fun r h => ⟨fun c => (h c).2.2.2, sem_eq_zero_of_no_sems rfl r.2⟩) (Cert.LossHeadRefIdeal.Value.run m ρ)

theorem algebraic : @Cert.algebraic_LossHeadIdeal_LossHeadRefIdeal Cert.LossHeadIdeal.Gen.facts Cert.LossHeadRefIdeal.Gen.facts := by
  pair_intro
  · run_from Cert.LossHeadIdeal.Gen.run_main m g
    · exact Cert.LossHeadIdeal.Gen.W_main_arg1 m _ c
  · run_from Cert.LossHeadRefIdeal.Value.run m' g'
    · rw [Cert.LossHeadRefIdeal.Read.val_main_v24_eq]
      funext j
      rw [Cert.LossHeadIdeal.Hand.tail3]
      exact Cert.LossHeadIdeal.Hand.loss_eq _ _ _ _
    · rw [Cert.LossHeadRefIdeal.Read.val_main_v50_eq]
      obtain ⟨e0, e1, e2⟩ := hagree c
      rw [e0, e1, e2]
      funext j
      idx_vars j
      rw [Cert.LossHeadIdeal.Hand.final4]
      exact Cert.LossHeadIdeal.Hand.dx_eq _ _ _ _ _
    · rw [Cert.LossHeadRefIdeal.Read.val_main_v36_eq]
      funext j
      idx_vars j
      rw [Cert.LossHeadIdeal.Hand.tail4]
      exact Cert.LossHeadIdeal.Hand.dg_eq _ _ _ _

end Cert.LossHeadPair

end
-- ==== Proof.FfnDhV.lean ====
/- The gradient through two products and the norm before them, row band by row band. -/
module

public import proofs.«01_k».proof.Proof.Held
public import proofs.«01_k».proof.Proof.Gen.FfnDhIdeal.Value
public import proofs.«01_k».proof.Proof.Gen.FfnDhRefIdeal.Read
public import proofs.«01_k».proof.Proof.RmsRow
public import Idealize.ShloMosaic.Lib.Pointwise
public import Idealize.ShloMosaic.Lib.Pipeline.ReadBack
public import Idealize.ShloMosaic.Lib.Pipeline.ValueKit

@[expose] public section

set_option maxRecDepth 16384

noncomputable section

namespace Cert.FfnDhIdeal.Hand

open Idealize.ShloMosaic Idealize.ShloMosaic.TcCoe Idealize.SL.Sem
open Cert.Held Cert.FfnDhIdeal Cert.FfnDhIdeal.Gen
open Cert.FfnDhRefIdeal.Read

/-- The cotangent of the normed rows: rows of `A` and of `B` against rows of the two weights. -/
def dh {N : ℕ} (A B : (⟨2, ![N, 2816]⟩ : Shape).Idx → EReal) (W U : S1024x2816.Idx → EReal) (n : Fin N) (c : Fin 1024) : EReal :=
  (∑ k, A (ix2 n k) * W (ix2 c k)) + ∑ k, B (ix2 n k) * U (ix2 c k)

/-- The two weights lie side by side in one array. -/
def lo (W : S1024x5632.Idx → EReal) : S1024x2816.Idx → EReal := fun y => W (ix2 (y 0) ⟨(y 1).val, lt_trans (y 1).isLt (by decide)⟩)
def hi (W : S1024x5632.Idx → EReal) : S1024x2816.Idx → EReal := fun y => W (ix2 (y 0) ⟨2816 + (y 1).val, Nat.add_lt_add_left (y 1).isLt 2816⟩)

/-- A row's gradient, and the norm scale's over all rows. -/
def dx {N : ℕ} (X C : (⟨2, ![N, 1024]⟩ : Shape).Idx → EReal) (g : Fin 1024 → EReal) (A B : (⟨2, ![N, 2816]⟩ : Shape).Idx → EReal) (W U : S1024x2816.Idx → EReal) (n : Fin N) (c : Fin 1024) : EReal :=
  C (ix2 n c) + RmsRow.back (fun k => X (ix2 n k)) (fun k => dh A B W U n k * g k) c
def dg {N : ℕ} (X : (⟨2, ![N, 1024]⟩ : Shape).Idx → EReal) (A B : (⟨2, ![N, 2816]⟩ : Shape).Idx → EReal) (W U : S1024x2816.Idx → EReal) (c : Fin 1024) : EReal :=
  ∑ n, dh A B W U n c * RmsRow.hat (fun k => X (ix2 n k)) c

section Tile

variable (A B : Vec Ideal S512x2816 .bf16) (W U : Vec Ideal S1024x2816 .bf16) (X C : Vec Ideal S512x1024 .f32) (G : Vec Ideal S1x1024 .f32)

theorem dh_tile (n : Fin 512) (c : Fin 1024) : k0_pay3 (F := Ideal) A W B U (ix2 n c) = dh A B W U n c := by
  unfold dh
  pointwise [k0_pay3]

theorem hat_tile (n : Fin 512) (c : Fin 1024) : k0_pay5 (F := Ideal) X (ix2 n c) = RmsRow.hat (fun k => X (ix2 n k)) c := by
  unfold RmsRow.hat RmsRow.rs RmsRow.ms
  pointwise [k0_pay5, k0_pay4]

theorem dx_tile (n : Fin 512) (c : Fin 1024) :
    k0_pay1 (F := Ideal) (k0_pay3 A W B U) (k0_pay4 X) (k0_pay5 X) (k0_pay7 G) C (ix2 n c) = dx X C (fun k => G (ix2 0 k)) A B W U n c := by
  unfold dx RmsRow.back
  simp only [← hat_tile, ← dh_tile]
  unfold RmsRow.rs RmsRow.ms
  pointwise [k0_pay1, k0_pay4, k0_pay7]

theorem dg_tile (acc : Vec Ideal S1x1024 .f32) (u : Fin 1) (c : Fin 1024) : k0_pay6 (F := Ideal) A W B U X acc (ix2 u c) = acc (ix2 u c) + dg X A B W U c := by
  unfold dg
  simp only [← hat_tile, ← dh_tile]
  pointwise [k0_pay6]

end Tile

theorem zero (j : S1x1024.Idx) : k0_pay2 (F := Ideal) j = 0 := by pointwise [k0_pay2]

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] ∧ win0_6.index t = ![0, 1] ∧ win0_7.index t = ![t.val, 0] ∧ win0_8.index t = ![0, 0] :=
  (by decide +kernel : ∀ t : Fin grid0.N, _)

theorem lt8 (t : Fin cfg0.N) : t.val < 8 := lt_of_lt_of_eq t.isLt N_0

theorem blkX (c : Dev nD) (t : Fin cfg0.N) (n : Fin 512) (k : Fin 1024) :
    iblk m c 0 t (ix2 n k) = inp m c main_arg0 (ix2 ⟨t.val * 512 + n.val, by have := lt8 t; omega⟩ k) := by
  blk_ext! [iblk, V, idx t]
theorem blkC (c : Dev nD) (t : Fin cfg0.N) (n : Fin 512) (k : Fin 1024) :
    iblk m c 1 t (ix2 n k) = inp m c main_arg1 (ix2 ⟨t.val * 512 + n.val, by have := lt8 t; omega⟩ k) := by
  blk_ext! [iblk, V, idx t]
theorem blkG (c : Dev nD) (t : Fin cfg0.N) (k : Fin 1024) : iblk m c 2 t (ix2 0 k) = inp m c main_arg2 (ix1 k) := by
  have e : iblk m c 2 t = shapeCast S1x1024 (inp m c main_arg2) shapeCasts_S1024_S1x1024 := by
    blk_ext! [iblk, V, idx t]
  rw [e]
  pointwise
theorem blkA (c : Dev nD) (t : Fin cfg0.N) (n : Fin 512) (k : Fin 2816) :
    iblk m c 3 t (ix2 n k) = inp m c main_arg3 (ix2 ⟨t.val * 512 + n.val, by have := lt8 t; omega⟩ k) := by
  blk_ext! [iblk, V, idx t]
theorem blkB (c : Dev nD) (t : Fin cfg0.N) (n : Fin 512) (k : Fin 2816) :
    iblk m c 4 t (ix2 n k) = inp m c main_arg4 (ix2 ⟨t.val * 512 + n.val, by have := lt8 t; omega⟩ k) := by
  blk_ext! [iblk, V, idx t]
theorem blkW (c : Dev nD) (t : Fin cfg0.N) : iblk m c 5 t = lo (inp m c main_arg5) := by
  blk_ext! [iblk, V, idx t, lo]
theorem blkU (c : Dev nD) (t : Fin cfg0.N) : iblk m c 6 t = hi (inp m c main_arg5) := by
  blk_ext! [iblk, V, idx t, hi]

theorem dx_band (c : Dev nD) (t : Fin cfg0.N) (n : Fin 512) (k : Fin 1024) : (outsAt0 m c t.val t.isLt).1 (ix2 n k)
    = dx (inp m c main_arg0) (inp m c main_arg1) (fun k => inp m c main_arg2 (ix1 k)) (inp m c main_arg3) (inp m c main_arg4) (lo (inp m c main_arg5)) (hi (inp m c main_arg5))
      ⟨t.val * 512 + n.val, by have := lt8 t; omega⟩ k := by
  have e : (outsAt0 m c t.val t.isLt).1 (ix2 n k) = dx (iblk m c 0 t) (iblk m c 1 t) (fun k => iblk m c 2 t (ix2 0 k)) (iblk m c 3 t) (iblk m c 4 t) (iblk m c 5 t) (iblk m c 6 t) n k := by
    by_cases h : t.val % 8 = 0
    · rw [outsAt0_A m c t h]; frame_out
      exact dx_tile _ _ _ _ _ _ _ n k
    · rw [outsAt0_B m c t h]; frame_out
      exact dx_tile _ _ _ _ _ _ _ n k
  rw [e, blkW, blkU]
  unfold dx dh
  simp only [blkX, blkC, blkA, blkB, blkG]

theorem dg_A (c : Dev nD) (t : Fin cfg0.N) (h0 : t.val % 8 = 0) (u : Fin 1) (k : Fin 1024) :
    (outsAt0 m c t.val t.isLt).2 (ix2 u k) = 0 + dg (iblk m c 0 t) (iblk m c 3 t) (iblk m c 4 t) (lo (inp m c main_arg5)) (hi (inp m c main_arg5)) k := by
  rw [outsAt0_A m c t h0]; frame_out
  refine (dg_tile _ _ _ _ _ _ u k).trans ?_
  rw [blkW, blkU]
  rw [zero]

theorem dg_B (c : Dev nD) (t : Fin cfg0.N) (h0 : ¬t.val % 8 = 0) (u : Fin 1) (k : Fin 1024) :
    (outsAt0 m c t.val t.isLt).2 (ix2 u k) = (outsAt0 m c (t.val - 1) (by omega)).2 (ix2 u k) + dg (iblk m c 0 t) (iblk m c 3 t) (iblk m c 4 t) (lo (inp m c main_arg5)) (hi (inp m c main_arg5)) k := by
  rw [outsAt0_B m c t h0]; frame_out
  refine (dg_tile _ _ _ _ _ _ u k).trans ?_
  rw [blkW, blkU]

theorem final7 (c : Dev nD) : (dats m 0 c).arrAt 7 (cfgs 0).N
    = fun i : S4096x1024.Idx => dx (inp m c main_arg0) (inp m c main_arg1) (fun k => inp m c main_arg2 (ix1 k)) (inp m c main_arg3) (inp m c main_arg4) (lo (inp m c main_arg5)) (hi (inp m c main_arg5)) (i 0) (i 1) := by
  refine (dats m 0 c).arrAt_eq_of_covers 7 _ (by decide +kernel) fun t hf y => ?_
  blk_simp
  rw [after0_7]
  idx_vars y
  refine (dx_band m c t y0 y1).trans ?_
  generalize hF : (fun i : S4096x1024.Idx => dx (inp m c main_arg0) (inp m c main_arg1) (fun k => inp m c main_arg2 (ix1 k)) (inp m c main_arg3) (inp m c main_arg4) (lo (inp m c main_arg5)) (hi (inp m c main_arg5)) (i 0) (i 1)) = G
  refine (congrFun hF (ix2 _ _)).trans (Eq.trans ?_ (congrFun hF _).symm)
  clear hF
  blk_ext! [idx t]

theorem final8 (c : Dev nD) : (dats m 0 c).arrAt 8 (cfgs 0).N
    = fun j : S1x1024.Idx => dg (inp m c main_arg0) (inp m c main_arg3) (inp m c main_arg4) (lo (inp m c main_arg5)) (hi (inp m c main_arg5)) (j 1) := by
  refine (dats m 0 c).arrAt_eq_of_after_last 8 t0_7 (by decide +kernel) _ fun j => ?_
  blk_simp
  rw [after0_8, Pipeline.eq_sum_fin_of_reset_step_apply_last (fun n h => (outsAt0 m c n h).2) 8 (fun _ => 0)
    (fun p j => dg (iblk m c 0 p) (iblk m c 3 p) (iblk m c 4 p) (lo (inp m c main_arg5)) (hi (inp m c main_arg5)) (j 1))
    (fun t h j => by idx_vars j; exact dg_A m c t h _ _)
    (fun t h j => by idx_vars j; exact dg_B m c t h _ _)
    (le_of_eq N_0) t0_7 rfl j, zero_add]
  unfold dg dh
  refine Fin.sum_mul_add_congr fun t n hl => ?_
  simp only [blkX, blkA, blkB]

theorem dh_eq (A B : FVec Ideal S4096x2816 .bf16) (W : FVec Ideal S1024x5632 .bf16) (n : Fin 4096) (c : Fin 1024) : val_main_v21 (F := Ideal) A B W (ix2 n c) = dh A B (lo W) (hi W) n c := by
  unfold val_main_v21 val_main_v19 val_main_v2 val_main_v1 val_main_v0 dh lo hi
  pointwise

theorem dx_eq (X C : FVec Ideal S4096x1024 .f32) (G : FVec Ideal S1024 .f32) (A B : FVec Ideal S4096x2816 .bf16) (W : FVec Ideal S1024x5632 .bf16) (n : Fin 4096) (c : Fin 1024) :
    val_main_v42 (F := Ideal) X C G A B W (ix2 n c) = dx X C (fun k => G (ix1 k)) A B (lo W) (hi W) n c := by
  unfold dx
  rw [RmsRow.back_eq]
  unfold RmsRow.square RmsRow.rs RmsRow.ms
  simp only [← dh_eq]
  unfold val_main_v42 val_main_v41 val_main_v40 val_main_v39 val_main_v38 val_main_v37 val_main_cst_7 val_main_v36 val_main_v35 val_main_cst_6 val_main_v34 val_main_v33 val_main_v32 val_main_v31 val_main_v30 val_main_v29 val_main_cst_5 val_main_v28 val_main_v26 val_main_v25 val_main_v16 val_main_v13 val_main_v12 val_main_cst_2 val_main_v11 val_main_v10 val_main_v9 val_main_v8 val_main_cst_1 val_main_v7 val_main_v6 val_main_cst_0 val_main_v5 val_main_v4 val_main_cst val_main_v3
  generalize val_main_v21 (F := Ideal) A B W = D
  pointwise
  simp only [Fin.sum_univ_one, add_assoc]

theorem dg_eq (X : FVec Ideal S4096x1024 .f32) (A B : FVec Ideal S4096x2816 .bf16) (W : FVec Ideal S1024x5632 .bf16) (u : Fin 1) (c : Fin 1024) :
    val_main_v43 (F := Ideal) X A B W (ix2 u c) = dg X A B (lo W) (hi W) c := by
  unfold dg RmsRow.hat RmsRow.rs RmsRow.ms
  simp only [← dh_eq]
  unfold val_main_v43 val_main_v27 val_main_cst_4 val_main_v24 val_main_v23 val_main_cst_3 val_main_v22 val_main_v15 val_main_v14 val_main_v10 val_main_v9 val_main_v8 val_main_cst_1 val_main_v7 val_main_v6 val_main_cst_0 val_main_v5 val_main_v4 val_main_cst val_main_v3
  generalize val_main_v21 (F := Ideal) A B W = D
  pointwise
  simp only [Fin.sum_univ_one, mul_comm]

end Cert.FfnDhIdeal.Hand

end
-- ==== Proof.FfnDhPair.lean ====
/- What the two programs of FfnDh leave. -/
module

public import proofs.«01_k».proof.Defs
public import proofs.«01_k».proof.Proof.Gen.FfnDh.Frame
public import proofs.«01_k».proof.Proof.Gen.FfnDhIdeal.Frame
public import proofs.«01_k».proof.Proof.FfnDhV
public import proofs.«01_k».proof.Proof.Gen.FfnDhIdeal.Value
public import proofs.«01_k».proof.Proof.Gen.FfnDhRefIdeal.Run
public import proofs.«01_k».proof.Proof.Gen.FfnDhRefIdeal.Read

@[expose] public section

noncomputable section

namespace Cert.FfnDhPair

open Idealize.ShloMosaic Idealize.ShloMosaic.TcCoe Idealize.SL.Sem

theorem frame : @Cert.quiescent_FfnDh Cert.FfnDh.Gen.facts := fun m ρ _ => Cert.FfnDh.Gen.frame m ρ

theorem frame_ideal : @Cert.quiescent_FfnDhIdeal Cert.FfnDhIdeal.Gen.facts := fun m ρ _ => Cert.FfnDhIdeal.Gen.frame m ρ

theorem frame_ref : @Cert.quiescent_FfnDhRefIdeal Cert.FfnDhRefIdeal.Gen.facts := fun m ρ _ =>
  (θ_run _ _ _).mono (fun r h => ⟨fun c => (h c).2.2, sem_eq_zero_of_no_sems rfl r.2⟩) (Cert.FfnDhRefIdeal.Value.run m ρ)

theorem algebraic : @Cert.algebraic_FfnDhIdeal_FfnDhRefIdeal Cert.FfnDhIdeal.Gen.facts Cert.FfnDhRefIdeal.Gen.facts := by
  pair_intro
  · run_from Cert.FfnDhIdeal.Gen.run_main m g
  · run_from Cert.FfnDhRefIdeal.Value.run m' g'
    · rw [Cert.FfnDhRefIdeal.Read.val_main_v42_eq]
      obtain ⟨e0, e1, e2, e3, e4, e5⟩ := hagree c
      rw [e0, e1, e2, e3, e4, e5]
      funext j
      idx_vars j
      rw [Cert.FfnDhIdeal.Hand.final7]
      exact Cert.FfnDhIdeal.Hand.dx_eq _ _ _ _ _ _ _ _
    · rw [Cert.FfnDhRefIdeal.Read.val_main_v43_eq]
      obtain ⟨-, -, -, e3, e4, -⟩ := hagree c
      rw [e3, e4]
      funext j
      idx_vars j
      rw [Cert.FfnDhIdeal.Hand.final8]
      exact Cert.FfnDhIdeal.Hand.dg_eq _ _ _ _ _ _

end Cert.FfnDhPair

end
-- ==== Proof.MixDhV.lean ====
/- The gradient through a product and the norm before it, row band by row band. -/
module

public import proofs.«01_k».proof.Proof.Held
public import proofs.«01_k».proof.Proof.Gen.MixDhIdeal.Value
public import proofs.«01_k».proof.Proof.Gen.MixDhRefIdeal.Read
public import proofs.«01_k».proof.Proof.RmsRow
public import Idealize.ShloMosaic.Lib.Pointwise
public import Idealize.ShloMosaic.Lib.Pipeline.ReadBack
public import Idealize.ShloMosaic.Lib.Pipeline.ValueKit

@[expose] public section

set_option maxRecDepth 16384

noncomputable section

namespace Cert.MixDhIdeal.Hand

open Idealize.ShloMosaic Idealize.ShloMosaic.TcCoe Idealize.SL.Sem
open Cert.Held Cert.MixDhIdeal Cert.MixDhIdeal.Gen
open Cert.MixDhRefIdeal.Read

/-- The cotangent of the normed rows: a row of `A` against a row of `W`. -/
def dh {N : ℕ} (A : (⟨2, ![N, 2048]⟩ : Shape).Idx → EReal) (W : S1024x2048.Idx → EReal) (n : Fin N) (c : Fin 1024) : EReal := ∑ k, A (ix2 n k) * W (ix2 c k)

/-- A row's gradient, and the norm scale's over all rows. -/
def dx {N : ℕ} (X C : (⟨2, ![N, 1024]⟩ : Shape).Idx → EReal) (g : Fin 1024 → EReal) (A : (⟨2, ![N, 2048]⟩ : Shape).Idx → EReal) (W : S1024x2048.Idx → EReal) (n : Fin N) (c : Fin 1024) : EReal :=
  C (ix2 n c) + RmsRow.back (fun k => X (ix2 n k)) (fun k => dh A W n k * g k) c
def dg {N : ℕ} (X : (⟨2, ![N, 1024]⟩ : Shape).Idx → EReal) (A : (⟨2, ![N, 2048]⟩ : Shape).Idx → EReal) (W : S1024x2048.Idx → EReal) (c : Fin 1024) : EReal :=
  ∑ n, dh A W n c * RmsRow.hat (fun k => X (ix2 n k)) c

section Tile

variable (A : Vec Ideal S512x2048 .bf16) (W : Vec Ideal S1024x2048 .bf16) (X C : Vec Ideal S512x1024 .f32) (G : Vec Ideal S1x1024 .f32)

theorem dh_tile (n : Fin 512) (c : Fin 1024) : k0_pay3 (F := Ideal) A W (ix2 n c) = dh A W n c := by
  unfold dh
  pointwise [k0_pay3]

theorem hat_tile (n : Fin 512) (c : Fin 1024) : k0_pay5 (F := Ideal) X (ix2 n c) = RmsRow.hat (fun k => X (ix2 n k)) c := by
  unfold RmsRow.hat RmsRow.rs RmsRow.ms
  pointwise [k0_pay5, k0_pay4]

theorem dx_tile (n : Fin 512) (c : Fin 1024) :
    k0_pay1 (F := Ideal) (k0_pay4 X) (k0_pay5 X) (k0_pay7 A W G) C (k0_pay8 A W X G) (ix2 n c) = dx X C (fun k => G (ix2 0 k)) A W n c := by
  unfold dx RmsRow.back
  simp only [← hat_tile, ← dh_tile]
  unfold RmsRow.rs RmsRow.ms
  pointwise [k0_pay1, k0_pay4, k0_pay7, k0_pay8]

theorem dg_tile (acc : Vec Ideal S1x1024 .f32) (u : Fin 1) (c : Fin 1024) : k0_pay6 (F := Ideal) A W X acc (ix2 u c) = acc (ix2 u c) + dg X A W c := by
  unfold dg
  simp only [← hat_tile, ← dh_tile]
  pointwise [k0_pay6]

end Tile

theorem zero (j : S1x1024.Idx) : k0_pay2 (F := Ideal) j = 0 := by pointwise [k0_pay2]

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![0, 0] :=
  (by decide +kernel : ∀ t : Fin grid0.N, _)

theorem lt8 (t : Fin cfg0.N) : t.val < 8 := lt_of_lt_of_eq t.isLt N_0

theorem blkX (c : Dev nD) (t : Fin cfg0.N) (n : Fin 512) (k : Fin 1024) :
    iblk m c 0 t (ix2 n k) = inp m c main_arg0 (ix2 ⟨t.val * 512 + n.val, by have := lt8 t; omega⟩ k) := by
  blk_ext! [iblk, V, idx t]
theorem blkC (c : Dev nD) (t : Fin cfg0.N) (n : Fin 512) (k : Fin 1024) :
    iblk m c 1 t (ix2 n k) = inp m c main_arg1 (ix2 ⟨t.val * 512 + n.val, by have := lt8 t; omega⟩ k) := by
  blk_ext! [iblk, V, idx t]
theorem blkG (c : Dev nD) (t : Fin cfg0.N) (k : Fin 1024) : iblk m c 2 t (ix2 0 k) = inp m c main_arg2 (ix1 k) := by
  have e : iblk m c 2 t = shapeCast S1x1024 (inp m c main_arg2) shapeCasts_S1024_S1x1024 := by
    blk_ext! [iblk, V, idx t]
  rw [e]
  pointwise
theorem blkA (c : Dev nD) (t : Fin cfg0.N) (n : Fin 512) (k : Fin 2048) :
    iblk m c 3 t (ix2 n k) = inp m c main_arg3 (ix2 ⟨t.val * 512 + n.val, by have := lt8 t; omega⟩ k) := by
  blk_ext! [iblk, V, idx t]
theorem blkW (c : Dev nD) (t : Fin cfg0.N) : iblk m c 4 t = inp m c main_arg4 := by
  blk_ext! [iblk, V, idx t]

theorem dx_band (c : Dev nD) (t : Fin cfg0.N) (n : Fin 512) (k : Fin 1024) : (outsAt0 m c t.val t.isLt).1 (ix2 n k)
    = dx (inp m c main_arg0) (inp m c main_arg1) (fun k => inp m c main_arg2 (ix1 k)) (inp m c main_arg3) (inp m c main_arg4)
      ⟨t.val * 512 + n.val, by have := lt8 t; omega⟩ k := by
  have e : (outsAt0 m c t.val t.isLt).1 (ix2 n k) = dx (iblk m c 0 t) (iblk m c 1 t) (fun k => iblk m c 2 t (ix2 0 k)) (iblk m c 3 t) (iblk m c 4 t) n k := by
    by_cases h : t.val % 8 = 0
    · rw [outsAt0_A m c t h]; frame_out
      exact dx_tile _ _ _ _ _ n k
    · rw [outsAt0_B m c t h]; frame_out
      exact dx_tile _ _ _ _ _ n k
  rw [e, blkW]
  unfold dx dh
  simp only [blkX, blkC, blkA, blkG]

theorem dg_A (c : Dev nD) (t : Fin cfg0.N) (h0 : t.val % 8 = 0) (u : Fin 1) (k : Fin 1024) :
    (outsAt0 m c t.val t.isLt).2 (ix2 u k) = 0 + dg (iblk m c 0 t) (iblk m c 3 t) (inp m c main_arg4) k := by
  rw [outsAt0_A m c t h0]; frame_out
  refine (dg_tile _ _ _ _ u k).trans ?_
  rw [blkW]
  rw [zero]

theorem dg_B (c : Dev nD) (t : Fin cfg0.N) (h0 : ¬t.val % 8 = 0) (u : Fin 1) (k : Fin 1024) :
    (outsAt0 m c t.val t.isLt).2 (ix2 u k) = (outsAt0 m c (t.val - 1) (by omega)).2 (ix2 u k) + dg (iblk m c 0 t) (iblk m c 3 t) (inp m c main_arg4) k := by
  rw [outsAt0_B m c t h0]; frame_out
  refine (dg_tile _ _ _ _ u k).trans ?_
  rw [blkW]

theorem final5 (c : Dev nD) : (dats m 0 c).arrAt 5 (cfgs 0).N
    = fun i : S4096x1024.Idx => dx (inp m c main_arg0) (inp m c main_arg1) (fun k => inp m c main_arg2 (ix1 k)) (inp m c main_arg3) (inp m c main_arg4) (i 0) (i 1) := by
  refine (dats m 0 c).arrAt_eq_of_covers 5 _ (by decide +kernel) fun t hf y => ?_
  blk_simp
  rw [after0_5]
  idx_vars y
  refine (dx_band m c t y0 y1).trans ?_
  generalize hF : (fun i : S4096x1024.Idx => dx (inp m c main_arg0) (inp m c main_arg1) (fun k => inp m c main_arg2 (ix1 k)) (inp m c main_arg3) (inp m c main_arg4) (i 0) (i 1)) = G
  refine (congrFun hF (ix2 _ _)).trans (Eq.trans ?_ (congrFun hF _).symm)
  clear hF
  blk_ext! [idx t]

theorem final6 (c : Dev nD) : (dats m 0 c).arrAt 6 (cfgs 0).N
    = fun j : S1x1024.Idx => dg (inp m c main_arg0) (inp m c main_arg3) (inp m c main_arg4) (j 1) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun p j => dg (iblk m c 0 p) (iblk m c 3 p) (inp m c main_arg4) (j 1))
    (fun t h j => by idx_vars j; exact dg_A m c t h _ _)
    (fun t h j => by idx_vars j; exact dg_B m c t h _ _)
    (le_of_eq N_0) t0_7 rfl j, zero_add]
  unfold dg dh
  refine Fin.sum_mul_add_congr fun t n hl => ?_
  simp only [blkX, blkA]

theorem dx_eq (X C : FVec Ideal S4096x1024 .f32) (G : FVec Ideal S1024 .f32) (A : FVec Ideal S4096x2048 .bf16) (W : FVec Ideal S1024x2048 .bf16) (n : Fin 4096) (c : Fin 1024) :
    Cert.MixDhRefIdeal.Read.val_main_v40 (F := Ideal) X C G A W (ix2 n c) = dx X C (fun k => G (ix1 k)) A W n c := by
  unfold dx
  rw [RmsRow.back_eq]
  unfold RmsRow.square RmsRow.rs RmsRow.ms dh
  unfold val_main_v40 val_main_v39 val_main_v38 val_main_v37 val_main_v36 val_main_v35 val_main_cst_7 val_main_v34 val_main_v33 val_main_cst_6 val_main_v32 val_main_v31 val_main_v30 val_main_v29 val_main_v28 val_main_v27 val_main_cst_5 val_main_v26 val_main_v24 val_main_v23 val_main_v19 val_main_v17 val_main_v14 val_main_v11 val_main_v10 val_main_cst_2 val_main_v9 val_main_v8 val_main_v7 val_main_v6 val_main_cst_1 val_main_v5 val_main_v4 val_main_cst_0 val_main_v3 val_main_v2 val_main_cst val_main_v1 val_main_v0
  pointwise
  simp only [Fin.sum_univ_one, add_assoc]

theorem dg_eq (X : FVec Ideal S4096x1024 .f32) (A : FVec Ideal S4096x2048 .bf16) (W : FVec Ideal S1024x2048 .bf16) (u : Fin 1) (c : Fin 1024) :
    Cert.MixDhRefIdeal.Read.val_main_v41 (F := Ideal) X A W (ix2 u c) = dg X A W c := by
  unfold dg RmsRow.hat RmsRow.rs RmsRow.ms dh
  rw [← Cert.MixDhRefIdeal.Read.val_main_v41_eq]
  pointwise
  simp only [Fin.sum_univ_one, mul_comm]

end Cert.MixDhIdeal.Hand

end
-- ==== Proof.MixDhPair.lean ====
/- What the two programs of MixDh leave. -/
module

public import proofs.«01_k».proof.Defs
public import proofs.«01_k».proof.Proof.Gen.MixDh.Frame
public import proofs.«01_k».proof.Proof.Gen.MixDhIdeal.Frame
public import proofs.«01_k».proof.Proof.MixDhV
public import proofs.«01_k».proof.Proof.Gen.MixDhIdeal.Value
public import proofs.«01_k».proof.Proof.Gen.MixDhRefIdeal.Run
public import proofs.«01_k».proof.Proof.Gen.MixDhRefIdeal.Read

@[expose] public section

noncomputable section

namespace Cert.MixDhPair

open Idealize.ShloMosaic Idealize.ShloMosaic.TcCoe Idealize.SL.Sem

theorem frame : @Cert.quiescent_MixDh Cert.MixDh.Gen.facts := fun m ρ _ => Cert.MixDh.Gen.frame m ρ

theorem frame_ideal : @Cert.quiescent_MixDhIdeal Cert.MixDhIdeal.Gen.facts := fun m ρ _ => Cert.MixDhIdeal.Gen.frame m ρ

theorem frame_ref : @Cert.quiescent_MixDhRefIdeal Cert.MixDhRefIdeal.Gen.facts := fun m ρ _ =>
  (θ_run _ _ _).mono (fun r h => ⟨fun c => (h c).2.2, sem_eq_zero_of_no_sems rfl r.2⟩) (Cert.MixDhRefIdeal.Value.run m ρ)

theorem algebraic : @Cert.algebraic_MixDhIdeal_MixDhRefIdeal Cert.MixDhIdeal.Gen.facts Cert.MixDhRefIdeal.Gen.facts := by
  pair_intro
  · run_from Cert.MixDhIdeal.Gen.run_main m g
  · run_from Cert.MixDhRefIdeal.Value.run m' g'
    · rw [Cert.MixDhRefIdeal.Read.val_main_v40_eq]
      obtain ⟨e0, e1, e2, e3, e4⟩ := hagree c
      rw [e0, e1, e2, e3, e4]
      funext j
      idx_vars j
      rw [Cert.MixDhIdeal.Hand.final5]
      exact Cert.MixDhIdeal.Hand.dx_eq _ _ _ _ _ _ _
    · rw [Cert.MixDhRefIdeal.Read.val_main_v41_eq]
      funext j
      idx_vars j
      rw [Cert.MixDhIdeal.Hand.final6]
      exact Cert.MixDhIdeal.Hand.dg_eq _ _ _ _ _

end Cert.MixDhPair

end
-- ==== Proof.NormMemV.lean ====
module

public import proofs.«01_k».proof.Proof.Gen.NormMemIdeal.Value
public import proofs.«01_k».proof.Proof.Gen.NormMemRefIdeal.Read
public import proofs.«01_k».proof.Proof.Words
public import proofs.«01_k».proof.Proof.Norm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormMemIdeal.Result

open Cert.NormMemIdeal Cert.NormMemIdeal.Gen

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

theorem blk0 (c : Dev nD) : iblk m c 0 t0_0 = m ((c : Thread nD τ).loc main_arg0) := by
  blk_ext! [iblk, V, idx t0_0]

theorem blk1 (c : Dev nD) : iblk m c 1 t0_0 = m ((c : Thread nD τ).loc main_arg1) := by
  blk_ext! [iblk, V, idx t0_0]

theorem blk2 (c : Dev nD) : iblk m c 2 t0_0 = shapeCast S1x1024 (m ((c : Thread nD τ).loc main_arg2)) shapeCasts_S1024_S1x1024 := by
  blk_ext! [iblk, V, idx t0_0]

theorem final3 (c : Dev nD) (j) : (dats m 0 c).arrAt 3 (cfgs 0).N j
    = k0_pay5 (F := Ideal) (m ((c : Thread nD τ).loc main_arg1)) (m ((c : Thread nD τ).loc main_arg0)) (shapeCast S1x1024 (m ((c : Thread nD τ).loc main_arg2)) shapeCasts_S1024_S1x1024) j := by
  revert j
  refine fun j => congrFun ((dats m 0 c).arrAt_eq_of_after_last 3 t0_0 (by decide +kernel) _ fun j => ?_) j
  blk_simp
  rw [after0_3]
  unfold Gen.outsAt0
  frame_out
  rw [blk0, blk1, blk2]

theorem final4 (c : Dev nD) (j) : (dats m 0 c).arrAt 4 (cfgs 0).N j
    = k0_pay4 (F := Ideal) (m ((c : Thread nD τ).loc main_arg1)) (m ((c : Thread nD τ).loc main_arg0)) (k0_pay1 (F := Ideal)) j := by
  revert j
  refine fun j => congrFun ((dats m 0 c).arrAt_eq_of_after_last 4 t0_0 (by decide +kernel) _ fun j => ?_) j
  blk_simp
  rw [after0_4]
  unfold Gen.outsAt0
  frame_out
  rw [blk0, blk1]

theorem dx_eq (X C : FVec Ideal S256x1024 .f32) (G : FVec Ideal S1024 .f32) (j) :
    k0_pay5 (F := Ideal) X C (shapeCast S1x1024 G shapeCasts_S1024_S1x1024) j = Cert.NormMemRefIdeal.Read.val_main_v35 (F := Ideal) C X G j := by
  rw [← Cert.NormMemRefIdeal.Read.val_main_v35_eq]
  pointwise [k0_pay5, k0_pay3, k0_pay2]
  simp only [Fin.sum_univ_one, Words.w_1024, Words.w_eps, Words.w_neg_half]
  idx_vars j
  exact Norm.rms_grad (fun k => X (ix2 _ k)) (fun k => C (ix2 _ k) * G (ix1 k)) _ (by norm_num) Words.eps_pos (-1 / 2) rfl rfl rfl rfl

theorem dg_eq (X C : FVec Ideal S256x1024 .f32) (j) :
    k0_pay4 (F := Ideal) X C (k0_pay1 (F := Ideal)) j = Cert.NormMemRefIdeal.Read.val_main_v36 (F := Ideal) C X j := by
  rw [← Cert.NormMemRefIdeal.Read.val_main_v36_eq]
  pointwise [k0_pay4, k0_pay3, k0_pay2, k0_pay1]
  simp only [Fin.sum_univ_one, mul_comm]

end Cert.NormMemIdeal.Result

end
-- ==== Proof.NormMemPair.lean ====
/- What the two programs of NormMem leave. -/
module

public import proofs.«01_k».proof.Defs
public import proofs.«01_k».proof.Proof.Gen.NormMem.Frame
public import proofs.«01_k».proof.Proof.Gen.NormMemIdeal.Frame
public import proofs.«01_k».proof.Proof.Gen.NormMemIdeal.Value
public import proofs.«01_k».proof.Proof.Gen.NormMemRefIdeal.Run
public import proofs.«01_k».proof.Proof.Gen.NormMemRefIdeal.Read
public import proofs.«01_k».proof.Proof.NormMemV

@[expose] public section

noncomputable section

namespace Cert.NormMemPair

open Idealize.ShloMosaic Idealize.ShloMosaic.TcCoe Idealize.SL.Sem

theorem frame : @Cert.quiescent_NormMem Cert.NormMem.Gen.facts := fun m ρ _ => Cert.NormMem.Gen.frame m ρ

theorem frame_ideal : @Cert.quiescent_NormMemIdeal Cert.NormMemIdeal.Gen.facts := fun m ρ _ => Cert.NormMemIdeal.Gen.frame m ρ

theorem frame_ref : @Cert.quiescent_NormMemRefIdeal Cert.NormMemRefIdeal.Gen.facts := fun m ρ _ =>
  (θ_run _ _ _).mono (fun r h => ⟨fun c => (h c).2.2, sem_eq_zero_of_no_sems rfl r.2⟩) (Cert.NormMemRefIdeal.Value.run m ρ)

/-- The gradient of an RMS norm: the kernel's closed form is the reference's gradient. -/
theorem algebraic : @Cert.algebraic_NormMemIdeal_NormMemRefIdeal Cert.NormMemIdeal.Gen.facts Cert.NormMemRefIdeal.Gen.facts := by
  pair_intro
  · run_from Cert.NormMemIdeal.Gen.run_main m g
  · run_from Cert.NormMemRefIdeal.Value.run m' g'
    · rw [Cert.NormMemRefIdeal.Read.val_main_v35_eq]
      funext j
      rw [Cert.NormMemIdeal.Result.final3, Cert.NormMemIdeal.Result.dx_eq]
    · rw [Cert.NormMemRefIdeal.Read.val_main_v36_eq]
      funext j
      rw [Cert.NormMemIdeal.Result.final4, Cert.NormMemIdeal.Result.dg_eq]

end Cert.NormMemPair

end
-- ==== Proof.AttnFwdV.lean ====
/- Softmax attention head by head, and the reference's. -/
module

public import proofs.«01_k».proof.Proof.AttnV
public import proofs.«01_k».proof.Proof.AttnFinal
public import proofs.«01_k».proof.Proof.Gen.AttnFwdIdeal.Value
public import proofs.«01_k».proof.Proof.Gen.AttnFwdRefIdeal.Read
public import Idealize.ShloMosaic.Lib.Pointwise
public import Idealize.ShloMosaic.Lib.Pipeline.ValueKit

@[expose] public section

noncomputable section

namespace Cert.Attn

open Idealize.ShloMosaic

/-- The attention's output: the values weighed by a row's probabilities. -/
def OUT {N : ℕ} (Q : (⟨2, ![N, 1024]⟩ : Shape).Idx → EReal) (K V : (⟨2, ![256, 1024]⟩ : Shape).Idx → EReal) (n : Fin N) (c : Fin 1024) : EReal :=
  ∑ m, prob (row Q (head c) n) (row K (head c)) m * V (ix2 m c)

end Cert.Attn

namespace Cert.AttnFwdIdeal.Hand

open Idealize.ShloMosaic Idealize.ShloMosaic.TcCoe Idealize.SL.Sem
open Cert.AttnFwdIdeal Cert.AttnFwdIdeal.Gen Cert.Attn
open Cert.AttnRefIdeal.Read (Keys Vals)
open Cert.AttnIdeal.Hand (part part_ix)

section Head

variable (q : Vec Ideal S512x256 .bf16) (k v : Vec Ideal S256x256 .f32)

/-- One head of a tile. -/
def mix (n : Fin 512) (x : Fin 256) : EReal := ∑ m, prob (fun x => q (ix2 n x)) (fun m x => k (ix2 m x)) m * v (ix2 m x)

theorem head0 (n : Fin 512) (x : Fin 256) : k0_pay2 (F := Ideal) q k v (ix2 n x) = mix q k v n x := by
  unfold mix prob weight top score
  pointwise [k0_pay2]
theorem head1 (n : Fin 512) (x : Fin 256) : k0_pay4 (F := Ideal) (k0_pay3 q k) v (ix2 n x) = mix q k v n x := by
  unfold mix prob weight top score
  pointwise [k0_pay4, k0_pay3]
theorem head2 (n : Fin 512) (x : Fin 256) : k0_pay5 (F := Ideal) q k v (ix2 n x) = mix q k v n x := by
  unfold mix prob weight top score
  pointwise [k0_pay5]
theorem head3 (n : Fin 512) (x : Fin 256) : k0_pay1 (F := Ideal) (k0_pay6 q k) (k0_pay7 q k) v (ix2 n x) = mix q k v n x := by
  unfold mix prob weight top score
  pointwise [k0_pay1, k0_pay6, k0_pay7]

end Head

/-- A head's lanes of the tile are the head's output. -/
theorem mix_part {Q : Vec Ideal S512x1024 .bf16} {K V : Vec Ideal S256x1024 .f32} (h : Fin 4) {k : Fin 1024} {x : Fin 256} (e : k.val = h.val * 256 + x.val) (n : Fin 512) (i1 i2 i3) :
    mix (part Q h i1) (part K h i2) (part V h i3) n x = OUT Q K V n k := by
  obtain rfl : k = lane h x := Fin.ext e
  unfold mix OUT
  rw [head_lane]
  exact Finset.sum_congr rfl fun m _ => congrArg₂ (· * ·) (congrArg₂ (fun a b => prob a b m) (funext fun x => part_ix Q h i1 n x) (funext fun m => funext fun x => part_ix K h i2 m x)) (part_ix V h i3 m x)

theorem tile (Q : Vec Ideal S512x1024 .bf16) (K V : Vec Ideal S256x1024 .f32) (n : Fin 512) (k : Fin 1024) : out0_3 (F := Ideal) Q K V (ix2 n k) = OUT Q K V n k := by
  unfold out0_3
  canon_tiles x h <;> idx_vars x <;> obtain rfl : n = x0 := Fin.ext h0
  · exact (head3 _ _ _ n x1).trans (mix_part 3 h1 n _ _ _)
  · exact (head2 _ _ _ n x1).trans (mix_part 2 h1 n _ _ _)
  · exact (head1 _ _ _ n x1).trans (mix_part 1 h1 n _ _ _)
  · exact (head0 _ _ _ n x1).trans (mix_part 0 (h1.trans (Nat.zero_add _).symm) n _ _ _)

variable (m : (ℓ : Loc nD τ sig) → Buf (Elt Ideal) ℓ)

theorem idx : ∀ t : Fin cfg0.N, win0_0.index t = ![t.val, 0] ∧ win0_1.index t = ![0, 0] ∧ win0_2.index t = ![0, 1] ∧ win0_3.index t = ![t.val, 0] :=
  (by decide +kernel : ∀ t : Fin grid0.N, _)

theorem lt8 (t : Fin cfg0.N) : t.val < 8 := lt_of_lt_of_eq t.isLt N_0

theorem blkQ (c : Dev nD) (t : Fin cfg0.N) (n : Fin 512) (k : Fin 1024) :
    iblk m c 0 t (ix2 n k) = m ((c : Thread nD τ).loc main_arg0) (ix2 ⟨t.val * 512 + n.val, by have := lt8 t; omega⟩ k) := by
  blk_ext! [iblk, V, idx t]
theorem blkK (c : Dev nD) (t : Fin cfg0.N) : iblk m c 1 t = Keys (m ((c : Thread nD τ).loc main_arg1)) := by
  blk_ext! [iblk, V, idx t, Keys]
theorem blkV (c : Dev nD) (t : Fin cfg0.N) : iblk m c 2 t = Vals (m ((c : Thread nD τ).loc main_arg1)) := by
  blk_ext! [iblk, V, idx t, Vals]

theorem band (c : Dev nD) (t : Fin cfg0.N) (n : Fin 512) (k : Fin 1024) : OUT (iblk m c 0 t) (iblk m c 1 t) (iblk m c 2 t) n k
    = OUT (m ((c : Thread nD τ).loc main_arg0)) (Keys (m ((c : Thread nD τ).loc main_arg1))) (Vals (m ((c : Thread nD τ).loc main_arg1))) ⟨t.val * 512 + n.val, by have := lt8 t; omega⟩ k := by
  rw [blkK, blkV]
  unfold OUT row
  simp only [blkQ]

theorem final3 (c : Dev nD) : (dats m 0 c).arrAt 3 (cfgs 0).N
    = fun i : S4096x1024.Idx => OUT (m ((c : Thread nD τ).loc main_arg0)) (Keys (m ((c : Thread nD τ).loc main_arg1))) (Vals (m ((c : Thread nD τ).loc main_arg1))) (i 0) (i 1) := by
  refine (dats m 0 c).arrAt_eq_of_covers 3 _ (by decide +kernel) fun t hf y => ?_
  blk_simp
  rw [after0_3]
  idx_vars y
  refine (tile _ _ _ y0 y1).trans ((band m c t y0 y1).trans ?_)
  generalize hF : (fun i : S4096x1024.Idx => OUT (m ((c : Thread nD τ).loc main_arg0)) (Keys (m ((c : Thread nD τ).loc main_arg1))) (Vals (m ((c : Thread nD τ).loc main_arg1))) (i 0) (i 1)) = G
  refine (congrFun hF (ix2 _ _)).trans (Eq.trans ?_ (congrFun hF _).symm)
  clear hF
  blk_ext! [idx t]

end Cert.AttnFwdIdeal.Hand

namespace Cert.AttnFwdRefIdeal.Read

open Idealize.ShloMosaic Idealize.ShloMosaic.TcCoe Idealize.SL.Sem
open Cert.AttnFwdRefIdeal Cert.Attn
open Cert.AttnRefIdeal.Read (Keys Vals)

variable (q : Vec Ideal S4096x1024 .bf16) (kv : Vec Ideal S256x2048 .f32)

theorem score_ix (h : Fin 4) (n : Fin 4096) (m : Fin 256) : val_main_v8 (F := Ideal) q kv (ix3 h n m) = score (row q h n) (row (Keys kv) h) m := by
  unfold val_main_v8 val_main_v7 val_main_v6 val_main_v4 val_main_v3 val_main_v1 val_main_v0 val_main_cst
  pointwise
  rw [Words.w_16, Norm.div_real _ (show (16 : ℝ) ≠ 0 by norm_num)]
  unfold score
  rw [Words.w_inv16]
  rfl

theorem max_ix (h : Fin 4) (n : Fin 4096) : val_main_v9 (F := Ideal) q kv (ix2 h n)
    = Finset.fold max (Ideal.ofBits .f32 4286578688#32) (fun x => val_main_v8 (F := Ideal) q kv (ix3 h n x)) Finset.univ := by
  unfold val_main_v9 val_main_cst_0
  generalize val_main_v8 (F := Ideal) q kv = s
  pointwise

theorem top_ix (h : Fin 4) (n : Fin 4096) : val_main_v11 (F := Ideal) q kv (ix2 h n) = top (row q h n) (row (Keys kv) h) := by
  unfold val_main_v11
  rw [Cert.AttnRefIdeal.Read.floor_max _ _ _ (show val_main_v10 (F := Ideal) (ix2 h n) = ⊥ from w_bot), max_ix]
  simp only [score_ix]
  unfold top
  with_reducible rfl

theorem weight_ix (h : Fin 4) (n : Fin 4096) (m : Fin 256) : val_main_v15 (F := Ideal) q kv (ix3 h n m) = weight (row q h n) (row (Keys kv) h) m := by
  unfold weight
  rw [← top_ix, ← score_ix]
  unfold val_main_v15 val_main_v14 val_main_v13 val_main_v12
  generalize val_main_v11 (F := Ideal) q kv = M
  generalize val_main_v8 (F := Ideal) q kv = s
  pointwise

theorem out_eq (n : Fin 4096) (c : Fin 1024) : val_main_v23 (F := Ideal) q kv (ix2 n c) = OUT q (Keys kv) (Vals kv) n c := by
  unfold OUT prob
  simp only [← weight_ix]
  unfold val_main_v23 val_main_v22 val_main_v21 val_main_v20 val_main_v19 val_main_v18 val_main_v17 val_main_v16 val_main_v5 val_main_v2 val_main_cst_2
  generalize val_main_v15 (F := Ideal) q kv = s
  pointwise
  exact Finset.sum_congr rfl fun n _ => mul_comm (_ : EReal) _

end Cert.AttnFwdRefIdeal.Read

end
-- ==== Proof.AttnFwdPair.lean ====
/- What the two programs of AttnFwd leave. -/
module

public import proofs.«01_k».proof.Defs
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnFwdRefIdeal.Run
public import proofs.«01_k».proof.Proof.AttnFwdV

@[expose] public section

noncomputable section

namespace Cert.AttnFwdPair

open Idealize.ShloMosaic Idealize.ShloMosaic.TcCoe Idealize.SL.Sem

theorem frame : @Cert.quiescent_AttnFwd Cert.AttnFwd.Gen.facts := fun m ρ _ => Cert.AttnFwd.Gen.frame m ρ

theorem frame_ideal : @Cert.quiescent_AttnFwdIdeal Cert.AttnFwdIdeal.Gen.facts := fun m ρ _ => Cert.AttnFwdIdeal.Gen.frame m ρ

theorem frame_ref : @Cert.quiescent_AttnFwdRefIdeal Cert.AttnFwdRefIdeal.Gen.facts := fun m ρ _ =>
  (θ_run _ _ _).mono (fun r h => ⟨fun c => (h c).2, sem_eq_zero_of_no_sems rfl r.2⟩) (Cert.AttnFwdRefIdeal.Value.run m ρ)

theorem algebraic : @Cert.algebraic_AttnFwdIdeal_AttnFwdRefIdeal Cert.AttnFwdIdeal.Gen.facts Cert.AttnFwdRefIdeal.Gen.facts := by
  pair_intro
  · run_from Cert.AttnFwdIdeal.Gen.run_main m g
  · run_from Cert.AttnFwdRefIdeal.Value.run m' g'
    rw [Cert.AttnFwdRefIdeal.Read.val_main_v23_eq]
    funext j
    idx_vars j
    rw [Cert.AttnFwdIdeal.Hand.final3]
    exact Cert.AttnFwdRefIdeal.Read.out_eq _ _ j0 j1

end Cert.AttnFwdPair

end
-- ==== Proof.NormMmV.lean ====
/- The norm before a product, and the product. -/
module

public import proofs.«01_k».proof.Proof.Held
public import proofs.«01_k».proof.Proof.Gen.NormMmIdeal.Value
public import proofs.«01_k».proof.Proof.Gen.NormMmRefIdeal.Read
public import proofs.«01_k».proof.Proof.RmsRow
public import Idealize.ShloMosaic.Lib.Pointwise
public import Idealize.ShloMosaic.Lib.Pipeline.ReadBack
public import Idealize.ShloMosaic.Lib.Pipeline.ValueKit

@[expose] public section

set_option maxRecDepth 16384

noncomputable section

namespace Cert.NormMmIdeal.Hand

open Idealize.ShloMosaic Idealize.ShloMosaic.TcCoe Idealize.SL.Sem
open Cert.Held Cert.NormMmIdeal Cert.NormMmIdeal.Gen
open Cert.NormMmRefIdeal.Read

/-- The normed and scaled entry, and its product with the weights. -/
def normed {N : ℕ} (X : (⟨2, ![N, 1024]⟩ : Shape).Idx → EReal) (g : Fin 1024 → EReal) (n : Fin N) (c : Fin 1024) : EReal := RmsRow.hat (fun k => X (ix2 n k)) c * g c
def prod {N : ℕ} (X : (⟨2, ![N, 1024]⟩ : Shape).Idx → EReal) (g : Fin 1024 → EReal) (W : S1024x2048.Idx → EReal) (n : Fin N) (c : Fin 2048) : EReal :=
  ∑ k, normed X g n k * W (ix2 k c)

theorem norm_tile (X : Vec Ideal S512x1024 .f32) (G : Vec Ideal S1x1024 .f32) (n : Fin 512) (c : Fin 1024) :
    k0_pay1 (F := Ideal) X G (ix2 n c) = normed X (fun k => G (ix2 0 k)) n c := by
  unfold normed RmsRow.hat RmsRow.rs RmsRow.ms
  pointwise [k0_pay1]

theorem prod_tile (X : Vec Ideal S512x1024 .f32) (G : Vec Ideal S1x1024 .f32) (W : Vec Ideal S1024x2048 .bf16) (n : Fin 512) (c : Fin 2048) :
    k0_pay2 (F := Ideal) (k0_pay1 X G) W (ix2 n c) = prod X (fun k => G (ix2 0 k)) W n c := by
  unfold prod
  simp only [← norm_tile]
  pointwise [k0_pay2]

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

theorem lt8 (t : Fin cfg0.N) : t.val < 8 := lt_of_lt_of_eq t.isLt N_0

theorem blkX (c : Dev nD) (t : Fin cfg0.N) (n : Fin 512) (k : Fin 1024) :
    iblk m c 0 t (ix2 n k) = inp m c main_arg0 (ix2 ⟨t.val * 512 + n.val, by have := lt8 t; omega⟩ k) := by
  blk_ext! [iblk, V, idx t]
theorem blkG (c : Dev nD) (t : Fin cfg0.N) (k : Fin 1024) : iblk m c 1 t (ix2 0 k) = inp m c main_arg1 (ix1 k) := by
  have e : iblk m c 1 t = shapeCast S1x1024 (inp m c main_arg1) shapeCasts_S1024_S1x1024 := by
    blk_ext! [iblk, V, idx t]
  rw [e]
  pointwise
theorem blkW (c : Dev nD) (t : Fin cfg0.N) : iblk m c 2 t = inp m c main_arg2 := by
  blk_ext! [iblk, V, idx t]

theorem norm_band (c : Dev nD) (t : Fin cfg0.N) (n : Fin 512) (k : Fin 1024) :
    (outsAt0 m c t).2 (ix2 n k) = normed (inp m c main_arg0) (fun k => inp m c main_arg1 (ix1 k)) ⟨t.val * 512 + n.val, by have := lt8 t; omega⟩ k := by
  unfold outsAt0
  frame_out
  refine (norm_tile _ _ n k).trans ?_
  unfold normed
  simp only [blkX, blkG]

theorem prod_band (c : Dev nD) (t : Fin cfg0.N) (n : Fin 512) (k : Fin 2048) :
    (outsAt0 m c t).1 (ix2 n k) = prod (inp m c main_arg0) (fun k => inp m c main_arg1 (ix1 k)) (inp m c main_arg2) ⟨t.val * 512 + n.val, by have := lt8 t; omega⟩ k := by
  unfold outsAt0
  frame_out
  refine (prod_tile _ _ _ n k).trans ?_
  rw [blkW]
  unfold prod normed
  simp only [blkX, blkG]

theorem final3 (c : Dev nD) : (dats m 0 c).arrAt 3 (cfgs 0).N
    = fun i : S4096x2048.Idx => prod (inp m c main_arg0) (fun k => inp m c main_arg1 (ix1 k)) (inp m c main_arg2) (i 0) (i 1) := by
  refine (dats m 0 c).arrAt_eq_of_covers 3 _ (by decide +kernel) fun t hf y => ?_
  blk_simp
  rw [after0_3]
  idx_vars y
  refine (prod_band m c t y0 y1).trans ?_
  generalize hF : (fun i : S4096x2048.Idx => prod (inp m c main_arg0) (fun k => inp m c main_arg1 (ix1 k)) (inp m c main_arg2) (i 0) (i 1)) = G
  refine (congrFun hF (ix2 _ _)).trans (Eq.trans ?_ (congrFun hF _).symm)
  clear hF
  blk_ext! [idx t]

theorem final4 (c : Dev nD) : (dats m 0 c).arrAt 4 (cfgs 0).N
    = fun i : S4096x1024.Idx => normed (inp m c main_arg0) (fun k => inp m c main_arg1 (ix1 k)) (i 0) (i 1) := by
  refine (dats m 0 c).arrAt_eq_of_covers 4 _ (by decide +kernel) fun t hf y => ?_
  blk_simp
  rw [after0_4]
  idx_vars y
  refine (norm_band m c t y0 y1).trans ?_
  generalize hF : (fun i : S4096x1024.Idx => normed (inp m c main_arg0) (fun k => inp m c main_arg1 (ix1 k)) (i 0) (i 1)) = G
  refine (congrFun hF (ix2 _ _)).trans (Eq.trans ?_ (congrFun hF _).symm)
  clear hF
  blk_ext! [idx t]

theorem normed_eq (X : FVec Ideal S4096x1024 .f32) (G : FVec Ideal S1024 .f32) (n : Fin 4096) (c : Fin 1024) :
    Cert.NormMmRefIdeal.Read.val_main_v15 (F := Ideal) X G (ix2 n c) = normed X (fun k => G (ix1 k)) n c := by
  unfold normed RmsRow.hat RmsRow.rs RmsRow.ms
  rw [← Cert.NormMmRefIdeal.Read.val_main_v15_eq]
  pointwise

theorem prod_eq (X : FVec Ideal S4096x1024 .f32) (G : FVec Ideal S1024 .f32) (W : FVec Ideal S1024x2048 .bf16) (n : Fin 4096) (c : Fin 2048) :
    Cert.NormMmRefIdeal.Read.val_main_v14 (F := Ideal) X G W (ix2 n c) = prod X (fun k => G (ix1 k)) W n c := by
  unfold prod normed RmsRow.hat RmsRow.rs RmsRow.ms
  rw [← Cert.NormMmRefIdeal.Read.val_main_v14_eq]
  pointwise

end Cert.NormMmIdeal.Hand

end
-- ==== Proof.NormMmPair.lean ====
/- What the two programs of NormMm leave. -/
module

public import proofs.«01_k».proof.Defs
public import proofs.«01_k».proof.Proof.Gen.NormMm.Frame
public import proofs.«01_k».proof.Proof.Gen.NormMmIdeal.Frame
public import proofs.«01_k».proof.Proof.Gen.NormMmIdeal.Value
public import proofs.«01_k».proof.Proof.Gen.NormMmRefIdeal.Run
public import proofs.«01_k».proof.Proof.NormMmV

@[expose] public section

noncomputable section

namespace Cert.NormMmPair

open Idealize.ShloMosaic Idealize.ShloMosaic.TcCoe Idealize.SL.Sem

theorem frame : @Cert.quiescent_NormMm Cert.NormMm.Gen.facts := fun m ρ _ => Cert.NormMm.Gen.frame m ρ

theorem frame_ideal : @Cert.quiescent_NormMmIdeal Cert.NormMmIdeal.Gen.facts := fun m ρ _ => Cert.NormMmIdeal.Gen.frame m ρ

theorem frame_ref : @Cert.quiescent_NormMmRefIdeal Cert.NormMmRefIdeal.Gen.facts := fun m ρ _ =>
  (θ_run _ _ _).mono (fun r h => ⟨fun c => (h c).2.2, sem_eq_zero_of_no_sems rfl r.2⟩) (Cert.NormMmRefIdeal.Value.run m ρ)

theorem algebraic : @Cert.algebraic_NormMmIdeal_NormMmRefIdeal Cert.NormMmIdeal.Gen.facts Cert.NormMmRefIdeal.Gen.facts := by
  pair_intro
  · run_from Cert.NormMmIdeal.Gen.run_main m g
  · run_from Cert.NormMmRefIdeal.Value.run m' g'
    · refine (Cert.NormMmRefIdeal.Read.val_main_v14_eq (F := Ideal) _ _ _).trans ?_
      funext j
      idx_vars j
      rw [Cert.NormMmIdeal.Hand.final3]
      exact Cert.NormMmIdeal.Hand.prod_eq _ _ _ j0 j1
    · rw [Cert.NormMmRefIdeal.Read.val_main_v15_eq]
      funext j
      idx_vars j
      rw [Cert.NormMmIdeal.Hand.final4]
      exact Cert.NormMmIdeal.Hand.normed_eq _ _ j0 j1

end Cert.NormMmPair

end
-- ==== Proof.MixBFwdV.lean ====
/- The second mixer's forward call: a band per trip, entry by entry. -/
module

public import proofs.«01_k».proof.Proof.Held
public import proofs.«01_k».proof.Proof.MixBFinal
public import proofs.«01_k».proof.Proof.Gen.MixBFwdIdeal.Value
public import proofs.«01_k».proof.Proof.Gen.MixBFwdRefIdeal.Read

@[expose] public section

noncomputable section

namespace Cert.MixBFwdIdeal.Hand

open Idealize.ShloMosaic Idealize.ShloMosaic.TcCoe Idealize.SL.Sem
open Cert.Held Cert.MixBFwdIdeal Cert.MixBFwdIdeal.Gen Cert.Rows
open Cert.MixBIdeal.Hand (OU stack stack_at hd)

theorem off1 : ∀ k : Fin k0_t1_loop.trips, k0_off1 k = ![128 * k.val, 0] := by decide +kernel

section Words

variable (w0 w1 w2 w3 : FVec Ideal S128x128 .bf16) (p : Vec Ideal S1x128x128 .f32) (x y bias : Vec Ideal S128x256 .f32) (g : Vec Ideal S1x256 .f32)

/-- The words are those of the backward call. -/
theorem heads_eq : k0_pay1 (iota Kind.tc S128x256 32 [1] iota_S128x256_d1_w32) (64#32) k0_pay10 k0_pay11 k0_pay12 = hd := rfl
theorem scaled_eq : k0_pay3 (F := Ideal) x g = Cert.MixBIdeal.Gen.k0_pay5 x g := rfl

theorem band_eq : k0_pay2 (F := Ideal) w2 w3 (iota Kind.tc S128x256 32 [1] iota_S128x256_d1_w32) (64#32) k0_pay10 k0_pay11 k0_pay12 (k0_pay3 x g)
      (k0_pay4 w0 w1 (k0_pay1 (iota Kind.tc S128x256 32 [1] iota_S128x256_d1_w32) (64#32) k0_pay10 k0_pay11 k0_pay12) x g bias)
      (k0_pay5 (k0_pay1 (iota Kind.tc S128x256 32 [1] iota_S128x256_d1_w32) (64#32) k0_pay10 k0_pay11 k0_pay12)) y
    = Cert.MixBIdeal.Gen.k0_pay8 w2 w3 hd (Cert.MixBIdeal.Gen.k0_pay5 x g) (Cert.MixBIdeal.Gen.k0_pay6 w0 w1 hd x g bias) (Cert.MixBIdeal.Gen.k0_pay7 hd) y := by
  unfold k0_pay2 k0_pay4 k0_pay5 Cert.MixBIdeal.Gen.k0_pay8 Cert.MixBIdeal.Gen.k0_pay6 Cert.MixBIdeal.Gen.k0_pay7
  rw [heads_eq, scaled_eq]
  rfl

end Words

section Pieces

variable (c : Dev nD) (i : grid0.Coords)
  (arg1 : Memref sig .tc .vmem S4096x256 .f32) (harg1 : arg1.IsWhole) (arg2 : Memref sig .tc .vmem S4096x256 .f32) (harg2 : arg2.IsWhole)
  (arg3 : Memref sig .tc .vmem S1x256 .f32) (harg3 : arg3.IsWhole) (arg4 : Memref sig .tc .vmem S4x128x128 .f32) (harg4 : arg4.IsWhole)
  (arg5 : Memref sig .tc .vmem S128x256 .f32) (harg5 : arg5.IsWhole) (arg6 : Memref sig .tc .vmem S4096x256 .bf16) (harg6 : arg6.IsWhole)
  (u v : Vec Ideal S4096x256 .f32) (g : Vec Ideal S1x256 .f32) (w : Vec Ideal S4x128x128 .f32) (bias : Vec Ideal S128x256 .f32)

/-- The pieces of the trips before `K`. -/
abbrev pieces (K : ℕ) : List (View.Piece (Elt Ideal) S4096x256 .bf16) :=
  pb_k0_t1 (F := Ideal) Variants.none c none i arg1 harg1 arg2 harg2 arg3 harg3 arg4 harg4 arg5 harg5 arg6 harg6
    (k0_pay6 (View.ld w Cert.MixBIdeal.Hand.head0)) (k0_pay7 (View.ld w Cert.MixBIdeal.Hand.head1)) (k0_pay8 (View.ld w Cert.MixBIdeal.Hand.head2)) (k0_pay9 (View.ld w Cert.MixBIdeal.Hand.head3))
    (iota Kind.tc S128x256 32 [1] iota_S128x256_d1_w32) (64#32) k0_pay10 k0_pay11 k0_pay12 (harg1.unread u) (harg2.unread v) (harg3.unread g) (harg5.unread bias) K

theorem run_pieces : (kernelRun0_A (F := Ideal) c i arg1 harg1 arg2 harg2 arg3 harg3 arg4 harg4 arg5 harg5 arg6 harg6 u v g w bias).1
    = pieces c i arg1 harg1 arg2 harg2 arg3 harg3 arg4 harg4 arg5 harg5 arg6 harg6 u v g w bias 32 := by
  have e4 := ld_unread (Val := Elt Ideal) harg4 w
  unfold kernelRun0_A
  dsimp only
  sl_unfold_words
  simp only [e4]
  rfl

theorem on_pieces (K : ℕ) (hK : K ≤ 32) : On VO0_5 (VO0_5.writes (Elt Ideal) VO0_5.junk (pieces c i arg1 harg1 arg2 harg2 arg3 harg3 arg4 harg4 arg5 harg5 arg6 harg6 u v g w bias K))
    (OU (F := Ideal) v u g w bias) (· < 128 * K) := by
  induction K with
  | zero => exact On.none _ _ fun n => by simp
  | succ K ih =>
    have e1 := ld_unread (Val := Elt Ideal) harg1 u
    have e2 := ld_unread (Val := Elt Ideal) harg2 v
    have e3 := ld_unread (Val := Elt Ideal) harg3 g
    have e5 := ld_unread (Val := Elt Ideal) harg5 bias
    have hk : K < k0_t1_loop.trips := lt_of_lt_of_eq hK (by decide +kernel)
    unfold pieces
    rw [show K + 1 = (⟨K, hk⟩ : Fin k0_t1_loop.trips).val + 1 from rfl, pb_k0_t1_succ]
    unfold tripL_k0_t1 trip_k0_t1
    dsimp only
    sl_unfold_words
    simp only [e1, e2, e3, e5]
    refine On.store (W := 128) (S := (· < 128 * K)) (h := ih (by omega)) (off1 ⟨K, hk⟩) rfl rfl (fun x y h0 h1 => ?_) (fun n hn => by dsimp only at hn ⊢; omega)
    unfold OU Cert.MixBIdeal.Hand.DU
    rw [← stack_at _ K x y h0 h1, Cert.MixBIdeal.Hand.vn, show Cert.MixBIdeal.Hand.at1 K = ⟨K, hk⟩ from Cert.MixBIdeal.Hand.at1_val ⟨K, hk⟩]
    refine congrFun ?_ x
    rw [band_eq]
    rfl

theorem out_eq : out0_A_5 (F := Ideal) c i arg1 harg1 arg2 harg2 arg3 harg3 arg4 harg4 arg5 harg5 arg6 harg6 u v g w bias = OU (F := Ideal) v u g w bias := by
  unfold out0_A_5
  rw [run_pieces]
  exact (on_pieces c i arg1 harg1 arg2 harg2 arg3 harg3 arg4 harg4 arg5 harg5 arg6 harg6 u v g w bias 32 le_rfl).read_eq fun n hn => hn

end Pieces

variable (m : (ℓ : Loc nD τ sig) → Buf (Elt Ideal) ℓ)

theorem idx : ∀ t : Fin cfg0.N, win0_0.index t = ![0, 3] ∧ win0_1.index t = ![0, 4] ∧ win0_2.index t = ![0, 0] ∧ win0_3.index t = ![0, 0, 0] ∧ win0_4.index t = ![0, 0] ∧ win0_5.index t = ![0, 0] :=
  (by decide +kernel : ∀ t : Fin grid0.N, _)

open Cert.MixBRefIdeal.Read (U V G)
open Cert.MixBIdeal.Hand (spreadBias)

/-- The scale and the bias as the host lays them out. -/
theorem V_scale (c : Dev nD) : Cert.MixBFwdIdeal.Gen.V m c main_v3 = G (inp m c main_arg1) := by
  show StableHlo.after hostOps0 _ (Proc.devRef .tc main_v3) = _
  after_results
  funext y; idx_vars y
  pointwise
  rfl
theorem V_bias (c : Dev nD) : Cert.MixBFwdIdeal.Gen.V m c main_v2 = spreadBias (inp m c main_arg3) := by
  show StableHlo.after hostOps0 _ (Proc.devRef .tc main_v2) = _
  after_results
  funext y; idx_vars y
  unfold spreadBias
  pointwise

theorem blk0 (c : Dev nD) : iblk m c 0 t0_0 = U (inp m c main_arg0) := by
  show View.read (Elt Ideal) ((View.whole main_arg0).slice ((win0 0).rect t0_0)) (Cert.MixBFwdIdeal.Gen.V m c main_arg0) = _
  rw [V_main_arg0]
  blk_ext! [idx t0_0, Cert.Grid.col]
theorem blk1 (c : Dev nD) : iblk m c 1 t0_0 = V (inp m c main_arg0) := by
  show View.read (Elt Ideal) ((View.whole main_arg0).slice ((win0 1).rect t0_0)) (Cert.MixBFwdIdeal.Gen.V m c main_arg0) = _
  rw [V_main_arg0]
  blk_ext! [idx t0_0, Cert.Grid.col]
theorem blk2 (c : Dev nD) : iblk m c 2 t0_0 = G (inp m c main_arg1) := by
  show View.read (Elt Ideal) ((View.whole main_v3).slice ((win0 2).rect t0_0)) (Cert.MixBFwdIdeal.Gen.V m c main_v3) = _
  rw [V_scale]
  blk_ext! [idx t0_0]
theorem blk3 (c : Dev nD) : iblk m c 3 t0_0 = inp m c main_arg2 := by
  show View.read (Elt Ideal) ((View.whole main_arg2).slice ((win0 3).rect t0_0)) (Cert.MixBFwdIdeal.Gen.V m c main_arg2) = _
  rw [V_main_arg2]
  blk_ext! [idx t0_0]
theorem blk4 (c : Dev nD) : iblk m c 4 t0_0 = spreadBias (inp m c main_arg3) := by
  show View.read (Elt Ideal) ((View.whole main_v2).slice ((win0 4).rect t0_0)) (Cert.MixBFwdIdeal.Gen.V m c main_v2) = _
  rw [V_bias]
  blk_ext! [idx t0_0]

theorem final5 (c : Dev nD) : (dats m 0 c).arrAt 5 (cfgs 0).N
    = OU (F := Ideal) (V (inp m c main_arg0)) (U (inp m c main_arg0)) (G (inp m c main_arg1)) (inp m c main_arg2) (spreadBias (inp m c main_arg3)) := by
  refine (dats m 0 c).arrAt_eq_of_after_last 5 t0_0 (by decide +kernel) _ fun j => ?_
  blk_simp
  rw [after0_5]
  unfold outsAt0
  rw [out_eq, blk0, blk1, blk2, blk3, blk4]

end Cert.MixBFwdIdeal.Hand

namespace Cert.MixBFwdRefIdeal.Read

open Idealize.ShloMosaic Idealize.ShloMosaic.TcCoe Idealize.SL.Sem
open Cert.MixBFwdRefIdeal Cert.MixBFwdRefIdeal.Gen Cert.Grid Cert.LayerNorm
open Cert.MixBIdeal.Hand (hcol tri tri_of rowOf keep OU OU_ix spreadBias)
open Cert.MixBRefIdeal.Read (U V G row_eq at128 in256 parts_ix hcol_of)

variable (z : Vec Ideal S4096x2048 .f32) (g : Vec Ideal S256 .f32) (w : Vec Ideal S4x128x128 .f32) (b : Vec Ideal S4x128 .f32)

theorem scaled_ix (n : Fin 4096) (c : Fin 256) : val_main_v22 (F := Ideal) z g (ix2 n c) = hat (rowOf (V z) n) c * G g (ix2 0 c) := by
  rw [row_eq]
  unfold hat rs cen mean
  unfold val_main_v22 val_main_v21 val_main_v20 val_main_v19 val_main_v18 val_main_v17 val_main_v16 val_main_v15 val_main_cst_3 val_main_v14 val_main_v13 val_main_v12 val_main_v11 val_main_cst_2 val_main_v10 val_main_v9 val_main_cst_1 val_main_v8 val_main_v7 val_main_v6 val_main_v5 val_main_v4 val_main_cst_0 val_main_v3 val_main_v2 val_main_cst val_main_v1
  pointwise
  rfl

theorem split_ix (k : Fin 32) (r : Fin 128) (h : Fin 4) (e : Fin 64) :
    idx_main_v23 (ix4 k r h e) = ix2 ⟨128 * k.val + r.val, by omega⟩ (hcol h e) := by
  funext a; match a with
  | ⟨0, _⟩ => exact Fin.ext (at128 h.isLt e.isLt)
  | ⟨1, _⟩ => exact Fin.ext (in256 h.isLt e.isLt)

theorem vn_ix (k : Fin 32) (r : Fin 128) (h : Fin 4) (e : Fin 64) : val_main_v23 (F := Ideal) z g (ix4 k r h e)
    = hat (rowOf (V z) (128 * k + r)) (hcol h e) * G g (ix2 0 (hcol h e)) := by
  rw [val_main_v23_apply, split_ix, scaled_ix]

theorem tril_ix (h : Fin 4) (r s : Fin 128) : val_main_v24 (F := Ideal) w (ix3 h r s) = tri w h r s := by
  rw [tri_of w h.isLt, ← keep r s]
  unfold val_main_v24 val_main_call0_v6 val_main_call0_cst val_main_call0_v5 val_main_call0_v4 val_main_call0_v3 val_main_call0_v2 val_main_call0_v1 val_main_call0_c val_main_call0_v0
  pointwise
  exact congrArg (fun q => Scalar.select (IntOp.cmpi .sge q _) _ _) (BitVec.add_zero _)

theorem mixed_ix (n : Fin 4096) (c : Fin 256) : val_main_v26 (F := Ideal) z g w (idx_main_v31 (ix2 n c))
    = ∑ s : Fin 128, tri w (c.val / 64) (n.val % 128) s * (hat (rowOf (V z) (128 * (n.val / 128) + s)) c * G g (ix2 0 c)) := by
  rw [show idx_main_v31 (ix2 n c) = _ from parts_ix n c, val_main_v26_apply, val_main_v25_apply]
  refine Finset.sum_congr rfl fun s _ => ?_
  rw [mul_comm]
  refine congrArg₂ (· * ·) ?_ ?_
  · exact (congrArg (val_main_v24 w) (eq_ix3 _)).trans (tril_ix w ⟨c.val / 64, by omega⟩ ⟨n.val % 128, by omega⟩ s)
  · exact (congrArg (val_main_v23 z g) (eq_ix4 _)).trans <| (vn_ix z g ⟨n.val / 128, by omega⟩ s ⟨c.val / 64, by omega⟩ ⟨c.val % 64, by omega⟩).trans (by rw [hcol_of])

theorem out_ix (n : Fin 4096) (c : Fin 256) : val_main_v33 (F := Ideal) z g w b (ix2 n c)
    = OU (F := Ideal) (V z) (U z) (G g) w (spreadBias b) (ix2 n c) := by
  rw [OU_ix, ← at2_ix, ← mixed_ix]
  show val_main_v32 (F := Ideal) z g w b (ix2 n c) = _
  rw [val_main_v32_apply, val_main_v31_apply, val_main_v30_apply]
  generalize val_main_v26 (F := Ideal) z g w (idx_main_v31 (ix2 n c)) = M
  have hc : (⟨(n.val * 256 + c.val) / 64 % 4, by omega⟩ : Fin 4) = ⟨c.val / 64, by omega⟩ := Fin.ext (show (n.val * 256 + c.val) / 64 % 4 = c.val / 64 by omega)
  have hn : (⟨(n.val * 256 + c.val) / 256 % 128, by omega⟩ : Fin 128) = ⟨n.val % 128, by omega⟩ := Fin.ext (show (n.val * 256 + c.val) / 256 % 128 = n.val % 128 by omega)
  unfold val_main_v0 val_main_v29 val_main_v28 val_main_v27
  pointwise
  refine congrArg (fun y : EReal => U z (ix2 n c) * y) ((congrArg (fun y : EReal => M + y) (congrArg b ?_)).trans (add_comm _ _))
  exact congrArg₂ ix2 hc hn

end Cert.MixBFwdRefIdeal.Read

end
-- ==== Proof.MixBFwdPair.lean ====
/- What the two programs of MixBFwd leave. -/
module

public import proofs.«01_k».proof.Defs
public import proofs.«01_k».proof.Proof.Gen.MixBFwd.Frame
public import proofs.«01_k».proof.Proof.Gen.MixBFwdIdeal.Frame
public import proofs.«01_k».proof.Proof.Gen.MixBFwdIdeal.Value
public import proofs.«01_k».proof.Proof.Gen.MixBFwdRefIdeal.Run
public import proofs.«01_k».proof.Proof.MixBFwdV

@[expose] public section

noncomputable section

namespace Cert.MixBFwdPair

open Idealize.ShloMosaic Idealize.ShloMosaic.TcCoe Idealize.SL.Sem

theorem frame : @Cert.quiescent_MixBFwd Cert.MixBFwd.Gen.facts := fun m ρ _ => Cert.MixBFwd.Gen.frame m ρ

theorem frame_ideal : @Cert.quiescent_MixBFwdIdeal Cert.MixBFwdIdeal.Gen.facts := fun m ρ _ => Cert.MixBFwdIdeal.Gen.frame m ρ

theorem frame_ref : @Cert.quiescent_MixBFwdRefIdeal Cert.MixBFwdRefIdeal.Gen.facts := fun m ρ _ =>
  (θ_run _ _ _).mono (fun r h => ⟨fun c => (h c).2, sem_eq_zero_of_no_sems rfl r.2⟩) (Cert.MixBFwdRefIdeal.Value.run m ρ)

theorem algebraic : @Cert.algebraic_MixBFwdIdeal_MixBFwdRefIdeal Cert.MixBFwdIdeal.Gen.facts Cert.MixBFwdRefIdeal.Gen.facts := by
  pair_intro
  · run_from Cert.MixBFwdIdeal.Gen.run_main m g
  · run_from Cert.MixBFwdRefIdeal.Value.run m' g'
    refine (Cert.MixBFwdRefIdeal.Read.val_main_v33_eq (F := Ideal) _ _ _ _).trans ?_
    funext j
    idx_vars j
    rw [Cert.MixBFwdIdeal.Hand.final5]
    exact Cert.MixBFwdRefIdeal.Read.out_ix _ _ _ _ j0 j1

end Cert.MixBFwdPair

end
-- ==== Proof.FfnFwdRun.lean ====
/- The body of the gated layer's forward call run once at each of its two kinds of grid point, and the whole run. -/
module

public import proofs.«01_k».proof.Proof.Held
public import proofs.«01_k».proof.Proof.Gen.FfnFwdIdeal.Skeleton
public import proofs.«01_k».proof.Proof.Gen.FfnFwdIdeal.Frame
public import Idealize.ShloMosaic.Lib.Exec
public import Idealize.ShloMosaic.Lib.Tactic
public import Idealize.ShloMosaic.Lib.Claim
public import Idealize.ShloMosaic.Lib.VecWindow

@[expose] public section

noncomputable section

namespace Cert.FfnFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.FfnFwdIdeal Cert.FfnFwdIdeal.Gen

variable {F : FTy → Type} [FloatOps F]

local notation "𝕄" => MT nD τ sig Unit (Elt F) ℕ (UR sig nD τ) ℕ

/-- A store of a whole buffer leaves what it stored. -/
theorem stored {sig : RefSig} {κ : Kind} {sp : Space} {s : Shape} {e : EltTy} {Val : EltTy → Type} (v : View sig κ sp s e) (f : v.ty.Contents Val)
    {off : Fin s.rank → ℕ} (inb : ∀ a, off a + s.size a ≤ s.size a) (w : (Rect.unit off s.size inb).shape.Idx → Val e)
    (L : List (View.Piece Val s e)) {w' : s.Idx → Val e} (h : w = w') :
    v.read Val (v.writes Val f (⟨Rect.unit off s.size inb, w⟩ :: L)) = w' := (View.read_writes_full v f inb w L).trans h

section

variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1024 .f32) (harg11 : arg11.IsWhole)
  (x0 : Vec F S512x1024 .f32) (x1 : Vec F S1x1024 .f32) (x2 : Vec F S1024x1408 .bf16) (x3 : Vec F S1024x1408 .bf16) (x4 : Vec F S1408x1024 .bf16)

/-- At the first of the two blocks of hidden columns the body writes the normalised rows, the two products and the sum's
    first term, and leaves the result's buffer alone. -/
theorem kernelA (hc1 : k0_cond1 i = 1#1) (hc2 : ¬ k0_cond2 i = 1#1)
    (E : Set ℕ) (K : PUnit → sProp 𝕄) :
    iprop(held c arg2 x0 ∗ held c arg3 x1 ∗ held c arg4 x2 ∗ held c arg5 x3 ∗ held c arg6 x4 ∗ (∃ d, held c arg8 d) ∗ (∃ d, held c arg9 d) ∗ (∃ d, held c arg10 d) ∗ (∃ d, held c arg11 d)
      ∗ (iprop(held c arg2 x0 ∗ held c arg3 x1 ∗ held c arg4 x2 ∗ held c arg5 x3 ∗ held c arg6 x4 ∗ held c arg8 (k0_pay2 x0 x1) ∗ held c arg9 (k0_pay7 (k0_pay2 x0 x1) x2) ∗ held c arg10 (k0_pay8 (k0_pay2 x0 x1) x3) ∗ held c arg11 (k0_pay9 (k0_pay2 x0 x1) x2 x3 (k0_pay3 (F := F)) x4)) -∗ K ⟨⟩))
    ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K := by
  simp only [cc0_ffn_fwd_eq_skeleton]; unfold cc0_ffn_fwd_skel
  simp only [k0_part1_eq_skeleton]; unfold k0_part1_skel
  unfold held owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc1 | sl_exact hc2)
  sl_step
  iapply Hk
  have e2 := fun inb => whole_unread (Val := Elt F) harg2 x0 (off := ![0, 0]) inb
  have e3 := fun inb => whole_unread (Val := Elt F) harg3 x1 (off := ![0, 0]) inb
  have e4 := fun inb => whole_unread (Val := Elt F) harg4 x2 (off := ![0, 0]) inb
  have e5 := fun inb => whole_unread (Val := Elt F) harg5 x3 (off := ![0, 0]) inb
  have e6 := fun inb => whole_unread (Val := Elt F) harg6 x4 (off := ![0, 0]) inb
  have e8 : ∀ inb inb' w, arg8.view.readCov [⟨Rect.unit (s := S512x1024) ![0, 0] ![512, 1024] inb', w⟩] (Rect.unit (s := S512x1024) ![0, 0] ![512, 1024] inb).toLoadRect = w := fun inb inb' w => View.readCov_full (Val := Elt F) arg8.view inb inb' w []
  have e11 : ∀ inb inb' w, arg11.view.readCov [⟨Rect.unit (s := S512x1024) ![0, 0] ![512, 1024] inb', w⟩] (Rect.unit (s := S512x1024) ![0, 0] ![512, 1024] inb).toLoadRect = w := fun inb inb' w => View.readCov_full (Val := Elt F) arg11.view inb inb' w []
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H6]
  · iexists _; isplitr; swap; · iexact H6
    ipureintro; sl_unfold_words; refine stored _ _ _ _ _ ?_; sl_unfold_words; simp only [e2, e3, e4, e5, e6, e8, e11]
  isplitl [H7]
  · iexists _; isplitr; swap; · iexact H7
    ipureintro; sl_unfold_words; refine stored _ _ _ _ _ ?_; sl_unfold_words; simp only [e2, e3, e4, e5, e6, e8, e11]
  isplitl [H8]
  · iexists _; isplitr; swap; · iexact H8
    ipureintro; sl_unfold_words; refine stored _ _ _ _ _ ?_; sl_unfold_words; simp only [e2, e3, e4, e5, e6, e8, e11]
  iexists _; isplitr; swap; · iexact H9
  ipureintro; sl_unfold_words; refine stored _ _ _ _ _ ?_; sl_unfold_words; simp only [e2, e3, e4, e5, e6, e8, e11]

/-- At the second it reads the normalised rows and the first term back and writes the result. -/
theorem kernelB (hc1 : ¬ k0_cond1 i = 1#1) (hc2 : k0_cond2 i = 1#1)
    (h : Vec F S512x1024 .bf16) (s : Vec F S512x1024 .f32) (E : Set ℕ) (K : PUnit → sProp 𝕄) :
    iprop(held c arg2 x0 ∗ held c arg3 x1 ∗ held c arg4 x2 ∗ held c arg5 x3 ∗ held c arg6 x4 ∗ (∃ d, held c arg7 d) ∗ held c arg8 h ∗ (∃ d, held c arg9 d) ∗ (∃ d, held c arg10 d) ∗ held c arg11 s
      ∗ (iprop(held c arg2 x0 ∗ held c arg3 x1 ∗ held c arg4 x2 ∗ held c arg5 x3 ∗ held c arg6 x4 ∗ held c arg7 (k0_pay1 x0 (k0_pay9 h x2 x3 s x4)) ∗ held c arg8 h ∗ held c arg9 (k0_pay7 h x2) ∗ held c arg10 (k0_pay8 h x3) ∗ (∃ d, held c arg11 d)) -∗ K ⟨⟩))
    ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11) K := by
  simp only [cc0_ffn_fwd_eq_skeleton]; unfold cc0_ffn_fwd_skel
  simp only [k0_part1_eq_skeleton]; unfold k0_part1_skel
  unfold held owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg11.eq_unread hf9
  sl_exec (disch := first | sl_exact hc1 | sl_exact hc2)
  sl_step
  iapply Hk
  have e2 := fun inb => whole_unread (Val := Elt F) harg2 x0 (off := ![0, 0]) inb
  have e3 := fun inb => whole_unread (Val := Elt F) harg3 x1 (off := ![0, 0]) inb
  have e4 := fun inb => whole_unread (Val := Elt F) harg4 x2 (off := ![0, 0]) inb
  have e5 := fun inb => whole_unread (Val := Elt F) harg5 x3 (off := ![0, 0]) inb
  have e6 := fun inb => whole_unread (Val := Elt F) harg6 x4 (off := ![0, 0]) inb
  have e8 := fun inb => whole_unread (Val := Elt F) harg8 h (off := ![0, 0]) inb
  have e11 := fun inb => whole_unread (Val := Elt F) harg11 s (off := ![0, 0]) inb
  have e11w : ∀ inb inb' w, arg11.view.readCov [⟨Rect.unit (s := S512x1024) ![0, 0] ![512, 1024] inb', w⟩] (Rect.unit (s := S512x1024) ![0, 0] ![512, 1024] inb).toLoadRect = w := fun inb inb' w => View.readCov_full (Val := Elt F) arg11.view inb inb' w []
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; sl_unfold_words; refine stored _ _ _ _ _ ?_; sl_unfold_words; simp only [e2, e3, e4, e5, e6, e8, e11, e11w]
  isplitl [H6]
  · iexists _; isplitr; swap; · iexact H6
    ipureintro; exact harg8.read_unread _
  isplitl [H7]
  · iexists _; isplitr; swap; · iexact H7
    ipureintro; sl_unfold_words; refine stored _ _ _ _ _ ?_; sl_unfold_words; simp only [e2, e3, e4, e5, e6, e8, e11, e11w]
  isplitl [H8]
  · iexists _; isplitr; swap; · iexact H8
    ipureintro; sl_unfold_words; refine stored _ _ _ _ _ ?_; sl_unfold_words; simp only [e2, e3, e4, e5, e6, e8, e11, e11w]
  iexists _, _; isplitr; swap; · iexact H9
  ipureintro; rfl

end

/-- The buffer that holds window `w`'s block at point `t`. -/
abbrev st (t : Fin cfg0.N) (w : Fin cfg0.W) := (cfg0.win w).stage (cfg0.slots t w)

variable (m : (ℓ : Loc nD τ sig) → Buf (Elt F) ℓ) (ρ : Dev nD → PrngReg)

abbrev sc0 : Memref sig .tc .vmem S512x1024 .f32 := Memref.whole cc0_scratch0

/-- The region's invariant with the scratch buffer owned at some contents. -/
theorem Phi_eq (c : Dev nD) :
    (Pipeline.ΦA spec0 c : sProp 𝕄) = iprop((∃ d, held c sc0 d) ∗ (∃ r, prngReg c r)) := by
  unfold Pipeline.ΦA; rw [scopedRest0_eq]; simp only [sc0, owns_whole]; try rfl

theorem lt_N (n : ℕ) : n % 16 < cfg0.N := Nat.lt_of_lt_of_eq (Nat.mod_lt _ (by decide)) (by decide)
/-- The grid point that number `n` names. -/
def pt (n : ℕ) : Fin cfg0.N := ⟨n % 16, lt_N n⟩
theorem pt_val (t : Fin cfg0.N) : pt t.val = t := Fin.ext (Nat.mod_eq_of_lt (Nat.lt_of_lt_of_eq t.isLt (by decide)))

/-- The normalised rows, written at a first point. -/
def hw (c : Dev nD) (t : Fin cfg0.N) : Vec F S512x1024 .bf16 := k0_pay2 (iblk m c 0 t) (iblk m c 1 t)
/-- The sum's first term, written at a first point. -/
def acc (c : Dev nD) (t : Fin cfg0.N) : Vec F S512x1024 .f32 :=
  k0_pay9 (hw m c t) (iblk m c 2 t) (iblk m c 3 t) (k0_pay3 (F := F)) (iblk m c 4 t)
/-- The first point of `t`'s rows. -/
def base (t : Fin cfg0.N) : Fin cfg0.N := pt (t.val - t.val % 2)

def out5 (c : Dev nD) (t : Fin cfg0.N) : Vec F S512x1024 .f32 :=
  k0_pay1 (iblk m c 0 t) (k0_pay9 (hw m c (base t)) (iblk m c 2 t) (iblk m c 3 t) (acc m c (base t)) (iblk m c 4 t))
def out6 (c : Dev nD) (t : Fin cfg0.N) : Vec F S512x1024 .bf16 := hw m c (base t)
def out7 (c : Dev nD) (t : Fin cfg0.N) : Vec F S512x1408 .bf16 := k0_pay7 (hw m c (base t)) (iblk m c 2 t)
def out8 (c : Dev nD) (t : Fin cfg0.N) : Vec F S512x1408 .bf16 := k0_pay8 (hw m c (base t)) (iblk m c 3 t)

/-- What is held between points: after a first point the scratch buffer at the sum's first term. -/
def Phi (c : Dev nD) (n : ℕ) : sProp 𝕄 :=
  if n % 2 = 0 then Pipeline.ΦA spec0 c else iprop(held c sc0 (acc m c (pt (n - 1))) ∗ (∃ r, prngReg c r))

/-- What the region is entered and left with. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
    | ⟨7, _⟩ => out7 m c t
    | ⟨8, _⟩ => out8 m c t
  Φ s := Phi m c s.val
  q w := Pipeline.shareOf spec0 w
  owed _ := 0

theorem A_eq (c : Dev nD) (w : Fin cfg0.W) : (dats m 0 c).A w = V m c (Pipeline.arrRef spec0 w) := by
  dsimp only [dats]

theorem after_5 (c : Dev nD) (t : Fin cfg0.N) : (dats m 0 c).after 5 t = out5 m c t := by dsimp only [dats]
theorem after_6 (c : Dev nD) (t : Fin cfg0.N) : (dats m 0 c).after 6 t = out6 m c t := by dsimp only [dats]
theorem after_7 (c : Dev nD) (t : Fin cfg0.N) : (dats m 0 c).after 7 t = out7 m c t := by dsimp only [dats]
theorem after_8 (c : Dev nD) (t : Fin cfg0.N) : (dats m 0 c).after 8 t = out8 m c t := by dsimp only [dats]
/-- Before the body every input's buffer holds its block. -/
theorem before (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) :=
  ⟨before0_0_of m _ (A_eq m c 0) (fun _ => rfl) t, before0_1_of m _ (A_eq m c 1) (fun _ => rfl) t, before0_2_of m _ (A_eq m c 2) (fun _ => rfl) t, before0_3_of m _ (A_eq m c 3) (fun _ => rfl) t, before0_4_of m _ (A_eq m c 4) (fun _ => rfl) t⟩

theorem conds : ∀ t : Fin grid0.N, (t.val % 2 = 0 → k0_cond1 (grid0.coords t) = 1#1 ∧ ¬ k0_cond2 (grid0.coords t) = 1#1)
    ∧ (t.val % 2 = 1 → ¬ k0_cond1 (grid0.coords t) = 1#1 ∧ k0_cond2 (grid0.coords t) = 1#1) := by decide +kernel

/-- At a second point the rows written at the first are still in their buffer. -/
theorem before_6 (c : Dev nD) (t : Fin cfg0.N) (h : t.val % 2 = 1) (d) : (dats m 0 c).before 6 t d = hw m c (base t) := by
  have h0 : t.val ≠ 0 := by omega
  have hfl : (cfg0.win 6).flush ⟨t.val - 1, Nat.lt_of_le_of_lt (Nat.sub_le _ _) t.isLt⟩ = false := by
    rw [Bool.eq_false_iff, ne_eq, flush0_6]; show ¬ (t.val - 1) % 2 = 1; omega
  rw [(dats m 0 c).before_of_pos 6 t h0 ((cfg0.win 6).fetch_out rfl t), hfl, if_neg Bool.false_ne_true]
  have hi : cfg0.idle 6 (cfg0.grid.coords ⟨t.val - 1, Nat.lt_of_le_of_lt (Nat.sub_le _ _) t.isLt⟩) = false := by
    have := (conds ⟨t.val - 1, Nat.lt_of_le_of_lt (Nat.sub_le _ _) t.isLt⟩).1 (show (t.val - 1) % 2 = 0 by omega)
    show (!(k0_cond1 _ == 1#1)) = false
    rw [this.1]; rfl
  unfold Pipeline.Dat.left
  rw [hi]
  dsimp only
  unfold Pipeline.Dat.kept
  rw [Pipeline.fill_of_clip_none 6 _ (fun _ => rfl) d ((dats m 0 c).after 6 _), Pipeline.Window.fill_cut, after_6, out6]
  congr 1
  unfold base
  congr 1
  show t.val - 1 - (t.val - 1) % 2 = t.val - t.val % 2
  omega

/-- The body at any point. -/
theorem sound (c : Dev nD) (t : Fin cfg0.N) :
    iprop((dats m 0 c).Φ t.castSucc ∗ (dats m 0 c).owesAt () t.castSucc ∗ (∃ d, held c (st t 0) ((dats m 0 c).before 0 t d)) ∗ (∃ d, held c (st t 1) ((dats m 0 c).before 1 t d)) ∗ (∃ d, held c (st t 2) ((dats m 0 c).before 2 t d)) ∗ (∃ d, held c (st t 3) ((dats m 0 c).before 3 t d)) ∗ (∃ d, held c (st t 4) ((dats m 0 c).before 4 t d)) ∗ (∃ d, held c (st t 5) ((dats m 0 c).before 5 t d)) ∗ (∃ d, held c (st t 6) ((dats m 0 c).before 6 t d)) ∗ (∃ d, held c (st t 7) ((dats m 0 c).before 7 t d)) ∗ (∃ d, held c (st t 8) ((dats m 0 c).before 8 t d)))
    ⊢ wp frame (wpE (defs₀ (F := F)) Variants.none c none) Set.univ (bodyAt0 t)
      (fun _ => iprop((dats m 0 c).Φ t.succ ∗ (dats m 0 c).owesAt () t.succ ∗ held c (st t 0) (iblk m c 0 t) ∗ held c (st t 1) (iblk m c 1 t) ∗ held c (st t 2) (iblk m c 2 t) ∗ held c (st t 3) (iblk m c 3 t) ∗ held c (st t 4) (iblk m c 4 t) ∗ (dats m 0 c).leavesExact 5 t ∗ (dats m 0 c).leavesExact 6 t ∗ held c (st t 7) (out7 m c t) ∗ held c (st t 8) (out8 m c t))) := by
  simp only [before m c t]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  by_cases h : t.val % 2 = 0
  · obtain ⟨c1, c2⟩ := (conds t).1 h
    have hb : base t = t := by unfold base; rw [h, Nat.sub_zero, pt_val]
    have hfl : (cfg0.win 5).flush t = false := by rw [Bool.eq_false_iff, ne_eq, flush0_5]; omega
    have hi : cfg0.idle 5 (cfg0.grid.coords t) = true := by show (!(k0_cond2 _ == 1#1)) = true; simpa using c2
    have hi6 : cfg0.idle 6 (cfg0.grid.coords t) = false := by show (!(k0_cond1 _ == 1#1)) = false; rw [c1]; rfl
    have l6 : (dats m 0 c).leavesExact 6 t = held c (st t 6) (hw m c t) := by
      unfold Pipeline.Dat.leavesExact; rw [hi6]; dsimp only; rw [after_6, out6, hb]
    rw [(dats m 0 c).leavesExact_idle 5 t hi hfl, l6, out7, out8, hb]
    rw [show Phi m c t.val = Pipeline.ΦA spec0 c from if_pos h, Phi_eq,
      show Phi m c (t.val + 1) = _ from if_neg (by omega), Nat.add_sub_cancel, pt_val]
    iintro ⟨⟨HS, Hg⟩, Ho, ⟨%d0, H0⟩, ⟨%d1, H1⟩, ⟨%d2, H2⟩, ⟨%d3, H3⟩, ⟨%d4, H4⟩, H5, ⟨%d6, H6⟩, ⟨%d7, H7⟩, ⟨%d8, H8⟩⟩
    iapply (kernelA c (grid0.coords t) _ _ _ _ _ _ _ _ _ _ _ _ _ _ _ _ _ _ _ _ (iblk m c 0 t) (iblk m c 1 t) (iblk m c 2 t) (iblk m c 3 t) (iblk m c 4 t) c1 c2 Set.univ _)
    iframe H0 H1 H2 H3 H4
    isplitl [H6]; · iexists _; iexact H6
    isplitl [H7]; · iexists _; iexact H7
    isplitl [H8]; · iexists _; iexact H8
    isplitl [HS]; · iexact HS
    iintro ⟨H0, H1, H2, H3, H4, H6, H7, H8, HS⟩
    isplitl [HS Hg]
    · isplitl [HS]; · iexact HS
      iexact Hg
    iframe Ho H0 H1 H2 H3 H4 H5 H6 H7 H8
  · have h : t.val % 2 = 1 := by omega
    obtain ⟨c1, c2⟩ := (conds t).2 h
    have hfl : (cfg0.win 6).flush t = true := (flush0_6 t).2 h
    have hi : cfg0.idle 5 (cfg0.grid.coords t) = false := by show (!(k0_cond2 _ == 1#1)) = false; rw [c2]; rfl
    have hi6 : cfg0.idle 6 (cfg0.grid.coords t) = true := by show (!(k0_cond1 _ == 1#1)) = true; simpa using c1
    have l5 : (dats m 0 c).leavesExact 5 t = held c (st t 5) (out5 m c t) := by
      unfold Pipeline.Dat.leavesExact; rw [hi]; dsimp only; rw [after_5]
    have l6 : (dats m 0 c).leavesExact 6 t = held c (st t 6) (hw m c (base t)) := by
      unfold Pipeline.Dat.leavesExact; rw [hi6, hfl]; dsimp only; rw [after_6, out6]
    have hb : pt (t.val - 1) = base t := by unfold base; rw [h]
    simp only [before_6 m c t h]
    rw [l5, l6, out5, out7, out8]
    rw [show Phi m c t.val = _ from if_neg (by omega), hb, show Phi m c (t.val + 1) = Pipeline.ΦA spec0 c from if_pos (by omega), Phi_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernelB c (grid0.coords t) _ _ _ _ _ _ _ _ _ _ _ _ _ _ _ _ _ _ _ _ (iblk m c 0 t) (iblk m c 1 t) (iblk m c 2 t) (iblk m c 3 t) (iblk m c 4 t) c1 c2 (hw m c (base t)) (acc m c (base t)) Set.univ _)
    iframe H0 H1 H2 H3 H4
    isplitl [H5]; · iexists _; iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    iframe Ho H0 H1 H2 H3 H4 H5 H6 H7 H8

theorem defs₀_row (t : Fin cfg0.N) : defs₀ (F := F) .tc cfg0.body (cfg0.bodyArgs t (cfg0.slots t)) = bodyAt0 t := by
  unfold defs₀; rw [Defs.onTc_tc]

/-- What the region asks of the body. -/
theorem obligation (c : Dev nD) : Pipeline.BodyObligation (dats (F := F) m 0 c) (defs₀ (F := F)) Variants.none () Set.univ := fun t => by
  rw [bigSep_W0, bigSep_W0, defs₀_row]
  exact triple_restated (sound m c t) rfl .rfl fun _ => .rfl

set_option backward.isDefEq.respectTransparency.types false in
/-- The whole run, every counter at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m)
    (hin := fun c => .of_eq (if_pos rfl : Phi m c 0 = Pipeline.ΦA spec0 c).symm)
    (hout := fun c => .of_eq (if_pos (by decide) : Phi m c (Fin.last cfg0.N).val = Pipeline.ΦA spec0 c))

/-- The whole run. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.FfnFwdIdeal.Hand

end
-- ==== Proof.FfnFwdV.lean ====
/- The gated layer of the forward pass: the normed rows, the two products, the gate and the sum over the hidden columns
   in two blocks. -/
module

public import proofs.«01_k».proof.Proof.FfnFwdRun
public import proofs.«01_k».proof.Proof.Gen.FfnFwdRefIdeal.Read
public import proofs.«01_k».proof.Proof.RmsRow
public import proofs.«01_k».proof.Proof.Sigmoid
public import Idealize.ShloMosaic.Lib.Pointwise
public import Idealize.ShloMosaic.Lib.Pipeline.ReadBack
public import Idealize.ShloMosaic.Lib.Pipeline.ValueKit

@[expose] public section

set_option maxRecDepth 16384

noncomputable section

namespace Cert.FfnFwdIdeal.Hand

open Idealize.ShloMosaic Idealize.ShloMosaic.TcCoe Idealize.SL.Sem
open Cert.FfnFwdIdeal Cert.FfnFwdIdeal.Gen

/-- The normed and scaled entry, -/
def normed {N : ℕ} (X : (⟨2, ![N, 1024]⟩ : Shape).Idx → EReal) (g : Fin 1024 → EReal) (n : Fin N) (c : Fin 1024) : EReal := RmsRow.hat (fun k => X (ix2 n k)) c * g c
/-- its product with a column of weights, -/
def prod {N C : ℕ} (H : Fin N → Fin 1024 → EReal) (W : (⟨2, ![1024, C]⟩ : Shape).Idx → EReal) (n : Fin N) (c : Fin C) : EReal := ∑ k, H n k * W (ix2 k c)
/-- the gate, -/
def act (a b : EReal) : EReal := a * Ideal.logistic a * b
/-- and what some of the hidden columns add to the result. -/
def term {N C : ℕ} (H : Fin N → Fin 1024 → EReal) (A B : (⟨2, ![1024, C]⟩ : Shape).Idx → EReal) (O : (⟨2, ![C, 1024]⟩ : Shape).Idx → EReal) (n : Fin N) (c : Fin 1024) : EReal :=
  ∑ k, act (prod H A n k) (prod H B n k) * O (ix2 k c)

theorem norm_tile (X : Vec Ideal S512x1024 .f32) (G : Vec Ideal S1x1024 .f32) (n : Fin 512) (c : Fin 1024) :
    k0_pay2 (F := Ideal) X G (ix2 n c) = normed X (fun k => G (ix2 0 k)) n c := by
  unfold normed RmsRow.hat RmsRow.rs RmsRow.ms
  pointwise [k0_pay2]

theorem gate_tile (H : Vec Ideal S512x1024 .bf16) (A : Vec Ideal S1024x1408 .bf16) (n : Fin 512) (c : Fin 1408) :
    k0_pay5 (F := Ideal) H A (ix2 n c) = prod (fun n k => H (ix2 n k)) A n c := by
  unfold prod
  pointwise [k0_pay5, k0_pay4]
theorem up_tile (H : Vec Ideal S512x1024 .bf16) (A : Vec Ideal S1024x1408 .bf16) (n : Fin 512) (c : Fin 1408) :
    k0_pay6 (F := Ideal) H A (ix2 n c) = prod (fun n k => H (ix2 n k)) A n c := by
  unfold prod
  pointwise [k0_pay6, k0_pay4]

theorem step_tile (H : Vec Ideal S512x1024 .bf16) (A B : Vec Ideal S1024x1408 .bf16) (s : Vec Ideal S512x1024 .f32) (O : Vec Ideal S1408x1024 .bf16) (n : Fin 512) (c : Fin 1024) :
    k0_pay9 (F := Ideal) H A B s O (ix2 n c) = s (ix2 n c) + term (fun n k => H (ix2 n k)) A B O n c := by
  unfold term act
  simp only [← gate_tile H A, ← up_tile H B, ← Sigmoid.of_tanh, ← Words.w_half]
  unfold k0_pay9
  generalize k0_pay5 (F := Ideal) H A = P
  generalize k0_pay6 (F := Ideal) H B = Q
  pointwise

theorem out_tile (X s : Vec Ideal S512x1024 .f32) (n : Fin 512) (c : Fin 1024) :
    k0_pay1 (F := Ideal) X s (ix2 n c) = X (ix2 n c) + Ideal.ofBits .f32 1056964608#32 * s (ix2 n c) := by
  pointwise [k0_pay1]

theorem zero_tile (n : Fin 512) (c : Fin 1024) : k0_pay3 (F := Ideal) (ix2 n c) = 0 := by
  pointwise [k0_pay3]

variable (m : (ℓ : Loc nD τ sig) → Buf (Elt Ideal) ℓ)

theorem idx : ∀ t : Fin cfg0.N, win0_0.index t = ![t.val / 2, 0] ∧ win0_1.index t = ![0, 0] ∧ win0_2.index t = ![0, t.val % 2] ∧ win0_3.index t = ![0, t.val % 2 + 2] ∧ win0_4.index t = ![t.val % 2, 0]
    ∧ win0_5.index t = ![t.val / 2, 0] ∧ win0_6.index t = ![t.val / 2, 0] ∧ win0_7.index t = ![t.val / 2, t.val % 2] ∧ win0_8.index t = ![t.val / 2, t.val % 2] :=
  (by decide +kernel : ∀ t : Fin grid0.N, _)

theorem lt16 (t : Fin cfg0.N) : t.val < 16 := lt_of_lt_of_eq t.isLt (by decide +kernel)

/-- The rows and the hidden columns of one grid point. -/
def row (t : Fin cfg0.N) (n : Fin 512) : Fin 4096 := ⟨t.val / 2 * 512 + n.val, by have := lt16 t; omega⟩
def col (t : Fin cfg0.N) (k : Fin 1408) : Fin 2816 := ⟨t.val % 2 * 1408 + k.val, by omega⟩

theorem blkX (c : Dev nD) (t : Fin cfg0.N) (n : Fin 512) (k : Fin 1024) :
    iblk m c 0 t (ix2 n k) = m ((c : Thread nD τ).loc main_arg0) (ix2 (row t n) k) := by
  unfold row
  blk_ext! [iblk, V, idx t]
theorem blkG (c : Dev nD) (t : Fin cfg0.N) (k : Fin 1024) : iblk m c 1 t (ix2 0 k) = m ((c : Thread nD τ).loc main_arg1) (ix1 k) := by
  have e : iblk m c 1 t = shapeCast S1x1024 (m ((c : Thread nD τ).loc main_arg1)) shapeCasts_S1024_S1x1024 := by
    blk_ext! [iblk, V, idx t]
  rw [e]
  pointwise

/-- The two halves of the first weights. -/
def lo (k : Fin 2816) : Fin 5632 := ⟨k.val, by omega⟩
def hi (k : Fin 2816) : Fin 5632 := ⟨2816 + k.val, by omega⟩
theorem blkA (c : Dev nD) (t : Fin cfg0.N) (k : Fin 1024) (j : Fin 1408) :
    iblk m c 2 t (ix2 k j) = m ((c : Thread nD τ).loc main_arg2) (ix2 k (lo (col t j))) := by
  unfold lo col
  blk_ext! [iblk, V, idx t]
theorem blkB (c : Dev nD) (t : Fin cfg0.N) (k : Fin 1024) (j : Fin 1408) :
    iblk m c 3 t (ix2 k j) = m ((c : Thread nD τ).loc main_arg2) (ix2 k (hi (col t j))) := by
  unfold hi col
  blk_ext! [iblk, V, idx t]
theorem blkO (c : Dev nD) (t : Fin cfg0.N) (j : Fin 1408) (k : Fin 1024) :
    iblk m c 4 t (ix2 j k) = m ((c : Thread nD τ).loc main_arg3) (ix2 (col t j) k) := by
  unfold col
  blk_ext! [iblk, V, idx t]

/-- The grid point that begins a block of rows, and its two hidden blocks. -/
theorem base_val (t : Fin cfg0.N) : (base t).val = t.val - t.val % 2 := Nat.mod_eq_of_lt (by have := lt16 t; omega)
theorem row_base (t : Fin cfg0.N) (n : Fin 512) : row (base t) n = row t n := Fin.ext (by show (base t).val / 2 * 512 + _ = t.val / 2 * 512 + _; rw [base_val]; omega)

/-- The arguments of the call, as it is given them. -/
abbrev aX (c : Dev nD) : S4096x1024.Idx → EReal := m ((c : Thread nD τ).loc main_arg0)
abbrev aG (c : Dev nD) (k : Fin 1024) : EReal := m ((c : Thread nD τ).loc main_arg1) (ix1 k)
abbrev aW (c : Dev nD) (f : Fin 2816 → Fin 5632) : (⟨2, ![1024, 2816]⟩ : Shape).Idx → EReal := fun i => (m ((c : Thread nD τ).loc main_arg2) : S1024x5632.Idx → EReal) (ix2 (i 0) (f (i 1)))
abbrev aO (c : Dev nD) : S2816x1024.Idx → EReal := m ((c : Thread nD τ).loc main_arg3)

theorem hw_ix (c : Dev nD) (t : Fin cfg0.N) (n : Fin 512) (k : Fin 1024) : hw m c (base t) (ix2 n k) = normed (aX m c) (aG m c) (row t n) k := by
  unfold hw
  rw [norm_tile]
  unfold normed
  simp only [blkX, blkG, row_base]

theorem gate_band (c : Dev nD) (t : Fin cfg0.N) (n : Fin 512) (k : Fin 1408) : out7 m c t (ix2 n k) = prod (normed (aX m c) (aG m c)) (aW m c lo) (row t n) (col t k) := by
  refine (gate_tile _ _ n k).trans ?_
  unfold prod
  simp only [hw_ix, blkA]
  rfl
theorem up_band (c : Dev nD) (t : Fin cfg0.N) (n : Fin 512) (k : Fin 1408) : out8 m c t (ix2 n k) = prod (normed (aX m c) (aG m c)) (aW m c hi) (row t n) (col t k) := by
  refine (up_tile _ _ n k).trans ?_
  unfold prod
  simp only [hw_ix, blkB]
  rfl

/-- One block's part of the sum over the hidden columns, and the two parts together. -/
theorem part (c : Dev nD) (t b : Fin cfg0.N) (e : base b = base t) (n : Fin 512) (k : Fin 1024) :
    term (fun n k => hw m c (base t) (ix2 n k)) (iblk m c 2 b) (iblk m c 3 b) (iblk m c 4 b) n k
      = ∑ j : Fin 1408, act (prod (normed (aX m c) (aG m c)) (aW m c lo) (row t n) (col b j)) (prod (normed (aX m c) (aG m c)) (aW m c hi) (row t n) (col b j)) * aO m c (ix2 (col b j) k) := by
  unfold term prod
  simp only [hw_ix, blkA, blkB, blkO]
  rfl

theorem both (f : Fin 2816 → EReal) (s t : Fin cfg0.N) (hs : s.val % 2 = 0) (ht : t.val % 2 = 1) : (∑ j, f (col s j)) + (∑ j, f (col t j)) = ∑ k, f k := by
  refine Eq.symm ((Fin.sum_univ_add (a := 1408) (b := 1408) f).trans (congrArg₂ (· + ·) ?_ ?_))
  · exact Finset.sum_congr rfl fun j _ => congrArg f (Fin.ext (by show j.val = s.val % 2 * 1408 + j.val; omega))
  · exact Finset.sum_congr rfl fun j _ => congrArg f (Fin.ext (by show 1408 + j.val = t.val % 2 * 1408 + j.val; omega))

/-- The layer's result. -/
def layer {N : ℕ} (X : (⟨2, ![N, 1024]⟩ : Shape).Idx → EReal) (g : Fin 1024 → EReal) (A B : (⟨2, ![1024, 2816]⟩ : Shape).Idx → EReal) (O : S2816x1024.Idx → EReal) (n : Fin N) (c : Fin 1024) : EReal :=
  X (ix2 n c) + Ideal.ofBits .f32 1056964608#32 * term (normed X g) A B O n c

theorem out_band (c : Dev nD) (t : Fin cfg0.N) (h : t.val % 2 = 1) (n : Fin 512) (k : Fin 1024) :
    out5 m c t (ix2 n k) = layer (aX m c) (aG m c) (aW m c lo) (aW m c hi) (aO m c) (row t n) k := by
  have hb : (base t).val % 2 = 0 := by rw [base_val]; omega
  have ebb : base (base t) = base t := Fin.ext (by rw [base_val, hb]; rfl)
  refine (out_tile _ _ n k).trans ?_
  unfold layer
  rw [blkX, step_tile, part m c t t rfl]
  unfold acc
  rw [step_tile, zero_tile, zero_add, part m c t (base t) ebb]
  exact congrArg (fun z : EReal => aX m c (ix2 (row t n) k) + Ideal.ofBits .f32 1056964608#32 * z) (both (fun k' => act (prod (normed (aX m c) (aG m c)) (aW m c lo) (row t n) k') (prod (normed (aX m c) (aG m c)) (aW m c hi) (row t n) k') * aO m c (ix2 k' k)) (base t) t hb h)

theorem odd5 : ∀ t : Fin cfg0.N, (cfg0.win 5).flush t = true → t.val % 2 = 1 := by decide +kernel

theorem final5 (c : Dev nD) : (dats m 0 c).arrAt 5 (cfgs 0).N
    = fun i : S4096x1024.Idx => layer (aX m c) (aG m c) (aW m c lo) (aW m c hi) (aO m c) (i 0) (i 1) := by
  refine (dats m 0 c).arrAt_eq_of_covers 5 _ (by decide +kernel) fun t hf y => ?_
  blk_simp
  rw [after_5]
  idx_vars y
  refine (out_band m c t (odd5 t hf) y0 y1).trans ?_
  generalize hF : (fun i : S4096x1024.Idx => layer (aX m c) (aG m c) (aW m c lo) (aW m c hi) (aO m c) (i 0) (i 1)) = G
  refine (congrFun hF (ix2 _ _)).trans (Eq.trans ?_ (congrFun hF _).symm)
  clear hF
  blk_ext! [idx t]

theorem final6 (c : Dev nD) : (dats m 0 c).arrAt 6 (cfgs 0).N = fun i : S4096x1024.Idx => normed (aX m c) (aG m c) (i 0) (i 1) := by
  refine (dats m 0 c).arrAt_eq_of_covers 6 _ (by decide +kernel) fun t hf y => ?_
  blk_simp
  rw [after_6]
  idx_vars y
  refine (hw_ix m c t y0 y1).trans ?_
  generalize hF : (fun i : S4096x1024.Idx => normed (aX m c) (aG m c) (i 0) (i 1)) = G
  refine (congrFun hF (ix2 _ _)).trans (Eq.trans ?_ (congrFun hF _).symm)
  clear hF
  blk_ext! [idx t]

theorem final7 (c : Dev nD) : (dats m 0 c).arrAt 7 (cfgs 0).N = fun i : S4096x2816.Idx => prod (normed (aX m c) (aG m c)) (aW m c lo) (i 0) (i 1) := by
  refine (dats m 0 c).arrAt_eq_of_covers 7 _ (by decide +kernel) fun t hf y => ?_
  blk_simp
  rw [after_7]
  idx_vars y
  refine (gate_band m c t y0 y1).trans ?_
  generalize hF : (fun i : S4096x2816.Idx => prod (normed (aX m c) (aG m c)) (aW m c lo) (i 0) (i 1)) = G
  refine (congrFun hF (ix2 _ _)).trans (Eq.trans ?_ (congrFun hF _).symm)
  clear hF
  blk_ext! [idx t]

theorem final8 (c : Dev nD) : (dats m 0 c).arrAt 8 (cfgs 0).N = fun i : S4096x2816.Idx => prod (normed (aX m c) (aG m c)) (aW m c hi) (i 0) (i 1) := by
  refine (dats m 0 c).arrAt_eq_of_covers 8 _ (by decide +kernel) fun t hf y => ?_
  blk_simp
  rw [after_8]
  idx_vars y
  refine (up_band m c t y0 y1).trans ?_
  generalize hF : (fun i : S4096x2816.Idx => prod (normed (aX m c) (aG m c)) (aW m c hi) (i 0) (i 1)) = G
  refine (congrFun hF (ix2 _ _)).trans (Eq.trans ?_ (congrFun hF _).symm)
  clear hF
  blk_ext! [idx t]

section Ref

open Cert.FfnFwdRefIdeal.Read

variable (X : FVec Ideal S4096x1024 .f32) (G : FVec Ideal S1024 .f32) (W : FVec Ideal S1024x5632 .bf16) (O : FVec Ideal S2816x1024 .bf16)

abbrev half (f : Fin 2816 → Fin 5632) : (⟨2, ![1024, 2816]⟩ : Shape).Idx → EReal := fun i => W (ix2 (i 0) (f (i 1)))

theorem normed_eq (n : Fin 4096) (c : Fin 1024) : val_main_v12 (F := Ideal) X G (ix2 n c) = normed X (fun k => G (ix1 k)) n c := by
  unfold normed RmsRow.hat RmsRow.rs RmsRow.ms
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise
theorem h_eq (n : Fin 4096) (c : Fin 1024) : val_main_v24 (F := Ideal) X G (ix2 n c) = normed X (fun k => G (ix1 k)) n c := normed_eq X G n c

theorem gate_eq (n : Fin 4096) (c : Fin 2816) : val_main_v15 (F := Ideal) X G W (ix2 n c) = prod (normed X (fun k => G (ix1 k))) (half W lo) n c := by
  unfold prod
  simp only [← normed_eq]
  unfold val_main_v15 val_main_v14 val_main_v13
  generalize val_main_v12 (F := Ideal) X G = H
  unfold half lo
  pointwise
theorem up_eq (n : Fin 4096) (c : Fin 2816) : val_main_v16 (F := Ideal) X G W (ix2 n c) = prod (normed X (fun k => G (ix1 k))) (half W hi) n c := by
  unfold prod
  simp only [← normed_eq]
  unfold val_main_v16 val_main_v14 val_main_v13
  generalize val_main_v12 (F := Ideal) X G = H
  unfold half hi
  pointwise

theorem act_eq (n : Fin 4096) (c : Fin 2816) : val_main_v18 (F := Ideal) X G W (ix2 n c)
    = act (prod (normed X (fun k => G (ix1 k))) (half W lo) n c) (prod (normed X (fun k => G (ix1 k))) (half W hi) n c) := by
  rw [← gate_eq, ← up_eq]
  unfold act Ideal.logistic val_main_v18 val_main_v17 val_main_call0_v5 val_main_call0_v4 val_main_call0_cst_0 val_main_call0_v3 val_main_call0_v2 val_main_call0_cst val_main_call0_v1 val_main_call0_v0
  generalize val_main_v15 (F := Ideal) X G W = A
  generalize val_main_v16 (F := Ideal) X G W = B
  pointwise

theorem layer_eq (n : Fin 4096) (c : Fin 1024) : val_main_v23 (F := Ideal) X G W O (ix2 n c) = layer X (fun k => G (ix1 k)) (half W lo) (half W hi) O n c := by
  unfold layer term
  simp only [← act_eq]
  unfold val_main_v23 val_main_v22 val_main_v21 val_main_cst_2 val_main_v20 val_main_v19
  generalize val_main_v18 (F := Ideal) X G W = P
  pointwise

end Ref

end Cert.FfnFwdIdeal.Hand

end
-- ==== Proof.FfnFwdPair.lean ====
/- What the two programs of FfnFwd leave. -/
module

public import proofs.«01_k».proof.Defs
public import proofs.«01_k».proof.Proof.Gen.FfnFwd
public import proofs.«01_k».proof.Proof.FfnFwdV
public import proofs.«01_k».proof.Proof.Gen.FfnFwdRefIdeal.Run
public import proofs.«01_k».proof.Proof.Gen.FfnFwdRefIdeal.Read

@[expose] public section

noncomputable section

namespace Cert.FfnFwdPair

open Idealize.ShloMosaic Idealize.ShloMosaic.TcCoe Idealize.SL.Sem

theorem defs_eq : (Cert.FfnFwd.defs (F := Bits)) = Cert.FfnFwdIdeal.defs := by sl_kernel_rfl
theorem main_eq : (Cert.FfnFwd.main (F := Bits)) = Cert.FfnFwdIdeal.main := by sl_kernel_rfl

theorem frame : @Cert.quiescent_FfnFwd Cert.FfnFwd.Gen.facts := fun m ρ _ => by
  have h := Cert.FfnFwdIdeal.Hand.frame_run (F := Bits) m ρ
  rw [← defs_eq, ← main_eq] at h
  exact h

theorem frame_ideal : @Cert.quiescent_FfnFwdIdeal Cert.FfnFwdIdeal.Gen.facts := fun m ρ _ => Cert.FfnFwdIdeal.Hand.frame_run m ρ

theorem frame_ref : @Cert.quiescent_FfnFwdRefIdeal Cert.FfnFwdRefIdeal.Gen.facts := fun m ρ _ =>
  (θ_run _ _ _).mono (fun r h => ⟨fun c => (h c).2.2.2.2, sem_eq_zero_of_no_sems rfl r.2⟩) (Cert.FfnFwdRefIdeal.Value.run m ρ)

theorem algebraic : @Cert.algebraic_FfnFwdIdeal_FfnFwdRefIdeal Cert.FfnFwdIdeal.Gen.facts Cert.FfnFwdRefIdeal.Gen.facts := by
  pair_intro
  · run_from Cert.FfnFwdIdeal.Hand.run_main m g
  · run_from Cert.FfnFwdRefIdeal.Value.run m' g'
    · refine (Cert.FfnFwdRefIdeal.Read.val_main_v23_eq (F := Ideal) _ _ _ _).trans ?_
      funext j
      idx_vars j
      rw [Cert.FfnFwdIdeal.Hand.final5]
      exact Cert.FfnFwdIdeal.Hand.layer_eq _ _ _ _ j0 j1
    · refine (Cert.FfnFwdRefIdeal.Read.val_main_v24_eq (F := Ideal) _ _).trans ?_
      funext j
      idx_vars j
      rw [Cert.FfnFwdIdeal.Hand.final6]
      exact Cert.FfnFwdIdeal.Hand.h_eq _ _ j0 j1
    · refine (Cert.FfnFwdRefIdeal.Read.val_main_v25_eq (F := Ideal) _ _ _).trans ?_
      funext j
      idx_vars j
      rw [Cert.FfnFwdIdeal.Hand.final7]
      exact Cert.FfnFwdIdeal.Hand.gate_eq _ _ _ j0 j1
    · refine (Cert.FfnFwdRefIdeal.Read.val_main_v26_eq (F := Ideal) _ _ _).trans ?_
      funext j
      idx_vars j
      rw [Cert.FfnFwdIdeal.Hand.final8]
      exact Cert.FfnFwdIdeal.Hand.up_eq _ _ _ j0 j1

end Cert.FfnFwdPair

end
-- ==== Proof.MixAFwdRun.lean ====
/- The first mixer's forward call run once: what it leaves in its output. -/
module

public import proofs.«01_k».proof.Proof.Held
public import proofs.«01_k».proof.Proof.Gen.MixAFwdIdeal.Skeleton
public import proofs.«01_k».proof.Proof.Gen.MixAFwdIdeal.Launch
public import proofs.«01_k».proof.Proof.Gen.MixAFwdIdeal.Frame
public import proofs.«01_k».proof.Proof.Bands
public import Idealize.ShloMosaic.Lib.Claim
public import Idealize.ShloMosaic.Lib.Exec
public import Idealize.ShloMosaic.Lib.Tactic
public import Idealize.ShloMosaic.Lib.Pipeline.Kit
public import Idealize.ShloMosaic.Lib.Pointwise

@[expose] public section

noncomputable section

namespace Cert.MixAFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.MixAFwdIdeal Cert.MixAFwdIdeal.Gen Cert.Rows

variable {F : FTy → Type} [FloatOps F]

local notation "𝕄" => MT nD τ sig Unit (Elt F) ℕ (UR sig nD τ) ℕ

theorem trips1 : k0_t1_loop.trips = 32 := by decide +kernel
theorem off1 : ∀ k : Fin k0_t1_loop.trips, k0_off1 k = ![128 * k.val, 0] := by decide +kernel
theorem off2 : ∀ k : Fin k0_t1_loop.trips, k0_off2 k = ![8 + 128 * k.val, 0] := by decide +kernel
theorem off3 : ∀ k : Fin k0_t1_loop.trips, k0_off3 k = ![128 * k.val, 0] := by decide +kernel

/-- The trip that number `n` names. -/
def at1 (n : ℕ) : Fin k0_t1_loop.trips := ⟨n % k0_t1_loop.trips, Nat.mod_lt _ (by rw [trips1]; decide)⟩

theorem at1_val (k : Fin k0_t1_loop.trips) : at1 k.val = k := Fin.ext (Nat.mod_eq_of_lt k.isLt)

/-- The band of 128 rows at trip `k`. -/
abbrev band (k : Fin k0_t1_loop.trips) : Rect S4096x256 := Rect.unit (k0_off1 k) S128x256.size (k0_off1_inb k)
/-- The row a tap is kept in. -/
abbrev tap0 : Rect S3x256 := Rect.unit ![0, 0] S1x256.size inb_S3x256_S1x256_0_0
abbrev tap1 : Rect S3x256 := Rect.unit ![1, 0] S1x256.size inb_S3x256_S1x256_1_0
abbrev tap2 : Rect S3x256 := Rect.unit ![2, 0] S1x256.size inb_S3x256_S1x256_2_0

section Words

variable (ab ac ax : Vec F S4096x256 .f32) (w : Vec F S3x256 .f32)

/-- The products of the two branches, band by band. -/
def Pb (k : ℕ) : Vec F S128x256 .f32 := k0_pay2 (View.ld ac (band (at1 k))) (View.ld ax (band (at1 k)))

/-- The product of the two branches led by zeros, as the scratch buffer ends. -/
def P : Vec F S4104x256 .f32 := under (p := 8) (k0_pay1 (F := F)) (Pb ac ax)

/-- The 136 rows of the product trip `k` reads. -/
def near (k : Fin k0_t1_loop.trips) : Vec F S136x256 .f32 :=
  View.ld (Val := Elt F) (e' := .f32) (P ac ax) (Rect.unit (s := S4104x256) (k0_off3 k) S136x256.size (k0_off3_inb k))

/-- The result. -/
def Y : Vec F S4096x256 .bf16 :=
  stack fun k => k0_pay3 (near ac ax (at1 k)) (View.ld w tap0) (View.ld w tap1) (View.ld w tap2) (View.ld ab (band (at1 k)))

end Words

variable (𝒱 : Variants) (c : Dev nD) (bd : Option 𝒱.V) (E : Set ℕ) (i : grid0.Coords)
  (arg1 : Memref sig .tc .vmem S4096x256 .f32) (harg1 : arg1.IsWhole)
  (arg2 : Memref sig .tc .vmem S4096x256 .f32) (harg2 : arg2.IsWhole)
  (arg3 : Memref sig .tc .vmem S4096x256 .f32) (harg3 : arg3.IsWhole)
  (arg4 : Memref sig .tc .vmem S3x256 .f32) (harg4 : arg4.IsWhole)
  (arg5 : Memref sig .tc .vmem S4096x256 .bf16) (harg5 : arg5.IsWhole)
  (arg6 : Memref sig .tc .vmem S4104x256 .f32) (harg6 : arg6.IsWhole)
  (ab ac ax : Vec F S4096x256 .f32) (w : Vec F S3x256 .f32)

/-- Before trip `k`. -/
def inv1 (k : ℕ) : sProp 𝕄 :=
  iprop((arg1.view.loc (c : Thread nD τ) ↦[arg1.view.set]{fullShare} harg1.unread ab) ∗ (arg2.view.loc (c : Thread nD τ) ↦[arg2.view.set]{fullShare} harg2.unread ac)
    ∗ (arg3.view.loc (c : Thread nD τ) ↦[arg3.view.set]{fullShare} harg3.unread ax) ∗ (arg4.view.loc (c : Thread nD τ) ↦[arg4.view.set]{fullShare} harg4.unread w)
    ∗ (∃ f, (arg5.view.loc (c : Thread nD τ) ↦[arg5.view.set]{fullShare} f) ∗ ⌜k = 0 ∨ On arg5.view f (Y ab ac ax w) (· < 128 * k)⌝)
    ∗ (∃ f, (arg6.view.loc (c : Thread nD τ) ↦[arg6.view.set]{fullShare} f) ∗ ⌜On arg6.view f (P ac ax) (· < 8 + 128 * k)⌝))

set_option warn.classDefReducibility false in
@[sl_loop] def loop1 : Idealize.ShloMosaic.LoopInv (M := 𝕄) Idealize.ShloMosaic.frame (wpE (defs₀ (F := F)) 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6) where
  inv k _ := inv1 (F := F) c arg1 harg1 arg2 harg2 arg3 harg3 arg4 harg4 arg5 arg6 ab ac ax w k
  step k acc := by
    have hk : k.val < 32 := Nat.lt_of_lt_of_le k.isLt k0_t1_abs.2.1
    unfold inv1 k0_t1_body
    iintro ⟨H1, H2, H3, H4, ⟨%f5, H5, %h5⟩, ⟨%f6, H6, %h6⟩⟩
    sl_exec
    sl_step
    have e1 := ld_unread (Val := Elt F) harg1 ab
    have e2 := ld_unread (Val := Elt F) harg2 ac
    have e3 := ld_unread (Val := Elt F) harg3 ax
    have e4 := ld_unread (Val := Elt F) harg4 w
    have h6' : On arg6.view (arg6.view.writes (Elt F) f6 [⟨Rect.unit (s := S4104x256) (k0_off2 k) S128x256.size (k0_off2_inb k), k0_pay2 (View.ld ac (band k)) (View.ld ax (band k))⟩])
        (P ac ax) (· < 8 + 128 * (k.val + 1)) :=
      On.store (W := 128) (S := (· < 8 + 128 * k.val)) (h := h6) (off2 k) rfl rfl (fun x y h0 h1 => by
        refine Eq.trans ?_ (under_at (z := k0_pay1 (F := F)) (W := Pb ac ax) k.val x y h0 h1)
        rw [Pb, at1_val]) (fun n hn => by omega)
    have hP : arg6.view.readAt (Elt F) (Rect.unit (s := S4104x256) (k0_off3 k) S136x256.size (k0_off3_inb k)).toLoadRect
        (arg6.view.writes (Elt F) f6 [⟨Rect.unit (s := S4104x256) (k0_off2 k) S128x256.size (k0_off2_inb k), k0_pay2 (View.ld ac (band k)) (View.ld ax (band k))⟩])
        = near ac ax k := h6'.load (W := 136) (off3 k) rfl (fun n _ hn => by show n < _; omega)
    iframe H1 H2 H3 H4
    sl_unfold_words
    simp only [e1, e2, e3, e4]
    isplitl [H5]
    · iexists _; isplitl [H5]; · iexact H5
      ipureintro
      show _ ∨ On arg5.view (arg5.view.writes (Elt F) f5 [⟨Rect.unit (s := S4096x256) (k0_off1 k) S128x256.size (k0_off1_inb k),
        k0_pay3 (arg6.view.readAt (Elt F) (Rect.unit (s := S4104x256) (k0_off3 k) S136x256.size (k0_off3_inb k)).toLoadRect (arg6.view.writes (Elt F) f6 [⟨Rect.unit (s := S4104x256) (k0_off2 k) S128x256.size (k0_off2_inb k), k0_pay2 (View.ld ac (band k)) (View.ld ax (band k))⟩]))
          (View.ld w tap0) (View.ld w tap1) (View.ld w tap2) (View.ld ab (band k))⟩]) (Y ab ac ax w) (· < 128 * (k.val + 1))
      rw [hP]
      refine .inr (On.store (W := 128) (S := (· < 128 * k.val)) (h := On.start h5) (off1 k) rfl rfl (fun x y h0 h1 => ?_) (fun n hn => by omega))
      rw [Y, ← stack_at _ k.val x y h0 h1, at1_val]
    · iexists _; isplitl [H6]; · iexact H6
      ipureintro
      exact h6'

/-- On whole buffers, the inputs' at their contents and the others at anything, the body ends with the inputs unchanged
    and the output at the words named. -/
theorem kernel (K : PUnit → sProp 𝕄) :
    iprop(held c arg1 ab ∗ held c arg2 ac ∗ held c arg3 ax ∗ held c arg4 w ∗ (∃ d, held c arg5 d) ∗ (∃ d, held c arg6 d)
      ∗ (iprop(held c arg1 ab ∗ held c arg2 ac ∗ held c arg3 ax ∗ held c arg4 w ∗ held c arg5 (Y ab ac ax w) ∗ (∃ d, held c arg6 d)) -∗ K ⟨⟩))
    ⊢ wp frame (wpE (defs₀ (F := F)) Variants.none c none) E (cc0_mix_a_fwd i arg1 harg1 arg2 harg2 arg3 harg3 arg4 harg4 arg5 harg5 arg6 harg6) K := by
  simp only [cc0_mix_a_fwd_eq_skeleton]; unfold cc0_mix_a_fwd_skel
  unfold held owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg1.eq_unread hf0; obtain rfl := harg2.eq_unread hf1; obtain rfl := harg3.eq_unread hf2; obtain rfl := harg4.eq_unread hf3
  have z : On arg6.view (arg6.view.writes (Elt F) fs0 [⟨Rect.unit (s := S4104x256) ![0, 0] S8x256.size inb_S4104x256_S8x256_0_0, k0_pay1 (F := F)⟩]) (P ac ax) (· < 8 + 128 * 0) :=
    On.store (W := 8) (S := fun _ => False) (h := On.none _ _ fun _ h => h) rfl rfl rfl (fun x y h0 h1 => under_pad (p := 8) (z := k0_pay1 (F := F)) (W := Pb ac ax) x y h0 h1) (fun n hn => .inl (by omega))
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro; exact (On.start (by assumption)).read_eq fun n hn => (by rw [trips1]; exact hn : n < 128 * k0_t1_loop.trips)
  · iexists _, _; isplitr; swap; · iexact HS0
    ipureintro; rfl

/-- The buffer that holds window `w`'s block at point `t`. -/
abbrev st (t : Fin cfg0.N) (w : Fin cfg0.W) := (cfg0.win w).stage (cfg0.slots t w)

variable (m : (ℓ : Loc nD τ sig) → Buf (Elt F) ℓ) (ρ : Dev nD → PrngReg)

abbrev sc0 : Memref sig .tc .vmem S4104x256 .f32 := Memref.whole cc0_scratch0

/-- The region's invariant with the scratch buffer owned at some contents. -/
theorem Phi_eq (c : Dev nD) :
    (Pipeline.ΦA spec0 c : sProp 𝕄) = iprop((∃ d, held c sc0 d) ∗ (∃ r, prngReg c r)) := by
  unfold Pipeline.ΦA; rw [scopedRest0_eq]; simp only [sc0, owns_whole]; try rfl

/-- What the output holds after the body. -/
def out4 (c : Dev nD) (t : Fin cfg0.N) : Vec F S4096x256 .bf16 := Y (iblk m c 0 t) (iblk m c 1 t) (iblk m c 2 t) (iblk m c 3 t)

/-- What the region is entered and left with. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_4 (c : Dev nD) (t : Fin cfg0.N) : (dats m 0 c).after 4 t = out4 m c t := by dsimp only [dats]
/-- Before the body every input's buffer holds its block. -/
theorem before (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) :=
  ⟨before0_0_of m _ (A_eq m c 0) (fun _ => rfl) t, before0_1_of m _ (A_eq m c 1) (fun _ => rfl) t, before0_2_of m _ (A_eq m c 2) (fun _ => rfl) t, before0_3_of m _ (A_eq m c 3) (fun _ => rfl) t⟩

/-- The body at any point. -/
theorem sound (c : Dev nD) (t : Fin cfg0.N) :
    iprop((dats m 0 c).Φ t.castSucc ∗ (dats m 0 c).owesAt () t.castSucc ∗ (∃ d, held c (st t 0) ((dats m 0 c).before 0 t d)) ∗ (∃ d, held c (st t 1) ((dats m 0 c).before 1 t d)) ∗ (∃ d, held c (st t 2) ((dats m 0 c).before 2 t d)) ∗ (∃ d, held c (st t 3) ((dats m 0 c).before 3 t d)) ∗ (∃ d, held c (st t 4) ((dats m 0 c).before 4 t d)))
    ⊢ wp frame (wpE (defs₀ (F := F)) Variants.none c none) Set.univ (bodyAt0 t)
      (fun _ => iprop((dats m 0 c).Φ t.succ ∗ (dats m 0 c).owesAt () t.succ ∗ held c (st t 0) (iblk m c 0 t) ∗ held c (st t 1) (iblk m c 1 t) ∗ held c (st t 2) (iblk m c 2 t) ∗ held c (st t 3) (iblk m c 3 t) ∗ held c (st t 4) (out4 m c t))) := by
  simp only [before m c t]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, Phi_eq]
  iintro ⟨⟨HS0, Hg⟩, Ho, ⟨%d0, H0⟩, ⟨%d1, H1⟩, ⟨%d2, H2⟩, ⟨%d3, H3⟩, ⟨%d4, H4⟩⟩
  iapply (kernel c Set.univ (grid0.coords t) _ _ _ _ _ _ _ _ _ _ _ _ (iblk m c 0 t) (iblk m c 1 t) (iblk m c 2 t) (iblk m c 3 t) _)
  iframe H0 H1 H2 H3
  isplitl [H4]; · iexists _; iexact H4
  isplitl [HS0]; · iexact HS0
  iintro ⟨H0, H1, H2, H3, H4, HS0⟩
  isplitl [HS0 Hg]
  · isplitl [HS0]; · iexact HS0
    iexact Hg
  iframe Ho H0 H1 H2 H3 H4

theorem defs₀_row (t : Fin cfg0.N) : defs₀ (F := F) .tc cfg0.body (cfg0.bodyArgs t (cfg0.slots t)) = bodyAt0 t := by
  unfold defs₀; rw [Defs.onTc_tc]

/-- What the region asks of the body. -/
theorem obligation (c : Dev nD) : Pipeline.BodyObligation (dats (F := F) m 0 c) (defs₀ (F := F)) Variants.none () Set.univ := fun t => by
  rw [bigSep_W0, bigSep_W0, defs₀_row]
  exact triple_restated (sound m c t) rfl .rfl fun _ => .rfl

set_option backward.isDefEq.respectTransparency.types false in
/-- The whole run, every counter at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The whole run. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.MixAFwdIdeal.Hand

end
-- ==== Proof.MixAFwdV.lean ====
/- The values of the first mixer's forward call, entry by entry: the backward call's first gradient, with the first branch
   in the cotangent's place. -/
module

public import proofs.«01_k».proof.Proof.MixAFwdRun
public import proofs.«01_k».proof.Proof.MixAV
public import proofs.«01_k».proof.Proof.Gen.MixAFwdRefIdeal.Read

@[expose] public section

noncomputable section

namespace Cert.MixAFwdIdeal.Hand

open Idealize.ShloMosaic Idealize.ShloMosaic.TcCoe Idealize.SL.Sem
open Cert.MixAFwdIdeal Cert.MixAFwdIdeal.Gen Cert.Grid

section

variable (ab ac ax : Vec Ideal S4096x256 .f32) (w : Vec Ideal S3x256 .f32)

theorem pay1_eq : k0_pay1 (F := Ideal) = Cert.MixAIdeal.Gen.k0_pay1 := rfl
theorem pay2_eq (u v : Vec Ideal S128x256 .f32) : k0_pay2 u v = Cert.MixAIdeal.Gen.k0_pay12 u v := rfl
theorem pay3_eq (n : Vec Ideal S136x256 .f32) (a b c : Vec Ideal S1x256 .f32) (d : Vec Ideal S128x256 .f32) :
    k0_pay3 n a b c d = Cert.MixAIdeal.Gen.k0_pay16 n a b c d := rfl

theorem band_eq (k : ℕ) (f : Vec Ideal S4096x256 .f32) :
    View.ld f (band (at1 k)) = View.ld f (Cert.MixAIdeal.Hand.band (Cert.MixAIdeal.Hand.at1 k)) := rfl

theorem stack_eq {α : Type} (W : ℕ → S128x256.Idx → α) : Cert.Rows.stack W = Cert.MixAIdeal.Hand.stack W := rfl

theorem P_eq : P ac ax = Cert.MixAIdeal.Hand.P ac ax := rfl

theorem near_eq (k : ℕ) : near ac ax (at1 k) = Cert.MixAIdeal.Hand.near ac ax (Cert.MixAIdeal.Hand.at1 k) := by
  unfold near Cert.MixAIdeal.Hand.near
  rw [P_eq]
  rfl

theorem Y_eq : Y ab ac ax w = Cert.MixAIdeal.Hand.AB ac ax ab w := by
  unfold Y Cert.MixAIdeal.Hand.AB
  rw [stack_eq]
  refine congrArg Cert.MixAIdeal.Hand.stack (funext fun k => ?_)
  rw [near_eq, pay3_eq, band_eq]

variable (z : FVec Ideal S4096x2048 .f32)

theorem y_eq (y : S4096x256.Idx) : Y (F := Ideal) (col 0 (by decide) z) (col 256 (by decide) z) (col 512 (by decide) z) w y
    = Cert.MixAFwdRefIdeal.Read.val_main_v29 (F := Ideal) z w y := by
  idx_vars y
  have hc : y1.val < 256 := y1.isLt
  rw [Y_eq, Cert.MixAIdeal.Hand.AB_ix, ← Cert.MixAFwdRefIdeal.Read.val_main_v29_eq]
  unfold Cert.MixAIdeal.Hand.lead
  simp only [at2_col _ _ _ _ _ hc]
  pointwise
  simp only [at2_ix z, at2_ix w, Nat.zero_add, dite_eq_ite, ix2_0, ix2_1, Fin.val_zero, Fin.val_one, Fin.val_two]
  refine congrArg _ (congrArg₂ (· + ·) (congrArg₂ (· + ·) rfl ?_) ?_)
  · rw [Nat.add_comm 1]
  · rw [if_neg (by omega), Nat.add_sub_cancel]

end

variable (m : (ℓ : Loc nD τ sig) → Buf (Elt Ideal) ℓ)

theorem idx : ∀ t : Fin cfg0.N, win0_0.index t = ![0, 0] ∧ win0_1.index t = ![0, 1] ∧ win0_2.index t = ![0, 2] ∧ win0_3.index t = ![0, 0]
    ∧ win0_4.index t = ![0, 0] :=
  (by decide +kernel : ∀ t : Fin grid0.N, _)

theorem blk0 (c : Dev nD) : iblk m c 0 t0_0 = col 0 (by decide) (m ((c : Thread nD τ).loc main_arg0)) := by
  blk_ext! [iblk, V, idx t0_0, col]
theorem blk1 (c : Dev nD) : iblk m c 1 t0_0 = col 256 (by decide) (m ((c : Thread nD τ).loc main_arg0)) := by
  blk_ext! [iblk, V, idx t0_0, col]
theorem blk2 (c : Dev nD) : iblk m c 2 t0_0 = col 512 (by decide) (m ((c : Thread nD τ).loc main_arg0)) := by
  blk_ext! [iblk, V, idx t0_0, col]
theorem blk3 (c : Dev nD) : iblk m c 3 t0_0 = m ((c : Thread nD τ).loc main_arg1) := by
  blk_ext! [iblk, V, idx t0_0]

theorem final4 (c : Dev nD) (j) : (dats m 0 c).arrAt 4 (cfgs 0).N j = Y (F := Ideal) (col 0 (by decide) (m ((c : Thread nD τ).loc main_arg0))) (col 256 (by decide) (m ((c : Thread nD τ).loc main_arg0))) (col 512 (by decide) (m ((c : Thread nD τ).loc main_arg0))) (m ((c : Thread nD τ).loc main_arg1)) j := by
  revert j
  refine fun j => congrFun ((dats m 0 c).arrAt_eq_of_after_last 4 t0_0 (by decide +kernel) _ fun j => ?_) j
  blk_simp
  rw [after_4]
  unfold out4
  rw [blk0, blk1, blk2, blk3]

end Cert.MixAFwdIdeal.Hand

end
-- ==== Proof.MixAFwdPair.lean ====
/- What the two programs of MixAFwd leave. -/
module

public import proofs.«01_k».proof.Defs
public import proofs.«01_k».proof.Proof.Gen.MixAFwd
public import proofs.«01_k».proof.Proof.MixAFwdV
public import proofs.«01_k».proof.Proof.Gen.MixAFwdRefIdeal.Run
public import proofs.«01_k».proof.Proof.Gen.MixAFwdRefIdeal.Read

@[expose] public section

noncomputable section

namespace Cert.MixAFwdPair

open Idealize.ShloMosaic Idealize.ShloMosaic.TcCoe Idealize.SL.Sem

theorem defs_eq : (Cert.MixAFwd.defs (F := Bits)) = Cert.MixAFwdIdeal.defs := by sl_kernel_rfl
theorem main_eq : (Cert.MixAFwd.main (F := Bits)) = Cert.MixAFwdIdeal.main := by sl_kernel_rfl

theorem frame : @Cert.quiescent_MixAFwd Cert.MixAFwd.Gen.facts := fun m ρ _ => by
  have h := Cert.MixAFwdIdeal.Hand.frame_run (F := Bits) m ρ
  rw [← defs_eq, ← main_eq] at h
  exact h

theorem frame_ideal : @Cert.quiescent_MixAFwdIdeal Cert.MixAFwdIdeal.Gen.facts := fun m ρ _ => Cert.MixAFwdIdeal.Hand.frame_run m ρ

theorem frame_ref : @Cert.quiescent_MixAFwdRefIdeal Cert.MixAFwdRefIdeal.Gen.facts := fun m ρ _ =>
  (θ_run _ _ _).mono (fun r h => ⟨fun c => (h c).2, sem_eq_zero_of_no_sems rfl r.2⟩) (Cert.MixAFwdRefIdeal.Value.run m ρ)

/-- The gated three-tap convolution. -/
theorem algebraic : @Cert.algebraic_MixAFwdIdeal_MixAFwdRefIdeal Cert.MixAFwdIdeal.Gen.facts Cert.MixAFwdRefIdeal.Gen.facts := by
  pair_intro
  · run_from Cert.MixAFwdIdeal.Hand.run_main m g
  · run_from Cert.MixAFwdRefIdeal.Value.run m' g'
    · rw [Cert.MixAFwdRefIdeal.Read.val_main_v29_eq]
      funext j
      rw [Cert.MixAFwdIdeal.Hand.final4, Cert.MixAFwdIdeal.Hand.y_eq]

end Cert.MixAFwdPair

end
-- ==== Proof.MixDFwdRun.lean ====
/- The fourth mixer's forward call run once: what it leaves in its output. -/
module

public import proofs.«01_k».proof.Proof.Held
public import proofs.«01_k».proof.Proof.Gen.MixDFwdIdeal.Skeleton
public import proofs.«01_k».proof.Proof.Gen.MixDFwdIdeal.Launch
public import proofs.«01_k».proof.Proof.Gen.MixDFwdIdeal.Frame
public import proofs.«01_k».proof.Proof.Bands
public import Idealize.ShloMosaic.Lib.Claim
public import Idealize.ShloMosaic.Lib.Exec
public import Idealize.ShloMosaic.Lib.Tactic
public import Idealize.ShloMosaic.Lib.Pipeline.Kit
public import Idealize.ShloMosaic.Lib.Pointwise

@[expose] public section

noncomputable section

namespace Cert.MixDFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.MixDFwdIdeal Cert.MixDFwdIdeal.Gen Cert.Rows

variable {F : FTy → Type} [FloatOps F]

local notation "𝕄" => MT nD τ sig Unit (Elt F) ℕ (UR sig nD τ) ℕ

theorem trips1 : k0_t1_loop.trips = 32 := by decide +kernel
theorem off1 : ∀ k : Fin k0_t1_loop.trips, k0_off1 k = ![128 * k.val, 0] := by decide +kernel
theorem off2 : ∀ k : Fin k0_t1_loop.trips, k0_off2 k = ![16 + 128 * k.val, 0] := by decide +kernel
theorem off3 : ∀ k : Fin k0_t1_loop.trips, k0_off3 k = ![128 * k.val, 0] := by decide +kernel

/-- The trip that number `n` names. -/
def at1 (n : ℕ) : Fin k0_t1_loop.trips := ⟨n % k0_t1_loop.trips, Nat.mod_lt _ (by rw [trips1]; decide)⟩

theorem at1_val (k : Fin k0_t1_loop.trips) : at1 k.val = k := Fin.ext (Nat.mod_eq_of_lt k.isLt)

/-- The band of 128 rows at trip `k`, where the scratch buffer keeps it, and the rows around it. -/
abbrev band (k : Fin k0_t1_loop.trips) : Rect S4096x256 := Rect.unit (k0_off1 k) S128x256.size (k0_off1_inb k)
abbrev lower (k : Fin k0_t1_loop.trips) : Rect S4112x256 := Rect.unit (k0_off2 k) S128x256.size (k0_off2_inb k)
abbrev wide (k : Fin k0_t1_loop.trips) : Rect S4112x256 := Rect.unit (k0_off3 k) S144x256.size (k0_off3_inb k)
abbrev row : Rect S1x256 := Rect.unit ![0, 0] S1x256.size inb_S1x256_S1x256_0_0
abbrev square : Rect S256x256 := Rect.unit ![0, 0] S256x256.size inb_S256x256_S256x256_0_0

/-- The first row's number at trip `k`, as the body computes it. -/
def base (k : Fin k0_t1_loop.trips) : BitVec 32 := Scalar.muli (Scf.iv 0#32 1#32 k) 128#32

/-- The window's sum every column takes, of the rows around a band; and a band of the result. -/
def total (n : Vec F S144x256 .f32) : FVec F S128x256 .f32 :=
  k0_pay15 (k0_pay5 n) (k0_pay7 n) (k0_pay9 n) (k0_pay10 n) k0_pay11 k0_pay12 k0_pay13 k0_pay14
def tile (b : BitVec 32) (n : Vec F S144x256 .f32) (p : Vec F S256x256 .bf16) (s : Vec F S1x256 .f32) : FVec F S128x256 .bf16 :=
  k0_pay2 n (total n) (k0_pay16 b) k0_pay17 k0_pay18 k0_pay19 k0_pay20 p s

section Words

variable (x : Vec F S4096x256 .f32) (p : Vec F S256x256 .bf16) (s : Vec F S1x256 .f32)

/-- The rows, band by band. -/
def Pb (k : ℕ) : Vec F S128x256 .f32 := k0_pay3 (View.ld x (band (at1 k)))

/-- The rows under zeros, as the scratch buffer ends. -/
def P : Vec F S4112x256 .f32 := under (p := 16) (k0_pay1 (F := F)) (Pb x)

def near (k : Fin k0_t1_loop.trips) : Vec F S144x256 .f32 := View.ld (Val := Elt F) (e' := .f32) (P x) (wide k)

/-- The result. -/
def Y : Vec F S4096x256 .bf16 := stack fun k => tile (base (at1 k)) (near x (at1 k)) (View.ld p square) (View.ld s row)

end Words

variable (𝒱 : Variants) (c : Dev nD) (bd : Option 𝒱.V) (E : Set ℕ) (i : grid0.Coords)
  (arg1 : Memref sig .tc .vmem S4096x256 .f32) (harg1 : arg1.IsWhole)
  (arg2 : Memref sig .tc .vmem S256x256 .bf16) (harg2 : arg2.IsWhole)
  (arg3 : Memref sig .tc .vmem S1x256 .f32) (harg3 : arg3.IsWhole)
  (arg4 : Memref sig .tc .vmem S4096x256 .bf16) (harg4 : arg4.IsWhole)
  (arg5 : Memref sig .tc .vmem S4112x256 .f32) (harg5 : arg5.IsWhole)
  (x : Vec F S4096x256 .f32) (p : Vec F S256x256 .bf16) (s : Vec F S1x256 .f32)

/-- Before trip `k`. -/
def inv1 (k : ℕ) : sProp 𝕄 :=
  iprop((arg1.view.loc (c : Thread nD τ) ↦[arg1.view.set]{fullShare} harg1.unread x)
    ∗ (arg2.view.loc (c : Thread nD τ) ↦[arg2.view.set]{fullShare} harg2.unread p)
    ∗ (arg3.view.loc (c : Thread nD τ) ↦[arg3.view.set]{fullShare} harg3.unread s)
    ∗ (∃ f, (arg4.view.loc (c : Thread nD τ) ↦[arg4.view.set]{fullShare} f) ∗ ⌜k = 0 ∨ On arg4.view f (Y x p s) (· < 128 * k)⌝)
    ∗ (∃ f, (arg5.view.loc (c : Thread nD τ) ↦[arg5.view.set]{fullShare} f) ∗ ⌜On arg5.view f (P x) (· < 16 + 128 * k)⌝))

set_option warn.classDefReducibility false in
@[sl_loop] def loop1 : Idealize.ShloMosaic.LoopInv (M := 𝕄) Idealize.ShloMosaic.frame (wpE (defs₀ (F := F)) 𝒱 (c : Thread nD τ) bd) E
    k0_t1_loop.lb k0_t1_loop.ub k0_t1_loop.st k0_t1_ok () (k0_t1_body (F := F) i arg1 harg1 arg2 harg2 arg3 harg3 arg4 harg4 arg5 harg5) where
  inv k _ := inv1 (F := F) c arg1 harg1 arg2 harg2 arg3 harg3 arg4 arg5 x p s k
  step k acc := by
    have hk : k.val < 32 := Nat.lt_of_lt_of_le k.isLt k0_t1_abs.2.1
    unfold inv1 k0_t1_body
    iintro ⟨H1, H2, H3, ⟨%f4, H4, %h4⟩, ⟨%f5, H5, %h5⟩⟩
    sl_exec
    sl_step
    have e1 := ld_unread (Val := Elt F) harg1 x
    have e2 := ld_unread (Val := Elt F) harg2 p
    have e3 := ld_unread (Val := Elt F) harg3 s
    have hS : On arg5.view (arg5.view.writes (Elt F) f5 [⟨lower k, k0_pay3 (View.ld x (band k))⟩]) (P x) (· < 16 + 128 * (k.val + 1)) :=
      On.store (W := 128) (S := (· < 16 + 128 * k.val)) (h := h5) (off2 k) rfl rfl (fun u y h0 h1 => by
        refine Eq.trans ?_ (under_at (z := k0_pay1 (F := F)) (W := Pb x) k.val u y h0 h1)
        rw [Pb, at1_val]) (fun n hn => by omega)
    have hP : arg5.view.readAt (Elt F) (wide k).toLoadRect (arg5.view.writes (Elt F) f5 [⟨lower k, k0_pay3 (View.ld x (band k))⟩]) = near x k :=
      hS.load (W := 144) (off3 k) rfl (fun n _ hn => by show n < _; omega)
    iframe H1 H2 H3
    sl_unfold_words
    simp only [e1, e2, e3]
    isplitl [H4]
    · iexists _; isplitl [H4]; · iexact H4
      ipureintro
      show _ ∨ On arg4.view (arg4.view.writes (Elt F) f4 [⟨band k, tile (base k) (arg5.view.readAt (Elt F) (wide k).toLoadRect (arg5.view.writes (Elt F) f5 [⟨lower k, k0_pay3 (View.ld x (band k))⟩])) (View.ld p square) (View.ld s row)⟩]) (Y x p s) (· < 128 * (k.val + 1))
      rw [hP]
      refine .inr (On.store (W := 128) (S := (· < 128 * k.val)) (h := On.start h4) (off1 k) rfl rfl (fun u y h0 h1 => ?_) (fun n hn => by omega))
      rw [Y, ← stack_at _ k.val u y h0 h1, at1_val]
    · iexists _; isplitl [H5]; · iexact H5
      ipureintro
      exact hS

/-- On whole buffers, the inputs' at their contents and the others at anything, the body ends with the inputs unchanged
    and the output at the words named. -/
theorem kernel (K : PUnit → sProp 𝕄) :
    iprop(held c arg1 x ∗ held c arg2 p ∗ held c arg3 s ∗ (∃ d, held c arg4 d) ∗ (∃ d, held c arg5 d)
      ∗ (iprop(held c arg1 x ∗ held c arg2 p ∗ held c arg3 s ∗ held c arg4 (Y x p s) ∗ (∃ d, held c arg5 d)) -∗ K ⟨⟩))
    ⊢ wp frame (wpE (defs₀ (F := F)) Variants.none c none) E (cc0_mix_d_fwd i arg1 harg1 arg2 harg2 arg3 harg3 arg4 harg4 arg5 harg5) K := by
  simp only [cc0_mix_d_fwd_eq_skeleton]; unfold cc0_mix_d_fwd_skel
  unfold held owns
  iintro ⟨⟨%f0, %hf0, H0⟩, ⟨%f1, %hf1, H1⟩, ⟨%f2, %hf2, H2⟩, ⟨%d3, %f3, -, H3⟩, ⟨%ds0, %fs0, -, HS0⟩, Hk⟩
  obtain rfl := harg1.eq_unread hf0; obtain rfl := harg2.eq_unread hf1; obtain rfl := harg3.eq_unread hf2
  have z : On arg5.view (arg5.view.writes (Elt F) fs0 [⟨Rect.unit (s := S4112x256) ![0, 0] S16x256.size inb_S4112x256_S16x256_0_0, k0_pay1 (F := F)⟩]) (P x) (· < 16 + 128 * 0) :=
    On.store (W := 16) (S := fun _ => False) (h := On.none _ _ fun _ h => h) rfl rfl rfl (fun u y h0 h1 => under_pad (p := 16) (z := k0_pay1 (F := F)) (W := Pb x) u y h0 h1) (fun n hn => .inl (by omega))
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro; exact (On.start (by assumption)).read_eq fun n hn => (by rw [trips1]; exact hn : n < 128 * k0_t1_loop.trips)
  · iexists _, _; isplitr; swap; · iexact HS0
    ipureintro; rfl

/-- The buffer that holds window `w`'s block at point `t`. -/
abbrev st (t : Fin cfg0.N) (w : Fin cfg0.W) := (cfg0.win w).stage (cfg0.slots t w)

variable (m : (ℓ : Loc nD τ sig) → Buf (Elt F) ℓ) (ρ : Dev nD → PrngReg)

abbrev sc0 : Memref sig .tc .vmem S4112x256 .f32 := Memref.whole cc0_scratch0

/-- The region's invariant with the scratch buffer owned at some contents. -/
theorem Phi_eq (c : Dev nD) :
    (Pipeline.ΦA spec0 c : sProp 𝕄) = iprop((∃ d, held c sc0 d) ∗ (∃ r, prngReg c r)) := by
  unfold Pipeline.ΦA; rw [scopedRest0_eq]; simp only [sc0, owns_whole]; try rfl

/-- What the output holds after the body. -/
def out3 (c : Dev nD) (t : Fin cfg0.N) : Vec F S4096x256 .bf16 := Y (iblk m c 0 t) (iblk m c 1 t) (iblk m c 2 t)

/-- What the region is entered and left with. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_3 (c : Dev nD) (t : Fin cfg0.N) : (dats m 0 c).after 3 t = out3 m c t := by dsimp only [dats]
/-- Before the body every input's buffer holds its block. -/
theorem before (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) :=
  ⟨before0_0_of m _ (A_eq m c 0) (fun _ => rfl) t, before0_1_of m _ (A_eq m c 1) (fun _ => rfl) t, before0_2_of m _ (A_eq m c 2) (fun _ => rfl) t⟩

/-- The body at any point. -/
theorem sound (c : Dev nD) (t : Fin cfg0.N) :
    iprop((dats m 0 c).Φ t.castSucc ∗ (dats m 0 c).owesAt () t.castSucc ∗ (∃ d, held c (st t 0) ((dats m 0 c).before 0 t d)) ∗ (∃ d, held c (st t 1) ((dats m 0 c).before 1 t d)) ∗ (∃ d, held c (st t 2) ((dats m 0 c).before 2 t d)) ∗ (∃ d, held c (st t 3) ((dats m 0 c).before 3 t d)))
    ⊢ wp frame (wpE (defs₀ (F := F)) Variants.none c none) Set.univ (bodyAt0 t)
      (fun _ => iprop((dats m 0 c).Φ t.succ ∗ (dats m 0 c).owesAt () t.succ ∗ held c (st t 0) (iblk m c 0 t) ∗ held c (st t 1) (iblk m c 1 t) ∗ held c (st t 2) (iblk m c 2 t) ∗ held c (st t 3) (out3 m c t))) := by
  simp only [before m c t]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, Phi_eq]
  iintro ⟨⟨HS0, Hg⟩, Ho, ⟨%d0, H0⟩, ⟨%d1, H1⟩, ⟨%d2, H2⟩, ⟨%d3, H3⟩⟩
  iapply (kernel c Set.univ (grid0.coords t) _ _ _ _ _ _ _ _ _ _ (iblk m c 0 t) (iblk m c 1 t) (iblk m c 2 t) _)
  iframe H0 H1 H2
  isplitl [H3]; · iexists _; iexact H3
  isplitl [HS0]; · iexact HS0
  iintro ⟨H0, H1, H2, H3, HS0⟩
  isplitl [HS0 Hg]
  · isplitl [HS0]; · iexact HS0
    iexact Hg
  iframe Ho H0 H1 H2 H3

theorem defs₀_row (t : Fin cfg0.N) : defs₀ (F := F) .tc cfg0.body (cfg0.bodyArgs t (cfg0.slots t)) = bodyAt0 t := by
  unfold defs₀; rw [Defs.onTc_tc]

/-- What the region asks of the body. -/
theorem obligation (c : Dev nD) : Pipeline.BodyObligation (dats (F := F) m 0 c) (defs₀ (F := F)) Variants.none () Set.univ := fun t => by
  rw [bigSep_W0, bigSep_W0, defs₀_row]
  exact triple_restated (sound m c t) rfl .rfl fun _ => .rfl

set_option backward.isDefEq.respectTransparency.types false in
/-- The whole run, every counter at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The whole run. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.MixDFwdIdeal.Hand

end
-- ==== Proof.MixDFwdV.lean ====
/- The values of the pooling mixer's forward call, entry by entry, of those its backward call takes. -/
module

public import proofs.«01_k».proof.Proof.MixDFwdRun
public import proofs.«01_k».proof.Proof.MixDFinal
public import proofs.«01_k».proof.Proof.Gen.MixDFwdRefIdeal.Read

@[expose] public section

noncomputable section

namespace Cert.MixDFwdIdeal.Hand

open Idealize.ShloMosaic Idealize.ShloMosaic.TcCoe Idealize.SL.Sem
open Cert.MixDFwdIdeal Cert.MixDFwdIdeal.Gen Cert.Grid Cert.Reals
open Cert.MixDRefIdeal.Read (X G bd lane bd_col group_sum)
open Cert.MixDIdeal.Hand (pooled mu pooled_mu stack_ix ladder bd_at mu_eq)

section Words

variable (n : Vec Ideal S144x256 .f32) (x : Vec Ideal S4096x256 .f32) (p : Vec Ideal S256x256 .bf16) (s : Vec Ideal S1x256 .f32)

theorem total_eq : total n = Cert.MixDIdeal.Hand.total n := rfl

/-- A band of pooled rows through the matrix and the scale. -/
def through (q : FVec Ideal S128x256 .bf16) : FVec Ideal S128x256 .bf16 :=
  truncf .bf16 (mulf (matmul dot_S128x256_S256x256_S128x256_1_0_0_1_n_n none q (shapeCast S256x256 p shapeCasts_S256x256_S256x256 : FVec Ideal S256x256 .bf16)
    (constant S128x256 .f32 0x00000000#32)) (broadcastTo S128x256 (shapeCast S1x256 s shapeCasts_S1x256_S1x256) broadcasts_S1x256_S128x256)) bitsLt_bf16_f32

theorem tile_eq (b : BitVec 32) : tile b n p s = through p s (pooled n b) := by
  unfold tile pooled
  rw [total_eq]
  generalize Cert.MixDIdeal.Hand.total n = t
  rfl

theorem through_ix (q : FVec Ideal S128x256 .bf16) (r : Fin 128) (c : Fin 256) : through p s q (ix2 r c) = (∑ e : Fin 256, q (ix2 r e) * p (ix2 e c)) * s (ix2 0 c) := by
  unfold through
  pointwise

theorem P_eq : P x = Cert.MixDIdeal.Hand.P x := rfl
theorem base_eq (k : ℕ) : base (at1 k) = Cert.MixDIdeal.Hand.base (Cert.MixDIdeal.Hand.at1 k) := rfl

theorem near_eq (k : ℕ) : near x (at1 k) = Cert.MixDIdeal.Hand.near x (Cert.MixDIdeal.Hand.at1 k) := by
  unfold near Cert.MixDIdeal.Hand.near
  rw [P_eq]
  rfl

theorem ld_square : View.ld p square = p := Cert.MixDIdeal.Hand.ld_square p
theorem ld_row : View.ld s row = s := Cert.MixDIdeal.Hand.ld_row s

theorem Y_ix (n : Fin 4096) (c : Fin 256) : Y x p s (ix2 n c) = (∑ e : Fin 256, mu x n e * p (ix2 e c)) * s (ix2 0 c) := by
  unfold Y
  refine stack_ix _ (fun n c => (∑ e : Fin 256, mu x n e * p (ix2 e c)) * s (ix2 0 c)) (fun k hk r c => ?_) n c
  rw [tile_eq, through_ix, ld_square, ld_row, near_eq, base_eq]
  exact congrArg (· * _) (Finset.sum_congr rfl fun e _ => congrArg (· * _) (pooled_mu x hk r e))

end Words

section Reference

open Cert.MixDFwdRefIdeal.Read

variable (z : Vec Ideal S4096x2048 .f32) (p : Vec Ideal S4x64x64 .f32) (s : Vec Ideal S256 .f32)

theorem mean_0 : val_main_v17 (F := Ideal) z = Cert.MixDRefIdeal.Read.val_main_v18 (F := Ideal) z := rfl
theorem mean_1 : val_main_v32 (F := Ideal) z = Cert.MixDRefIdeal.Read.val_main_v34 (F := Ideal) z := rfl
theorem mean_2 : val_main_v47 (F := Ideal) z = Cert.MixDRefIdeal.Read.val_main_v50 (F := Ideal) z := rfl
theorem mean_3 : val_main_v62 (F := Ideal) z = Cert.MixDRefIdeal.Read.val_main_v66 (F := Ideal) z := rfl
theorem means : val_main_v67 (F := Ideal) z = Cert.MixDRefIdeal.Read.val_main_v71 (F := Ideal) z := by
  unfold val_main_v67 Cert.MixDRefIdeal.Read.val_main_v71 val_main_v63 val_main_v64 val_main_v65 val_main_v66
    Cert.MixDRefIdeal.Read.val_main_v67 Cert.MixDRefIdeal.Read.val_main_v68 Cert.MixDRefIdeal.Read.val_main_v69 Cert.MixDRefIdeal.Read.val_main_v70
  rw [mean_0, mean_1, mean_2, mean_3]
theorem mixed : val_main_v70 (F := Ideal) z p = Cert.MixDRefIdeal.Read.val_main_v74 (F := Ideal) z p := by
  unfold val_main_v70 val_main_v69 val_main_v68 Cert.MixDRefIdeal.Read.val_main_v74 Cert.MixDRefIdeal.Read.val_main_v73 Cert.MixDRefIdeal.Read.val_main_v72
  rw [means]
  rfl

theorem ref_ix (n : Fin 4096) (c : Fin 256) : val_main_v74 (F := Ideal) z p s (ix2 n c) = Cert.MixDRefIdeal.Read.val_main_v74 (F := Ideal) z p (ix2 n c) * s (ix1 c) := by
  rw [← mixed]
  unfold val_main_v74 val_main_v73 val_main_v72 val_main_v71
  generalize val_main_v70 (F := Ideal) z p = A
  pointwise

theorem y_eq (hz : Finite z) (n : Fin 4096) (c : Fin 256) : val_main_v74 (F := Ideal) z p s (ix2 n c) = Y (F := Ideal) (X z) (bd p) (G s) (ix2 n c) := by
  obtain ⟨g, f, rfl⟩ : ∃ (g : Fin 4) (f : Fin 64), c = lane g f :=
    ⟨⟨c.val / 64, by omega⟩, ⟨c.val % 64, by omega⟩, Fin.ext (by show c.val = c.val / 64 * 64 + c.val % 64; omega)⟩
  have h : (lane g f).val / 64 = g.val := by show (g.val * 64 + f.val) / 64 = _; omega
  have h' : (lane g f).val % 64 = f.val := by show (g.val * 64 + f.val) % 64 = _; omega
  rw [ref_ix, Cert.MixDRefIdeal.Read.yl_ix, Y_ix]
  refine congrArg (· * s (ix1 (lane g f))) ?_
  simp only [h, h', bd_col]
  rw [group_sum (fun e => mu (X z) n e) g fun e => p (ix3 g e f)]
  refine Finset.sum_congr rfl fun e _ => ?_
  rw [← mu_eq z hz, mul_comm]

end Reference

variable (m : (ℓ : Loc nD τ sig) → Buf (Elt Ideal) ℓ)

theorem idx : ∀ t : Fin cfg0.N, win0_0.index t = ![0, 7] ∧ win0_1.index t = ![0, 0] ∧ win0_2.index t = ![0, 0] ∧ win0_3.index t = ![0, 0] :=
  (by decide +kernel : ∀ t : Fin grid0.N, _)

theorem V_v26 (c : Dev nD) : Cert.MixDFwdIdeal.Gen.V m c main_v26 = G (m ((c : Thread nD τ).loc main_arg2)) := by
  show StableHlo.after hostOps0 _ (Proc.devRef .tc main_v26) = _
  after_results
  funext y; idx_vars y
  pointwise
  rfl

theorem V_v25 (c : Dev nD) : Cert.MixDFwdIdeal.Gen.V m c main_v25 = bd (m ((c : Thread nD τ).loc main_arg1)) := by
  show StableHlo.after hostOps0 _ (Proc.devRef .tc main_v25) = _
  after_results
  funext y; idx_vars y
  pointwise
  refine Eq.trans ?_ (bd_at (m ((c : Thread nD τ).loc main_arg1)) y0 y1).symm
  have h0 := y0.isLt
  have h1 := y1.isLt
  refine ladder _ ?_ ?_ ?_ ?_
  all_goals
    intros
    after_results_simp
    pointwise
    refine ladder _ ?_ ?_ ?_ ?_
  all_goals
    intros
    after_results_simp
    pointwise
    first
    | exact (if_neg (by omega)).symm
    | refine Eq.trans ?_ (if_pos (by omega)).symm
      congr 2
      all_goals
        apply Fin.ext
        dsimp only
        first
        | omega
        | change 0 = _; omega
        | change 1 = _; omega

theorem blk0 (c : Dev nD) : iblk m c 0 t0_0 = X (m ((c : Thread nD τ).loc main_arg0)) := by
  show View.read (Elt Ideal) ((View.whole main_arg0).slice ((win0 0).rect t0_0)) (Cert.MixDFwdIdeal.Gen.V m c main_arg0) = _
  rw [V_main_arg0]
  blk_ext! [idx t0_0, col]
theorem blk1 (c : Dev nD) : iblk m c 1 t0_0 = bd (m ((c : Thread nD τ).loc main_arg1)) := by
  show View.read (Elt Ideal) ((View.whole main_v25).slice ((win0 1).rect t0_0)) (Cert.MixDFwdIdeal.Gen.V m c main_v25) = _
  rw [V_v25]
  generalize bd (m ((c : Thread nD τ).loc main_arg1)) = p
  blk_ext! [idx t0_0]
theorem blk2 (c : Dev nD) : iblk m c 2 t0_0 = G (m ((c : Thread nD τ).loc main_arg2)) := by
  show View.read (Elt Ideal) ((View.whole main_v26).slice ((win0 2).rect t0_0)) (Cert.MixDFwdIdeal.Gen.V m c main_v26) = _
  rw [V_v26]
  blk_ext! [idx t0_0]

theorem final3 (c : Dev nD) (j) : (dats m 0 c).arrAt 3 (cfgs 0).N j = Y (F := Ideal) (X (m ((c : Thread nD τ).loc main_arg0))) (bd (m ((c : Thread nD τ).loc main_arg1))) (G (m ((c : Thread nD τ).loc main_arg2))) j := by
  revert j
  refine fun j => congrFun ((dats m 0 c).arrAt_eq_of_after_last 3 t0_0 (by decide +kernel) _ fun j => ?_) j
  blk_simp
  rw [after_3]
  unfold out3
  rw [blk0, blk1, blk2]

end Cert.MixDFwdIdeal.Hand

end
-- ==== Proof.MixDFwdPair.lean ====
/- What the two programs of MixDFwd leave. -/
module

public import proofs.«01_k».proof.Defs
public import proofs.«01_k».proof.Proof.Gen.MixDFwd
public import proofs.«01_k».proof.Proof.MixDFwdV
public import proofs.«01_k».proof.Proof.Gen.MixDFwdRefIdeal.Run
public import proofs.«01_k».proof.Proof.Gen.MixDFwdRefIdeal.Read

@[expose] public section

noncomputable section

namespace Cert.MixDFwdPair

open Idealize.ShloMosaic Idealize.ShloMosaic.TcCoe Idealize.SL.Sem Cert.Reals

theorem defs_eq : (Cert.MixDFwd.defs (F := Bits)) = Cert.MixDFwdIdeal.defs := by sl_kernel_rfl
theorem main_eq : (Cert.MixDFwd.main (F := Bits)) = Cert.MixDFwdIdeal.main := by sl_kernel_rfl

theorem frame : @Cert.quiescent_MixDFwd Cert.MixDFwd.Gen.facts := fun m ρ _ => by
  have h := Cert.MixDFwdIdeal.Hand.frame_run (F := Bits) m ρ
  rw [← defs_eq, ← main_eq] at h
  exact h

theorem frame_ideal : @Cert.quiescent_MixDFwdIdeal Cert.MixDFwdIdeal.Gen.facts := fun m ρ _ => Cert.MixDFwdIdeal.Hand.frame_run m ρ

theorem frame_ref : @Cert.quiescent_MixDFwdRefIdeal Cert.MixDFwdRefIdeal.Gen.facts := fun m ρ _ =>
  (θ_run _ _ _).mono (fun r h => ⟨fun c => (h c).2, sem_eq_zero_of_no_sems rfl r.2⟩) (Cert.MixDFwdRefIdeal.Value.run m ρ)

/-- The side conditions of the precondition's operations. -/
theorem pre_facts : Cert.Pre_finite_t.Facts := ⟨by decide⟩

/-- What the precondition says: the rows' entries are real numbers. -/
theorem reals [Cert.Pre_finite_t.Facts] (m) (h : Cert.Pre_MixDFwdIdeal_finite_t m) (c : Dev Cert.MixDFwdIdeal.nD) :
    Finite (m ((c.tc : Thread Cert.MixDFwdIdeal.nD Cert.MixDFwdIdeal.τ).loc Cert.MixDFwdIdeal.main_arg0)) :=
  finite_of _ _ (h c)

/-- The pooled rows through the matrices and the scale. -/
theorem algebraic : @Cert.algebraic_MixDFwdIdeal_MixDFwdRefIdeal_pre_finite_t Cert.MixDFwdIdeal.Gen.facts Cert.MixDFwdRefIdeal.Gen.facts pre_facts := by
  pair_intro
  · run_from Cert.MixDFwdIdeal.Hand.run_main m g
  · have := pre_facts
    run_from Cert.MixDFwdRefIdeal.Value.run m' g'
    · have hz := reals m hpre c
      rw [Cert.MixDFwdRefIdeal.Read.val_main_v74_eq]
      obtain ⟨e0, e1, e2⟩ := hagree c
      rw [e0, e1, e2]
      funext j
      idx_vars j
      rw [Cert.MixDFwdIdeal.Hand.final3]
      exact Cert.MixDFwdIdeal.Hand.y_eq _ _ _ hz _ _

end Cert.MixDFwdPair

end
-- ==== Proof.MixCFwdRun.lean ====
/- The third mixer's forward call run once: what it leaves in its output. -/
module

public import proofs.«01_k».proof.Proof.Held
public import proofs.«01_k».proof.Proof.Gen.MixCFwdIdeal.Skeleton
public import proofs.«01_k».proof.Proof.Gen.MixCFwdIdeal.Launch
public import proofs.«01_k».proof.Proof.Gen.MixCFwdIdeal.Frame
public import proofs.«01_k».proof.Proof.Bands
public import Idealize.ShloMosaic.Lib.Claim
public import Idealize.ShloMosaic.Lib.Exec
public import Idealize.ShloMosaic.Lib.Tactic
public import Idealize.ShloMosaic.Lib.Pipeline.Kit
public import Idealize.ShloMosaic.Lib.Pointwise

@[expose] public section

noncomputable section

namespace Cert.MixCFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Held Cert.MixCFwdIdeal Cert.MixCFwdIdeal.Gen Cert.Rows

variable {F : FTy → Type} [FloatOps F]

local notation "𝕄" => MT nD τ sig Unit (Elt F) ℕ (UR sig nD τ) ℕ

theorem trips1 : k0_t1_loop.trips = 32 := by decide +kernel
theorem off1 : ∀ k : Fin k0_t1_loop.trips, k0_off1 k = ![128 * k.val, 0] := by decide +kernel
theorem off2 : ∀ k : Fin k0_t1_loop.trips, k0_off2 k = ![32 + 128 * k.val, 0] := by decide +kernel
theorem off3 : ∀ k : Fin k0_t1_loop.trips, k0_off3 k = ![128 * k.val, 0] := by decide +kernel

/-- The trip that number `n` names. -/
def at1 (n : ℕ) : Fin k0_t1_loop.trips := ⟨n % k0_t1_loop.trips, Nat.mod_lt _ (by rw [trips1]; decide)⟩

theorem at1_val (k : Fin k0_t1_loop.trips) : at1 k.val = k := Fin.ext (Nat.mod_eq_of_lt k.isLt)

/-- The band of 128 rows at trip `k`, where the scratch buffer keeps it, and the rows around it. -/
abbrev band (k : Fin k0_t1_loop.trips) : Rect S4096x256 := Rect.unit (k0_off1 k) S128x256.size (k0_off1_inb k)
abbrev lower (k : Fin k0_t1_loop.trips) : Rect S4128x256 := Rect.unit (k0_off2 k) S128x256.size (k0_off2_inb k)
abbrev wide (k : Fin k0_t1_loop.trips) : Rect S4128x256 := Rect.unit (k0_off3 k) S160x256.size (k0_off3_inb k)
abbrev row : Rect S1x256 := Rect.unit ![0, 0] S1x256.size inb_S1x256_S1x256_0_0
abbrev tapRow (j : Fin 31) : Rect S31x256 := Rect.unit ![j.val, 0] S1x256.size fun x => by
  match x with
  | ⟨0, _⟩ => exact j.isLt
  | ⟨1, _⟩ => exact Nat.le_refl _

/-- The convolution of a band but for its last two taps, of the rows around it; and a band of the result. -/
def most (n : Vec F S160x256 .f32) (w : Fin 31 → Vec F S1x256 .f32) : FVec F S128x256 .f32 :=
  k0_pay36 (k0_pay22 n) (k0_pay23 n) (k0_pay24 n) (k0_pay25 n) (k0_pay26 n) (k0_pay27 n) (k0_pay28 n) (k0_pay29 n) (k0_pay30 n) (k0_pay31 n)
    (k0_pay35 (k0_pay12 n 21#32) (k0_pay13 n) (k0_pay14 n) (k0_pay15 n) (k0_pay16 n) (k0_pay17 n) (k0_pay18 n) (k0_pay19 n) (k0_pay20 n) (k0_pay21 n) (k0_pay34 (k0_pay3 n) (k0_pay4 n) (k0_pay5 n) (k0_pay6 n) (k0_pay7 n) (k0_pay8 n) (k0_pay9 n) (k0_pay10 n) (k0_pay11 n) (w 0) (w 1) (w 2) (w 3) (w 4) (w 5) (w 6) (w 7) (w 8)) (w 9) (w 10) (w 11) (w 12) (w 13) (w 14) (w 15) (w 16) (w 17) (w 18)) (w 19) (w 20) (w 21) (w 22) (w 23) (w 24) (w 25) (w 26) (w 27) (w 28)
def tile (n : Vec F S160x256 .f32) (w : Fin 31 → Vec F S1x256 .f32) (g b : Vec F S1x256 .f32) : FVec F S128x256 .bf16 :=
  k0_pay37 (k0_pay32 n 1#32) (k0_pay33 n) (most n w) (w 29) (w 30) g b

section Words

variable (a gt : Vec F S4096x256 .f32) (w : Vec F S31x256 .f32) (g b : Vec F S1x256 .f32)

/-- The taps' weights, one by one. -/
def rowsOf (j : Fin 31) : Vec F S1x256 .f32 := View.ld w (tapRow j)

/-- The gated rows, band by band. -/
def Pb (k : ℕ) : Vec F S128x256 .f32 := k0_pay2 (View.ld a (band (at1 k))) (View.ld gt (band (at1 k)))

/-- The gated rows under zeros, as the scratch buffer ends. -/
def P : Vec F S4128x256 .f32 := under (p := 32) (k0_pay1 (F := F)) (Pb a gt)

def near (k : Fin k0_t1_loop.trips) : Vec F S160x256 .f32 := View.ld (Val := Elt F) (e' := .f32) (P a gt) (wide k)

/-- The result. -/
def Y : Vec F S4096x256 .bf16 := stack fun k => tile (near a gt (at1 k)) (rowsOf w) (View.ld g row) (View.ld b row)

end Words

variable (𝒱 : Variants) (c : Dev nD) (bd : Option 𝒱.V) (E : Set ℕ) (i : grid0.Coords)
  (arg1 : Memref sig .tc .vmem S4096x256 .f32) (harg1 : arg1.IsWhole)
  (arg2 : Memref sig .tc .vmem S4096x256 .f32) (harg2 : arg2.IsWhole)
  (arg3 : Memref sig .tc .vmem S31x256 .f32) (harg3 : arg3.IsWhole)
  (arg4 : Memref sig .tc .vmem S1x256 .f32) (harg4 : arg4.IsWhole)
  (arg5 : Memref sig .tc .vmem S1x256 .f32) (harg5 : arg5.IsWhole)
  (arg6 : Memref sig .tc .vmem S4096x256 .bf16) (harg6 : arg6.IsWhole)
  (arg7 : Memref sig .tc .vmem S4128x256 .f32) (harg7 : arg7.IsWhole)
  (a gt : Vec F S4096x256 .f32) (w : Vec F S31x256 .f32) (g b : Vec F S1x256 .f32)

/-- Before trip `k`. -/
def inv1 (k : ℕ) : sProp 𝕄 :=
  iprop((arg1.view.loc (c : Thread nD τ) ↦[arg1.view.set]{fullShare} harg1.unread a)
    ∗ (arg2.view.loc (c : Thread nD τ) ↦[arg2.view.set]{fullShare} harg2.unread gt)
    ∗ (arg3.view.loc (c : Thread nD τ) ↦[arg3.view.set]{fullShare} harg3.unread w)
    ∗ (arg4.view.loc (c : Thread nD τ) ↦[arg4.view.set]{fullShare} harg4.unread g)
    ∗ (arg5.view.loc (c : Thread nD τ) ↦[arg5.view.set]{fullShare} harg5.unread b)
    ∗ (∃ f, (arg6.view.loc (c : Thread nD τ) ↦[arg6.view.set]{fullShare} f) ∗ ⌜k = 0 ∨ On arg6.view f (Y a gt w g b) (· < 128 * k)⌝)
    ∗ (∃ f, (arg7.view.loc (c : Thread nD τ) ↦[arg7.view.set]{fullShare} f) ∗ ⌜On arg7.view f (P a gt) (· < 32 + 128 * k)⌝))

set_option warn.classDefReducibility false in
@[sl_loop] def loop1 : Idealize.ShloMosaic.LoopInv (M := 𝕄) Idealize.ShloMosaic.frame (wpE (defs₀ (F := F)) 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7) where
  inv k _ := inv1 (F := F) c arg1 harg1 arg2 harg2 arg3 harg3 arg4 harg4 arg5 harg5 arg6 arg7 a gt w g b k
  step k acc := by
    have hk : k.val < 32 := Nat.lt_of_lt_of_le k.isLt k0_t1_abs.2.1
    unfold inv1 k0_t1_body
    iintro ⟨H1, H2, H3, H4, H5, ⟨%f6, H6, %h6⟩, ⟨%f7, H7, %h7⟩⟩
    sl_exec
    sl_step
    have e1 := ld_unread (Val := Elt F) harg1 a
    have e2 := ld_unread (Val := Elt F) harg2 gt
    have e3 := ld_unread (Val := Elt F) harg3 w
    have e4 := ld_unread (Val := Elt F) harg4 g
    have e5 := ld_unread (Val := Elt F) harg5 b
    have hS : On arg7.view (arg7.view.writes (Elt F) f7 [⟨lower k, k0_pay2 (View.ld a (band k)) (View.ld gt (band k))⟩]) (P a gt) (· < 32 + 128 * (k.val + 1)) :=
      On.store (W := 128) (S := (· < 32 + 128 * k.val)) (h := h7) (off2 k) rfl rfl (fun u y h0 h1 => by
        refine Eq.trans ?_ (under_at (z := k0_pay1 (F := F)) (W := Pb a gt) k.val u y h0 h1)
        rw [Pb, at1_val]) (fun n hn => by omega)
    have hP : arg7.view.readAt (Elt F) (wide k).toLoadRect (arg7.view.writes (Elt F) f7 [⟨lower k, k0_pay2 (View.ld a (band k)) (View.ld gt (band k))⟩]) = near a gt k :=
      hS.load (W := 160) (off3 k) rfl (fun n _ hn => by show n < _; omega)
    iframe H1 H2 H3 H4 H5
    sl_unfold_words
    simp only [e1, e2, e3, e4, e5]
    isplitl [H6]
    · iexists _; isplitl [H6]; · iexact H6
      ipureintro
      show _ ∨ On arg6.view (arg6.view.writes (Elt F) f6 [⟨band k, tile (arg7.view.readAt (Elt F) (wide k).toLoadRect (arg7.view.writes (Elt F) f7 [⟨lower k, k0_pay2 (View.ld a (band k)) (View.ld gt (band k))⟩])) (rowsOf w) (View.ld g row) (View.ld b row)⟩]) (Y a gt w g b) (· < 128 * (k.val + 1))
      rw [hP]
      refine .inr (On.store (W := 128) (S := (· < 128 * k.val)) (h := On.start h6) (off1 k) rfl rfl (fun u y h0 h1 => ?_) (fun n hn => by omega))
      rw [Y, ← stack_at _ k.val u y h0 h1, at1_val]
    · iexists _; isplitl [H7]; · iexact H7
      ipureintro
      exact hS

/-- On whole buffers, the inputs' at their contents and the others at anything, the body ends with the inputs unchanged
    and the output at the words named. -/
theorem kernel (K : PUnit → sProp 𝕄) :
    iprop(held c arg1 a ∗ held c arg2 gt ∗ held c arg3 w ∗ held c arg4 g ∗ held c arg5 b ∗ (∃ d, held c arg6 d) ∗ (∃ d, held c arg7 d)
      ∗ (iprop(held c arg1 a ∗ held c arg2 gt ∗ held c arg3 w ∗ held c arg4 g ∗ held c arg5 b ∗ held c arg6 (Y a gt w g b) ∗ (∃ d, held c arg7 d)) -∗ K ⟨⟩))
    ⊢ wp frame (wpE (defs₀ (F := F)) Variants.none c none) E (cc0_mix_c_fwd i arg1 harg1 arg2 harg2 arg3 harg3 arg4 harg4 arg5 harg5 arg6 harg6 arg7 harg7) K := by
  simp only [cc0_mix_c_fwd_eq_skeleton]; unfold cc0_mix_c_fwd_skel
  unfold held owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  have z : On arg7.view (arg7.view.writes (Elt F) fs0 [⟨Rect.unit (s := S4128x256) ![0, 0] S32x256.size inb_S4128x256_S32x256_0_0, k0_pay1 (F := F)⟩]) (P a gt) (· < 32 + 128 * 0) :=
    On.store (W := 32) (S := fun _ => False) (h := On.none _ _ fun _ h => h) rfl rfl rfl (fun u y h0 h1 => under_pad (p := 32) (z := k0_pay1 (F := F)) (W := Pb a gt) u y h0 h1) (fun n hn => .inl (by omega))
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; exact (On.start (by assumption)).read_eq fun n hn => (by rw [trips1]; exact hn : n < 128 * k0_t1_loop.trips)
  · iexists _, _; isplitr; swap; · iexact HS0
    ipureintro; rfl

/-- The buffer that holds window `w`'s block at point `t`. -/
abbrev st (t : Fin cfg0.N) (w : Fin cfg0.W) := (cfg0.win w).stage (cfg0.slots t w)

variable (m : (ℓ : Loc nD τ sig) → Buf (Elt F) ℓ) (ρ : Dev nD → PrngReg)

abbrev sc0 : Memref sig .tc .vmem S4128x256 .f32 := Memref.whole cc0_scratch0

/-- The region's invariant with the scratch buffer owned at some contents. -/
theorem Phi_eq (c : Dev nD) :
    (Pipeline.ΦA spec0 c : sProp 𝕄) = iprop((∃ d, held c sc0 d) ∗ (∃ r, prngReg c r)) := by
  unfold Pipeline.ΦA; rw [scopedRest0_eq]; simp only [sc0, owns_whole]; try rfl

/-- What the output holds after the body. -/
def out5 (c : Dev nD) (t : Fin cfg0.N) : Vec F S4096x256 .bf16 := Y (iblk m c 0 t) (iblk m c 1 t) (iblk m c 2 t) (iblk m c 3 t) (iblk m c 4 t)

/-- What the region is entered and left with. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_5 (c : Dev nD) (t : Fin cfg0.N) : (dats m 0 c).after 5 t = out5 m c t := by dsimp only [dats]
/-- Before the body every input's buffer holds its block. -/
theorem before (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) :=
  ⟨before0_0_of m _ (A_eq m c 0) (fun _ => rfl) t, before0_1_of m _ (A_eq m c 1) (fun _ => rfl) t, before0_2_of m _ (A_eq m c 2) (fun _ => rfl) t, before0_3_of m _ (A_eq m c 3) (fun _ => rfl) t, before0_4_of m _ (A_eq m c 4) (fun _ => rfl) t⟩

/-- The body at any point. -/
theorem sound (c : Dev nD) (t : Fin cfg0.N) :
    iprop((dats m 0 c).Φ t.castSucc ∗ (dats m 0 c).owesAt () t.castSucc ∗ (∃ d, held c (st t 0) ((dats m 0 c).before 0 t d)) ∗ (∃ d, held c (st t 1) ((dats m 0 c).before 1 t d)) ∗ (∃ d, held c (st t 2) ((dats m 0 c).before 2 t d)) ∗ (∃ d, held c (st t 3) ((dats m 0 c).before 3 t d)) ∗ (∃ d, held c (st t 4) ((dats m 0 c).before 4 t d)) ∗ (∃ d, held c (st t 5) ((dats m 0 c).before 5 t d)))
    ⊢ wp frame (wpE (defs₀ (F := F)) Variants.none c none) Set.univ (bodyAt0 t)
      (fun _ => iprop((dats m 0 c).Φ t.succ ∗ (dats m 0 c).owesAt () t.succ ∗ held c (st t 0) (iblk m c 0 t) ∗ held c (st t 1) (iblk m c 1 t) ∗ held c (st t 2) (iblk m c 2 t) ∗ held c (st t 3) (iblk m c 3 t) ∗ held c (st t 4) (iblk m c 4 t) ∗ held c (st t 5) (out5 m c t))) := by
  simp only [before m c t]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, Phi_eq]
  iintro ⟨⟨HS0, Hg⟩, Ho, ⟨%d0, H0⟩, ⟨%d1, H1⟩, ⟨%d2, H2⟩, ⟨%d3, H3⟩, ⟨%d4, H4⟩, ⟨%d5, H5⟩⟩
  iapply (kernel c Set.univ (grid0.coords t) _ _ _ _ _ _ _ _ _ _ _ _ _ _ (iblk m c 0 t) (iblk m c 1 t) (iblk m c 2 t) (iblk m c 3 t) (iblk m c 4 t) _)
  iframe H0 H1 H2 H3 H4
  isplitl [H5]; · iexists _; iexact H5
  isplitl [HS0]; · iexact HS0
  iintro ⟨H0, H1, H2, H3, H4, H5, HS0⟩
  isplitl [HS0 Hg]
  · isplitl [HS0]; · iexact HS0
    iexact Hg
  iframe Ho H0 H1 H2 H3 H4 H5

theorem defs₀_row (t : Fin cfg0.N) : defs₀ (F := F) .tc cfg0.body (cfg0.bodyArgs t (cfg0.slots t)) = bodyAt0 t := by
  unfold defs₀; rw [Defs.onTc_tc]

/-- What the region asks of the body. -/
theorem obligation (c : Dev nD) : Pipeline.BodyObligation (dats (F := F) m 0 c) (defs₀ (F := F)) Variants.none () Set.univ := fun t => by
  rw [bigSep_W0, bigSep_W0, defs₀_row]
  exact triple_restated (sound m c t) rfl .rfl fun _ => .rfl

set_option backward.isDefEq.respectTransparency.types false in
/-- The whole run, every counter at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The whole run. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.MixCFwdIdeal.Hand

end
-- ==== Proof.MixCFwdV.lean ====
/- The values of the third mixer's forward call, entry by entry, of those its backward call takes. -/
module

public import proofs.«01_k».proof.Proof.Held
public import proofs.«01_k».proof.Proof.MixCFwdRun
public import proofs.«01_k».proof.Proof.MixCRefV
public import proofs.«01_k».proof.Proof.Gen.MixCFwdRefIdeal.Read

@[expose] public section

noncomputable section

namespace Cert.MixCFwdIdeal.Hand

open Idealize.ShloMosaic Idealize.ShloMosaic.TcCoe Idealize.SL.Sem
open Cert.Held Cert.MixCFwdIdeal Cert.MixCFwdIdeal.Gen Cert.Grid
open Cert.MixCRefIdeal.Read (A GT R)
open Cert.MixCIdeal.Hand (stack_ix aff sig' aff_ix sig_ix affAt aff_at rOf)

section Words

variable (n : Vec Ideal S160x256 .f32) (w : Fin 31 → Vec Ideal S1x256 .f32) (g b : Vec Ideal S1x256 .f32)

theorem most_eq : most n w = Cert.MixCIdeal.Hand.most n w := rfl

theorem pay_eq (u v q : FVec Ideal S128x256 .f32) (w0 w1 : Vec Ideal S1x256 .f32) : k0_pay37 u v q w0 w1 g b
    = truncf .bf16 (mulf (Cert.MixCIdeal.Gen.k0_pay50 u v q w0 w1 g b) (Cert.MixCIdeal.Gen.k0_pay51 u v q w0 w1 g b)) bitsLt_bf16_f32 := rfl

theorem tile_eq : tile n w g b = truncf .bf16 (mulf (aff n w g b) (sig' n w g b)) bitsLt_bf16_f32 := by
  unfold tile
  rw [pay_eq, most_eq]
  rfl

theorem tile_ix (r : Fin 128) (c : Fin 256) : tile n w g b (ix2 r c) = affAt n w g b r c * Ideal.logistic (affAt n w g b r c) := by
  rw [tile_eq, ← sig_ix, ← aff_ix]
  generalize aff n w g b = A
  generalize sig' n w g b = B
  pointwise

end Words

section

variable (a gt : Vec Ideal S4096x256 .f32) (w : Vec Ideal S31x256 .f32) (g b : Vec Ideal S1x256 .f32)

theorem P_eq : P a gt = Cert.MixCIdeal.Hand.P a gt := rfl

theorem near_eq (k : ℕ) : near a gt (at1 k) = Cert.MixCIdeal.Hand.near a gt (Cert.MixCIdeal.Hand.at1 k) := by
  unfold near Cert.MixCIdeal.Hand.near
  rw [P_eq]
  rfl

theorem rows_eq : rowsOf w = Cert.MixCIdeal.Hand.rowsOf w := rfl

theorem Y_ix (n : Fin 4096) (c : Fin 256) : Y a gt w g b (ix2 n c) = rOf a gt w g b n c * Ideal.logistic (rOf a gt w g b n c) := by
  unfold Y
  refine stack_ix _ (fun n c => rOf a gt w g b n c * Ideal.logistic (rOf a gt w g b n c)) (fun k hk r c => ?_) n c
  rw [tile_ix, near_eq, rows_eq]
  have h := aff_at a gt w g b hk r c
  exact congrArg₂ (· * ·) h (congrArg _ h)

end

section Reference

open Cert.MixCFwdRefIdeal.Read

variable (z : Vec Ideal S4096x2048 .f32) (w : Vec Ideal S31x256 .f32) (g b : Vec Ideal S256 .f32)

theorem up_eq : val_main_v10 (F := Ideal) z = Cert.MixCRefIdeal.Read.val_main_v13 (F := Ideal) z := rfl
theorem conv_fold : val_main_v228 (F := Ideal) z w = Cert.MixCRefIdeal.Taps.conv w (val_main_v10 (F := Ideal) z) 31 := rfl
theorem conv_eq : val_main_v228 (F := Ideal) z w = Cert.MixCRefIdeal.Read.val_main_v232 (F := Ideal) z w := by
  rw [conv_fold, up_eq, Cert.MixCRefIdeal.Read.conv_fold]

theorem hat_ix (n : Fin 4096) (c : Fin 256) : val_main_v246 (F := Ideal) z w (ix2 n c) = LayerNorm.hat (Cert.MixCIdeal.Hand.qOf (A z) (GT z) w n) c := by
  rw [Cert.MixCRefIdeal.Read.q_row, ← conv_eq]
  unfold val_main_v246 val_main_v245 val_main_v244 val_main_v243 val_main_v242 val_main_v241 val_main_v240 val_main_v239 val_main_v238 val_main_v237 val_main_v236 val_main_v235 val_main_v234 val_main_v233 val_main_v232 val_main_v231 val_main_v230 val_main_v229 val_main_cst_7 val_main_cst_6 val_main_cst_5 val_main_cst_4 val_main_cst_3
  generalize val_main_v228 (F := Ideal) z w = Q
  unfold LayerNorm.hat LayerNorm.rs LayerNorm.cen LayerNorm.mean
  pointwise

theorem r_ix (n : Fin 4096) (c : Fin 256) : val_main_v252 (F := Ideal) z w g b (ix2 n c) = rOf (A z) (GT z) w (R g) (R b) n c := by
  unfold rOf
  rw [← hat_ix]
  unfold val_main_v252 val_main_v251 val_main_v250 val_main_v249 val_main_v248 val_main_v247
  generalize val_main_v246 (F := Ideal) z w = X
  pointwise
  rfl

theorem y_eq (n : Fin 4096) (c : Fin 256) : val_main_v254 (F := Ideal) z w g b (ix2 n c) = Y (F := Ideal) (A z) (GT z) w (R g) (R b) (ix2 n c) := by
  rw [Y_ix, ← r_ix]
  unfold val_main_v254 val_main_v253 val_main_call0_v5 val_main_call0_v4 val_main_call0_cst_0 val_main_call0_v3 val_main_call0_v2 val_main_call0_cst val_main_call0_v1 val_main_call0_v0
  generalize val_main_v252 (F := Ideal) z w g b = X
  unfold Ideal.logistic
  pointwise

end Reference

variable (m : (ℓ : Loc nD τ sig) → Buf (Elt Ideal) ℓ)

theorem idx : ∀ t : Fin cfg0.N, win0_0.index t = ![0, 5] ∧ win0_1.index t = ![0, 6] ∧ win0_2.index t = ![0, 0] ∧ win0_3.index t = ![0, 0]
    ∧ win0_4.index t = ![0, 0] ∧ win0_5.index t = ![0, 0] :=
  (by decide +kernel : ∀ t : Fin grid0.N, _)

/-- The scale and the shift as the host lays them out. -/
theorem V_v0 (c : Dev nD) : Cert.MixCFwdIdeal.Gen.V m c main_v0 = R (inp m c main_arg2) := by
  show StableHlo.after hostOps0 _ (Proc.devRef .tc main_v0) = _
  after_results
  funext y; idx_vars y
  pointwise
  rfl
theorem V_v1 (c : Dev nD) : Cert.MixCFwdIdeal.Gen.V m c main_v1 = R (inp m c main_arg3) := by
  show StableHlo.after hostOps0 _ (Proc.devRef .tc main_v1) = _
  after_results
  funext y; idx_vars y
  pointwise
  rfl

theorem blk0 (c : Dev nD) : iblk m c 0 t0_0 = A (inp m c main_arg0) := by
  show View.read (Elt Ideal) ((View.whole main_arg0).slice ((win0 0).rect t0_0)) (Cert.MixCFwdIdeal.Gen.V m c main_arg0) = _
  rw [V_main_arg0]
  blk_ext! [idx t0_0, col]
theorem blk1 (c : Dev nD) : iblk m c 1 t0_0 = GT (inp m c main_arg0) := by
  show View.read (Elt Ideal) ((View.whole main_arg0).slice ((win0 1).rect t0_0)) (Cert.MixCFwdIdeal.Gen.V m c main_arg0) = _
  rw [V_main_arg0]
  blk_ext! [idx t0_0, col]
theorem blk2 (c : Dev nD) : iblk m c 2 t0_0 = inp m c main_arg1 := by
  show View.read (Elt Ideal) ((View.whole main_arg1).slice ((win0 2).rect t0_0)) (Cert.MixCFwdIdeal.Gen.V m c main_arg1) = _
  rw [V_main_arg1]
  blk_ext! [idx t0_0, col]
theorem blk3 (c : Dev nD) : iblk m c 3 t0_0 = R (inp m c main_arg2) := by
  show View.read (Elt Ideal) ((View.whole main_v0).slice ((win0 3).rect t0_0)) (Cert.MixCFwdIdeal.Gen.V m c main_v0) = _
  rw [V_v0]
  blk_ext! [idx t0_0, col]
theorem blk4 (c : Dev nD) : iblk m c 4 t0_0 = R (inp m c main_arg3) := by
  show View.read (Elt Ideal) ((View.whole main_v1).slice ((win0 4).rect t0_0)) (Cert.MixCFwdIdeal.Gen.V m c main_v1) = _
  rw [V_v1]
  blk_ext! [idx t0_0, col]

theorem final5 (c : Dev nD) (j) : (dats m 0 c).arrAt 5 (cfgs 0).N j = Y (F := Ideal) (A (inp m c main_arg0)) (GT (inp m c main_arg0)) (inp m c main_arg1) (R (inp m c main_arg2)) (R (inp m c main_arg3)) j := by
  revert j
  refine fun j => congrFun ((dats m 0 c).arrAt_eq_of_after_last 5 t0_0 (by decide +kernel) _ fun j => ?_) j
  blk_simp
  rw [after_5]
  unfold out5
  rw [blk0, blk1, blk2, blk3, blk4]

end Cert.MixCFwdIdeal.Hand

end
-- ==== Proof.MixCFwdPair.lean ====
/- What the two programs of MixCFwd leave. -/
module

public import proofs.«01_k».proof.Defs
public import proofs.«01_k».proof.Proof.Gen.MixCFwd
public import proofs.«01_k».proof.Proof.MixCFwdV
public import proofs.«01_k».proof.Proof.Gen.MixCFwdRefIdeal.Run
public import proofs.«01_k».proof.Proof.Gen.MixCFwdRefIdeal.Read

@[expose] public section

noncomputable section

namespace Cert.MixCFwdPair

open Idealize.ShloMosaic Idealize.ShloMosaic.TcCoe Idealize.SL.Sem

theorem defs_eq : (Cert.MixCFwd.defs (F := Bits)) = Cert.MixCFwdIdeal.defs := by sl_kernel_rfl
theorem main_eq : (Cert.MixCFwd.main (F := Bits)) = Cert.MixCFwdIdeal.main := by sl_kernel_rfl

theorem frame : @Cert.quiescent_MixCFwd Cert.MixCFwd.Gen.facts := fun m ρ _ => by
  have h := Cert.MixCFwdIdeal.Hand.frame_run (F := Bits) m ρ
  rw [← defs_eq, ← main_eq] at h
  exact h

theorem frame_ideal : @Cert.quiescent_MixCFwdIdeal Cert.MixCFwdIdeal.Gen.facts := fun m ρ _ => Cert.MixCFwdIdeal.Hand.frame_run m ρ

theorem frame_ref : @Cert.quiescent_MixCFwdRefIdeal Cert.MixCFwdRefIdeal.Gen.facts := fun m ρ _ =>
  (θ_run _ _ _).mono (fun r h => ⟨fun c => (h c).2, sem_eq_zero_of_no_sems rfl r.2⟩) (Cert.MixCFwdRefIdeal.Value.run m ρ)

/-- The gated convolution, normed and through its activation. -/
theorem algebraic : @Cert.algebraic_MixCFwdIdeal_MixCFwdRefIdeal Cert.MixCFwdIdeal.Gen.facts Cert.MixCFwdRefIdeal.Gen.facts := by
  pair_intro
  · run_from Cert.MixCFwdIdeal.Hand.run_main m g
  · run_from Cert.MixCFwdRefIdeal.Value.run m' g'
    · rw [Cert.MixCFwdRefIdeal.Read.val_main_v254_eq]
      have e0 : StableHlo.launchContents m' c (Proc.devRef .tc Cert.MixCFwdRefIdeal.main_arg0) = _ := (hagree c).1
      have e1 : StableHlo.launchContents m' c (Proc.devRef .tc Cert.MixCFwdRefIdeal.main_arg1) = _ := (hagree c).2.1
      have e2 : StableHlo.launchContents m' c (Proc.devRef .tc Cert.MixCFwdRefIdeal.main_arg2) = _ := (hagree c).2.2.1
      have e3 : StableHlo.launchContents m' c (Proc.devRef .tc Cert.MixCFwdRefIdeal.main_arg3) = _ := (hagree c).2.2.2
      rw [e0, e1, e2, e3]
      funext j
      idx_vars j
      rw [Cert.MixCFwdIdeal.Hand.final5]
      exact Cert.MixCFwdIdeal.Hand.y_eq _ _ _ _ _ _

end Cert.MixCFwdPair

end
-- ==== Proof.MatResV.lean ====
/- A residual and a product with a weight. -/
module

public import proofs.«01_k».proof.Proof.Gen.MatResIdeal.Value
public import proofs.«01_k».proof.Proof.Gen.MatResRefIdeal.Read
public import Idealize.ShloMosaic.Lib.Pointwise
public import Idealize.ShloMosaic.Lib.Pipeline.ReadBack
public import Idealize.ShloMosaic.Lib.Pipeline.ValueKit

@[expose] public section

noncomputable section

namespace Cert.MatResIdeal.Hand

open Idealize.ShloMosaic Idealize.ShloMosaic.TcCoe Idealize.SL.Sem
open Cert.MatResIdeal Cert.MatResIdeal.Gen

/-- A row of `A` against a column of `W`, on top of `X`. -/
def res {N : ℕ} (X A : (⟨2, ![N, 1024]⟩ : Shape).Idx → EReal) (W : S1024x1024.Idx → EReal) (n : Fin N) (c : Fin 1024) : EReal :=
  X (ix2 n c) + ∑ k : Fin 1024, A (ix2 n k) * W (ix2 k c)

theorem tile (X : Vec Ideal S512x1024 .f32) (A : Vec Ideal S512x1024 .bf16) (W : Vec Ideal S1024x1024 .bf16) (n : Fin 512) (c : Fin 1024) :
    k0_pay1 (F := Ideal) X A W (ix2 n c) = res X A W n c := by
  unfold res
  pointwise [k0_pay1]

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem lt8 (t : Fin cfg0.N) : t.val < 8 := lt_of_lt_of_eq t.isLt N_0

theorem band (c : Dev nD) (t : Fin cfg0.N) (n : Fin 512) (k : Fin 1024) :
    out0_3 (iblk m c 0 t) (iblk m c 1 t) (iblk m c 2 t) (ix2 n k)
      = res (m ((c : Thread nD τ).loc main_arg0)) (m ((c : Thread nD τ).loc main_arg1)) (m ((c : Thread nD τ).loc main_arg2)) ⟨t.val * 512 + n.val, by have := lt8 t; omega⟩ k := by
  have e0 (k : Fin 1024) : iblk m c 0 t (ix2 n k) = m ((c : Thread nD τ).loc main_arg0) (ix2 ⟨t.val * 512 + n.val, by have := lt8 t; omega⟩ k) := by
    blk_ext! [iblk, V, idx t]
  have e1 (k : Fin 1024) : iblk m c 1 t (ix2 n k) = m ((c : Thread nD τ).loc main_arg1) (ix2 ⟨t.val * 512 + n.val, by have := lt8 t; omega⟩ k) := by
    blk_ext! [iblk, V, idx t]
  have e2 : iblk m c 2 t = m ((c : Thread nD τ).loc main_arg2) := by
    blk_ext! [iblk, V, idx t]
  rw [e2]
  unfold out0_3
  frame_out
  refine (tile _ _ _ n k).trans ?_
  unfold res
  simp only [e0, e1]

theorem final3 (c : Dev nD) : (dats m 0 c).arrAt 3 (cfgs 0).N
    = fun i : S4096x1024.Idx => res (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  idx_vars y
  refine (band m c t y0 y1).trans ?_
  generalize hF : (fun i : S4096x1024.Idx => res (m ((c : Thread nD τ).loc main_arg0)) (m ((c : Thread nD τ).loc main_arg1)) (m ((c : Thread nD τ).loc main_arg2)) (i 0) (i 1)) = G
  refine (congrFun hF (ix2 _ _)).trans (Eq.trans ?_ (congrFun hF _).symm)
  clear hF
  blk_ext! [idx t]

theorem res_eq (X : FVec Ideal S4096x1024 .f32) (A : FVec Ideal S4096x1024 .bf16) (W : FVec Ideal S1024x1024 .bf16) (n : Fin 4096) (c : Fin 1024) :
    Cert.MatResRefIdeal.Read.val_main_v3 (F := Ideal) X A W (ix2 n c) = res X A W n c := by
  unfold res
  rw [← Cert.MatResRefIdeal.Read.val_main_v3_eq]
  pointwise

end Cert.MatResIdeal.Hand

end
-- ==== Proof.MatResPair.lean ====
/- What the two programs of MatRes leave. -/
module

public import proofs.«01_k».proof.Defs
public import proofs.«01_k».proof.Proof.Gen.MatRes.Frame
public import proofs.«01_k».proof.Proof.Gen.MatResIdeal.Frame
public import proofs.«01_k».proof.Proof.Gen.MatResIdeal.Value
public import proofs.«01_k».proof.Proof.Gen.MatResRefIdeal.Run
public import proofs.«01_k».proof.Proof.MatResV

@[expose] public section

noncomputable section

namespace Cert.MatResPair

open Idealize.ShloMosaic Idealize.ShloMosaic.TcCoe Idealize.SL.Sem

theorem frame : @Cert.quiescent_MatRes Cert.MatRes.Gen.facts := fun m ρ _ => Cert.MatRes.Gen.frame m ρ

theorem frame_ideal : @Cert.quiescent_MatResIdeal Cert.MatResIdeal.Gen.facts := fun m ρ _ => Cert.MatResIdeal.Gen.frame m ρ

theorem frame_ref : @Cert.quiescent_MatResRefIdeal Cert.MatResRefIdeal.Gen.facts := fun m ρ _ =>
  (θ_run _ _ _).mono (fun r h => ⟨fun c => (h c).2, sem_eq_zero_of_no_sems rfl r.2⟩) (Cert.MatResRefIdeal.Value.run m ρ)

theorem algebraic : @Cert.algebraic_MatResIdeal_MatResRefIdeal Cert.MatResIdeal.Gen.facts Cert.MatResRefIdeal.Gen.facts := by
  pair_intro
  · run_from Cert.MatResIdeal.Gen.run_main m g
  · run_from Cert.MatResRefIdeal.Value.run m' g'
    refine (Cert.MatResRefIdeal.Read.val_main_v3_eq _ _ _).trans ?_
    funext j
    idx_vars j
    rw [Cert.MatResIdeal.Hand.final3]
    exact Cert.MatResIdeal.Hand.res_eq _ _ _ j0 j1

end Cert.MatResPair

end
-- ==== Proof.MatNtV.lean ====
/- A product with a weight turned over. -/
module

public import proofs.«01_k».proof.Proof.Gen.MatNtIdeal.Value
public import proofs.«01_k».proof.Proof.Gen.MatNtRefIdeal.Read
public import Idealize.ShloMosaic.Lib.Pointwise
public import Idealize.ShloMosaic.Lib.Pipeline.ReadBack
public import Idealize.ShloMosaic.Lib.Pipeline.ValueKit

@[expose] public section

noncomputable section

namespace Cert.MatNtIdeal.Hand

open Idealize.ShloMosaic Idealize.ShloMosaic.TcCoe Idealize.SL.Sem
open Cert.MatNtIdeal Cert.MatNtIdeal.Gen

/-- A row of `A` against a row of `W`. -/
def res {N : ℕ} (A : (⟨2, ![N, 1024]⟩ : Shape).Idx → EReal) (W : S1024x1024.Idx → EReal) (n : Fin N) (c : Fin 1024) : EReal :=
  ∑ k : Fin 1024, A (ix2 n k) * W (ix2 c k)

theorem tile (A : Vec Ideal S512x1024 .f32) (W : Vec Ideal S1024x1024 .bf16) (n : Fin 512) (c : Fin 1024) :
    k0_pay1 (F := Ideal) A W (ix2 n c) = res A W n c := by
  unfold res
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem lt8 (t : Fin cfg0.N) : t.val < 8 := lt_of_lt_of_eq t.isLt N_0

theorem band (c : Dev nD) (t : Fin cfg0.N) (n : Fin 512) (k : Fin 1024) :
    out0_2 (iblk m c 0 t) (iblk m c 1 t) (ix2 n k)
      = res (m ((c : Thread nD τ).loc main_arg0)) (m ((c : Thread nD τ).loc main_arg1)) ⟨t.val * 512 + n.val, by have := lt8 t; omega⟩ k := by
  have e0 (k : Fin 1024) : iblk m c 0 t (ix2 n k) = m ((c : Thread nD τ).loc main_arg0) (ix2 ⟨t.val * 512 + n.val, by have := lt8 t; omega⟩ k) := by
    blk_ext! [iblk, V, idx t]
  have e1 : iblk m c 1 t = m ((c : Thread nD τ).loc main_arg1) := by
    blk_ext! [iblk, V, idx t]
  rw [e1]
  unfold out0_2
  frame_out
  refine (tile _ _ n k).trans ?_
  unfold res
  simp only [e0]

theorem final2 (c : Dev nD) : (dats m 0 c).arrAt 2 (cfgs 0).N
    = fun i : S4096x1024.Idx => res (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  idx_vars y
  refine (band m c t y0 y1).trans ?_
  generalize hF : (fun i : S4096x1024.Idx => res (m ((c : Thread nD τ).loc main_arg0)) (m ((c : Thread nD τ).loc main_arg1)) (i 0) (i 1)) = G
  refine (congrFun hF (ix2 _ _)).trans (Eq.trans ?_ (congrFun hF _).symm)
  clear hF
  blk_ext! [idx t]

theorem res_eq (A : FVec Ideal S4096x1024 .f32) (W : FVec Ideal S1024x1024 .bf16) (n : Fin 4096) (c : Fin 1024) :
    Cert.MatNtRefIdeal.Read.val_main_v3 (F := Ideal) A W (ix2 n c) = res A W n c := by
  unfold res
  rw [← Cert.MatNtRefIdeal.Read.val_main_v3_eq]
  pointwise

end Cert.MatNtIdeal.Hand

end
-- ==== Proof.MatNtPair.lean ====
/- What the two programs of MatNt leave. -/
module

public import proofs.«01_k».proof.Defs
public import proofs.«01_k».proof.Proof.Gen.MatNt.Frame
public import proofs.«01_k».proof.Proof.Gen.MatNtIdeal.Frame
public import proofs.«01_k».proof.Proof.Gen.MatNtIdeal.Value
public import proofs.«01_k».proof.Proof.Gen.MatNtRefIdeal.Run
public import proofs.«01_k».proof.Proof.MatNtV

@[expose] public section

noncomputable section

namespace Cert.MatNtPair

open Idealize.ShloMosaic Idealize.ShloMosaic.TcCoe Idealize.SL.Sem

theorem frame : @Cert.quiescent_MatNt Cert.MatNt.Gen.facts := fun m ρ _ => Cert.MatNt.Gen.frame m ρ

theorem frame_ideal : @Cert.quiescent_MatNtIdeal Cert.MatNtIdeal.Gen.facts := fun m ρ _ => Cert.MatNtIdeal.Gen.frame m ρ

theorem frame_ref : @Cert.quiescent_MatNtRefIdeal Cert.MatNtRefIdeal.Gen.facts := fun m ρ _ =>
  (θ_run _ _ _).mono (fun r h => ⟨fun c => (h c).2, sem_eq_zero_of_no_sems rfl r.2⟩) (Cert.MatNtRefIdeal.Value.run m ρ)

theorem algebraic : @Cert.algebraic_MatNtIdeal_MatNtRefIdeal Cert.MatNtIdeal.Gen.facts Cert.MatNtRefIdeal.Gen.facts := by
  pair_intro
  · run_from Cert.MatNtIdeal.Gen.run_main m g
  · run_from Cert.MatNtRefIdeal.Value.run m' g'
    funext j
    idx_vars j
    rw [Cert.MatNtIdeal.Hand.final2]
    exact Cert.MatNtIdeal.Hand.res_eq _ _ j0 j1

end Cert.MatNtPair

end
-- ==== Proof.MatTnV.lean ====
/- A product of a turned matrix with two others side by side. -/
module

public import proofs.«01_k».proof.Proof.Gen.MatTnIdeal.Value
public import proofs.«01_k».proof.Proof.Gen.MatTnRefIdeal.Read
public import Idealize.ShloMosaic.Lib.Pointwise
public import Idealize.ShloMosaic.Lib.Pipeline.ReadBack
public import Idealize.ShloMosaic.Lib.Pipeline.ValueKit

@[expose] public section

noncomputable section

namespace Cert.MatTnIdeal.Hand

open Idealize.ShloMosaic Idealize.ShloMosaic.TcCoe Idealize.SL.Sem
open Cert.MatTnIdeal Cert.MatTnIdeal.Gen

/-- A column of `A` against a column of `B`. -/
def gram {N : ℕ} (A : (⟨2, ![N, 1024]⟩ : Shape).Idx → EReal) (B : (⟨2, ![N, 2816]⟩ : Shape).Idx → EReal) (i : Fin 1024) (j : Fin 2816) : EReal :=
  ∑ r : Fin N, A (ix2 r i) * B (ix2 r j)

/-- The columns of `B`, then those of `C`. -/
def res (A : S4096x1024.Idx → EReal) (B C : S4096x2816.Idx → EReal) (i : Fin 1024) (j : Fin 5632) : EReal :=
  if h : j.val < 2816 then gram A B i ⟨j.val, h⟩ else gram A C i ⟨j.val - 2816, by omega⟩

theorem tile2 (A : Vec Ideal S512x1024 .bf16) (O : Vec Ideal S1024x2816 .f32) (B : Vec Ideal S512x2816 .bf16) (i : Fin 1024) (j : Fin 2816) :
    k0_pay2 (F := Ideal) A O B (ix2 i j) = O (ix2 i j) + gram A B i j := by
  unfold gram
  pointwise [k0_pay2]

theorem tile3 (A : Vec Ideal S512x1024 .bf16) (O : Vec Ideal S1024x2816 .f32) (B : Vec Ideal S512x2816 .bf16) (i : Fin 1024) (j : Fin 2816) :
    k0_pay3 (F := Ideal) A O B (ix2 i j) = O (ix2 i j) + gram A B i j := tile2 A O B i j

theorem zero (i : Fin 1024) (j : Fin 2816) : k0_pay1 (F := Ideal) (ix2 i j) = 0 := by
  pointwise [k0_pay1]

variable (m : (ℓ : Loc nD τ sig) → Buf (Elt Ideal) ℓ)

theorem idx : ∀ t : Fin cfg0.N, win0_0.index t = ![t.val % 8, 0] ∧ (t.val < 8 → win0_1.index t = ![t.val % 8, 0]) ∧ (¬t.val < 8 → win0_2.index t = ![t.val % 8, 0]) ∧ win0_3.index t = ![0, t.val / 8] :=
  (by decide +kernel : ∀ t : Fin grid0.N, _)

theorem lt16 (t : Fin cfg0.N) : t.val < 16 := lt_of_lt_of_eq t.isLt N_0

theorem blkA (c : Dev nD) (t : Fin cfg0.N) (r : Fin 512) (i : Fin 1024) :
    iblk m c 0 t (ix2 r i) = m ((c : Thread nD τ).loc main_arg0) (ix2 ⟨t.val % 8 * 512 + r.val, by omega⟩ i) := by
  blk_ext! [iblk, V, idx t]
theorem blkB (c : Dev nD) (t : Fin cfg0.N) (h : t.val < 8) (r : Fin 512) (j : Fin 2816) :
    iblk m c 1 t (ix2 r j) = m ((c : Thread nD τ).loc main_arg1) (ix2 ⟨t.val % 8 * 512 + r.val, by omega⟩ j) := by
  blk_ext! [iblk, V, (idx t).2.1 h]
theorem blkC (c : Dev nD) (t : Fin cfg0.N) (h : ¬t.val < 8) (r : Fin 512) (j : Fin 2816) :
    iblk m c 2 t (ix2 r j) = m ((c : Thread nD τ).loc main_arg2) (ix2 ⟨t.val % 8 * 512 + r.val, by omega⟩ j) := by
  blk_ext! [iblk, V, (idx t).2.2.1 h]

/-- What one point adds. -/
def term (c : Dev nD) (t : Fin cfg0.N) (y : S1024x2816.Idx) : EReal :=
  if t.val < 8 then gram (iblk m c 0 t) (iblk m c 1 t) (y 0) (y 1) else gram (iblk m c 0 t) (iblk m c 2 t) (y 0) (y 1)

theorem step0 (c : Dev nD) (t : Fin cfg0.N) (h0 : t.val % 8 = 0) (i : Fin 1024) (j : Fin 2816) :
    outsAt0 m c t.val t.isLt (ix2 i j) = 0 + term m c t (ix2 i j) := by
  unfold term
  by_cases h : t.val < 8
  · rw [outsAt0_A m c t h0 h (by omega), if_pos h]; frame_out
    exact (tile2 _ _ _ i j).trans (by rw [zero]; rfl)
  · rw [outsAt0_C m c t h0 h (by omega), if_neg h]; frame_out
    exact (tile3 _ _ _ i j).trans (by rw [zero]; rfl)

theorem step1 (c : Dev nD) (t : Fin cfg0.N) (h0 : ¬t.val % 8 = 0) (i : Fin 1024) (j : Fin 2816) :
    outsAt0 m c t.val t.isLt (ix2 i j) = outsAt0 m c (t.val - 1) (by omega) (ix2 i j) + term m c t (ix2 i j) := by
  unfold term
  by_cases h : t.val < 8
  · rw [outsAt0_B m c t h0 h (by omega), if_pos h]; frame_out
    exact tile2 _ _ _ i j
  · rw [outsAt0_D m c t h0 h (by omega), if_neg h]; frame_out
    exact tile3 _ _ _ i j

theorem band (c : Dev nD) (t : Fin cfg0.N) (hr : t.val % 8 = 7) (i : Fin 1024) (j : Fin 2816) :
    outsAt0 m c t.val t.isLt (ix2 i j)
      = res (m ((c : Thread nD τ).loc main_arg0)) (m ((c : Thread nD τ).loc main_arg1)) (m ((c : Thread nD τ).loc main_arg2)) i ⟨t.val / 8 * 2816 + j.val, by have := lt16 t; omega⟩ := by
  have ht := lt16 t
  rw [Pipeline.eq_sum_fin_of_reset_step_apply_of_flush (fun n h => outsAt0 m c n h) 8 (fun _ => 0) (term m c)
    (fun t h y => by idx_vars y; exact step0 m c t h _ _)
    (fun t h y => by idx_vars y; exact step1 m c t h _ _) t hr (ix2 i j), zero_add]
  unfold res term
  by_cases h : t.val < 8
  · rw [dif_pos (show t.val / 8 * 2816 + j.val < 2816 by omega)]
    have e (s : Fin 8) : 8 * (t.val / 8) + s.val < 8 := by omega
    simp only [e, if_true]
    unfold gram
    refine Fin.sum_mul_add_congr fun s r hl => ?_
    refine (congrArg₂ (fun a b : EReal => a * b) (blkA m c _ r i) (blkB m c _ (e s) r j)).trans ?_
    have e1 : (8 * (t.val / 8) + s.val) % 8 = s.val := by omega
    have e2 : t.val / 8 * 2816 + j.val = j.val := by omega
    simp only [e1, e2]
  · rw [dif_neg (show ¬t.val / 8 * 2816 + j.val < 2816 by omega)]
    have e (s : Fin 8) : ¬8 * (t.val / 8) + s.val < 8 := by omega
    simp only [e, if_false]
    unfold gram
    refine Fin.sum_mul_add_congr fun s r hl => ?_
    refine (congrArg₂ (fun a b : EReal => a * b) (blkA m c _ r i) (blkC m c _ (e s) r j)).trans ?_
    have e1 : (8 * (t.val / 8) + s.val) % 8 = s.val := by omega
    have e2 : t.val / 8 * 2816 + j.val - 2816 = j.val := by omega
    simp only [e1, e2]

theorem final3 (c : Dev nD) : (dats m 0 c).arrAt 3 (cfgs 0).N
    = fun i : S1024x5632.Idx => res (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  idx_vars y
  refine (band m c t ((flush0_3 t).mp hf) y0 y1).trans ?_
  generalize hF : (fun i : S1024x5632.Idx => res (m ((c : Thread nD τ).loc main_arg0)) (m ((c : Thread nD τ).loc main_arg1)) (m ((c : Thread nD τ).loc main_arg2)) (i 0) (i 1)) = G
  refine (congrFun hF (ix2 _ _)).trans (Eq.trans ?_ (congrFun hF _).symm)
  clear hF
  blk_ext! [idx t]

theorem res_eq (A : FVec Ideal S4096x1024 .bf16) (B C : FVec Ideal S4096x2816 .bf16) (i : Fin 1024) (j : Fin 5632) :
    Cert.MatTnRefIdeal.Read.val_main_v6 (F := Ideal) A B C (ix2 i j) = res A B C i j := by
  unfold res gram
  rw [← Cert.MatTnRefIdeal.Read.val_main_v6_eq]
  split <;> rename_i h <;> pointwise <;> simp only [h, dif_pos, dif_neg, not_false_eq_true, mul_comm]

end Cert.MatTnIdeal.Hand

end
-- ==== Proof.MatTnPair.lean ====
/- What the two programs of MatTn leave. -/
module

public import proofs.«01_k».proof.Defs
public import proofs.«01_k».proof.Proof.Gen.MatTn.Frame
public import proofs.«01_k».proof.Proof.Gen.MatTnIdeal.Frame
public import proofs.«01_k».proof.Proof.Gen.MatTnIdeal.Value
public import proofs.«01_k».proof.Proof.Gen.MatTnRefIdeal.Run
public import proofs.«01_k».proof.Proof.MatTnV

@[expose] public section

noncomputable section

namespace Cert.MatTnPair

open Idealize.ShloMosaic Idealize.ShloMosaic.TcCoe Idealize.SL.Sem

theorem frame : @Cert.quiescent_MatTn Cert.MatTn.Gen.facts := fun m ρ _ => Cert.MatTn.Gen.frame m ρ

theorem frame_ideal : @Cert.quiescent_MatTnIdeal Cert.MatTnIdeal.Gen.facts := fun m ρ _ => Cert.MatTnIdeal.Gen.frame m ρ

theorem frame_ref : @Cert.quiescent_MatTnRefIdeal Cert.MatTnRefIdeal.Gen.facts := fun m ρ _ =>
  (θ_run _ _ _).mono (fun r h => ⟨fun c => (h c).2, sem_eq_zero_of_no_sems rfl r.2⟩) (Cert.MatTnRefIdeal.Value.run m ρ)

theorem algebraic : @Cert.algebraic_MatTnIdeal_MatTnRefIdeal Cert.MatTnIdeal.Gen.facts Cert.MatTnRefIdeal.Gen.facts := by
  pair_intro
  · run_from Cert.MatTnIdeal.Gen.run_main m g
  · run_from Cert.MatTnRefIdeal.Value.run m' g'
    rw [(hagree c).2.1, (hagree c).2.2]
    refine (Cert.MatTnRefIdeal.Read.val_main_v6_eq _ _ _).trans ?_
    funext j
    idx_vars j
    rw [Cert.MatTnIdeal.Hand.final3]
    exact Cert.MatTnIdeal.Hand.res_eq _ _ _ j0 j1

end Cert.MatTnPair

end
-- ==== Proof.AdamWV.lean ====
/- The AdamW step of the two layers of a weight, at each element. -/
module

public import proofs.«01_k».proof.Proof.Gen.AdamWIdeal.Value
public import proofs.«01_k».proof.Proof.Gen.AdamWRefIdeal.Read
public import proofs.«01_k».proof.Proof.Held
public import Idealize.ShloMosaic.Lib.Pointwise
public import Idealize.ShloMosaic.Lib.Pipeline.ReadBack
public import Idealize.ShloMosaic.Lib.Pipeline.ValueKit

@[expose] public section

noncomputable section

namespace Cert.AdamWIdeal.Hand

open Idealize.ShloMosaic Idealize.ShloMosaic.TcCoe Idealize.SL.Sem
open Cert.AdamWIdeal Cert.AdamWIdeal.Gen Cert.Held

/-- The first moment after the step. -/
def nm (g x : EReal) : EReal := Ideal.ofBits .f32 0x3F666666#32 * x + Ideal.ofBits .f32 0x3DCCCCCD#32 * g
/-- The second moment after the step. -/
def nv (g x : EReal) : EReal := Ideal.ofBits .f32 0x3F7FBE77#32 * x + Ideal.ofBits .f32 0x3A83126F#32 * (g * g)

theorem tm (G : Vec Ideal S128x1408 .f32) (M : Vec Ideal S1x128x1408 .f32) (i : Fin 128) (j : Fin 1408) :
    k0_pay3 (F := Ideal) G M (ix2 i j) = nm (G (ix2 i j)) (M (ix3 0 i j)) := by
  unfold nm
  pointwise [k0_pay3]
theorem tv (G : Vec Ideal S128x1408 .f32) (M : Vec Ideal S1x128x1408 .f32) (i : Fin 128) (j : Fin 1408) :
    k0_pay4 (F := Ideal) G M (ix2 i j) = nv (G (ix2 i j)) (M (ix3 0 i j)) := by
  unfold nv
  pointwise [k0_pay4]
/-- The reciprocals of the two bias corrections. -/
abbrev c1 : ℝ := 8388608 / 5463681
abbrev c2 : ℝ := 268435456 / 2672307

/-- The update. -/
def upd (w g x y : EReal) : EReal :=
  Ideal.ofBits .f32 0xBA83126F#32 * (Ideal.div (nm g x * (c1 : EReal)) (Ideal.sqrt (nv g y * (c2 : EReal)) + Ideal.ofBits .f32 0x322BCC77#32) + Ideal.ofBits .f32 0x3C23D70A#32 * w)

theorem td (G : Vec Ideal S128x1408 .f32) (M W X : Vec Ideal S1x128x1408 .f32) (i : Fin 128) (j : Fin 1408) :
    k0_pay1 (F := Ideal) (k0_pay8 G M X) W (ix3 0 i j) = upd (W (ix3 0 i j)) (G (ix2 i j)) (M (ix3 0 i j)) (X (ix3 0 i j)) := by
  have h1 : Named.named (F := Ideal) κ "c1" (φ := .f32) 0x3FC48605#32 = (c1 : EReal) := IdealRules.named_const.ideal_named_scalar _ _ _ _ rfl
  have h2 : Named.named (F := Ideal) κ "c2" (φ := .f32) 0x42C8E6D3#32 = (c2 : EReal) := IdealRules.named_const.ideal_named_scalar _ _ _ _ rfl
  unfold upd
  rw [← h1, ← h2]
  pointwise [k0_pay1, k0_pay8, tm, tv]

theorem ug (G : Vec Ideal S128x1408 .f32) (i : Fin 128) (j : Fin 1408) : k0_pay5 (F := Ideal) G (ix3 0 i j) = G (ix2 i j) := by
  pointwise [k0_pay5]
theorem um (G : Vec Ideal S128x1408 .f32) (M : Vec Ideal S1x128x1408 .f32) (i : Fin 128) (j : Fin 1408) :
    k0_pay6 (F := Ideal) G M (ix3 0 i j) = nm (G (ix2 i j)) (M (ix3 0 i j)) := by
  pointwise [k0_pay6, tm]
theorem uv (G : Vec Ideal S128x1408 .f32) (M : Vec Ideal S1x128x1408 .f32) (i : Fin 128) (j : Fin 1408) :
    k0_pay7 (F := Ideal) G M (ix3 0 i j) = nv (G (ix2 i j)) (M (ix3 0 i j)) := by
  pointwise [k0_pay7, tv]

variable (m : (ℓ : Loc nD τ sig) → Buf (Elt Ideal) ℓ)

theorem idx : ∀ t : Fin cfg0.N, win0_0.index t = ![t.val / 8, t.val % 8, 0] ∧ (t.val < 8 → win0_1.index t = ![t.val % 8, 0]) ∧ (¬t.val < 8 → win0_2.index t = ![t.val % 8, 0])
    ∧ win0_3.index t = ![t.val / 8, t.val % 8, 0] ∧ win0_4.index t = ![t.val / 8, t.val % 8, 0] ∧ win0_5.index t = ![t.val / 8, t.val % 8, 0] ∧ win0_6.index t = ![t.val / 8, t.val % 8, 0]
    ∧ win0_7.index t = ![t.val / 8, t.val % 8, 0] ∧ win0_8.index t = ![t.val / 8, t.val % 8, 0] :=
  (by decide +kernel : ∀ t : Fin grid0.N, _)

theorem lt16 (t : Fin cfg0.N) : t.val < 16 := lt_of_lt_of_eq t.isLt N_0

/-- The layer and the row of the weight a point's row is. -/
def lay (t : Fin cfg0.N) : Fin 2 := ⟨t.val / 8, by have := lt16 t; omega⟩
def row (t : Fin cfg0.N) (i : Fin 128) : Fin 1024 := ⟨t.val % 8 * 128 + i.val, by omega⟩

/-- The two layers' gradients, one behind the other. -/
def grad (A B : S1024x1408.Idx → EReal) (l : Fin 2) (i : Fin 1024) (j : Fin 1408) : EReal := if l.val < 1 then A (ix2 i j) else B (ix2 i j)

theorem blkW (c : Dev nD) (t : Fin cfg0.N) (i : Fin 128) (j : Fin 1408) : iblk m c 0 t (ix3 0 i j) = inp m c main_arg0 (ix3 (lay t) (row t i) j) := by
  unfold lay row; blk_ext! [iblk, V, idx t]
theorem blkM (c : Dev nD) (t : Fin cfg0.N) (i : Fin 128) (j : Fin 1408) : iblk m c 3 t (ix3 0 i j) = inp m c main_arg3 (ix3 (lay t) (row t i) j) := by
  unfold lay row; blk_ext! [iblk, V, idx t]
theorem blkX (c : Dev nD) (t : Fin cfg0.N) (i : Fin 128) (j : Fin 1408) : iblk m c 4 t (ix3 0 i j) = inp m c main_arg4 (ix3 (lay t) (row t i) j) := by
  unfold lay row; blk_ext! [iblk, V, idx t]
theorem blkA (c : Dev nD) (t : Fin cfg0.N) (h : t.val < 8) (i : Fin 128) (j : Fin 1408) :
    iblk m c 1 t (ix2 i j) = grad (inp m c main_arg1) (inp m c main_arg2) (lay t) (row t i) j := by
  unfold grad; rw [if_pos (show (lay t).val < 1 from (by unfold lay; dsimp only; omega))]
  unfold row; blk_ext! [iblk, V, (idx t).2.1 h]
theorem blkB (c : Dev nD) (t : Fin cfg0.N) (h : ¬t.val < 8) (i : Fin 128) (j : Fin 1408) :
    iblk m c 2 t (ix2 i j) = grad (inp m c main_arg1) (inp m c main_arg2) (lay t) (row t i) j := by
  unfold grad; rw [if_neg (show ¬(lay t).val < 1 from (by unfold lay; dsimp only; omega))]
  unfold row; blk_ext! [iblk, V, (idx t).2.2.1 h]

/-- The four results at an element, of the weight, the gradient there and the moments. -/
def out5 (A B : S1024x1408.Idx → EReal) (k : S2x1024x1408.Idx) : EReal := grad A B (k 0) (k 1) (k 2)
def out6 (W : S2x1024x1408.Idx → EReal) (A B : S1024x1408.Idx → EReal) (M X : S2x1024x1408.Idx → EReal) (k : S2x1024x1408.Idx) : EReal := upd (W k) (out5 A B k) (M k) (X k)
def out7 (A B : S1024x1408.Idx → EReal) (M : S2x1024x1408.Idx → EReal) (k : S2x1024x1408.Idx) : EReal := nm (out5 A B k) (M k)
def out8 (A B : S1024x1408.Idx → EReal) (X : S2x1024x1408.Idx → EReal) (k : S2x1024x1408.Idx) : EReal := nv (out5 A B k) (X k)

theorem band (c : Dev nD) (t : Fin cfg0.N) (i : Fin 128) (j : Fin 1408) :
    (outsAt0 m c t.val t.isLt).1 (ix3 0 i j) = out5 (inp m c main_arg1) (inp m c main_arg2) (ix3 (lay t) (row t i) j)
    ∧ (outsAt0 m c t.val t.isLt).2.1 (ix3 0 i j) = out6 (inp m c main_arg0) (inp m c main_arg1) (inp m c main_arg2) (inp m c main_arg3) (inp m c main_arg4) (ix3 (lay t) (row t i) j)
    ∧ (outsAt0 m c t.val t.isLt).2.2.1 (ix3 0 i j) = out7 (inp m c main_arg1) (inp m c main_arg2) (inp m c main_arg3) (ix3 (lay t) (row t i) j)
    ∧ (outsAt0 m c t.val t.isLt).2.2.2 (ix3 0 i j) = out8 (inp m c main_arg1) (inp m c main_arg2) (inp m c main_arg4) (ix3 (lay t) (row t i) j) := by
  have ht := lt16 t
  unfold out8 out7 out6 out5
  by_cases h : t.val < 8
  · rw [outsAt0_A m c t h (by omega), ← blkW, ← blkM, ← blkX]
    refine ⟨?_, ?_, ?_, ?_⟩ <;> frame_out
    · exact (ug _ i j).trans (blkA m c t h i j)
    · exact (td _ _ _ _ i j).trans (by rw [blkA m c t h]; rfl)
    · exact (um _ _ i j).trans (by rw [blkA m c t h]; rfl)
    · exact (uv _ _ i j).trans (by rw [blkA m c t h]; rfl)
  · rw [outsAt0_B m c t h (by omega), ← blkW, ← blkM, ← blkX]
    refine ⟨?_, ?_, ?_, ?_⟩ <;> frame_out
    · exact (ug _ i j).trans (blkB m c t h i j)
    · exact (td _ _ _ _ i j).trans (by rw [blkB m c t h]; rfl)
    · exact (um _ _ i j).trans (by rw [blkB m c t h]; rfl)
    · exact (uv _ _ i j).trans (by rw [blkB m c t h]; rfl)

theorem final5 (c : Dev nD) : (dats m 0 c).arrAt 5 (cfgs 0).N = out5 (inp m c main_arg1) (inp m c main_arg2) := by
  refine (dats m 0 c).arrAt_eq_of_covers 5 _ (by decide +kernel) fun t hf y => ?_
  blk_simp
  rw [after0_5]
  idx_vars y
  obtain rfl : y0 = 0 := by omega
  refine (band m c t y1 y2).1.trans ?_
  generalize out5 (inp m c main_arg1) (inp m c main_arg2) = G
  unfold lay row
  blk_ext! [idx t]

theorem final6 (c : Dev nD) : (dats m 0 c).arrAt 6 (cfgs 0).N = out6 (inp m c main_arg0) (inp m c main_arg1) (inp m c main_arg2) (inp m c main_arg3) (inp m c main_arg4) := by
  refine (dats m 0 c).arrAt_eq_of_covers 6 _ (by decide +kernel) fun t hf y => ?_
  blk_simp
  rw [after0_6]
  idx_vars y
  obtain rfl : y0 = 0 := by omega
  refine (band m c t y1 y2).2.1.trans ?_
  generalize out6 (inp m c main_arg0) (inp m c main_arg1) (inp m c main_arg2) (inp m c main_arg3) (inp m c main_arg4) = G
  unfold lay row
  blk_ext! [idx t]

theorem final7 (c : Dev nD) : (dats m 0 c).arrAt 7 (cfgs 0).N = out7 (inp m c main_arg1) (inp m c main_arg2) (inp m c main_arg3) := by
  refine (dats m 0 c).arrAt_eq_of_covers 7 _ (by decide +kernel) fun t hf y => ?_
  blk_simp
  rw [after0_7]
  idx_vars y
  obtain rfl : y0 = 0 := by omega
  refine (band m c t y1 y2).2.2.1.trans ?_
  generalize out7 (inp m c main_arg1) (inp m c main_arg2) (inp m c main_arg3) = G
  unfold lay row
  blk_ext! [idx t]

theorem final8 (c : Dev nD) : (dats m 0 c).arrAt 8 (cfgs 0).N = out8 (inp m c main_arg1) (inp m c main_arg2) (inp m c main_arg4) := by
  refine (dats m 0 c).arrAt_eq_of_covers 8 _ (by decide +kernel) fun t hf y => ?_
  blk_simp
  rw [after0_8]
  idx_vars y
  obtain rfl : y0 = 0 := by omega
  refine (band m c t y1 y2).2.2.2.trans ?_
  generalize out8 (inp m c main_arg1) (inp m c main_arg2) (inp m c main_arg4) = G
  unfold lay row
  blk_ext! [idx t]

theorem r2 (A B : FVec Ideal S1024x1408 .f32) : Cert.AdamWRefIdeal.Read.val_main_v2 (F := Ideal) A B = out5 A B := by
  funext k
  idx_vars k
  unfold out5 grad
  rw [← Cert.AdamWRefIdeal.Read.val_main_v2_eq]
  exact Eq.trans (b := if h : k0.val < 1 then A (ix2 k1 k2) else B (ix2 k1 k2)) (by pointwise) dite_eq_ite

theorem r7 (A B : FVec Ideal S1024x1408 .f32) (M : FVec Ideal S2x1024x1408 .f32) : Cert.AdamWRefIdeal.Read.val_main_v7 (F := Ideal) A B M = out7 A B M := by
  funext k
  unfold out7 nm
  rw [← r2]
  rfl

theorem r13 (A B : FVec Ideal S1024x1408 .f32) (X : FVec Ideal S2x1024x1408 .f32) : Cert.AdamWRefIdeal.Read.val_main_v13 (F := Ideal) A B X = out8 A B X := by
  funext k
  unfold out8 nv
  rw [← r2]
  rfl

theorem d1 (x : EReal) : Ideal.div x (Ideal.ofBits .f32 0x3F26BD02#32) = x * (c1 : EReal) := by
  have h : Ideal.ofBits .f32 0x3F26BD02#32 = ((5463681 / 8388608 : ℝ) : EReal) := by
    simp [Ideal.ofBits, Ideal.ieee, -EReal.coe_mul]; norm_num
  rw [h, Ideal.div_coe (by norm_num)]
  norm_num [c1, c2]
theorem d2 (x : EReal) : Ideal.div x (Ideal.ofBits .f32 0x3C231ACC#32) = x * (c2 : EReal) := by
  have h : Ideal.ofBits .f32 0x3C231ACC#32 = ((2672307 / 268435456 : ℝ) : EReal) := by
    simp [Ideal.ofBits, Ideal.ieee, -EReal.coe_mul]; norm_num
  rw [h, Ideal.div_coe (by norm_num)]
  norm_num [c1, c2]

theorem r26 (W M X : FVec Ideal S2x1024x1408 .f32) (A B : FVec Ideal S1024x1408 .f32) : Cert.AdamWRefIdeal.Read.val_main_v26 (F := Ideal) W A B M X = out6 W A B M X := by
  funext k
  have e7 := congrFun (r7 A B M) k
  have e13 := congrFun (r13 A B X) k
  unfold out7 at e7
  unfold out8 at e13
  unfold out6 upd
  rw [← d1, ← d2, ← e7, ← e13]
  rfl

end Cert.AdamWIdeal.Hand

end
-- ==== Proof.AdamWPair.lean ====
/- What the two programs of AdamW leave. -/
module

public import proofs.«01_k».proof.Defs
public import proofs.«01_k».proof.Proof.Gen.AdamW.Frame
public import proofs.«01_k».proof.Proof.Gen.AdamWIdeal.Frame
public import proofs.«01_k».proof.Proof.Gen.AdamWIdeal.Value
public import proofs.«01_k».proof.Proof.Gen.AdamWRefIdeal.Run
public import proofs.«01_k».proof.Proof.AdamWV

@[expose] public section

noncomputable section

namespace Cert.AdamWPair

open Idealize.ShloMosaic Idealize.ShloMosaic.TcCoe Idealize.SL.Sem

theorem frame : @Cert.quiescent_AdamW Cert.AdamW.Gen.facts := fun m ρ _ => Cert.AdamW.Gen.frame m ρ

theorem frame_ideal : @Cert.quiescent_AdamWIdeal Cert.AdamWIdeal.Gen.facts := fun m ρ _ => Cert.AdamWIdeal.Gen.frame m ρ

theorem frame_ref : @Cert.quiescent_AdamWRefIdeal Cert.AdamWRefIdeal.Gen.facts := fun m ρ _ =>
  (θ_run _ _ _).mono (fun r h => ⟨fun c => (h c).2.2.2.2, sem_eq_zero_of_no_sems rfl r.2⟩) (Cert.AdamWRefIdeal.Value.run m ρ)

theorem preserves : @Cert.preserves_AdamW_AdamWIdeal :=
  ⟨IdealRules.named_const.statement Cert.AdamWIdeal.κ "c1" .f32 0x3FC48605#32 ((8388608 / 5463681 : ℝ) : EReal) rfl,
    IdealRules.named_const.statement Cert.AdamWIdeal.κ "c2" .f32 0x42C8E6D3#32 ((268435456 / 2672307 : ℝ) : EReal) rfl⟩

theorem algebraic : @Cert.algebraic_AdamWIdeal_AdamWRefIdeal Cert.AdamWIdeal.Gen.facts Cert.AdamWRefIdeal.Gen.facts := by
  pair_intro
  · run_from Cert.AdamWIdeal.Gen.run_main m g
  · run_from Cert.AdamWRefIdeal.Value.run m' g'
    all_goals rw [(hagree c).2.1, (hagree c).2.2.1]
    · exact (Cert.AdamWRefIdeal.Read.val_main_v2_eq _ _).trans ((Cert.AdamWIdeal.Hand.r2 _ _).trans (Cert.AdamWIdeal.Hand.final5 m c).symm)
    · exact (Cert.AdamWRefIdeal.Read.val_main_v26_eq _ _ _ _ _).trans ((Cert.AdamWIdeal.Hand.r26 _ _ _ _ _).trans (Cert.AdamWIdeal.Hand.final6 m c).symm)
    · exact (Cert.AdamWRefIdeal.Read.val_main_v7_eq _ _ _).trans ((Cert.AdamWIdeal.Hand.r7 _ _ _).trans (Cert.AdamWIdeal.Hand.final7 m c).symm)
    · exact (Cert.AdamWRefIdeal.Read.val_main_v13_eq _ _ _).trans ((Cert.AdamWIdeal.Hand.r13 _ _ _).trans (Cert.AdamWIdeal.Hand.final8 m c).symm)

end Cert.AdamWPair

end
-- ==== Proof.lean ====
module

public import proofs.«01_k».proof.Defs
public import proofs.«01_k».proof.Proof.MixAPair
public import proofs.«01_k».proof.Proof.MixBPair
public import proofs.«01_k».proof.Proof.MixCPair
public import proofs.«01_k».proof.Proof.MixDPair
public import proofs.«01_k».proof.Proof.AttnPair
public import proofs.«01_k».proof.Proof.FfnDzPair
public import proofs.«01_k».proof.Proof.LossHeadPair
public import proofs.«01_k».proof.Proof.FfnDhPair
public import proofs.«01_k».proof.Proof.MixDhPair
public import proofs.«01_k».proof.Proof.NormMemPair
public import proofs.«01_k».proof.Proof.AttnFwdPair
public import proofs.«01_k».proof.Proof.NormMmPair
public import proofs.«01_k».proof.Proof.MixBFwdPair
public import proofs.«01_k».proof.Proof.FfnFwdPair
public import proofs.«01_k».proof.Proof.MixAFwdPair
public import proofs.«01_k».proof.Proof.MixDFwdPair
public import proofs.«01_k».proof.Proof.MixCFwdPair
public import proofs.«01_k».proof.Proof.MatResPair
public import proofs.«01_k».proof.Proof.MatNtPair
public import proofs.«01_k».proof.Proof.MatTnPair
public import proofs.«01_k».proof.Proof.AdamWPair

@[expose] public section

noncomputable section

namespace Cert.Proof

theorem claim : Cert.Claim := ⟨Cert.MixA.Gen.facts,
  Cert.MixAIdeal.Gen.facts,
  Cert.MixARefIdeal.Gen.facts,
  Cert.MixB.Gen.facts,
  Cert.MixBIdeal.Gen.facts,
  Cert.MixBRefIdeal.Gen.facts,
  Cert.MixC.Gen.facts,
  Cert.MixCIdeal.Gen.facts,
  Cert.MixCRefIdeal.Gen.facts,
  Cert.MixD.Gen.facts,
  Cert.MixDIdeal.Gen.facts,
  Cert.MixDRefIdeal.Gen.facts,
  Cert.Attn.Gen.facts,
  Cert.AttnIdeal.Gen.facts,
  Cert.AttnRefIdeal.Gen.facts,
  Cert.FfnDz.Gen.facts,
  Cert.FfnDzIdeal.Gen.facts,
  Cert.FfnDzRefIdeal.Gen.facts,
  Cert.LossHead.Gen.facts,
  Cert.LossHeadIdeal.Gen.facts,
  Cert.LossHeadRefIdeal.Gen.facts,
  Cert.FfnDh.Gen.facts,
  Cert.FfnDhIdeal.Gen.facts,
  Cert.FfnDhRefIdeal.Gen.facts,
  Cert.MixDh.Gen.facts,
  Cert.MixDhIdeal.Gen.facts,
  Cert.MixDhRefIdeal.Gen.facts,
  Cert.NormMem.Gen.facts,
  Cert.NormMemIdeal.Gen.facts,
  Cert.NormMemRefIdeal.Gen.facts,
  Cert.AttnFwd.Gen.facts,
  Cert.AttnFwdIdeal.Gen.facts,
  Cert.AttnFwdRefIdeal.Gen.facts,
  Cert.NormMm.Gen.facts,
  Cert.NormMmIdeal.Gen.facts,
  Cert.NormMmRefIdeal.Gen.facts,
  Cert.MixBFwd.Gen.facts,
  Cert.MixBFwdIdeal.Gen.facts,
  Cert.MixBFwdRefIdeal.Gen.facts,
  Cert.FfnFwd.Gen.facts,
  Cert.FfnFwdIdeal.Gen.facts,
  Cert.FfnFwdRefIdeal.Gen.facts,
  Cert.MixAFwd.Gen.facts,
  Cert.MixAFwdIdeal.Gen.facts,
  Cert.MixAFwdRefIdeal.Gen.facts,
  Cert.MixDFwd.Gen.facts,
  Cert.MixDFwdIdeal.Gen.facts,
  Cert.MixDFwdRefIdeal.Gen.facts,
  Cert.MixCFwd.Gen.facts,
  Cert.MixCFwdIdeal.Gen.facts,
  Cert.MixCFwdRefIdeal.Gen.facts,
  Cert.MatRes.Gen.facts,
  Cert.MatResIdeal.Gen.facts,
  Cert.MatResRefIdeal.Gen.facts,
  Cert.MatNt.Gen.facts,
  Cert.MatNtIdeal.Gen.facts,
  Cert.MatNtRefIdeal.Gen.facts,
  Cert.MatTn.Gen.facts,
  Cert.MatTnIdeal.Gen.facts,
  Cert.MatTnRefIdeal.Gen.facts,
  Cert.AdamW.Gen.facts,
  Cert.AdamWIdeal.Gen.facts,
  Cert.AdamWRefIdeal.Gen.facts,
  Cert.MixBPair.pre_facts,
  Cert.MixCPair.pre_facts,
  Cert.MixDPair.pre_facts,
  Cert.AttnPair.pre_facts,
  Cert.FfnDzPair.pre_facts,
  Cert.MixDFwdPair.pre_facts,
  Cert.MixAPair.frame,
  Cert.MixAPair.frame_ideal,
  Cert.MixAPair.frame_ref,
  Cert.MixBPair.frame,
  Cert.MixBPair.frame_ideal,
  (fun m g _ => Cert.MixBPair.frame_ideal m g True.intro),
  Cert.MixBPair.frame_ref,
  (fun m g _ => Cert.MixBPair.frame_ref m g True.intro),
  Cert.MixCPair.frame,
  Cert.MixCPair.frame_ideal,
  (fun m g _ => Cert.MixCPair.frame_ideal m g True.intro),
  Cert.MixCPair.frame_ref,
  (fun m g _ => Cert.MixCPair.frame_ref m g True.intro),
  Cert.MixDPair.frame,
  Cert.MixDPair.frame_ideal,
  (fun m g _ => Cert.MixDPair.frame_ideal m g True.intro),
  Cert.MixDPair.frame_ref,
  (fun m g _ => Cert.MixDPair.frame_ref m g True.intro),
  Cert.AttnPair.frame,
  Cert.AttnPair.frame_ideal,
  (fun m g _ => Cert.AttnPair.frame_ideal m g True.intro),
  Cert.AttnPair.frame_ref,
  (fun m g _ => Cert.AttnPair.frame_ref m g True.intro),
  Cert.FfnDzPair.frame,
  Cert.FfnDzPair.frame_ideal,
  (fun m g _ => Cert.FfnDzPair.frame_ideal m g True.intro),
  Cert.FfnDzPair.frame_ref,
  (fun m g _ => Cert.FfnDzPair.frame_ref m g True.intro),
  Cert.LossHeadPair.frame,
  Cert.LossHeadPair.frame_ideal,
  Cert.LossHeadPair.frame_ref,
  Cert.FfnDhPair.frame,
  Cert.FfnDhPair.frame_ideal,
  Cert.FfnDhPair.frame_ref,
  Cert.MixDhPair.frame,
  Cert.MixDhPair.frame_ideal,
  Cert.MixDhPair.frame_ref,
  Cert.NormMemPair.frame,
  Cert.NormMemPair.frame_ideal,
  Cert.NormMemPair.frame_ref,
  Cert.AttnFwdPair.frame,
  Cert.AttnFwdPair.frame_ideal,
  Cert.AttnFwdPair.frame_ref,
  Cert.NormMmPair.frame,
  Cert.NormMmPair.frame_ideal,
  Cert.NormMmPair.frame_ref,
  Cert.MixBFwdPair.frame,
  Cert.MixBFwdPair.frame_ideal,
  Cert.MixBFwdPair.frame_ref,
  Cert.FfnFwdPair.frame,
  Cert.FfnFwdPair.frame_ideal,
  Cert.FfnFwdPair.frame_ref,
  Cert.MixAFwdPair.frame,
  Cert.MixAFwdPair.frame_ideal,
  Cert.MixAFwdPair.frame_ref,
  Cert.MixDFwdPair.frame,
  Cert.MixDFwdPair.frame_ideal,
  (fun m g _ => Cert.MixDFwdPair.frame_ideal m g True.intro),
  Cert.MixDFwdPair.frame_ref,
  (fun m g _ => Cert.MixDFwdPair.frame_ref m g True.intro),
  Cert.MixCFwdPair.frame,
  Cert.MixCFwdPair.frame_ideal,
  Cert.MixCFwdPair.frame_ref,
  Cert.MatResPair.frame,
  Cert.MatResPair.frame_ideal,
  Cert.MatResPair.frame_ref,
  Cert.MatNtPair.frame,
  Cert.MatNtPair.frame_ideal,
  Cert.MatNtPair.frame_ref,
  Cert.MatTnPair.frame,
  Cert.MatTnPair.frame_ideal,
  Cert.MatTnPair.frame_ref,
  Cert.AdamWPair.frame,
  Cert.AdamWPair.frame_ideal,
  Cert.AdamWPair.frame_ref,
  trivial, Cert.MixAPair.algebraic,
  trivial, Cert.MixBPair.algebraic,
  trivial, Cert.MixCPair.algebraic,
  trivial, Cert.MixDPair.algebraic,
  trivial, Cert.AttnPair.algebraic,
  trivial, Cert.FfnDzPair.algebraic,
  trivial, Cert.LossHeadPair.algebraic,
  trivial, Cert.FfnDhPair.algebraic,
  trivial, Cert.MixDhPair.algebraic,
  trivial, Cert.NormMemPair.algebraic,
  trivial, Cert.AttnFwdPair.algebraic,
  trivial, Cert.NormMmPair.algebraic,
  trivial, Cert.MixBFwdPair.algebraic,
  trivial, Cert.FfnFwdPair.algebraic,
  trivial, Cert.MixAFwdPair.algebraic,
  trivial, Cert.MixDFwdPair.algebraic,
  trivial, Cert.MixCFwdPair.algebraic,
  trivial, Cert.MatResPair.algebraic,
  trivial, Cert.MatNtPair.algebraic,
  trivial, Cert.MatTnPair.algebraic, Cert.AdamWPair.preserves, Cert.AdamWPair.algebraic⟩

end Cert.Proof

end
